-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v187_0)) (v1 : (c : Dev Cert.KernelIdeal.nD) → Buf (Elt Ideal) ((c.tc : Thread Cert.KernelIdeal.nD Cert.KernelIdeal.τ).loc Cert.KernelIdeal.main_v187_1)) (v2 : (c : Dev Cert.KernelIdeal.nD) → Buf (Elt Ideal) ((c.tc : Thread Cert.KernelIdeal.nD Cert.KernelIdeal.τ).loc Cert.KernelIdeal.main_v187_2)) (v3 : (c : Dev Cert.KernelIdeal.nD) → Buf (Elt Ideal) ((c.tc : Thread Cert.KernelIdeal.nD Cert.KernelIdeal.τ).loc Cert.KernelIdeal.main_v187_3)) (v4 : (c : Dev Cert.KernelIdeal.nD) → Buf (Elt Ideal) ((c.tc : Thread Cert.KernelIdeal.nD Cert.KernelIdeal.τ).loc Cert.KernelIdeal.main_v187_4)) (v5 : (c : Dev Cert.KernelIdeal.nD) → Buf (Elt Ideal) ((c.tc : Thread Cert.KernelIdeal.nD Cert.KernelIdeal.τ).loc Cert.KernelIdeal.main_v187_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187_0) = v0 c
          ∧ r.2.mem ((c.tc : Thread Cert.KernelIdeal.nD Cert.KernelIdeal.τ).loc Cert.KernelIdeal.main_v187_1) = v1 c
          ∧ r.2.mem ((c.tc : Thread Cert.KernelIdeal.nD Cert.KernelIdeal.τ).loc Cert.KernelIdeal.main_v187_2) = v2 c
          ∧ r.2.mem ((c.tc : Thread Cert.KernelIdeal.nD Cert.KernelIdeal.τ).loc Cert.KernelIdeal.main_v187_3) = v3 c
          ∧ r.2.mem ((c.tc : Thread Cert.KernelIdeal.nD Cert.KernelIdeal.τ).loc Cert.KernelIdeal.main_v187_4) = v4 c
          ∧ r.2.mem ((c.tc : Thread Cert.KernelIdeal.nD Cert.KernelIdeal.τ).loc Cert.KernelIdeal.main_v187_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_v256) = v1 c
          ∧ r.2.mem ((c.tc : Thread Cert.ReferenceIdeal.nD Cert.ReferenceIdeal.τ).loc Cert.ReferenceIdeal.main_v258) = v2 c
          ∧ r.2.mem ((c.tc : Thread Cert.ReferenceIdeal.nD Cert.ReferenceIdeal.τ).loc Cert.ReferenceIdeal.main_v224) = v3 c
          ∧ r.2.mem ((c.tc : Thread Cert.ReferenceIdeal.nD Cert.ReferenceIdeal.τ).loc Cert.ReferenceIdeal.main_v221) = v4 c
          ∧ r.2.mem ((c.tc : Thread Cert.ReferenceIdeal.nD Cert.ReferenceIdeal.τ).loc Cert.ReferenceIdeal.main_v252) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v12) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_v11) = v1 c
          ∧ r.2.mem ((c.tc : Thread Cert.Reference13Ideal.nD Cert.Reference13Ideal.τ).loc Cert.Reference13Ideal.main_v14) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v2)) (v1 : (c : Dev Cert.Kernel20Ideal.nD) → Buf (Elt Ideal) ((c.tc : Thread Cert.Kernel20Ideal.nD Cert.Kernel20Ideal.τ).loc Cert.Kernel20Ideal.main_v3)) (v2 : (c : Dev Cert.Kernel20Ideal.nD) → Buf (Elt Ideal) ((c.tc : Thread Cert.Kernel20Ideal.nD Cert.Kernel20Ideal.τ).loc Cert.Kernel20Ideal.main_v4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_v3) = v1 c
          ∧ r.2.mem ((c.tc : Thread Cert.Kernel20Ideal.nD Cert.Kernel20Ideal.τ).loc Cert.Kernel20Ideal.main_v4) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v11) = v0 c
          ∧ r.2.mem ((c.tc : Thread Cert.Reference20Ideal.nD Cert.Reference20Ideal.τ).loc Cert.Reference20Ideal.main_v13) = v1 c
          ∧ r.2.mem ((c.tc : Thread Cert.Reference20Ideal.nD Cert.Reference20Ideal.τ).loc Cert.Reference20Ideal.main_v17) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v5_0)) (v1 : (c : Dev Cert.Kernel21Ideal.nD) → Buf (Elt Ideal) ((c.tc : Thread Cert.Kernel21Ideal.nD Cert.Kernel21Ideal.τ).loc Cert.Kernel21Ideal.main_v5_1)) (v2 : (c : Dev Cert.Kernel21Ideal.nD) → Buf (Elt Ideal) ((c.tc : Thread Cert.Kernel21Ideal.nD Cert.Kernel21Ideal.τ).loc Cert.Kernel21Ideal.main_v5_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5_0) = v0 c
          ∧ r.2.mem ((c.tc : Thread Cert.Kernel21Ideal.nD Cert.Kernel21Ideal.τ).loc Cert.Kernel21Ideal.main_v5_1) = v1 c
          ∧ r.2.mem ((c.tc : Thread Cert.Kernel21Ideal.nD Cert.Kernel21Ideal.τ).loc Cert.Kernel21Ideal.main_v5_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v17) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v33) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v2_0)) (v1 : (c : Dev Cert.Kernel22Ideal.nD) → Buf (Elt Ideal) ((c.tc : Thread Cert.Kernel22Ideal.nD Cert.Kernel22Ideal.τ).loc Cert.Kernel22Ideal.main_v2_1)) (v2 : (c : Dev Cert.Kernel22Ideal.nD) → Buf (Elt Ideal) ((c.tc : Thread Cert.Kernel22Ideal.nD Cert.Kernel22Ideal.τ).loc Cert.Kernel22Ideal.main_v2_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2_0) = v0 c
          ∧ r.2.mem ((c.tc : Thread Cert.Kernel22Ideal.nD Cert.Kernel22Ideal.τ).loc Cert.Kernel22Ideal.main_v2_1) = v1 c
          ∧ r.2.mem ((c.tc : Thread Cert.Kernel22Ideal.nD Cert.Kernel22Ideal.τ).loc Cert.Kernel22Ideal.main_v2_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v14) = v0 c
          ∧ r.2.mem ((c.tc : Thread Cert.Reference22Ideal.nD Cert.Reference22Ideal.τ).loc Cert.Reference22Ideal.main_v18) = v1 c
          ∧ r.2.mem ((c.tc : Thread Cert.Reference22Ideal.nD Cert.Reference22Ideal.τ).loc Cert.Reference22Ideal.main_v24) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v8) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v2_0)) (v1 : (c : Dev Cert.Kernel25Ideal.nD) → Buf (Elt Ideal) ((c.tc : Thread Cert.Kernel25Ideal.nD Cert.Kernel25Ideal.τ).loc Cert.Kernel25Ideal.main_v2_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2_0) = v0 c
          ∧ r.2.mem ((c.tc : Thread Cert.Kernel25Ideal.nD Cert.Kernel25Ideal.τ).loc Cert.Kernel25Ideal.main_v2_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v8) = v0 c
          ∧ r.2.mem ((c.tc : Thread Cert.Reference25Ideal.nD Cert.Reference25Ideal.τ).loc Cert.Reference25Ideal.main_v21) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel13 : Cert.Kernel13.Facts) (hKernel13Ideal : Cert.Kernel13Ideal.Facts) (hReference13Ideal : Cert.Reference13Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel25 : Cert.Kernel25.Facts) (hKernel25Ideal : Cert.Kernel25Ideal.Facts) (hReference25Ideal : Cert.Reference25Ideal.Facts) (hKernel7 : Cert.Kernel7.Facts) (hKernel7Ideal : Cert.Kernel7Ideal.Facts) (hReference7Ideal : Cert.Reference7Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel13_Kernel13Ideal
    ∧ algebraic_Kernel13Ideal_Reference13Ideal (hKernel13Ideal := hKernel13Ideal) (hReference13Ideal := hReference13Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel25_Kernel25Ideal
    ∧ algebraic_Kernel25Ideal_Reference25Ideal (hKernel25Ideal := hKernel25Ideal) (hReference25Ideal := hReference25Ideal)
    ∧ preserves_Kernel7_Kernel7Ideal
    ∧ algebraic_Kernel7Ideal_Reference7Ideal (hKernel7Ideal := hKernel7Ideal) (hReference7Ideal := hReference7Ideal)
-- ==== Pre_finite.lean ====
abbrev S4224x5120 : Shape := ⟨2, ![4224, 5120]⟩
abbrev S4224x2048 : Shape := ⟨2, ![4224, 2048]⟩
abbrev S3x1024 : Shape := ⟨2, ![3, 1024]⟩
abbrev S31x1024 : Shape := ⟨2, ![31, 1024]⟩
abbrev S1x1024 : Shape := ⟨2, ![1, 1024]⟩
abbrev S_ : Shape := ⟨0, ![]⟩

class Facts : Prop where
  bcast_S_S4224x5120 : S_.BroadcastsInDim S4224x5120 (![] : Fin 0 → Fin S4224x5120.rank)
  reducesTo_S4224x5120_S_d0_1 : S4224x5120.ReducesTo [0, 1] S_
  h_S_ : 0 < S_.numel
  bcast_S_S4224x2048 : S_.BroadcastsInDim S4224x2048 (![] : Fin 0 → Fin S4224x2048.rank)
  reducesTo_S4224x2048_S_d0_1 : S4224x2048.ReducesTo [0, 1] S_
  bcast_S_S31x1024 : S_.BroadcastsInDim S31x1024 (![] : Fin 0 → Fin S31x1024.rank)
  reducesTo_S31x1024_S_d0_1 : S31x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_arg6 : FVec F S1x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg5
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg6
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S4224x5120 .f32) (main_arg1 : FVec F S4224x2048 .f32) (main_arg2 : FVec F S3x1024 .f32) (main_arg3 : FVec F S31x1024 .f32) (main_arg4 : FVec F S1x1024 .f32) (main_arg5 : FVec F S1x1024 .f32) (main_arg6 : FVec F S1x1024 .f32) : IVec S_ 1 :=
  let main_v0 : FVec F S4224x5120 .f32 := Host.absf main_arg0
  let main_cst : FVec F S_ .f32 := constant S_ .f32 0x7F800000#32
  let main_v1 : FVec F S4224x5120 .f32 := broadcastInDim S4224x5120 ![] bcast_S_S4224x5120 main_cst
  let main_v2 : IVec S4224x5120 1 := cmpf .olt main_v0 main_v1
  let main_c : IVec S_ 1 := constantI S_ 1 1#1
  let main_v3 : IVec S_ 1 := (fun x v => Host.reduce IntOp.andi x v reducesTo_S4224x5120_S_d0_1 h_S_) main_v2 main_c
  let main_v4 : FVec F S4224x2048 .f32 := Host.absf main_arg1
  let main_cst_0 : FVec F S_ .f32 := constant S_ .f32 0x7F800000#32
  let main_v5 : FVec F S4224x2048 .f32 := broadcastInDim S4224x2048 ![] bcast_S_S4224x2048 main_cst_0
  let main_v6 : IVec S4224x2048 1 := cmpf .olt main_v4 main_v5
  let main_c_1 : IVec S_ 1 := constantI S_ 1 1#1
  let main_v7 : IVec S_ 1 := (fun x v => Host.reduce IntOp.andi x v reducesTo_S4224x2048_S_d0_1 h_S_) main_v6 main_c_1
  let main_v8 : IVec S_ 1 := andi main_v3 main_v7
  let main_v9 : FVec F S31x1024 .f32 := Host.absf main_arg3
  let main_cst_2 : FVec F S_ .f32 := constant S_ .f32 0x7F800000#32
  let main_v10 : FVec F S31x1024 .f32 := broadcastInDim S31x1024 ![] bcast_S_S31x1024 main_cst_2
  let main_v11 : IVec S31x1024 1 := cmpf .olt main_v9 main_v10
  let main_c_3 : IVec S_ 1 := constantI S_ 1 1#1
  let main_v12 : IVec S_ 1 := (fun x v => Host.reduce IntOp.andi x v reducesTo_S31x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_arg6 main_v13 main_v16
-- ==== Pre_finite5.lean ====
abbrev S4224x2048 : Shape := ⟨2, ![4224, 2048]⟩
abbrev S5632x2048 : Shape := ⟨2, ![5632, 2048]⟩
abbrev S4224x5632 : Shape := ⟨2, ![4224, 5632]⟩
abbrev S8x128 : Shape := ⟨2, ![8, 128]⟩
abbrev S_ : Shape := ⟨0, ![]⟩

class Facts : Prop where
  bitsLt_bf16_f32 : FTy.bits .bf16 < FTy.bits .f32
  bcast_S_S4224x2048 : S_.BroadcastsInDim S4224x2048 (![] : Fin 0 → Fin S4224x2048.rank)
  reducesTo_S4224x2048_S_d0_1 : S4224x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4224x5632 : S_.BroadcastsInDim S4224x5632 (![] : Fin 0 → Fin S4224x5632.rank)
  reducesTo_S4224x5632_S_d0_1 : S4224x5632.ReducesTo [0, 1] S_

variable [Facts]

def fn_part1 {F : FTy → Type} [FloatOps F] (main_v16 : IVec S_ 1) (main_v17 : FVec F S4224x5632 .f32) : IVec S_ 1 :=
  let main_v18 : FVec F S4224x5632 .f32 := Host.absf main_v17
  let main_cst_4 : FVec F S_ .f32 := constant S_ .f32 0x7F800000#32
  let main_v19 : FVec F S4224x5632 .f32 := broadcastInDim S4224x5632 ![] bcast_S_S4224x5632 main_cst_4
  let main_v20 : IVec S4224x5632 1 := cmpf .olt main_v18 main_v19
  let main_c_5 : IVec S_ 1 := constantI S_ 1 1#1
  let main_v21 : IVec S_ 1 := (fun x v => Host.reduce IntOp.andi x v reducesTo_S4224x5632_S_d0_1 h_S_) main_v20 main_c_5
  let main_v22 : IVec S_ 1 := andi main_v16 main_v21
  main_v22

def fn {F : FTy → Type} [FloatOps F] (main_arg0 : FVec F S4224x2048 .bf16) (main_arg1 : FVec F S5632x2048 .bf16) (main_arg2 : FVec F S4224x5632 .bf16) (main_arg3 : FVec F S4224x5632 .bf16) (main_arg4 : FVec F S8x128 .f32) : IVec S_ 1 :=
  let main_v0 : FVec F S4224x2048 .f32 := (extf .f32 · bitsLt_bf16_f32) main_arg0
  let main_v1 : FVec F S4224x2048 .f32 := Host.absf main_v0
  let main_cst : FVec F S_ .f32 := constant S_ .f32 0x7F800000#32
  let main_v2 : FVec F S4224x2048 .f32 := broadcastInDim S4224x2048 ![] bcast_S_S4224x2048 main_cst
  let main_v3 : IVec S4224x2048 1 := cmpf .olt main_v1 main_v2
  let main_c : IVec S_ 1 := constantI S_ 1 1#1
  let main_v4 : IVec S_ 1 := (fun x v => Host.reduce IntOp.andi x v reducesTo_S4224x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S4224x5632 .f32 := (extf .f32 · bitsLt_bf16_f32) main_arg2
  let main_v12 : FVec F S4224x5632 .f32 := Host.absf main_v11
  let main_cst_2 : FVec F S_ .f32 := constant S_ .f32 0x7F800000#32
  let main_v13 : FVec F S4224x5632 .f32 := broadcastInDim S4224x5632 ![] bcast_S_S4224x5632 main_cst_2
  let main_v14 : IVec S4224x5632 1 := cmpf .olt main_v12 main_v13
  let main_c_3 : IVec S_ 1 := constantI S_ 1 1#1
  let main_v15 : IVec S_ 1 := (fun x v => Host.reduce IntOp.andi x v reducesTo_S4224x5632_S_d0_1 h_S_) main_v14 main_c_3
  let main_v16 : IVec S_ 1 := andi main_v10 main_v15
  let main_v17 : FVec F S4224x5632 .f32 := (extf .f32 · bitsLt_bf16_f32) main_arg3
  fn_part1 (F := F) main_v16 main_v17
-- ==== Kernel.lean ====
abbrev S4224x5120 : Shape := ⟨2, ![4224, 5120]⟩
abbrev S4224x2048 : Shape := ⟨2, ![4224, 2048]⟩
abbrev S3x1024 : Shape := ⟨2, ![3, 1024]⟩
abbrev S31x1024 : Shape := ⟨2, ![31, 1024]⟩
abbrev S1x1024 : Shape := ⟨2, ![1, 1024]⟩
abbrev S4112x5120 : Shape := ⟨2, ![4112, 5120]⟩
abbrev S4112x1024 : Shape := ⟨2, ![4112, 1024]⟩
abbrev S_ : Shape := ⟨0, ![]⟩
abbrev S4114x1024 : Shape := ⟨2, ![4114, 1024]⟩
abbrev S4142x1024 : Shape := ⟨2, ![4142, 1024]⟩
abbrev S4224x1024 : Shape := ⟨2, ![4224, 1024]⟩
abbrev S128x5120 : Shape := ⟨2, ![128, 5120]⟩
abbrev S32x5120 : Shape := ⟨2, ![32, 5120]⟩
abbrev S128x1024 : Shape := ⟨2, ![128, 1024]⟩
abbrev S128x2048 : Shape := ⟨2, ![128, 2048]⟩
abbrev S160x1024 : Shape := ⟨2, ![160, 1024]⟩
abbrev S128x1 : Shape := ⟨2, ![128, 1]⟩
abbrev S32x1 : Shape := ⟨2, ![32, 1]⟩
abbrev S32x1024 : Shape := ⟨2, ![32, 1024]⟩
abbrev S1x128 : Shape := ⟨2, ![1, 128]⟩
abbrev S128x128 : Shape := ⟨2, ![128, 128]⟩
abbrev S128 : Shape := ⟨1, ![128]⟩
abbrev S1024 : Shape := ⟨1, ![1024]⟩

abbrev nBuf : Space → Nat
  | .hbm => 208
  | .vmem => 21
  | .smem => 0
  | _ => 0

abbrev hbmTy0_0 (i : Nat) : BufTy := match i % 128 with
  | 0 => ⟨S4224x5120, .f32⟩
  | 1 => ⟨S4224x2048, .f32⟩
  | 2 => ⟨S3x1024, .f32⟩
  | 3 => ⟨S31x1024, .f32⟩
  | 4 => ⟨S1x1024, .f32⟩
  | 5 => ⟨S1x1024, .f32⟩
  | 6 => ⟨S1x1024, .f32⟩
  | 7 => ⟨S4112x5120, .f32⟩
  | 8 => ⟨S4112x1024, .f32⟩
  | 9 => ⟨S4112x1024, .f32⟩
  | 10 => ⟨S4112x1024, .f32⟩
  | 11 => ⟨S4112x1024, .f32⟩
  | 12 => ⟨S4112x1024, .f32⟩
  | 13 => ⟨S4112x1024, .f32⟩
  | 14 => ⟨S_, .i32⟩
  | 15 => ⟨S_, .f32⟩
  | 16 => ⟨S4114x1024, .f32⟩
  | 17 => ⟨S1x1024, .f32⟩
  | 18 => ⟨S4112x1024, .f32⟩
  | 19 => ⟨S4112x1024, .f32⟩
  | 20 => ⟨S4112x1024, .f32⟩
  | 21 => ⟨S1x1024, .f32⟩
  | 22 => ⟨S4112x1024, .f32⟩
  | 23 => ⟨S4112x1024, .f32⟩
  | 24 => ⟨S4112x1024, .f32⟩
  | 25 => ⟨S4112x1024, .f32⟩
  | 26 => ⟨S1x1024, .f32⟩
  | 27 => ⟨S4112x1024, .f32⟩
  | 28 => ⟨S4112x1024, .f32⟩
  | 29 => ⟨S4112x1024, .f32⟩
  | 30 => ⟨S4112x1024, .f32⟩
  | 31 => ⟨S4112x1024, .f32⟩
  | 32 => ⟨S4112x1024, .f32⟩
  | 33 => ⟨S_, .f32⟩
  | 34 => ⟨S4112x1024, .f32⟩
  | 35 => ⟨S4112x1024, .f32⟩
  | 36 => ⟨S_, .f32⟩
  | 37 => ⟨S4112x1024, .f32⟩
  | 38 => ⟨S4112x1024, .f32⟩
  | 39 => ⟨S4112x1024, .f32⟩
  | 40 => ⟨S_, .i32⟩
  | 41 => ⟨S_, .f32⟩
  | 42 => ⟨S4142x1024, .f32⟩
  | 43 => ⟨S1x1024, .f32⟩
  | 44 => ⟨S4112x1024, .f32⟩
  | 45 => ⟨S4112x1024, .f32⟩
  | 46 => ⟨S4112x1024, .f32⟩
  | 47 => ⟨S1x1024, .f32⟩
  | 48 => ⟨S4112x1024, .f32⟩
  | 49 => ⟨S4112x1024, .f32⟩
  | 50 => ⟨S4112x1024, .f32⟩
  | 51 => ⟨S4112x1024, .f32⟩
  | 52 => ⟨S1x1024, .f32⟩
  | 53 => ⟨S4112x1024, .f32⟩
  | 54 => ⟨S4112x1024, .f32⟩
  | 55 => ⟨S4112x1024, .f32⟩
  | 56 => ⟨S4112x1024, .f32⟩
  | 57 => ⟨S1x1024, .f32⟩
  | 58 => ⟨S4112x1024, .f32⟩
  | 59 => ⟨S4112x1024, .f32⟩
  | 60 => ⟨S4112x1024, .f32⟩
  | 61 => ⟨S4112x1024, .f32⟩
  | 62 => ⟨S1x1024, .f32⟩
  | 63 => ⟨S4112x1024, .f32⟩
  | 64 => ⟨S4112x1024, .f32⟩
  | 65 => ⟨S4112x1024, .f32⟩
  | 66 => ⟨S4112x1024, .f32⟩
  | 67 => ⟨S1x1024, .f32⟩
  | 68 => ⟨S4112x1024, .f32⟩
  | 69 => ⟨S4112x1024, .f32⟩
  | 70 => ⟨S4112x1024, .f32⟩
  | 71 => ⟨S4112x1024, .f32⟩
  | 72 => ⟨S1x1024, .f32⟩
  | 73 => ⟨S4112x1024, .f32⟩
  | 74 => ⟨S4112x1024, .f32⟩
  | 75 => ⟨S4112x1024, .f32⟩
  | 76 => ⟨S4112x1024, .f32⟩
  | 77 => ⟨S1x1024, .f32⟩
  | 78 => ⟨S4112x1024, .f32⟩
  | 79 => ⟨S4112x1024, .f32⟩
  | 80 => ⟨S4112x1024, .f32⟩
  | 81 => ⟨S4112x1024, .f32⟩
  | 82 => ⟨S1x1024, .f32⟩
  | 83 => ⟨S4112x1024, .f32⟩
  | 84 => ⟨S4112x1024, .f32⟩
  | 85 => ⟨S4112x1024, .f32⟩
  | 86 => ⟨S4112x1024, .f32⟩
  | 87 => ⟨S1x1024, .f32⟩
  | 88 => ⟨S4112x1024, .f32⟩
  | 89 => ⟨S4112x1024, .f32⟩
  | 90 => ⟨S4112x1024, .f32⟩
  | 91 => ⟨S4112x1024, .f32⟩
  | 92 => ⟨S1x1024, .f32⟩
  | 93 => ⟨S4112x1024, .f32⟩
  | 94 => ⟨S4112x1024, .f32⟩
  | 95 => ⟨S4112x1024, .f32⟩
  | 96 => ⟨S4112x1024, .f32⟩
  | 97 => ⟨S1x1024, .f32⟩
  | 98 => ⟨S4112x1024, .f32⟩
  | 99 => ⟨S4112x1024, .f32⟩
  | 100 => ⟨S4112x1024, .f32⟩
  | 101 => ⟨S4112x1024, .f32⟩
  | 102 => ⟨S1x1024, .f32⟩
  | 103 => ⟨S4112x1024, .f32⟩
  | 104 => ⟨S4112x1024, .f32⟩
  | 105 => ⟨S4112x1024, .f32⟩
  | 106 => ⟨S4112x1024, .f32⟩
  | 107 => ⟨S1x1024, .f32⟩
  | 108 => ⟨S4112x1024, .f32⟩
  | 109 => ⟨S4112x1024, .f32⟩
  | 110 => ⟨S4112x1024, .f32⟩
  | 111 => ⟨S4112x1024, .f32⟩
  | 112 => ⟨S1x1024, .f32⟩
  | 113 => ⟨S4112x1024, .f32⟩
  | 114 => ⟨S4112x1024, .f32⟩
  | 115 => ⟨S4112x1024, .f32⟩
  | 116 => ⟨S4112x1024, .f32⟩
  | 117 => ⟨S1x1024, .f32⟩
  | 118 => ⟨S4112x1024, .f32⟩
  | 119 => ⟨S4112x1024, .f32⟩
  | 120 => ⟨S4112x1024, .f32⟩
  | 121 => ⟨S4112x1024, .f32⟩
  | 122 => ⟨S1x1024, .f32⟩
  | 123 => ⟨S4112x1024, .f32⟩
  | 124 => ⟨S4112x1024, .f32⟩
  | 125 => ⟨S4112x1024, .f32⟩
  | 126 => ⟨S4112x1024, .f32⟩
  | 127 => ⟨S1x1024, .f32⟩
  | _ => ⟨S4224x5120, .f32⟩

abbrev hbmTy0_1 (i : Nat) : BufTy := match i % 128 with
  | 0 => ⟨S4112x1024, .f32⟩
  | 1 => ⟨S4112x1024, .f32⟩
  | 2 => ⟨S4112x1024, .f32⟩
  | 3 => ⟨S4112x1024, .f32⟩
  | 4 => ⟨S1x1024, .f32⟩
  | 5 => ⟨S4112x1024, .f32⟩
  | 6 => ⟨S4112x1024, .f32⟩
  | 7 => ⟨S4112x1024, .f32⟩
  | 8 => ⟨S4112x1024, .f32⟩
  | 9 => ⟨S1x1024, .f32⟩
  | 10 => ⟨S4112x1024, .f32⟩
  | 11 => ⟨S4112x1024, .f32⟩
  | 12 => ⟨S4112x1024, .f32⟩
  | 13 => ⟨S4112x1024, .f32⟩
  | 14 => ⟨S1x1024, .f32⟩
  | 15 => ⟨S4112x1024, .f32⟩
  | 16 => ⟨S4112x1024, .f32⟩
  | 17 => ⟨S4112x1024, .f32⟩
  | 18 => ⟨S4112x1024, .f32⟩
  | 19 => ⟨S1x1024, .f32⟩
  | 20 => ⟨S4112x1024, .f32⟩
  | 21 => ⟨S4112x1024, .f32⟩
  | 22 => ⟨S4112x1024, .f32⟩
  | 23 => ⟨S4112x1024, .f32⟩
  | 24 => ⟨S1x1024, .f32⟩
  | 25 => ⟨S4112x1024, .f32⟩
  | 26 => ⟨S4112x1024, .f32⟩
  | 27 => ⟨S4112x1024, .f32⟩
  | 28 => ⟨S4112x1024, .f32⟩
  | 29 => ⟨S1x1024, .f32⟩
  | 30 => ⟨S4112x1024, .f32⟩
  | 31 => ⟨S4112x1024, .f32⟩
  | 32 => ⟨S4112x1024, .f32⟩
  | 33 => ⟨S4112x1024, .f32⟩
  | 34 => ⟨S1x1024, .f32⟩
  | 35 => ⟨S4112x1024, .f32⟩
  | 36 => ⟨S4112x1024, .f32⟩
  | 37 => ⟨S4112x1024, .f32⟩
  | 38 => ⟨S4112x1024, .f32⟩
  | 39 => ⟨S1x1024, .f32⟩
  | 40 => ⟨S4112x1024, .f32⟩
  | 41 => ⟨S4112x1024, .f32⟩
  | 42 => ⟨S4112x1024, .f32⟩
  | 43 => ⟨S4112x1024, .f32⟩
  | 44 => ⟨S1x1024, .f32⟩
  | 45 => ⟨S4112x1024, .f32⟩
  | 46 => ⟨S4112x1024, .f32⟩
  | 47 => ⟨S4112x1024, .f32⟩
  | 48 => ⟨S4112x1024, .f32⟩
  | 49 => ⟨S1x1024, .f32⟩
  | 50 => ⟨S4112x1024, .f32⟩
  | 51 => ⟨S4112x1024, .f32⟩
  | 52 => ⟨S4112x1024, .f32⟩
  | 53 => ⟨S4112x1024, .f32⟩
  | 54 => ⟨S1x1024, .f32⟩
  | 55 => ⟨S4112x1024, .f32⟩
  | 56 => ⟨S4112x1024, .f32⟩
  | 57 => ⟨S4112x1024, .f32⟩
  | 58 => ⟨S4112x1024, .f32⟩
  | 59 => ⟨S1x1024, .f32⟩
  | 60 => ⟨S4112x1024, .f32⟩
  | 61 => ⟨S4112x1024, .f32⟩
  | 62 => ⟨S4112x1024, .f32⟩
  | 63 => ⟨S4112x1024, .f32⟩
  | 64 => ⟨S1x1024, .f32⟩
  | 65 => ⟨S4112x1024, .f32⟩
  | 66 => ⟨S4112x1024, .f32⟩
  | 67 => ⟨S4112x1024, .f32⟩
  | 68 => ⟨S4112x1024, .f32⟩
  | 69 => ⟨S4112x1024, .f32⟩
  | 70 => ⟨S4112x1024, .f32⟩
  | 71 => ⟨S_, .i32⟩
  | 72 => ⟨S_, .f32⟩
  | 73 => ⟨S4224x1024, .f32⟩
  | 74 => ⟨S4224x1024, .f32⟩
  | 75 => ⟨S4224x1024, .f32⟩
  | 76 => ⟨S4224x1024, .bf16⟩
  | 77 => ⟨S1x1024, .f32⟩
  | 78 => ⟨S1x1024, .f32⟩
  | 79 => ⟨S1x1024, .f32⟩
  | _ => ⟨S4224x5120, .f32⟩

abbrev hbmTy (i : Nat) : BufTy := match i / 128 with
  | 0 => hbmTy0_0 i
  | 1 => hbmTy0_1 i
  | _ => ⟨S4224x5120, .f32⟩

abbrev bufTy : (tb : Table) → Fin (tcTables nBuf tb) → BufTy
  | .hbm, ⟨i, _⟩ => hbmTy i
  | .local _ .vmem, ⟨0, _⟩ => ⟨S128x5120, .f32⟩
  | .local _ .vmem, ⟨1, _⟩ => ⟨S128x5120, .f32⟩
  | .local _ .vmem, ⟨2, _⟩ => ⟨S32x5120, .f32⟩
  | .local _ .vmem, ⟨3, _⟩ => ⟨S32x5120, .f32⟩
  | .local _ .vmem, ⟨4, _⟩ => ⟨S128x1024, .f32⟩
  | .local _ .vmem, ⟨5, _⟩ => ⟨S128x1024, .f32⟩
  | .local _ .vmem, ⟨6, _⟩ => ⟨S128x2048, .f32⟩
  | .local _ .vmem, ⟨7, _⟩ => ⟨S128x2048, .f32⟩
  | .local _ .vmem, ⟨8, _⟩ => ⟨S3x1024, .f32⟩
  | .local _ .vmem, ⟨9, _⟩ => ⟨S1x1024, .f32⟩
  | .local _ .vmem, ⟨10, _⟩ => ⟨S1x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .bf16⟩
  | .local _ .vmem, ⟨16, _⟩ => ⟨S128x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S160x1024, .f32⟩
  | _, _ => ⟨S4224x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_1 : Ref sig .tc := ⟨.hbm, 40, rfl⟩
abbrev main_call1_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_c_2 : Ref sig .tc := ⟨.hbm, 199, rfl⟩
abbrev main_call2_v0 : Ref sig .tc := ⟨.hbm, 200, rfl⟩
abbrev main_v186 : Ref sig .tc := ⟨.hbm, 201, rfl⟩
abbrev main_v187_0 : Ref sig .tc := ⟨.hbm, 202, rfl⟩
abbrev main_v187_1 : Ref sig .tc := ⟨.hbm, 203, rfl⟩
abbrev main_v187_2 : Ref sig .tc := ⟨.hbm, 204, rfl⟩
abbrev main_v187_3 : Ref sig .tc := ⟨.hbm, 205, rfl⟩
abbrev main_v187_4 : Ref sig .tc := ⟨.hbm, 206, rfl⟩
abbrev main_v187_5 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4224x5120 : Shape := ⟨2, ![4224, 5120]⟩
abbrev S4224x2048 : Shape := ⟨2, ![4224, 2048]⟩
abbrev S3x1024 : Shape := ⟨2, ![3, 1024]⟩
abbrev S31x1024 : Shape := ⟨2, ![31, 1024]⟩
abbrev S1x1024 : Shape := ⟨2, ![1, 1024]⟩
abbrev S4112x5120 : Shape := ⟨2, ![4112, 5120]⟩
abbrev S4112x1024 : Shape := ⟨2, ![4112, 1024]⟩
abbrev S_ : Shape := ⟨0, ![]⟩
abbrev S4114x1024 : Shape := ⟨2, ![4114, 1024]⟩
abbrev S4142x1024 : Shape := ⟨2, ![4142, 1024]⟩
abbrev S4112 : Shape := ⟨1, ![4112]⟩
abbrev S4112x1 : Shape := ⟨2, ![4112, 1]⟩
abbrev S4112x2048 : Shape := ⟨2, ![4112, 2048]⟩
abbrev S1024 : Shape := ⟨1, ![1024]⟩
abbrev S4224x1024 : Shape := ⟨2, ![4224, 1024]⟩

abbrev nBuf : Space → Nat
  | .hbm => 310
  | .vmem => 0
  | .smem => 0
  | _ => 0

abbrev hbmTy0_0 (i : Nat) : BufTy := match i % 128 with
  | 0 => ⟨S4224x5120, .f32⟩
  | 1 => ⟨S4224x2048, .f32⟩
  | 2 => ⟨S3x1024, .f32⟩
  | 3 => ⟨S31x1024, .f32⟩
  | 4 => ⟨S1x1024, .f32⟩
  | 5 => ⟨S1x1024, .f32⟩
  | 6 => ⟨S1x1024, .f32⟩
  | 7 => ⟨S4112x5120, .f32⟩
  | 8 => ⟨S4112x1024, .f32⟩
  | 9 => ⟨S4112x1024, .f32⟩
  | 10 => ⟨S4112x1024, .f32⟩
  | 11 => ⟨S4112x1024, .f32⟩
  | 12 => ⟨S4112x1024, .f32⟩
  | 13 => ⟨S4112x1024, .f32⟩
  | 14 => ⟨S_, .i32⟩
  | 15 => ⟨S_, .f32⟩
  | 16 => ⟨S4114x1024, .f32⟩
  | 17 => ⟨S1x1024, .f32⟩
  | 18 => ⟨S4112x1024, .f32⟩
  | 19 => ⟨S4112x1024, .f32⟩
  | 20 => ⟨S4112x1024, .f32⟩
  | 21 => ⟨S1x1024, .f32⟩
  | 22 => ⟨S4112x1024, .f32⟩
  | 23 => ⟨S4112x1024, .f32⟩
  | 24 => ⟨S4112x1024, .f32⟩
  | 25 => ⟨S4112x1024, .f32⟩
  | 26 => ⟨S1x1024, .f32⟩
  | 27 => ⟨S4112x1024, .f32⟩
  | 28 => ⟨S4112x1024, .f32⟩
  | 29 => ⟨S4112x1024, .f32⟩
  | 30 => ⟨S4112x1024, .f32⟩
  | 31 => ⟨S4112x1024, .f32⟩
  | 32 => ⟨S4112x1024, .f32⟩
  | 33 => ⟨S_, .f32⟩
  | 34 => ⟨S4112x1024, .f32⟩
  | 35 => ⟨S4112x1024, .f32⟩
  | 36 => ⟨S_, .f32⟩
  | 37 => ⟨S4112x1024, .f32⟩
  | 38 => ⟨S4112x1024, .f32⟩
  | 39 => ⟨S4112x1024, .f32⟩
  | 40 => ⟨S_, .i32⟩
  | 41 => ⟨S_, .f32⟩
  | 42 => ⟨S4142x1024, .f32⟩
  | 43 => ⟨S1x1024, .f32⟩
  | 44 => ⟨S4112x1024, .f32⟩
  | 45 => ⟨S4112x1024, .f32⟩
  | 46 => ⟨S4112x1024, .f32⟩
  | 47 => ⟨S1x1024, .f32⟩
  | 48 => ⟨S4112x1024, .f32⟩
  | 49 => ⟨S4112x1024, .f32⟩
  | 50 => ⟨S4112x1024, .f32⟩
  | 51 => ⟨S4112x1024, .f32⟩
  | 52 => ⟨S1x1024, .f32⟩
  | 53 => ⟨S4112x1024, .f32⟩
  | 54 => ⟨S4112x1024, .f32⟩
  | 55 => ⟨S4112x1024, .f32⟩
  | 56 => ⟨S4112x1024, .f32⟩
  | 57 => ⟨S1x1024, .f32⟩
  | 58 => ⟨S4112x1024, .f32⟩
  | 59 => ⟨S4112x1024, .f32⟩
  | 60 => ⟨S4112x1024, .f32⟩
  | 61 => ⟨S4112x1024, .f32⟩
  | 62 => ⟨S1x1024, .f32⟩
  | 63 => ⟨S4112x1024, .f32⟩
  | 64 => ⟨S4112x1024, .f32⟩
  | 65 => ⟨S4112x1024, .f32⟩
  | 66 => ⟨S4112x1024, .f32⟩
  | 67 => ⟨S1x1024, .f32⟩
  | 68 => ⟨S4112x1024, .f32⟩
  | 69 => ⟨S4112x1024, .f32⟩
  | 70 => ⟨S4112x1024, .f32⟩
  | 71 => ⟨S4112x1024, .f32⟩
  | 72 => ⟨S1x1024, .f32⟩
  | 73 => ⟨S4112x1024, .f32⟩
  | 74 => ⟨S4112x1024, .f32⟩
  | 75 => ⟨S4112x1024, .f32⟩
  | 76 => ⟨S4112x1024, .f32⟩
  | 77 => ⟨S1x1024, .f32⟩
  | 78 => ⟨S4112x1024, .f32⟩
  | 79 => ⟨S4112x1024, .f32⟩
  | 80 => ⟨S4112x1024, .f32⟩
  | 81 => ⟨S4112x1024, .f32⟩
  | 82 => ⟨S1x1024, .f32⟩
  | 83 => ⟨S4112x1024, .f32⟩
  | 84 => ⟨S4112x1024, .f32⟩
  | 85 => ⟨S4112x1024, .f32⟩
  | 86 => ⟨S4112x1024, .f32⟩
  | 87 => ⟨S1x1024, .f32⟩
  | 88 => ⟨S4112x1024, .f32⟩
  | 89 => ⟨S4112x1024, .f32⟩
  | 90 => ⟨S4112x1024, .f32⟩
  | 91 => ⟨S4112x1024, .f32⟩
  | 92 => ⟨S1x1024, .f32⟩
  | 93 => ⟨S4112x1024, .f32⟩
  | 94 => ⟨S4112x1024, .f32⟩
  | 95 => ⟨S4112x1024, .f32⟩
  | 96 => ⟨S4112x1024, .f32⟩
  | 97 => ⟨S1x1024, .f32⟩
  | 98 => ⟨S4112x1024, .f32⟩
  | 99 => ⟨S4112x1024, .f32⟩
  | 100 => ⟨S4112x1024, .f32⟩
  | 101 => ⟨S4112x1024, .f32⟩
  | 102 => ⟨S1x1024, .f32⟩
  | 103 => ⟨S4112x1024, .f32⟩
  | 104 => ⟨S4112x1024, .f32⟩
  | 105 => ⟨S4112x1024, .f32⟩
  | 106 => ⟨S4112x1024, .f32⟩
  | 107 => ⟨S1x1024, .f32⟩
  | 108 => ⟨S4112x1024, .f32⟩
  | 109 => ⟨S4112x1024, .f32⟩
  | 110 => ⟨S4112x1024, .f32⟩
  | 111 => ⟨S4112x1024, .f32⟩
  | 112 => ⟨S1x1024, .f32⟩
  | 113 => ⟨S4112x1024, .f32⟩
  | 114 => ⟨S4112x1024, .f32⟩
  | 115 => ⟨S4112x1024, .f32⟩
  | 116 => ⟨S4112x1024, .f32⟩
  | 117 => ⟨S1x1024, .f32⟩
  | 118 => ⟨S4112x1024, .f32⟩
  | 119 => ⟨S4112x1024, .f32⟩
  | 120 => ⟨S4112x1024, .f32⟩
  | 121 => ⟨S4112x1024, .f32⟩
  | 122 => ⟨S1x1024, .f32⟩
  | 123 => ⟨S4112x1024, .f32⟩
  | 124 => ⟨S4112x1024, .f32⟩
  | 125 => ⟨S4112x1024, .f32⟩
  | 126 => ⟨S4112x1024, .f32⟩
  | 127 => ⟨S1x1024, .f32⟩
  | _ => ⟨S4224x5120, .f32⟩

abbrev hbmTy0_1 (i : Nat) : BufTy := match i % 128 with
  | 0 => ⟨S4112x1024, .f32⟩
  | 1 => ⟨S4112x1024, .f32⟩
  | 2 => ⟨S4112x1024, .f32⟩
  | 3 => ⟨S4112x1024, .f32⟩
  | 4 => ⟨S1x1024, .f32⟩
  | 5 => ⟨S4112x1024, .f32⟩
  | 6 => ⟨S4112x1024, .f32⟩
  | 7 => ⟨S4112x1024, .f32⟩
  | 8 => ⟨S4112x1024, .f32⟩
  | 9 => ⟨S1x1024, .f32⟩
  | 10 => ⟨S4112x1024, .f32⟩
  | 11 => ⟨S4112x1024, .f32⟩
  | 12 => ⟨S4112x1024, .f32⟩
  | 13 => ⟨S4112x1024, .f32⟩
  | 14 => ⟨S1x1024, .f32⟩
  | 15 => ⟨S4112x1024, .f32⟩
  | 16 => ⟨S4112x1024, .f32⟩
  | 17 => ⟨S4112x1024, .f32⟩
  | 18 => ⟨S4112x1024, .f32⟩
  | 19 => ⟨S1x1024, .f32⟩
  | 20 => ⟨S4112x1024, .f32⟩
  | 21 => ⟨S4112x1024, .f32⟩
  | 22 => ⟨S4112x1024, .f32⟩
  | 23 => ⟨S4112x1024, .f32⟩
  | 24 => ⟨S1x1024, .f32⟩
  | 25 => ⟨S4112x1024, .f32⟩
  | 26 => ⟨S4112x1024, .f32⟩
  | 27 => ⟨S4112x1024, .f32⟩
  | 28 => ⟨S4112x1024, .f32⟩
  | 29 => ⟨S1x1024, .f32⟩
  | 30 => ⟨S4112x1024, .f32⟩
  | 31 => ⟨S4112x1024, .f32⟩
  | 32 => ⟨S4112x1024, .f32⟩
  | 33 => ⟨S4112x1024, .f32⟩
  | 34 => ⟨S1x1024, .f32⟩
  | 35 => ⟨S4112x1024, .f32⟩
  | 36 => ⟨S4112x1024, .f32⟩
  | 37 => ⟨S4112x1024, .f32⟩
  | 38 => ⟨S4112x1024, .f32⟩
  | 39 => ⟨S1x1024, .f32⟩
  | 40 => ⟨S4112x1024, .f32⟩
  | 41 => ⟨S4112x1024, .f32⟩
  | 42 => ⟨S4112x1024, .f32⟩
  | 43 => ⟨S4112x1024, .f32⟩
  | 44 => ⟨S1x1024, .f32⟩
  | 45 => ⟨S4112x1024, .f32⟩
  | 46 => ⟨S4112x1024, .f32⟩
  | 47 => ⟨S4112x1024, .f32⟩
  | 48 => ⟨S4112x1024, .f32⟩
  | 49 => ⟨S1x1024, .f32⟩
  | 50 => ⟨S4112x1024, .f32⟩
  | 51 => ⟨S4112x1024, .f32⟩
  | 52 => ⟨S4112x1024, .f32⟩
  | 53 => ⟨S4112x1024, .f32⟩
  | 54 => ⟨S1x1024, .f32⟩
  | 55 => ⟨S4112x1024, .f32⟩
  | 56 => ⟨S4112x1024, .f32⟩
  | 57 => ⟨S4112x1024, .f32⟩
  | 58 => ⟨S4112x1024, .f32⟩
  | 59 => ⟨S1x1024, .f32⟩
  | 60 => ⟨S4112x1024, .f32⟩
  | 61 => ⟨S4112x1024, .f32⟩
  | 62 => ⟨S4112x1024, .f32⟩
  | 63 => ⟨S4112x1024, .f32⟩
  | 64 => ⟨S1x1024, .f32⟩
  | 65 => ⟨S4112x1024, .f32⟩
  | 66 => ⟨S4112x1024, .f32⟩
  | 67 => ⟨S4112x1024, .f32⟩
  | 68 => ⟨S4112x1024, .f32⟩
  | 69 => ⟨S4112x1024, .f32⟩
  | 70 => ⟨S4112x1024, .f32⟩
  | 71 => ⟨S4112x1024, .f32⟩
  | 72 => ⟨S_, .f32⟩
  | 73 => ⟨S4112, .f32⟩
  | 74 => ⟨S4112x1, .f32⟩
  | 75 => ⟨S_, .f32⟩
  | 76 => ⟨S4112x1, .f32⟩
  | 77 => ⟨S4112x1, .f32⟩
  | 78 => ⟨S4112x1024, .f32⟩
  | 79 => ⟨S4112x1024, .f32⟩
  | 80 => ⟨S4112x1024, .f32⟩
  | 81 => ⟨S_, .f32⟩
  | 82 => ⟨S4112x1024, .f32⟩
  | 83 => ⟨S4112x1024, .f32⟩
  | 84 => ⟨S_, .f32⟩
  | 85 => ⟨S4112, .f32⟩
  | 86 => ⟨S4112x1, .f32⟩
  | 87 => ⟨S_, .f32⟩
  | 88 => ⟨S4112x1, .f32⟩
  | 89 => ⟨S4112x1, .f32⟩
  | 90 => ⟨S4112x1024, .f32⟩
  | 91 => ⟨S4112x1024, .f32⟩
  | 92 => ⟨S_, .f32⟩
  | 93 => ⟨S4112x1, .f32⟩
  | 94 => ⟨S4112x1, .f32⟩
  | 95 => ⟨S4112x1, .f32⟩
  | 96 => ⟨S4112x1, .f32⟩
  | 97 => ⟨S_, .f32⟩
  | 98 => ⟨S4112x1, .f32⟩
  | 99 => ⟨S4112x1, .f32⟩
  | 100 => ⟨S4112x1024, .f32⟩
  | 101 => ⟨S4112x1024, .f32⟩
  | 102 => ⟨S4112x1024, .f32⟩
  | 103 => ⟨S4112x1024, .f32⟩
  | 104 => ⟨S4112x1024, .f32⟩
  | 105 => ⟨S4112x1024, .f32⟩
  | 106 => ⟨S4112x1024, .f32⟩
  | 107 => ⟨S4112x1024, .f32⟩
  | 108 => ⟨S_, .f32⟩
  | 109 => ⟨S4112x1024, .f32⟩
  | 110 => ⟨S4112x1024, .f32⟩
  | 111 => ⟨S_, .f32⟩
  | 112 => ⟨S4112x1024, .f32⟩
  | 113 => ⟨S4112x1024, .f32⟩
  | 114 => ⟨S_, .f32⟩
  | 115 => ⟨S4112x1024, .f32⟩
  | 116 => ⟨S4112x1024, .f32⟩
  | 117 => ⟨S4112x1024, .f32⟩
  | 118 => ⟨S4112x1024, .f32⟩
  | 119 => ⟨S4112x2048, .f32⟩
  | 120 => ⟨S4112x2048, .f32⟩
  | 121 => ⟨S4112x1024, .f32⟩
  | 122 => ⟨S4112x1024, .f32⟩
  | 123 => ⟨S4112x1024, .f32⟩
  | 124 => ⟨S4112x1024, .f32⟩
  | 125 => ⟨S4112x1024, .f32⟩
  | 126 => ⟨S4112x1024, .f32⟩
  | 127 => ⟨S_, .f32⟩
  | _ => ⟨S4224x5120, .f32⟩

abbrev hbmTy0_2 (i : Nat) : BufTy := match i % 128 with
  | 0 => ⟨S1024, .f32⟩
  | 1 => ⟨S1x1024, .f32⟩
  | 2 => ⟨S4112x1024, .f32⟩
  | 3 => ⟨S_, .f32⟩
  | 4 => ⟨S1024, .f32⟩
  | 5 => ⟨S1x1024, .f32⟩
  | 6 => ⟨S4112x1024, .f32⟩
  | 7 => ⟨S4112x1024, .f32⟩
  | 8 => ⟨S4112x1024, .f32⟩
  | 9 => ⟨S_, .f32⟩
  | 10 => ⟨S4112, .f32⟩
  | 11 => ⟨S4112x1, .f32⟩
  | 12 => ⟨S4112x1024, .f32⟩
  | 13 => ⟨S4112x1024, .f32⟩
  | 14 => ⟨S4112x1, .f32⟩
  | 15 => ⟨S4112x1024, .f32⟩
  | 16 => ⟨S_, .f32⟩
  | 17 => ⟨S4112, .f32⟩
  | 18 => ⟨S4112x1, .f32⟩
  | 19 => ⟨S_, .f32⟩
  | 20 => ⟨S4112x1, .f32⟩
  | 21 => ⟨S4112x1, .f32⟩
  | 22 => ⟨S_, .f32⟩
  | 23 => ⟨S4112, .f32⟩
  | 24 => ⟨S4112x1024, .f32⟩
  | 25 => ⟨S4112x1024, .f32⟩
  | 26 => ⟨S4112x1024, .f32⟩
  | 27 => ⟨S_, .f32⟩
  | 28 => ⟨S4112, .f32⟩
  | 29 => ⟨S4112x1, .f32⟩
  | 30 => ⟨S4112x1024, .f32⟩
  | 31 => ⟨S4112x1, .f32⟩
  | 32 => ⟨S_, .f32⟩
  | 33 => ⟨S4112x1, .f32⟩
  | 34 => ⟨S4112x1, .f32⟩
  | 35 => ⟨S_, .f32⟩
  | 36 => ⟨S4112, .f32⟩
  | 37 => ⟨S4112x1024, .f32⟩
  | 38 => ⟨S4112x1024, .f32⟩
  | 39 => ⟨S_, .f32⟩
  | 40 => ⟨S1024, .f32⟩
  | 41 => ⟨S1x1024, .f32⟩
  | 42 => ⟨S4112x1024, .f32⟩
  | 43 => ⟨S4112x1024, .f32⟩
  | 44 => ⟨S_, .i32⟩
  | 45 => ⟨S_, .f32⟩
  | 46 => ⟨S4224x1024, .f32⟩
  | 47 => ⟨S_, .i32⟩
  | 48 => ⟨S_, .f32⟩
  | 49 => ⟨S4224x1024, .f32⟩
  | 50 => ⟨S_, .i32⟩
  | 51 => ⟨S_, .f32⟩
  | 52 => ⟨S4224x1024, .f32⟩
  | 53 => ⟨S4224x1024, .bf16⟩
  | _ => ⟨S4224x5120, .f32⟩

abbrev hbmTy (i : Nat) : BufTy := match i / 128 with
  | 0 => hbmTy0_0 i
  | 1 => hbmTy0_1 i
  | 2 => hbmTy0_2 i
  | _ => ⟨S4224x5120, .f32⟩

abbrev bufTy : (tb : Table) → Fin (tcTables nBuf tb) → BufTy
  | .hbm, ⟨i, _⟩ => hbmTy i
  | _, _ => ⟨S4224x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_1 : Ref sig .tc := ⟨.hbm, 40, rfl⟩
abbrev main_call1_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_cst_2 : Ref sig .tc := ⟨.hbm, 200, rfl⟩
abbrev main_v187 : Ref sig .tc := ⟨.hbm, 201, rfl⟩
abbrev main_v188 : Ref sig .tc := ⟨.hbm, 202, rfl⟩
abbrev main_cst_3 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_cst_4 : Ref sig .tc := ⟨.hbm, 209, rfl⟩
abbrev main_v194 : Ref sig .tc := ⟨.hbm, 210, rfl⟩
abbrev main_v195 : Ref sig .tc := ⟨.hbm, 211, rfl⟩
abbrev main_cst_5 : Ref sig .tc := ⟨.hbm, 212, rfl⟩
abbrev main_v196 : Ref sig .tc := ⟨.hbm, 213, rfl⟩
abbrev main_v197 : Ref sig .tc := ⟨.hbm, 214, rfl⟩
abbrev main_cst_6 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_cst_7 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_cst_8 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_call2_v0 : Ref sig .tc := ⟨.hbm, 234, rfl⟩
abbrev main_call2_v1 : Ref sig .tc := ⟨.hbm, 235, rfl⟩
abbrev main_call2_cst : Ref sig .tc := ⟨.hbm, 236, rfl⟩
abbrev main_call2_v2 : Ref sig .tc := ⟨.hbm, 237, rfl⟩
abbrev main_call2_v3 : Ref sig .tc := ⟨.hbm, 238, rfl⟩
abbrev main_call2_cst_0 : Ref sig .tc := ⟨.hbm, 239, rfl⟩
abbrev main_call2_v4 : Ref sig .tc := ⟨.hbm, 240, rfl⟩
abbrev main_v214_2 : Ref sig .tc := ⟨.hbm, 241, rfl⟩
abbrev main_call2_cst_1 : Ref sig .tc := ⟨.hbm, 242, rfl⟩
abbrev main_call2_v6 : Ref sig .tc := ⟨.hbm, 243, rfl⟩
abbrev main_call2_v7 : Ref sig .tc := ⟨.hbm, 244, rfl⟩
abbrev main_v214_1 : Ref sig .tc := ⟨.hbm, 245, rfl⟩
abbrev main_v214_0 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_call3_v0 : Ref sig .tc := ⟨.hbm, 251, rfl⟩
abbrev main_call3_v1 : Ref sig .tc := ⟨.hbm, 252, rfl⟩
abbrev main_call3_v2 : Ref sig .tc := ⟨.hbm, 253, rfl⟩
abbrev main_v219 : Ref sig .tc := ⟨.hbm, 254, rfl⟩
abbrev main_cst_9 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_cst_10 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_cst_11 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_cst_12 : Ref sig .tc := ⟨.hbm, 272, rfl⟩
abbrev main_v234 : Ref sig .tc := ⟨.hbm, 273, rfl⟩
abbrev main_v235 : Ref sig .tc := ⟨.hbm, 274, rfl⟩
abbrev main_cst_13 : Ref sig .tc := ⟨.hbm, 275, rfl⟩
abbrev main_v236 : Ref sig .tc := ⟨.hbm, 276, rfl⟩
abbrev main_v237 : Ref sig .tc := ⟨.hbm, 277, rfl⟩
abbrev main_cst_14 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_cst_15 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_cst_16 : Ref sig .tc := ⟨.hbm, 288, rfl⟩
abbrev main_v246 : Ref sig .tc := ⟨.hbm, 289, rfl⟩
abbrev main_v247 : Ref sig .tc := ⟨.hbm, 290, rfl⟩
abbrev main_cst_17 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_cst_18 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_c_19 : Ref sig .tc := ⟨.hbm, 300, rfl⟩
abbrev main_call4_v0 : Ref sig .tc := ⟨.hbm, 301, rfl⟩
abbrev main_v255 : Ref sig .tc := ⟨.hbm, 302, rfl⟩
abbrev main_c_20 : Ref sig .tc := ⟨.hbm, 303, rfl⟩
abbrev main_call5_v0 : Ref sig .tc := ⟨.hbm, 304, rfl⟩
abbrev main_v256 : Ref sig .tc := ⟨.hbm, 305, rfl⟩
abbrev main_c_21 : Ref sig .tc := ⟨.hbm, 306, rfl⟩
abbrev main_call6_v0 : Ref sig .tc := ⟨.hbm, 307, rfl⟩
abbrev main_v257 : Ref sig .tc := ⟨.hbm, 308, rfl⟩
abbrev main_v258 : Ref sig .tc := ⟨.hbm, 309, rfl⟩

abbrev nD : Nat := 1
abbrev τ : Topo := Topo.v7x

variable {F : FTy → Type} [FloatOps F]
-- ==== Kernel2.lean ====
abbrev S4224x5120 : Shape := ⟨2, ![4224, 5120]⟩
abbrev S4224x1024 : Shape := ⟨2, ![4224, 1024]⟩
abbrev S3x1024 : Shape := ⟨2, ![3, 1024]⟩
abbrev S31x1024 : Shape := ⟨2, ![31, 1024]⟩
abbrev S1x5120 : Shape := ⟨2, ![1, 5120]⟩
abbrev S128x5120 : Shape := ⟨2, ![128, 5120]⟩
abbrev S32x5120 : Shape := ⟨2, ![32, 5120]⟩
abbrev S128x1024 : Shape := ⟨2, ![128, 1024]⟩
abbrev S32x1024 : Shape := ⟨2, ![32, 1024]⟩
abbrev S160x1024 : Shape := ⟨2, ![160, 1024]⟩
abbrev S7x152x1024 : Shape := ⟨3, ![7, 152, 1024]⟩
abbrev S128x1 : Shape := ⟨2, ![128, 1]⟩
abbrev S32x1 : Shape := ⟨2, ![32, 1]⟩
abbrev S152x1024 : Shape := ⟨2, ![152, 1024]⟩
abbrev S1x152x1024 : Shape := ⟨3, ![1, 152, 1024]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S1x1024 : Shape := ⟨2, ![1, 1024]⟩
abbrev S1024 : Shape := ⟨1, ![1024]⟩

abbrev nBuf : Space → Nat
  | .hbm => 10
  | .vmem => 27
  | .smem => 0
  | _ => 0

abbrev bufTy : (tb : Table) → Fin (tcTables nBuf tb) → BufTy
  | .hbm, ⟨0, _⟩ => ⟨S4224x5120, .f32⟩
  | .hbm, ⟨1, _⟩ => ⟨S4224x1024, .f32⟩
  | .hbm, ⟨2, _⟩ => ⟨S4224x1024, .f32⟩
  | .hbm, ⟨3, _⟩ => ⟨S4224x1024, .bf16⟩
  | .hbm, ⟨4, _⟩ => ⟨S3x1024, .f32⟩
  | .hbm, ⟨5, _⟩ => ⟨S31x1024, .f32⟩
  | .hbm, ⟨6, _⟩ => ⟨S4224x5120, .bf16⟩
  | .hbm, ⟨7, _⟩ => ⟨S1x5120, .f32⟩
  | .hbm, ⟨8, _⟩ => ⟨S3x1024, .f32⟩
  | .hbm, ⟨9, _⟩ => ⟨S31x1024, .f32⟩
  | .local _ .vmem, ⟨0, _⟩ => ⟨S128x5120, .f32⟩
  | .local _ .vmem, ⟨1, _⟩ => ⟨S128x5120, .f32⟩
  | .local _ .vmem, ⟨2, _⟩ => ⟨S32x5120, .f32⟩
  | .local _ .vmem, ⟨3, _⟩ => ⟨S32x5120, .f32⟩
  | .local _ .vmem, ⟨4, _⟩ => ⟨S128x1024, .f32⟩
  | .local _ .vmem, ⟨5, _⟩ => ⟨S128x1024, .f32⟩
  | .local _ .vmem, ⟨6, _⟩ => ⟨S32x1024, .f32⟩
  | .local _ .vmem, ⟨7, _⟩ => ⟨S32x1024, .f32⟩
  | .local _ .vmem, ⟨8, _⟩ => ⟨S128x1024, .f32⟩
  | .local _ .vmem, ⟨9, _⟩ => ⟨S128x1024, .f32⟩
  | .local _ .vmem, ⟨10, _⟩ => ⟨S32x1024, .f32⟩
  | .local _ .vmem, ⟨11, _⟩ => ⟨S32x1024, .f32⟩
  | .local _ .vmem, ⟨12, _⟩ => ⟨S128x1024, .bf16⟩
  | .local _ .vmem, ⟨13, _⟩ => ⟨S128x1024, .bf16⟩
  | .local _ .vmem, ⟨14, _⟩ => ⟨S3x1024, .f32⟩
  | .local _ .vmem, ⟨15, _⟩ => ⟨S31x1024, .f32⟩
  | .local _ .vmem, ⟨16, _⟩ => ⟨S128x5120, .bf16⟩
  | .local _ .vmem, ⟨17, _⟩ => ⟨S128x5120, .bf16⟩
  | .local _ .vmem, ⟨18, _⟩ => ⟨S1x5120, .f32⟩
  | .local _ .vmem, ⟨19, _⟩ => ⟨S3x1024, .f32⟩
  | .local _ .vmem, ⟨20, _⟩ => ⟨S31x1024, .f32⟩
  | .local _ .vmem, ⟨21, _⟩ => ⟨S160x1024, .f32⟩
  | .local _ .vmem, ⟨22, _⟩ => ⟨S160x1024, .f32⟩
  | .local _ .vmem, ⟨23, _⟩ => ⟨S160x1024, .f32⟩
  | .local _ .vmem, ⟨24, _⟩ => ⟨S160x1024, .f32⟩
  | .local _ .vmem, ⟨25, _⟩ => ⟨S7x152x1024, .f32⟩
  | .local _ .vmem, ⟨26, _⟩ => ⟨S7x152x1024, .f32⟩
  | _, _ => ⟨S4224x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c131_i32 : BitVec 32 := 131#32
  let v2 : BitVec 32 := Scalar.minsi v1 c131_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c131_i32 : BitVec 32 := 131#32
  let v2 : BitVec 32 := Scalar.minsi v1 c131_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S31x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x5120 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S31x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel3.lean ====
abbrev S4224x2048 : Shape := ⟨2, ![4224, 2048]⟩
abbrev S4224x5632 : Shape := ⟨2, ![4224, 5632]⟩
abbrev S4x2x1024x1408 : Shape := ⟨4, ![4, 2, 1024, 1408]⟩
abbrev S4224x512 : Shape := ⟨2, ![4224, 512]⟩
abbrev S4224x1408 : Shape := ⟨2, ![4224, 1408]⟩
abbrev S1x1x512x1408 : Shape := ⟨4, ![1, 1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x5632, .bf16⟩
  | .hbm, ⟨2, _⟩ => ⟨S4x2x1024x1408, .f32⟩
  | .local _ .vmem, ⟨0, _⟩ => ⟨S4224x512, .bf16⟩
  | .local _ .vmem, ⟨1, _⟩ => ⟨S4224x512, .bf16⟩
  | .local _ .vmem, ⟨2, _⟩ => ⟨S4224x1408, .bf16⟩
  | .local _ .vmem, ⟨3, _⟩ => ⟨S4224x1408, .bf16⟩
  | .local _ .vmem, ⟨4, _⟩ => ⟨S1x1x512x1408, .f32⟩
  | .local _ .vmem, ⟨5, _⟩ => ⟨S1x1x512x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, v26.toNat, c0_i32_10.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4224x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4224x2048 : Shape := ⟨2, ![4224, 2048]⟩
abbrev S4224x5632 : Shape := ⟨2, ![4224, 5632]⟩
abbrev S_ : Shape := ⟨0, ![]⟩
abbrev S2048x5632 : Shape := ⟨2, ![2048, 5632]⟩
abbrev S5632x2048 : Shape := ⟨2, ![5632, 2048]⟩
abbrev S2x1024x4x1408 : Shape := ⟨4, ![2, 1024, 4, 1408]⟩
abbrev S4x2x1024x1408 : Shape := ⟨4, ![4, 2, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x5632, .bf16⟩
  | .hbm, ⟨2, _⟩ => ⟨S_, .f32⟩
  | .hbm, ⟨3, _⟩ => ⟨S2048x5632, .f32⟩
  | .hbm, ⟨4, _⟩ => ⟨S4224x2048, .f32⟩
  | .hbm, ⟨5, _⟩ => ⟨S4224x5632, .f32⟩
  | .hbm, ⟨6, _⟩ => ⟨S4224x5632, .f32⟩
  | .hbm, ⟨7, _⟩ => ⟨S5632x2048, .f32⟩
  | .hbm, ⟨8, _⟩ => ⟨S2048x5632, .f32⟩
  | .hbm, ⟨9, _⟩ => ⟨S2x1024x4x1408, .f32⟩
  | .hbm, ⟨10, _⟩ => ⟨S4x2x1024x1408, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4224x5632 : Shape := ⟨2, ![4224, 5632]⟩
abbrev S4x2048x1408 : Shape := ⟨3, ![4, 2048, 1408]⟩
abbrev S8x128 : Shape := ⟨2, ![8, 128]⟩
abbrev S4224x2048 : Shape := ⟨2, ![4224, 2048]⟩
abbrev S1408x1408 : Shape := ⟨2, ![1408, 1408]⟩
abbrev S1x1024x1408 : Shape := ⟨3, ![1, 1024, 1408]⟩
abbrev S1408x1024 : Shape := ⟨2, ![1408, 1024]⟩
abbrev S1408x1280 : Shape := ⟨2, ![1408, 1280]⟩
abbrev S1x1024x1280 : Shape := ⟨3, ![1, 1024, 1280]⟩
abbrev S1024x1280 : Shape := ⟨2, ![1024, 1280]⟩
abbrev S1408x128 : Shape := ⟨2, ![1408, 128]⟩
abbrev S1408x256 : Shape := ⟨2, ![1408, 256]⟩
abbrev S1x1024x128 : Shape := ⟨3, ![1, 1024, 128]⟩
abbrev S1024x128 : Shape := ⟨2, ![1024, 128]⟩
abbrev S1024x256 : Shape := ⟨2, ![1024, 256]⟩

abbrev nBuf : Space → Nat
  | .hbm => 6
  | .vmem => 11
  | .smem => 0
  | _ => 0

abbrev bufTy : (tb : Table) → Fin (tcTables nBuf tb) → BufTy
  | .hbm, ⟨0, _⟩ => ⟨S4224x5632, .bf16⟩
  | .hbm, ⟨1, _⟩ => ⟨S4224x5632, .bf16⟩
  | .hbm, ⟨2, _⟩ => ⟨S4x2048x1408, .bf16⟩
  | .hbm, ⟨3, _⟩ => ⟨S4x2048x1408, .bf16⟩
  | .hbm, ⟨4, _⟩ => ⟨S8x128, .f32⟩
  | .hbm, ⟨5, _⟩ => ⟨S4224x2048, .f32⟩
  | .local _ .vmem, ⟨0, _⟩ => ⟨S1408x1408, .bf16⟩
  | .local _ .vmem, ⟨1, _⟩ => ⟨S1408x1408, .bf16⟩
  | .local _ .vmem, ⟨2, _⟩ => ⟨S1408x1408, .bf16⟩
  | .local _ .vmem, ⟨3, _⟩ => ⟨S1408x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S8x128, .f32⟩
  | .local _ .vmem, ⟨9, _⟩ => ⟨S1408x1024, .f32⟩
  | .local _ .vmem, ⟨10, _⟩ => ⟨S1408x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 3, 4], ![false, false, false]⟩

def k0_cond1 (i : grid0.Coords) : BitVec 1 :=
  let arg2 : BitVec 32 := BitVec.ofNat 32 (i 2).val
  let c0_i32 : BitVec 32 := 0#32
  let v19 : BitVec 1 := Scalar.cmpi .eq arg2 c0_i32
  let v20 : BitVec 32 := Scalar.extui v19
  let c0_i32_20 : BitVec 32 := 0#32
  let v21 : BitVec 1 := Scalar.cmpi .ne v20 c0_i32_20
  v21

def k0_cond2 (i : grid0.Coords) : BitVec 1 :=
  let arg2 : BitVec 32 := BitVec.ofNat 32 (i 2).val
  let c0_i32_21 : BitVec 32 := 0#32
  let v22 : BitVec 1 := Scalar.cmpi .sgt arg2 c0_i32_21
  let v23 : BitVec 32 := Scalar.extui v22
  let c0_i32_22 : BitVec 32 := 0#32
  let v24 : BitVec 1 := Scalar.cmpi .ne v23 c0_i32_22
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1408x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S4224x5632 : Shape := ⟨2, ![4224, 5632]⟩
abbrev S4x2048x1408 : Shape := ⟨3, ![4, 2048, 1408]⟩
abbrev S8x128 : Shape := ⟨2, ![8, 128]⟩
abbrev S_ : Shape := ⟨0, ![]⟩
abbrev S4224x2048 : Shape := ⟨2, ![4224, 2048]⟩
abbrev S2048x4x1408 : Shape := ⟨3, ![2048, 4, 1408]⟩
abbrev S2048x5632 : Shape := ⟨2, ![2048, 5632]⟩

abbrev nBuf : Space → Nat
  | .hbm => 20
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x5632, .bf16⟩
  | .hbm, ⟨2, _⟩ => ⟨S4x2048x1408, .bf16⟩
  | .hbm, ⟨3, _⟩ => ⟨S4x2048x1408, .bf16⟩
  | .hbm, ⟨4, _⟩ => ⟨S8x128, .f32⟩
  | .hbm, ⟨5, _⟩ => ⟨S_, .f32⟩
  | .hbm, ⟨6, _⟩ => ⟨S4224x2048, .f32⟩
  | .hbm, ⟨7, _⟩ => ⟨S4x2048x1408, .f32⟩
  | .hbm, ⟨8, _⟩ => ⟨S2048x4x1408, .f32⟩
  | .hbm, ⟨9, _⟩ => ⟨S2048x5632, .f32⟩
  | .hbm, ⟨10, _⟩ => ⟨S4x2048x1408, .f32⟩
  | .hbm, ⟨11, _⟩ => ⟨S2048x4x1408, .f32⟩
  | .hbm, ⟨12, _⟩ => ⟨S2048x5632, .f32⟩
  | .hbm, ⟨13, _⟩ => ⟨S4224x5632, .f32⟩
  | .hbm, ⟨14, _⟩ => ⟨S4224x5632, .f32⟩
  | .hbm, ⟨15, _⟩ => ⟨S4224x5632, .f32⟩
  | .hbm, ⟨16, _⟩ => ⟨S4224x5632, .f32⟩
  | .hbm, ⟨17, _⟩ => ⟨S4224x2048, .f32⟩
  | .hbm, ⟨18, _⟩ => ⟨S4224x2048, .f32⟩
  | .hbm, ⟨19, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S4224x2048 : Shape := ⟨2, ![4224, 2048]⟩
abbrev S5632x2048 : Shape := ⟨2, ![5632, 2048]⟩
abbrev S4224x5632 : Shape := ⟨2, ![4224, 5632]⟩
abbrev S8x128 : Shape := ⟨2, ![8, 128]⟩
abbrev S1408x2048 : Shape := ⟨2, ![1408, 2048]⟩
abbrev S512x2048 : Shape := ⟨2, ![512, 2048]⟩
abbrev S1408x512 : Shape := ⟨2, ![1408, 512]⟩
abbrev S352x2048 : Shape := ⟨2, ![352, 2048]⟩
abbrev S256x2048 : Shape := ⟨2, ![256, 2048]⟩
abbrev S352x256 : Shape := ⟨2, ![352, 256]⟩

abbrev nBuf : Space → Nat
  | .hbm => 7
  | .vmem => 13
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S4224x5632, .bf16⟩
  | .hbm, ⟨3, _⟩ => ⟨S4224x5632, .bf16⟩
  | .hbm, ⟨4, _⟩ => ⟨S8x128, .f32⟩
  | .hbm, ⟨5, _⟩ => ⟨S4224x5632, .bf16⟩
  | .hbm, ⟨6, _⟩ => ⟨S4224x5632, .bf16⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .bf16⟩
  | .local _ .vmem, ⟨7, _⟩ => ⟨S1408x512, .bf16⟩
  | .local _ .vmem, ⟨8, _⟩ => ⟨S8x128, .f32⟩
  | .local _ .vmem, ⟨9, _⟩ => ⟨S1408x512, .bf16⟩
  | .local _ .vmem, ⟨10, _⟩ => ⟨S1408x512, .bf16⟩
  | .local _ .vmem, ⟨11, _⟩ => ⟨S1408x512, .bf16⟩
  | .local _ .vmem, ⟨12, _⟩ => ⟨S1408x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1408x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S4224x2048 : Shape := ⟨2, ![4224, 2048]⟩
abbrev S5632x2048 : Shape := ⟨2, ![5632, 2048]⟩
abbrev S4224x5632 : Shape := ⟨2, ![4224, 5632]⟩
abbrev S8x128 : Shape := ⟨2, ![8, 128]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S4224x5632, .bf16⟩
  | .hbm, ⟨3, _⟩ => ⟨S4224x5632, .bf16⟩
  | .hbm, ⟨4, _⟩ => ⟨S8x128, .f32⟩
  | .hbm, ⟨5, _⟩ => ⟨S4224x5632, .f32⟩
  | .hbm, ⟨6, _⟩ => ⟨S4224x5632, .f32⟩
  | .hbm, ⟨7, _⟩ => ⟨S5632x2048, .f32⟩
  | .hbm, ⟨8, _⟩ => ⟨S4224x5632, .f32⟩
  | .hbm, ⟨9, _⟩ => ⟨S4224x5632, .f32⟩
  | .hbm, ⟨10, _⟩ => ⟨S_, .f32⟩
  | .hbm, ⟨11, _⟩ => ⟨S4224x5632, .f32⟩
  | .hbm, ⟨12, _⟩ => ⟨S4224x5632, .f32⟩
  | .hbm, ⟨13, _⟩ => ⟨S_, .f32⟩
  | .hbm, ⟨14, _⟩ => ⟨S4224x5632, .f32⟩
  | .hbm, ⟨15, _⟩ => ⟨S4224x5632, .f32⟩
  | .hbm, ⟨16, _⟩ => ⟨S_, .f32⟩
  | .hbm, ⟨17, _⟩ => ⟨S4224x5632, .f32⟩
  | .hbm, ⟨18, _⟩ => ⟨S4224x5632, .f32⟩
  | .hbm, ⟨19, _⟩ => ⟨S4224x5632, .f32⟩
  | .hbm, ⟨20, _⟩ => ⟨S4224x5632, .f32⟩
  | .hbm, ⟨21, _⟩ => ⟨S4224x5632, .f32⟩
  | .hbm, ⟨22, _⟩ => ⟨S4224x2048, .f32⟩
  | .hbm, ⟨23, _⟩ => ⟨S4224x2048, .f32⟩
  | .hbm, ⟨24, _⟩ => ⟨S4224x5632, .f32⟩
  | .hbm, ⟨25, _⟩ => ⟨S4224x5632, .f32⟩
  | .hbm, ⟨26, _⟩ => ⟨S4224x5632, .f32⟩
  | .hbm, ⟨27, _⟩ => ⟨S4224x5632, .f32⟩
  | .hbm, ⟨28, _⟩ => ⟨S4224x5632, .f32⟩
  | .hbm, ⟨29, _⟩ => ⟨S4224x5632, .f32⟩
  | .hbm, ⟨30, _⟩ => ⟨S4224x5632, .f32⟩
  | .hbm, ⟨31, _⟩ => ⟨S4224x5632, .bf16⟩
  | .hbm, ⟨32, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Kernel6.lean ====
abbrev S4224x5632 : Shape := ⟨2, ![4224, 5632]⟩
abbrev S4224x2048 : Shape := ⟨2, ![4224, 2048]⟩
abbrev S4x2x704x2048 : Shape := ⟨4, ![4, 2, 704, 2048]⟩
abbrev S4224x1408 : Shape := ⟨2, ![4224, 1408]⟩
abbrev S4224x512 : Shape := ⟨2, ![4224, 512]⟩
abbrev S1x2x704x512 : Shape := ⟨4, ![1, 2, 704, 512]⟩
abbrev S1408x512 : Shape := ⟨2, ![1408, 512]⟩
abbrev S2x704x512 : Shape := ⟨3, ![2, 704, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S4x2x704x2048, .f32⟩
  | .local _ .vmem, ⟨0, _⟩ => ⟨S4224x1408, .bf16⟩
  | .local _ .vmem, ⟨1, _⟩ => ⟨S4224x1408, .bf16⟩
  | .local _ .vmem, ⟨2, _⟩ => ⟨S4224x512, .bf16⟩
  | .local _ .vmem, ⟨3, _⟩ => ⟨S4224x512, .bf16⟩
  | .local _ .vmem, ⟨4, _⟩ => ⟨S1x2x704x512, .f32⟩
  | .local _ .vmem, ⟨5, _⟩ => ⟨S1x2x704x512, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S4224x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2x704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩
abbrev S4x2x704x2048 : Shape := ⟨4, ![4, 2, 704, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S_, .f32⟩
  | .hbm, ⟨3, _⟩ => ⟨S5632x2048, .f32⟩
  | .hbm, ⟨4, _⟩ => ⟨S4224x5632, .f32⟩
  | .hbm, ⟨5, _⟩ => ⟨S4224x2048, .f32⟩
  | .hbm, ⟨6, _⟩ => ⟨S4224x2048, .f32⟩
  | .hbm, ⟨7, _⟩ => ⟨S2048x5632, .f32⟩
  | .hbm, ⟨8, _⟩ => ⟨S5632x2048, .f32⟩
  | .hbm, ⟨9, _⟩ => ⟨S4x2x704x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4224x2048 : Shape := ⟨2, ![4224, 2048]⟩
abbrev S4x2x256x2048 : Shape := ⟨4, ![4, 2, 256, 2048]⟩
abbrev S4224x1024 : Shape := ⟨2, ![4224, 1024]⟩
abbrev S2x2x256x1024 : Shape := ⟨4, ![2, 2, 256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S4x2x256x2048, .f32⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S2x2x256x1024, .f32⟩
  | .local _ .vmem, ⟨5, _⟩ => ⟨S2x2x256x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x2048 : Shape := ⟨2, ![4224, 2048]⟩
abbrev S_ : Shape := ⟨0, ![]⟩
abbrev S2048x2048 : Shape := ⟨2, ![2048, 2048]⟩
abbrev S4x2x256x2048 : Shape := ⟨4, ![4, 2, 256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S4224x2048, .f32⟩
  | .hbm, ⟨6, _⟩ => ⟨S4224x2048, .f32⟩
  | .hbm, ⟨7, _⟩ => ⟨S2048x2048, .f32⟩
  | .hbm, ⟨8, _⟩ => ⟨S2048x2048, .f32⟩
  | .hbm, ⟨9, _⟩ => ⟨S4x2x256x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4224x2048 : Shape := ⟨2, ![4224, 2048]⟩
abbrev S4x2048x1280 : Shape := ⟨3, ![4, 2048, 1280]⟩
abbrev S1x5120 : Shape := ⟨2, ![1, 5120]⟩
abbrev S4224x5120 : Shape := ⟨2, ![4224, 5120]⟩
abbrev S704x2048 : Shape := ⟨2, ![704, 2048]⟩
abbrev S1x2048x1280 : Shape := ⟨3, ![1, 2048, 1280]⟩
abbrev S1x1280 : Shape := ⟨2, ![1, 1280]⟩
abbrev S704x1280 : Shape := ⟨2, ![704, 1280]⟩
abbrev S2048x1280 : Shape := ⟨2, ![2048, 1280]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S4x2048x1280, .bf16⟩
  | .hbm, ⟨2, _⟩ => ⟨S1x5120, .f32⟩
  | .hbm, ⟨3, _⟩ => ⟨S4224x5120, .f32⟩
  | .local _ .vmem, ⟨0, _⟩ => ⟨S704x2048, .bf16⟩
  | .local _ .vmem, ⟨1, _⟩ => ⟨S704x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1x1280, .f32⟩
  | .local _ .vmem, ⟨5, _⟩ => ⟨S1x1280, .f32⟩
  | .local _ .vmem, ⟨6, _⟩ => ⟨S704x1280, .f32⟩
  | .local _ .vmem, ⟨7, _⟩ => ⟨S704x1280, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S704x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4224x2048 : Shape := ⟨2, ![4224, 2048]⟩
abbrev S4x2048x1280 : Shape := ⟨3, ![4, 2048, 1280]⟩
abbrev S1x5120 : Shape := ⟨2, ![1, 5120]⟩
abbrev S2048x4x1280 : Shape := ⟨3, ![2048, 4, 1280]⟩
abbrev S2048x5120 : Shape := ⟨2, ![2048, 5120]⟩
abbrev S4224x5120 : Shape := ⟨2, ![4224, 5120]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x2048x1280, .bf16⟩
  | .hbm, ⟨2, _⟩ => ⟨S1x5120, .f32⟩
  | .hbm, ⟨3, _⟩ => ⟨S4224x2048, .f32⟩
  | .hbm, ⟨4, _⟩ => ⟨S4x2048x1280, .f32⟩
  | .hbm, ⟨5, _⟩ => ⟨S2048x4x1280, .f32⟩
  | .hbm, ⟨6, _⟩ => ⟨S2048x5120, .f32⟩
  | .hbm, ⟨7, _⟩ => ⟨S4224x5120, .f32⟩
  | .hbm, ⟨8, _⟩ => ⟨S4224x5120, .f32⟩
  | .hbm, ⟨9, _⟩ => ⟨S4224x5120, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4224x2048 : Shape := ⟨2, ![4224, 2048]⟩
abbrev S4x512x2048 : Shape := ⟨3, ![4, 512, 2048]⟩
abbrev S8x128 : Shape := ⟨2, ![8, 128]⟩
abbrev S1x2048x2048 : Shape := ⟨3, ![1, 2048, 2048]⟩
abbrev S1408x2048 : Shape := ⟨2, ![1408, 2048]⟩
abbrev S1x1024x2048 : Shape := ⟨3, ![1, 1024, 2048]⟩
abbrev S1408x1024 : Shape := ⟨2, ![1408, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4x512x2048, .bf16⟩
  | .hbm, ⟨2, _⟩ => ⟨S8x128, .f32⟩
  | .hbm, ⟨3, _⟩ => ⟨S1x2048x2048, .bf16⟩
  | .hbm, ⟨4, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S8x128, .f32⟩
  | .local _ .vmem, ⟨5, _⟩ => ⟨S1408x1024, .f32⟩
  | .local _ .vmem, ⟨6, _⟩ => ⟨S1408x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 3, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4224x2048 : Shape := ⟨2, ![4224, 2048]⟩
abbrev S4x512x2048 : Shape := ⟨3, ![4, 512, 2048]⟩
abbrev S8x128 : Shape := ⟨2, ![8, 128]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x512x2048, .bf16⟩
  | .hbm, ⟨2, _⟩ => ⟨S8x128, .f32⟩
  | .hbm, ⟨3, _⟩ => ⟨S_, .f32⟩
  | .hbm, ⟨4, _⟩ => ⟨S4224x2048, .f32⟩
  | .hbm, ⟨5, _⟩ => ⟨S4x512x2048, .f32⟩
  | .hbm, ⟨6, _⟩ => ⟨S2048x2048, .f32⟩
  | .hbm, ⟨7, _⟩ => ⟨S4224x2048, .f32⟩
  | .hbm, ⟨8, _⟩ => ⟨S4224x2048, .f32⟩
  | .hbm, ⟨9, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S4224x5120 : Shape := ⟨2, ![4224, 5120]⟩
abbrev S4x2048x1280 : Shape := ⟨3, ![4, 2048, 1280]⟩
abbrev S8x128 : Shape := ⟨2, ![8, 128]⟩
abbrev S4224x2048 : Shape := ⟨2, ![4224, 2048]⟩
abbrev S1408x1280 : Shape := ⟨2, ![1408, 1280]⟩
abbrev S1x1024x1280 : Shape := ⟨3, ![1, 1024, 1280]⟩
abbrev S1408x1024 : Shape := ⟨2, ![1408, 1024]⟩
abbrev S1024x1280 : Shape := ⟨2, ![1024, 1280]⟩

abbrev nBuf : Space → Nat
  | .hbm => 4
  | .vmem => 7
  | .smem => 0
  | _ => 0

abbrev bufTy : (tb : Table) → Fin (tcTables nBuf tb) → BufTy
  | .hbm, ⟨0, _⟩ => ⟨S4224x5120, .bf16⟩
  | .hbm, ⟨1, _⟩ => ⟨S4x2048x1280, .bf16⟩
  | .hbm, ⟨2, _⟩ => ⟨S8x128, .f32⟩
  | .hbm, ⟨3, _⟩ => ⟨S4224x2048, .f32⟩
  | .local _ .vmem, ⟨0, _⟩ => ⟨S1408x1280, .bf16⟩
  | .local _ .vmem, ⟨1, _⟩ => ⟨S1408x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S8x128, .f32⟩
  | .local _ .vmem, ⟨5, _⟩ => ⟨S1408x1024, .f32⟩
  | .local _ .vmem, ⟨6, _⟩ => ⟨S1408x1024, .f32⟩
  | _, _ => ⟨S4224x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 3, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4224x5120 : Shape := ⟨2, ![4224, 5120]⟩
abbrev S4x2048x1280 : Shape := ⟨3, ![4, 2048, 1280]⟩
abbrev S8x128 : Shape := ⟨2, ![8, 128]⟩
abbrev S2048x4x1280 : Shape := ⟨3, ![2048, 4, 1280]⟩
abbrev S2048x5120 : Shape := ⟨2, ![2048, 5120]⟩
abbrev S_ : Shape := ⟨0, ![]⟩
abbrev S4224x2048 : Shape := ⟨2, ![4224, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x5120, .bf16⟩
  | .hbm, ⟨1, _⟩ => ⟨S4x2048x1280, .bf16⟩
  | .hbm, ⟨2, _⟩ => ⟨S8x128, .f32⟩
  | .hbm, ⟨3, _⟩ => ⟨S4x2048x1280, .f32⟩
  | .hbm, ⟨4, _⟩ => ⟨S2048x4x1280, .f32⟩
  | .hbm, ⟨5, _⟩ => ⟨S2048x5120, .f32⟩
  | .hbm, ⟨6, _⟩ => ⟨S_, .f32⟩
  | .hbm, ⟨7, _⟩ => ⟨S4224x2048, .f32⟩
  | .hbm, ⟨8, _⟩ => ⟨S4224x5120, .f32⟩
  | .hbm, ⟨9, _⟩ => ⟨S4224x5120, .f32⟩
  | .hbm, ⟨10, _⟩ => ⟨S4224x2048, .f32⟩
  | _, _ => ⟨S4224x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel12.lean ====
abbrev S4224x2048 : Shape := ⟨2, ![4224, 2048]⟩
abbrev S4224x5120 : Shape := ⟨2, ![4224, 5120]⟩
abbrev S4x2x1024x1280 : Shape := ⟨4, ![4, 2, 1024, 1280]⟩
abbrev S4224x512 : Shape := ⟨2, ![4224, 512]⟩
abbrev S4224x1280 : Shape := ⟨2, ![4224, 1280]⟩
abbrev S1x1x512x1280 : Shape := ⟨4, ![1, 1, 512, 1280]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x5120, .bf16⟩
  | .hbm, ⟨2, _⟩ => ⟨S4x2x1024x1280, .f32⟩
  | .local _ .vmem, ⟨0, _⟩ => ⟨S4224x512, .bf16⟩
  | .local _ .vmem, ⟨1, _⟩ => ⟨S4224x512, .bf16⟩
  | .local _ .vmem, ⟨2, _⟩ => ⟨S4224x1280, .bf16⟩
  | .local _ .vmem, ⟨3, _⟩ => ⟨S4224x1280, .bf16⟩
  | .local _ .vmem, ⟨4, _⟩ => ⟨S1x1x512x1280, .f32⟩
  | .local _ .vmem, ⟨5, _⟩ => ⟨S1x1x512x1280, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, v26.toNat, c0_i32_10.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4224x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4224x2048 : Shape := ⟨2, ![4224, 2048]⟩
abbrev S4224x5120 : Shape := ⟨2, ![4224, 5120]⟩
abbrev S_ : Shape := ⟨0, ![]⟩
abbrev S2048x5120 : Shape := ⟨2, ![2048, 5120]⟩
abbrev S5120x2048 : Shape := ⟨2, ![5120, 2048]⟩
abbrev S2x1024x4x1280 : Shape := ⟨4, ![2, 1024, 4, 1280]⟩
abbrev S4x2x1024x1280 : Shape := ⟨4, ![4, 2, 1024, 1280]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x5120, .bf16⟩
  | .hbm, ⟨2, _⟩ => ⟨S_, .f32⟩
  | .hbm, ⟨3, _⟩ => ⟨S2048x5120, .f32⟩
  | .hbm, ⟨4, _⟩ => ⟨S4224x2048, .f32⟩
  | .hbm, ⟨5, _⟩ => ⟨S4224x5120, .f32⟩
  | .hbm, ⟨6, _⟩ => ⟨S4224x5120, .f32⟩
  | .hbm, ⟨7, _⟩ => ⟨S5120x2048, .f32⟩
  | .hbm, ⟨8, _⟩ => ⟨S2048x5120, .f32⟩
  | .hbm, ⟨9, _⟩ => ⟨S2x1024x4x1280, .f32⟩
  | .hbm, ⟨10, _⟩ => ⟨S4x2x1024x1280, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4224x5632 : Shape := ⟨2, ![4224, 5632]⟩
abbrev S4x1408x2048 : Shape := ⟨3, ![4, 1408, 2048]⟩
abbrev S4224x2048 : Shape := ⟨2, ![4224, 2048]⟩
abbrev S5632x2048 : Shape := ⟨2, ![5632, 2048]⟩
abbrev S704x5632 : Shape := ⟨2, ![704, 5632]⟩
abbrev S5632x512 : Shape := ⟨2, ![5632, 512]⟩
abbrev S704x512 : Shape := ⟨2, ![704, 512]⟩

abbrev nBuf : Space → Nat
  | .hbm => 5
  | .vmem => 8
  | .smem => 0
  | _ => 0

abbrev bufTy : (tb : Table) → Fin (tcTables nBuf tb) → BufTy
  | .hbm, ⟨0, _⟩ => ⟨S4224x5632, .bf16⟩
  | .hbm, ⟨1, _⟩ => ⟨S4x1408x2048, .bf16⟩
  | .hbm, ⟨2, _⟩ => ⟨S4224x2048, .f32⟩
  | .hbm, ⟨3, _⟩ => ⟨S5632x2048, .bf16⟩
  | .hbm, ⟨4, _⟩ => ⟨S4224x2048, .f32⟩
  | .local _ .vmem, ⟨0, _⟩ => ⟨S704x5632, .bf16⟩
  | .local _ .vmem, ⟨1, _⟩ => ⟨S704x5632, .bf16⟩
  | .local _ .vmem, ⟨2, _⟩ => ⟨S5632x512, .bf16⟩
  | .local _ .vmem, ⟨3, _⟩ => ⟨S5632x512, .bf16⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S704x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S4224x5632 : Shape := ⟨2, ![4224, 5632]⟩
abbrev S4x1408x2048 : Shape := ⟨3, ![4, 1408, 2048]⟩
abbrev S4224x2048 : Shape := ⟨2, ![4224, 2048]⟩
abbrev S5632x2048 : Shape := ⟨2, ![5632, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4x1408x2048, .bf16⟩
  | .hbm, ⟨2, _⟩ => ⟨S4224x2048, .f32⟩
  | .hbm, ⟨3, _⟩ => ⟨S4224x5632, .f32⟩
  | .hbm, ⟨4, _⟩ => ⟨S4x1408x2048, .f32⟩
  | .hbm, ⟨5, _⟩ => ⟨S5632x2048, .f32⟩
  | .hbm, ⟨6, _⟩ => ⟨S4224x2048, .f32⟩
  | .hbm, ⟨7, _⟩ => ⟨S_, .f32⟩
  | .hbm, ⟨8, _⟩ => ⟨S4224x2048, .f32⟩
  | .hbm, ⟨9, _⟩ => ⟨S4224x2048, .f32⟩
  | .hbm, ⟨10, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel15.lean ====
abbrev S4224x2048 : Shape := ⟨2, ![4224, 2048]⟩
abbrev S4x512x2048 : Shape := ⟨3, ![4, 512, 2048]⟩
abbrev S1x2048 : Shape := ⟨2, ![1, 2048]⟩
abbrev S8x128 : Shape := ⟨2, ![8, 128]⟩
abbrev S2048x2048 : Shape := ⟨2, ![2048, 2048]⟩
abbrev S352x2048 : Shape := ⟨2, ![352, 2048]⟩
abbrev S352 : Shape := ⟨1, ![352]⟩
abbrev S352x1 : Shape := ⟨2, ![352, 1]⟩

abbrev nBuf : Space → Nat
  | .hbm => 8
  | .vmem => 11
  | .smem => 0
  | _ => 0

abbrev bufTy : (tb : Table) → Fin (tcTables nBuf tb) → BufTy
  | .hbm, ⟨0, _⟩ => ⟨S4224x2048, .bf16⟩
  | .hbm, ⟨1, _⟩ => ⟨S4x512x2048, .bf16⟩
  | .hbm, ⟨2, _⟩ => ⟨S4224x2048, .f32⟩
  | .hbm, ⟨3, _⟩ => ⟨S1x2048, .f32⟩
  | .hbm, ⟨4, _⟩ => ⟨S8x128, .f32⟩
  | .hbm, ⟨5, _⟩ => ⟨S2048x2048, .bf16⟩
  | .hbm, ⟨6, _⟩ => ⟨S4224x2048, .f32⟩
  | .hbm, ⟨7, _⟩ => ⟨S4224x2048, .bf16⟩
  | .local _ .vmem, ⟨0, _⟩ => ⟨S352x2048, .bf16⟩
  | .local _ .vmem, ⟨1, _⟩ => ⟨S352x2048, .bf16⟩
  | .local _ .vmem, ⟨2, _⟩ => ⟨S2048x2048, .bf16⟩
  | .local _ .vmem, ⟨3, _⟩ => ⟨S352x2048, .f32⟩
  | .local _ .vmem, ⟨4, _⟩ => ⟨S352x2048, .f32⟩
  | .local _ .vmem, ⟨5, _⟩ => ⟨S1x2048, .f32⟩
  | .local _ .vmem, ⟨6, _⟩ => ⟨S8x128, .f32⟩
  | .local _ .vmem, ⟨7, _⟩ => ⟨S352x2048, .f32⟩
  | .local _ .vmem, ⟨8, _⟩ => ⟨S352x2048, .f32⟩
  | .local _ .vmem, ⟨9, _⟩ => ⟨S352x2048, .bf16⟩
  | .local _ .vmem, ⟨10, _⟩ => ⟨S352x2048, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S352x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4224x2048 : Shape := ⟨2, ![4224, 2048]⟩
abbrev S4x512x2048 : Shape := ⟨3, ![4, 512, 2048]⟩
abbrev S1x2048 : Shape := ⟨2, ![1, 2048]⟩
abbrev S8x128 : Shape := ⟨2, ![8, 128]⟩
abbrev S2048x2048 : Shape := ⟨2, ![2048, 2048]⟩
abbrev S_ : Shape := ⟨0, ![]⟩
abbrev S4224 : Shape := ⟨1, ![4224]⟩
abbrev S4224x1 : Shape := ⟨2, ![4224, 1]⟩

abbrev nBuf : Space → Nat
  | .hbm => 26
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x512x2048, .bf16⟩
  | .hbm, ⟨2, _⟩ => ⟨S4224x2048, .f32⟩
  | .hbm, ⟨3, _⟩ => ⟨S1x2048, .f32⟩
  | .hbm, ⟨4, _⟩ => ⟨S8x128, .f32⟩
  | .hbm, ⟨5, _⟩ => ⟨S4224x2048, .f32⟩
  | .hbm, ⟨6, _⟩ => ⟨S4x512x2048, .f32⟩
  | .hbm, ⟨7, _⟩ => ⟨S2048x2048, .f32⟩
  | .hbm, ⟨8, _⟩ => ⟨S4224x2048, .f32⟩
  | .hbm, ⟨9, _⟩ => ⟨S4224x2048, .f32⟩
  | .hbm, ⟨10, _⟩ => ⟨S4224x2048, .f32⟩
  | .hbm, ⟨11, _⟩ => ⟨S_, .f32⟩
  | .hbm, ⟨12, _⟩ => ⟨S4224, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S4224x2048, .f32⟩
  | .hbm, ⟨25, _⟩ => ⟨S4224x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel16.lean ====
abbrev S4224x2048 : Shape := ⟨2, ![4224, 2048]⟩
abbrev S4224x5632 : Shape := ⟨2, ![4224, 5632]⟩
abbrev S8x128 : Shape := ⟨2, ![8, 128]⟩
abbrev S4x2x1024x1408 : Shape := ⟨4, ![4, 2, 1024, 1408]⟩
abbrev S4224x512 : Shape := ⟨2, ![4224, 512]⟩
abbrev S4224x1408 : Shape := ⟨2, ![4224, 1408]⟩
abbrev S1x1x512x1408 : Shape := ⟨4, ![1, 1, 512, 1408]⟩
abbrev S512x1408 : Shape := ⟨2, ![512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x5632, .bf16⟩
  | .hbm, ⟨2, _⟩ => ⟨S8x128, .f32⟩
  | .hbm, ⟨3, _⟩ => ⟨S4x2x1024x1408, .f32⟩
  | .local _ .vmem, ⟨0, _⟩ => ⟨S4224x512, .bf16⟩
  | .local _ .vmem, ⟨1, _⟩ => ⟨S4224x512, .bf16⟩
  | .local _ .vmem, ⟨2, _⟩ => ⟨S4224x1408, .bf16⟩
  | .local _ .vmem, ⟨3, _⟩ => ⟨S4224x1408, .bf16⟩
  | .local _ .vmem, ⟨4, _⟩ => ⟨S8x128, .f32⟩
  | .local _ .vmem, ⟨5, _⟩ => ⟨S1x1x512x1408, .f32⟩
  | .local _ .vmem, ⟨6, _⟩ => ⟨S1x1x512x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, v26.toNat, c0_i32_10.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4224x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4224x2048 : Shape := ⟨2, ![4224, 2048]⟩
abbrev S4224x5632 : Shape := ⟨2, ![4224, 5632]⟩
abbrev S8x128 : Shape := ⟨2, ![8, 128]⟩
abbrev S_ : Shape := ⟨0, ![]⟩
abbrev S2048x5632 : Shape := ⟨2, ![2048, 5632]⟩
abbrev S5632x2048 : Shape := ⟨2, ![5632, 2048]⟩
abbrev S2x1024x4x1408 : Shape := ⟨4, ![2, 1024, 4, 1408]⟩
abbrev S4x2x1024x1408 : Shape := ⟨4, ![4, 2, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x5632, .bf16⟩
  | .hbm, ⟨2, _⟩ => ⟨S8x128, .f32⟩
  | .hbm, ⟨3, _⟩ => ⟨S_, .f32⟩
  | .hbm, ⟨4, _⟩ => ⟨S2048x5632, .f32⟩
  | .hbm, ⟨5, _⟩ => ⟨S4224x2048, .f32⟩
  | .hbm, ⟨6, _⟩ => ⟨S4224x5632, .f32⟩
  | .hbm, ⟨7, _⟩ => ⟨S4224x5632, .f32⟩
  | .hbm, ⟨8, _⟩ => ⟨S5632x2048, .f32⟩
  | .hbm, ⟨9, _⟩ => ⟨S2048x5632, .f32⟩
  | .hbm, ⟨10, _⟩ => ⟨S2x1024x4x1408, .f32⟩
  | .hbm, ⟨11, _⟩ => ⟨S4x2x1024x1408, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel13.lean ====
abbrev S4224x2048 : Shape := ⟨2, ![4224, 2048]⟩
abbrev S4x2048x1408 : Shape := ⟨3, ![4, 2048, 1408]⟩
abbrev S8x128 : Shape := ⟨2, ![8, 128]⟩
abbrev S4 : Shape := ⟨1, ![4]⟩
abbrev S4224x5632 : Shape := ⟨2, ![4224, 5632]⟩
abbrev S704x2048 : Shape := ⟨2, ![704, 2048]⟩
abbrev S1x2048x1408 : Shape := ⟨3, ![1, 2048, 1408]⟩
abbrev S1 : Shape := ⟨1, ![1]⟩
abbrev S704x1408 : Shape := ⟨2, ![704, 1408]⟩
abbrev S1x2048x256 : Shape := ⟨3, ![1, 2048, 256]⟩
abbrev S2048x256 : Shape := ⟨2, ![2048, 256]⟩
abbrev S704x256 : Shape := ⟨2, ![704, 256]⟩
abbrev S1x2048x128 : Shape := ⟨3, ![1, 2048, 128]⟩
abbrev S2048x128 : Shape := ⟨2, ![2048, 128]⟩
abbrev S704x128 : Shape := ⟨2, ![704, 128]⟩

abbrev nBuf : Space → Nat
  | .hbm => 7
  | .vmem => 13
  | .smem => 1
  | _ => 0

abbrev bufTy : (tb : Table) → Fin (tcTables nBuf tb) → BufTy
  | .hbm, ⟨0, _⟩ => ⟨S4224x2048, .bf16⟩
  | .hbm, ⟨1, _⟩ => ⟨S4x2048x1408, .bf16⟩
  | .hbm, ⟨2, _⟩ => ⟨S4x2048x1408, .bf16⟩
  | .hbm, ⟨3, _⟩ => ⟨S8x128, .f32⟩
  | .hbm, ⟨4, _⟩ => ⟨S4224x5632, .bf16⟩
  | .hbm, ⟨5, _⟩ => ⟨S4224x5632, .bf16⟩
  | .hbm, ⟨6, _⟩ => ⟨S4224x5632, .bf16⟩
  | .local _ .vmem, ⟨0, _⟩ => ⟨S704x2048, .bf16⟩
  | .local _ .vmem, ⟨1, _⟩ => ⟨S704x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S8x128, .f32⟩
  | .local _ .vmem, ⟨7, _⟩ => ⟨S704x1408, .bf16⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .vmem, ⟨11, _⟩ => ⟨S704x1408, .bf16⟩
  | .local _ .vmem, ⟨12, _⟩ => ⟨S704x1408, .bf16⟩
  | .local _ .smem, ⟨0, _⟩ => ⟨S4, .i32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 6], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  ![arg1.toNat, v1.toNat]

def cc0_transform_5 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  ![arg1.toNat, v1.toNat]

def cc0_transform_6 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  ![arg1.toNat, v1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S704x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S4224x2048 : Shape := ⟨2, ![4224, 2048]⟩
abbrev S4x2048x1408 : Shape := ⟨3, ![4, 2048, 1408]⟩
abbrev S8x128 : Shape := ⟨2, ![8, 128]⟩
abbrev S2048x4x1408 : Shape := ⟨3, ![2048, 4, 1408]⟩
abbrev S2048x5632 : Shape := ⟨2, ![2048, 5632]⟩
abbrev S4224x5632 : Shape := ⟨2, ![4224, 5632]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x2048x1408, .bf16⟩
  | .hbm, ⟨2, _⟩ => ⟨S4x2048x1408, .bf16⟩
  | .hbm, ⟨3, _⟩ => ⟨S8x128, .f32⟩
  | .hbm, ⟨4, _⟩ => ⟨S4224x2048, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S4224x5632, .f32⟩
  | .hbm, ⟨9, _⟩ => ⟨S4224x2048, .f32⟩
  | .hbm, ⟨10, _⟩ => ⟨S4x2048x1408, .f32⟩
  | .hbm, ⟨11, _⟩ => ⟨S2048x4x1408, .f32⟩
  | .hbm, ⟨12, _⟩ => ⟨S2048x5632, .f32⟩
  | .hbm, ⟨13, _⟩ => ⟨S4224x5632, .f32⟩
  | .hbm, ⟨14, _⟩ => ⟨S4224x5632, .bf16⟩
  | .hbm, ⟨15, _⟩ => ⟨S4224x5632, .bf16⟩
  | .hbm, ⟨16, _⟩ => ⟨S4224x5632, .f32⟩
  | .hbm, ⟨17, _⟩ => ⟨S4224x5632, .f32⟩
  | .hbm, ⟨18, _⟩ => ⟨S_, .f32⟩
  | .hbm, ⟨19, _⟩ => ⟨S4224x5632, .f32⟩
  | .hbm, ⟨20, _⟩ => ⟨S4224x5632, .f32⟩
  | .hbm, ⟨21, _⟩ => ⟨S_, .f32⟩
  | .hbm, ⟨22, _⟩ => ⟨S4224x5632, .f32⟩
  | .hbm, ⟨23, _⟩ => ⟨S4224x5632, .f32⟩
  | .hbm, ⟨24, _⟩ => ⟨S4224x5632, .f32⟩
  | .hbm, ⟨25, _⟩ => ⟨S4224x5632, .f32⟩
  | .hbm, ⟨26, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Kernel20.lean ====
abbrev S4224x2048 : Shape := ⟨2, ![4224, 2048]⟩
abbrev S4x2048x1408 : Shape := ⟨3, ![4, 2048, 1408]⟩
abbrev S8x128 : Shape := ⟨2, ![8, 128]⟩
abbrev S_ : Shape := ⟨0, ![]⟩
abbrev S1 : Shape := ⟨1, ![1]⟩
abbrev S4224x5632 : Shape := ⟨2, ![4224, 5632]⟩
abbrev S704x2048 : Shape := ⟨2, ![704, 2048]⟩
abbrev S1x2048x1408 : Shape := ⟨3, ![1, 2048, 1408]⟩
abbrev S704x1408 : Shape := ⟨2, ![704, 1408]⟩
abbrev S1x2048x256 : Shape := ⟨3, ![1, 2048, 256]⟩
abbrev S2048x256 : Shape := ⟨2, ![2048, 256]⟩
abbrev S704x256 : Shape := ⟨2, ![704, 256]⟩
abbrev S1x2048x128 : Shape := ⟨3, ![1, 2048, 128]⟩
abbrev S2048x128 : Shape := ⟨2, ![2048, 128]⟩
abbrev S704x128 : Shape := ⟨2, ![704, 128]⟩
abbrev S4224x1408 : Shape := ⟨2, ![4224, 1408]⟩

abbrev nBuf : Space → Nat
  | .hbm => 11
  | .vmem => 11
  | .smem => 1
  | _ => 0

abbrev bufTy : (tb : Table) → Fin (tcTables nBuf tb) → BufTy
  | .hbm, ⟨0, _⟩ => ⟨S4224x2048, .bf16⟩
  | .hbm, ⟨1, _⟩ => ⟨S4x2048x1408, .bf16⟩
  | .hbm, ⟨2, _⟩ => ⟨S4x2048x1408, .bf16⟩
  | .hbm, ⟨3, _⟩ => ⟨S8x128, .f32⟩
  | .hbm, ⟨4, _⟩ => ⟨S_, .i32⟩
  | .hbm, ⟨5, _⟩ => ⟨S4224x5632, .bf16⟩
  | .hbm, ⟨6, _⟩ => ⟨S4224x5632, .bf16⟩
  | .hbm, ⟨7, _⟩ => ⟨S4224x5632, .bf16⟩
  | .hbm, ⟨8, _⟩ => ⟨S4224x1408, .bf16⟩
  | .hbm, ⟨9, _⟩ => ⟨S4224x1408, .bf16⟩
  | .hbm, ⟨10, _⟩ => ⟨S4224x1408, .bf16⟩
  | .local _ .vmem, ⟨0, _⟩ => ⟨S704x2048, .bf16⟩
  | .local _ .vmem, ⟨1, _⟩ => ⟨S704x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S8x128, .f32⟩
  | .local _ .vmem, ⟨5, _⟩ => ⟨S704x1408, .bf16⟩
  | .local _ .vmem, ⟨6, _⟩ => ⟨S704x1408, .bf16⟩
  | .local _ .vmem, ⟨7, _⟩ => ⟨S704x1408, .bf16⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .smem, ⟨0, _⟩ => ⟨S1, .i32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 6], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  ![arg1.toNat, v1.toNat]

def cc0_transform_5 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  ![arg1.toNat, v1.toNat]

def cc0_transform_6 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  ![arg1.toNat, v1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S704x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S4224x2048 : Shape := ⟨2, ![4224, 2048]⟩
abbrev S4x2048x1408 : Shape := ⟨3, ![4, 2048, 1408]⟩
abbrev S8x128 : Shape := ⟨2, ![8, 128]⟩
abbrev S2048x4x1408 : Shape := ⟨3, ![2048, 4, 1408]⟩
abbrev S2048x5632 : Shape := ⟨2, ![2048, 5632]⟩
abbrev S4224x5632 : Shape := ⟨2, ![4224, 5632]⟩
abbrev S4224x1408 : Shape := ⟨2, ![4224, 1408]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x2048x1408, .bf16⟩
  | .hbm, ⟨2, _⟩ => ⟨S4x2048x1408, .bf16⟩
  | .hbm, ⟨3, _⟩ => ⟨S8x128, .f32⟩
  | .hbm, ⟨4, _⟩ => ⟨S4224x2048, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S4224x5632, .f32⟩
  | .hbm, ⟨9, _⟩ => ⟨S4224x2048, .f32⟩
  | .hbm, ⟨10, _⟩ => ⟨S4x2048x1408, .f32⟩
  | .hbm, ⟨11, _⟩ => ⟨S2048x4x1408, .f32⟩
  | .hbm, ⟨12, _⟩ => ⟨S2048x5632, .f32⟩
  | .hbm, ⟨13, _⟩ => ⟨S4224x5632, .f32⟩
  | .hbm, ⟨14, _⟩ => ⟨S4224x1408, .f32⟩
  | .hbm, ⟨15, _⟩ => ⟨S4224x1408, .bf16⟩
  | .hbm, ⟨16, _⟩ => ⟨S4224x1408, .f32⟩
  | .hbm, ⟨17, _⟩ => ⟨S4224x1408, .bf16⟩
  | .hbm, ⟨18, _⟩ => ⟨S4224x5632, .f32⟩
  | .hbm, ⟨19, _⟩ => ⟨S4224x5632, .f32⟩
  | .hbm, ⟨20, _⟩ => ⟨S_, .f32⟩
  | .hbm, ⟨21, _⟩ => ⟨S4224x5632, .f32⟩
  | .hbm, ⟨22, _⟩ => ⟨S4224x5632, .f32⟩
  | .hbm, ⟨23, _⟩ => ⟨S_, .f32⟩
  | .hbm, ⟨24, _⟩ => ⟨S4224x5632, .f32⟩
  | .hbm, ⟨25, _⟩ => ⟨S4224x5632, .f32⟩
  | .hbm, ⟨26, _⟩ => ⟨S4224x5632, .f32⟩
  | .hbm, ⟨27, _⟩ => ⟨S4224x5632, .f32⟩
  | .hbm, ⟨28, _⟩ => ⟨S4224x1408, .f32⟩
  | .hbm, ⟨29, _⟩ => ⟨S4224x1408, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Kernel21.lean ====
abbrev S4224x2048 : Shape := ⟨2, ![4224, 2048]⟩
abbrev S4x2048x1408 : Shape := ⟨3, ![4, 2048, 1408]⟩
abbrev S4224x5632 : Shape := ⟨2, ![4224, 5632]⟩
abbrev S8x128 : Shape := ⟨2, ![8, 128]⟩
abbrev S_ : Shape := ⟨0, ![]⟩
abbrev S1 : Shape := ⟨1, ![1]⟩
abbrev S2 : Shape := ⟨1, ![2]⟩
abbrev S704x2048 : Shape := ⟨2, ![704, 2048]⟩
abbrev S1x2048x1408 : Shape := ⟨3, ![1, 2048, 1408]⟩
abbrev S704x1408 : Shape := ⟨2, ![704, 1408]⟩
abbrev S1x2048x256 : Shape := ⟨3, ![1, 2048, 256]⟩
abbrev S2048x256 : Shape := ⟨2, ![2048, 256]⟩
abbrev S704x256 : Shape := ⟨2, ![704, 256]⟩
abbrev S1x2048x128 : Shape := ⟨3, ![1, 2048, 128]⟩
abbrev S2048x128 : Shape := ⟨2, ![2048, 128]⟩
abbrev S704x128 : Shape := ⟨2, ![704, 128]⟩

abbrev nBuf : Space → Nat
  | .hbm => 18
  | .vmem => 13
  | .smem => 1
  | _ => 0

abbrev bufTy : (tb : Table) → Fin (tcTables nBuf tb) → BufTy
  | .hbm, ⟨0, _⟩ => ⟨S4224x2048, .bf16⟩
  | .hbm, ⟨1, _⟩ => ⟨S4x2048x1408, .bf16⟩
  | .hbm, ⟨2, _⟩ => ⟨S4x2048x1408, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .hbm, ⟨6, _⟩ => ⟨S8x128, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S4224x5632, .bf16⟩
  | .hbm, ⟨16, _⟩ => ⟨S4224x5632, .bf16⟩
  | .hbm, ⟨17, _⟩ => ⟨S4224x5632, .bf16⟩
  | .local _ .vmem, ⟨0, _⟩ => ⟨S704x2048, .bf16⟩
  | .local _ .vmem, ⟨1, _⟩ => ⟨S704x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S8x128, .f32⟩
  | .local _ .vmem, ⟨7, _⟩ => ⟨S704x1408, .bf16⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .vmem, ⟨11, _⟩ => ⟨S704x1408, .bf16⟩
  | .local _ .vmem, ⟨12, _⟩ => ⟨S704x1408, .bf16⟩
  | .local _ .smem, ⟨0, _⟩ => ⟨S2, .i32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_c_1 : Ref sig .tc := ⟨.hbm, 10, rfl⟩
abbrev main_c_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 6], ![false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c0_i32 : BitVec 32 := 0#32
  ![arg1.toNat, v1.toNat]

def cc0_transform_8 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c0_i32 : BitVec 32 := 0#32
  ![arg1.toNat, v1.toNat]

def cc0_transform_9 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c0_i32 : BitVec 32 := 0#32
  ![arg1.toNat, v1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S704x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S4224x2048 : Shape := ⟨2, ![4224, 2048]⟩
abbrev S4x2048x1408 : Shape := ⟨3, ![4, 2048, 1408]⟩
abbrev S4224x5632 : Shape := ⟨2, ![4224, 5632]⟩
abbrev S8x128 : Shape := ⟨2, ![8, 128]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x2048x1408, .bf16⟩
  | .hbm, ⟨2, _⟩ => ⟨S4x2048x1408, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .hbm, ⟨6, _⟩ => ⟨S8x128, .f32⟩
  | .hbm, ⟨7, _⟩ => ⟨S4224x2048, .f32⟩
  | .hbm, ⟨8, _⟩ => ⟨S4x2048x1408, .f32⟩
  | .hbm, ⟨9, _⟩ => ⟨S2048x4x1408, .f32⟩
  | .hbm, ⟨10, _⟩ => ⟨S2048x5632, .f32⟩
  | .hbm, ⟨11, _⟩ => ⟨S4224x5632, .f32⟩
  | .hbm, ⟨12, _⟩ => ⟨S4224x2048, .f32⟩
  | .hbm, ⟨13, _⟩ => ⟨S4x2048x1408, .f32⟩
  | .hbm, ⟨14, _⟩ => ⟨S2048x4x1408, .f32⟩
  | .hbm, ⟨15, _⟩ => ⟨S2048x5632, .f32⟩
  | .hbm, ⟨16, _⟩ => ⟨S4224x5632, .f32⟩
  | .hbm, ⟨17, _⟩ => ⟨S4224x5632, .i32⟩
  | .hbm, ⟨18, _⟩ => ⟨S_, .i32⟩
  | .hbm, ⟨19, _⟩ => ⟨S4224x5632, .i32⟩
  | .hbm, ⟨20, _⟩ => ⟨S4224x5632, .i1⟩
  | .hbm, ⟨21, _⟩ => ⟨S_, .i32⟩
  | .hbm, ⟨22, _⟩ => ⟨S4224x5632, .i32⟩
  | .hbm, ⟨23, _⟩ => ⟨S4224x5632, .i1⟩
  | .hbm, ⟨24, _⟩ => ⟨S4224x5632, .i1⟩
  | .hbm, ⟨25, _⟩ => ⟨S4224x5632, .bf16⟩
  | .hbm, ⟨26, _⟩ => ⟨S4224x5632, .bf16⟩
  | .hbm, ⟨27, _⟩ => ⟨S_, .i32⟩
  | .hbm, ⟨28, _⟩ => ⟨S4224x5632, .i32⟩
  | .hbm, ⟨29, _⟩ => ⟨S4224x5632, .i1⟩
  | .hbm, ⟨30, _⟩ => ⟨S_, .i32⟩
  | .hbm, ⟨31, _⟩ => ⟨S4224x5632, .i32⟩
  | .hbm, ⟨32, _⟩ => ⟨S4224x5632, .i1⟩
  | .hbm, ⟨33, _⟩ => ⟨S4224x5632, .i1⟩
  | .hbm, ⟨34, _⟩ => ⟨S4224x5632, .bf16⟩
  | .hbm, ⟨35, _⟩ => ⟨S4224x5632, .bf16⟩
  | .hbm, ⟨36, _⟩ => ⟨S4224x5632, .f32⟩
  | .hbm, ⟨37, _⟩ => ⟨S4224x5632, .f32⟩
  | .hbm, ⟨38, _⟩ => ⟨S_, .f32⟩
  | .hbm, ⟨39, _⟩ => ⟨S4224x5632, .f32⟩
  | .hbm, ⟨40, _⟩ => ⟨S4224x5632, .f32⟩
  | .hbm, ⟨41, _⟩ => ⟨S_, .f32⟩
  | .hbm, ⟨42, _⟩ => ⟨S4224x5632, .f32⟩
  | .hbm, ⟨43, _⟩ => ⟨S4224x5632, .f32⟩
  | .hbm, ⟨44, _⟩ => ⟨S4224x5632, .f32⟩
  | .hbm, ⟨45, _⟩ => ⟨S4224x5632, .f32⟩
  | .hbm, ⟨46, _⟩ => ⟨S_, .i32⟩
  | .hbm, ⟨47, _⟩ => ⟨S4224x5632, .i32⟩
  | .hbm, ⟨48, _⟩ => ⟨S4224x5632, .i1⟩
  | .hbm, ⟨49, _⟩ => ⟨S_, .i32⟩
  | .hbm, ⟨50, _⟩ => ⟨S4224x5632, .i32⟩
  | .hbm, ⟨51, _⟩ => ⟨S4224x5632, .i1⟩
  | .hbm, ⟨52, _⟩ => ⟨S4224x5632, .i1⟩
  | .hbm, ⟨53, _⟩ => ⟨S4224x5632, .bf16⟩
  | .hbm, ⟨54, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel22.lean ====
abbrev S4224x2048 : Shape := ⟨2, ![4224, 2048]⟩
abbrev S4x2048x1408 : Shape := ⟨3, ![4, 2048, 1408]⟩
abbrev S4224x5632 : Shape := ⟨2, ![4224, 5632]⟩
abbrev S8x128 : Shape := ⟨2, ![8, 128]⟩
abbrev S_ : Shape := ⟨0, ![]⟩
abbrev S1 : Shape := ⟨1, ![1]⟩
abbrev S704x2048 : Shape := ⟨2, ![704, 2048]⟩
abbrev S1x2048x1408 : Shape := ⟨3, ![1, 2048, 1408]⟩
abbrev S704x1408 : Shape := ⟨2, ![704, 1408]⟩
abbrev S1x2048x256 : Shape := ⟨3, ![1, 2048, 256]⟩
abbrev S2048x256 : Shape := ⟨2, ![2048, 256]⟩
abbrev S704x256 : Shape := ⟨2, ![704, 256]⟩
abbrev S1x2048x128 : Shape := ⟨3, ![1, 2048, 128]⟩
abbrev S2048x128 : Shape := ⟨2, ![2048, 128]⟩
abbrev S704x128 : Shape := ⟨2, ![704, 128]⟩

abbrev nBuf : Space → Nat
  | .hbm => 13
  | .vmem => 11
  | .smem => 1
  | _ => 0

abbrev bufTy : (tb : Table) → Fin (tcTables nBuf tb) → BufTy
  | .hbm, ⟨0, _⟩ => ⟨S4224x2048, .bf16⟩
  | .hbm, ⟨1, _⟩ => ⟨S4x2048x1408, .bf16⟩
  | .hbm, ⟨2, _⟩ => ⟨S4x2048x1408, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .hbm, ⟨6, _⟩ => ⟨S8x128, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4224x5632, .bf16⟩
  | .hbm, ⟨11, _⟩ => ⟨S4224x5632, .bf16⟩
  | .hbm, ⟨12, _⟩ => ⟨S4224x5632, .bf16⟩
  | .local _ .vmem, ⟨0, _⟩ => ⟨S704x2048, .bf16⟩
  | .local _ .vmem, ⟨1, _⟩ => ⟨S704x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S8x128, .f32⟩
  | .local _ .vmem, ⟨5, _⟩ => ⟨S704x1408, .bf16⟩
  | .local _ .vmem, ⟨6, _⟩ => ⟨S704x1408, .bf16⟩
  | .local _ .vmem, ⟨7, _⟩ => ⟨S704x1408, .bf16⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .smem, ⟨0, _⟩ => ⟨S1, .i32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 6], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  ![arg1.toNat, v1.toNat]

def cc0_transform_8 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  ![arg1.toNat, v1.toNat]

def cc0_transform_9 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  ![arg1.toNat, v1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S704x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference22Ideal.lean ====
abbrev S4224x2048 : Shape := ⟨2, ![4224, 2048]⟩
abbrev S4x2048x1408 : Shape := ⟨3, ![4, 2048, 1408]⟩
abbrev S4224x5632 : Shape := ⟨2, ![4224, 5632]⟩
abbrev S8x128 : Shape := ⟨2, ![8, 128]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x2048x1408, .bf16⟩
  | .hbm, ⟨2, _⟩ => ⟨S4x2048x1408, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .hbm, ⟨6, _⟩ => ⟨S8x128, .f32⟩
  | .hbm, ⟨7, _⟩ => ⟨S4224x2048, .f32⟩
  | .hbm, ⟨8, _⟩ => ⟨S4x2048x1408, .f32⟩
  | .hbm, ⟨9, _⟩ => ⟨S2048x4x1408, .f32⟩
  | .hbm, ⟨10, _⟩ => ⟨S2048x5632, .f32⟩
  | .hbm, ⟨11, _⟩ => ⟨S4224x5632, .f32⟩
  | .hbm, ⟨12, _⟩ => ⟨S4224x2048, .f32⟩
  | .hbm, ⟨13, _⟩ => ⟨S4x2048x1408, .f32⟩
  | .hbm, ⟨14, _⟩ => ⟨S2048x4x1408, .f32⟩
  | .hbm, ⟨15, _⟩ => ⟨S2048x5632, .f32⟩
  | .hbm, ⟨16, _⟩ => ⟨S4224x5632, .f32⟩
  | .hbm, ⟨17, _⟩ => ⟨S4224x5632, .i32⟩
  | .hbm, ⟨18, _⟩ => ⟨S_, .i32⟩
  | .hbm, ⟨19, _⟩ => ⟨S4224x5632, .i32⟩
  | .hbm, ⟨20, _⟩ => ⟨S4224x5632, .i1⟩
  | .hbm, ⟨21, _⟩ => ⟨S4224x5632, .bf16⟩
  | .hbm, ⟨22, _⟩ => ⟨S4224x5632, .bf16⟩
  | .hbm, ⟨23, _⟩ => ⟨S_, .i32⟩
  | .hbm, ⟨24, _⟩ => ⟨S4224x5632, .i32⟩
  | .hbm, ⟨25, _⟩ => ⟨S4224x5632, .i1⟩
  | .hbm, ⟨26, _⟩ => ⟨S4224x5632, .bf16⟩
  | .hbm, ⟨27, _⟩ => ⟨S4224x5632, .bf16⟩
  | .hbm, ⟨28, _⟩ => ⟨S4224x5632, .f32⟩
  | .hbm, ⟨29, _⟩ => ⟨S4224x5632, .f32⟩
  | .hbm, ⟨30, _⟩ => ⟨S_, .f32⟩
  | .hbm, ⟨31, _⟩ => ⟨S4224x5632, .f32⟩
  | .hbm, ⟨32, _⟩ => ⟨S4224x5632, .f32⟩
  | .hbm, ⟨33, _⟩ => ⟨S_, .f32⟩
  | .hbm, ⟨34, _⟩ => ⟨S4224x5632, .f32⟩
  | .hbm, ⟨35, _⟩ => ⟨S4224x5632, .f32⟩
  | .hbm, ⟨36, _⟩ => ⟨S4224x5632, .f32⟩
  | .hbm, ⟨37, _⟩ => ⟨S4224x5632, .f32⟩
  | .hbm, ⟨38, _⟩ => ⟨S_, .i32⟩
  | .hbm, ⟨39, _⟩ => ⟨S4224x5632, .i32⟩
  | .hbm, ⟨40, _⟩ => ⟨S4224x5632, .i1⟩
  | .hbm, ⟨41, _⟩ => ⟨S4224x5632, .bf16⟩
  | .hbm, ⟨42, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== Kernel23.lean ====
abbrev S4224x5632 : Shape := ⟨2, ![4224, 5632]⟩
abbrev S4x1408x2048 : Shape := ⟨3, ![4, 1408, 2048]⟩
abbrev S4224x2048 : Shape := ⟨2, ![4224, 2048]⟩
abbrev S_ : Shape := ⟨0, ![]⟩
abbrev S1 : Shape := ⟨1, ![1]⟩
abbrev S704x1408 : Shape := ⟨2, ![704, 1408]⟩
abbrev S1x1408x1024 : Shape := ⟨3, ![1, 1408, 1024]⟩
abbrev S704x1024 : Shape := ⟨2, ![704, 1024]⟩
abbrev S1408x1024 : Shape := ⟨2, ![1408, 1024]⟩

abbrev nBuf : Space → Nat
  | .hbm => 5
  | .vmem => 8
  | .smem => 1
  | _ => 0

abbrev bufTy : (tb : Table) → Fin (tcTables nBuf tb) → BufTy
  | .hbm, ⟨0, _⟩ => ⟨S4224x5632, .bf16⟩
  | .hbm, ⟨1, _⟩ => ⟨S4x1408x2048, .bf16⟩
  | .hbm, ⟨2, _⟩ => ⟨S4224x2048, .f32⟩
  | .hbm, ⟨3, _⟩ => ⟨S_, .i32⟩
  | .hbm, ⟨4, _⟩ => ⟨S4224x2048, .f32⟩
  | .local _ .vmem, ⟨0, _⟩ => ⟨S704x1408, .bf16⟩
  | .local _ .vmem, ⟨1, _⟩ => ⟨S704x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .smem, ⟨0, _⟩ => ⟨S1, .i32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 6, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_5 : BitVec 32 := 0#32
  let v8 : BitVec 1 := Scalar.cmpi .ne v7 c0_i32_5
  v8

def k0_cond2 (i : grid0.Coords) : BitVec 1 :=
  let arg2 : BitVec 32 := BitVec.ofNat 32 (i 2).val
  let c0_i32_6 : BitVec 32 := 0#32
  let v9 : BitVec 1 := Scalar.cmpi .sgt arg2 c0_i32_6
  let v10 : BitVec 32 := Scalar.extui v9
  let c0_i32_7 : BitVec 32 := 0#32
  let v11 : BitVec 1 := Scalar.cmpi .ne v10 c0_i32_7
  v11

def cc0_transform_0 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S1) ![v0.toNat] S1.size (k0_off1_inb i)) numel1_S1
  let c0_i32 : BitVec 32 := 0#32
  ![arg1.toNat, v1.toNat]

def cc0_transform_1 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S1) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S704x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S4224x5632 : Shape := ⟨2, ![4224, 5632]⟩
abbrev S4x1408x2048 : Shape := ⟨3, ![4, 1408, 2048]⟩
abbrev S4224x2048 : Shape := ⟨2, ![4224, 2048]⟩
abbrev S4224x1408 : Shape := ⟨2, ![4224, 1408]⟩
abbrev S1x1408x2048 : Shape := ⟨3, ![1, 1408, 2048]⟩
abbrev S1408x2048 : Shape := ⟨2, ![1408, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4x1408x2048, .bf16⟩
  | .hbm, ⟨2, _⟩ => ⟨S4224x2048, .f32⟩
  | .hbm, ⟨3, _⟩ => ⟨S4224x5632, .f32⟩
  | .hbm, ⟨4, _⟩ => ⟨S4224x1408, .f32⟩
  | .hbm, ⟨5, _⟩ => ⟨S4x1408x2048, .f32⟩
  | .hbm, ⟨6, _⟩ => ⟨S1x1408x2048, .f32⟩
  | .hbm, ⟨7, _⟩ => ⟨S1408x2048, .f32⟩
  | .hbm, ⟨8, _⟩ => ⟨S4224x2048, .f32⟩
  | .hbm, ⟨9, _⟩ => ⟨S_, .f32⟩
  | .hbm, ⟨10, _⟩ => ⟨S4224x2048, .f32⟩
  | .hbm, ⟨11, _⟩ => ⟨S4224x2048, .f32⟩
  | .hbm, ⟨12, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel25.lean ====
abbrev S4224x5632 : Shape := ⟨2, ![4224, 5632]⟩
abbrev S4x1408x2048 : Shape := ⟨3, ![4, 1408, 2048]⟩
abbrev S4224x2048 : Shape := ⟨2, ![4224, 2048]⟩
abbrev S8x128 : Shape := ⟨2, ![8, 128]⟩
abbrev S1x2048 : Shape := ⟨2, ![1, 2048]⟩
abbrev S_ : Shape := ⟨0, ![]⟩
abbrev S1 : Shape := ⟨1, ![1]⟩
abbrev S352x1408 : Shape := ⟨2, ![352, 1408]⟩
abbrev S1x1408x2048 : Shape := ⟨3, ![1, 1408, 2048]⟩
abbrev S352x2048 : Shape := ⟨2, ![352, 2048]⟩
abbrev S1408x2048 : Shape := ⟨2, ![1408, 2048]⟩
abbrev S352 : Shape := ⟨1, ![352]⟩
abbrev S352x1 : Shape := ⟨2, ![352, 1]⟩

abbrev nBuf : Space → Nat
  | .hbm => 10
  | .vmem => 11
  | .smem => 1
  | _ => 0

abbrev bufTy : (tb : Table) → Fin (tcTables nBuf tb) → BufTy
  | .hbm, ⟨0, _⟩ => ⟨S4224x5632, .bf16⟩
  | .hbm, ⟨1, _⟩ => ⟨S4x1408x2048, .bf16⟩
  | .hbm, ⟨2, _⟩ => ⟨S4224x2048, .f32⟩
  | .hbm, ⟨3, _⟩ => ⟨S8x128, .f32⟩
  | .hbm, ⟨4, _⟩ => ⟨S1x2048, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4224x2048, .f32⟩
  | .hbm, ⟨9, _⟩ => ⟨S4224x2048, .bf16⟩
  | .local _ .vmem, ⟨0, _⟩ => ⟨S352x1408, .bf16⟩
  | .local _ .vmem, ⟨1, _⟩ => ⟨S352x1408, .bf16⟩
  | .local _ .vmem, ⟨2, _⟩ => ⟨S1x1408x2048, .bf16⟩
  | .local _ .vmem, ⟨3, _⟩ => ⟨S352x2048, .f32⟩
  | .local _ .vmem, ⟨4, _⟩ => ⟨S352x2048, .f32⟩
  | .local _ .vmem, ⟨5, _⟩ => ⟨S8x128, .f32⟩
  | .local _ .vmem, ⟨6, _⟩ => ⟨S1x2048, .f32⟩
  | .local _ .vmem, ⟨7, _⟩ => ⟨S352x2048, .f32⟩
  | .local _ .vmem, ⟨8, _⟩ => ⟨S352x2048, .f32⟩
  | .local _ .vmem, ⟨9, _⟩ => ⟨S352x2048, .bf16⟩
  | .local _ .vmem, ⟨10, _⟩ => ⟨S352x2048, .bf16⟩
  | .local _ .smem, ⟨0, _⟩ => ⟨S1, .i32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v2_0 : Ref sig .tc := ⟨.hbm, 8, rfl⟩
abbrev main_v2_1 : Ref sig .tc := ⟨.hbm, 9, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![1, 12, 1], ![false, false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_5 : BitVec 32 := 0#32
  let v8 : BitVec 1 := Scalar.cmpi .ne v7 c0_i32_5
  v8

def k0_cond2 (i : grid0.Coords) : BitVec 1 :=
  let arg2 : BitVec 32 := BitVec.ofNat 32 (i 2).val
  let c0_i32_6 : BitVec 32 := 0#32
  let v9 : BitVec 1 := Scalar.cmpi .sgt arg2 c0_i32_6
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S1) ![v0.toNat] S1.size (k0_off1_inb i)) numel1_S1
  let c0_i32 : BitVec 32 := 0#32
  ![arg1.toNat, v1.toNat]

def cc0_transform_1 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S1) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S352x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1408x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S352x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S352x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference25Ideal.lean ====
abbrev S4224x5632 : Shape := ⟨2, ![4224, 5632]⟩
abbrev S4x1408x2048 : Shape := ⟨3, ![4, 1408, 2048]⟩
abbrev S4224x2048 : Shape := ⟨2, ![4224, 2048]⟩
abbrev S8x128 : Shape := ⟨2, ![8, 128]⟩
abbrev S1x2048 : Shape := ⟨2, ![1, 2048]⟩
abbrev S4224x1408 : Shape := ⟨2, ![4224, 1408]⟩
abbrev S1x1408x2048 : Shape := ⟨3, ![1, 1408, 2048]⟩
abbrev S1408x2048 : Shape := ⟨2, ![1408, 2048]⟩
abbrev S_ : Shape := ⟨0, ![]⟩
abbrev S4224 : Shape := ⟨1, ![4224]⟩
abbrev S4224x1 : Shape := ⟨2, ![4224, 1]⟩

abbrev nBuf : Space → Nat
  | .hbm => 31
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4x1408x2048, .bf16⟩
  | .hbm, ⟨2, _⟩ => ⟨S4224x2048, .f32⟩
  | .hbm, ⟨3, _⟩ => ⟨S8x128, .f32⟩
  | .hbm, ⟨4, _⟩ => ⟨S1x2048, .f32⟩
  | .hbm, ⟨5, _⟩ => ⟨S4224x5632, .f32⟩
  | .hbm, ⟨6, _⟩ => ⟨S4224x1408, .f32⟩
  | .hbm, ⟨7, _⟩ => ⟨S4x1408x2048, .f32⟩
  | .hbm, ⟨8, _⟩ => ⟨S1x1408x2048, .f32⟩
  | .hbm, ⟨9, _⟩ => ⟨S1408x2048, .f32⟩
  | .hbm, ⟨10, _⟩ => ⟨S4224x2048, .f32⟩
  | .hbm, ⟨11, _⟩ => ⟨S_, .f32⟩
  | .hbm, ⟨12, _⟩ => ⟨S4224x2048, .f32⟩
  | .hbm, ⟨13, _⟩ => ⟨S4224x2048, .f32⟩
  | .hbm, ⟨14, _⟩ => ⟨S4224x2048, .f32⟩
  | .hbm, ⟨15, _⟩ => ⟨S4224x2048, .f32⟩
  | .hbm, ⟨16, _⟩ => ⟨S_, .f32⟩
  | .hbm, ⟨17, _⟩ => ⟨S4224, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S_, .f32⟩
  | .hbm, ⟨23, _⟩ => ⟨S4224x1, .f32⟩
  | .hbm, ⟨24, _⟩ => ⟨S4224x1, .f32⟩
  | .hbm, ⟨25, _⟩ => ⟨S4224x1, .f32⟩
  | .hbm, ⟨26, _⟩ => ⟨S4224x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S4224x2048, .bf16⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel7.lean ====
abbrev S4224x5120 : Shape := ⟨2, ![4224, 5120]⟩
abbrev S3x1024 : Shape := ⟨2, ![3, 1024]⟩
abbrev S31x1024 : Shape := ⟨2, ![31, 1024]⟩
abbrev S1x1024 : Shape := ⟨2, ![1, 1024]⟩
abbrev S4224x2048 : Shape := ⟨2, ![4224, 2048]⟩
abbrev S4224x1024 : Shape := ⟨2, ![4224, 1024]⟩
abbrev S128x5120 : Shape := ⟨2, ![128, 5120]⟩
abbrev S32x5120 : Shape := ⟨2, ![32, 5120]⟩
abbrev S128x2048 : Shape := ⟨2, ![128, 2048]⟩
abbrev S128x1024 : Shape := ⟨2, ![128, 1024]⟩
abbrev S160x1024 : Shape := ⟨2, ![160, 1024]⟩
abbrev S7x152x1024 : Shape := ⟨3, ![7, 152, 1024]⟩
abbrev S128x1 : Shape := ⟨2, ![128, 1]⟩
abbrev S32x1 : Shape := ⟨2, ![32, 1]⟩
abbrev S32x1024 : Shape := ⟨2, ![32, 1024]⟩
abbrev S152x1024 : Shape := ⟨2, ![152, 1024]⟩
abbrev S1x152x1024 : Shape := ⟨3, ![1, 152, 1024]⟩
abbrev S1x128 : Shape := ⟨2, ![1, 128]⟩
abbrev S128x128 : Shape := ⟨2, ![128, 128]⟩
abbrev S1x128x128 : Shape := ⟨3, ![1, 128, 128]⟩
abbrev S128 : Shape := ⟨1, ![128]⟩

abbrev nBuf : Space → Nat
  | .hbm => 9
  | .vmem => 16
  | .smem => 0
  | _ => 0

abbrev bufTy : (tb : Table) → Fin (tcTables nBuf tb) → BufTy
  | .hbm, ⟨0, _⟩ => ⟨S4224x5120, .f32⟩
  | .hbm, ⟨1, _⟩ => ⟨S3x1024, .f32⟩
  | .hbm, ⟨2, _⟩ => ⟨S31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4224x2048, .bf16⟩
  | .hbm, ⟨7, _⟩ => ⟨S4224x1024, .f32⟩
  | .hbm, ⟨8, _⟩ => ⟨S4224x1024, .bf16⟩
  | .local _ .vmem, ⟨0, _⟩ => ⟨S128x5120, .f32⟩
  | .local _ .vmem, ⟨1, _⟩ => ⟨S128x5120, .f32⟩
  | .local _ .vmem, ⟨2, _⟩ => ⟨S32x5120, .f32⟩
  | .local _ .vmem, ⟨3, _⟩ => ⟨S32x5120, .f32⟩
  | .local _ .vmem, ⟨4, _⟩ => ⟨S3x1024, .f32⟩
  | .local _ .vmem, ⟨5, _⟩ => ⟨S31x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S128x2048, .bf16⟩
  | .local _ .vmem, ⟨10, _⟩ => ⟨S128x2048, .bf16⟩
  | .local _ .vmem, ⟨11, _⟩ => ⟨S128x1024, .f32⟩
  | .local _ .vmem, ⟨12, _⟩ => ⟨S128x1024, .f32⟩
  | .local _ .vmem, ⟨13, _⟩ => ⟨S160x1024, .f32⟩
  | .local _ .vmem, ⟨14, _⟩ => ⟨S160x1024, .f32⟩
  | .local _ .vmem, ⟨15, _⟩ => ⟨S7x152x1024, .f32⟩
  | _, _ => ⟨S4224x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S4224x5120 : Shape := ⟨2, ![4224, 5120]⟩
abbrev S3x1024 : Shape := ⟨2, ![3, 1024]⟩
abbrev S31x1024 : Shape := ⟨2, ![31, 1024]⟩
abbrev S1x1024 : Shape := ⟨2, ![1, 1024]⟩
abbrev S4112x5120 : Shape := ⟨2, ![4112, 5120]⟩
abbrev S4112x1024 : Shape := ⟨2, ![4112, 1024]⟩
abbrev S_ : Shape := ⟨0, ![]⟩
abbrev S4114x1024 : Shape := ⟨2, ![4114, 1024]⟩
abbrev S4224x1024 : Shape := ⟨2, ![4224, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4224x5120, .f32⟩
  | .hbm, ⟨1, _⟩ => ⟨S3x1024, .f32⟩
  | .hbm, ⟨2, _⟩ => ⟨S31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4112x5120, .f32⟩
  | .hbm, ⟨7, _⟩ => ⟨S4112x1024, .f32⟩
  | .hbm, ⟨8, _⟩ => ⟨S4112x1024, .f32⟩
  | .hbm, ⟨9, _⟩ => ⟨S4112x1024, .f32⟩
  | .hbm, ⟨10, _⟩ => ⟨S4112x1024, .f32⟩
  | .hbm, ⟨11, _⟩ => ⟨S_, .i32⟩
  | .hbm, ⟨12, _⟩ => ⟨S_, .f32⟩
  | .hbm, ⟨13, _⟩ => ⟨S4114x1024, .f32⟩
  | .hbm, ⟨14, _⟩ => ⟨S1x1024, .f32⟩
  | .hbm, ⟨15, _⟩ => ⟨S4112x1024, .f32⟩
  | .hbm, ⟨16, _⟩ => ⟨S4112x1024, .f32⟩
  | .hbm, ⟨17, _⟩ => ⟨S4112x1024, .f32⟩
  | .hbm, ⟨18, _⟩ => ⟨S1x1024, .f32⟩
  | .hbm, ⟨19, _⟩ => ⟨S4112x1024, .f32⟩
  | .hbm, ⟨20, _⟩ => ⟨S4112x1024, .f32⟩
  | .hbm, ⟨21, _⟩ => ⟨S4112x1024, .f32⟩
  | .hbm, ⟨22, _⟩ => ⟨S4112x1024, .f32⟩
  | .hbm, ⟨23, _⟩ => ⟨S1x1024, .f32⟩
  | .hbm, ⟨24, _⟩ => ⟨S4112x1024, .f32⟩
  | .hbm, ⟨25, _⟩ => ⟨S4112x1024, .f32⟩
  | .hbm, ⟨26, _⟩ => ⟨S4112x1024, .f32⟩
  | .hbm, ⟨27, _⟩ => ⟨S4112x1024, .f32⟩
  | .hbm, ⟨28, _⟩ => ⟨S4112x1024, .f32⟩
  | .hbm, ⟨29, _⟩ => ⟨S_, .i32⟩
  | .hbm, ⟨30, _⟩ => ⟨S_, .f32⟩
  | .hbm, ⟨31, _⟩ => ⟨S4224x1024, .f32⟩
  | .hbm, ⟨32, _⟩ => ⟨S4224x1024, .bf16⟩
  | _, _ => ⟨S4224x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_0 : Ref sig .tc := ⟨.hbm, 29, rfl⟩
abbrev main_call1_v0 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.MixReal.lean ====
/- ONE ROW OF THE LAYER NORM WITH ITS SWISH, over the extended reals: the forward terms, the gradient as the kernel
   writes it, the gradient as the transposed forward lines give it, and that both are the same on a row of reals. -/
module

public import Idealize.ShloMosaic.Lib.Pointwise
public import Idealize.ShloMosaic.Lib.IdealHost

@[expose] public section

noncomputable section

namespace Cert.Proof.MixBwd.Row

open Idealize.ShloMosaic

/-- The number of channels, as the programs write it. -/
def num : EReal := Ideal.ofBits .f32 0x44800000#32
/-- What is added to the variance, as the programs write it. -/
def eps : EReal := Ideal.ofBits .f32 0x358637BD#32
/-- Minus one half, as the reference writes it. -/
def mhalf : EReal := Ideal.ofBits .f32 0xBF000000#32
/-- Two, as the reference writes it. -/
def two : EReal := Ideal.ofBits .f32 0x40000000#32

theorem num_eq : num = ((1024 : ℝ) : EReal) := by
  unfold num; simp [Ideal.ofBits, Ideal.ieee, -EReal.coe_mul]; norm_num
theorem mhalf_eq : mhalf = ((-(1 / 2) : ℝ) : EReal) := by
  unfold mhalf; simp [Ideal.ofBits, Ideal.ieee, -EReal.coe_mul, -EReal.coe_neg]; norm_num
theorem two_eq : two = ((2 : ℝ) : EReal) := by
  unfold two; simp [Ideal.ofBits, Ideal.ieee, -EReal.coe_mul]; norm_num
theorem eps_eq : ∃ e : ℝ, 0 < e ∧ eps = (e : EReal) := by
  refine ⟨8796093 * (2 : ℝ) ^ (-43 : ℤ), by positivity, ?_⟩
  unfold eps; simp [Ideal.ofBits, Ideal.ieee, -EReal.coe_mul]

/-- A channel row. -/
abbrev Ch := Fin 1024 → EReal

/-! ## The forward terms -/

def mean (z : Ch) : EReal := Ideal.div (∑ x, z x) num
def cen (z : Ch) : Ch := fun l => z l - mean z
def var (z : Ch) : EReal := Ideal.div (∑ x, cen z x * cen z x) num + eps
def rs (z : Ch) : EReal := Ideal.rsqrt (var z)
def zh (z : Ch) : Ch := fun l => cen z l * rs z
def ln (z g b : Ch) : Ch := fun l => zh z l * g l + b l

/-! ## The gradient as the kernel writes it -/

/-- At the swish's argument. -/
def dl (z d g b : Ch) : Ch := fun l =>
  d l * (Ideal.logistic (ln z g b l) * (1 + ln z g b l * (1 - Ideal.logistic (ln z g b l))))
/-- At the layer norm's argument, from the gradient `h` at its result before the scale `g`. -/
def back (z h g : Ch) : Ch := fun l =>
  rs z * (h l * g l - Ideal.div (∑ x, h x * g x) num - zh z l * Ideal.div (∑ x, h x * g x * zh z x) num)

/-! ## The gradient as the transposed forward lines give it -/

def sg (z g b : Ch) : Ch := fun l => Ideal.div 1 (1 + Ideal.exp (-ln z g b l))
def dlR (z d g b : Ch) : Ch := fun l =>
  d l * sg z g b l + ln z g b l * d l * (sg z g b l * (1 - sg z g b l))
/-- Through the scaled row itself. -/
def viaRow (z h g : Ch) : Ch := fun l => h l * g l * rs z
/-- Through the variance. -/
def viaVar (z h g : Ch) : Ch := fun l =>
  Ideal.div ((∑ x, cen z x * (h x * g x)) * (mhalf * Ideal.div (rs z) (var z))) num * (two * cen z l)
def backR (z h g : Ch) : Ch := fun l =>
  viaRow z h g l + viaVar z h g l + Ideal.div (∑ x, -viaRow z h g x + ∑ x, -viaVar z h g x) num

/-! ## On reals -/

theorem coe_sum {ι : Type*} [Fintype ι] (f : ι → ℝ) : ∑ x, ((f x : ℝ) : EReal) = ((∑ x, f x : ℝ) : EReal) := by
  classical
  induction (Finset.univ : Finset ι) using Finset.induction_on with
  | empty => simp
  | insert a s ha ih => rw [Finset.sum_insert ha, Finset.sum_insert ha, ih, EReal.coe_add]

theorem div_num (x : ℝ) : Ideal.div (x : EReal) num = ((x / 1024 : ℝ) : EReal) := by
  rw [num_eq, Ideal.div_coe (by norm_num), ← EReal.coe_mul]; congr 1; ring

/-- The real values of a row's forward terms. -/
structure Val (z : Ch) where
  c : Fin 1024 → ℝ
  r : ℝ
  v : ℝ
  hc : ∀ l, cen z l = (c l : EReal)
  h0 : ∑ l, c l = 0
  hr : rs z = (r : EReal)
  hv : var z = (v : EReal)
  pos : 0 < v
  rr : r * r * v = 1

theorem exists_val (z : Ch) (hz : ∀ l, ∃ x : ℝ, z l = (x : EReal)) : Nonempty (Val z) := by
  choose zr hz using hz
  obtain ⟨e, he, heps⟩ := eps_eq
  obtain rfl : z = fun l => (zr l : EReal) := funext hz
  have hm : mean (fun l => (zr l : EReal)) = (((∑ x, zr x) / 1024 : ℝ) : EReal) := by
    unfold mean; rw [coe_sum, div_num]
  have hc : ∀ l, cen (fun l => (zr l : EReal)) l = ((zr l - (∑ x, zr x) / 1024 : ℝ) : EReal) := fun l => by
    unfold cen; rw [hm, ← EReal.coe_sub]
  have hv : var (fun l => (zr l : EReal)) =
      (((∑ l, (zr l - (∑ x, zr x) / 1024) * (zr l - (∑ x, zr x) / 1024)) / 1024 + e : ℝ) : EReal) := by
    unfold var
    simp only [hc, ← EReal.coe_mul]
    rw [coe_sum, div_num, heps, ← EReal.coe_add]
  have hp : 0 < (∑ l, (zr l - (∑ x, zr x) / 1024) * (zr l - (∑ x, zr x) / 1024)) / 1024 + e :=
    add_pos_of_nonneg_of_pos (div_nonneg (Finset.sum_nonneg fun l _ => mul_self_nonneg _) (by norm_num)) he
  refine ⟨⟨_, (Real.sqrt ((∑ l, (zr l - (∑ x, zr x) / 1024) * (zr l - (∑ x, zr x) / 1024)) / 1024 + e))⁻¹, _, hc, ?_, ?_, hv, hp, ?_⟩⟩
  · rw [Finset.sum_sub_distrib, Finset.sum_const, Finset.card_univ, Fintype.card_fin, nsmul_eq_mul]
    push_cast
    ring
  · unfold rs
    rw [hv, Ideal.rsqrt_coe, if_neg (not_lt.mpr hp.le), if_neg hp.ne']
  · rw [← mul_inv, Real.mul_self_sqrt hp.le, inv_mul_cancel₀ hp.ne']

theorem ln_val {z g b : Ch} (V : Val z) (hg : ∀ l, ∃ x : ℝ, g l = (x : EReal)) (hb : ∀ l, ∃ x : ℝ, b l = (x : EReal))
    (l : Fin 1024) : ∃ x : ℝ, ln z g b l = (x : EReal) := by
  obtain ⟨gr, hg⟩ := hg l
  obtain ⟨br, hb⟩ := hb l
  refine ⟨V.c l * V.r * gr + br, ?_⟩
  unfold ln zh
  rw [V.hc, V.hr, hg, hb]
  push_cast
  rfl

/-- The two forms of the swish's gradient agree. -/
theorem dlR_eq {z d g b : Ch} (V : Val z) (hd : ∀ l, ∃ x : ℝ, d l = (x : EReal)) (hg : ∀ l, ∃ x : ℝ, g l = (x : EReal))
    (hb : ∀ l, ∃ x : ℝ, b l = (x : EReal)) (l : Fin 1024) :
    dlR z d g b l = dl z d g b l ∧ ∃ x : ℝ, dl z d g b l = (x : EReal) := by
  obtain ⟨y, hy⟩ := ln_val V hg hb l
  obtain ⟨dr, hd⟩ := hd l
  have hs : sg z g b l = (((1 + Real.exp (-y))⁻¹ : ℝ) : EReal) := by
    unfold sg
    rw [hy, ← EReal.coe_neg, Ideal.exp_coe, show (1 : EReal) = ((1 : ℝ) : EReal) from rfl, ← EReal.coe_add,
      Ideal.div_coe (by positivity), ← EReal.coe_mul, one_mul, one_div]
  unfold dlR dl
  rw [hs, hy, hd, Ideal.logistic_coe, show (1 : EReal) = ((1 : ℝ) : EReal) from rfl]
  simp only [← EReal.coe_mul, ← EReal.coe_add, ← EReal.coe_sub]
  exact ⟨by congr 1; ring, _, rfl⟩

/-- The two forms of the layer norm's gradient agree. -/
theorem backR_eq {z h g : Ch} (V : Val z) (hh : ∀ l, ∃ x : ℝ, h l = (x : EReal)) (hg : ∀ l, ∃ x : ℝ, g l = (x : EReal))
    (l : Fin 1024) : backR z h g l = back z h g l := by
  choose hr hh using hh
  choose gr hg using hg
  obtain ⟨c, r, v, hc, h0, hrs, hv, pos, rr⟩ := V
  have e1 : ∀ l, h l * g l = ((hr l * gr l : ℝ) : EReal) := fun l => by rw [hh, hg, EReal.coe_mul]
  have hq : Ideal.div (r : EReal) (var z) = ((r / v : ℝ) : EReal) := by
    rw [hv, Ideal.div_coe pos.ne', ← EReal.coe_mul]; congr 1; ring
  unfold backR back viaRow viaVar zh
  simp only [e1, hc, hrs, hq, mhalf_eq, two_eq, ← EReal.coe_mul, ← EReal.coe_neg, coe_sum, div_num, ← EReal.coe_add,
    ← EReal.coe_sub]
  congr 1
  have hv' : r / v = r * r * r := by
    rw [div_eq_iff pos.ne']
    linear_combination (-r) * rr
  rw [hv']
  have s1 : ∑ x, -(hr x * gr x * r) = -(r * ∑ x, hr x * gr x) := by
    rw [Finset.sum_neg_distrib, Finset.mul_sum]; congr 1; exact Finset.sum_congr rfl fun x _ => by ring
  have s2 : ∀ T : ℝ, ∑ x, -(T * (2 * c x)) = 0 := fun T => by
    rw [Finset.sum_neg_distrib, ← Finset.mul_sum, ← Finset.mul_sum, h0]; ring
  have s3 : ∑ x, hr x * gr x * (c x * r) = r * ∑ x, c x * (hr x * gr x) := by
    rw [Finset.mul_sum]; exact Finset.sum_congr rfl fun x _ => by ring
  rw [s1, s2, s3]
  ring

end Cert.Proof.MixBwd.Row
-- ==== Proof.MixHost.lean ====
/- THE ARRAY THE HOST HANDS THE CALL: the 31-tap convolution of the gated channels plus its bias, 112 zero rows before it.
   The host's operations in eight stretches, each read back, and the whole read at a row and a channel. -/
module

public import proofs.«01_k».proof.Proof.Gen.KernelIdeal.Frame
public import Idealize.ShloMosaic.Lib.StableHlo.Run
public import Idealize.ShloMosaic.Lib.Pointwise

@[expose] public section

set_option Elab.async false

noncomputable section

namespace Cert.Proof.MixHost

open Cert.KernelIdeal Cert.KernelIdeal.Gen Idealize.ShloMosaic Idealize.ShloMosaic.TcCoe Idealize.SL.Sem Idealize.ShloMosaic.StableHlo

/-- An f32 array of shape `S`. -/
abbrev A (F : FTy → Type) (S : Shape) := (⟨S, .f32⟩ : BufTy).Contents (Elt F)

variable {F : FTy → Type} [FloatOps F]

/-- Stretch 0 of the host's operations. -/
abbrev st0 : List (HloOp τ sig (Elt F)) :=
  [ unary main_arg0 main_v0 ((extractStridedSlice S4112x5120 ![112, 0] · slices_S4224x5120_S4112x5120_112_0) : A F S4224x5120 → A F S4112x5120),
    unary main_v0 main_v1 ((extractStridedSlice S4112x1024 ![0, 0] · slices_S4112x5120_S4112x1024_0_0) : A F S4112x5120 → A F S4112x1024),
    unary main_v0 main_v2 ((extractStridedSlice S4112x1024 ![0, 1024] · slices_S4112x5120_S4112x1024_0_1024) : A F S4112x5120 → A F S4112x1024),
    unary main_v0 main_v3 ((extractStridedSlice S4112x1024 ![0, 2048] · slices_S4112x5120_S4112x1024_0_2048) : A F S4112x5120 → A F S4112x1024),
    unary main_v0 main_v4 ((extractStridedSlice S4112x1024 ![0, 3072] · slices_S4112x5120_S4112x1024_0_3072) : A F S4112x5120 → A F S4112x1024),
    unary main_v0 main_v5 ((extractStridedSlice S4112x1024 ![0, 4096] · slices_S4112x5120_S4112x1024_0_4096) : A F S4112x5120 → A F S4112x1024),
    binary main_v2 main_v3 main_v6 (mulf : A F S4112x1024 → A F S4112x1024 → A F S4112x1024),
    nullary main_c (constantI S_ 32 0#32),
    TRef.unary (.of main_c : TRef sig ⟨S_, .i32⟩) (.of main_call0_v0 : TRef sig ⟨S_, .f32⟩) (sitofp .f32),
    TRef.binary (.of main_v6 : TRef sig ⟨S4112x1024, .f32⟩) (.of main_call0_v0 : TRef sig ⟨S_, .f32⟩) (.of main_v7 : TRef sig ⟨S4114x1024, .f32⟩) (fun x v => pad S4114x1024 ![2, 0] ![0, 0] ![0, 0] x v pads_S4112x1024_S4114x1024_200_000 h_S_),
    unary main_arg2 main_v8 ((extractStridedSlice S1x1024 ![0, 0] · slices_S3x1024_S1x1024_0_0) : A F S3x1024 → A F S1x1024),
    unary main_v7 main_v9 ((extractStridedSlice S4112x1024 ![0, 0] · slices_S4114x1024_S4112x1024_0_0) : A F S4114x1024 → A F S4112x1024),
    unary main_v8 main_v10 (broadcastInDim S4112x1024 ![0, 1] bcast_S1x1024_S4112x1024_0_1 : A F S1x1024 → A F S4112x1024),
    binary main_v10 main_v9 main_v11 (mulf : A F S4112x1024 → A F S4112x1024 → A F S4112x1024),
    unary main_arg2 main_v12 ((extractStridedSlice S1x1024 ![1, 0] · slices_S3x1024_S1x1024_1_0) : A F S3x1024 → A F S1x1024),
    unary main_v7 main_v13 ((extractStridedSlice S4112x1024 ![1, 0] · slices_S4114x1024_S4112x1024_1_0) : A F S4114x1024 → A F S4112x1024),
    unary main_v12 main_v14 (broadcastInDim S4112x1024 ![0, 1] bcast_S1x1024_S4112x1024_0_1 : A F S1x1024 → A F S4112x1024),
    binary main_v14 main_v13 main_v15 (mulf : A F S4112x1024 → A F S4112x1024 → A F S4112x1024),
    binary main_v11 main_v15 main_v16 (addf : A F S4112x1024 → A F S4112x1024 → A F S4112x1024),
    unary main_arg2 main_v17 ((extractStridedSlice S1x1024 ![2, 0] · slices_S3x1024_S1x1024_2_0) : A F S3x1024 → A F S1x1024),
    unary main_v7 main_v18 ((extractStridedSlice S4112x1024 ![2, 0] · slices_S4114x1024_S4112x1024_2_0) : A F S4114x1024 → A F S4112x1024),
    unary main_v17 main_v19 (broadcastInDim S4112x1024 ![0, 1] bcast_S1x1024_S4112x1024_0_1 : A F S1x1024 → A F S4112x1024),
    binary main_v19 main_v18 main_v20 (mulf : A F S4112x1024 → A F S4112x1024 → A F S4112x1024),
    binary main_v16 main_v20 main_v21 (addf : A F S4112x1024 → A F S4112x1024 → A F S4112x1024),
    unary main_v5 main_v22 (Host.negf : A F S4112x1024 → A F S4112x1024),
    unary main_v22 main_v23 (Host.exp : A F S4112x1024 → A F S4112x1024),
    nullary main_cst (constant S_ .f32 0x3F800000#32),
    unary main_cst main_v24 (broadcastInDim S4112x1024 ![] bcast_S_S4112x1024 : A F S_ → A F S4112x1024),
    binary main_v24 main_v23 main_v25 (addf : A F S4112x1024 → A F S4112x1024 → A F S4112x1024),
    nullary main_cst_0 (constant S_ .f32 0x3F800000#32),
    unary main_cst_0 main_v26 (broadcastInDim S4112x1024 ![] bcast_S_S4112x1024 : A F S_ → A F S4112x1024),
    binary main_v26 main_v25 main_v27 (Host.divf : A F S4112x1024 → A F S4112x1024 → A F S4112x1024),
    binary main_v4 main_v27 main_v28 (mulf : A F S4112x1024 → A F S4112x1024 → A F S4112x1024),
    nullary main_c_1 (constantI S_ 32 0#32),
    TRef.unary (.of main_c_1 : TRef sig ⟨S_, .i32⟩) (.of main_call1_v0 : TRef sig ⟨S_, .f32⟩) (sitofp .f32),
    TRef.binary (.of main_v28 : TRef sig ⟨S4112x1024, .f32⟩) (.of main_call1_v0 : TRef sig ⟨S_, .f32⟩) (.of main_v29 : TRef sig ⟨S4142x1024, .f32⟩) (fun x v => pad S4142x1024 ![30, 0] ![0, 0] ![0, 0] x v pads_S4112x1024_S4142x1024_3000_000 h_S_) ]
abbrev st0W : List (Ref sig .tc) := [main_v0, main_v1, main_v2, main_v3, main_v4, main_v5, main_v6, main_c, main_call0_v0, main_v7, main_v8, main_v9, main_v10, main_v11, main_v12, main_v13, main_v14, main_v15, main_v16, main_v17, main_v18, main_v19, main_v20, main_v21, main_v22, main_v23, main_cst, main_v24, main_v25, main_cst_0, main_v26, main_v27, main_v28, main_c_1, main_call1_v0, main_v29]
set_option maxRecDepth 8192 in
theorem st0_writes : (st0 : List (HloOp τ sig (Elt F))).Forall fun op => op.writes ⊆ (st0W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, Finset.singleton_subset_iff, List.mem_toFinset]; exact List.mem_map_of_mem (by decide))

/-- Stretch 1 of the host's operations. -/
abbrev st1 : List (HloOp τ sig (Elt F)) :=
  [ unary main_arg3 main_v30 ((extractStridedSlice S1x1024 ![0, 0] · slices_S31x1024_S1x1024_0_0) : A F S31x1024 → A F S1x1024),
    unary main_v29 main_v31 ((extractStridedSlice S4112x1024 ![0, 0] · slices_S4142x1024_S4112x1024_0_0) : A F S4142x1024 → A F S4112x1024),
    unary main_v30 main_v32 (broadcastInDim S4112x1024 ![0, 1] bcast_S1x1024_S4112x1024_0_1 : A F S1x1024 → A F S4112x1024),
    binary main_v32 main_v31 main_v33 (mulf : A F S4112x1024 → A F S4112x1024 → A F S4112x1024),
    unary main_arg3 main_v34 ((extractStridedSlice S1x1024 ![1, 0] · slices_S31x1024_S1x1024_1_0) : A F S31x1024 → A F S1x1024),
    unary main_v29 main_v35 ((extractStridedSlice S4112x1024 ![1, 0] · slices_S4142x1024_S4112x1024_1_0) : A F S4142x1024 → A F S4112x1024),
    unary main_v34 main_v36 (broadcastInDim S4112x1024 ![0, 1] bcast_S1x1024_S4112x1024_0_1 : A F S1x1024 → A F S4112x1024),
    binary main_v36 main_v35 main_v37 (mulf : A F S4112x1024 → A F S4112x1024 → A F S4112x1024),
    binary main_v33 main_v37 main_v38 (addf : A F S4112x1024 → A F S4112x1024 → A F S4112x1024),
    unary main_arg3 main_v39 ((extractStridedSlice S1x1024 ![2, 0] · slices_S31x1024_S1x1024_2_0) : A F S31x1024 → A F S1x1024),
    unary main_v29 main_v40 ((extractStridedSlice S4112x1024 ![2, 0] · slices_S4142x1024_S4112x1024_2_0) : A F S4142x1024 → A F S4112x1024),
    unary main_v39 main_v41 (broadcastInDim S4112x1024 ![0, 1] bcast_S1x1024_S4112x1024_0_1 : A F S1x1024 → A F S4112x1024),
    binary main_v41 main_v40 main_v42 (mulf : A F S4112x1024 → A F S4112x1024 → A F S4112x1024),
    binary main_v38 main_v42 main_v43 (addf : A F S4112x1024 → A F S4112x1024 → A F S4112x1024),
    unary main_arg3 main_v44 ((extractStridedSlice S1x1024 ![3, 0] · slices_S31x1024_S1x1024_3_0) : A F S31x1024 → A F S1x1024),
    unary main_v29 main_v45 ((extractStridedSlice S4112x1024 ![3, 0] · slices_S4142x1024_S4112x1024_3_0) : A F S4142x1024 → A F S4112x1024),
    unary main_v44 main_v46 (broadcastInDim S4112x1024 ![0, 1] bcast_S1x1024_S4112x1024_0_1 : A F S1x1024 → A F S4112x1024),
    binary main_v46 main_v45 main_v47 (mulf : A F S4112x1024 → A F S4112x1024 → A F S4112x1024),
    binary main_v43 main_v47 main_v48 (addf : A F S4112x1024 → A F S4112x1024 → A F S4112x1024),
    unary main_arg3 main_v49 ((extractStridedSlice S1x1024 ![4, 0] · slices_S31x1024_S1x1024_4_0) : A F S31x1024 → A F S1x1024),
    unary main_v29 main_v50 ((extractStridedSlice S4112x1024 ![4, 0] · slices_S4142x1024_S4112x1024_4_0) : A F S4142x1024 → A F S4112x1024),
    unary main_v49 main_v51 (broadcastInDim S4112x1024 ![0, 1] bcast_S1x1024_S4112x1024_0_1 : A F S1x1024 → A F S4112x1024),
    binary main_v51 main_v50 main_v52 (mulf : A F S4112x1024 → A F S4112x1024 → A F S4112x1024),
    binary main_v48 main_v52 main_v53 (addf : A F S4112x1024 → A F S4112x1024 → A F S4112x1024) ]
abbrev st1W : List (Ref sig .tc) := [main_v30, main_v31, main_v32, main_v33, main_v34, main_v35, main_v36, main_v37, main_v38, main_v39, main_v40, main_v41, main_v42, main_v43, main_v44, main_v45, main_v46, main_v47, main_v48, main_v49, main_v50, main_v51, main_v52, main_v53]
set_option maxRecDepth 8192 in
theorem st1_writes : (st1 : List (HloOp τ sig (Elt F))).Forall fun op => op.writes ⊆ (st1W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, Finset.singleton_subset_iff, List.mem_toFinset]; exact List.mem_map_of_mem (by decide))

/-- Stretch 2 of the host's operations. -/
abbrev st2 : List (HloOp τ sig (Elt F)) :=
  [ unary main_arg3 main_v54 ((extractStridedSlice S1x1024 ![5, 0] · slices_S31x1024_S1x1024_5_0) : A F S31x1024 → A F S1x1024),
    unary main_v29 main_v55 ((extractStridedSlice S4112x1024 ![5, 0] · slices_S4142x1024_S4112x1024_5_0) : A F S4142x1024 → A F S4112x1024),
    unary main_v54 main_v56 (broadcastInDim S4112x1024 ![0, 1] bcast_S1x1024_S4112x1024_0_1 : A F S1x1024 → A F S4112x1024),
    binary main_v56 main_v55 main_v57 (mulf : A F S4112x1024 → A F S4112x1024 → A F S4112x1024),
    binary main_v53 main_v57 main_v58 (addf : A F S4112x1024 → A F S4112x1024 → A F S4112x1024),
    unary main_arg3 main_v59 ((extractStridedSlice S1x1024 ![6, 0] · slices_S31x1024_S1x1024_6_0) : A F S31x1024 → A F S1x1024),
    unary main_v29 main_v60 ((extractStridedSlice S4112x1024 ![6, 0] · slices_S4142x1024_S4112x1024_6_0) : A F S4142x1024 → A F S4112x1024),
    unary main_v59 main_v61 (broadcastInDim S4112x1024 ![0, 1] bcast_S1x1024_S4112x1024_0_1 : A F S1x1024 → A F S4112x1024),
    binary main_v61 main_v60 main_v62 (mulf : A F S4112x1024 → A F S4112x1024 → A F S4112x1024),
    binary main_v58 main_v62 main_v63 (addf : A F S4112x1024 → A F S4112x1024 → A F S4112x1024),
    unary main_arg3 main_v64 ((extractStridedSlice S1x1024 ![7, 0] · slices_S31x1024_S1x1024_7_0) : A F S31x1024 → A F S1x1024),
    unary main_v29 main_v65 ((extractStridedSlice S4112x1024 ![7, 0] · slices_S4142x1024_S4112x1024_7_0) : A F S4142x1024 → A F S4112x1024),
    unary main_v64 main_v66 (broadcastInDim S4112x1024 ![0, 1] bcast_S1x1024_S4112x1024_0_1 : A F S1x1024 → A F S4112x1024),
    binary main_v66 main_v65 main_v67 (mulf : A F S4112x1024 → A F S4112x1024 → A F S4112x1024),
    binary main_v63 main_v67 main_v68 (addf : A F S4112x1024 → A F S4112x1024 → A F S4112x1024),
    unary main_arg3 main_v69 ((extractStridedSlice S1x1024 ![8, 0] · slices_S31x1024_S1x1024_8_0) : A F S31x1024 → A F S1x1024),
    unary main_v29 main_v70 ((extractStridedSlice S4112x1024 ![8, 0] · slices_S4142x1024_S4112x1024_8_0) : A F S4142x1024 → A F S4112x1024),
    unary main_v69 main_v71 (broadcastInDim S4112x1024 ![0, 1] bcast_S1x1024_S4112x1024_0_1 : A F S1x1024 → A F S4112x1024),
    binary main_v71 main_v70 main_v72 (mulf : A F S4112x1024 → A F S4112x1024 → A F S4112x1024),
    binary main_v68 main_v72 main_v73 (addf : A F S4112x1024 → A F S4112x1024 → A F S4112x1024),
    unary main_arg3 main_v74 ((extractStridedSlice S1x1024 ![9, 0] · slices_S31x1024_S1x1024_9_0) : A F S31x1024 → A F S1x1024),
    unary main_v29 main_v75 ((extractStridedSlice S4112x1024 ![9, 0] · slices_S4142x1024_S4112x1024_9_0) : A F S4142x1024 → A F S4112x1024),
    unary main_v74 main_v76 (broadcastInDim S4112x1024 ![0, 1] bcast_S1x1024_S4112x1024_0_1 : A F S1x1024 → A F S4112x1024),
    binary main_v76 main_v75 main_v77 (mulf : A F S4112x1024 → A F S4112x1024 → A F S4112x1024),
    binary main_v73 main_v77 main_v78 (addf : A F S4112x1024 → A F S4112x1024 → A F S4112x1024) ]
abbrev st2W : List (Ref sig .tc) := [main_v54, main_v55, main_v56, main_v57, main_v58, main_v59, main_v60, main_v61, main_v62, main_v63, main_v64, main_v65, main_v66, main_v67, main_v68, main_v69, main_v70, main_v71, main_v72, main_v73, main_v74, main_v75, main_v76, main_v77, main_v78]
set_option maxRecDepth 8192 in
theorem st2_writes : (st2 : List (HloOp τ sig (Elt F))).Forall fun op => op.writes ⊆ (st2W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, Finset.singleton_subset_iff, List.mem_toFinset]; exact List.mem_map_of_mem (by decide))

/-- Stretch 3 of the host's operations. -/
abbrev st3 : List (HloOp τ sig (Elt F)) :=
  [ unary main_arg3 main_v79 ((extractStridedSlice S1x1024 ![10, 0] · slices_S31x1024_S1x1024_10_0) : A F S31x1024 → A F S1x1024),
    unary main_v29 main_v80 ((extractStridedSlice S4112x1024 ![10, 0] · slices_S4142x1024_S4112x1024_10_0) : A F S4142x1024 → A F S4112x1024),
    unary main_v79 main_v81 (broadcastInDim S4112x1024 ![0, 1] bcast_S1x1024_S4112x1024_0_1 : A F S1x1024 → A F S4112x1024),
    binary main_v81 main_v80 main_v82 (mulf : A F S4112x1024 → A F S4112x1024 → A F S4112x1024),
    binary main_v78 main_v82 main_v83 (addf : A F S4112x1024 → A F S4112x1024 → A F S4112x1024),
    unary main_arg3 main_v84 ((extractStridedSlice S1x1024 ![11, 0] · slices_S31x1024_S1x1024_11_0) : A F S31x1024 → A F S1x1024),
    unary main_v29 main_v85 ((extractStridedSlice S4112x1024 ![11, 0] · slices_S4142x1024_S4112x1024_11_0) : A F S4142x1024 → A F S4112x1024),
    unary main_v84 main_v86 (broadcastInDim S4112x1024 ![0, 1] bcast_S1x1024_S4112x1024_0_1 : A F S1x1024 → A F S4112x1024),
    binary main_v86 main_v85 main_v87 (mulf : A F S4112x1024 → A F S4112x1024 → A F S4112x1024),
    binary main_v83 main_v87 main_v88 (addf : A F S4112x1024 → A F S4112x1024 → A F S4112x1024),
    unary main_arg3 main_v89 ((extractStridedSlice S1x1024 ![12, 0] · slices_S31x1024_S1x1024_12_0) : A F S31x1024 → A F S1x1024),
    unary main_v29 main_v90 ((extractStridedSlice S4112x1024 ![12, 0] · slices_S4142x1024_S4112x1024_12_0) : A F S4142x1024 → A F S4112x1024),
    unary main_v89 main_v91 (broadcastInDim S4112x1024 ![0, 1] bcast_S1x1024_S4112x1024_0_1 : A F S1x1024 → A F S4112x1024),
    binary main_v91 main_v90 main_v92 (mulf : A F S4112x1024 → A F S4112x1024 → A F S4112x1024),
    binary main_v88 main_v92 main_v93 (addf : A F S4112x1024 → A F S4112x1024 → A F S4112x1024),
    unary main_arg3 main_v94 ((extractStridedSlice S1x1024 ![13, 0] · slices_S31x1024_S1x1024_13_0) : A F S31x1024 → A F S1x1024),
    unary main_v29 main_v95 ((extractStridedSlice S4112x1024 ![13, 0] · slices_S4142x1024_S4112x1024_13_0) : A F S4142x1024 → A F S4112x1024),
    unary main_v94 main_v96 (broadcastInDim S4112x1024 ![0, 1] bcast_S1x1024_S4112x1024_0_1 : A F S1x1024 → A F S4112x1024),
    binary main_v96 main_v95 main_v97 (mulf : A F S4112x1024 → A F S4112x1024 → A F S4112x1024),
    binary main_v93 main_v97 main_v98 (addf : A F S4112x1024 → A F S4112x1024 → A F S4112x1024),
    unary main_arg3 main_v99 ((extractStridedSlice S1x1024 ![14, 0] · slices_S31x1024_S1x1024_14_0) : A F S31x1024 → A F S1x1024),
    unary main_v29 main_v100 ((extractStridedSlice S4112x1024 ![14, 0] · slices_S4142x1024_S4112x1024_14_0) : A F S4142x1024 → A F S4112x1024),
    unary main_v99 main_v101 (broadcastInDim S4112x1024 ![0, 1] bcast_S1x1024_S4112x1024_0_1 : A F S1x1024 → A F S4112x1024),
    binary main_v101 main_v100 main_v102 (mulf : A F S4112x1024 → A F S4112x1024 → A F S4112x1024),
    binary main_v98 main_v102 main_v103 (addf : A F S4112x1024 → A F S4112x1024 → A F S4112x1024) ]
abbrev st3W : List (Ref sig .tc) := [main_v79, main_v80, main_v81, main_v82, main_v83, main_v84, main_v85, main_v86, main_v87, main_v88, main_v89, main_v90, main_v91, main_v92, main_v93, main_v94, main_v95, main_v96, main_v97, main_v98, main_v99, main_v100, main_v101, main_v102, main_v103]
set_option maxRecDepth 8192 in
theorem st3_writes : (st3 : List (HloOp τ sig (Elt F))).Forall fun op => op.writes ⊆ (st3W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, Finset.singleton_subset_iff, List.mem_toFinset]; exact List.mem_map_of_mem (by decide))

/-- Stretch 4 of the host's operations. -/
abbrev st4 : List (HloOp τ sig (Elt F)) :=
  [ unary main_arg3 main_v104 ((extractStridedSlice S1x1024 ![15, 0] · slices_S31x1024_S1x1024_15_0) : A F S31x1024 → A F S1x1024),
    unary main_v29 main_v105 ((extractStridedSlice S4112x1024 ![15, 0] · slices_S4142x1024_S4112x1024_15_0) : A F S4142x1024 → A F S4112x1024),
    unary main_v104 main_v106 (broadcastInDim S4112x1024 ![0, 1] bcast_S1x1024_S4112x1024_0_1 : A F S1x1024 → A F S4112x1024),
    binary main_v106 main_v105 main_v107 (mulf : A F S4112x1024 → A F S4112x1024 → A F S4112x1024),
    binary main_v103 main_v107 main_v108 (addf : A F S4112x1024 → A F S4112x1024 → A F S4112x1024),
    unary main_arg3 main_v109 ((extractStridedSlice S1x1024 ![16, 0] · slices_S31x1024_S1x1024_16_0) : A F S31x1024 → A F S1x1024),
    unary main_v29 main_v110 ((extractStridedSlice S4112x1024 ![16, 0] · slices_S4142x1024_S4112x1024_16_0) : A F S4142x1024 → A F S4112x1024),
    unary main_v109 main_v111 (broadcastInDim S4112x1024 ![0, 1] bcast_S1x1024_S4112x1024_0_1 : A F S1x1024 → A F S4112x1024),
    binary main_v111 main_v110 main_v112 (mulf : A F S4112x1024 → A F S4112x1024 → A F S4112x1024),
    binary main_v108 main_v112 main_v113 (addf : A F S4112x1024 → A F S4112x1024 → A F S4112x1024),
    unary main_arg3 main_v114 ((extractStridedSlice S1x1024 ![17, 0] · slices_S31x1024_S1x1024_17_0) : A F S31x1024 → A F S1x1024),
    unary main_v29 main_v115 ((extractStridedSlice S4112x1024 ![17, 0] · slices_S4142x1024_S4112x1024_17_0) : A F S4142x1024 → A F S4112x1024),
    unary main_v114 main_v116 (broadcastInDim S4112x1024 ![0, 1] bcast_S1x1024_S4112x1024_0_1 : A F S1x1024 → A F S4112x1024),
    binary main_v116 main_v115 main_v117 (mulf : A F S4112x1024 → A F S4112x1024 → A F S4112x1024),
    binary main_v113 main_v117 main_v118 (addf : A F S4112x1024 → A F S4112x1024 → A F S4112x1024),
    unary main_arg3 main_v119 ((extractStridedSlice S1x1024 ![18, 0] · slices_S31x1024_S1x1024_18_0) : A F S31x1024 → A F S1x1024),
    unary main_v29 main_v120 ((extractStridedSlice S4112x1024 ![18, 0] · slices_S4142x1024_S4112x1024_18_0) : A F S4142x1024 → A F S4112x1024),
    unary main_v119 main_v121 (broadcastInDim S4112x1024 ![0, 1] bcast_S1x1024_S4112x1024_0_1 : A F S1x1024 → A F S4112x1024),
    binary main_v121 main_v120 main_v122 (mulf : A F S4112x1024 → A F S4112x1024 → A F S4112x1024),
    binary main_v118 main_v122 main_v123 (addf : A F S4112x1024 → A F S4112x1024 → A F S4112x1024),
    unary main_arg3 main_v124 ((extractStridedSlice S1x1024 ![19, 0] · slices_S31x1024_S1x1024_19_0) : A F S31x1024 → A F S1x1024),
    unary main_v29 main_v125 ((extractStridedSlice S4112x1024 ![19, 0] · slices_S4142x1024_S4112x1024_19_0) : A F S4142x1024 → A F S4112x1024),
    unary main_v124 main_v126 (broadcastInDim S4112x1024 ![0, 1] bcast_S1x1024_S4112x1024_0_1 : A F S1x1024 → A F S4112x1024),
    binary main_v126 main_v125 main_v127 (mulf : A F S4112x1024 → A F S4112x1024 → A F S4112x1024),
    binary main_v123 main_v127 main_v128 (addf : A F S4112x1024 → A F S4112x1024 → A F S4112x1024) ]
abbrev st4W : List (Ref sig .tc) := [main_v104, main_v105, main_v106, main_v107, main_v108, main_v109, main_v110, main_v111, main_v112, main_v113, main_v114, main_v115, main_v116, main_v117, main_v118, main_v119, main_v120, main_v121, main_v122, main_v123, main_v124, main_v125, main_v126, main_v127, main_v128]
set_option maxRecDepth 8192 in
theorem st4_writes : (st4 : List (HloOp τ sig (Elt F))).Forall fun op => op.writes ⊆ (st4W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, Finset.singleton_subset_iff, List.mem_toFinset]; exact List.mem_map_of_mem (by decide))

/-- Stretch 5 of the host's operations. -/
abbrev st5 : List (HloOp τ sig (Elt F)) :=
  [ unary main_arg3 main_v129 ((extractStridedSlice S1x1024 ![20, 0] · slices_S31x1024_S1x1024_20_0) : A F S31x1024 → A F S1x1024),
    unary main_v29 main_v130 ((extractStridedSlice S4112x1024 ![20, 0] · slices_S4142x1024_S4112x1024_20_0) : A F S4142x1024 → A F S4112x1024),
    unary main_v129 main_v131 (broadcastInDim S4112x1024 ![0, 1] bcast_S1x1024_S4112x1024_0_1 : A F S1x1024 → A F S4112x1024),
    binary main_v131 main_v130 main_v132 (mulf : A F S4112x1024 → A F S4112x1024 → A F S4112x1024),
    binary main_v128 main_v132 main_v133 (addf : A F S4112x1024 → A F S4112x1024 → A F S4112x1024),
    unary main_arg3 main_v134 ((extractStridedSlice S1x1024 ![21, 0] · slices_S31x1024_S1x1024_21_0) : A F S31x1024 → A F S1x1024),
    unary main_v29 main_v135 ((extractStridedSlice S4112x1024 ![21, 0] · slices_S4142x1024_S4112x1024_21_0) : A F S4142x1024 → A F S4112x1024),
    unary main_v134 main_v136 (broadcastInDim S4112x1024 ![0, 1] bcast_S1x1024_S4112x1024_0_1 : A F S1x1024 → A F S4112x1024),
    binary main_v136 main_v135 main_v137 (mulf : A F S4112x1024 → A F S4112x1024 → A F S4112x1024),
    binary main_v133 main_v137 main_v138 (addf : A F S4112x1024 → A F S4112x1024 → A F S4112x1024),
    unary main_arg3 main_v139 ((extractStridedSlice S1x1024 ![22, 0] · slices_S31x1024_S1x1024_22_0) : A F S31x1024 → A F S1x1024),
    unary main_v29 main_v140 ((extractStridedSlice S4112x1024 ![22, 0] · slices_S4142x1024_S4112x1024_22_0) : A F S4142x1024 → A F S4112x1024),
    unary main_v139 main_v141 (broadcastInDim S4112x1024 ![0, 1] bcast_S1x1024_S4112x1024_0_1 : A F S1x1024 → A F S4112x1024),
    binary main_v141 main_v140 main_v142 (mulf : A F S4112x1024 → A F S4112x1024 → A F S4112x1024),
    binary main_v138 main_v142 main_v143 (addf : A F S4112x1024 → A F S4112x1024 → A F S4112x1024),
    unary main_arg3 main_v144 ((extractStridedSlice S1x1024 ![23, 0] · slices_S31x1024_S1x1024_23_0) : A F S31x1024 → A F S1x1024),
    unary main_v29 main_v145 ((extractStridedSlice S4112x1024 ![23, 0] · slices_S4142x1024_S4112x1024_23_0) : A F S4142x1024 → A F S4112x1024),
    unary main_v144 main_v146 (broadcastInDim S4112x1024 ![0, 1] bcast_S1x1024_S4112x1024_0_1 : A F S1x1024 → A F S4112x1024),
    binary main_v146 main_v145 main_v147 (mulf : A F S4112x1024 → A F S4112x1024 → A F S4112x1024),
    binary main_v143 main_v147 main_v148 (addf : A F S4112x1024 → A F S4112x1024 → A F S4112x1024),
    unary main_arg3 main_v149 ((extractStridedSlice S1x1024 ![24, 0] · slices_S31x1024_S1x1024_24_0) : A F S31x1024 → A F S1x1024),
    unary main_v29 main_v150 ((extractStridedSlice S4112x1024 ![24, 0] · slices_S4142x1024_S4112x1024_24_0) : A F S4142x1024 → A F S4112x1024),
    unary main_v149 main_v151 (broadcastInDim S4112x1024 ![0, 1] bcast_S1x1024_S4112x1024_0_1 : A F S1x1024 → A F S4112x1024),
    binary main_v151 main_v150 main_v152 (mulf : A F S4112x1024 → A F S4112x1024 → A F S4112x1024),
    binary main_v148 main_v152 main_v153 (addf : A F S4112x1024 → A F S4112x1024 → A F S4112x1024) ]
abbrev st5W : List (Ref sig .tc) := [main_v129, main_v130, main_v131, main_v132, main_v133, main_v134, main_v135, main_v136, main_v137, main_v138, main_v139, main_v140, main_v141, main_v142, main_v143, main_v144, main_v145, main_v146, main_v147, main_v148, main_v149, main_v150, main_v151, main_v152, main_v153]
set_option maxRecDepth 8192 in
theorem st5_writes : (st5 : List (HloOp τ sig (Elt F))).Forall fun op => op.writes ⊆ (st5W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, Finset.singleton_subset_iff, List.mem_toFinset]; exact List.mem_map_of_mem (by decide))

/-- Stretch 6 of the host's operations. -/
abbrev st6 : List (HloOp τ sig (Elt F)) :=
  [ unary main_arg3 main_v154 ((extractStridedSlice S1x1024 ![25, 0] · slices_S31x1024_S1x1024_25_0) : A F S31x1024 → A F S1x1024),
    unary main_v29 main_v155 ((extractStridedSlice S4112x1024 ![25, 0] · slices_S4142x1024_S4112x1024_25_0) : A F S4142x1024 → A F S4112x1024),
    unary main_v154 main_v156 (broadcastInDim S4112x1024 ![0, 1] bcast_S1x1024_S4112x1024_0_1 : A F S1x1024 → A F S4112x1024),
    binary main_v156 main_v155 main_v157 (mulf : A F S4112x1024 → A F S4112x1024 → A F S4112x1024),
    binary main_v153 main_v157 main_v158 (addf : A F S4112x1024 → A F S4112x1024 → A F S4112x1024),
    unary main_arg3 main_v159 ((extractStridedSlice S1x1024 ![26, 0] · slices_S31x1024_S1x1024_26_0) : A F S31x1024 → A F S1x1024),
    unary main_v29 main_v160 ((extractStridedSlice S4112x1024 ![26, 0] · slices_S4142x1024_S4112x1024_26_0) : A F S4142x1024 → A F S4112x1024),
    unary main_v159 main_v161 (broadcastInDim S4112x1024 ![0, 1] bcast_S1x1024_S4112x1024_0_1 : A F S1x1024 → A F S4112x1024),
    binary main_v161 main_v160 main_v162 (mulf : A F S4112x1024 → A F S4112x1024 → A F S4112x1024),
    binary main_v158 main_v162 main_v163 (addf : A F S4112x1024 → A F S4112x1024 → A F S4112x1024),
    unary main_arg3 main_v164 ((extractStridedSlice S1x1024 ![27, 0] · slices_S31x1024_S1x1024_27_0) : A F S31x1024 → A F S1x1024),
    unary main_v29 main_v165 ((extractStridedSlice S4112x1024 ![27, 0] · slices_S4142x1024_S4112x1024_27_0) : A F S4142x1024 → A F S4112x1024),
    unary main_v164 main_v166 (broadcastInDim S4112x1024 ![0, 1] bcast_S1x1024_S4112x1024_0_1 : A F S1x1024 → A F S4112x1024),
    binary main_v166 main_v165 main_v167 (mulf : A F S4112x1024 → A F S4112x1024 → A F S4112x1024),
    binary main_v163 main_v167 main_v168 (addf : A F S4112x1024 → A F S4112x1024 → A F S4112x1024),
    unary main_arg3 main_v169 ((extractStridedSlice S1x1024 ![28, 0] · slices_S31x1024_S1x1024_28_0) : A F S31x1024 → A F S1x1024),
    unary main_v29 main_v170 ((extractStridedSlice S4112x1024 ![28, 0] · slices_S4142x1024_S4112x1024_28_0) : A F S4142x1024 → A F S4112x1024),
    unary main_v169 main_v171 (broadcastInDim S4112x1024 ![0, 1] bcast_S1x1024_S4112x1024_0_1 : A F S1x1024 → A F S4112x1024),
    binary main_v171 main_v170 main_v172 (mulf : A F S4112x1024 → A F S4112x1024 → A F S4112x1024),
    binary main_v168 main_v172 main_v173 (addf : A F S4112x1024 → A F S4112x1024 → A F S4112x1024),
    unary main_arg3 main_v174 ((extractStridedSlice S1x1024 ![29, 0] · slices_S31x1024_S1x1024_29_0) : A F S31x1024 → A F S1x1024),
    unary main_v29 main_v175 ((extractStridedSlice S4112x1024 ![29, 0] · slices_S4142x1024_S4112x1024_29_0) : A F S4142x1024 → A F S4112x1024),
    unary main_v174 main_v176 (broadcastInDim S4112x1024 ![0, 1] bcast_S1x1024_S4112x1024_0_1 : A F S1x1024 → A F S4112x1024),
    binary main_v176 main_v175 main_v177 (mulf : A F S4112x1024 → A F S4112x1024 → A F S4112x1024),
    binary main_v173 main_v177 main_v178 (addf : A F S4112x1024 → A F S4112x1024 → A F S4112x1024) ]
abbrev st6W : List (Ref sig .tc) := [main_v154, main_v155, main_v156, main_v157, main_v158, main_v159, main_v160, main_v161, main_v162, main_v163, main_v164, main_v165, main_v166, main_v167, main_v168, main_v169, main_v170, main_v171, main_v172, main_v173, main_v174, main_v175, main_v176, main_v177, main_v178]
set_option maxRecDepth 8192 in
theorem st6_writes : (st6 : List (HloOp τ sig (Elt F))).Forall fun op => op.writes ⊆ (st6W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, Finset.singleton_subset_iff, List.mem_toFinset]; exact List.mem_map_of_mem (by decide))

/-- Stretch 7 of the host's operations. -/
abbrev st7 : List (HloOp τ sig (Elt F)) :=
  [ unary main_arg3 main_v179 ((extractStridedSlice S1x1024 ![30, 0] · slices_S31x1024_S1x1024_30_0) : A F S31x1024 → A F S1x1024),
    unary main_v29 main_v180 ((extractStridedSlice S4112x1024 ![30, 0] · slices_S4142x1024_S4112x1024_30_0) : A F S4142x1024 → A F S4112x1024),
    unary main_v179 main_v181 (broadcastInDim S4112x1024 ![0, 1] bcast_S1x1024_S4112x1024_0_1 : A F S1x1024 → A F S4112x1024),
    binary main_v181 main_v180 main_v182 (mulf : A F S4112x1024 → A F S4112x1024 → A F S4112x1024),
    binary main_v178 main_v182 main_v183 (addf : A F S4112x1024 → A F S4112x1024 → A F S4112x1024),
    unary main_arg4 main_v184 (broadcastInDim S4112x1024 ![0, 1] bcast_S1x1024_S4112x1024_0_1 : A F S1x1024 → A F S4112x1024),
    binary main_v183 main_v184 main_v185 (addf : A F S4112x1024 → A F S4112x1024 → A F S4112x1024),
    nullary main_c_2 (constantI S_ 32 0#32),
    TRef.unary (.of main_c_2 : TRef sig ⟨S_, .i32⟩) (.of main_call2_v0 : TRef sig ⟨S_, .f32⟩) (sitofp .f32),
    TRef.binary (.of main_v185 : TRef sig ⟨S4112x1024, .f32⟩) (.of main_call2_v0 : TRef sig ⟨S_, .f32⟩) (.of main_v186 : TRef sig ⟨S4224x1024, .f32⟩) (fun x v => pad S4224x1024 ![112, 0] ![0, 0] ![0, 0] x v pads_S4112x1024_S4224x1024_11200_000 h_S_) ]
abbrev st7W : List (Ref sig .tc) := [main_v179, main_v180, main_v181, main_v182, main_v183, main_v184, main_v185, main_c_2, main_call2_v0, main_v186]
set_option maxRecDepth 8192 in
theorem st7_writes : (st7 : List (HloOp τ sig (Elt F))).Forall fun op => op.writes ⊆ (st7W.map (Proc.devRef (τ := τ) .tc)).toFinset := by
  simp only [List.Forall]
  refine ⟨?_, ?_, ?_, ?_, ?_, ?_, ?_, ?_, ?_, ?_⟩
  all_goals (simp only [nullary_writes, unary_writes, binary_writes, Finset.singleton_subset_iff, List.mem_toFinset]; exact List.mem_map_of_mem (by decide))

set_option maxRecDepth 8192 in
theorem split : (List.flatten [hostOps0, hostOps0_1, hostOps0_2, hostOps0_3, hostOps0_4, hostOps0_5] : List (HloOp τ sig (Elt F)))
    = st0 ++ (st1 ++ (st2 ++ (st3 ++ (st4 ++ (st5 ++ (st6 ++ (st7))))))) := rfl

theorem after_app (l₁ l₂ : List (HloOp τ sig (Elt F))) (V : Valuation τ sig (Elt F)) : after (l₁ ++ l₂) V = after l₂ (after l₁ V) := by
  induction l₁ generalizing V with
  | nil => rfl
  | cons op l ih => exact ih _

def v0 (V0 : Valuation τ sig (Elt F)) : Valuation τ sig (Elt F) := after st0 V0
def v1 (V0 : Valuation τ sig (Elt F)) : Valuation τ sig (Elt F) := after st1 (v0 V0)
def v2 (V0 : Valuation τ sig (Elt F)) : Valuation τ sig (Elt F) := after st2 (v1 V0)
def v3 (V0 : Valuation τ sig (Elt F)) : Valuation τ sig (Elt F) := after st3 (v2 V0)
def v4 (V0 : Valuation τ sig (Elt F)) : Valuation τ sig (Elt F) := after st4 (v3 V0)
def v5 (V0 : Valuation τ sig (Elt F)) : Valuation τ sig (Elt F) := after st5 (v4 V0)
def v6 (V0 : Valuation τ sig (Elt F)) : Valuation τ sig (Elt F) := after st6 (v5 V0)
def v7 (V0 : Valuation τ sig (Elt F)) : Valuation τ sig (Elt F) := after st7 (v6 V0)

/-- The gated channels, 30 zero rows before them. -/
def h29 (V0 : Valuation τ sig (Elt F)) : FVec F S4142x1024 .f32 :=
  pad S4142x1024 ![30, 0] ![0, 0] ![0, 0] (mulf (extractStridedSlice S4112x1024 ![0, 3072] (extractStridedSlice S4112x5120 ![112, 0] (V0 (Proc.devRef .tc main_arg0)) slices_S4224x5120_S4112x5120_112_0) slices_S4112x5120_S4112x1024_0_3072) (Host.divf (broadcastInDim S4112x1024 ![] bcast_S_S4112x1024 (constant S_ .f32 0x3F800000#32)) (addf (broadcastInDim S4112x1024 ![] bcast_S_S4112x1024 (constant S_ .f32 0x3F800000#32)) (Host.exp (Host.negf (extractStridedSlice S4112x1024 ![0, 4096] (extractStridedSlice S4112x5120 ![112, 0] (V0 (Proc.devRef .tc main_arg0)) slices_S4224x5120_S4112x5120_112_0) slices_S4112x5120_S4112x1024_0_4096)))))) (sitofp .f32 (constantI S_ 32 0#32)) pads_S4112x1024_S4142x1024_3000_000 h_S_
/-- The first 5 taps. -/
def p1 (V0 : Valuation τ sig (Elt F)) : FVec F S4112x1024 .f32 :=
  (addf (addf (addf (addf (mulf (broadcastInDim S4112x1024 ![0, 1] bcast_S1x1024_S4112x1024_0_1 (extractStridedSlice S1x1024 ![0, 0] (V0 (Proc.devRef .tc main_arg3)) slices_S31x1024_S1x1024_0_0)) (extractStridedSlice S4112x1024 ![0, 0] (h29 V0) slices_S4142x1024_S4112x1024_0_0)) (mulf (broadcastInDim S4112x1024 ![0, 1] bcast_S1x1024_S4112x1024_0_1 (extractStridedSlice S1x1024 ![1, 0] (V0 (Proc.devRef .tc main_arg3)) slices_S31x1024_S1x1024_1_0)) (extractStridedSlice S4112x1024 ![1, 0] (h29 V0) slices_S4142x1024_S4112x1024_1_0))) (mulf (broadcastInDim S4112x1024 ![0, 1] bcast_S1x1024_S4112x1024_0_1 (extractStridedSlice S1x1024 ![2, 0] (V0 (Proc.devRef .tc main_arg3)) slices_S31x1024_S1x1024_2_0)) (extractStridedSlice S4112x1024 ![2, 0] (h29 V0) slices_S4142x1024_S4112x1024_2_0))) (mulf (broadcastInDim S4112x1024 ![0, 1] bcast_S1x1024_S4112x1024_0_1 (extractStridedSlice S1x1024 ![3, 0] (V0 (Proc.devRef .tc main_arg3)) slices_S31x1024_S1x1024_3_0)) (extractStridedSlice S4112x1024 ![3, 0] (h29 V0) slices_S4142x1024_S4112x1024_3_0))) (mulf (broadcastInDim S4112x1024 ![0, 1] bcast_S1x1024_S4112x1024_0_1 (extractStridedSlice S1x1024 ![4, 0] (V0 (Proc.devRef .tc main_arg3)) slices_S31x1024_S1x1024_4_0)) (extractStridedSlice S4112x1024 ![4, 0] (h29 V0) slices_S4142x1024_S4112x1024_4_0)))
/-- The first 10 taps. -/
def p2 (V0 : Valuation τ sig (Elt F)) : FVec F S4112x1024 .f32 :=
  (addf (addf (addf (addf (addf (p1 V0) (mulf (broadcastInDim S4112x1024 ![0, 1] bcast_S1x1024_S4112x1024_0_1 (extractStridedSlice S1x1024 ![5, 0] (V0 (Proc.devRef .tc main_arg3)) slices_S31x1024_S1x1024_5_0)) (extractStridedSlice S4112x1024 ![5, 0] (h29 V0) slices_S4142x1024_S4112x1024_5_0))) (mulf (broadcastInDim S4112x1024 ![0, 1] bcast_S1x1024_S4112x1024_0_1 (extractStridedSlice S1x1024 ![6, 0] (V0 (Proc.devRef .tc main_arg3)) slices_S31x1024_S1x1024_6_0)) (extractStridedSlice S4112x1024 ![6, 0] (h29 V0) slices_S4142x1024_S4112x1024_6_0))) (mulf (broadcastInDim S4112x1024 ![0, 1] bcast_S1x1024_S4112x1024_0_1 (extractStridedSlice S1x1024 ![7, 0] (V0 (Proc.devRef .tc main_arg3)) slices_S31x1024_S1x1024_7_0)) (extractStridedSlice S4112x1024 ![7, 0] (h29 V0) slices_S4142x1024_S4112x1024_7_0))) (mulf (broadcastInDim S4112x1024 ![0, 1] bcast_S1x1024_S4112x1024_0_1 (extractStridedSlice S1x1024 ![8, 0] (V0 (Proc.devRef .tc main_arg3)) slices_S31x1024_S1x1024_8_0)) (extractStridedSlice S4112x1024 ![8, 0] (h29 V0) slices_S4142x1024_S4112x1024_8_0))) (mulf (broadcastInDim S4112x1024 ![0, 1] bcast_S1x1024_S4112x1024_0_1 (extractStridedSlice S1x1024 ![9, 0] (V0 (Proc.devRef .tc main_arg3)) slices_S31x1024_S1x1024_9_0)) (extractStridedSlice S4112x1024 ![9, 0] (h29 V0) slices_S4142x1024_S4112x1024_9_0)))
/-- The first 15 taps. -/
def p3 (V0 : Valuation τ sig (Elt F)) : FVec F S4112x1024 .f32 :=
  (addf (addf (addf (addf (addf (p2 V0) (mulf (broadcastInDim S4112x1024 ![0, 1] bcast_S1x1024_S4112x1024_0_1 (extractStridedSlice S1x1024 ![10, 0] (V0 (Proc.devRef .tc main_arg3)) slices_S31x1024_S1x1024_10_0)) (extractStridedSlice S4112x1024 ![10, 0] (h29 V0) slices_S4142x1024_S4112x1024_10_0))) (mulf (broadcastInDim S4112x1024 ![0, 1] bcast_S1x1024_S4112x1024_0_1 (extractStridedSlice S1x1024 ![11, 0] (V0 (Proc.devRef .tc main_arg3)) slices_S31x1024_S1x1024_11_0)) (extractStridedSlice S4112x1024 ![11, 0] (h29 V0) slices_S4142x1024_S4112x1024_11_0))) (mulf (broadcastInDim S4112x1024 ![0, 1] bcast_S1x1024_S4112x1024_0_1 (extractStridedSlice S1x1024 ![12, 0] (V0 (Proc.devRef .tc main_arg3)) slices_S31x1024_S1x1024_12_0)) (extractStridedSlice S4112x1024 ![12, 0] (h29 V0) slices_S4142x1024_S4112x1024_12_0))) (mulf (broadcastInDim S4112x1024 ![0, 1] bcast_S1x1024_S4112x1024_0_1 (extractStridedSlice S1x1024 ![13, 0] (V0 (Proc.devRef .tc main_arg3)) slices_S31x1024_S1x1024_13_0)) (extractStridedSlice S4112x1024 ![13, 0] (h29 V0) slices_S4142x1024_S4112x1024_13_0))) (mulf (broadcastInDim S4112x1024 ![0, 1] bcast_S1x1024_S4112x1024_0_1 (extractStridedSlice S1x1024 ![14, 0] (V0 (Proc.devRef .tc main_arg3)) slices_S31x1024_S1x1024_14_0)) (extractStridedSlice S4112x1024 ![14, 0] (h29 V0) slices_S4142x1024_S4112x1024_14_0)))
/-- The first 20 taps. -/
def p4 (V0 : Valuation τ sig (Elt F)) : FVec F S4112x1024 .f32 :=
  (addf (addf (addf (addf (addf (p3 V0) (mulf (broadcastInDim S4112x1024 ![0, 1] bcast_S1x1024_S4112x1024_0_1 (extractStridedSlice S1x1024 ![15, 0] (V0 (Proc.devRef .tc main_arg3)) slices_S31x1024_S1x1024_15_0)) (extractStridedSlice S4112x1024 ![15, 0] (h29 V0) slices_S4142x1024_S4112x1024_15_0))) (mulf (broadcastInDim S4112x1024 ![0, 1] bcast_S1x1024_S4112x1024_0_1 (extractStridedSlice S1x1024 ![16, 0] (V0 (Proc.devRef .tc main_arg3)) slices_S31x1024_S1x1024_16_0)) (extractStridedSlice S4112x1024 ![16, 0] (h29 V0) slices_S4142x1024_S4112x1024_16_0))) (mulf (broadcastInDim S4112x1024 ![0, 1] bcast_S1x1024_S4112x1024_0_1 (extractStridedSlice S1x1024 ![17, 0] (V0 (Proc.devRef .tc main_arg3)) slices_S31x1024_S1x1024_17_0)) (extractStridedSlice S4112x1024 ![17, 0] (h29 V0) slices_S4142x1024_S4112x1024_17_0))) (mulf (broadcastInDim S4112x1024 ![0, 1] bcast_S1x1024_S4112x1024_0_1 (extractStridedSlice S1x1024 ![18, 0] (V0 (Proc.devRef .tc main_arg3)) slices_S31x1024_S1x1024_18_0)) (extractStridedSlice S4112x1024 ![18, 0] (h29 V0) slices_S4142x1024_S4112x1024_18_0))) (mulf (broadcastInDim S4112x1024 ![0, 1] bcast_S1x1024_S4112x1024_0_1 (extractStridedSlice S1x1024 ![19, 0] (V0 (Proc.devRef .tc main_arg3)) slices_S31x1024_S1x1024_19_0)) (extractStridedSlice S4112x1024 ![19, 0] (h29 V0) slices_S4142x1024_S4112x1024_19_0)))
/-- The first 25 taps. -/
def p5 (V0 : Valuation τ sig (Elt F)) : FVec F S4112x1024 .f32 :=
  (addf (addf (addf (addf (addf (p4 V0) (mulf (broadcastInDim S4112x1024 ![0, 1] bcast_S1x1024_S4112x1024_0_1 (extractStridedSlice S1x1024 ![20, 0] (V0 (Proc.devRef .tc main_arg3)) slices_S31x1024_S1x1024_20_0)) (extractStridedSlice S4112x1024 ![20, 0] (h29 V0) slices_S4142x1024_S4112x1024_20_0))) (mulf (broadcastInDim S4112x1024 ![0, 1] bcast_S1x1024_S4112x1024_0_1 (extractStridedSlice S1x1024 ![21, 0] (V0 (Proc.devRef .tc main_arg3)) slices_S31x1024_S1x1024_21_0)) (extractStridedSlice S4112x1024 ![21, 0] (h29 V0) slices_S4142x1024_S4112x1024_21_0))) (mulf (broadcastInDim S4112x1024 ![0, 1] bcast_S1x1024_S4112x1024_0_1 (extractStridedSlice S1x1024 ![22, 0] (V0 (Proc.devRef .tc main_arg3)) slices_S31x1024_S1x1024_22_0)) (extractStridedSlice S4112x1024 ![22, 0] (h29 V0) slices_S4142x1024_S4112x1024_22_0))) (mulf (broadcastInDim S4112x1024 ![0, 1] bcast_S1x1024_S4112x1024_0_1 (extractStridedSlice S1x1024 ![23, 0] (V0 (Proc.devRef .tc main_arg3)) slices_S31x1024_S1x1024_23_0)) (extractStridedSlice S4112x1024 ![23, 0] (h29 V0) slices_S4142x1024_S4112x1024_23_0))) (mulf (broadcastInDim S4112x1024 ![0, 1] bcast_S1x1024_S4112x1024_0_1 (extractStridedSlice S1x1024 ![24, 0] (V0 (Proc.devRef .tc main_arg3)) slices_S31x1024_S1x1024_24_0)) (extractStridedSlice S4112x1024 ![24, 0] (h29 V0) slices_S4142x1024_S4112x1024_24_0)))
/-- The first 30 taps. -/
def p6 (V0 : Valuation τ sig (Elt F)) : FVec F S4112x1024 .f32 :=
  (addf (addf (addf (addf (addf (p5 V0) (mulf (broadcastInDim S4112x1024 ![0, 1] bcast_S1x1024_S4112x1024_0_1 (extractStridedSlice S1x1024 ![25, 0] (V0 (Proc.devRef .tc main_arg3)) slices_S31x1024_S1x1024_25_0)) (extractStridedSlice S4112x1024 ![25, 0] (h29 V0) slices_S4142x1024_S4112x1024_25_0))) (mulf (broadcastInDim S4112x1024 ![0, 1] bcast_S1x1024_S4112x1024_0_1 (extractStridedSlice S1x1024 ![26, 0] (V0 (Proc.devRef .tc main_arg3)) slices_S31x1024_S1x1024_26_0)) (extractStridedSlice S4112x1024 ![26, 0] (h29 V0) slices_S4142x1024_S4112x1024_26_0))) (mulf (broadcastInDim S4112x1024 ![0, 1] bcast_S1x1024_S4112x1024_0_1 (extractStridedSlice S1x1024 ![27, 0] (V0 (Proc.devRef .tc main_arg3)) slices_S31x1024_S1x1024_27_0)) (extractStridedSlice S4112x1024 ![27, 0] (h29 V0) slices_S4142x1024_S4112x1024_27_0))) (mulf (broadcastInDim S4112x1024 ![0, 1] bcast_S1x1024_S4112x1024_0_1 (extractStridedSlice S1x1024 ![28, 0] (V0 (Proc.devRef .tc main_arg3)) slices_S31x1024_S1x1024_28_0)) (extractStridedSlice S4112x1024 ![28, 0] (h29 V0) slices_S4142x1024_S4112x1024_28_0))) (mulf (broadcastInDim S4112x1024 ![0, 1] bcast_S1x1024_S4112x1024_0_1 (extractStridedSlice S1x1024 ![29, 0] (V0 (Proc.devRef .tc main_arg3)) slices_S31x1024_S1x1024_29_0)) (extractStridedSlice S4112x1024 ![29, 0] (h29 V0) slices_S4142x1024_S4112x1024_29_0)))
/-- The convolution with its bias. -/
def z1 (V0 : Valuation τ sig (Elt F)) : FVec F S4112x1024 .f32 :=
  addf (addf (p6 V0) (mulf (broadcastInDim S4112x1024 ![0, 1] bcast_S1x1024_S4112x1024_0_1 (extractStridedSlice S1x1024 ![30, 0] (V0 (Proc.devRef .tc main_arg3)) slices_S31x1024_S1x1024_30_0)) (extractStridedSlice S4112x1024 ![30, 0] (h29 V0) slices_S4142x1024_S4112x1024_30_0))) (broadcastInDim S4112x1024 ![0, 1] bcast_S1x1024_S4112x1024_0_1 (V0 (Proc.devRef .tc main_arg4)))
/-- What the host hands the call. -/
def z1P (V0 : Valuation τ sig (Elt F)) : FVec F S4224x1024 .f32 :=
  pad S4224x1024 ![112, 0] ![0, 0] ![0, 0] (z1 V0) (sitofp .f32 (constantI S_ 32 0#32)) pads_S4112x1024_S4224x1024_11200_000 h_S_

set_option maxRecDepth 8192 in
set_option maxHeartbeats 2000000 in
theorem v0_main_v29 (V0 : Valuation τ sig (Elt F)) : v0 V0 (no_index (Proc.devRef .tc main_v29)) = h29 V0 := by
  unfold v0
  simp only [st0, TRef.binary, TRef.unary, TRef.toBuf, TRef.ofBuf, cast_eq]
  after_results_simp
  all_goals rfl
theorem v0_main_arg3 (V0 : Valuation τ sig (Elt F)) : v0 V0 (no_index (Proc.devRef .tc main_arg3)) = (V0 (Proc.devRef .tc main_arg3)) :=
  (after_of_writes_sub st0 _ st0_writes (by decide)).trans rfl
theorem v0_main_arg4 (V0 : Valuation τ sig (Elt F)) : v0 V0 (no_index (Proc.devRef .tc main_arg4)) = (V0 (Proc.devRef .tc main_arg4)) :=
  (after_of_writes_sub st0 _ st0_writes (by decide)).trans rfl
set_option maxRecDepth 8192 in
set_option maxHeartbeats 2000000 in
theorem v1_main_v53 (V0 : Valuation τ sig (Elt F)) : v1 V0 (no_index (Proc.devRef .tc main_v53)) = p1 V0 := by
  unfold v1
  simp only [st1, TRef.binary, TRef.unary, TRef.toBuf, TRef.ofBuf, cast_eq]
  after_results_simp
  simp only [v0_main_v29, v0_main_arg3] <;> rfl
theorem v1_main_v29 (V0 : Valuation τ sig (Elt F)) : v1 V0 (no_index (Proc.devRef .tc main_v29)) = h29 V0 :=
  (after_of_writes_sub st1 _ st1_writes (by decide)).trans (v0_main_v29 V0)
theorem v1_main_arg3 (V0 : Valuation τ sig (Elt F)) : v1 V0 (no_index (Proc.devRef .tc main_arg3)) = (V0 (Proc.devRef .tc main_arg3)) :=
  (after_of_writes_sub st1 _ st1_writes (by decide)).trans (v0_main_arg3 V0)
theorem v1_main_arg4 (V0 : Valuation τ sig (Elt F)) : v1 V0 (no_index (Proc.devRef .tc main_arg4)) = (V0 (Proc.devRef .tc main_arg4)) :=
  (after_of_writes_sub st1 _ st1_writes (by decide)).trans (v0_main_arg4 V0)
set_option maxRecDepth 8192 in
set_option maxHeartbeats 2000000 in
theorem v2_main_v78 (V0 : Valuation τ sig (Elt F)) : v2 V0 (no_index (Proc.devRef .tc main_v78)) = p2 V0 := by
  unfold v2
  simp only [st2, TRef.binary, TRef.unary, TRef.toBuf, TRef.ofBuf, cast_eq]
  after_results_simp
  simp only [v1_main_v29, v1_main_arg3, v1_main_v53] <;> rfl
theorem v2_main_v29 (V0 : Valuation τ sig (Elt F)) : v2 V0 (no_index (Proc.devRef .tc main_v29)) = h29 V0 :=
  (after_of_writes_sub st2 _ st2_writes (by decide)).trans (v1_main_v29 V0)
theorem v2_main_arg3 (V0 : Valuation τ sig (Elt F)) : v2 V0 (no_index (Proc.devRef .tc main_arg3)) = (V0 (Proc.devRef .tc main_arg3)) :=
  (after_of_writes_sub st2 _ st2_writes (by decide)).trans (v1_main_arg3 V0)
theorem v2_main_arg4 (V0 : Valuation τ sig (Elt F)) : v2 V0 (no_index (Proc.devRef .tc main_arg4)) = (V0 (Proc.devRef .tc main_arg4)) :=
  (after_of_writes_sub st2 _ st2_writes (by decide)).trans (v1_main_arg4 V0)
set_option maxRecDepth 8192 in
set_option maxHeartbeats 2000000 in
theorem v3_main_v103 (V0 : Valuation τ sig (Elt F)) : v3 V0 (no_index (Proc.devRef .tc main_v103)) = p3 V0 := by
  unfold v3
  simp only [st3, TRef.binary, TRef.unary, TRef.toBuf, TRef.ofBuf, cast_eq]
  after_results_simp
  simp only [v2_main_v29, v2_main_arg3, v2_main_v78] <;> rfl
theorem v3_main_v29 (V0 : Valuation τ sig (Elt F)) : v3 V0 (no_index (Proc.devRef .tc main_v29)) = h29 V0 :=
  (after_of_writes_sub st3 _ st3_writes (by decide)).trans (v2_main_v29 V0)
theorem v3_main_arg3 (V0 : Valuation τ sig (Elt F)) : v3 V0 (no_index (Proc.devRef .tc main_arg3)) = (V0 (Proc.devRef .tc main_arg3)) :=
  (after_of_writes_sub st3 _ st3_writes (by decide)).trans (v2_main_arg3 V0)
theorem v3_main_arg4 (V0 : Valuation τ sig (Elt F)) : v3 V0 (no_index (Proc.devRef .tc main_arg4)) = (V0 (Proc.devRef .tc main_arg4)) :=
  (after_of_writes_sub st3 _ st3_writes (by decide)).trans (v2_main_arg4 V0)
set_option maxRecDepth 8192 in
set_option maxHeartbeats 2000000 in
theorem v4_main_v128 (V0 : Valuation τ sig (Elt F)) : v4 V0 (no_index (Proc.devRef .tc main_v128)) = p4 V0 := by
  unfold v4
  simp only [st4, TRef.binary, TRef.unary, TRef.toBuf, TRef.ofBuf, cast_eq]
  after_results_simp
  simp only [v3_main_v29, v3_main_arg3, v3_main_v103] <;> rfl
theorem v4_main_v29 (V0 : Valuation τ sig (Elt F)) : v4 V0 (no_index (Proc.devRef .tc main_v29)) = h29 V0 :=
  (after_of_writes_sub st4 _ st4_writes (by decide)).trans (v3_main_v29 V0)
theorem v4_main_arg3 (V0 : Valuation τ sig (Elt F)) : v4 V0 (no_index (Proc.devRef .tc main_arg3)) = (V0 (Proc.devRef .tc main_arg3)) :=
  (after_of_writes_sub st4 _ st4_writes (by decide)).trans (v3_main_arg3 V0)
theorem v4_main_arg4 (V0 : Valuation τ sig (Elt F)) : v4 V0 (no_index (Proc.devRef .tc main_arg4)) = (V0 (Proc.devRef .tc main_arg4)) :=
  (after_of_writes_sub st4 _ st4_writes (by decide)).trans (v3_main_arg4 V0)
set_option maxRecDepth 8192 in
set_option maxHeartbeats 2000000 in
theorem v5_main_v153 (V0 : Valuation τ sig (Elt F)) : v5 V0 (no_index (Proc.devRef .tc main_v153)) = p5 V0 := by
  unfold v5
  simp only [st5, TRef.binary, TRef.unary, TRef.toBuf, TRef.ofBuf, cast_eq]
  after_results_simp
  simp only [v4_main_v29, v4_main_arg3, v4_main_v128] <;> rfl
theorem v5_main_v29 (V0 : Valuation τ sig (Elt F)) : v5 V0 (no_index (Proc.devRef .tc main_v29)) = h29 V0 :=
  (after_of_writes_sub st5 _ st5_writes (by decide)).trans (v4_main_v29 V0)
theorem v5_main_arg3 (V0 : Valuation τ sig (Elt F)) : v5 V0 (no_index (Proc.devRef .tc main_arg3)) = (V0 (Proc.devRef .tc main_arg3)) :=
  (after_of_writes_sub st5 _ st5_writes (by decide)).trans (v4_main_arg3 V0)
theorem v5_main_arg4 (V0 : Valuation τ sig (Elt F)) : v5 V0 (no_index (Proc.devRef .tc main_arg4)) = (V0 (Proc.devRef .tc main_arg4)) :=
  (after_of_writes_sub st5 _ st5_writes (by decide)).trans (v4_main_arg4 V0)
set_option maxRecDepth 8192 in
set_option maxHeartbeats 2000000 in
theorem v6_main_v178 (V0 : Valuation τ sig (Elt F)) : v6 V0 (no_index (Proc.devRef .tc main_v178)) = p6 V0 := by
  unfold v6
  simp only [st6, TRef.binary, TRef.unary, TRef.toBuf, TRef.ofBuf, cast_eq]
  after_results_simp
  simp only [v5_main_v29, v5_main_arg3, v5_main_v153] <;> rfl
theorem v6_main_v29 (V0 : Valuation τ sig (Elt F)) : v6 V0 (no_index (Proc.devRef .tc main_v29)) = h29 V0 :=
  (after_of_writes_sub st6 _ st6_writes (by decide)).trans (v5_main_v29 V0)
theorem v6_main_arg3 (V0 : Valuation τ sig (Elt F)) : v6 V0 (no_index (Proc.devRef .tc main_arg3)) = (V0 (Proc.devRef .tc main_arg3)) :=
  (after_of_writes_sub st6 _ st6_writes (by decide)).trans (v5_main_arg3 V0)
theorem v6_main_arg4 (V0 : Valuation τ sig (Elt F)) : v6 V0 (no_index (Proc.devRef .tc main_arg4)) = (V0 (Proc.devRef .tc main_arg4)) :=
  (after_of_writes_sub st6 _ st6_writes (by decide)).trans (v5_main_arg4 V0)
set_option maxRecDepth 8192 in
set_option maxHeartbeats 2000000 in
theorem v7_main_v186 (V0 : Valuation τ sig (Elt F)) : v7 V0 (no_index (Proc.devRef .tc main_v186)) = z1P V0 := by
  unfold v7
  simp only [st7, TRef.binary, TRef.unary, TRef.toBuf, TRef.ofBuf, cast_eq]
  after_results_simp
  simp only [v6_main_v29, v6_main_arg3, v6_main_arg4, v6_main_v178] <;> rfl

/-- What the call finds in its third argument. -/
theorem V_z1 (m : (ℓ : Loc nD τ sig) → Buf (Elt F) ℓ) (c : Dev nD) : V m c main_v186 = z1P (fun b => m (c, b)) := by
  show after (List.flatten [hostOps0, hostOps0_1, hostOps0_2, hostOps0_3, hostOps0_4, hostOps0_5]) (fun b => m (c, b)) (Proc.devRef .tc main_v186) = _
  rw [split]
  simp only [after_app]
  exact v7_main_v186 _

end Cert.Proof.MixHost

end
-- ==== Proof.MixRef.lean ====
/- THE REFERENCE'S RESULTS, READ AT A ROW AND A CHANNEL: the row functions of `MixReal` on the rows of the convolution's
   result and of the incoming gradient, 112 zero rows before them. -/
module

public import proofs.«01_k».proof.Proof.MixReal
public import proofs.«01_k».proof.Proof.MixHost
public import proofs.«01_k».proof.Proof.Gen.ReferenceIdeal.Run

@[expose] public section

noncomputable section

namespace Cert.Proof.MixRef

open Cert.ReferenceIdeal Cert.ReferenceIdeal.Gen Cert.ReferenceIdeal.Value Idealize.ShloMosaic Idealize.ShloMosaic.TcCoe Idealize.SL.Sem
open Cert.Proof.MixBwd (Row.Ch)
open Cert.Proof.MixBwd

theorem sitofp_zero : (FloatOps.sitofp (F := Ideal) .f32 (0#32 : BitVec 32) : EReal) = 0 := by
  show (((0#32 : BitVec 32).toInt : ℝ) : EReal) = 0
  simp

variable (V0 : Valuation τ sig (Elt Ideal)) (q : Fin 4112) (l : Fin 1024)

/-- A row of the convolution's result. -/
def zr : Row.Ch := fun k => (res_main_v186 V0 : FVec Ideal S4112x1024 .f32) (ix2 q k)
/-- A row of the second half of the incoming gradient. -/
def dr : Row.Ch := fun k => (V0 (Proc.devRef .tc main_arg1) : FVec Ideal S4224x2048 .f32) (ix2 ⟨112 + q.val, by omega⟩ ⟨1024 + k.val, by omega⟩)
/-- The norm's scale and shift. -/
def gr : Row.Ch := fun k => (V0 (Proc.devRef .tc main_arg5) : FVec Ideal S1x1024 .f32) (ix2 0 k)
def br : Row.Ch := fun k => (V0 (Proc.devRef .tc main_arg6) : FVec Ideal S1x1024 .f32) (ix2 0 k)

theorem v192_apply : (res_main_v192 V0 : FVec Ideal S4112x1024 .f32) (ix2 q l) = Row.cen (zr V0 q) l := by
  pointwise [res_main_v192, res_main_v190]
  rfl

theorem v201_apply : (res_main_v201 V0 : FVec Ideal S4112x1024 .f32) (ix2 q l) = Row.cen (zr V0 q) l := by
  pointwise [res_main_v201, res_main_v190]
  rfl

theorem v203_apply (x : Fin 1) : (res_main_v203 V0 : FVec Ideal S4112x1 .f32) (ix2 q x) = Row.var (zr V0 q) := by
  pointwise [res_main_v203]
  simp only [v192_apply]
  rfl

theorem v204_apply (x : Fin 1) : (res_main_v204 V0 : FVec Ideal S4112x1 .f32) (ix2 q x) = Row.rs (zr V0 q) := by
  pointwise [res_main_v204]
  rw [v203_apply]
  rfl

theorem v209_apply : (res_main_v209 V0 : FVec Ideal S4112x1024 .f32) (ix2 q l) = Row.zh (zr V0 q) l := by
  pointwise [res_main_v209]
  rw [v201_apply, v204_apply]
  rfl

theorem v213_apply : (res_main_v213 V0 : FVec Ideal S4112x1024 .f32) (ix2 q l) = Row.ln (zr V0 q) (gr V0) (br V0) l := by
  pointwise [res_main_v213]
  rw [v209_apply]
  rfl

theorem v214_apply : (res_main_v214_2 V0 : FVec Ideal S4112x1024 .f32) (ix2 q l) = Row.sg (zr V0 q) (gr V0) (br V0) l := by
  pointwise [res_main_v214_2]
  rw [v213_apply]
  rfl

theorem v219_apply : (res_main_v219 V0 : FVec Ideal S4112x1024 .f32) (ix2 q l)
    = Row.dlR (zr V0 q) (dr V0 q) (gr V0) (br V0) l := by
  pointwise [res_main_v219, res_main_v218, res_main_v216]
  rw [v213_apply, v214_apply]
  rfl

theorem v231_apply : (res_main_v231 V0 : FVec Ideal S4112x1024 .f32) (ix2 q l)
    = Row.viaRow (zr V0 q) (Row.dlR (zr V0 q) (dr V0 q) (gr V0) (br V0)) (gr V0) l := by
  pointwise [res_main_v231, res_main_v226]
  rw [v219_apply, v204_apply]
  rfl

theorem v240_apply : (res_main_v240 V0 : FVec Ideal S4112x1024 .f32) (ix2 q l)
    = Row.viaVar (zr V0 q) (Row.dlR (zr V0 q) (dr V0 q) (gr V0) (br V0)) (gr V0) l := by
  pointwise [res_main_v240, res_main_v226]
  simp only [v219_apply, v204_apply, v203_apply, v201_apply, v192_apply, Fin.sum_univ_one]
  rfl

theorem v250_apply : (res_main_v250 V0 : FVec Ideal S4112x1024 .f32) (ix2 q l)
    = Row.backR (zr V0 q) (Row.dlR (zr V0 q) (dr V0 q) (gr V0) (br V0)) (gr V0) l := by
  pointwise [res_main_v250]
  simp only [v231_apply, v240_apply, Fin.sum_univ_one]
  rfl

/-! ## Padding and summing rows -/

theorem pad_apply (x : FVec Ideal S4112x1024 .f32) (h : S4112x1024.Pads ![112, 0] ![0, 0] ![0, 0] S4224x1024)
    (h0 : 0 < S_.numel) (R : Fin 4224) :
    (pad S4224x1024 ![112, 0] ![0, 0] ![0, 0] x (sitofp .f32 (constantI S_ 32 0#32)) h h0 : FVec Ideal S4224x1024 .f32) (ix2 R l)
      = if h : 112 ≤ R.val then (x (ix2 ⟨R.val - 112, by omega⟩ l) : EReal) else 0 := by
  pointwise []
  rw [sitofp_zero]
  by_cases hR : 112 ≤ R.val
  · rw [dif_pos hR, dif_pos (by omega)]
  · rw [dif_neg hR, dif_neg (by omega)]

theorem sum_apply (x : FVec Ideal S4112x1024 .f32) (h : S4112x1024.ReducesTo [0] S1024) (h0 : 0 < S_.numel)
    (hc : S1024.ShapeCasts S1x1024) :
    (shapeCast S1x1024 (Host.reduceAdd x (constant S_ .f32 0x00000000#32) h h0) hc : FVec Ideal S1x1024 .f32) (ix2 0 l)
      = ∑ q : Fin 4112, (x (ix2 q l) : EReal) := by
  pointwise []

/-- A sum over all rows of what is zero on the first 112. -/
theorem sum_rows (f : Fin 4224 → EReal) (h : ∀ R, ¬112 ≤ R.val → f R = 0) :
    ∑ R, f R = ∑ q : Fin 4112, f ⟨112 + q.val, by omega⟩ := by
  rw [Fin.sum_univ_two_halves 112 4112 rfl, Finset.sum_eq_zero (fun k _ => h _ (by have := k.isLt; show ¬112 ≤ k.val; omega)), zero_add]

/-! ## The reference's convolution is the host's -/

/-- Both programs' host operations give the same convolution. -/
theorem z_eq (V1 : Valuation Cert.KernelIdeal.τ Cert.KernelIdeal.sig (Elt Ideal))
    (h0 : (V1 (Proc.devRef .tc Cert.KernelIdeal.main_arg0) : FVec Ideal S4224x5120 .f32) = V0 (Proc.devRef .tc main_arg0))
    (h3 : (V1 (Proc.devRef .tc Cert.KernelIdeal.main_arg3) : FVec Ideal S31x1024 .f32) = V0 (Proc.devRef .tc main_arg3))
    (h4 : (V1 (Proc.devRef .tc Cert.KernelIdeal.main_arg4) : FVec Ideal S1x1024 .f32) = V0 (Proc.devRef .tc main_arg4)) :
    (MixHost.z1 V1 : FVec Ideal S4112x1024 .f32) = res_main_v186 V0 := by
  have e29 : (MixHost.h29 V1 : FVec Ideal S4142x1024 .f32) = res_main_v29 V0 := by
    unfold MixHost.h29 res_main_v29 res_main_v0
    rw [h0]
  unfold MixHost.z1 MixHost.p6 MixHost.p5 MixHost.p4 MixHost.p3 MixHost.p2 MixHost.p1 res_main_v186 res_main_v178 res_main_v103
  rw [e29, h3, h4]

/-- What the host hands the call, at a row and a channel. -/
theorem z1P_apply (V1 : Valuation Cert.KernelIdeal.τ Cert.KernelIdeal.sig (Elt Ideal)) (R : Fin 4224) :
    (MixHost.z1P V1 : FVec Ideal S4224x1024 .f32) (ix2 R l)
      = if h : 112 ≤ R.val then (MixHost.z1 V1 (ix2 ⟨R.val - 112, by omega⟩ l) : EReal) else 0 :=
  pad_apply l (MixHost.z1 V1) _ _ R

end Cert.Proof.MixRef

end
-- ==== Proof.MixFinite.lean ====
/- FINITE INPUTS: what the precondition says of an element of an argument, and that the convolution's result is then
   real everywhere. -/
module

public import proofs.«01_k».proof.Defs
public import proofs.«01_k».proof.Proof.MixRef
public import Idealize.ShloMosaic.Lib.ReduceAll

@[expose] public section

noncomputable section

namespace Cert.Proof.MixFinite

open Cert.ReferenceIdeal Cert.ReferenceIdeal.Gen Cert.ReferenceIdeal.Value Idealize.ShloMosaic Idealize.ShloMosaic.TcCoe Idealize.SL.Sem
open Cert.Proof.MixRef

/-- A real number. -/
def Re (x : EReal) : Prop := ∃ r : ℝ, x = (r : EReal)

theorem Re.add {x y : EReal} : Re x → Re y → Re (x + y) := fun ⟨r, hr⟩ ⟨s, hs⟩ => ⟨r + s, by rw [hr, hs, EReal.coe_add]⟩
theorem Re.mul {x y : EReal} : Re x → Re y → Re (x * y) := fun ⟨r, hr⟩ ⟨s, hs⟩ => ⟨r * s, by rw [hr, hs, EReal.coe_mul]⟩
theorem Re.zero : Re 0 := ⟨0, rfl⟩
theorem Re.sigmoid {x : EReal} : Re x → Re (Ideal.div 1 (1 + Ideal.exp (-x))) := fun ⟨r, hr⟩ => by
  refine ⟨1 * (1 / (1 + Real.exp (-r))), ?_⟩
  rw [hr, ← EReal.coe_neg, Ideal.exp_coe, show (1 : EReal) = ((1 : ℝ) : EReal) from rfl, ← EReal.coe_add,
      Ideal.div_coe (by positivity), ← EReal.coe_mul]
theorem Re.dite {p : Prop} [Decidable p] {f : p → EReal} {g : ¬p → EReal} (hf : ∀ h, Re (f h)) (hg : ∀ h, Re (g h)) :
    Re (if h : p then f h else g h) := by
  by_cases h : p
  · rw [dif_pos h]; exact hf h
  · rw [dif_neg h]; exact hg h

/-- A number whose absolute value is below infinity is real. -/
theorem real_of_lt (x : EReal) (h : Ideal.cmp .olt (max x (-x)) (Ideal.ofBits .f32 0x7F800000#32) = 1#1) : Re x := by
  have ht : Ideal.ofBits .f32 0x7F800000#32 = (⊤ : EReal) := by simp [Ideal.ofBits, Ideal.ieee]
  rw [ht] at h
  have h' : max x (-x) < ⊤ := by
    by_contra hn
    simp [Ideal.cmp, hn] at h
  induction x with
  | bot => simp at h'
  | top => simp at h'
  | coe r => exact ⟨r, rfl⟩

instance : Subsingleton Cert.Pre_finite.S_.Idx := ⟨fun a b => funext fun k => k.elim0⟩

theorem and_split {a b : IVec Cert.Pre_finite.S_ 1} (h : ∀ i, andi a b i = 1#1) : (∀ i, a i = 1#1) ∧ ∀ i, b i = 1#1 := by
  have key : ∀ x y : BitVec 1, IntOp.andi x y = 1#1 → x = 1#1 ∧ y = 1#1 := by decide
  exact ⟨fun i => (key _ _ (h i)).1, fun i => (key _ _ (h i)).2⟩

section Pre

open Cert.Pre_finite

variable [hF : Cert.Pre_finite.Facts] (a0 : FVec Ideal Cert.Pre_finite.S4224x5120 .f32) (a1 : FVec Ideal Cert.Pre_finite.S4224x2048 .f32)
  (a2 : FVec Ideal Cert.Pre_finite.S3x1024 .f32) (a3 : FVec Ideal Cert.Pre_finite.S31x1024 .f32)
  (a4 a5 a6 : FVec Ideal Cert.Pre_finite.S1x1024 .f32)

/-- The precondition makes every element of six of the seven arguments real (the short convolution's taps aren't needed). -/
theorem reals (h : Cert.Pre_finite.fn (F := Ideal) a0 a1 a2 a3 a4 a5 a6 = fun _ => 1#1) :
    (∀ i, Re (a0 i)) ∧ (∀ i, Re (a1 i)) ∧ (∀ i, Re (a3 i)) ∧ (∀ i, Re (a4 i)) ∧ (∀ i, Re (a5 i)) ∧ (∀ i, Re (a6 i)) := by
  have h := congrFun h
  dsimp only [fn, fn_part1] at h
  obtain ⟨h, h6⟩ := and_split h
  obtain ⟨h, h5⟩ := and_split h
  obtain ⟨h, h4⟩ := and_split h
  obtain ⟨h, h3⟩ := and_split h
  obtain ⟨h0, h1⟩ := and_split h
  let o : Cert.Pre_finite.S_.Idx := fun k => k.elim0
  exact ⟨fun i => real_of_lt _ (Host.reduce_andi_all _ _ _ _ o (h0 o) i), fun i => real_of_lt _ (Host.reduce_andi_all _ _ _ _ o (h1 o) i),
    fun i => real_of_lt _ (Host.reduce_andi_all _ _ _ _ o (h3 o) i), fun i => real_of_lt _ (Host.reduce_andi_all _ _ _ _ o (h4 o) i),
    fun i => real_of_lt _ (Host.reduce_andi_all _ _ _ _ o (h5 o) i), fun i => real_of_lt _ (Host.reduce_andi_all _ _ _ _ o (h6 o) i)⟩

end Pre

section Conv

variable (V0 : Valuation τ sig (Elt Ideal))
  (h0 : ∀ i, Re ((V0 (Proc.devRef .tc main_arg0) : FVec Ideal S4224x5120 .f32) i))
  (h3 : ∀ i, Re ((V0 (Proc.devRef .tc main_arg3) : FVec Ideal S31x1024 .f32) i))
  (h4 : ∀ i, Re ((V0 (Proc.devRef .tc main_arg4) : FVec Ideal S1x1024 .f32) i))

include h0 in
theorem real29 (q : Fin 4142) (l : Fin 1024) : Re ((res_main_v29 V0 : FVec Ideal S4142x1024 .f32) (ix2 q l)) := by
  pointwise [res_main_v29, res_main_v0]
  refine Re.dite (fun _ => (h0 _).mul ((h0 _).sigmoid)) fun _ => ?_
  rw [sitofp_zero]; exact Re.zero

include h0 h3 in
theorem real103 (q : Fin 4112) (l : Fin 1024) : Re ((res_main_v103 V0 : FVec Ideal S4112x1024 .f32) (ix2 q l)) := by
  pointwise [res_main_v103]
  iterate 14 refine Re.add ?_ ((h3 _).mul (real29 V0 h0 _ _))
  exact (h3 _).mul (real29 V0 h0 _ _)

include h0 h3 in
theorem real178 (q : Fin 4112) (l : Fin 1024) : Re ((res_main_v178 V0 : FVec Ideal S4112x1024 .f32) (ix2 q l)) := by
  pointwise [res_main_v178]
  iterate 15 refine Re.add ?_ ((h3 _).mul (real29 V0 h0 _ _))
  exact real103 V0 h0 h3 _ _

include h0 h3 h4 in
/-- The convolution's result with its bias is real. -/
theorem real_z (q : Fin 4112) (l : Fin 1024) : Re (zr V0 q l) := by
  unfold zr
  pointwise [res_main_v186]
  exact ((real178 V0 h0 h3 _ _).add ((h3 _).mul (real29 V0 h0 _ _))).add (h4 _)

end Conv

end Cert.Proof.MixFinite

end
-- ==== Proof.MixOut.lean ====
/- WHAT ONE GRID POINT OF THE MIXER'S GRADIENT LEAVES in each output's staging buffer, as a term over its input blocks:
   the three row blocks (`dz1B`, the gradients of the short convolution's result and of the gate), and the three sums
   over rows, which the first point starts from zero and each later point adds to. The short convolution reads a scratch
   buffer that holds 32 rows of the block before and the block's own 128 rows (`padB`). -/
module

public import proofs.«01_k».proof.Proof.Gen.KernelIdeal.Frame
public import Idealize.ShloMosaic.Lib.Pipeline.Value
public import Idealize.ShloMosaic.Lib.Pointwise

@[expose] public section

noncomputable section

namespace Cert.Proof.MixBwd

open Cert.KernelIdeal Cert.KernelIdeal.Gen Idealize.ShloMosaic Idealize.ShloMosaic.TcCoe Idealize.SL.Sem

theorem hz : (![0, 0] : Fin 2 → Nat) = fun _ => 0 := funext fun a => by fin_cases a <;> rfl

/-- The block's gradient at the swish's argument. -/
def dlB (i : grid0.Coords) (z : Vec Ideal S128x1024 .f32) (dy : Vec Ideal S128x2048 .f32) (g b : Vec Ideal S1x1024 .f32) :
    FVec Ideal S128x1024 .f32 := k0_pay23 (k0_pay2 i) (k0_pay19 z g) b dy

/-- The gradient at the normalized rows, less its mean along the row. -/
def cenB (i : grid0.Coords) (z : Vec Ideal S128x1024 .f32) (dy : Vec Ideal S128x2048 .f32) (g b : Vec Ideal S1x1024 .f32) :
    FVec Ideal S128x1024 .f32 := k0_pay25 (k0_pay2 i) (k0_pay19 z g) b dy g

/-- The row's sum of the gradient at the normalized row times the normalized row. -/
def corB (i : grid0.Coords) (z : Vec Ideal S128x1024 .f32) (dy : Vec Ideal S128x2048 .f32) (g b : Vec Ideal S1x1024 .f32) :
    FVec Ideal S128x1 .f32 := k0_pay26 (k0_pay2 i) (k0_pay18 z) (k0_pay19 z g) b dy g

/-- The block's gradient at the layer norm's input. -/
def dz1B (i : grid0.Coords) (z : Vec Ideal S128x1024 .f32) (dy : Vec Ideal S128x2048 .f32) (g b : Vec Ideal S1x1024 .f32) :
    FVec Ideal S128x1024 .f32 :=
  k0_pay28 (k0_pay17 z) (k0_pay18 z) (cenB i z dy g b) (corB i z dy g b) (Scalar.ofBits .f32 0x44800000#32)

/-- The scratch buffer: 32 rows of the block before, then the block's 128 rows. -/
def padB (i : grid0.Coords) (x0 : Vec Ideal S128x5120 .f32) (x1 : Vec Ideal S32x5120 .f32) : Vec Ideal S160x1024 .f32 :=
  fun y => if h : (y 0).val < 32 then k0_pay4 i x1 (ix2 ⟨(y 0).val, h⟩ (y 1))
    else k0_pay5 i x0 (ix2 ⟨(y 0).val - 32, by have := (y 0).isLt; simp at this; omega⟩ (y 1))

/-- The short convolution of the block: three taps over the scratch buffer's rows. -/
def convB (i : grid0.Coords) (x0 : Vec Ideal S128x5120 .f32) (x1 : Vec Ideal S32x5120 .f32) (w : Vec Ideal S3x1024 .f32) :
    FVec Ideal S128x1024 .f32 := fun j =>
  (w (ix2 0 (j 1)) * padB i x0 x1 (ix2 ⟨30 + (j 0).val, by have := (j 0).isLt; simp at this; omega⟩ (j 1))
    + w (ix2 1 (j 1)) * padB i x0 x1 (ix2 ⟨31 + (j 0).val, by have := (j 0).isLt; simp at this; omega⟩ (j 1))
    + w (ix2 2 (j 1)) * padB i x0 x1 (ix2 ⟨32 + (j 0).val, by have := (j 0).isLt; simp at this; omega⟩ (j 1)) : EReal)

/-- The two stores into the scratch buffer leave `padB`. -/
theorem pad_canon (i : grid0.Coords) (x0 : Vec Ideal S128x5120 .f32) (x1 : Vec Ideal S32x5120 .f32)
    (h0 : ∀ a, (![32, 0] : Fin 2 → Nat) a + S128x1024.size a ≤ S160x1024.size a)
    (h1 : ∀ a, (![0, 0] : Fin 2 → Nat) a + S32x1024.size a ≤ S160x1024.size a) :
    View.canon ([⟨Rect.unit ![32, 0] S128x1024.size h0, k0_pay5 i x0⟩, ⟨Rect.unit ![0, 0] S32x1024.size h1, k0_pay4 i x1⟩] :
      List (View.Piece (Elt Ideal) S160x1024 .f32)) = padB i x0 x1 := by
  funext y
  idx_vars y
  by_cases h : y0.val < 32
  · have e : (ix2 y0 y1 : S160x1024.Idx) = (Rect.unit (s := S160x1024) ![0, 0] S32x1024.size h1).emb (ix2 ⟨y0.val, h⟩ y1) := by
      funext a; apply Fin.ext
      match a with
      | ⟨0, _⟩ => show y0.val = 0 + 1 * y0.val; omega
      | ⟨1, _⟩ => show y1.val = 0 + 1 * y1.val; omega
    rw [View.canon_cons_of_not_mem, e, View.canon_cons_emb, ← e]
    · unfold padB
      rw [dif_pos (show ((ix2 y0 y1 : S160x1024.Idx) 0).val < 32 from h)]
      rfl
    · rw [Rect.mem_set_unit]
      intro hc
      have : 32 ≤ y0.val := (hc 0).1
      omega
  · have e : (ix2 y0 y1 : S160x1024.Idx) = (Rect.unit (s := S160x1024) ![32, 0] S128x1024.size h0).emb (ix2 ⟨y0.val - 32, by omega⟩ y1) := by
      funext a; apply Fin.ext
      match a with
      | ⟨0, _⟩ => show y0.val = 32 + 1 * (y0.val - 32); omega
      | ⟨1, _⟩ => show y1.val = 0 + 1 * y1.val; omega
    rw [e, View.canon_cons_emb, ← e]
    unfold padB
    rw [dif_neg (show ¬((ix2 y0 y1 : S160x1024.Idx) 0).val < 32 from h)]
    rfl

/-- The first point: the gradient of the layer norm's input. -/
theorem out0_A_7_eq (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S160x1024 .f32) (harg14 : arg14.IsWhole) (hc0 : cond0_0 i) (x0 : Vec Ideal S128x5120 .f32) (x1 : Vec Ideal S32x5120 .f32) (x2 : Vec Ideal S128x1024 .f32) (x3 : Vec Ideal S128x2048 .f32) (x4 : Vec Ideal S3x1024 .f32) (x5 : Vec Ideal S1x1024 .f32) (x6 : Vec Ideal S1x1024 .f32) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = dz1B i x2 x3 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x5120) hz, View.ld_unit_zero (S := S32x5120) hz, View.ld_unit_zero (S := S128x1024) hz, View.ld_unit_zero (S := S128x2048) hz, View.ld_unit_zero (S := S1x1024) hz]
  try rfl

/-- The first point: the gradient of the short convolution's result. -/
theorem out0_A_8_eq (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S160x1024 .f32) (harg14 : arg14.IsWhole) (hc0 : cond0_0 i) (x0 : Vec Ideal S128x5120 .f32) (x1 : Vec Ideal S32x5120 .f32) (x2 : Vec Ideal S128x1024 .f32) (x3 : Vec Ideal S128x2048 .f32) (x4 : Vec Ideal S3x1024 .f32) (x5 : Vec Ideal S1x1024 .f32) (x6 : Vec Ideal S1x1024 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay22 (k0_pay2 i) (k0_pay3 x0) x3 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x5120) hz, View.ld_unit_zero (S := S32x5120) hz, View.ld_unit_zero (S := S128x1024) hz, View.ld_unit_zero (S := S128x2048) hz, View.ld_unit_zero (S := S1x1024) hz]
  try rfl

set_option maxHeartbeats 2000000 in
/-- The first point: the gradient of the gate. -/
theorem out0_A_9_eq (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S160x1024 .f32) (harg14 : arg14.IsWhole) (hc0 : cond0_0 i) (x0 : Vec Ideal S128x5120 .f32) (x1 : Vec Ideal S32x5120 .f32) (x2 : Vec Ideal S128x1024 .f32) (x3 : Vec Ideal S128x2048 .f32) (x4 : Vec Ideal S3x1024 .f32) (x5 : Vec Ideal S1x1024 .f32) (x6 : Vec Ideal S1x1024 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay21 (k0_pay2 i) (convB i x0 x1 x4) x3 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x5120) hz, View.ld_unit_zero (S := S32x5120) hz, View.ld_unit_zero (S := S128x1024) hz, View.ld_unit_zero (S := S128x2048) hz, View.ld_unit_zero (S := S1x1024) hz]
  simp only [View.readCov_eq_canon']
  rw [pad_canon]
  refine congrArg (fun v => k0_pay21 (k0_pay2 i) v x3) ?_
  funext j
  idx_vars j
  unfold convB
  pointwise [k0_pay15, k0_pay14, k0_pay13, k0_pay12, k0_pay11, k0_pay10, k0_pay9, k0_pay8, k0_pay7, k0_pay6]
  split_ifs <;> first
    | rfl
    | exact congrArg (fun q : Fin 1024 => (x4 (ix2 0 q) * padB i x0 x1 (ix2 ⟨30 + j0.val, by omega⟩ q)
        + x4 (ix2 1 q) * padB i x0 x1 (ix2 ⟨31 + j0.val, by omega⟩ q)
        + x4 (ix2 2 q) * padB i x0 x1 (ix2 ⟨32 + j0.val, by omega⟩ q) : EReal)) (Fin.ext (by simp only; omega))

/-- The first point: the gradient of the norm's scale, summed so far. -/
theorem out0_A_10_eq (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S160x1024 .f32) (harg14 : arg14.IsWhole) (hc0 : cond0_0 i) (x0 : Vec Ideal S128x5120 .f32) (x1 : Vec Ideal S32x5120 .f32) (x2 : Vec Ideal S128x1024 .f32) (x3 : Vec Ideal S128x2048 .f32) (x4 : Vec Ideal S3x1024 .f32) (x5 : Vec Ideal S1x1024 .f32) (x6 : Vec Ideal S1x1024 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay32 (k0_pay18 x2) (dlB i x2 x3 x5 x6) (k0_pay29 (F := Ideal)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x5120) hz, View.ld_unit_zero (S := S32x5120) hz, View.ld_unit_zero (S := S128x1024) hz, View.ld_unit_zero (S := S128x2048) hz, View.ld_unit_zero (S := S1x1024) hz, View.readCov_unit_zero (S := S1x1024) _ hz]
  try rfl

/-- The first point: the gradient of the norm's shift, summed so far. -/
theorem out0_A_11_eq (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S160x1024 .f32) (harg14 : arg14.IsWhole) (hc0 : cond0_0 i) (x0 : Vec Ideal S128x5120 .f32) (x1 : Vec Ideal S32x5120 .f32) (x2 : Vec Ideal S128x1024 .f32) (x3 : Vec Ideal S128x2048 .f32) (x4 : Vec Ideal S3x1024 .f32) (x5 : Vec Ideal S1x1024 .f32) (x6 : Vec Ideal S1x1024 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay33 (dlB i x2 x3 x5 x6) (k0_pay30 (F := Ideal)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x5120) hz, View.ld_unit_zero (S := S32x5120) hz, View.ld_unit_zero (S := S128x1024) hz, View.ld_unit_zero (S := S128x2048) hz, View.ld_unit_zero (S := S1x1024) hz, View.readCov_unit_zero (S := S1x1024) _ hz]
  try rfl

/-- The first point: the gradient of the convolution's bias, summed so far. -/
theorem out0_A_12_eq (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S160x1024 .f32) (harg14 : arg14.IsWhole) (hc0 : cond0_0 i) (x0 : Vec Ideal S128x5120 .f32) (x1 : Vec Ideal S32x5120 .f32) (x2 : Vec Ideal S128x1024 .f32) (x3 : Vec Ideal S128x2048 .f32) (x4 : Vec Ideal S3x1024 .f32) (x5 : Vec Ideal S1x1024 .f32) (x6 : Vec Ideal S1x1024 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay1 (k0_pay34 (k0_pay17 x2) (k0_pay18 x2) (cenB i x2 x3 x5 x6) (corB i x2 x3 x5 x6) (Scalar.ofBits .f32 0x44800000#32) (k0_pay31 (F := Ideal))) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x5120) hz, View.ld_unit_zero (S := S32x5120) hz, View.ld_unit_zero (S := S128x1024) hz, View.ld_unit_zero (S := S128x2048) hz, View.ld_unit_zero (S := S1x1024) hz, View.readCov_unit_zero (S := S1x1024) _ hz]
  try rfl

/-- A later point: the gradient of the layer norm's input. -/
theorem out0_B_7_eq (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S160x1024 .f32) (harg14 : arg14.IsWhole) (hc0 : ¬cond0_0 i) (x0 : Vec Ideal S128x5120 .f32) (x1 : Vec Ideal S32x5120 .f32) (x2 : Vec Ideal S128x1024 .f32) (x3 : Vec Ideal S128x2048 .f32) (x4 : Vec Ideal S3x1024 .f32) (x5 : Vec Ideal S1x1024 .f32) (x6 : Vec Ideal S1x1024 .f32) (xo10 : Vec Ideal S1x1024 .f32) (xo11 : Vec Ideal S1x1024 .f32) (xo12 : Vec Ideal S1x1024 .f32) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo10 xo11 xo12 = dz1B i x2 x3 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo10 xo11 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x5120) hz, View.ld_unit_zero (S := S32x5120) hz, View.ld_unit_zero (S := S128x1024) hz, View.ld_unit_zero (S := S128x2048) hz, View.ld_unit_zero (S := S1x1024) hz]
  try rfl

/-- A later point: the gradient of the short convolution's result. -/
theorem out0_B_8_eq (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S160x1024 .f32) (harg14 : arg14.IsWhole) (hc0 : ¬cond0_0 i) (x0 : Vec Ideal S128x5120 .f32) (x1 : Vec Ideal S32x5120 .f32) (x2 : Vec Ideal S128x1024 .f32) (x3 : Vec Ideal S128x2048 .f32) (x4 : Vec Ideal S3x1024 .f32) (x5 : Vec Ideal S1x1024 .f32) (x6 : Vec Ideal S1x1024 .f32) (xo10 : Vec Ideal S1x1024 .f32) (xo11 : Vec Ideal S1x1024 .f32) (xo12 : Vec Ideal S1x1024 .f32) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo10 xo11 xo12 = k0_pay22 (k0_pay2 i) (k0_pay3 x0) x3 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo10 xo11 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x5120) hz, View.ld_unit_zero (S := S32x5120) hz, View.ld_unit_zero (S := S128x1024) hz, View.ld_unit_zero (S := S128x2048) hz, View.ld_unit_zero (S := S1x1024) hz]
  try rfl

set_option maxHeartbeats 2000000 in
/-- A later point: the gradient of the gate. -/
theorem out0_B_9_eq (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S160x1024 .f32) (harg14 : arg14.IsWhole) (hc0 : ¬cond0_0 i) (x0 : Vec Ideal S128x5120 .f32) (x1 : Vec Ideal S32x5120 .f32) (x2 : Vec Ideal S128x1024 .f32) (x3 : Vec Ideal S128x2048 .f32) (x4 : Vec Ideal S3x1024 .f32) (x5 : Vec Ideal S1x1024 .f32) (x6 : Vec Ideal S1x1024 .f32) (xo10 : Vec Ideal S1x1024 .f32) (xo11 : Vec Ideal S1x1024 .f32) (xo12 : Vec Ideal S1x1024 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo10 xo11 xo12 = k0_pay21 (k0_pay2 i) (convB i x0 x1 x4) x3 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo10 xo11 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x5120) hz, View.ld_unit_zero (S := S32x5120) hz, View.ld_unit_zero (S := S128x1024) hz, View.ld_unit_zero (S := S128x2048) hz, View.ld_unit_zero (S := S1x1024) hz]
  simp only [View.readCov_eq_canon']
  rw [pad_canon]
  refine congrArg (fun v => k0_pay21 (k0_pay2 i) v x3) ?_
  funext j
  idx_vars j
  unfold convB
  pointwise [k0_pay15, k0_pay14, k0_pay13, k0_pay12, k0_pay11, k0_pay10, k0_pay9, k0_pay8, k0_pay7, k0_pay6]
  split_ifs <;> first
    | rfl
    | exact congrArg (fun q : Fin 1024 => (x4 (ix2 0 q) * padB i x0 x1 (ix2 ⟨30 + j0.val, by omega⟩ q)
        + x4 (ix2 1 q) * padB i x0 x1 (ix2 ⟨31 + j0.val, by omega⟩ q)
        + x4 (ix2 2 q) * padB i x0 x1 (ix2 ⟨32 + j0.val, by omega⟩ q) : EReal)) (Fin.ext (by simp only; omega))

/-- A later point: the gradient of the norm's scale, summed so far. -/
theorem out0_B_10_eq (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S160x1024 .f32) (harg14 : arg14.IsWhole) (hc0 : ¬cond0_0 i) (x0 : Vec Ideal S128x5120 .f32) (x1 : Vec Ideal S32x5120 .f32) (x2 : Vec Ideal S128x1024 .f32) (x3 : Vec Ideal S128x2048 .f32) (x4 : Vec Ideal S3x1024 .f32) (x5 : Vec Ideal S1x1024 .f32) (x6 : Vec Ideal S1x1024 .f32) (xo10 : Vec Ideal S1x1024 .f32) (xo11 : Vec Ideal S1x1024 .f32) (xo12 : Vec Ideal S1x1024 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo10 xo11 xo12 = k0_pay32 (k0_pay18 x2) (dlB i x2 x3 x5 x6) xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo10 xo11 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x5120) hz, View.ld_unit_zero (S := S32x5120) hz, View.ld_unit_zero (S := S128x1024) hz, View.ld_unit_zero (S := S128x2048) hz, View.ld_unit_zero (S := S1x1024) hz]
  try rfl

/-- A later point: the gradient of the norm's shift, summed so far. -/
theorem out0_B_11_eq (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S160x1024 .f32) (harg14 : arg14.IsWhole) (hc0 : ¬cond0_0 i) (x0 : Vec Ideal S128x5120 .f32) (x1 : Vec Ideal S32x5120 .f32) (x2 : Vec Ideal S128x1024 .f32) (x3 : Vec Ideal S128x2048 .f32) (x4 : Vec Ideal S3x1024 .f32) (x5 : Vec Ideal S1x1024 .f32) (x6 : Vec Ideal S1x1024 .f32) (xo10 : Vec Ideal S1x1024 .f32) (xo11 : Vec Ideal S1x1024 .f32) (xo12 : Vec Ideal S1x1024 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo10 xo11 xo12 = k0_pay33 (dlB i x2 x3 x5 x6) xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo10 xo11 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x5120) hz, View.ld_unit_zero (S := S32x5120) hz, View.ld_unit_zero (S := S128x1024) hz, View.ld_unit_zero (S := S128x2048) hz, View.ld_unit_zero (S := S1x1024) hz]
  try rfl

/-- A later point: the gradient of the convolution's bias, summed so far. -/
theorem out0_B_12_eq (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S160x1024 .f32) (harg14 : arg14.IsWhole) (hc0 : ¬cond0_0 i) (x0 : Vec Ideal S128x5120 .f32) (x1 : Vec Ideal S32x5120 .f32) (x2 : Vec Ideal S128x1024 .f32) (x3 : Vec Ideal S128x2048 .f32) (x4 : Vec Ideal S3x1024 .f32) (x5 : Vec Ideal S1x1024 .f32) (x6 : Vec Ideal S1x1024 .f32) (xo10 : Vec Ideal S1x1024 .f32) (xo11 : Vec Ideal S1x1024 .f32) (xo12 : Vec Ideal S1x1024 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo10 xo11 xo12 = k0_pay1 (k0_pay34 (k0_pay17 x2) (k0_pay18 x2) (cenB i x2 x3 x5 x6) (corB i x2 x3 x5 x6) (Scalar.ofBits .f32 0x44800000#32) xo12) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo10 xo11 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x5120) hz, View.ld_unit_zero (S := S32x5120) hz, View.ld_unit_zero (S := S128x1024) hz, View.ld_unit_zero (S := S128x2048) hz, View.ld_unit_zero (S := S1x1024) hz]
  try rfl

end Cert.Proof.MixBwd

end
-- ==== Proof.MixRows.lean ====
/- THE KERNEL'S BLOCKS, READ AT A ROW AND A CHANNEL. Row `r` of the block at grid point `i` is row `128 i + r` of the
   array; the rows below 112 are masked. Every block of `MixOut` is there the row function of `MixReal`, or zero. -/
module

public import proofs.«01_k».proof.Proof.MixOut
public import proofs.«01_k».proof.Proof.MixReal

@[expose] public section

noncomputable section

namespace Cert.Proof.MixBwd

open Cert.KernelIdeal Cert.KernelIdeal.Gen Idealize.ShloMosaic Idealize.ShloMosaic.TcCoe Idealize.SL.Sem

/-- The row of the array a block's row is. -/
def rowOf (i : grid0.Coords) (r : Nat) : Nat := (i 0).val * 128 + r

theorem mask_dec : ∀ a : Fin 33, ∀ r : Fin 128,
    IntOp.cmpi .sge (IntOp.addi (Scalar.muli (BitVec.ofNat 32 a.val) 128#32) (BitVec.ofNat 32 r.val)) 112#32
      = if 112 ≤ a.val * 128 + r.val then 1#1 else 0#1 := by decide +kernel

theorem mask_eq (i : grid0.Coords) (r : Fin 128) :
    IntOp.cmpi .sge (IntOp.addi (Scalar.muli (BitVec.ofNat 32 (i 0).val) 128#32) (BitVec.ofNat 32 r.val)) 112#32
      = if 112 ≤ rowOf i r.val then 1#1 else 0#1 := mask_dec (i 0) r

theorem select_ite {α : Type} (p : Prop) [Decidable p] (a b : α) :
    Scalar.select (if p then 1#1 else 0#1) a b = if p then a else b := by
  by_cases h : p <;> simp [Scalar.select, h]

/-- The mask of the 32 rows before a block: not below row 112, and none at the first point. -/
theorem halo_dec : ∀ a : Fin 33, ∀ r : Fin 32,
    IntOp.andi (IntOp.cmpi .sge (IntOp.addi (Scalar.subi (Scalar.muli (BitVec.ofNat 32 a.val) 128#32) 32#32)
        (BitVec.ofNat 32 r.val)) 112#32) (Scalar.cmpi .sgt (BitVec.ofNat 32 a.val) 0#32)
      = if 112 + 32 ≤ a.val * 128 + r.val then 1#1 else 0#1 := by decide +kernel

variable (i : grid0.Coords) (x0 : Vec Ideal S128x5120 .f32) (x1 : Vec Ideal S32x5120 .f32) (z : Vec Ideal S128x1024 .f32)
  (dy : Vec Ideal S128x2048 .f32) (w : Vec Ideal S3x1024 .f32) (g b : Vec Ideal S1x1024 .f32) (r : Fin 128) (l : Fin 1024)

/-- Row `r` of a block of 1024 channels. -/
def zrow : Row.Ch := fun k => z (ix2 r k)
/-- Row `r` of the second half of a block of 2048 channels. -/
def drow : Row.Ch := fun k => dy (ix2 r ⟨1024 + k.val, by omega⟩)
/-- The one row of a channel vector. -/
def vrow : Row.Ch := fun k => g (ix2 0 k)

theorem zh_apply : k0_pay18 z (ix2 r l) = Row.zh (zrow z r) l := by
  pointwise [k0_pay18, k0_pay16, k0_pay17]
  rfl

theorem rs_apply : k0_pay17 z (ix2 r 0) = Row.rs (zrow z r) := by
  pointwise [k0_pay16, k0_pay17]
  rfl

/-- The gradient at the swish's argument, zero on a masked row. -/
def dlM (p : Prop) [Decidable p] (z d g b : Row.Ch) : Row.Ch := fun l => if p then Row.dl z d g b l else 0

theorem dl_apply : dlB i z dy g b (ix2 r l)
    = dlM (112 ≤ rowOf i r.val) (zrow z r) (drow dy r) (vrow g) (vrow b) l := by
  unfold dlB
  pointwise [k0_pay23, k0_pay19, k0_pay18, k0_pay16, k0_pay17, k0_pay2]
  rw [mask_eq, select_ite]
  rfl

/-- The gradient at the layer norm's input. -/
theorem dz1_apply : dz1B i z dy g b (ix2 r l)
    = Row.back (zrow z r) (dlM (112 ≤ rowOf i r.val) (zrow z r) (drow dy r) (vrow g) (vrow b)) (vrow g) l := by
  have h : ∀ x, k0_pay23 (k0_pay2 i) (k0_pay19 z g) b dy (ix2 r x)
    = dlM (112 ≤ rowOf i r.val) (zrow z r) (drow dy r) (vrow g) (vrow b) x := fun x => dl_apply i z dy g b r x
  unfold dz1B cenB corB
  pointwise [k0_pay28, k0_pay27, k0_pay25, k0_pay26, k0_pay24]
  simp only [h, rs_apply, zh_apply]
  rfl

/-- On a masked row it is zero. -/
theorem back_zero (z g : Row.Ch) (l : Fin 1024) : Row.back z (fun _ => 0) g l = 0 := by
  have e : Ideal.div (0 : EReal) Row.num = 0 := by
    rw [Row.num_eq, Ideal.div_coe (by norm_num), zero_mul]
  unfold Row.back
  simp only [zero_mul, Finset.sum_const_zero, e, mul_zero, sub_zero]

theorem back_mask (p : Prop) [Decidable p] (z d g b : Row.Ch) (l : Fin 1024) :
    Row.back z (dlM p z d g b) g l = if p then Row.back z (Row.dl z d g b) g l else 0 := by
  by_cases h : p
  · rw [if_pos h]
    congr 1
    funext x
    exact if_pos h
  · rw [if_neg h, ← back_zero z g l]
    congr 1
    funext x
    exact if_neg h

/-- The gradient at the short convolution's result. -/
theorem dcs_apply : k0_pay22 (k0_pay2 i) (k0_pay3 x0) dy (ix2 r l)
    = if 112 ≤ rowOf i r.val then (dy (ix2 r ⟨l.val, by omega⟩) * x0 (ix2 r ⟨l.val, by omega⟩) : EReal) else 0 := by
  pointwise [k0_pay22, k0_pay20, k0_pay3, k0_pay2]
  rw [mask_eq, select_ite]

theorem own_apply : k0_pay5 i x0 (ix2 r l)
    = if 112 ≤ rowOf i r.val then
        (x0 (ix2 r ⟨1024 + l.val, by omega⟩) * x0 (ix2 r ⟨2048 + l.val, by omega⟩) : EReal) else 0 := by
  pointwise [k0_pay5, k0_pay2]
  rw [mask_eq, select_ite]

theorem halo_apply (r : Fin 32) : k0_pay4 i x1 (ix2 r l)
    = if 112 + 32 ≤ rowOf i r.val then
        (x1 (ix2 r ⟨1024 + l.val, by omega⟩) * x1 (ix2 r ⟨2048 + l.val, by omega⟩) : EReal) else 0 := by
  pointwise [k0_pay4]
  rw [show _ = _ from halo_dec (i 0) r, select_ite]
  rfl

theorem db_apply : k0_pay21 (k0_pay2 i) (convB i x0 x1 w) dy (ix2 r l)
    = if 112 ≤ rowOf i r.val then (dy (ix2 r ⟨l.val, by omega⟩) * convB i x0 x1 w (ix2 r l) : EReal) else 0 := by
  pointwise [k0_pay21, k0_pay20, k0_pay2]
  rw [mask_eq, select_ite]

variable (xo : Vec Ideal S1x1024 .f32)

theorem dg_apply : k0_pay32 (k0_pay18 z) (dlB i z dy g b) xo (ix2 0 l)
    = (xo (ix2 0 l) + ∑ r : Fin 128, dlB i z dy g b (ix2 r l) * Row.zh (zrow z r) l : EReal) := by
  pointwise [k0_pay32]
  simp only [zh_apply]

theorem dbias_apply : k0_pay33 (dlB i z dy g b) xo (ix2 0 l)
    = (xo (ix2 0 l) + ∑ r : Fin 128, dlB i z dy g b (ix2 r l) : EReal) := by
  pointwise [k0_pay33]

theorem dbcf_apply : k0_pay1 (k0_pay34 (k0_pay17 z) (k0_pay18 z) (cenB i z dy g b) (corB i z dy g b)
      (Scalar.ofBits .f32 0x44800000#32) xo) (ix2 0 l)
    = (xo (ix2 0 l) + ∑ r : Fin 128, dz1B i z dy g b (ix2 r l) : EReal) := by
  unfold dz1B
  pointwise [k0_pay1, k0_pay34, k0_pay28]

theorem zero29 : (k0_pay29 (F := Ideal)) (ix2 0 l) = (0 : EReal) := by pointwise [k0_pay29]
theorem zero30 : (k0_pay30 (F := Ideal)) (ix2 0 l) = (0 : EReal) := by pointwise [k0_pay30]
theorem zero31 : (k0_pay31 (F := Ideal)) (ix2 0 l) = (0 : EReal) := by pointwise [k0_pay31]

end Cert.Proof.MixBwd

end
-- ==== Proof.MixArrays.lean ====
/- THE RESULT ARRAYS AFTER THE RUN, as functions of the arrays the call takes: each block of 128 rows is written where its
   rows are, and the three sums over rows have, after the last grid point, every row in them. -/
module

public import proofs.«01_k».proof.Proof.MixRows
public import proofs.«01_k».proof.Proof.Gen.KernelIdeal.Value

@[expose] public section

noncomputable section

namespace Cert.Proof.MixBwd

open Cert.KernelIdeal Cert.KernelIdeal.Gen Idealize.ShloMosaic Idealize.ShloMosaic.TcCoe Idealize.SL.Sem
open Cert.KernelIdeal.Value

/-! ## The results, at a row and a channel -/

section Results

variable (U : Vec Ideal S4224x5120 .f32) (Z : Vec Ideal S4224x1024 .f32) (DY : Vec Ideal S4224x2048 .f32)
  (W : Vec Ideal S3x1024 .f32) (g b : Vec Ideal S1x1024 .f32) (R : Fin 4224) (l : Fin 1024)

/-- A row of the convolution's result. -/
def zrowA : Row.Ch := fun k => Z (ix2 R k)
/-- A row of the second half of the incoming gradient. -/
def drowA : Row.Ch := fun k => DY (ix2 R ⟨1024 + k.val, by omega⟩)
/-- The gradient at the swish's argument. -/
def dlA : EReal := dlM (112 ≤ R.val) (zrowA Z R) (drowA DY R) (vrow g) (vrow b) l
/-- The gradient at the layer norm's input. -/
def dz1A : EReal := Row.back (zrowA Z R) (dlM (112 ≤ R.val) (zrowA Z R) (drowA DY R) (vrow g) (vrow b)) (vrow g) l
/-- The gradient at the short convolution's result. -/
def dcsA : EReal := if 112 ≤ R.val then
  (DY (ix2 R ⟨l.val, by omega⟩) * U (ix2 R ⟨l.val, by omega⟩) : EReal) else 0
/-- The product the short convolution runs over, two rows late, zero before row 112. -/
def gated (n : Nat) : EReal := if h : 114 ≤ n ∧ n < 4226 then
  (U (ix2 ⟨n - 2, by omega⟩ ⟨1024 + l.val, by omega⟩) * U (ix2 ⟨n - 2, by omega⟩ ⟨2048 + l.val, by omega⟩) : EReal) else 0
/-- The short convolution. -/
def convA : EReal :=
  (W (ix2 0 l) * gated U l R.val + W (ix2 1 l) * gated U l (R.val + 1) + W (ix2 2 l) * gated U l (R.val + 2) : EReal)
/-- The gradient at the gate. -/
def dbA : EReal := if 112 ≤ R.val then (DY (ix2 R ⟨l.val, by omega⟩) * convA U W R l : EReal) else 0

/-- The gradient of the norm's scale: a sum over the rows. -/
def dgS (j : S1x1024.Idx) : EReal := ∑ R : Fin 4224, dlA Z DY g b R (j 1) * Row.zh (zrowA Z R) (j 1)
/-- The gradient of the norm's shift: a sum over the rows. -/
def dsS (j : S1x1024.Idx) : EReal := ∑ R : Fin 4224, dlA Z DY g b R (j 1)
/-- The gradient of the convolution's bias: a sum over the rows. -/
def dbS (j : S1x1024.Idx) : EReal := ∑ R : Fin 4224, dz1A Z DY g b R (j 1)

end Results

/-! ## The blocks' places -/

theorem coord0 : ∀ t : Fin cfg0.N, (grid0.coords t 0).val = t.val := (by decide +kernel : ∀ t : Fin grid0.N, _)

theorem rowOf_eq (t : Fin cfg0.N) (r : Nat) : rowOf (grid0.coords t) r = t.val * 128 + r := by
  unfold rowOf; rw [coord0]

theorem lt_rows (t : Fin cfg0.N) (r : Fin 128) : t.val * 128 + r.val < 4224 := by
  have := t.isLt; have : cfg0.N = 33 := rfl; have := r.isLt; omega

/-- The array's row that is row `r` of block `t`. -/
def row (t : Fin cfg0.N) (r : Fin 128) : Fin 4224 := ⟨t.val * 128 + r.val, lt_rows t r⟩

theorem idx0 : ∀ t : Fin cfg0.N, win0_0.index t (0 : Fin 2) = t.val ∧ win0_0.index t (1 : Fin 2) = 0 :=
  (by decide +kernel : ∀ t : Fin grid0.N, _)
theorem emb0 (t : Fin cfg0.N) (r : Fin 128) (k : Fin 5120) : ((cfg0.win 0).blk t).view.emb (ix2 r k) = ix2 (row t r) k := by
  obtain ⟨e0, e1⟩ := idx0 t
  funext a; apply Fin.ext
  match a with
  | ⟨0, _⟩ => show win0_0.index t (0 : Fin 2) * 128 + 1 * r.val = t.val * 128 + r.val; omega
  | ⟨1, _⟩ => show win0_0.index t (1 : Fin 2) * 5120 + 1 * k.val = k.val; omega

theorem idx2 : ∀ t : Fin cfg0.N, win0_2.index t (0 : Fin 2) = t.val ∧ win0_2.index t (1 : Fin 2) = 0 :=
  (by decide +kernel : ∀ t : Fin grid0.N, _)
theorem emb2 (t : Fin cfg0.N) (r : Fin 128) (k : Fin 1024) : ((cfg0.win 2).blk t).view.emb (ix2 r k) = ix2 (row t r) k := by
  obtain ⟨e0, e1⟩ := idx2 t
  funext a; apply Fin.ext
  match a with
  | ⟨0, _⟩ => show win0_2.index t (0 : Fin 2) * 128 + 1 * r.val = t.val * 128 + r.val; omega
  | ⟨1, _⟩ => show win0_2.index t (1 : Fin 2) * 1024 + 1 * k.val = k.val; omega

theorem idx3 : ∀ t : Fin cfg0.N, win0_3.index t (0 : Fin 2) = t.val ∧ win0_3.index t (1 : Fin 2) = 0 :=
  (by decide +kernel : ∀ t : Fin grid0.N, _)
theorem emb3 (t : Fin cfg0.N) (r : Fin 128) (k : Fin 2048) : ((cfg0.win 3).blk t).view.emb (ix2 r k) = ix2 (row t r) k := by
  obtain ⟨e0, e1⟩ := idx3 t
  funext a; apply Fin.ext
  match a with
  | ⟨0, _⟩ => show win0_3.index t (0 : Fin 2) * 128 + 1 * r.val = t.val * 128 + r.val; omega
  | ⟨1, _⟩ => show win0_3.index t (1 : Fin 2) * 2048 + 1 * k.val = k.val; omega

theorem idx7 : ∀ t : Fin cfg0.N, win0_7.index t (0 : Fin 2) = t.val ∧ win0_7.index t (1 : Fin 2) = 0 :=
  (by decide +kernel : ∀ t : Fin grid0.N, _)
theorem emb7 (t : Fin cfg0.N) (r : Fin 128) (k : Fin 1024) : ((cfg0.win 7).blk t).view.emb (ix2 r k) = ix2 (row t r) k := by
  obtain ⟨e0, e1⟩ := idx7 t
  funext a; apply Fin.ext
  match a with
  | ⟨0, _⟩ => show win0_7.index t (0 : Fin 2) * 128 + 1 * r.val = t.val * 128 + r.val; omega
  | ⟨1, _⟩ => show win0_7.index t (1 : Fin 2) * 1024 + 1 * k.val = k.val; omega

theorem idx8 : ∀ t : Fin cfg0.N, win0_8.index t (0 : Fin 2) = t.val ∧ win0_8.index t (1 : Fin 2) = 0 :=
  (by decide +kernel : ∀ t : Fin grid0.N, _)
theorem emb8 (t : Fin cfg0.N) (r : Fin 128) (k : Fin 1024) : ((cfg0.win 8).blk t).view.emb (ix2 r k) = ix2 (row t r) k := by
  obtain ⟨e0, e1⟩ := idx8 t
  funext a; apply Fin.ext
  match a with
  | ⟨0, _⟩ => show win0_8.index t (0 : Fin 2) * 128 + 1 * r.val = t.val * 128 + r.val; omega
  | ⟨1, _⟩ => show win0_8.index t (1 : Fin 2) * 1024 + 1 * k.val = k.val; omega

theorem idx9 : ∀ t : Fin cfg0.N, win0_9.index t (0 : Fin 2) = t.val ∧ win0_9.index t (1 : Fin 2) = 0 :=
  (by decide +kernel : ∀ t : Fin grid0.N, _)
theorem emb9 (t : Fin cfg0.N) (r : Fin 128) (k : Fin 1024) : ((cfg0.win 9).blk t).view.emb (ix2 r k) = ix2 (row t r) k := by
  obtain ⟨e0, e1⟩ := idx9 t
  funext a; apply Fin.ext
  match a with
  | ⟨0, _⟩ => show win0_9.index t (0 : Fin 2) * 128 + 1 * r.val = t.val * 128 + r.val; omega
  | ⟨1, _⟩ => show win0_9.index t (1 : Fin 2) * 1024 + 1 * k.val = k.val; omega

theorem idx1 : ∀ t : Fin cfg0.N, win0_1.index t (0 : Fin 2) = t.val * 4 - 1 ∧ win0_1.index t (1 : Fin 2) = 0 :=
  (by decide +kernel : ∀ t : Fin grid0.N, _)
theorem emb1 (t : Fin cfg0.N) (r : Fin 32) (k : Fin 5120) : ((cfg0.win 1).blk t).view.emb (ix2 r k)
    = ix2 ⟨(t.val * 4 - 1) * 32 + r.val, by have := t.isLt; have : cfg0.N = 33 := rfl; have := r.isLt; omega⟩ k := by
  obtain ⟨e0, e1⟩ := idx1 t
  funext a; apply Fin.ext
  match a with
  | ⟨0, _⟩ => show win0_1.index t (0 : Fin 2) * 32 + 1 * r.val = (t.val * 4 - 1) * 32 + r.val; omega
  | ⟨1, _⟩ => show win0_1.index t (1 : Fin 2) * 5120 + 1 * k.val = k.val; omega

theorem idx4 : ∀ t : Fin cfg0.N, win0_4.index t (0 : Fin 2) = 0 ∧ win0_4.index t (1 : Fin 2) = 0 :=
  (by decide +kernel : ∀ t : Fin grid0.N, _)
theorem emb4 (t : Fin cfg0.N) (r : Fin 3) (k : Fin 1024) : ((cfg0.win 4).blk t).view.emb (ix2 r k) = ix2 r k := by
  obtain ⟨e0, e1⟩ := idx4 t
  funext a; apply Fin.ext
  match a with
  | ⟨0, _⟩ => show win0_4.index t (0 : Fin 2) * 3 + 1 * r.val = r.val; omega
  | ⟨1, _⟩ => show win0_4.index t (1 : Fin 2) * 1024 + 1 * k.val = k.val; omega

theorem idx5 : ∀ t : Fin cfg0.N, win0_5.index t (0 : Fin 2) = 0 ∧ win0_5.index t (1 : Fin 2) = 0 :=
  (by decide +kernel : ∀ t : Fin grid0.N, _)
theorem emb5 (t : Fin cfg0.N) (r : Fin 1) (k : Fin 1024) : ((cfg0.win 5).blk t).view.emb (ix2 r k) = ix2 r k := by
  obtain ⟨e0, e1⟩ := idx5 t
  funext a; apply Fin.ext
  match a with
  | ⟨0, _⟩ => show win0_5.index t (0 : Fin 2) * 1 + 1 * r.val = r.val; omega
  | ⟨1, _⟩ => show win0_5.index t (1 : Fin 2) * 1024 + 1 * k.val = k.val; omega

theorem idx6 : ∀ t : Fin cfg0.N, win0_6.index t (0 : Fin 2) = 0 ∧ win0_6.index t (1 : Fin 2) = 0 :=
  (by decide +kernel : ∀ t : Fin grid0.N, _)
theorem emb6 (t : Fin cfg0.N) (r : Fin 1) (k : Fin 1024) : ((cfg0.win 6).blk t).view.emb (ix2 r k) = ix2 r k := by
  obtain ⟨e0, e1⟩ := idx6 t
  funext a; apply Fin.ext
  match a with
  | ⟨0, _⟩ => show win0_6.index t (0 : Fin 2) * 1 + 1 * r.val = r.val; omega
  | ⟨1, _⟩ => show win0_6.index t (1 : Fin 2) * 1024 + 1 * k.val = k.val; omega

theorem idx10 : ∀ t : Fin cfg0.N, win0_10.index t (0 : Fin 2) = 0 ∧ win0_10.index t (1 : Fin 2) = 0 :=
  (by decide +kernel : ∀ t : Fin grid0.N, _)
theorem emb10 (t : Fin cfg0.N) (r : Fin 1) (k : Fin 1024) : ((cfg0.win 10).blk t).view.emb (ix2 r k) = ix2 r k := by
  obtain ⟨e0, e1⟩ := idx10 t
  funext a; apply Fin.ext
  match a with
  | ⟨0, _⟩ => show win0_10.index t (0 : Fin 2) * 1 + 1 * r.val = r.val; omega
  | ⟨1, _⟩ => show win0_10.index t (1 : Fin 2) * 1024 + 1 * k.val = k.val; omega

theorem idx11 : ∀ t : Fin cfg0.N, win0_11.index t (0 : Fin 2) = 0 ∧ win0_11.index t (1 : Fin 2) = 0 :=
  (by decide +kernel : ∀ t : Fin grid0.N, _)
theorem emb11 (t : Fin cfg0.N) (r : Fin 1) (k : Fin 1024) : ((cfg0.win 11).blk t).view.emb (ix2 r k) = ix2 r k := by
  obtain ⟨e0, e1⟩ := idx11 t
  funext a; apply Fin.ext
  match a with
  | ⟨0, _⟩ => show win0_11.index t (0 : Fin 2) * 1 + 1 * r.val = r.val; omega
  | ⟨1, _⟩ => show win0_11.index t (1 : Fin 2) * 1024 + 1 * k.val = k.val; omega

theorem idx12 : ∀ t : Fin cfg0.N, win0_12.index t (0 : Fin 2) = 0 ∧ win0_12.index t (1 : Fin 2) = 0 :=
  (by decide +kernel : ∀ t : Fin grid0.N, _)
theorem emb12 (t : Fin cfg0.N) (r : Fin 1) (k : Fin 1024) : ((cfg0.win 12).blk t).view.emb (ix2 r k) = ix2 r k := by
  obtain ⟨e0, e1⟩ := idx12 t
  funext a; apply Fin.ext
  match a with
  | ⟨0, _⟩ => show win0_12.index t (0 : Fin 2) * 1 + 1 * r.val = r.val; omega
  | ⟨1, _⟩ => show win0_12.index t (1 : Fin 2) * 1024 + 1 * k.val = k.val; omega

variable (m : (ℓ : Loc nD τ sig) → Buf (Elt Ideal) ℓ) (c : Dev nD) (t : Fin cfg0.N)

/-! ## The input blocks, read in their arrays -/

theorem blk0 (r : Fin 128) (k : Fin 5120) : (iblk m c 0 t : Vec Ideal S128x5120 .f32) (ix2 r k) = V m c main_arg0 (ix2 (row t r) k) := by
  show V m c main_arg0 (((cfg0.win 0).blk t).view.emb (ix2 r k)) = _
  rw [emb0]
theorem blk1 (r : Fin 32) (k : Fin 5120) : (iblk m c 1 t : Vec Ideal S32x5120 .f32) (ix2 r k) = V m c main_arg0
    (ix2 ⟨(t.val * 4 - 1) * 32 + r.val, by have := t.isLt; have : cfg0.N = 33 := rfl; have := r.isLt; omega⟩ k) := by
  show V m c main_arg0 (((cfg0.win 1).blk t).view.emb (ix2 r k)) = _
  rw [emb1]
theorem blk2 (r : Fin 128) : zrow (iblk m c 2 t) r = zrowA (V m c main_v186) (row t r) := by
  funext k
  show V m c main_v186 (((cfg0.win 2).blk t).view.emb (ix2 r k)) = _
  rw [emb2]
  rfl
theorem blk3 (r : Fin 128) (k : Fin 2048) : (iblk m c 3 t : Vec Ideal S128x2048 .f32) (ix2 r k) = V m c main_arg1 (ix2 (row t r) k) := by
  show V m c main_arg1 (((cfg0.win 3).blk t).view.emb (ix2 r k)) = _
  rw [emb3]
theorem blk3' (r : Fin 128) : drow (iblk m c 3 t) r = drowA (V m c main_arg1) (row t r) :=
  funext fun k => blk3 m c t r _
theorem blk4 (r : Fin 3) (k : Fin 1024) : (iblk m c 4 t : Vec Ideal S3x1024 .f32) (ix2 r k) = V m c main_arg2 (ix2 r k) := by
  show V m c main_arg2 (((cfg0.win 4).blk t).view.emb (ix2 r k)) = _
  rw [emb4]
theorem blk5 : vrow (iblk m c 5 t) = vrow (V m c main_arg5) := by
  funext k
  show V m c main_arg5 (((cfg0.win 5).blk t).view.emb (ix2 (0 : Fin 1) k)) = _
  rw [emb5]
  rfl
theorem blk6 : vrow (iblk m c 6 t) = vrow (V m c main_arg6) := by
  funext k
  show V m c main_arg6 (((cfg0.win 6).blk t).view.emb (ix2 (0 : Fin 1) k)) = _
  rw [emb6]
  rfl

/-! ## The blocks, as rows of the results -/

theorem dl_blk (r : Fin 128) (l : Fin 1024) :
    dlB (grid0.coords t) (iblk m c 2 t) (iblk m c 3 t) (iblk m c 5 t) (iblk m c 6 t) (ix2 r l)
      = dlA (V m c main_v186) (V m c main_arg1) (V m c main_arg5) (V m c main_arg6) (row t r) l := by
  rw [dl_apply, blk2, blk3', blk5, blk6, dlA]
  simp only [rowOf_eq]
  rfl

theorem dz1_blk (r : Fin 128) (l : Fin 1024) :
    dz1B (grid0.coords t) (iblk m c 2 t) (iblk m c 3 t) (iblk m c 5 t) (iblk m c 6 t) (ix2 r l)
      = dz1A (V m c main_v186) (V m c main_arg1) (V m c main_arg5) (V m c main_arg6) (row t r) l := by
  rw [dz1_apply, blk2, blk3', blk5, blk6, dz1A]
  have e : rowOf (grid0.coords t) r.val = (row t r).val := rowOf_eq t r.val
  rw [e]

theorem dcs_blk (r : Fin 128) (l : Fin 1024) :
    k0_pay22 (k0_pay2 (grid0.coords t)) (k0_pay3 (iblk m c 0 t)) (iblk m c 3 t) (ix2 r l)
      = dcsA (V m c main_arg0) (V m c main_arg1) (row t r) l := by
  rw [dcs_apply, blk0, blk3, dcsA, rowOf_eq]
  rfl

/-- The scratch buffer's row `q`, from row 30 on, is the product two rows late. -/
theorem pad_blk (q : Fin 160) (l : Fin 1024) (n : Nat) (hn : n + 30 = t.val * 128 + q.val) :
    padB (grid0.coords t) (iblk m c 0 t) (iblk m c 1 t) (ix2 q l) = gated (V m c main_arg0) l n := by
  have ht := t.isLt; have hN : cfg0.N = 33 := rfl; have hq := q.isLt
  unfold padB gated
  by_cases h : q.val < 32
  · rw [dif_pos (show ((ix2 q l : S160x1024.Idx) 0).val < 32 from h)]
    refine (halo_apply (grid0.coords t) (iblk m c 1 t) l ⟨q.val, h⟩).trans ?_
    rw [blk1, blk1]
    simp only [rowOf_eq]
    by_cases h2 : 112 + 32 ≤ t.val * 128 + q.val
    · rw [if_pos h2, dif_pos (by omega)]
      have e : (t.val * 4 - 1) * 32 + q.val = n - 2 := by omega
      simp only [e]
    · rw [if_neg h2, dif_neg (by omega)]
  · rw [dif_neg (show ¬((ix2 q l : S160x1024.Idx) 0).val < 32 from h)]
    refine (own_apply (grid0.coords t) (iblk m c 0 t) ⟨q.val - 32, by omega⟩ l).trans ?_
    rw [blk0, blk0]
    simp only [rowOf_eq]
    have e : row t ⟨q.val - 32, by omega⟩ = ⟨n - 2, by omega⟩ := Fin.ext (by show t.val * 128 + (q.val - 32) = n - 2; omega)
    by_cases h2 : 112 ≤ t.val * 128 + (q.val - 32)
    · rw [if_pos h2, dif_pos (by omega), e]
    · rw [if_neg h2, dif_neg (by omega)]

theorem db_blk (r : Fin 128) (l : Fin 1024) :
    k0_pay21 (k0_pay2 (grid0.coords t)) (convB (grid0.coords t) (iblk m c 0 t) (iblk m c 1 t) (iblk m c 4 t)) (iblk m c 3 t) (ix2 r l)
      = dbA (V m c main_arg0) (V m c main_arg1) (V m c main_arg2) (row t r) l := by
  rw [db_apply, blk3, dbA]
  have e : convB (grid0.coords t) (iblk m c 0 t) (iblk m c 1 t) (iblk m c 4 t) (ix2 r l)
      = convA (V m c main_arg0) (V m c main_arg2) (row t r) l := by
    have hr : (row t r).val = t.val * 128 + r.val := rfl
    have h0 := pad_blk m c t ⟨30 + r.val, by omega⟩ l (row t r).val (by show _ = t.val * 128 + (30 + r.val); omega)
    have h1 := pad_blk m c t ⟨31 + r.val, by omega⟩ l ((row t r).val + 1) (by show _ = t.val * 128 + (31 + r.val); omega)
    have h2 := pad_blk m c t ⟨32 + r.val, by omega⟩ l ((row t r).val + 2) (by show _ = t.val * 128 + (32 + r.val); omega)
    unfold convA
    rw [← h0, ← h1, ← h2, ← blk4 m c t, ← blk4 m c t, ← blk4 m c t]
    rfl
  rw [e, rowOf_eq]
  rfl

/-! ## The three row blocks -/

theorem flushed7_pay : (dats m 0 c).flushed 7 t = (cfg0.win 7).cut (grid0.coords t) (dz1B (grid0.coords t) (iblk m c 2 t) (iblk m c 3 t) (iblk m c 5 t) (iblk m c 6 t)) := by
  by_cases h : t.val % 33 = 0
  · rw [flushed7_A m c t h, out0_A_7_eq]
  · rw [flushed7_B m c t h, out0_B_7_eq]

theorem flushed7_eq : (dats m 0 c).flushed 7 t = ((cfg0.win 7).blk t).view.read (Elt Ideal)
    (fun j => dz1A (V m c main_v186) (V m c main_arg1) (V m c main_arg5) (V m c main_arg6) (j 0) (j 1)) := by
  rw [flushed7_pay]
  funext j
  show (dz1B (grid0.coords t) (iblk m c 2 t) (iblk m c 3 t) (iblk m c 5 t) (iblk m c 6 t)) j = (fun j : S4224x1024.Idx => dz1A (V m c main_v186) (V m c main_arg1) (V m c main_arg5) (V m c main_arg6) (j 0) (j 1)) (((cfg0.win 7).blk t).view.emb j)
  idx_vars j
  rw [emb7]
  exact dz1_blk m c t j0 j1

theorem covered7 (i : S4224x1024.Idx) :
    ∃ t : Fin cfg0.N, (cfg0.win 7).flush t = true ∧ i ∈ ((cfg0.win 7).blk t).view.set := by
  idx_vars i
  have hi0 := i0.isLt
  have hN : i0.val / 128 < cfg0.N := by show _ < 33; omega
  refine ⟨⟨_, hN⟩, flush0_7 _, ?_⟩
  have h := ((cfg0.win 7).blk ⟨_, hN⟩).view.emb_mem_set (ix2 ⟨i0.val % 128, by omega⟩ i1)
  have e : ((cfg0.win 7).blk ⟨_, hN⟩).view.emb (ix2 ⟨i0.val % 128, by omega⟩ i1) = ix2 i0 i1 := by
    rw [emb7]
    funext a; apply Fin.ext
    match a with
    | ⟨0, _⟩ => show i0.val / 128 * 128 + i0.val % 128 = i0.val; omega
    | ⟨1, _⟩ => rfl
  rw [e] at h
  exact h

theorem final7 : (dats m 0 c).arrAt 7 cfg0.N = fun j => dz1A (V m c main_v186) (V m c main_arg1) (V m c main_arg5) (V m c main_arg6) (j 0) (j 1) :=
  (dats m 0 c).arrAt_eq_of_cover 7 _ (fun t _ => flushed7_eq m c t) covered7

theorem flushed8_pay : (dats m 0 c).flushed 8 t = (cfg0.win 8).cut (grid0.coords t) (k0_pay22 (k0_pay2 (grid0.coords t)) (k0_pay3 (iblk m c 0 t)) (iblk m c 3 t)) := by
  by_cases h : t.val % 33 = 0
  · rw [flushed8_A m c t h, out0_A_8_eq]
  · rw [flushed8_B m c t h, out0_B_8_eq]

theorem flushed8_eq : (dats m 0 c).flushed 8 t = ((cfg0.win 8).blk t).view.read (Elt Ideal)
    (fun j => dcsA (V m c main_arg0) (V m c main_arg1) (j 0) (j 1)) := by
  rw [flushed8_pay]
  funext j
  show (k0_pay22 (k0_pay2 (grid0.coords t)) (k0_pay3 (iblk m c 0 t)) (iblk m c 3 t)) j = (fun j : S4224x1024.Idx => dcsA (V m c main_arg0) (V m c main_arg1) (j 0) (j 1)) (((cfg0.win 8).blk t).view.emb j)
  idx_vars j
  rw [emb8]
  exact dcs_blk m c t j0 j1

theorem covered8 (i : S4224x1024.Idx) :
    ∃ t : Fin cfg0.N, (cfg0.win 8).flush t = true ∧ i ∈ ((cfg0.win 8).blk t).view.set := by
  idx_vars i
  have hi0 := i0.isLt
  have hN : i0.val / 128 < cfg0.N := by show _ < 33; omega
  refine ⟨⟨_, hN⟩, flush0_8 _, ?_⟩
  have h := ((cfg0.win 8).blk ⟨_, hN⟩).view.emb_mem_set (ix2 ⟨i0.val % 128, by omega⟩ i1)
  have e : ((cfg0.win 8).blk ⟨_, hN⟩).view.emb (ix2 ⟨i0.val % 128, by omega⟩ i1) = ix2 i0 i1 := by
    rw [emb8]
    funext a; apply Fin.ext
    match a with
    | ⟨0, _⟩ => show i0.val / 128 * 128 + i0.val % 128 = i0.val; omega
    | ⟨1, _⟩ => rfl
  rw [e] at h
  exact h

theorem final8 : (dats m 0 c).arrAt 8 cfg0.N = fun j => dcsA (V m c main_arg0) (V m c main_arg1) (j 0) (j 1) :=
  (dats m 0 c).arrAt_eq_of_cover 8 _ (fun t _ => flushed8_eq m c t) covered8

theorem flushed9_pay : (dats m 0 c).flushed 9 t = (cfg0.win 9).cut (grid0.coords t) (k0_pay21 (k0_pay2 (grid0.coords t)) (convB (grid0.coords t) (iblk m c 0 t) (iblk m c 1 t) (iblk m c 4 t)) (iblk m c 3 t)) := by
  by_cases h : t.val % 33 = 0
  · rw [flushed9_A m c t h, out0_A_9_eq]
  · rw [flushed9_B m c t h, out0_B_9_eq]

theorem flushed9_eq : (dats m 0 c).flushed 9 t = ((cfg0.win 9).blk t).view.read (Elt Ideal)
    (fun j => dbA (V m c main_arg0) (V m c main_arg1) (V m c main_arg2) (j 0) (j 1)) := by
  rw [flushed9_pay]
  funext j
  show (k0_pay21 (k0_pay2 (grid0.coords t)) (convB (grid0.coords t) (iblk m c 0 t) (iblk m c 1 t) (iblk m c 4 t)) (iblk m c 3 t)) j = (fun j : S4224x1024.Idx => dbA (V m c main_arg0) (V m c main_arg1) (V m c main_arg2) (j 0) (j 1)) (((cfg0.win 9).blk t).view.emb j)
  idx_vars j
  rw [emb9]
  exact db_blk m c t j0 j1

theorem covered9 (i : S4224x1024.Idx) :
    ∃ t : Fin cfg0.N, (cfg0.win 9).flush t = true ∧ i ∈ ((cfg0.win 9).blk t).view.set := by
  idx_vars i
  have hi0 := i0.isLt
  have hN : i0.val / 128 < cfg0.N := by show _ < 33; omega
  refine ⟨⟨_, hN⟩, flush0_9 _, ?_⟩
  have h := ((cfg0.win 9).blk ⟨_, hN⟩).view.emb_mem_set (ix2 ⟨i0.val % 128, by omega⟩ i1)
  have e : ((cfg0.win 9).blk ⟨_, hN⟩).view.emb (ix2 ⟨i0.val % 128, by omega⟩ i1) = ix2 i0 i1 := by
    rw [emb9]
    funext a; apply Fin.ext
    match a with
    | ⟨0, _⟩ => show i0.val / 128 * 128 + i0.val % 128 = i0.val; omega
    | ⟨1, _⟩ => rfl
  rw [e] at h
  exact h

theorem final9 : (dats m 0 c).arrAt 9 cfg0.N = fun j => dbA (V m c main_arg0) (V m c main_arg1) (V m c main_arg2) (j 0) (j 1) :=
  (dats m 0 c).arrAt_eq_of_cover 9 _ (fun t _ => flushed9_eq m c t) covered9

/-! ## The three sums over rows -/

/-- A chain that starts from zero and adds a term at each point holds their sum. -/
theorem chain {N : Nat} (f : (n : Nat) → n < N → EReal) (s : Fin N → EReal) (h0 : ∀ h : 0 < N, f 0 h = 0 + s ⟨0, h⟩)
    (hs : ∀ n, ∀ h : n + 1 < N, f (n + 1) h = f n (Nat.lt_of_succ_lt h) + s ⟨n + 1, h⟩) :
    ∀ n, ∀ h : n < N, f n h = ∑ t : Fin (n + 1), s ⟨t.val, Nat.lt_of_lt_of_le t.isLt h⟩
  | 0, h => by rw [h0, zero_add, Fin.sum_univ_one]; rfl
  | n + 1, h => by
    rw [hs, chain f s h0 hs n]
    exact (Fin.sum_univ_castSucc (fun t : Fin (n + 1 + 1) => s ⟨t.val, Nat.lt_of_lt_of_le t.isLt h⟩)).symm

/-- What one point adds. -/
def term10 (l : Fin 1024) (t : Fin cfg0.N) : EReal := ∑ r : Fin 128, (dlB (grid0.coords t) (iblk m c 2 t) (iblk m c 3 t) (iblk m c 5 t) (iblk m c 6 t) (ix2 r l) * Row.zh (zrow (iblk m c 2 t) r) l : EReal)

theorem step10_zero (l : Fin 1024) (h : 0 < cfg0.N) : (outsAt0 m c 0 h).2.2.2.1 (ix2 0 l) = 0 + term10 m c l ⟨0, h⟩ := by
  have e := outsAt0_A m c ⟨0, h⟩ rfl
  show (outsAt0 m c (⟨0, h⟩ : Fin cfg0.N).val (⟨0, h⟩ : Fin cfg0.N).isLt).2.2.2.1 (ix2 0 l) = _
  rw [e]
  dsimp only
  rw [out0_A_10_eq, dg_apply, zero29]
  rfl

theorem step10_succ (l : Fin 1024) (n : Nat) (h : n + 1 < cfg0.N) :
    (outsAt0 m c (n + 1) h).2.2.2.1 (ix2 0 l) = (outsAt0 m c n (Nat.lt_of_succ_lt h)).2.2.2.1 (ix2 0 l) + term10 m c l ⟨n + 1, h⟩ := by
  have hN : cfg0.N = 33 := rfl
  have e := outsAt0_B m c ⟨n + 1, h⟩ (by show ¬(n + 1) % 33 = 0; omega)
  show (outsAt0 m c (⟨n + 1, h⟩ : Fin cfg0.N).val (⟨n + 1, h⟩ : Fin cfg0.N).isLt).2.2.2.1 (ix2 0 l) = _
  rw [e]
  dsimp only
  rw [out0_B_10_eq, dg_apply]
  rfl

/-- After the last point the sum has every row. -/
theorem last10 (l : Fin 1024) (h : 32 < cfg0.N) : (outsAt0 m c 32 h).2.2.2.1 (ix2 0 l)
    = dgS (V m c main_v186) (V m c main_arg1) (V m c main_arg5) (V m c main_arg6) (ix2 0 l) := by
  unfold dgS
  rw [chain (fun n h => (outsAt0 m c n h).2.2.2.1 (ix2 0 l)) (term10 m c l) (step10_zero m c l) (step10_succ m c l) 32 h,
    Fin.sum_univ_tiles 33 128 rfl]
  refine Finset.sum_congr rfl fun t _ => Finset.sum_congr rfl fun r _ => ?_
  rw [dl_blk]
  rw [blk2]
  rfl

theorem last10' (l : Fin 1024) (n : Nat) (h : n < cfg0.N) (hn : n = 32) : (outsAt0 m c n h).2.2.2.1 (ix2 0 l)
    = dgS (V m c main_v186) (V m c main_arg1) (V m c main_arg5) (V m c main_arg6) (ix2 0 l) := by
  subst hn
  exact last10 m c l h

theorem flushed10_eq (hf : (cfg0.win 10).flush t = true) : (dats m 0 c).flushed 10 t = ((cfg0.win 10).blk t).view.read (Elt Ideal)
    (dgS (V m c main_v186) (V m c main_arg1) (V m c main_arg5) (V m c main_arg6)) := by
  have ht : t.val = 32 := by
    have := (flush0_10 t).mp hf
    have := t.isLt
    have : cfg0.N = 33 := rfl
    omega
  rw [flushed10]
  funext j
  show (outsAt0 m c t.val t.isLt).2.2.2.1 j = (dgS (V m c main_v186) (V m c main_arg1) (V m c main_arg5) (V m c main_arg6)) (((cfg0.win 10).blk t).view.emb j)
  idx_vars j
  rw [emb10]
  fin_cases j0
  exact last10' m c j1 t.val t.isLt ht

theorem covered10 (i : S1x1024.Idx) :
    ∃ t : Fin cfg0.N, (cfg0.win 10).flush t = true ∧ i ∈ ((cfg0.win 10).blk t).view.set := by
  have hN : 32 < cfg0.N := by decide
  refine ⟨⟨32, hN⟩, (flush0_10 _).mpr rfl, ?_⟩
  idx_vars i
  have h := ((cfg0.win 10).blk ⟨32, hN⟩).view.emb_mem_set (ix2 i0 i1)
  have e : ((cfg0.win 10).blk ⟨32, hN⟩).view.emb (ix2 i0 i1) = ix2 i0 i1 := emb10 _ _ _
  rw [e] at h
  exact h

theorem final10 : (dats m 0 c).arrAt 10 cfg0.N
    = dgS (V m c main_v186) (V m c main_arg1) (V m c main_arg5) (V m c main_arg6) :=
  (dats m 0 c).arrAt_eq_of_cover 10 _ (fun t hf => flushed10_eq m c t hf) covered10

/-- What one point adds. -/
def term11 (l : Fin 1024) (t : Fin cfg0.N) : EReal := ∑ r : Fin 128, (dlB (grid0.coords t) (iblk m c 2 t) (iblk m c 3 t) (iblk m c 5 t) (iblk m c 6 t) (ix2 r l) : EReal)

theorem step11_zero (l : Fin 1024) (h : 0 < cfg0.N) : (outsAt0 m c 0 h).2.2.2.2.1 (ix2 0 l) = 0 + term11 m c l ⟨0, h⟩ := by
  have e := outsAt0_A m c ⟨0, h⟩ rfl
  show (outsAt0 m c (⟨0, h⟩ : Fin cfg0.N).val (⟨0, h⟩ : Fin cfg0.N).isLt).2.2.2.2.1 (ix2 0 l) = _
  rw [e]
  dsimp only
  rw [out0_A_11_eq, dbias_apply, zero30]
  rfl

theorem step11_succ (l : Fin 1024) (n : Nat) (h : n + 1 < cfg0.N) :
    (outsAt0 m c (n + 1) h).2.2.2.2.1 (ix2 0 l) = (outsAt0 m c n (Nat.lt_of_succ_lt h)).2.2.2.2.1 (ix2 0 l) + term11 m c l ⟨n + 1, h⟩ := by
  have hN : cfg0.N = 33 := rfl
  have e := outsAt0_B m c ⟨n + 1, h⟩ (by show ¬(n + 1) % 33 = 0; omega)
  show (outsAt0 m c (⟨n + 1, h⟩ : Fin cfg0.N).val (⟨n + 1, h⟩ : Fin cfg0.N).isLt).2.2.2.2.1 (ix2 0 l) = _
  rw [e]
  dsimp only
  rw [out0_B_11_eq, dbias_apply]
  rfl

/-- After the last point the sum has every row. -/
theorem last11 (l : Fin 1024) (h : 32 < cfg0.N) : (outsAt0 m c 32 h).2.2.2.2.1 (ix2 0 l)
    = dsS (V m c main_v186) (V m c main_arg1) (V m c main_arg5) (V m c main_arg6) (ix2 0 l) := by
  unfold dsS
  rw [chain (fun n h => (outsAt0 m c n h).2.2.2.2.1 (ix2 0 l)) (term11 m c l) (step11_zero m c l) (step11_succ m c l) 32 h,
    Fin.sum_univ_tiles 33 128 rfl]
  refine Finset.sum_congr rfl fun t _ => Finset.sum_congr rfl fun r _ => ?_
  rw [dl_blk]

  rfl

theorem last11' (l : Fin 1024) (n : Nat) (h : n < cfg0.N) (hn : n = 32) : (outsAt0 m c n h).2.2.2.2.1 (ix2 0 l)
    = dsS (V m c main_v186) (V m c main_arg1) (V m c main_arg5) (V m c main_arg6) (ix2 0 l) := by
  subst hn
  exact last11 m c l h

theorem flushed11_eq (hf : (cfg0.win 11).flush t = true) : (dats m 0 c).flushed 11 t = ((cfg0.win 11).blk t).view.read (Elt Ideal)
    (dsS (V m c main_v186) (V m c main_arg1) (V m c main_arg5) (V m c main_arg6)) := by
  have ht : t.val = 32 := by
    have := (flush0_11 t).mp hf
    have := t.isLt
    have : cfg0.N = 33 := rfl
    omega
  rw [flushed11]
  funext j
  show (outsAt0 m c t.val t.isLt).2.2.2.2.1 j = (dsS (V m c main_v186) (V m c main_arg1) (V m c main_arg5) (V m c main_arg6)) (((cfg0.win 11).blk t).view.emb j)
  idx_vars j
  rw [emb11]
  fin_cases j0
  exact last11' m c j1 t.val t.isLt ht

theorem covered11 (i : S1x1024.Idx) :
    ∃ t : Fin cfg0.N, (cfg0.win 11).flush t = true ∧ i ∈ ((cfg0.win 11).blk t).view.set := by
  have hN : 32 < cfg0.N := by decide
  refine ⟨⟨32, hN⟩, (flush0_11 _).mpr rfl, ?_⟩
  idx_vars i
  have h := ((cfg0.win 11).blk ⟨32, hN⟩).view.emb_mem_set (ix2 i0 i1)
  have e : ((cfg0.win 11).blk ⟨32, hN⟩).view.emb (ix2 i0 i1) = ix2 i0 i1 := emb11 _ _ _
  rw [e] at h
  exact h

theorem final11 : (dats m 0 c).arrAt 11 cfg0.N
    = dsS (V m c main_v186) (V m c main_arg1) (V m c main_arg5) (V m c main_arg6) :=
  (dats m 0 c).arrAt_eq_of_cover 11 _ (fun t hf => flushed11_eq m c t hf) covered11

/-- What one point adds. -/
def term12 (l : Fin 1024) (t : Fin cfg0.N) : EReal := ∑ r : Fin 128, (dz1B (grid0.coords t) (iblk m c 2 t) (iblk m c 3 t) (iblk m c 5 t) (iblk m c 6 t) (ix2 r l) : EReal)

theorem step12_zero (l : Fin 1024) (h : 0 < cfg0.N) : (outsAt0 m c 0 h).2.2.2.2.2 (ix2 0 l) = 0 + term12 m c l ⟨0, h⟩ := by
  have e := outsAt0_A m c ⟨0, h⟩ rfl
  show (outsAt0 m c (⟨0, h⟩ : Fin cfg0.N).val (⟨0, h⟩ : Fin cfg0.N).isLt).2.2.2.2.2 (ix2 0 l) = _
  rw [e]
  dsimp only
  rw [out0_A_12_eq, dbcf_apply, zero31]
  rfl

theorem step12_succ (l : Fin 1024) (n : Nat) (h : n + 1 < cfg0.N) :
    (outsAt0 m c (n + 1) h).2.2.2.2.2 (ix2 0 l) = (outsAt0 m c n (Nat.lt_of_succ_lt h)).2.2.2.2.2 (ix2 0 l) + term12 m c l ⟨n + 1, h⟩ := by
  have hN : cfg0.N = 33 := rfl
  have e := outsAt0_B m c ⟨n + 1, h⟩ (by show ¬(n + 1) % 33 = 0; omega)
  show (outsAt0 m c (⟨n + 1, h⟩ : Fin cfg0.N).val (⟨n + 1, h⟩ : Fin cfg0.N).isLt).2.2.2.2.2 (ix2 0 l) = _
  rw [e]
  dsimp only
  rw [out0_B_12_eq, dbcf_apply]
  rfl

/-- After the last point the sum has every row. -/
theorem last12 (l : Fin 1024) (h : 32 < cfg0.N) : (outsAt0 m c 32 h).2.2.2.2.2 (ix2 0 l)
    = dbS (V m c main_v186) (V m c main_arg1) (V m c main_arg5) (V m c main_arg6) (ix2 0 l) := by
  unfold dbS
  rw [chain (fun n h => (outsAt0 m c n h).2.2.2.2.2 (ix2 0 l)) (term12 m c l) (step12_zero m c l) (step12_succ m c l) 32 h,
    Fin.sum_univ_tiles 33 128 rfl]
  refine Finset.sum_congr rfl fun t _ => Finset.sum_congr rfl fun r _ => ?_
  rw [dz1_blk]

  rfl

theorem last12' (l : Fin 1024) (n : Nat) (h : n < cfg0.N) (hn : n = 32) : (outsAt0 m c n h).2.2.2.2.2 (ix2 0 l)
    = dbS (V m c main_v186) (V m c main_arg1) (V m c main_arg5) (V m c main_arg6) (ix2 0 l) := by
  subst hn
  exact last12 m c l h

theorem flushed12_eq (hf : (cfg0.win 12).flush t = true) : (dats m 0 c).flushed 12 t = ((cfg0.win 12).blk t).view.read (Elt Ideal)
    (dbS (V m c main_v186) (V m c main_arg1) (V m c main_arg5) (V m c main_arg6)) := by
  have ht : t.val = 32 := by
    have := (flush0_12 t).mp hf
    have := t.isLt
    have : cfg0.N = 33 := rfl
    omega
  rw [flushed12]
  funext j
  show (outsAt0 m c t.val t.isLt).2.2.2.2.2 j = (dbS (V m c main_v186) (V m c main_arg1) (V m c main_arg5) (V m c main_arg6)) (((cfg0.win 12).blk t).view.emb j)
  idx_vars j
  rw [emb12]
  fin_cases j0
  exact last12' m c j1 t.val t.isLt ht

theorem covered12 (i : S1x1024.Idx) :
    ∃ t : Fin cfg0.N, (cfg0.win 12).flush t = true ∧ i ∈ ((cfg0.win 12).blk t).view.set := by
  have hN : 32 < cfg0.N := by decide
  refine ⟨⟨32, hN⟩, (flush0_12 _).mpr rfl, ?_⟩
  idx_vars i
  have h := ((cfg0.win 12).blk ⟨32, hN⟩).view.emb_mem_set (ix2 i0 i1)
  have e : ((cfg0.win 12).blk ⟨32, hN⟩).view.emb (ix2 i0 i1) = ix2 i0 i1 := emb12 _ _ _
  rw [e] at h
  exact h

theorem final12 : (dats m 0 c).arrAt 12 cfg0.N
    = dbS (V m c main_v186) (V m c main_arg1) (V m c main_arg5) (V m c main_arg6) :=
  (dats m 0 c).arrAt_eq_of_cover 12 _ (fun t hf => flushed12_eq m c t hf) covered12

end Cert.Proof.MixBwd

end
-- ==== Proof.MixAlgebraic.lean ====
/- THE FIRST BACKWARD CALL OF THE MIXER EQUALS THE GRADIENT OF THE TWO CONVOLUTIONS' NORMED AND GATED RESULTS: the six results
   of the kernel (`MixArrays`) and those of the reference (`MixRef`) are the same functions of the arguments, on finite
   arguments (`MixReal`, `MixFinite`). -/
module

public import proofs.«01_k».proof.Proof.MixFinite
public import proofs.«01_k».proof.Proof.MixArrays

@[expose] public section

noncomputable section

namespace Cert.Proof.MixAlgebraic

open Cert.ReferenceIdeal Cert.ReferenceIdeal.Gen Cert.ReferenceIdeal.Value Idealize.ShloMosaic Idealize.ShloMosaic.TcCoe Idealize.SL.Sem
open Cert.Proof.MixBwd Cert.Proof.MixRef Cert.Proof.MixFinite

/-- A row of the 4224 from the 112th on, as one of the 4112. -/
def q (R : Fin 4224) (h : 112 ≤ R.val) : Fin 4112 := ⟨R.val - 112, by omega⟩

/-! ## On one row -/

section Rows

variable (V0 : Valuation τ sig (Elt Ideal))

/-- The reference's arguments. -/
def U0 : FVec Ideal S4224x5120 .f32 := V0 (Proc.devRef .tc main_arg0)
def DY0 : FVec Ideal S4224x2048 .f32 := V0 (Proc.devRef .tc main_arg1)
def W0 : FVec Ideal S3x1024 .f32 := V0 (Proc.devRef .tc main_arg2)
def G0 : FVec Ideal S1x1024 .f32 := V0 (Proc.devRef .tc main_arg5)
def B0 : FVec Ideal S1x1024 .f32 := V0 (Proc.devRef .tc main_arg6)

variable (Z : FVec Ideal S4224x1024 .f32)
  (hZ : ∀ (R : Fin 4224) (l : Fin 1024), Z (ix2 R l)
    = if h : 112 ≤ R.val then zr V0 (q R h) l else 0)
  (h1 : ∀ i, Re (DY0 V0 i)) (h5 : ∀ i, Re (G0 V0 i)) (h6 : ∀ i, Re (B0 V0 i)) (hz : ∀ q l, Re (zr V0 q l))

include hZ in
theorem zrow_eq (R : Fin 4224) (h : 112 ≤ R.val) : zrowA Z R = zr V0 (q R h) := by
  funext k
  unfold zrowA
  rw [hZ, dif_pos h]

theorem drow_eq (R : Fin 4224) (h : 112 ≤ R.val) : drowA (DY0 V0) R = dr V0 (q R h) := by
  funext k
  unfold drowA dr DY0
  have e : (⟨112 + (q R h).val, by omega⟩ : Fin 4224) = R := Fin.ext (by show 112 + (R.val - 112) = R.val; omega)
  rw [e]

theorem vrow_g : vrow (G0 V0) = gr V0 := rfl
theorem vrow_b : vrow (B0 V0) = br V0 := rfl

include hZ h1 h5 h6 hz

theorem dl_eq (R : Fin 4224) (l : Fin 1024) :
    dlA Z (DY0 V0) (G0 V0) (B0 V0) R l
      = if h : 112 ≤ R.val then Row.dlR (zr V0 (q R h)) (dr V0 (q R h)) (gr V0) (br V0) l else 0 := by
  unfold dlA dlM
  by_cases h : 112 ≤ R.val
  · obtain ⟨V⟩ := Row.exists_val (zr V0 (q R h)) (hz _)
    have hd := Row.dlR_eq V (d := dr V0 (q R h)) (g := gr V0) (b := br V0) (fun k => h1 _) (fun k => h5 _) (fun k => h6 _) l
    rw [if_pos h, dif_pos h, zrow_eq V0 Z hZ R h, drow_eq V0 R h, vrow_g, vrow_b, hd.1]
  · rw [if_neg h, dif_neg h]

theorem dz1_eq (R : Fin 4224) (l : Fin 1024) :
    dz1A Z (DY0 V0) (G0 V0) (B0 V0) R l
      = if h : 112 ≤ R.val then Row.backR (zr V0 (q R h)) (Row.dlR (zr V0 (q R h)) (dr V0 (q R h)) (gr V0) (br V0)) (gr V0) l
        else 0 := by
  unfold dz1A
  rw [back_mask]
  by_cases h : 112 ≤ R.val
  · obtain ⟨V⟩ := Row.exists_val (zr V0 (q R h)) (hz _)
    have hd := fun k => Row.dlR_eq V (d := dr V0 (q R h)) (g := gr V0) (b := br V0) (fun k => h1 _) (fun k => h5 _) (fun k => h6 _) k
    have e : Row.dlR (zr V0 (q R h)) (dr V0 (q R h)) (gr V0) (br V0) = Row.dl (zr V0 (q R h)) (dr V0 (q R h)) (gr V0) (br V0) :=
      funext fun k => (hd k).1
    have hb := Row.backR_eq V (g := gr V0) (fun k => (hd k).2) (fun k => h5 _) l
    rw [if_pos h, dif_pos h, zrow_eq V0 Z hZ R h, drow_eq V0 R h, vrow_g, vrow_b, e, hb]
  · rw [if_neg h, dif_neg h]

end Rows

/-! ## The six results -/

section Results

variable (V0 : Valuation τ sig (Elt Ideal)) (Z : FVec Ideal S4224x1024 .f32)
  (hZ : ∀ (R : Fin 4224) (l : Fin 1024), Z (ix2 R l)
    = if h : 112 ≤ R.val then zr V0 (q R h) l else 0)
  (h1 : ∀ i, Re (DY0 V0 i)) (h5 : ∀ i, Re (G0 V0 i)) (h6 : ∀ i, Re (B0 V0 i)) (hz : ∀ q l, Re (zr V0 q l))

/-- The sitting of 4112 rows in 4224. -/
theorem q_add (k : Fin 4112) (h : 112 ≤ (⟨112 + k.val, by omega⟩ : Fin 4224).val) : q ⟨112 + k.val, by omega⟩ h = k :=
  Fin.ext (by show 112 + k.val - 112 = k.val; omega)

include hZ h1 h5 h6 hz in
theorem res0 : (pad S4224x1024 ![112, 0] ![0, 0] ![0, 0] (res_main_v250 V0) (sitofp .f32 (constantI S_ 32 0#32)) pads_S4112x1024_S4224x1024_11200_000 h_S_ : FVec Ideal S4224x1024 .f32)
    = fun j => dz1A Z (DY0 V0) (G0 V0) (B0 V0) (j 0) (j 1) := by
  funext j
  idx_vars j
  refine (pad_apply j1 (res_main_v250 V0) _ _ j0).trans ?_
  show _ = dz1A Z (DY0 V0) (G0 V0) (B0 V0) j0 j1
  rw [dz1_eq V0 Z hZ h1 h5 h6 hz]
  congr 1
  funext h
  exact v250_apply V0 _ _

theorem res1 : (pad S4224x1024 ![112, 0] ![0, 0] ![0, 0] (mulf (res_main_v1 V0) (res_main_v217 V0)) (sitofp .f32 (constantI S_ 32 0#32)) pads_S4112x1024_S4224x1024_11200_000 h_S_ : FVec Ideal S4224x1024 .f32)
    = fun j => dcsA (U0 V0) (DY0 V0) (j 0) (j 1) := by
  funext j
  idx_vars j
  refine (pad_apply j1 _ _ _ j0).trans ?_
  show _ = dcsA (U0 V0) (DY0 V0) j0 j1
  unfold dcsA
  by_cases h : 112 ≤ j0.val
  · rw [dif_pos h, if_pos h]
    pointwise [res_main_v1, res_main_v217, res_main_v216, res_main_v0]
    have e : ∀ hk, (⟨112 + (j0.val - 112), hk⟩ : Fin 4224) = j0 := fun hk => Fin.ext (by show 112 + (j0.val - 112) = j0.val; omega)
    simp only [e]
    exact mul_comm _ _
  · rw [dif_neg h, if_neg h]

theorem gated_dite (U : FVec Ideal S4224x5120 .f32) (l : Fin 1024) (n : Nat) (p : Prop) [Decidable p]
    (hp : p ↔ 114 ≤ n ∧ n < 4226) (a : p → Fin 4224) (ha : ∀ h, (a h).val = n - 2) :
    (if h : p then (U (ix2 (a h) ⟨1024 + l.val, by omega⟩) * U (ix2 (a h) ⟨2048 + l.val, by omega⟩) : EReal)
      else FloatOps.sitofp (F := Ideal) .f32 (0#32 : BitVec 32)) = gated U l n := by
  unfold gated
  by_cases h : p
  · have e : a h = ⟨n - 2, by have := hp.mp h; omega⟩ := Fin.ext (ha h)
    rw [dif_pos h, dif_pos (hp.mp h), e]
  · rw [dif_neg h, dif_neg (fun hn => h (hp.mpr hn)), sitofp_zero]

theorem res2 : (truncf .bf16 (pad S4224x1024 ![112, 0] ![0, 0] ![0, 0] (mulf (res_main_v217 V0) (res_main_v21 V0)) (sitofp .f32 (constantI S_ 32 0#32)) pads_S4112x1024_S4224x1024_11200_000 h_S_) bitsLt_bf16_f32 : FVec Ideal S4224x1024 .bf16)
    = fun j => dbA (U0 V0) (DY0 V0) (W0 V0) (j 0) (j 1) := by
  funext j
  idx_vars j
  refine Eq.trans (α := EReal) (pad_apply j1 (mulf (res_main_v217 V0) (res_main_v21 V0)) pads_S4112x1024_S4224x1024_11200_000 h_S_ j0) ?_
  show _ = dbA (U0 V0) (DY0 V0) (W0 V0) j0 j1
  unfold dbA
  by_cases h : 112 ≤ j0.val
  · rw [dif_pos h, if_pos h]
    pointwise [res_main_v217, res_main_v216, res_main_v21, res_main_v7, res_main_v0]
    have e : ∀ hk, (⟨112 + (j0.val - 112), hk⟩ : Fin 4224) = j0 := fun hk => Fin.ext (by show 112 + (j0.val - 112) = j0.val; omega)
    unfold convA
    refine congrArg₂ (fun x y : EReal => x * y) (by rw [e]; rfl) ?_
    refine congrArg₂ (fun x y : EReal => x + y) (congrArg₂ (fun x y : EReal => x + y) ?_ ?_) ?_
    · exact congrArg (fun y : EReal => (W0 V0 (ix2 0 j1) : EReal) * y)
        (gated_dite (U0 V0) j1 j0.val _ (by omega) (fun hh => ⟨112 + (j0.val - 112 - 2), by omega⟩) (fun hh => by show 112 + (j0.val - 112 - 2) = _; omega))
    · exact congrArg (fun y : EReal => (W0 V0 (ix2 1 j1) : EReal) * y)
        (gated_dite (U0 V0) j1 (j0.val + 1) _ (by omega) (fun hh => ⟨112 + (1 + (j0.val - 112) - 2), by omega⟩) (fun hh => by show 112 + (1 + (j0.val - 112) - 2) = _; omega))
    · exact congrArg (fun y : EReal => (W0 V0 (ix2 2 j1) : EReal) * y)
        (gated_dite (U0 V0) j1 (j0.val + 2) _ (by omega) (fun hh => ⟨112 + (j0.val - 112), by omega⟩) (fun hh => by show 112 + (j0.val - 112) = _; omega))
  · rw [dif_neg h, if_neg h]

include hZ h1 h5 h6 hz

theorem res3 : (shapeCast S1x1024 (Host.reduceAdd (mulf (res_main_v209 V0) (res_main_v219 V0)) (constant S_ .f32 0x00000000#32) reducesTo_S4112x1024_S1024_d0 h_S_) shapeCasts_S1024_S1x1024 : FVec Ideal S1x1024 .f32)
    = dgS Z (DY0 V0) (G0 V0) (B0 V0) := by
  funext j
  idx_vars j
  obtain rfl : j0 = 0 := Subsingleton.elim _ _
  refine (sum_apply j1 _ _ _ _).trans ?_
  show _ = ∑ R : Fin 4224, dlA Z (DY0 V0) (G0 V0) (B0 V0) R j1 * Row.zh (zrowA Z R) j1
  rw [sum_rows _ fun R hR => by rw [dl_eq V0 Z hZ h1 h5 h6 hz, dif_neg hR, zero_mul]]
  refine Finset.sum_congr rfl fun k _ => ?_
  have hk : 112 ≤ (⟨112 + k.val, by omega⟩ : Fin 4224).val := by show 112 ≤ 112 + k.val; omega
  rw [dl_eq V0 Z hZ h1 h5 h6 hz, dif_pos hk, zrow_eq V0 Z hZ _ hk, q_add k hk]
  refine (congrArg₂ (fun x y : EReal => x * y) (v209_apply V0 k j1) (v219_apply V0 k j1)).trans ?_
  exact mul_comm _ _

theorem res4 : (shapeCast S1x1024 (Host.reduceAdd (res_main_v219 V0) (constant S_ .f32 0x00000000#32) reducesTo_S4112x1024_S1024_d0 h_S_) shapeCasts_S1024_S1x1024 : FVec Ideal S1x1024 .f32)
    = dsS Z (DY0 V0) (G0 V0) (B0 V0) := by
  funext j
  idx_vars j
  obtain rfl : j0 = 0 := Subsingleton.elim _ _
  refine (sum_apply j1 _ _ _ _).trans ?_
  show _ = ∑ R : Fin 4224, dlA Z (DY0 V0) (G0 V0) (B0 V0) R j1
  rw [sum_rows _ fun R hR => by rw [dl_eq V0 Z hZ h1 h5 h6 hz, dif_neg hR]]
  refine Finset.sum_congr rfl fun k _ => ?_
  have hk : 112 ≤ (⟨112 + k.val, by omega⟩ : Fin 4224).val := by show 112 ≤ 112 + k.val; omega
  rw [dl_eq V0 Z hZ h1 h5 h6 hz, dif_pos hk, q_add k hk]
  exact v219_apply V0 k j1

theorem res5 : (shapeCast S1x1024 (Host.reduceAdd (res_main_v250 V0) (constant S_ .f32 0x00000000#32) reducesTo_S4112x1024_S1024_d0 h_S_) shapeCasts_S1024_S1x1024 : FVec Ideal S1x1024 .f32)
    = dbS Z (DY0 V0) (G0 V0) (B0 V0) := by
  funext j
  idx_vars j
  obtain rfl : j0 = 0 := Subsingleton.elim _ _
  refine (sum_apply j1 _ _ _ _).trans ?_
  show _ = ∑ R : Fin 4224, dz1A Z (DY0 V0) (G0 V0) (B0 V0) R j1
  rw [sum_rows _ fun R hR => by rw [dz1_eq V0 Z hZ h1 h5 h6 hz, dif_neg hR]]
  refine Finset.sum_congr rfl fun k _ => ?_
  have hk : 112 ≤ (⟨112 + k.val, by omega⟩ : Fin 4224).val := by show 112 ≤ 112 + k.val; omega
  rw [dz1_eq V0 Z hZ h1 h5 h6 hz, dif_pos hk, q_add k hk]
  exact v250_apply V0 k j1

end Results

end Cert.Proof.MixAlgebraic

end
-- ==== Proof.MixClaim.lean ====
/- THE VALUE CLAIM OF THE MIXER'S FIRST BACKWARD CALL, assembled. -/
module

public import proofs.«01_k».proof.Proof.MixAlgebraic

@[expose] public section

noncomputable section

namespace Cert.Proof.MixClaim

open Cert.KernelIdeal Cert.KernelIdeal.Gen Idealize.ShloMosaic Idealize.ShloMosaic.TcCoe Idealize.SL.Sem
open Cert.Proof.MixBwd Cert.Proof.MixRef Cert.Proof.MixFinite Cert.Proof.MixAlgebraic
open Idealize.ShloMosaic.StableHlo (launchContents)
open Cert.ReferenceIdeal.Value (res_main_v250 res_main_v1 res_main_v217 res_main_v21 res_main_v209 res_main_v219)

/-- The side conditions the precondition states. -/
theorem preFacts : Cert.Pre_finite.Facts :=
  ⟨by decide, by decide, by decide, by decide, by decide, by decide, by decide, by decide, by decide⟩

instance : Cert.Pre_finite.Facts := preFacts

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The kernel's arguments on device `c`, read as arrays. -/
def a0 : FVec Ideal S4224x5120 .f32 := m ((c.tc : Thread nD τ).loc main_arg0)
def a1 : FVec Ideal S4224x2048 .f32 := m ((c.tc : Thread nD τ).loc main_arg1)
def a2 : FVec Ideal S3x1024 .f32 := m ((c.tc : Thread nD τ).loc main_arg2)
def a3 : FVec Ideal S31x1024 .f32 := m ((c.tc : Thread nD τ).loc main_arg3)
def a4 : FVec Ideal S1x1024 .f32 := m ((c.tc : Thread nD τ).loc main_arg4)
def a5 : FVec Ideal S1x1024 .f32 := m ((c.tc : Thread nD τ).loc main_arg5)
def a6 : FVec Ideal S1x1024 .f32 := m ((c.tc : Thread nD τ).loc main_arg6)

/-- The two launches start from the same arguments. -/
structure Same : Prop where
  e0 : U0 (launchContents m' c) = a0 m c
  e1 : DY0 (launchContents m' c) = a1 m c
  e2 : W0 (launchContents m' c) = a2 m c
  e3 : (launchContents m' c (Proc.devRef .tc Cert.ReferenceIdeal.main_arg3) : FVec Ideal S31x1024 .f32) = a3 m c
  e4 : (launchContents m' c (Proc.devRef .tc Cert.ReferenceIdeal.main_arg4) : FVec Ideal S1x1024 .f32) = a4 m c
  e5 : G0 (launchContents m' c) = a5 m c
  e6 : B0 (launchContents m' c) = a6 m c

section Facts

variable (hs : Same m m' c) (hp : Cert.Pre_finite.fn (F := Ideal) (a0 m c) (a1 m c) (a2 m c) (a3 m c) (a4 m c) (a5 m c) (a6 m c) = fun _ => 1#1)

include hs in
theorem hZ (R : Fin 4224) (l : Fin 1024) : (V m c main_v186 : FVec Ideal S4224x1024 .f32) (ix2 R l)
    = if h : 112 ≤ R.val then zr (launchContents m' c) (q R h) l else 0 := by
  rw [MixHost.V_z1]
  refine (z1P_apply l _ R).trans ?_
  rw [z_eq (launchContents m' c) (fun b => m (c, b)) hs.e0.symm hs.e3.symm hs.e4.symm]
  rfl

include hp
theorem r : (∀ i, Re (a0 m c i)) ∧ (∀ i, Re (a1 m c i)) ∧ (∀ i, Re (a3 m c i)) ∧ (∀ i, Re (a4 m c i)) ∧ (∀ i, Re (a5 m c i)) ∧ (∀ i, Re (a6 m c i)) :=
  reals _ _ _ _ _ _ _ hp
include hs

theorem h1 (i) : Re (DY0 (launchContents m' c) i) := by rw [hs.e1]; exact (r m c hp).2.1 i
theorem h5 (i) : Re (G0 (launchContents m' c) i) := by rw [hs.e5]; exact (r m c hp).2.2.2.2.1 i
theorem h6 (i) : Re (B0 (launchContents m' c) i) := by rw [hs.e6]; exact (r m c hp).2.2.2.2.2 i
theorem hz (q : Fin 4112) (l : Fin 1024) : Re (zr (launchContents m' c) q l) :=
  real_z _ (fun i => by have e := hs.e0; unfold U0 at e; rw [e]; exact (r m c hp).1 i)
    (fun i => by rw [hs.e3]; exact (r m c hp).2.2.1 i) (fun i => by rw [hs.e4]; exact (r m c hp).2.2.2.1 i) q l

end Facts

theorem V1 : V m c main_arg1 = a1 m c := V_main_arg1 m c
theorem V0 : V m c main_arg0 = a0 m c := V_main_arg0 m c
theorem V2 : V m c main_arg2 = a2 m c := V_main_arg2 m c
theorem V5 : V m c main_arg5 = a5 m c := V_main_arg5 m c
theorem V6 : V m c main_arg6 = a6 m c := V_main_arg6 m c

/-! ## The kernel's results, in the reference's arguments -/

theorem fin7 (hs : Same m m' c) : (dats m 0 c).arrAt 7 cfg0.N = fun j => dz1A (V m c main_v186) (DY0 (launchContents m' c)) (G0 (launchContents m' c)) (B0 (launchContents m' c)) (j 0) (j 1) := by
  rw [final7, V1, V5, V6, ← hs.e1, ← hs.e5, ← hs.e6]
theorem fin8 (hs : Same m m' c) : (dats m 0 c).arrAt 8 cfg0.N = fun j => dcsA (U0 (launchContents m' c)) (DY0 (launchContents m' c)) (j 0) (j 1) := by
  rw [final8, V0, V1, ← hs.e0, ← hs.e1]
theorem fin9 (hs : Same m m' c) : (dats m 0 c).arrAt 9 cfg0.N = fun j => dbA (U0 (launchContents m' c)) (DY0 (launchContents m' c)) (W0 (launchContents m' c)) (j 0) (j 1) := by
  rw [final9, V0, V1, V2, ← hs.e0, ← hs.e1, ← hs.e2]
theorem fin10 (hs : Same m m' c) : (dats m 0 c).arrAt 10 cfg0.N = dgS (V m c main_v186) (DY0 (launchContents m' c)) (G0 (launchContents m' c)) (B0 (launchContents m' c)) := by
  rw [final10, V1, V5, V6, ← hs.e1, ← hs.e5, ← hs.e6]
theorem fin11 (hs : Same m m' c) : (dats m 0 c).arrAt 11 cfg0.N = dsS (V m c main_v186) (DY0 (launchContents m' c)) (G0 (launchContents m' c)) (B0 (launchContents m' c)) := by
  rw [final11, V1, V5, V6, ← hs.e1, ← hs.e5, ← hs.e6]
theorem fin12 (hs : Same m m' c) : (dats m 0 c).arrAt 12 cfg0.N = dbS (V m c main_v186) (DY0 (launchContents m' c)) (G0 (launchContents m' c)) (B0 (launchContents m' c)) := by
  rw [final12, V1, V5, V6, ← hs.e1, ← hs.e5, ← hs.e6]

theorem algebraic : Cert.algebraic_KernelIdeal_ReferenceIdeal_pre_finite := fun m g m' g' hp hm =>
  ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N,
    Cert.KernelIdeal.Value.run_blocks m g,
    (θ_run Cert.ReferenceIdeal.defs _ _).mono (fun r h c => by
      have hs : Same m m' c := ⟨(hm c).1, (hm c).2.1, (hm c).2.2.1, (hm c).2.2.2.1, (hm c).2.2.2.2.1, (hm c).2.2.2.2.2.1, (hm c).2.2.2.2.2.2⟩
      have j1 := h1 m m' c hs (hp c)
      have j5 := h5 m m' c hs (hp c)
      have j6 := h6 m m' c hs (hp c)
      have jz := hz m m' c hs (hp c)
      have jZ := hZ m m' c hs
      have t0 := (h c).1.trans ((res0 _ _ jZ j1 j5 j6 jz).trans (fin7 m m' c hs).symm)
      have t1 := (h c).2.1.trans ((res1 _).trans (fin8 m m' c hs).symm)
      have t2 := (h c).2.2.1.trans ((res2 _).trans (fin9 m m' c hs).symm)
      have t3 := (h c).2.2.2.1.trans ((res3 _ _ jZ j1 j5 j6 jz).trans (fin10 m m' c hs).symm)
      have t4 := (h c).2.2.2.2.1.trans ((res4 _ _ jZ j1 j5 j6 jz).trans (fin11 m m' c hs).symm)
      have t5 := (h c).2.2.2.2.2.1.trans ((res5 _ _ jZ j1 j5 j6 jz).trans (fin12 m m' c hs).symm)
      exact ⟨t0, t1, t2, t3, t4, t5, (h c).2.2.2.2.2.2⟩)
      (Cert.ReferenceIdeal.Value.run m' g')⟩

/-- The reference runs, its arguments unchanged, its counters at zero. -/
theorem frameR : Cert.quiescent_ReferenceIdeal := fun m g _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m g)

end Cert.Proof.MixClaim

end
-- ==== Proof.PanelOut.lean ====
/- THE INPUT GRADIENT OF THE MIXER'S OUTPUT PROJECTION, block by block: each grid point takes 1408 rows of the gradient and
   half the rows of the weights, and writes their product.  Here: a point's block at an index (`out_eq`), the array the host
   hands the call (`host_eq`), the places of the blocks (`emb0` to `emb3`), and the whole result as the reference's product
   (`final3`, `algebraic`). -/
module

public import proofs.«01_k».proof.Defs
public import proofs.«01_k».proof.Proof.Gen.Kernel10Ideal.Value
public import proofs.«01_k».proof.Proof.Gen.Reference10Ideal.Run
public import Idealize.ShloMosaic.Lib.Pointwise

@[expose] public section

noncomputable section

namespace Cert.Proof.PanelOut

open Cert.Kernel10Ideal Cert.Kernel10Ideal.Gen Cert.Kernel10Ideal.Value Idealize.ShloMosaic Idealize.ShloMosaic.TcCoe Idealize.SL.Sem

theorem hz2 : (![0, 0] : Fin 2 → Nat) = fun _ => 0 := funext fun a => by fin_cases a <;> rfl

/-- What a point leaves in the output's staging buffer, at an index. -/
theorem out_eq (c : Dev nD) (i : grid0.Coords) (arg3 : Memref sig .tc .vmem S1408x2048 .bf16) (h3 : arg3.IsWhole)
    (arg4 : Memref sig .tc .vmem S1x1024x2048 .bf16) (h4 : arg4.IsWhole)
    (arg5 : Memref sig .tc .vmem S8x128 .f32) (h5 : arg5.IsWhole)
    (arg6 : Memref sig .tc .vmem S1408x1024 .f32) (h6 : arg6.IsWhole)
    (x0 : Vec Ideal S1408x2048 .bf16) (x1 : Vec Ideal S1x1024x2048 .bf16) (x2 : Vec Ideal S8x128 .f32)
    (hc0 : cond0_0 i) (hc1 : ¬cond0_1 i) (r : Fin 1408) (l : Fin 1024) :
    out0_A_3 c i arg3 h3 arg4 h4 arg5 h5 arg6 h6 hc0 hc1 x0 x1 x2 (ix2 r l)
      = ∑ k : Fin 2048, (x0 (ix2 r k) * x1 (ix3 0 l k) : EReal) := by
  unfold out0_A_3
  rw [View.read_writes_eq_canon _ _ _ (cover0_A_3 c i arg3 h3 arg4 h4 arg5 h5 arg6 h6 hc0 hc1 x0 x1 x2)]
  unfold kernelRun0_A
  dsimp only
  sl_unfold_words
  rw [View.canon_unit_zero hz2]
  simp only [View.readAt_eq_ld, h3.read_unread, h4.read_unread]
  pointwise [k0_pay2, k0_pay1]

/-- The whole result, from the gradient and the weights in four row panels. -/
def G (d : FVec Ideal S4224x2048 .bf16) (w : FVec Ideal S4x512x2048 .bf16) : FVec Ideal S4224x2048 .f32 := fun i =>
  ∑ k : Fin 2048, (d (ix2 (i 0) k) * w (ix3 ⟨(i 1).val / 512, by have := (i 1).isLt; simp at *; omega⟩ ⟨(i 1).val % 512, by omega⟩ k) : EReal)

/-- The reference's result is `G`. -/
theorem ref_eq (d : FVec Ideal S4224x2048 .bf16) (w : FVec Ideal S4x512x2048 .bf16) :
    (Host.dotGeneral Cert.Reference10Ideal.dot_S4224x2048_S2048x2048_S4224x2048_1_1_0_0_n_n none
      (extf .f32 d Cert.Reference10Ideal.Gen.facts.bitsLt_bf16_f32)
      (shapeCast Cert.Reference10Ideal.S2048x2048 (extf .f32 w Cert.Reference10Ideal.Gen.facts.bitsLt_bf16_f32)
        Cert.Reference10Ideal.Gen.facts.shapeCasts_S4x512x2048_S2048x2048) : FVec Ideal S4224x2048 .f32) = G d w := by
  funext i
  idx_vars i
  unfold G
  pointwise []

theorem cast_apply (w : FVec Ideal S4x512x2048 .bf16) (l k : Fin 2048) :
    (shapeCast S1x2048x2048 w Gen.facts.shapeCasts_S4x512x2048_S1x2048x2048 : FVec Ideal S1x2048x2048 .bf16) (ix3 0 l k) = w (ix3 ⟨l.val / 512, by have := l.isLt; omega⟩ ⟨l.val % 512, by omega⟩ k) := by
  pointwise []

variable (m : (ℓ : Loc nD τ sig) → Buf (Elt Ideal) ℓ) (ρ : Dev nD → PrngReg)

/-- The array the host hands the call: the weights' four row panels, one below the other. -/
theorem host_eq (c : Dev nD) : V m c main_v0
    = (shapeCast S1x2048x2048 (m ((c : Thread nD τ).loc main_arg1) : FVec Ideal S4x512x2048 .bf16) Gen.facts.shapeCasts_S4x512x2048_S1x2048x2048 : FVec Ideal S1x2048x2048 .bf16) := by
  rfl

theorem host_apply (c : Dev nD) (l k : Fin 2048) : (V m c main_v0 : FVec Ideal S1x2048x2048 .bf16) (ix3 0 l k)
    = (m ((c : Thread nD τ).loc main_arg1) : FVec Ideal S4x512x2048 .bf16) (ix3 ⟨l.val / 512, by have := l.isLt; omega⟩ ⟨l.val % 512, by omega⟩ k) := by
  exact (congrFun (host_eq m c) _).trans (cast_apply _ l k)

theorem hN : cfg0.N = 6 := rfl

/-- The block indices at grid point `t`, and the places of the blocks' elements. -/
theorem idx0 : ∀ t : Fin cfg0.N, win0_0.index t (0 : Fin 2) = t.val % 3 ∧ win0_0.index t (1 : Fin 2) = 0 :=
  (by decide +kernel : ∀ t : Fin grid0.N, _)

/-- The place of an element of a block in its array. -/
theorem emb0 (t : Fin cfg0.N) (r : Fin 1408) (k : Fin 2048) : ((cfg0.win 0).blk t).view.emb (ix2 r k)
    = ix2 ⟨t.val % 3 * 1408 + r.val, by have := r.isLt; have := t.isLt; have := hN; omega⟩ k := by
  obtain ⟨e0, e1⟩ := idx0 t
  funext a; apply Fin.ext
  match a with
  | ⟨0, _⟩ => show win0_0.index t (0 : Fin 2) * 1408 + 1 * r.val = t.val % 3 * 1408 + r.val; omega
  | ⟨1, _⟩ => show win0_0.index t (1 : Fin 2) * 2048 + 1 * k.val = k.val; omega

theorem idx1 : ∀ t : Fin cfg0.N, win0_1.index t (0 : Fin 3) = 0 ∧ win0_1.index t (1 : Fin 3) = t.val / 3 ∧ win0_1.index t (2 : Fin 3) = 0 :=
  (by decide +kernel : ∀ t : Fin grid0.N, _)

/-- The place of an element of a block in its array. -/
theorem emb1 (t : Fin cfg0.N) (l : Fin 1024) (k : Fin 2048) : ((cfg0.win 1).blk t).view.emb (ix3 0 l k)
    = ix3 0 ⟨t.val / 3 * 1024 + l.val, by have := l.isLt; have := t.isLt; have := hN; omega⟩ k := by
  obtain ⟨e0, e1, e2⟩ := idx1 t
  funext a; apply Fin.ext
  match a with
  | ⟨0, _⟩ => show win0_1.index t (0 : Fin 3) * 1 + 1 * 0 = 0; omega
  | ⟨1, _⟩ => show win0_1.index t (1 : Fin 3) * 1024 + 1 * l.val = t.val / 3 * 1024 + l.val; omega
  | ⟨2, _⟩ => show win0_1.index t (2 : Fin 3) * 2048 + 1 * k.val = k.val; omega

theorem idx3 : ∀ t : Fin cfg0.N, win0_3.index t (0 : Fin 2) = t.val % 3 ∧ win0_3.index t (1 : Fin 2) = t.val / 3 :=
  (by decide +kernel : ∀ t : Fin grid0.N, _)

/-- The place of an element of a block in its array. -/
theorem emb3 (t : Fin cfg0.N) (r : Fin 1408) (l : Fin 1024) : ((cfg0.win 3).blk t).view.emb (ix2 r l)
    = ix2 ⟨t.val % 3 * 1408 + r.val, by have := r.isLt; have := t.isLt; have := hN; omega⟩ ⟨t.val / 3 * 1024 + l.val, by have := l.isLt; have := t.isLt; have := hN; omega⟩ := by
  obtain ⟨e0, e1⟩ := idx3 t
  funext a; apply Fin.ext
  match a with
  | ⟨0, _⟩ => show win0_3.index t (0 : Fin 2) * 1408 + 1 * r.val = t.val % 3 * 1408 + r.val; omega
  | ⟨1, _⟩ => show win0_3.index t (1 : Fin 2) * 1024 + 1 * l.val = t.val / 3 * 1024 + l.val; omega

/-- What a point writes back is its block of the whole result. -/
theorem flushed3_eq (c : Dev nD) (t : Fin cfg0.N) :
    (dats m 0 c).flushed 3 t = ((cfg0.win 3).blk t).view.read (Elt Ideal) (G (V m c main_arg0) (m ((c : Thread nD τ).loc main_arg1))) := by
  rw [flushed3_A]
  funext j
  show out0_A_3 c (grid0.coords t) (ms0_0 t) (hs0_0 t) (ms0_1 t) (hs0_1 t) (ms0_2 t) (hs0_2 t) (ms0_3 t) (hs0_3 t) (hcond0_0 t) (hcond0_1 t) (iblk m c 0 t) (iblk m c 1 t) (iblk m c 2 t) j
    = G (V m c main_arg0) (m ((c : Thread nD τ).loc main_arg1)) (((cfg0.win 3).blk t).view.emb j)
  idx_vars j
  rw [emb3]
  refine (out_eq c _ _ _ _ _ _ _ _ _ _ _ _ _ _ j0 j1).trans ?_
  unfold G
  refine Finset.sum_congr rfl fun k _ => congrArg₂ (fun a b : EReal => a * b) ?_ ?_
  · show V m c main_arg0 (((cfg0.win 0).blk t).view.emb (ix2 j0 k)) = _
    rw [emb0]
    rfl
  · show V m c main_v0 (((cfg0.win 1).blk t).view.emb (ix3 0 j1 k)) = _
    rw [emb1]
    exact host_apply m c _ k

/-- Every element of the result is in some point's block. -/
theorem covered3 (i : S4224x2048.Idx) :
    ∃ t : Fin cfg0.N, (cfg0.win 3).flush t = true ∧ i ∈ ((cfg0.win 3).blk t).view.set := by
  idx_vars i
  have hi0 := i0.isLt; have hi1 := i1.isLt
  have hN : i1.val / 1024 * 3 + i0.val / 1408 < cfg0.N := by show _ < 6; omega
  refine ⟨⟨_, hN⟩, flush0_3 _, ?_⟩
  have h := ((cfg0.win 3).blk ⟨_, hN⟩).view.emb_mem_set (ix2 ⟨i0.val % 1408, by omega⟩ ⟨i1.val % 1024, by omega⟩)
  have e : ((cfg0.win 3).blk ⟨_, hN⟩).view.emb (ix2 ⟨i0.val % 1408, by omega⟩ ⟨i1.val % 1024, by omega⟩) = ix2 i0 i1 := by
    rw [emb3]
    funext a; apply Fin.ext
    match a with
    | ⟨0, _⟩ => show (i1.val / 1024 * 3 + i0.val / 1408) % 3 * 1408 + i0.val % 1408 = i0.val; omega
    | ⟨1, _⟩ => show (i1.val / 1024 * 3 + i0.val / 1408) / 3 * 1024 + i1.val % 1024 = i1.val; omega
  rw [e] at h
  exact h

/-- The result array after the run. -/
theorem final3 (c : Dev nD) : (dats m 0 c).arrAt 3 cfg0.N
    = G (m ((c : Thread nD τ).loc main_arg0)) (m ((c : Thread nD τ).loc main_arg1)) :=
  ((dats m 0 c).arrAt_eq_of_cover 3 (G (V m c main_arg0) (m ((c : Thread nD τ).loc main_arg1))) (fun t _ => flushed3_eq m c t) covered3).trans
    (by rw [V_main_arg0])

/-- The kernel and the reference end with equal results. -/
theorem algebraic : Cert.algebraic_Kernel10Ideal_Reference10Ideal := fun m g m' g' _ hm =>
  ⟨fun c => G (m ((c : Thread nD τ).loc main_arg0)) (m ((c : Thread nD τ).loc main_arg1)),
    (θ_run defs _ _).mono (fun r h c => ⟨(h c).1.trans (final3 m c), (h c).2⟩) (run_blocks m g),
    (θ_run Cert.Reference10Ideal.defs _ _).mono (fun r h c => ⟨(h c).1.trans
      ((ref_eq _ _).trans (by rw [(hm c).1, (hm c).2.1])), (h c).2⟩) (Cert.Reference10Ideal.Value.run m' g')⟩

/-- The reference runs, its arguments unchanged, its counters at zero. -/
theorem frameR : Cert.quiescent_Reference10Ideal := fun m g _ =>
  (θ_run Cert.Reference10Ideal.defs _ _).mono (fun r h => ⟨fun c => (h c).2,
      Idealize.ShloMosaic.sem_eq_zero_of_no_sems (by decide) r.2⟩)
    (Cert.Reference10Ideal.Value.run (F := Ideal) m g)

end Cert.Proof.PanelOut

end
-- ==== Proof.PanelIn.lean ====
/- THE INPUT GRADIENT OF THE MIXER'S INPUT PROJECTION, block by block: the grid walks the output's blocks, and at each the
   four column panels of the gradient; a panel's product is added to what the panels before left.  Here: a point's part at
   an index, what the four points of an output block leave together (`acc_eq`), the places of the blocks (`emb0` to
   `emb3`), and the whole result as the reference's one product (`final3`, `algebraic`). -/
module

public import proofs.«01_k».proof.Defs
public import proofs.«01_k».proof.Proof.Gen.Kernel11Ideal.Value
public import proofs.«01_k».proof.Proof.Gen.Reference11Ideal.Run
public import Idealize.ShloMosaic.Lib.Pointwise

@[expose] public section

noncomputable section

namespace Cert.Proof.PanelIn

open Cert.Kernel11Ideal Cert.Kernel11Ideal.Gen Cert.Kernel11Ideal.Value Idealize.ShloMosaic Idealize.ShloMosaic.TcCoe Idealize.SL.Sem

theorem hz2 : (![0, 0] : Fin 2 → Nat) = fun _ => 0 := funext fun a => by fin_cases a <;> rfl

/-- A point's part of its output block, from its two input blocks. -/
def part (x0 : Vec Ideal S1408x1280 .bf16) (x1 : Vec Ideal S1x1024x1280 .bf16) : FVec Ideal S1408x1024 .f32 := fun j =>
  ∑ k : Fin 1280, (x0 (ix2 (j 0) k) * x1 (ix3 0 (j 1) k) : EReal)

section Case

variable (c : Dev nD) (i : grid0.Coords) (arg3 : Memref sig .tc .vmem S1408x1280 .bf16) (h3 : arg3.IsWhole)
    (arg4 : Memref sig .tc .vmem S1x1024x1280 .bf16) (h4 : arg4.IsWhole)
    (arg5 : Memref sig .tc .vmem S8x128 .f32) (h5 : arg5.IsWhole)
    (arg6 : Memref sig .tc .vmem S1408x1024 .f32) (h6 : arg6.IsWhole)
    (x0 : Vec Ideal S1408x1280 .bf16) (x1 : Vec Ideal S1x1024x1280 .bf16) (x2 : Vec Ideal S8x128 .f32)
    (xo : Vec Ideal S1408x1024 .f32)

/-- The first of a block's four points leaves its part. -/
theorem first_eq (hc0 : cond0_0 i) (hc1 : ¬cond0_1 i) :
    out0_A_3 c i arg3 h3 arg4 h4 arg5 h5 arg6 h6 hc0 hc1 x0 x1 x2 = part x0 x1 := by
  unfold out0_A_3
  rw [View.read_writes_eq_canon _ _ _ (cover0_A_3 c i arg3 h3 arg4 h4 arg5 h5 arg6 h6 hc0 hc1 x0 x1 x2)]
  unfold kernelRun0_A
  dsimp only
  sl_unfold_words
  rw [View.canon_unit_zero hz2]
  simp only [View.readAt_eq_ld, h3.read_unread, h4.read_unread]
  funext j
  idx_vars j
  unfold part
  pointwise [k0_pay2, k0_pay1]

/-- Each later point adds its part to what the points before left. -/
theorem later_eq (hc0 : ¬cond0_0 i) (hc1 : cond0_1 i) :
    out0_B_3 c i arg3 h3 arg4 h4 arg5 h5 arg6 h6 hc0 hc1 x0 x1 x2 xo = fun j => (xo j + part x0 x1 j : EReal) := by
  unfold out0_B_3
  rw [View.read_writes_eq_canon _ _ _ (cover0_B_3 c i arg3 h3 arg4 h4 arg5 h5 arg6 h6 hc0 hc1 x0 x1 x2 xo)]
  unfold kernelRun0_B
  dsimp only
  sl_unfold_words
  rw [View.canon_unit_zero hz2]
  simp only [View.readAt_eq_ld, h3.read_unread, h4.read_unread, h6.read_unread,
    View.ld_unit_zero (S := S1408x1024) hz2]
  funext j
  idx_vars j
  unfold part
  pointwise [k0_pay3, k0_pay1]

end Case

variable (m : (ℓ : Loc nD τ sig) → Buf (Elt Ideal) ℓ) (ρ : Dev nD → PrngReg)

/-- The part of grid point `t`. -/
def P (c : Dev nD) (t : Fin cfg0.N) : FVec Ideal S1408x1024 .f32 := part (iblk m c 0 t) (iblk m c 1 t)

theorem step_first (c : Dev nD) (t : Fin cfg0.N) (h0 : t.val % 4 = 0) : outsAt0 m c t.val t.isLt = P m c t :=
  (outsAt0_A m c t h0 (by omega)).trans (first_eq ..)

theorem step_later (c : Dev nD) (n : Nat) (hn : n + 1 < cfg0.N) (h0 : (n + 1) % 4 ≠ 0) :
    outsAt0 m c (n + 1) hn = fun j => (outsAt0 m c n (by omega) j + P m c ⟨n + 1, hn⟩ j : EReal) :=
  (outsAt0_B m c ⟨n + 1, hn⟩ h0 (by show 1 ≤ (n + 1) % 4; omega)).trans (later_eq ..)

/-- After the four points of an output block: the four parts. -/
theorem acc_eq (c : Dev nD) (n : Nat) (hn : n + 3 < cfg0.N) (h0 : n % 4 = 0) (j : S1408x1024.Idx) :
    outsAt0 m c (n + 3) hn j = ∑ J : Fin 4, (P m c ⟨n + J.val, by have := J.isLt; omega⟩ j : EReal) := by
  rw [step_later m c (n + 2) hn (by omega), step_later m c (n + 1) (by omega) (by omega), step_later m c n (by omega) (by omega),
    step_first m c ⟨n, by omega⟩ h0, Fin.sum_univ_four]
  rfl

/-- Column panel `J`'s part of the product's element. -/
def panel (d : FVec Ideal S4224x5120 .bf16) (w : FVec Ideal S4x2048x1280 .bf16) (R : Fin 4224) (L : Fin 2048) (J : Fin 4) : EReal :=
  ∑ k : Fin 1280, (d (ix2 R ⟨J.val * 1280 + k.val, by have := J.isLt; have := k.isLt; omega⟩) * w (ix3 J L k) : EReal)

/-- The whole result: the product over all 5120 columns. -/
def G (d : FVec Ideal S4224x5120 .bf16) (w : FVec Ideal S4x2048x1280 .bf16) : FVec Ideal S4224x2048 .f32 := fun i =>
  ∑ J : Fin 4, panel d w (i 0) (i 1) J

/-- The reference's result is `G`. -/
theorem ref_eq (d : FVec Ideal S4224x5120 .bf16) (w : FVec Ideal S4x2048x1280 .bf16) :
    (Host.dotGeneral Cert.Reference11Ideal.dot_S4224x5120_S2048x5120_S4224x2048_1_1_0_0_n_n none
      (extf .f32 d Cert.Reference11Ideal.Gen.facts.bitsLt_bf16_f32)
      (shapeCast Cert.Reference11Ideal.S2048x5120 (transpose Cert.Reference11Ideal.S2048x4x1280 [1, 0, 2] (extf .f32 w Cert.Reference11Ideal.Gen.facts.bitsLt_bf16_f32)
        Cert.Reference11Ideal.Gen.facts.transposes_S4x2048x1280_S2048x4x1280_1_0_2) Cert.Reference11Ideal.Gen.facts.shapeCasts_S2048x4x1280_S2048x5120) : FVec Ideal S4224x2048 .f32) = G d w := by
  funext i
  idx_vars i
  unfold G panel
  pointwise []
  rw [Fin.sum_univ_tiles 4 1280 rfl]
  refine Finset.sum_congr rfl fun J _ => Finset.sum_congr rfl fun k _ => ?_
  have e1 : (J.val * 1280 + k.val) / 1280 = J.val := by have := k.isLt; omega
  have e2 : (J.val * 1280 + k.val) % 1280 = k.val := by have := k.isLt; omega
  exact congrArg (fun i => (d _ * w i : EReal)) (congrArg₂ (fun a b => ix3 a i1 b) (Fin.ext e1) (Fin.ext e2))

theorem hN : cfg0.N = 24 := rfl

/-- The block indices at grid point `t`, and the places of the blocks' elements. -/
theorem idx0 : ∀ t : Fin cfg0.N, win0_0.index t (0 : Fin 2) = t.val / 4 % 3 ∧ win0_0.index t (1 : Fin 2) = t.val % 4 :=
  (by decide +kernel : ∀ t : Fin grid0.N, _)

/-- The place of an element of a block in its array. -/
theorem emb0 (t : Fin cfg0.N) (r : Fin 1408) (k : Fin 1280) : ((cfg0.win 0).blk t).view.emb (ix2 r k)
    = ix2 ⟨t.val / 4 % 3 * 1408 + r.val, by have := r.isLt; have := t.isLt; have := hN; omega⟩ ⟨t.val % 4 * 1280 + k.val, by have := k.isLt; have := t.isLt; have := hN; omega⟩ := by
  obtain ⟨e0, e1⟩ := idx0 t
  funext a; apply Fin.ext
  match a with
  | ⟨0, _⟩ => show win0_0.index t (0 : Fin 2) * 1408 + 1 * r.val = t.val / 4 % 3 * 1408 + r.val; omega
  | ⟨1, _⟩ => show win0_0.index t (1 : Fin 2) * 1280 + 1 * k.val = t.val % 4 * 1280 + k.val; omega

theorem idx1 : ∀ t : Fin cfg0.N, win0_1.index t (0 : Fin 3) = t.val % 4 ∧ win0_1.index t (1 : Fin 3) = t.val / 12 ∧ win0_1.index t (2 : Fin 3) = 0 :=
  (by decide +kernel : ∀ t : Fin grid0.N, _)

/-- The place of an element of a block in its array. -/
theorem emb1 (t : Fin cfg0.N) (l : Fin 1024) (k : Fin 1280) : ((cfg0.win 1).blk t).view.emb (ix3 0 l k)
    = ix3 ⟨t.val % 4, by have := t.isLt; have := hN; omega⟩ ⟨t.val / 12 * 1024 + l.val, by have := l.isLt; have := t.isLt; have := hN; omega⟩ k := by
  obtain ⟨e0, e1, e2⟩ := idx1 t
  funext a; apply Fin.ext
  match a with
  | ⟨0, _⟩ => show win0_1.index t (0 : Fin 3) * 1 + 1 * 0 = t.val % 4; omega
  | ⟨1, _⟩ => show win0_1.index t (1 : Fin 3) * 1024 + 1 * l.val = t.val / 12 * 1024 + l.val; omega
  | ⟨2, _⟩ => show win0_1.index t (2 : Fin 3) * 1280 + 1 * k.val = k.val; omega

theorem idx3 : ∀ t : Fin cfg0.N, win0_3.index t (0 : Fin 2) = t.val / 4 % 3 ∧ win0_3.index t (1 : Fin 2) = t.val / 12 :=
  (by decide +kernel : ∀ t : Fin grid0.N, _)

/-- The place of an element of a block in its array. -/
theorem emb3 (t : Fin cfg0.N) (r : Fin 1408) (l : Fin 1024) : ((cfg0.win 3).blk t).view.emb (ix2 r l)
    = ix2 ⟨t.val / 4 % 3 * 1408 + r.val, by have := r.isLt; have := t.isLt; have := hN; omega⟩ ⟨t.val / 12 * 1024 + l.val, by have := l.isLt; have := t.isLt; have := hN; omega⟩ := by
  obtain ⟨e0, e1⟩ := idx3 t
  funext a; apply Fin.ext
  match a with
  | ⟨0, _⟩ => show win0_3.index t (0 : Fin 2) * 1408 + 1 * r.val = t.val / 4 % 3 * 1408 + r.val; omega
  | ⟨1, _⟩ => show win0_3.index t (1 : Fin 2) * 1024 + 1 * l.val = t.val / 12 * 1024 + l.val; omega

/-- The part of the point that takes column panel `J`, in the arrays. -/
theorem P_apply (c : Dev nD) (t : Fin cfg0.N) (J : Fin 4) (hJ : t.val % 4 = J.val) (r : Fin 1408) (l : Fin 1024) (R : Fin 4224) (L : Fin 2048)
    (hR : R.val = t.val / 4 % 3 * 1408 + r.val) (hL : L.val = t.val / 12 * 1024 + l.val) :
    (P m c t (ix2 r l) : EReal) = panel (V m c main_arg0) (V m c main_arg1) R L J := by
  unfold panel
  unfold P part
  refine Finset.sum_congr rfl fun k _ => congrArg₂ (fun a b : EReal => a * b) ?_ ?_
  · show V m c main_arg0 (((cfg0.win 0).blk t).view.emb (ix2 r k)) = _
    rw [emb0]
    exact congrArg (V m c main_arg0) (congrArg₂ ix2 (Fin.ext hR.symm) (Fin.ext (by show t.val % 4 * 1280 + k.val = J.val * 1280 + k.val; rw [hJ])))
  · show V m c main_arg1 (((cfg0.win 1).blk t).view.emb (ix3 0 l k)) = _
    rw [emb1]
    exact congrArg (V m c main_arg1) (congrArg₂ (fun a b => ix3 a b k) (Fin.ext hJ) (Fin.ext hL.symm))

/-- What is written back is a block of the whole result. -/
theorem flushed3_eq (c : Dev nD) (t : Fin cfg0.N) (ht : (cfg0.win 3).flush t = true) :
    (dats m 0 c).flushed 3 t = ((cfg0.win 3).blk t).view.read (Elt Ideal) (G (V m c main_arg0) (V m c main_arg1)) := by
  have h3 := (flush0_3 t).1 ht
  rw [flushed3]
  funext j
  show outsAt0 m c t.val t.isLt j = G (V m c main_arg0) (V m c main_arg1) (((cfg0.win 3).blk t).view.emb j)
  obtain ⟨n, hn⟩ : ∃ n, t.val = n + 3 := ⟨t.val - 3, by omega⟩
  obtain ⟨tv, htv⟩ := t
  subst hn
  refine (acc_eq m c n htv (by show n % 4 = 0; simp only at h3; omega) j).trans ?_
  idx_vars j
  rw [emb3]
  unfold G
  refine Finset.sum_congr rfl fun J _ => ?_
  simp only at h3
  have hJ := J.isLt
  exact P_apply m c ⟨n + J.val, by omega⟩ J (by show (n + J.val) % 4 = J.val; omega) j0 j1
    ⟨(n + 3) / 4 % 3 * 1408 + j0.val, by have := j0.isLt; omega⟩ ⟨(n + 3) / 12 * 1024 + j1.val, by have := j1.isLt; have := hN; omega⟩
    (by show (n + 3) / 4 % 3 * 1408 + j0.val = (n + J.val) / 4 % 3 * 1408 + j0.val; omega)
    (by show (n + 3) / 12 * 1024 + j1.val = (n + J.val) / 12 * 1024 + j1.val; omega)

/-- Every element of the result is in the block of some point that writes back. -/
theorem covered3 (i : S4224x2048.Idx) :
    ∃ t : Fin cfg0.N, (cfg0.win 3).flush t = true ∧ i ∈ ((cfg0.win 3).blk t).view.set := by
  idx_vars i
  have hi0 := i0.isLt; have hi1 := i1.isLt
  have hN : i1.val / 1024 * 12 + i0.val / 1408 * 4 + 3 < cfg0.N := by show _ < 24; omega
  refine ⟨⟨_, hN⟩, (flush0_3 _).2 (by show (i1.val / 1024 * 12 + i0.val / 1408 * 4 + 3) % 4 = 3; omega), ?_⟩
  have h := ((cfg0.win 3).blk ⟨_, hN⟩).view.emb_mem_set (ix2 ⟨i0.val % 1408, by omega⟩ ⟨i1.val % 1024, by omega⟩)
  have e : ((cfg0.win 3).blk ⟨_, hN⟩).view.emb (ix2 ⟨i0.val % 1408, by omega⟩ ⟨i1.val % 1024, by omega⟩) = ix2 i0 i1 := by
    rw [emb3]
    funext a; apply Fin.ext
    match a with
    | ⟨0, _⟩ => show (i1.val / 1024 * 12 + i0.val / 1408 * 4 + 3) / 4 % 3 * 1408 + i0.val % 1408 = i0.val; omega
    | ⟨1, _⟩ => show (i1.val / 1024 * 12 + i0.val / 1408 * 4 + 3) / 12 * 1024 + i1.val % 1024 = i1.val; omega
  rw [e] at h
  exact h

/-- The result array after the run. -/
theorem final3 (c : Dev nD) : (dats m 0 c).arrAt 3 cfg0.N
    = G (m ((c : Thread nD τ).loc main_arg0)) (m ((c : Thread nD τ).loc main_arg1)) :=
  ((dats m 0 c).arrAt_eq_of_cover 3 (G (V m c main_arg0) (V m c main_arg1)) (fun t ht => flushed3_eq m c t ht) covered3).trans
    (by rw [V_main_arg0, V_main_arg1])

/-- The kernel and the reference end with equal results. -/
theorem algebraic : Cert.algebraic_Kernel11Ideal_Reference11Ideal := fun m g m' g' _ hm =>
  ⟨fun c => G (m ((c : Thread nD τ).loc main_arg0)) (m ((c : Thread nD τ).loc main_arg1)),
    (θ_run defs _ _).mono (fun r h c => ⟨(h c).1.trans (final3 m c), (h c).2⟩) (run_blocks m g),
    (θ_run Cert.Reference11Ideal.defs _ _).mono (fun r h c => ⟨(h c).1.trans
      ((ref_eq _ _).trans (by rw [(hm c).1, (hm c).2.1])), (h c).2⟩) (Cert.Reference11Ideal.Value.run m' g')⟩

/-- The reference runs, its arguments unchanged, its counters at zero. -/
theorem frameR : Cert.quiescent_Reference11Ideal := fun m g _ =>
  (θ_run Cert.Reference11Ideal.defs _ _).mono (fun r h => ⟨fun c => (h c).2,
      Idealize.ShloMosaic.sem_eq_zero_of_no_sems (by decide) r.2⟩)
    (Cert.Reference11Ideal.Value.run (F := Ideal) m g)

end Cert.Proof.PanelIn

end
-- ==== Proof.WgradIn.lean ====
/- THE WEIGHT GRADIENT OF THE MIXER'S INPUT PROJECTION, block by block: each grid point takes one quarter of the columns of the
   layer's input and one quarter of the columns of the product's gradient, and writes their product over all 4224 rows.
   Here: what a point writes at an index (`out_eq`, `part_apply`), the places of its blocks in the arrays (`emb0` to
   `emb2`), and so the whole result as the reference's transposed product (`final2`, `run`). -/
module

public import proofs.«01_k».proof.Defs
public import proofs.«01_k».proof.Proof.Gen.Kernel12Ideal.Value
public import proofs.«01_k».proof.Proof.Gen.Reference12Ideal.Run
public import Idealize.ShloMosaic.Lib.Pointwise

@[expose] public section

noncomputable section

namespace Cert.Proof.WgradIn

open Cert.Kernel12Ideal Cert.Kernel12Ideal.Gen Cert.Kernel12Ideal.Value Idealize.ShloMosaic Idealize.ShloMosaic.TcCoe Idealize.SL.Sem

theorem hz2 : (![0, 0] : Fin 2 → Nat) = fun _ => 0 := funext fun a => by fin_cases a <;> rfl
theorem hz4 : (![0, 0, 0, 0] : Fin 4 → Nat) = fun _ => 0 := funext fun a => by fin_cases a <;> rfl

/-- What a point leaves in the output's staging buffer: the product of its two blocks, in the output block's shape. -/
theorem out_eq (c : Dev nD) (i : grid0.Coords) (arg3 : Memref sig .tc .vmem S4224x512 .bf16) (h3 : arg3.IsWhole)
    (arg4 : Memref sig .tc .vmem S4224x1280 .bf16) (h4 : arg4.IsWhole)
    (arg5 : Memref sig .tc .vmem S1x1x512x1280 .f32) (h5 : arg5.IsWhole) (hc0 : cond0_0 i) (hc1 : ¬cond0_1 i)
    (x0 : Vec Ideal S4224x512 .bf16) (x1 : Vec Ideal S4224x1280 .bf16) :
    out0_A_2 c i arg3 h3 arg4 h4 arg5 h5 hc0 hc1 x0 x1 = k0_pay2 x0 x1 := by
  unfold out0_A_2
  rw [View.read_writes_eq_canon _ _ _ (cover0_A_2 c i arg3 h3 arg4 h4 arg5 h5 hc0 hc1 x0 x1)]
  unfold kernelRun0_A
  dsimp only
  sl_unfold_words
  rw [View.canon_unit_zero hz4]
  simp only [View.readAt_eq_ld, h3.read_unread, h4.read_unread, View.ld_unit_zero (S := S4224x512) hz2,
    View.ld_unit_zero (S := S4224x1280) hz2]

/-- A result element of a point: the sum over the rows of the products of a column of each block. -/
theorem part_apply (x0 : Vec Ideal S4224x512 .bf16) (x1 : Vec Ideal S4224x1280 .bf16) (j : S1x1x512x1280.Idx) :
    k0_pay2 x0 x1 j = ∑ k : Fin 4224, (x0 (ix2 k (j 2)) * x1 (ix2 k (j 3)) : EReal) := by
  pointwise [k0_pay2, k0_pay1]

/-- The whole result: the transposed product of the layer's input and the product's gradient, its rows cut in two
    halves and its columns in four quarters. -/
def G (n : FVec Ideal S4224x2048 .bf16) (d : FVec Ideal S4224x5120 .bf16) : FVec Ideal S4x2x1024x1280 .f32 := fun i =>
  ∑ k : Fin 4224, (n (ix2 k ⟨(i 1).val * 1024 + (i 2).val, by have := (i 1).isLt; have := (i 2).isLt; simp at *; omega⟩)
    * d (ix2 k ⟨(i 0).val * 1280 + (i 3).val, by have := (i 0).isLt; have := (i 3).isLt; simp at *; omega⟩) : EReal)

theorem ref_eq (n : FVec Ideal S4224x2048 .bf16) (d : FVec Ideal S4224x5120 .bf16) :
    transpose Cert.Reference12Ideal.S4x2x1024x1280 [2, 0, 1, 3] (shapeCast _ (transpose Cert.Reference12Ideal.S2048x5120 [1, 0]
      (Host.dotGeneral Cert.Reference12Ideal.dot_S4224x5120_S4224x2048_S5120x2048_0_0_1_1_n_n none (extf .f32 d Cert.Reference12Ideal.Gen.facts.bitsLt_bf16_f32) (extf .f32 n Cert.Reference12Ideal.Gen.facts.bitsLt_bf16_f32))
      Cert.Reference12Ideal.Gen.facts.transposes_S5120x2048_S2048x5120_1_0) Cert.Reference12Ideal.Gen.facts.shapeCasts_S2048x5120_S2x1024x4x1280)
      Cert.Reference12Ideal.Gen.facts.transposes_S2x1024x4x1280_S4x2x1024x1280_2_0_1_3 = G n d := by
  funext i
  unfold G
  idx_vars i
  pointwise []
  exact Finset.sum_congr rfl fun k _ => mul_comm _ _

variable (m : (ℓ : Loc nD τ sig) → Buf (Elt Ideal) ℓ) (ρ : Dev nD → PrngReg)

/-- The block indices at grid point `t`: quarter `t % 4` of the input's columns, quarter `t / 4` of the gradient's. -/
theorem idx0 : ∀ t : Fin cfg0.N, win0_0.index t (0 : Fin 2) = 0 ∧ win0_0.index t (1 : Fin 2) = t.val % 4 :=
  (by decide +kernel : ∀ t : Fin grid0.N, _)
theorem idx1 : ∀ t : Fin cfg0.N, win0_1.index t (0 : Fin 2) = 0 ∧ win0_1.index t (1 : Fin 2) = t.val / 4 :=
  (by decide +kernel : ∀ t : Fin grid0.N, _)
theorem idx2 : ∀ t : Fin cfg0.N, win0_2.index t (0 : Fin 4) = t.val / 4 ∧ win0_2.index t (1 : Fin 4) = t.val % 4 / 2
    ∧ win0_2.index t (2 : Fin 4) = t.val % 2 ∧ win0_2.index t (3 : Fin 4) = 0 :=
  (by decide +kernel : ∀ t : Fin grid0.N, _)

/-- The place of an element of a block in its array. -/
theorem emb0 (t : Fin cfg0.N) (k : Fin 4224) (r : Fin 512) : ((cfg0.win 0).blk t).view.emb (ix2 k r)
    = ix2 k ⟨t.val % 4 * 512 + r.val, by have := r.isLt; omega⟩ := by
  obtain ⟨e0, e1⟩ := idx0 t
  funext a; apply Fin.ext
  match a with
  | ⟨0, _⟩ => show win0_0.index t (0 : Fin 2) * 4224 + 1 * k.val = k.val; omega
  | ⟨1, _⟩ => show win0_0.index t (1 : Fin 2) * 512 + 1 * r.val = t.val % 4 * 512 + r.val; omega

theorem emb1 (t : Fin cfg0.N) (k : Fin 4224) (l : Fin 1280) : ((cfg0.win 1).blk t).view.emb (ix2 k l)
    = ix2 k ⟨t.val / 4 * 1280 + l.val, by have := l.isLt; have := t.isLt; have : cfg0.N = 16 := rfl; omega⟩ := by
  obtain ⟨e0, e1⟩ := idx1 t
  funext a; apply Fin.ext
  match a with
  | ⟨0, _⟩ => show win0_1.index t (0 : Fin 2) * 4224 + 1 * k.val = k.val; omega
  | ⟨1, _⟩ => show win0_1.index t (1 : Fin 2) * 1280 + 1 * l.val = t.val / 4 * 1280 + l.val; omega

theorem emb2 (t : Fin cfg0.N) (r : Fin 512) (l : Fin 1280) : ((cfg0.win 2).blk t).view.emb (ix4 0 0 r l)
    = ix4 ⟨t.val / 4, by have := t.isLt; have : cfg0.N = 16 := rfl; omega⟩ ⟨t.val % 4 / 2, by omega⟩
        ⟨t.val % 2 * 512 + r.val, by have := r.isLt; omega⟩ l := by
  obtain ⟨e0, e1, e2, e3⟩ := idx2 t
  funext a; apply Fin.ext
  match a with
  | ⟨0, _⟩ => show win0_2.index t (0 : Fin 4) * 1 + 1 * 0 = t.val / 4; omega
  | ⟨1, _⟩ => show win0_2.index t (1 : Fin 4) * 1 + 1 * 0 = t.val % 4 / 2; omega
  | ⟨2, _⟩ => show win0_2.index t (2 : Fin 4) * 512 + 1 * r.val = t.val % 2 * 512 + r.val; omega
  | ⟨3, _⟩ => show win0_2.index t (3 : Fin 4) * 1280 + 1 * l.val = l.val; omega

/-- What a point writes back is its block of the whole result. -/
theorem flushed2_eq (c : Dev nD) (t : Fin cfg0.N) :
    (dats m 0 c).flushed 2 t = ((cfg0.win 2).blk t).view.read (Elt Ideal) (G (V m c main_arg0) (V m c main_arg1)) := by
  rw [flushed2_A, out_eq]
  funext j
  show k0_pay2 (iblk m c 0 t) (iblk m c 1 t) j = G (V m c main_arg0) (V m c main_arg1) (((cfg0.win 2).blk t).view.emb j)
  rw [part_apply]
  idx_vars j
  fin_cases j0; fin_cases j1
  rw [show (((cfg0.win 2).blk t).view.emb (ix4 (⟨0, by decide⟩ : Fin 1) (⟨0, by decide⟩ : Fin 1) j2 j3)) = _ from emb2 t j2 j3]
  unfold G
  refine Finset.sum_congr rfl fun k _ => ?_
  have e : t.val % 4 / 2 * 1024 + (t.val % 2 * 512 + j2.val) = t.val % 4 * 512 + j2.val := by omega
  refine congrArg₂ (fun a b : EReal => a * b) ?_ ?_
  · show V m c main_arg0 (((cfg0.win 0).blk t).view.emb (ix2 k j2)) = _
    rw [emb0]
    exact congrArg (V m c main_arg0) (congrArg (ix2 k) (Fin.ext e.symm))
  · show V m c main_arg1 (((cfg0.win 1).blk t).view.emb (ix2 k j3)) = _
    rw [emb1]
    rfl

/-- Every element of the result is in some point's block. -/
theorem covered2 (i : S4x2x1024x1280.Idx) :
    ∃ t : Fin cfg0.N, (cfg0.win 2).flush t = true ∧ i ∈ ((cfg0.win 2).blk t).view.set := by
  idx_vars i
  have hi0 := i0.isLt; have hi1 := i1.isLt; have hi2 := i2.isLt
  have hN : i0.val * 4 + i1.val * 2 + i2.val / 512 < cfg0.N := by show _ < 16; omega
  refine ⟨⟨_, hN⟩, flush0_2 _, ?_⟩
  have h := ((cfg0.win 2).blk ⟨_, hN⟩).view.emb_mem_set (ix4 0 0 ⟨i2.val % 512, by omega⟩ i3)
  have e : ((cfg0.win 2).blk ⟨_, hN⟩).view.emb (ix4 0 0 ⟨i2.val % 512, by omega⟩ i3) = ix4 i0 i1 i2 i3 := by
    rw [emb2]
    funext a; apply Fin.ext
    match a with
    | ⟨0, _⟩ => show (i0.val * 4 + i1.val * 2 + i2.val / 512) / 4 = i0.val; omega
    | ⟨1, _⟩ => show (i0.val * 4 + i1.val * 2 + i2.val / 512) % 4 / 2 = i1.val; omega
    | ⟨2, _⟩ => show (i0.val * 4 + i1.val * 2 + i2.val / 512) % 2 * 512 + i2.val % 512 = i2.val; omega
    | ⟨3, _⟩ => rfl
  rw [e] at h
  exact h

/-- The result array after the run. -/
theorem final2 (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed2_eq m c t) covered2).trans
    (by rw [V_main_arg0, V_main_arg1])

/-- The kernel and the reference end with equal results. -/
theorem algebraic : Cert.algebraic_Kernel12Ideal_Reference12Ideal := fun m g m' g' _ hm =>
  ⟨fun c => G (m ((c : Thread nD τ).loc main_arg0)) (m ((c : Thread nD τ).loc main_arg1)),
    (θ_run defs _ _).mono (fun r h c => ⟨(h c).1.trans (final2 m c), (h c).2⟩) (run_blocks m g),
    (θ_run Cert.Reference12Ideal.defs _ _).mono (fun r h c => ⟨(h c).1.trans
      ((ref_eq _ _).trans (by rw [(hm c).1, (hm c).2])), (h c).2⟩) (Cert.Reference12Ideal.Value.run m' g')⟩

/-- The reference runs, its arguments unchanged, its counters at zero. -/
theorem frameR : Cert.quiescent_Reference12Ideal := fun m g _ =>
  (θ_run Cert.Reference12Ideal.defs _ _).mono (fun r h => ⟨fun c => (h c).2,
      Idealize.ShloMosaic.sem_eq_zero_of_no_sems (by decide) r.2⟩)
    (Cert.Reference12Ideal.Value.run (F := Ideal) m g)

end Cert.Proof.WgradIn

end
-- ==== Proof.FfnUpTable.lean ====
/- THE TABLE OF THE GATE AND UP CALL: the call's column panels are named by a table of four words that the host fills with `0, 1, 2, 3`.
   Here, for the program at floats and for the ideal one: the table's words (`word`), the blocks' places they give (`tr1` to
   `tr6`), and that every block lies inside its array (`ok`). -/
module

public import proofs.«01_k».proof.Proof.Gen.Kernel13.Frame
public import proofs.«01_k».proof.Proof.Gen.Kernel13Ideal.Frame

@[expose] public section

noncomputable section

namespace Cert.Proof.FfnUpTable

open Idealize.ShloMosaic Idealize.ShloMosaic.TcCoe Idealize.SL.Sem

section Kernel13

open Cert.Kernel13 Cert.Kernel13.Gen

variable {F : FTy → Type} [FloatOps F] (m : (ℓ : Loc Cert.Kernel13.nD Cert.Kernel13.τ Cert.Kernel13.sig) → Buf (Elt F) ℓ)

namespace Kernel13

/-- The table is `0, 1, 2, 3`. -/
theorem tbl_eq : tbl m 0 = (iotaInDim S4 32 0 : IVec S4 32) := rfl

theorem coord (i : grid0.Coords) : (![(Scalar.indexCast (BitVec.ofNat 32 (i 0).val) : Index).toNat] : Fin 1 → Nat) 0 = (i 0).val := by
  have h0 : (i 0).val < 4 := (i 0).isLt
  simp [Scalar.indexCast, BitVec.toNat_ofNat]
  omega

theorem word (i : grid0.Coords) (off : Fin 1 → Nat) (ho : off 0 = (i 0).val)
    (h : ∀ a, off a + S1.size a ≤ S4.size a) (h1 : S1.numel = 1) :
    ((tbl m).at 0 (Rect.unit (s := S4) off S1.size h) h1 : BitVec 32) = BitVec.ofNat 32 (i 0).val := by
  rw [← ho]
  show BitVec.ofNat 32 (off 0 + 1 * 0) = _
  rw [Nat.mul_zero, Nat.add_zero]

/-- The blocks' places that read it. -/
theorem tr1 (i : grid0.Coords) : cc0_transform_1 k0_off1_inb numel1_S1 (tbl m) i = ![(i 0).val, 0, 0] := by
  refine (congrArg (fun b : BitVec 32 => (![b.toNat, 0, 0] : Fin 3 → Nat)) (word m i _ (coord i) (k0_off1_inb i) numel1_S1)).trans ?_
  funext a
  have h0 : (i 0).val < 4 := (i 0).isLt
  have h1 : (i 1).val < 6 := (i 1).isLt
  fin_cases a <;> simp [BitVec.toNat_ofNat] <;> omega

theorem tr2 (i : grid0.Coords) : cc0_transform_2 k0_off1_inb numel1_S1 (tbl m) i = ![(i 0).val, 0, 0] := by
  refine (congrArg (fun b : BitVec 32 => (![b.toNat, 0, 0] : Fin 3 → Nat)) (word m i _ (coord i) (k0_off1_inb i) numel1_S1)).trans ?_
  funext a
  have h0 : (i 0).val < 4 := (i 0).isLt
  have h1 : (i 1).val < 6 := (i 1).isLt
  fin_cases a <;> simp [BitVec.toNat_ofNat] <;> omega

theorem tr4 (i : grid0.Coords) : cc0_transform_4 k0_off1_inb numel1_S1 (tbl m) i = ![(i 1).val, (i 0).val] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 4 := (i 0).isLt
  have h1 : (i 1).val < 6 := (i 1).isLt
  fin_cases a <;> simp [BitVec.toNat_ofNat] <;> omega

theorem tr5 (i : grid0.Coords) : cc0_transform_5 k0_off1_inb numel1_S1 (tbl m) i = ![(i 1).val, (i 0).val] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 4 := (i 0).isLt
  have h1 : (i 1).val < 6 := (i 1).isLt
  fin_cases a <;> simp [BitVec.toNat_ofNat] <;> omega

theorem tr6 (i : grid0.Coords) : cc0_transform_6 k0_off1_inb numel1_S1 (tbl m) i = ![(i 1).val, (i 0).val] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 4 := (i 0).isLt
  have h1 : (i 1).val < 6 := (i 1).isLt
  fin_cases a <;> simp [BitVec.toNat_ofNat] <;> omega

/-- Every block lies inside its array. -/
theorem ok : Ok m := by
  have h0 : ∀ i : grid0.Coords, (i 0).val < 4 := fun i => (i 0).isLt
  have h1 : ∀ i : grid0.Coords, (i 1).val < 6 := fun i => (i 1).isLt
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  all_goals
    have := h0 i
    have := h1 i
    intro a
  · rw [tr1]; fin_cases a <;> simp [S1x2048x1408, S4x2048x1408] <;> omega
  · rw [tr2]; fin_cases a <;> simp [S1x2048x1408, S4x2048x1408] <;> omega
  · rw [tr4]; fin_cases a <;> simp [S704x1408, S4224x5632] <;> omega
  · rw [tr5]; fin_cases a <;> simp [S704x1408, S4224x5632] <;> omega
  · rw [tr6]; fin_cases a <;> simp [S704x1408, S4224x5632] <;> omega

end Kernel13

end Kernel13

section Kernel13Ideal

open Cert.Kernel13Ideal Cert.Kernel13Ideal.Gen

variable {F : FTy → Type} [FloatOps F] (m : (ℓ : Loc Cert.Kernel13Ideal.nD Cert.Kernel13Ideal.τ Cert.Kernel13Ideal.sig) → Buf (Elt F) ℓ)

namespace Kernel13Ideal

/-- The table is `0, 1, 2, 3`. -/
theorem tbl_eq : tbl m 0 = (iotaInDim S4 32 0 : IVec S4 32) := rfl

theorem coord (i : grid0.Coords) : (![(Scalar.indexCast (BitVec.ofNat 32 (i 0).val) : Index).toNat] : Fin 1 → Nat) 0 = (i 0).val := by
  have h0 : (i 0).val < 4 := (i 0).isLt
  simp [Scalar.indexCast, BitVec.toNat_ofNat]
  omega

theorem word (i : grid0.Coords) (off : Fin 1 → Nat) (ho : off 0 = (i 0).val)
    (h : ∀ a, off a + S1.size a ≤ S4.size a) (h1 : S1.numel = 1) :
    ((tbl m).at 0 (Rect.unit (s := S4) off S1.size h) h1 : BitVec 32) = BitVec.ofNat 32 (i 0).val := by
  rw [← ho]
  show BitVec.ofNat 32 (off 0 + 1 * 0) = _
  rw [Nat.mul_zero, Nat.add_zero]

/-- The blocks' places that read it. -/
theorem tr1 (i : grid0.Coords) : cc0_transform_1 k0_off1_inb numel1_S1 (tbl m) i = ![(i 0).val, 0, 0] := by
  refine (congrArg (fun b : BitVec 32 => (![b.toNat, 0, 0] : Fin 3 → Nat)) (word m i _ (coord i) (k0_off1_inb i) numel1_S1)).trans ?_
  funext a
  have h0 : (i 0).val < 4 := (i 0).isLt
  have h1 : (i 1).val < 6 := (i 1).isLt
  fin_cases a <;> simp [BitVec.toNat_ofNat] <;> omega

theorem tr2 (i : grid0.Coords) : cc0_transform_2 k0_off1_inb numel1_S1 (tbl m) i = ![(i 0).val, 0, 0] := by
  refine (congrArg (fun b : BitVec 32 => (![b.toNat, 0, 0] : Fin 3 → Nat)) (word m i _ (coord i) (k0_off1_inb i) numel1_S1)).trans ?_
  funext a
  have h0 : (i 0).val < 4 := (i 0).isLt
  have h1 : (i 1).val < 6 := (i 1).isLt
  fin_cases a <;> simp [BitVec.toNat_ofNat] <;> omega

theorem tr4 (i : grid0.Coords) : cc0_transform_4 k0_off1_inb numel1_S1 (tbl m) i = ![(i 1).val, (i 0).val] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 4 := (i 0).isLt
  have h1 : (i 1).val < 6 := (i 1).isLt
  fin_cases a <;> simp [BitVec.toNat_ofNat] <;> omega

theorem tr5 (i : grid0.Coords) : cc0_transform_5 k0_off1_inb numel1_S1 (tbl m) i = ![(i 1).val, (i 0).val] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 4 := (i 0).isLt
  have h1 : (i 1).val < 6 := (i 1).isLt
  fin_cases a <;> simp [BitVec.toNat_ofNat] <;> omega

theorem tr6 (i : grid0.Coords) : cc0_transform_6 k0_off1_inb numel1_S1 (tbl m) i = ![(i 1).val, (i 0).val] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 4 := (i 0).isLt
  have h1 : (i 1).val < 6 := (i 1).isLt
  fin_cases a <;> simp [BitVec.toNat_ofNat] <;> omega

/-- Every block lies inside its array. -/
theorem ok : Ok m := by
  have h0 : ∀ i : grid0.Coords, (i 0).val < 4 := fun i => (i 0).isLt
  have h1 : ∀ i : grid0.Coords, (i 1).val < 6 := fun i => (i 1).isLt
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  all_goals
    have := h0 i
    have := h1 i
    intro a
  · rw [tr1]; fin_cases a <;> simp [S1x2048x1408, S4x2048x1408] <;> omega
  · rw [tr2]; fin_cases a <;> simp [S1x2048x1408, S4x2048x1408] <;> omega
  · rw [tr4]; fin_cases a <;> simp [S704x1408, S4224x5632] <;> omega
  · rw [tr5]; fin_cases a <;> simp [S704x1408, S4224x5632] <;> omega
  · rw [tr6]; fin_cases a <;> simp [S704x1408, S4224x5632] <;> omega

end Kernel13Ideal

end Kernel13Ideal

end Cert.Proof.FfnUpTable

end
-- ==== Proof.FfnUpPoint.lean ====
/- THE GATE AND UP PRODUCTS, A POINT'S BLOCKS: a grid point multiplies 704 rows of the layer's input by one column panel of each
   weight, in five chunks of 256 columns and one of 128; the last chunk's two products are one product of the two weights' columns
   side by side.  Here: the three blocks a point leaves, as one product each and as the gated unit of the two (`out4_eq`, `out5_eq`, `out6_eq`). -/
module

public import proofs.«01_k».proof.Proof.Gen.Kernel13Ideal.Frame
public import Idealize.ShloMosaic.Lib.Pointwise

@[expose] public section

noncomputable section

namespace Cert.Proof.FfnUpPoint

open Cert.Kernel13Ideal Cert.Kernel13Ideal.Gen Idealize.ShloMosaic Idealize.ShloMosaic.TcCoe Idealize.SL.Sem

/-- The gated unit. -/
def swiglu (g u : EReal) : EReal := g * Ideal.logistic g * u

/-- An element of a block's product with a column panel. -/
def dot (x : Vec Ideal S704x2048 .bf16) (w : Vec Ideal S1x2048x1408 .bf16) (r : Fin 704) (l : Fin 1408) : EReal :=
  ∑ k : Fin 2048, (x (ix2 r k) * w (ix3 0 k l) : EReal)

def prodB (x : Vec Ideal S704x2048 .bf16) (w : Vec Ideal S1x2048x1408 .bf16) : Vec Ideal S704x1408 .bf16 := fun j => dot x w (j 0) (j 1)

def unitB (x : Vec Ideal S704x2048 .bf16) (w v : Vec Ideal S1x2048x1408 .bf16) : Vec Ideal S704x1408 .bf16 :=
  fun j => swiglu (dot x w (j 0) (j 1)) (dot x v (j 0) (j 1))

theorem hz2 : (![0, 0] : Fin 2 → Nat) = fun _ => 0 := funext fun a => by fin_cases a <;> rfl

/-- The place of a chunk's element in the block. -/
theorem emb_chunk (p n : Nat) (h : ∀ a, ![0, p] a + ![704, n] a ≤ S704x1408.size a) (a : Fin 704) (b : Fin n) :
    (Rect.unit (s := S704x1408) ![0, p] ![704, n] h).emb (ix2 a b) = ix2 a ⟨p + b.val, Nat.lt_of_lt_of_le (Nat.add_lt_add_left b.isLt p) (h 1)⟩ := by
  funext k; apply Fin.ext
  match k with
  | ⟨0, _⟩ => show 0 + 1 * a.val = a.val; omega
  | ⟨1, _⟩ => show p + 1 * b.val = p + b.val; omega

variable (c : Dev nD) (i : grid0.Coords) (arg3 : Memref sig .tc .vmem S704x2048 .bf16) (h3 : arg3.IsWhole) (arg4 : Memref sig .tc .vmem S1x2048x1408 .bf16) (h4 : arg4.IsWhole)
    (arg5 : Memref sig .tc .vmem S1x2048x1408 .bf16) (h5 : arg5.IsWhole) (arg6 : Memref sig .tc .vmem S8x128 .f32) (h6 : arg6.IsWhole)
    (arg7 : Memref sig .tc .vmem S704x1408 .bf16) (h7 : arg7.IsWhole) (arg8 : Memref sig .tc .vmem S704x1408 .bf16) (h8 : arg8.IsWhole)
    (arg9 : Memref sig .tc .vmem S704x1408 .bf16) (h9 : arg9.IsWhole)
    (x0 : Vec Ideal S704x2048 .bf16) (x1 x2 : Vec Ideal S1x2048x1408 .bf16) (x3 : Vec Ideal S8x128 .f32) (xt0 : TbBuf0 (F := Ideal) c tbM0_0)

/-- The gate product. -/
theorem out4_eq : out0_A_4 c i arg3 h3 arg4 h4 arg5 h5 arg6 h6 arg7 h7 arg8 h8 arg9 h9 x0 x1 x2 x3 xt0 = prodB x0 x1 := by
  unfold out0_A_4
  rw [View.read_writes_eq_canon _ _ _ (cover0_A_4 c i arg3 h3 arg4 h4 arg5 h5 arg6 h6 arg7 h7 arg8 h8 arg9 h9 x0 x1 x2 x3 xt0)]
  funext y
  refine View.canon_apply_of_pieces (prodB x0 x1) _ ?_ y (cover0_A_4 c i arg3 h3 arg4 h4 arg5 h5 arg6 h6 arg7 h7 arg8 h8 arg9 h9 x0 x1 x2 x3 xt0 y)
  intro p hp
  unfold kernelRun0_A at hp
  dsimp only at hp
  simp only [List.mem_cons, List.mem_nil_iff, or_false] at hp
  rcases hp with rfl | rfl | rfl | rfl | rfl | rfl
  all_goals
    intro w
    sl_unfold_words
    simp only [View.readAt_eq_ld, h3.read_unread, h4.read_unread, h5.read_unread, View.ld_unit_zero (S := S704x2048) hz2]
    idx_vars w
    refine Eq.trans ?_ (congrArg (prodB x0 x1) (emb_chunk _ _ _ w0 w1)).symm
    unfold prodB dot
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals simp only [Nat.zero_add]
  all_goals rfl

/-- The up product. -/
theorem out5_eq : out0_A_5 c i arg3 h3 arg4 h4 arg5 h5 arg6 h6 arg7 h7 arg8 h8 arg9 h9 x0 x1 x2 x3 xt0 = prodB x0 x2 := by
  unfold out0_A_5
  rw [View.read_writes_eq_canon _ _ _ (cover0_A_5 c i arg3 h3 arg4 h4 arg5 h5 arg6 h6 arg7 h7 arg8 h8 arg9 h9 x0 x1 x2 x3 xt0)]
  funext y
  refine View.canon_apply_of_pieces (prodB x0 x2) _ ?_ y (cover0_A_5 c i arg3 h3 arg4 h4 arg5 h5 arg6 h6 arg7 h7 arg8 h8 arg9 h9 x0 x1 x2 x3 xt0 y)
  intro p hp
  unfold kernelRun0_A at hp
  dsimp only at hp
  simp only [List.mem_cons, List.mem_nil_iff, or_false] at hp
  rcases hp with rfl | rfl | rfl | rfl | rfl | rfl
  all_goals
    intro w
    sl_unfold_words
    simp only [View.readAt_eq_ld, h3.read_unread, h4.read_unread, h5.read_unread, View.ld_unit_zero (S := S704x2048) hz2]
    idx_vars w
    refine Eq.trans ?_ (congrArg (prodB x0 x2) (emb_chunk _ _ _ w0 w1)).symm
    unfold prodB dot
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals simp only [Nat.zero_add]
  all_goals rfl

/-- The gated unit. -/
theorem out6_eq : out0_A_6 c i arg3 h3 arg4 h4 arg5 h5 arg6 h6 arg7 h7 arg8 h8 arg9 h9 x0 x1 x2 x3 xt0 = unitB x0 x1 x2 := by
  unfold out0_A_6
  rw [View.read_writes_eq_canon _ _ _ (cover0_A_6 c i arg3 h3 arg4 h4 arg5 h5 arg6 h6 arg7 h7 arg8 h8 arg9 h9 x0 x1 x2 x3 xt0)]
  funext y
  refine View.canon_apply_of_pieces (unitB x0 x1 x2) _ ?_ y (cover0_A_6 c i arg3 h3 arg4 h4 arg5 h5 arg6 h6 arg7 h7 arg8 h8 arg9 h9 x0 x1 x2 x3 xt0 y)
  intro p hp
  unfold kernelRun0_A at hp
  dsimp only at hp
  simp only [List.mem_cons, List.mem_nil_iff, or_false] at hp
  rcases hp with rfl | rfl | rfl | rfl | rfl | rfl
  all_goals
    intro w
    sl_unfold_words
    simp only [View.readAt_eq_ld, h3.read_unread, h4.read_unread, h5.read_unread, View.ld_unit_zero (S := S704x2048) hz2]
    idx_vars w
    refine Eq.trans ?_ (congrArg (unitB x0 x1 x2) (emb_chunk _ _ _ w0 w1)).symm
    unfold unitB swiglu dot
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals simp only [Nat.zero_add]
  all_goals rfl

end Cert.Proof.FfnUpPoint

end
-- ==== Proof.FfnUp.lean ====
/- THE GATE AND UP PRODUCTS AND THE GATED UNIT, the whole call: the grid walks the four column panels, and in each the six blocks of
   704 rows.  Here: the places of the blocks in the arrays (`emb0` to `emb6`), read from the table (FfnUpTable); the three whole
   results, as products over the weights' columns side by side (`final4` to `final6`); the run with them (`run_blocks`), and
   the comparison with the reference (`algebraic`). -/
module

public import proofs.«01_k».proof.Defs
public import proofs.«01_k».proof.Proof.FfnUpTable
public import proofs.«01_k».proof.Proof.FfnUpPoint
public import proofs.«01_k».proof.Proof.Gen.Reference13Ideal.Run
public import Idealize.ShloMosaic.Lib.Pointwise

@[expose] public section

noncomputable section

namespace Cert.Proof.FfnUp

open Cert.Kernel13Ideal Cert.Kernel13Ideal.Gen Cert.Proof.FfnUpPoint Cert.Proof.FfnUpTable.Kernel13Ideal Idealize.ShloMosaic Idealize.ShloMosaic.TcCoe Idealize.SL.Sem

/-- The tables' side conditions of the two programs. -/
theorem okP (m : (ℓ : Loc Cert.Kernel13.nD Cert.Kernel13.τ Cert.Kernel13.sig) → Buf (Elt Bits) ℓ) : Cert.Kernel13.Gen.Ok m :=
  Cert.Proof.FfnUpTable.Kernel13.ok m
theorem okI (m : (ℓ : Loc nD τ sig) → Buf (Elt Ideal) ℓ) : Ok m := ok m

/-- An element of the product with a whole weight, its four column panels side by side. -/
def wdot (n : FVec Ideal S4224x2048 .bf16) (w : FVec Ideal S4x2048x1408 .bf16) (r : Fin 4224) (l : Fin 5632) : EReal :=
  ∑ k : Fin 2048, (n (ix2 r k) * w (ix3 ⟨l.val / 1408, by have := l.isLt; omega⟩ k ⟨l.val % 1408, by omega⟩) : EReal)

/-- The whole results: a product, and the gated unit of the two products. -/
def prodG (n : FVec Ideal S4224x2048 .bf16) (w : FVec Ideal S4x2048x1408 .bf16) : FVec Ideal S4224x5632 .bf16 := fun i => wdot n w (i 0) (i 1)
def unitG (n : FVec Ideal S4224x2048 .bf16) (w v : FVec Ideal S4x2048x1408 .bf16) : FVec Ideal S4224x5632 .bf16 :=
  fun i => swiglu (wdot n w (i 0) (i 1)) (wdot n v (i 0) (i 1))

section Ref

variable (n : FVec Ideal S4224x2048 .bf16) (w v : FVec Ideal S4x2048x1408 .bf16)

/-- The reference's results. -/
theorem refProd (w : FVec Ideal S4x2048x1408 .bf16) : (truncf .bf16 (Host.dotGeneral Cert.Reference13Ideal.dot_S4224x2048_S2048x5632_S4224x5632_1_0_0_1_n_n none (extf .f32 n Cert.Reference13Ideal.Gen.facts.bitsLt_bf16_f32) (shapeCast Cert.Reference13Ideal.S2048x5632 (transpose Cert.Reference13Ideal.S2048x4x1408 [1, 0, 2] (extf .f32 w Cert.Reference13Ideal.Gen.facts.bitsLt_bf16_f32) Cert.Reference13Ideal.Gen.facts.transposes_S4x2048x1408_S2048x4x1408_1_0_2) Cert.Reference13Ideal.Gen.facts.shapeCasts_S2048x4x1408_S2048x5632)) Cert.Reference13Ideal.Gen.facts.bitsLt_bf16_f32 : FVec Ideal S4224x5632 .bf16) = prodG n w := by
  funext i
  idx_vars i
  unfold prodG wdot
  pointwise []

theorem refUnit : (truncf .bf16 (mulf (mulf (Host.dotGeneral Cert.Reference13Ideal.dot_S4224x2048_S2048x5632_S4224x5632_1_0_0_1_n_n none (extf .f32 n Cert.Reference13Ideal.Gen.facts.bitsLt_bf16_f32) (shapeCast Cert.Reference13Ideal.S2048x5632 (transpose Cert.Reference13Ideal.S2048x4x1408 [1, 0, 2] (extf .f32 w Cert.Reference13Ideal.Gen.facts.bitsLt_bf16_f32) Cert.Reference13Ideal.Gen.facts.transposes_S4x2048x1408_S2048x4x1408_1_0_2) Cert.Reference13Ideal.Gen.facts.shapeCasts_S2048x4x1408_S2048x5632)) (Host.divf (broadcastInDim Cert.Reference13Ideal.S4224x5632 ![] Cert.Reference13Ideal.Gen.facts.bcast_S_S4224x5632 (constant Cert.Reference13Ideal.S_ .f32 0x3F800000#32)) (addf (broadcastInDim Cert.Reference13Ideal.S4224x5632 ![] Cert.Reference13Ideal.Gen.facts.bcast_S_S4224x5632 (constant Cert.Reference13Ideal.S_ .f32 0x3F800000#32)) (Host.exp (Host.negf (Host.dotGeneral Cert.Reference13Ideal.dot_S4224x2048_S2048x5632_S4224x5632_1_0_0_1_n_n none (extf .f32 n Cert.Reference13Ideal.Gen.facts.bitsLt_bf16_f32) (shapeCast Cert.Reference13Ideal.S2048x5632 (transpose Cert.Reference13Ideal.S2048x4x1408 [1, 0, 2] (extf .f32 w Cert.Reference13Ideal.Gen.facts.bitsLt_bf16_f32) Cert.Reference13Ideal.Gen.facts.transposes_S4x2048x1408_S2048x4x1408_1_0_2) Cert.Reference13Ideal.Gen.facts.shapeCasts_S2048x4x1408_S2048x5632))))))) (Host.dotGeneral Cert.Reference13Ideal.dot_S4224x2048_S2048x5632_S4224x5632_1_0_0_1_n_n none (extf .f32 n Cert.Reference13Ideal.Gen.facts.bitsLt_bf16_f32) (shapeCast Cert.Reference13Ideal.S2048x5632 (transpose Cert.Reference13Ideal.S2048x4x1408 [1, 0, 2] (extf .f32 v Cert.Reference13Ideal.Gen.facts.bitsLt_bf16_f32) Cert.Reference13Ideal.Gen.facts.transposes_S4x2048x1408_S2048x4x1408_1_0_2) Cert.Reference13Ideal.Gen.facts.shapeCasts_S2048x4x1408_S2048x5632))) Cert.Reference13Ideal.Gen.facts.bitsLt_bf16_f32 : FVec Ideal S4224x5632 .bf16) = unitG n w v := by
  funext i
  idx_vars i
  unfold unitG wdot swiglu Ideal.logistic
  pointwise []

end Ref

variable (m : (ℓ : Loc nD τ sig) → Buf (Elt Ideal) ℓ) (ρ : Dev nD → PrngReg)

/-- The pipeline at the call's table. -/
abbrev cf : Pipeline.Cfg sig Λ₀ := cfgM m (okI m)

theorem hN : (cf m).N = 24 := rfl

/-- The grid's coordinates at point `t`: panel `t / 6`, rows' block `t % 6`. -/
theorem co : ∀ t : Fin grid0.N, ((grid0.coords t) 0).val = t.val / 6 ∧ ((grid0.coords t) 1).val = t.val % 6 := by decide +kernel

/-- The block indices at grid point `t`, and the places of the blocks' elements. -/
theorem idx0 (t : Fin (cf m).N) : ((cf m).win 0).index t (0 : Fin 2) = t.val % 6 ∧ ((cf m).win 0).index t (1 : Fin 2) = 0 :=
  (by decide +kernel : ∀ t : Fin grid0.N, cc0_transform_0 (grid0.coords t) (0 : Fin 2) = t.val % 6 ∧ cc0_transform_0 (grid0.coords t) (1 : Fin 2) = 0) t

theorem idx1 (t : Fin (cf m).N) : ((cf m).win 1).index t (0 : Fin 3) = t.val / 6 ∧ ((cf m).win 1).index t (1 : Fin 3) = 0 ∧ ((cf m).win 1).index t (2 : Fin 3) = 0 := by
  have e : ((cf m).win 1).index t = (![((grid0.coords t) 0).val, 0, 0] : Fin 3 → Nat) := tr1 m (grid0.coords t)
  rw [e]
  exact ⟨(co t).1, rfl, rfl⟩

theorem idx2 (t : Fin (cf m).N) : ((cf m).win 2).index t (0 : Fin 3) = t.val / 6 ∧ ((cf m).win 2).index t (1 : Fin 3) = 0 ∧ ((cf m).win 2).index t (2 : Fin 3) = 0 := by
  have e : ((cf m).win 2).index t = (![((grid0.coords t) 0).val, 0, 0] : Fin 3 → Nat) := tr2 m (grid0.coords t)
  rw [e]
  exact ⟨(co t).1, rfl, rfl⟩

theorem idx4 (t : Fin (cf m).N) : ((cf m).win 4).index t (0 : Fin 2) = t.val % 6 ∧ ((cf m).win 4).index t (1 : Fin 2) = t.val / 6 := by
  have e : ((cf m).win 4).index t = (![((grid0.coords t) 1).val, ((grid0.coords t) 0).val] : Fin 2 → Nat) := tr4 m (grid0.coords t)
  rw [e]
  exact ⟨(co t).2, (co t).1⟩

theorem idx5 (t : Fin (cf m).N) : ((cf m).win 5).index t (0 : Fin 2) = t.val % 6 ∧ ((cf m).win 5).index t (1 : Fin 2) = t.val / 6 := by
  have e : ((cf m).win 5).index t = (![((grid0.coords t) 1).val, ((grid0.coords t) 0).val] : Fin 2 → Nat) := tr5 m (grid0.coords t)
  rw [e]
  exact ⟨(co t).2, (co t).1⟩

theorem idx6 (t : Fin (cf m).N) : ((cf m).win 6).index t (0 : Fin 2) = t.val % 6 ∧ ((cf m).win 6).index t (1 : Fin 2) = t.val / 6 := by
  have e : ((cf m).win 6).index t = (![((grid0.coords t) 1).val, ((grid0.coords t) 0).val] : Fin 2 → Nat) := tr6 m (grid0.coords t)
  rw [e]
  exact ⟨(co t).2, (co t).1⟩

theorem emb0 (t : Fin (cf m).N) (r : Fin 704) (k : Fin 2048) : (((cf m).win 0).blk t).view.emb (ix2 r k)
    = ix2 ⟨t.val % 6 * 704 + r.val, by have := r.isLt; have := t.isLt; have := hN m; omega⟩ k := by
  obtain ⟨e0, e1⟩ := idx0 m t
  funext a; apply Fin.ext
  match a with
  | ⟨0, _⟩ => show ((cf m).win 0).index t (0 : Fin 2) * 704 + 1 * r.val = t.val % 6 * 704 + r.val; omega
  | ⟨1, _⟩ => show ((cf m).win 0).index t (1 : Fin 2) * 2048 + 1 * k.val = k.val; omega

theorem emb1 (t : Fin (cf m).N) (k : Fin 2048) (l : Fin 1408) : (((cf m).win 1).blk t).view.emb (ix3 0 k l)
    = ix3 ⟨t.val / 6, by have := t.isLt; have := hN m; omega⟩ k l := by
  obtain ⟨e0, e1, e2⟩ := idx1 m t
  funext a; apply Fin.ext
  match a with
  | ⟨0, _⟩ => show ((cf m).win 1).index t (0 : Fin 3) * 1 + 1 * 0 = t.val / 6; omega
  | ⟨1, _⟩ => show ((cf m).win 1).index t (1 : Fin 3) * 2048 + 1 * k.val = k.val; omega
  | ⟨2, _⟩ => show ((cf m).win 1).index t (2 : Fin 3) * 1408 + 1 * l.val = l.val; omega

theorem emb2 (t : Fin (cf m).N) (k : Fin 2048) (l : Fin 1408) : (((cf m).win 2).blk t).view.emb (ix3 0 k l)
    = ix3 ⟨t.val / 6, by have := t.isLt; have := hN m; omega⟩ k l := by
  obtain ⟨e0, e1, e2⟩ := idx2 m t
  funext a; apply Fin.ext
  match a with
  | ⟨0, _⟩ => show ((cf m).win 2).index t (0 : Fin 3) * 1 + 1 * 0 = t.val / 6; omega
  | ⟨1, _⟩ => show ((cf m).win 2).index t (1 : Fin 3) * 2048 + 1 * k.val = k.val; omega
  | ⟨2, _⟩ => show ((cf m).win 2).index t (2 : Fin 3) * 1408 + 1 * l.val = l.val; omega

theorem emb4 (t : Fin (cf m).N) (r : Fin 704) (l : Fin 1408) : (((cf m).win 4).blk t).view.emb (ix2 r l)
    = ix2 ⟨t.val % 6 * 704 + r.val, by have := r.isLt; have := t.isLt; have := hN m; omega⟩ ⟨t.val / 6 * 1408 + l.val, by have := l.isLt; have := t.isLt; have := hN m; omega⟩ := by
  obtain ⟨e0, e1⟩ := idx4 m t
  funext a; apply Fin.ext
  match a with
  | ⟨0, _⟩ => show ((cf m).win 4).index t (0 : Fin 2) * 704 + 1 * r.val = t.val % 6 * 704 + r.val; omega
  | ⟨1, _⟩ => show ((cf m).win 4).index t (1 : Fin 2) * 1408 + 1 * l.val = t.val / 6 * 1408 + l.val; omega

theorem emb5 (t : Fin (cf m).N) (r : Fin 704) (l : Fin 1408) : (((cf m).win 5).blk t).view.emb (ix2 r l)
    = ix2 ⟨t.val % 6 * 704 + r.val, by have := r.isLt; have := t.isLt; have := hN m; omega⟩ ⟨t.val / 6 * 1408 + l.val, by have := l.isLt; have := t.isLt; have := hN m; omega⟩ := by
  obtain ⟨e0, e1⟩ := idx5 m t
  funext a; apply Fin.ext
  match a with
  | ⟨0, _⟩ => show ((cf m).win 5).index t (0 : Fin 2) * 704 + 1 * r.val = t.val % 6 * 704 + r.val; omega
  | ⟨1, _⟩ => show ((cf m).win 5).index t (1 : Fin 2) * 1408 + 1 * l.val = t.val / 6 * 1408 + l.val; omega

theorem emb6 (t : Fin (cf m).N) (r : Fin 704) (l : Fin 1408) : (((cf m).win 6).blk t).view.emb (ix2 r l)
    = ix2 ⟨t.val % 6 * 704 + r.val, by have := r.isLt; have := t.isLt; have := hN m; omega⟩ ⟨t.val / 6 * 1408 + l.val, by have := l.isLt; have := t.isLt; have := hN m; omega⟩ := by
  obtain ⟨e0, e1⟩ := idx6 m t
  funext a; apply Fin.ext
  match a with
  | ⟨0, _⟩ => show ((cf m).win 6).index t (0 : Fin 2) * 704 + 1 * r.val = t.val % 6 * 704 + r.val; omega
  | ⟨1, _⟩ => show ((cf m).win 6).index t (1 : Fin 2) * 1408 + 1 * l.val = t.val / 6 * 1408 + l.val; omega

theorem flush4 (t : Fin (cf m).N) : ((cf m).win 4).flush t = true := by
  by_cases h : t.val + 1 = 24
  · show (true && (decide (t.val + 1 = 24) || _)) = true
    simp [h]
  · have hN : t.val + 1 < 24 := by have := t.isLt; have := hN m; omega
    have hne : ((cf m).win 4).index (⟨t.val + 1, hN⟩ : Fin (cf m).N) ≠ ((cf m).win 4).index t := fun he => by
      have a := congrFun he (0 : Fin 2)
      rw [(idx4 m _).1, (idx4 m t).1] at a
      have a : (t.val + 1) % 6 = t.val % 6 := a
      omega
    show (true && (decide (t.val + 1 = 24) || decide (∃ h : t.val + 1 < grid0.N, ((cf m).win 4).index ⟨t.val + 1, h⟩ ≠ ((cf m).win 4).index t))) = true
    rw [decide_eq_true (⟨hN, hne⟩ : ∃ h : t.val + 1 < grid0.N, ((cf m).win 4).index ⟨t.val + 1, h⟩ ≠ ((cf m).win 4).index t)]
    simp

theorem covered4 (i : S4224x5632.Idx) :
    ∃ t : Fin (cf m).N, ((cf m).win 4).flush t = true ∧ i ∈ (((cf m).win 4).blk t).view.set := by
  idx_vars i
  have hi0 := i0.isLt; have hi1 := i1.isLt
  have hN : i1.val / 1408 * 6 + i0.val / 704 < (cf m).N := by show _ < 24; omega
  refine ⟨⟨_, hN⟩, flush4 m _, ?_⟩
  have h := (((cf m).win 4).blk ⟨_, hN⟩).view.emb_mem_set (ix2 ⟨i0.val % 704, by omega⟩ ⟨i1.val % 1408, by omega⟩)
  have e : (((cf m).win 4).blk ⟨_, hN⟩).view.emb (ix2 ⟨i0.val % 704, by omega⟩ ⟨i1.val % 1408, by omega⟩) = ix2 i0 i1 := by
    rw [emb4]
    funext a; apply Fin.ext
    match a with
    | ⟨0, _⟩ => show (i1.val / 1408 * 6 + i0.val / 704) % 6 * 704 + i0.val % 704 = i0.val; omega
    | ⟨1, _⟩ => show (i1.val / 1408 * 6 + i0.val / 704) / 6 * 1408 + i1.val % 1408 = i1.val; omega
  rw [e] at h
  exact h

theorem flush5 (t : Fin (cf m).N) : ((cf m).win 5).flush t = true := by
  by_cases h : t.val + 1 = 24
  · show (true && (decide (t.val + 1 = 24) || _)) = true
    simp [h]
  · have hN : t.val + 1 < 24 := by have := t.isLt; have := hN m; omega
    have hne : ((cf m).win 5).index (⟨t.val + 1, hN⟩ : Fin (cf m).N) ≠ ((cf m).win 5).index t := fun he => by
      have a := congrFun he (0 : Fin 2)
      rw [(idx5 m _).1, (idx5 m t).1] at a
      have a : (t.val + 1) % 6 = t.val % 6 := a
      omega
    show (true && (decide (t.val + 1 = 24) || decide (∃ h : t.val + 1 < grid0.N, ((cf m).win 5).index ⟨t.val + 1, h⟩ ≠ ((cf m).win 5).index t))) = true
    rw [decide_eq_true (⟨hN, hne⟩ : ∃ h : t.val + 1 < grid0.N, ((cf m).win 5).index ⟨t.val + 1, h⟩ ≠ ((cf m).win 5).index t)]
    simp

theorem covered5 (i : S4224x5632.Idx) :
    ∃ t : Fin (cf m).N, ((cf m).win 5).flush t = true ∧ i ∈ (((cf m).win 5).blk t).view.set := by
  idx_vars i
  have hi0 := i0.isLt; have hi1 := i1.isLt
  have hN : i1.val / 1408 * 6 + i0.val / 704 < (cf m).N := by show _ < 24; omega
  refine ⟨⟨_, hN⟩, flush5 m _, ?_⟩
  have h := (((cf m).win 5).blk ⟨_, hN⟩).view.emb_mem_set (ix2 ⟨i0.val % 704, by omega⟩ ⟨i1.val % 1408, by omega⟩)
  have e : (((cf m).win 5).blk ⟨_, hN⟩).view.emb (ix2 ⟨i0.val % 704, by omega⟩ ⟨i1.val % 1408, by omega⟩) = ix2 i0 i1 := by
    rw [emb5]
    funext a; apply Fin.ext
    match a with
    | ⟨0, _⟩ => show (i1.val / 1408 * 6 + i0.val / 704) % 6 * 704 + i0.val % 704 = i0.val; omega
    | ⟨1, _⟩ => show (i1.val / 1408 * 6 + i0.val / 704) / 6 * 1408 + i1.val % 1408 = i1.val; omega
  rw [e] at h
  exact h

theorem flush6 (t : Fin (cf m).N) : ((cf m).win 6).flush t = true := by
  by_cases h : t.val + 1 = 24
  · show (true && (decide (t.val + 1 = 24) || _)) = true
    simp [h]
  · have hN : t.val + 1 < 24 := by have := t.isLt; have := hN m; omega
    have hne : ((cf m).win 6).index (⟨t.val + 1, hN⟩ : Fin (cf m).N) ≠ ((cf m).win 6).index t := fun he => by
      have a := congrFun he (0 : Fin 2)
      rw [(idx6 m _).1, (idx6 m t).1] at a
      have a : (t.val + 1) % 6 = t.val % 6 := a
      omega
    show (true && (decide (t.val + 1 = 24) || decide (∃ h : t.val + 1 < grid0.N, ((cf m).win 6).index ⟨t.val + 1, h⟩ ≠ ((cf m).win 6).index t))) = true
    rw [decide_eq_true (⟨hN, hne⟩ : ∃ h : t.val + 1 < grid0.N, ((cf m).win 6).index ⟨t.val + 1, h⟩ ≠ ((cf m).win 6).index t)]
    simp

theorem covered6 (i : S4224x5632.Idx) :
    ∃ t : Fin (cf m).N, ((cf m).win 6).flush t = true ∧ i ∈ (((cf m).win 6).blk t).view.set := by
  idx_vars i
  have hi0 := i0.isLt; have hi1 := i1.isLt
  have hN : i1.val / 1408 * 6 + i0.val / 704 < (cf m).N := by show _ < 24; omega
  refine ⟨⟨_, hN⟩, flush6 m _, ?_⟩
  have h := (((cf m).win 6).blk ⟨_, hN⟩).view.emb_mem_set (ix2 ⟨i0.val % 704, by omega⟩ ⟨i1.val % 1408, by omega⟩)
  have e : (((cf m).win 6).blk ⟨_, hN⟩).view.emb (ix2 ⟨i0.val % 704, by omega⟩ ⟨i1.val % 1408, by omega⟩) = ix2 i0 i1 := by
    rw [emb6]
    funext a; apply Fin.ext
    match a with
    | ⟨0, _⟩ => show (i1.val / 1408 * 6 + i0.val / 704) % 6 * 704 + i0.val % 704 = i0.val; omega
    | ⟨1, _⟩ => show (i1.val / 1408 * 6 + i0.val / 704) / 6 * 1408 + i1.val % 1408 = i1.val; omega
  rw [e] at h
  exact h

/-- A block's product is the whole product at the block's place. -/
theorem dot1 (c : Dev nD) (t : Fin (cf m).N) (r : Fin 704) (l : Fin 1408) :
    dot (iblk m (okI m) c 0 t) (iblk m (okI m) c 1 t) r l = wdot (V m c main_arg0) (V m c main_arg1)
      ⟨t.val % 6 * 704 + r.val, by have := r.isLt; have := t.isLt; have := hN m; omega⟩ ⟨t.val / 6 * 1408 + l.val, by have := l.isLt; have := t.isLt; have := hN m; omega⟩ := by
  unfold dot wdot
  refine Finset.sum_congr rfl fun k _ => congrArg₂ (fun a b : EReal => a * b) ?_ ?_
  · show V m c main_arg0 ((((cf m).win 0).blk t).view.emb (ix2 r k)) = _
    rw [emb0]
  · show V m c main_arg1 ((((cf m).win 1).blk t).view.emb (ix3 0 k l)) = _
    rw [emb1]
    have hl := l.isLt
    exact congrArg (V m c main_arg1) (congrArg₂ (fun a b => ix3 a k b) (Fin.ext (by show t.val / 6 = (t.val / 6 * 1408 + l.val) / 1408; omega)) (Fin.ext (by show l.val = (t.val / 6 * 1408 + l.val) % 1408; omega)))

theorem dot2 (c : Dev nD) (t : Fin (cf m).N) (r : Fin 704) (l : Fin 1408) :
    dot (iblk m (okI m) c 0 t) (iblk m (okI m) c 2 t) r l = wdot (V m c main_arg0) (V m c main_arg2)
      ⟨t.val % 6 * 704 + r.val, by have := r.isLt; have := t.isLt; have := hN m; omega⟩ ⟨t.val / 6 * 1408 + l.val, by have := l.isLt; have := t.isLt; have := hN m; omega⟩ := by
  unfold dot wdot
  refine Finset.sum_congr rfl fun k _ => congrArg₂ (fun a b : EReal => a * b) ?_ ?_
  · show V m c main_arg0 ((((cf m).win 0).blk t).view.emb (ix2 r k)) = _
    rw [emb0]
  · show V m c main_arg2 ((((cf m).win 2).blk t).view.emb (ix3 0 k l)) = _
    rw [emb2]
    have hl := l.isLt
    exact congrArg (V m c main_arg2) (congrArg₂ (fun a b => ix3 a k b) (Fin.ext (by show t.val / 6 = (t.val / 6 * 1408 + l.val) / 1408; omega)) (Fin.ext (by show l.val = (t.val / 6 * 1408 + l.val) % 1408; omega)))

theorem flushed4_eq (c : Dev nD) (t : Fin (cf m).N) :
    (dats m (okI m) 0 c).flushed 4 t = (((cf m).win 4).blk t).view.read (Elt Ideal) (prodG (V m c main_arg0) (V m c main_arg1)) := by
  show ((cf m).win 4).cut (grid0.coords t) ((dats m (okI m) 0 c).after 4 t) = _
  rw [after0_4]
  unfold outsAt0
  dsimp only
  have e := out4_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (iblk m (okI m) c 0 t) (iblk m (okI m) c 1 t) (iblk m (okI m) c 2 t) (iblk m (okI m) c 3 t) (tbl m 0)
  refine (congrArg (((cf m).win 4).cut (grid0.coords t)) e).trans ?_
  refine funext fun (j : S704x1408.Idx) => ?_
  show (prodB (iblk m (okI m) c 0 t) (iblk m (okI m) c 1 t)) j = (prodG (V m c main_arg0) (V m c main_arg1)) ((((cf m).win 4).blk t).view.emb j)
  idx_vars j
  rw [emb4]
  exact dot1 m c t j0 j1

theorem flushed5_eq (c : Dev nD) (t : Fin (cf m).N) :
    (dats m (okI m) 0 c).flushed 5 t = (((cf m).win 5).blk t).view.read (Elt Ideal) (prodG (V m c main_arg0) (V m c main_arg2)) := by
  show ((cf m).win 5).cut (grid0.coords t) ((dats m (okI m) 0 c).after 5 t) = _
  rw [after0_5]
  unfold outsAt0
  dsimp only
  have e := out5_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (iblk m (okI m) c 0 t) (iblk m (okI m) c 1 t) (iblk m (okI m) c 2 t) (iblk m (okI m) c 3 t) (tbl m 0)
  refine (congrArg (((cf m).win 5).cut (grid0.coords t)) e).trans ?_
  refine funext fun (j : S704x1408.Idx) => ?_
  show (prodB (iblk m (okI m) c 0 t) (iblk m (okI m) c 2 t)) j = (prodG (V m c main_arg0) (V m c main_arg2)) ((((cf m).win 5).blk t).view.emb j)
  idx_vars j
  rw [emb5]
  exact dot2 m c t j0 j1

theorem flushed6_eq (c : Dev nD) (t : Fin (cf m).N) :
    (dats m (okI m) 0 c).flushed 6 t = (((cf m).win 6).blk t).view.read (Elt Ideal) (unitG (V m c main_arg0) (V m c main_arg1) (V m c main_arg2)) := by
  show ((cf m).win 6).cut (grid0.coords t) ((dats m (okI m) 0 c).after 6 t) = _
  rw [after0_6]
  unfold outsAt0
  dsimp only
  have e := out6_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (iblk m (okI m) c 0 t) (iblk m (okI m) c 1 t) (iblk m (okI m) c 2 t) (iblk m (okI m) c 3 t) (tbl m 0)
  refine (congrArg (((cf m).win 6).cut (grid0.coords t)) e).trans ?_
  refine funext fun (j : S704x1408.Idx) => ?_
  show (unitB (iblk m (okI m) c 0 t) (iblk m (okI m) c 1 t) (iblk m (okI m) c 2 t)) j = (unitG (V m c main_arg0) (V m c main_arg1) (V m c main_arg2)) ((((cf m).win 6).blk t).view.emb j)
  idx_vars j
  rw [emb6]
  exact congrArg₂ swiglu (dot1 m c t j0 j1) (dot2 m c t j0 j1)

/-- The result arrays after the run. -/
theorem final4 (c : Dev nD) : (dats m (okI m) 0 c).arrAt 4 (cf m).N = prodG (m ((c : Thread nD τ).loc main_arg0)) (m ((c : Thread nD τ).loc main_arg1)) :=
  ((dats m (okI m) 0 c).arrAt_eq_of_cover 4 (prodG (V m c main_arg0) (V m c main_arg1)) (fun t _ => flushed4_eq m c t) (covered4 m)).trans
    (by rw [V_main_arg0, V_main_arg1])

theorem final5 (c : Dev nD) : (dats m (okI m) 0 c).arrAt 5 (cf m).N = prodG (m ((c : Thread nD τ).loc main_arg0)) (m ((c : Thread nD τ).loc main_arg2)) :=
  ((dats m (okI m) 0 c).arrAt_eq_of_cover 5 (prodG (V m c main_arg0) (V m c main_arg2)) (fun t _ => flushed5_eq m c t) (covered5 m)).trans
    (by rw [V_main_arg0, V_main_arg2])

theorem final6 (c : Dev nD) : (dats m (okI m) 0 c).arrAt 6 (cf m).N = unitG (m ((c : Thread nD τ).loc main_arg0)) (m ((c : Thread nD τ).loc main_arg1)) (m ((c : Thread nD τ).loc main_arg2)) :=
  ((dats m (okI m) 0 c).arrAt_eq_of_cover 6 (unitG (V m c main_arg0) (V m c main_arg1) (V m c main_arg2)) (fun t _ => flushed6_eq m c t) (covered6 m)).trans
    (by rw [V_main_arg0, V_main_arg1, V_main_arg2])

/-- The run: the three results, the arguments unchanged. -/
theorem run_blocks : θ_run defs (onTc (τ := τ) (main (F := Ideal))) ⟨m, fun _ => 0, ρ⟩ fun r => ∀ c : Dev nD,
      r.2.mem ((c.tc : Thread nD τ).loc main_v1_0) = prodG (m ((c : Thread nD τ).loc main_arg0)) (m ((c : Thread nD τ).loc main_arg1))
      ∧ r.2.mem ((c.tc : Thread nD τ).loc main_v1_1) = prodG (m ((c : Thread nD τ).loc main_arg0)) (m ((c : Thread nD τ).loc main_arg2))
      ∧ r.2.mem ((c.tc : Thread nD τ).loc main_v1_2) = unitG (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final4 m c), ((h.1 c).1 5).trans (final5 m c), ((h.1 c).1 6).trans (final6 m c), h.2 c⟩)
    (θ_run_and (run_main m ρ (okI m)) (unchanged m ρ (okI m)))

/-- The kernel and the reference end with equal results. -/
theorem algebraic : Cert.algebraic_Kernel13Ideal_Reference13Ideal := fun m g m' g' _ hm =>
  ⟨fun c => prodG (m ((c : Thread nD τ).loc main_arg0)) (m ((c : Thread nD τ).loc main_arg1)), fun c => prodG (m ((c : Thread nD τ).loc main_arg0)) (m ((c : Thread nD τ).loc main_arg2)), fun c => unitG (m ((c : Thread nD τ).loc main_arg0)) (m ((c : Thread nD τ).loc main_arg1)) (m ((c : Thread nD τ).loc main_arg2)), run_blocks m g,
    (θ_run Cert.Reference13Ideal.defs _ _).mono (fun r h c => by
      have t0 := (h c).1.trans ((refProd _ _).trans (by rw [(hm c).1, (hm c).2.1] : _ = prodG (m ((c : Thread nD τ).loc main_arg0)) (m ((c : Thread nD τ).loc main_arg1))))
      have t1 := (h c).2.1.trans ((refProd _ _).trans (by rw [(hm c).1, (hm c).2.2.1] : _ = prodG (m ((c : Thread nD τ).loc main_arg0)) (m ((c : Thread nD τ).loc main_arg2))))
      have t2 := (h c).2.2.1.trans ((refUnit _ _ _).trans (by rw [(hm c).1, (hm c).2.1, (hm c).2.2.1] : _ = unitG (m ((c : Thread nD τ).loc main_arg0)) (m ((c : Thread nD τ).loc main_arg1)) (m ((c : Thread nD τ).loc main_arg2))))
      exact ⟨t0, t1, t2, (h c).2.2.2⟩) (Cert.Reference13Ideal.Value.run m' g')⟩

/-- The reference runs, its arguments unchanged, its counters at zero. -/
theorem frameR : Cert.quiescent_Reference13Ideal := fun m g _ =>
  (θ_run Cert.Reference13Ideal.defs _ _).mono (fun r h => ⟨fun c => (h c).2.2.2,
      Idealize.ShloMosaic.sem_eq_zero_of_no_sems (by decide) r.2⟩)
    (Cert.Reference13Ideal.Value.run (F := Ideal) m g)

end Cert.Proof.FfnUp

end
-- ==== Proof.FfnDown.lean ====
/- THE DOWN PRODUCT, HALVED AND ADDED TO THE RESIDUAL STREAM, block by block: each grid point takes 704 rows of the hidden
   layer and a quarter of the weights' columns.  Here: a point's block at an index (`out_eq`), the array the host hands the
   call (`host_apply`), the places of the blocks (`emb0` to `emb3`), and the whole result as the reference's
   (`final3`, `algebraic`). -/
module

public import proofs.«01_k».proof.Defs
public import proofs.«01_k».proof.Proof.Gen.Kernel14Ideal.Value
public import proofs.«01_k».proof.Proof.Gen.Reference14Ideal.Run
public import Idealize.ShloMosaic.Lib.Pointwise

@[expose] public section

noncomputable section

namespace Cert.Proof.FfnDown

open Cert.Kernel14Ideal Cert.Kernel14Ideal.Gen Cert.Kernel14Ideal.Value Idealize.ShloMosaic Idealize.ShloMosaic.TcCoe Idealize.SL.Sem

theorem hz2 : (![0, 0] : Fin 2 → Nat) = fun _ => 0 := funext fun a => by fin_cases a <;> rfl

/-- The factor of the residual branch. -/
def half : EReal := Scalar.ofBits (F := Ideal) .f32 0x3F000000#32

/-- What a point leaves in the output's staging buffer, at an index. -/
theorem out_eq (x0 : Vec Ideal S704x5632 .bf16) (x1 : Vec Ideal S5632x512 .bf16) (x2 : Vec Ideal S704x512 .f32) (r : Fin 704) (l : Fin 512) :
    out0_3 x0 x1 x2 (ix2 r l) = (x2 (ix2 r l) + half * ∑ k : Fin 5632, (x0 (ix2 r k) * x1 (ix2 k l) : EReal) : EReal) := by
  unfold out0_3 half
  rw [View.canon_unit_zero hz2]
  pointwise [k0_pay1]

/-- The whole result, from the hidden layer, the weights in four row panels and the residual stream. -/
def G (a : FVec Ideal S4224x5632 .bf16) (w : FVec Ideal S4x1408x2048 .bf16) (h : FVec Ideal S4224x2048 .f32) : FVec Ideal S4224x2048 .f32 := fun i =>
  (h (ix2 (i 0) (i 1)) + half * ∑ k : Fin 5632, (a (ix2 (i 0) k) * w (ix3 ⟨k.val / 1408, by have := k.isLt; omega⟩ ⟨k.val % 1408, by omega⟩ (i 1)) : EReal) : EReal)

/-- The reference's result is `G`. -/
theorem ref_eq (a : FVec Ideal S4224x5632 .bf16) (w : FVec Ideal S4x1408x2048 .bf16) (h : FVec Ideal S4224x2048 .f32) :
    (addf h (mulf (broadcastInDim Cert.Reference14Ideal.S4224x2048 ![] Cert.Reference14Ideal.Gen.facts.bcast_S_S4224x2048 (constant Cert.Reference14Ideal.S_ .f32 0x3F000000#32))
      (Host.dotGeneral Cert.Reference14Ideal.dot_S4224x5632_S5632x2048_S4224x2048_1_0_0_1_n_n none
      (extf .f32 a Cert.Reference14Ideal.Gen.facts.bitsLt_bf16_f32)
      (shapeCast Cert.Reference14Ideal.S5632x2048 (extf .f32 w Cert.Reference14Ideal.Gen.facts.bitsLt_bf16_f32)
        Cert.Reference14Ideal.Gen.facts.shapeCasts_S4x1408x2048_S5632x2048))) : FVec Ideal S4224x2048 .f32) = G a w h := by
  funext i
  idx_vars i
  unfold G half
  pointwise []

theorem cast_apply (w : FVec Ideal S4x1408x2048 .bf16) (k : Fin 5632) (l : Fin 2048) :
    (shapeCast S5632x2048 w Gen.facts.shapeCasts_S4x1408x2048_S5632x2048 : FVec Ideal S5632x2048 .bf16) (ix2 k l) = w (ix3 ⟨k.val / 1408, by have := k.isLt; omega⟩ ⟨k.val % 1408, by omega⟩ l) := by
  pointwise []

variable (m : (ℓ : Loc nD τ sig) → Buf (Elt Ideal) ℓ) (ρ : Dev nD → PrngReg)

/-- The array the host hands the call: the weights' four row panels, one below the other. -/
theorem host_eq (c : Dev nD) : V m c main_v0
    = (shapeCast S5632x2048 (m ((c : Thread nD τ).loc main_arg1) : FVec Ideal S4x1408x2048 .bf16) Gen.facts.shapeCasts_S4x1408x2048_S5632x2048 : FVec Ideal S5632x2048 .bf16) := by
  rfl

theorem host_apply (c : Dev nD) (k : Fin 5632) (l : Fin 2048) : (V m c main_v0 : FVec Ideal S5632x2048 .bf16) (ix2 k l)
    = (m ((c : Thread nD τ).loc main_arg1) : FVec Ideal S4x1408x2048 .bf16) (ix3 ⟨k.val / 1408, by have := k.isLt; omega⟩ ⟨k.val % 1408, by omega⟩ l) := by
  exact (congrFun (host_eq m c) _).trans (cast_apply _ k l)

theorem hN : cfg0.N = 24 := rfl

/-- The block indices at grid point `t`, and the places of the blocks' elements. -/
theorem idx0 : ∀ t : Fin cfg0.N, win0_0.index t (0 : Fin 2) = t.val / 4 ∧ win0_0.index t (1 : Fin 2) = 0 :=
  (by decide +kernel : ∀ t : Fin grid0.N, _)

/-- The place of an element of a block in its array. -/
theorem emb0 (t : Fin cfg0.N) (r : Fin 704) (k : Fin 5632) : ((cfg0.win 0).blk t).view.emb (ix2 r k)
    = ix2 ⟨t.val / 4 * 704 + r.val, by have := r.isLt; have := t.isLt; have := hN; omega⟩ k := by
  obtain ⟨e0, e1⟩ := idx0 t
  funext a; apply Fin.ext
  match a with
  | ⟨0, _⟩ => show win0_0.index t (0 : Fin 2) * 704 + 1 * r.val = t.val / 4 * 704 + r.val; omega
  | ⟨1, _⟩ => show win0_0.index t (1 : Fin 2) * 5632 + 1 * k.val = k.val; omega

theorem idx1 : ∀ t : Fin cfg0.N, win0_1.index t (0 : Fin 2) = 0 ∧ win0_1.index t (1 : Fin 2) = t.val % 4 :=
  (by decide +kernel : ∀ t : Fin grid0.N, _)

/-- The place of an element of a block in its array. -/
theorem emb1 (t : Fin cfg0.N) (k : Fin 5632) (l : Fin 512) : ((cfg0.win 1).blk t).view.emb (ix2 k l)
    = ix2 k ⟨t.val % 4 * 512 + l.val, by have := l.isLt; have := t.isLt; have := hN; omega⟩ := by
  obtain ⟨e0, e1⟩ := idx1 t
  funext a; apply Fin.ext
  match a with
  | ⟨0, _⟩ => show win0_1.index t (0 : Fin 2) * 5632 + 1 * k.val = k.val; omega
  | ⟨1, _⟩ => show win0_1.index t (1 : Fin 2) * 512 + 1 * l.val = t.val % 4 * 512 + l.val; omega

theorem idx2 : ∀ t : Fin cfg0.N, win0_2.index t (0 : Fin 2) = t.val / 4 ∧ win0_2.index t (1 : Fin 2) = t.val % 4 :=
  (by decide +kernel : ∀ t : Fin grid0.N, _)

/-- The place of an element of a block in its array. -/
theorem emb2 (t : Fin cfg0.N) (r : Fin 704) (l : Fin 512) : ((cfg0.win 2).blk t).view.emb (ix2 r l)
    = ix2 ⟨t.val / 4 * 704 + r.val, by have := r.isLt; have := t.isLt; have := hN; omega⟩ ⟨t.val % 4 * 512 + l.val, by have := l.isLt; have := t.isLt; have := hN; omega⟩ := by
  obtain ⟨e0, e1⟩ := idx2 t
  funext a; apply Fin.ext
  match a with
  | ⟨0, _⟩ => show win0_2.index t (0 : Fin 2) * 704 + 1 * r.val = t.val / 4 * 704 + r.val; omega
  | ⟨1, _⟩ => show win0_2.index t (1 : Fin 2) * 512 + 1 * l.val = t.val % 4 * 512 + l.val; omega

theorem idx3 : ∀ t : Fin cfg0.N, win0_3.index t (0 : Fin 2) = t.val / 4 ∧ win0_3.index t (1 : Fin 2) = t.val % 4 :=
  (by decide +kernel : ∀ t : Fin grid0.N, _)

/-- The place of an element of a block in its array. -/
theorem emb3 (t : Fin cfg0.N) (r : Fin 704) (l : Fin 512) : ((cfg0.win 3).blk t).view.emb (ix2 r l)
    = ix2 ⟨t.val / 4 * 704 + r.val, by have := r.isLt; have := t.isLt; have := hN; omega⟩ ⟨t.val % 4 * 512 + l.val, by have := l.isLt; have := t.isLt; have := hN; omega⟩ := by
  obtain ⟨e0, e1⟩ := idx3 t
  funext a; apply Fin.ext
  match a with
  | ⟨0, _⟩ => show win0_3.index t (0 : Fin 2) * 704 + 1 * r.val = t.val / 4 * 704 + r.val; omega
  | ⟨1, _⟩ => show win0_3.index t (1 : Fin 2) * 512 + 1 * l.val = t.val % 4 * 512 + l.val; omega

/-- What a point writes back is its block of the whole result. -/
theorem flushed3_eq (c : Dev nD) (t : Fin cfg0.N) :
    (dats m 0 c).flushed 3 t = ((cfg0.win 3).blk t).view.read (Elt Ideal) (G (V m c main_arg0) (m ((c : Thread nD τ).loc main_arg1)) (V m c main_arg2)) := by
  rw [flushed3]
  funext j
  show out0_3 (iblk m c 0 t) (iblk m c 1 t) (iblk m c 2 t) j
    = G (V m c main_arg0) (m ((c : Thread nD τ).loc main_arg1)) (V m c main_arg2) (((cfg0.win 3).blk t).view.emb j)
  idx_vars j
  rw [emb3]
  refine (out_eq _ _ _ j0 j1).trans ?_
  unfold G
  refine congrArg₂ (fun a b : EReal => a + half * b) ?_ (Finset.sum_congr rfl fun k _ => congrArg₂ (fun a b : EReal => a * b) ?_ ?_)
  · show V m c main_arg2 (((cfg0.win 2).blk t).view.emb (ix2 j0 j1)) = _
    rw [emb2]
    rfl
  · show V m c main_arg0 (((cfg0.win 0).blk t).view.emb (ix2 j0 k)) = _
    rw [emb0]
    rfl
  · show V m c main_v0 (((cfg0.win 1).blk t).view.emb (ix2 k j1)) = _
    rw [emb1]
    exact host_apply m c k _

/-- Every element of the result is in some point's block. -/
theorem covered3 (i : S4224x2048.Idx) :
    ∃ t : Fin cfg0.N, (cfg0.win 3).flush t = true ∧ i ∈ ((cfg0.win 3).blk t).view.set := by
  idx_vars i
  have hi0 := i0.isLt; have hi1 := i1.isLt
  have hN : i0.val / 704 * 4 + i1.val / 512 < cfg0.N := by show _ < 24; omega
  refine ⟨⟨_, hN⟩, flush0_3 _, ?_⟩
  have h := ((cfg0.win 3).blk ⟨_, hN⟩).view.emb_mem_set (ix2 ⟨i0.val % 704, by omega⟩ ⟨i1.val % 512, by omega⟩)
  have e : ((cfg0.win 3).blk ⟨_, hN⟩).view.emb (ix2 ⟨i0.val % 704, by omega⟩ ⟨i1.val % 512, by omega⟩) = ix2 i0 i1 := by
    rw [emb3]
    funext a; apply Fin.ext
    match a with
    | ⟨0, _⟩ => show (i0.val / 704 * 4 + i1.val / 512) / 4 * 704 + i0.val % 704 = i0.val; omega
    | ⟨1, _⟩ => show (i0.val / 704 * 4 + i1.val / 512) % 4 * 512 + i1.val % 512 = i1.val; omega
  rw [e] at h
  exact h

/-- The result array after the run. -/
theorem final3 (c : Dev nD) : (dats m 0 c).arrAt 3 cfg0.N
    = G (m ((c : Thread nD τ).loc main_arg0)) (m ((c : Thread nD τ).loc main_arg1)) (m ((c : Thread nD τ).loc main_arg2)) :=
  ((dats m 0 c).arrAt_eq_of_cover 3 (G (V m c main_arg0) (m ((c : Thread nD τ).loc main_arg1)) (V m c main_arg2)) (fun t _ => flushed3_eq m c t) covered3).trans
    (by rw [V_main_arg0, V_main_arg2])

/-- The kernel and the reference end with equal results. -/
theorem algebraic : Cert.algebraic_Kernel14Ideal_Reference14Ideal := fun m g m' g' _ hm =>
  ⟨fun c => G (m ((c : Thread nD τ).loc main_arg0)) (m ((c : Thread nD τ).loc main_arg1)) (m ((c : Thread nD τ).loc main_arg2)),
    (θ_run defs _ _).mono (fun r h c => ⟨(h c).1.trans (final3 m c), (h c).2⟩) (run_blocks m g),
    (θ_run Cert.Reference14Ideal.defs _ _).mono (fun r h c => ⟨(h c).1.trans
      ((ref_eq _ _ _).trans (by rw [(hm c).1, (hm c).2.1, (hm c).2.2])), (h c).2⟩) (Cert.Reference14Ideal.Value.run m' g')⟩

/-- The reference runs, its arguments unchanged, its counters at zero. -/
theorem frameR : Cert.quiescent_Reference14Ideal := fun m g _ =>
  (θ_run Cert.Reference14Ideal.defs _ _).mono (fun r h => ⟨fun c => (h c).2,
      Idealize.ShloMosaic.sem_eq_zero_of_no_sems (by decide) r.2⟩)
    (Cert.Reference14Ideal.Value.run (F := Ideal) m g)

end Cert.Proof.FfnDown

end
-- ==== Proof.MixOutFwd.lean ====
/- THE MIXER'S OUTPUT PROJECTION ADDED TO THE RESIDUAL STREAM, AND ITS RMS NORM: each grid point takes 352 rows.  Here: a
   point's two blocks at an index (`out5_eq`, `out6_eq`), the array the host hands the call (`host_apply`), the places of the
   blocks (`emb0` to `emb6`), and the two whole results as the reference's (`final5`, `final6`, `algebraic`). -/
module

public import proofs.«01_k».proof.Defs
public import proofs.«01_k».proof.Proof.Gen.Kernel15Ideal.Value
public import proofs.«01_k».proof.Proof.Gen.Reference15Ideal.Run
public import Idealize.ShloMosaic.Lib.Pointwise

@[expose] public section

noncomputable section

namespace Cert.Proof.MixOutFwd

open Cert.Kernel15Ideal Cert.Kernel15Ideal.Gen Cert.Kernel15Ideal.Value Idealize.ShloMosaic Idealize.ShloMosaic.TcCoe Idealize.SL.Sem

theorem hz2 : (![0, 0] : Fin 2 → Nat) = fun _ => 0 := funext fun a => by fin_cases a <;> rfl

/-- The norm's divisor (the row's length) and its small constant. -/
def len : EReal := Scalar.ofBits (F := Ideal) .f32 0x45000000#32
def eps : EReal := Scalar.ofBits (F := Ideal) .f32 0x358637BD#32

/-- A row's element divided by the row's root mean square, times its gain. -/
def nrm (row : Fin 2048 → EReal) (x g : EReal) : EReal :=
  x * Ideal.rsqrt (Ideal.div (∑ k : Fin 2048, row k * row k) len + eps) * g

/-- An element of a point's sum. -/
def res (x0 : Vec Ideal S352x2048 .bf16) (x1 : Vec Ideal S2048x2048 .bf16) (x2 : Vec Ideal S352x2048 .f32) (r : Fin 352) (l : Fin 2048) : EReal :=
  x2 (ix2 r l) + ∑ k : Fin 2048, (x0 (ix2 r k) * x1 (ix2 k l) : EReal)

theorem out5_eq (x0 : Vec Ideal S352x2048 .bf16) (x1 : Vec Ideal S2048x2048 .bf16) (x2 : Vec Ideal S352x2048 .f32) (x3 : Vec Ideal S1x2048 .f32)
    (x4 : Vec Ideal S8x128 .f32) (r : Fin 352) (l : Fin 2048) : out0_5 x0 x1 x2 x3 x4 (ix2 r l) = res x0 x1 x2 r l := by
  unfold out0_5 res
  rw [View.canon_unit_zero hz2]
  pointwise [k0_pay2, k0_pay1]

theorem out6_eq (x0 : Vec Ideal S352x2048 .bf16) (x1 : Vec Ideal S2048x2048 .bf16) (x2 : Vec Ideal S352x2048 .f32) (x3 : Vec Ideal S1x2048 .f32)
    (x4 : Vec Ideal S8x128 .f32) (r : Fin 352) (l : Fin 2048) :
    out0_6 x0 x1 x2 x3 x4 (ix2 r l) = nrm (res x0 x1 x2 r) (res x0 x1 x2 r l) (x3 (ix2 0 l)) := by
  unfold out0_6 nrm len eps res
  rw [View.canon_unit_zero hz2]
  pointwise [k0_pay3, k0_pay1]

/-- The first whole result, from the mixer's output, the weights in four row panels and the residual stream. -/
def H (y : FVec Ideal S4224x2048 .bf16) (w : FVec Ideal S4x512x2048 .bf16) (h : FVec Ideal S4224x2048 .f32) (r : Fin 4224) (l : Fin 2048) : EReal :=
  (h (ix2 r l) + ∑ k : Fin 2048, (y (ix2 r k) * w (ix3 ⟨k.val / 512, by have := k.isLt; omega⟩ ⟨k.val % 512, by omega⟩ l) : EReal) : EReal)

def G5 (y : FVec Ideal S4224x2048 .bf16) (w : FVec Ideal S4x512x2048 .bf16) (h : FVec Ideal S4224x2048 .f32) : FVec Ideal S4224x2048 .f32 :=
  fun i => H y w h (i 0) (i 1)

/-- The second: its rows' norms. -/
def G6 (y : FVec Ideal S4224x2048 .bf16) (w : FVec Ideal S4x512x2048 .bf16) (h : FVec Ideal S4224x2048 .f32) (g : FVec Ideal S1x2048 .f32) : FVec Ideal S4224x2048 .bf16 :=
  fun i => nrm (H y w h (i 0)) (H y w h (i 0) (i 1)) (g (ix2 0 (i 1)))

section Ref

variable (y : FVec Ideal S4224x2048 .bf16) (w : FVec Ideal S4x512x2048 .bf16) (h : FVec Ideal S4224x2048 .f32) (g : FVec Ideal S1x2048 .f32)

/-- The reference's two results. -/
theorem ref5 : (addf h (Host.dotGeneral Cert.Reference15Ideal.dot_S4224x2048_S2048x2048_S4224x2048_1_0_0_1_n_n none (extf .f32 y Cert.Reference15Ideal.Gen.facts.bitsLt_bf16_f32) (shapeCast Cert.Reference15Ideal.S2048x2048 (extf .f32 w Cert.Reference15Ideal.Gen.facts.bitsLt_bf16_f32) Cert.Reference15Ideal.Gen.facts.shapeCasts_S4x512x2048_S2048x2048)) : FVec Ideal S4224x2048 .f32) = G5 y w h := by
  funext i
  idx_vars i
  unfold G5 H
  pointwise []

theorem ref6 : (truncf .bf16 (mulf (mulf (addf h (Host.dotGeneral Cert.Reference15Ideal.dot_S4224x2048_S2048x2048_S4224x2048_1_0_0_1_n_n none (extf .f32 y Cert.Reference15Ideal.Gen.facts.bitsLt_bf16_f32) (shapeCast Cert.Reference15Ideal.S2048x2048 (extf .f32 w Cert.Reference15Ideal.Gen.facts.bitsLt_bf16_f32) Cert.Reference15Ideal.Gen.facts.shapeCasts_S4x512x2048_S2048x2048))) (broadcastInDim Cert.Reference15Ideal.S4224x2048 ![0, 1] Cert.Reference15Ideal.Gen.facts.bcast_S4224x1_S4224x2048_0_1 (Host.rsqrt (addf (Host.divf (broadcastInDim Cert.Reference15Ideal.S4224x1 ![0] Cert.Reference15Ideal.Gen.facts.bcast_S4224_S4224x1_0 (Host.reduceAdd (mulf (addf h (Host.dotGeneral Cert.Reference15Ideal.dot_S4224x2048_S2048x2048_S4224x2048_1_0_0_1_n_n none (extf .f32 y Cert.Reference15Ideal.Gen.facts.bitsLt_bf16_f32) (shapeCast Cert.Reference15Ideal.S2048x2048 (extf .f32 w Cert.Reference15Ideal.Gen.facts.bitsLt_bf16_f32) Cert.Reference15Ideal.Gen.facts.shapeCasts_S4x512x2048_S2048x2048))) (addf h (Host.dotGeneral Cert.Reference15Ideal.dot_S4224x2048_S2048x2048_S4224x2048_1_0_0_1_n_n none (extf .f32 y Cert.Reference15Ideal.Gen.facts.bitsLt_bf16_f32) (shapeCast Cert.Reference15Ideal.S2048x2048 (extf .f32 w Cert.Reference15Ideal.Gen.facts.bitsLt_bf16_f32) Cert.Reference15Ideal.Gen.facts.shapeCasts_S4x512x2048_S2048x2048)))) (constant Cert.Reference15Ideal.S_ .f32 0x00000000#32) Cert.Reference15Ideal.Gen.facts.reducesTo_S4224x2048_S4224_d1 Cert.Reference15Ideal.Gen.facts.h_S_)) (broadcastInDim Cert.Reference15Ideal.S4224x1 ![] Cert.Reference15Ideal.Gen.facts.bcast_S_S4224x1 (constant Cert.Reference15Ideal.S_ .f32 0x45000000#32))) (broadcastInDim Cert.Reference15Ideal.S4224x1 ![] Cert.Reference15Ideal.Gen.facts.bcast_S_S4224x1 (constant Cert.Reference15Ideal.S_ .f32 0x358637BD#32)))))) (broadcastInDim Cert.Reference15Ideal.S4224x2048 ![0, 1] Cert.Reference15Ideal.Gen.facts.bcast_S1x2048_S4224x2048_0_1 g)) Cert.Reference15Ideal.Gen.facts.bitsLt_bf16_f32 : FVec Ideal S4224x2048 .bf16) = G6 y w h g := by
  funext i
  idx_vars i
  unfold G6 nrm len eps H
  pointwise []

end Ref

theorem cast_apply (w : FVec Ideal S4x512x2048 .bf16) (k l : Fin 2048) :
    (shapeCast S2048x2048 w Gen.facts.shapeCasts_S4x512x2048_S2048x2048 : FVec Ideal S2048x2048 .bf16) (ix2 k l)
      = w (ix3 ⟨k.val / 512, by have := k.isLt; omega⟩ ⟨k.val % 512, by omega⟩ l) := by
  pointwise []

variable (m : (ℓ : Loc nD τ sig) → Buf (Elt Ideal) ℓ) (ρ : Dev nD → PrngReg)

/-- The array the host hands the call: the weights' four row panels, one below the other. -/
theorem host_eq (c : Dev nD) : V m c main_v0
    = (shapeCast S2048x2048 (m ((c : Thread nD τ).loc main_arg1) : FVec Ideal S4x512x2048 .bf16) Gen.facts.shapeCasts_S4x512x2048_S2048x2048 : FVec Ideal S2048x2048 .bf16) := by
  rfl

theorem host_apply (c : Dev nD) (k l : Fin 2048) : (V m c main_v0 : FVec Ideal S2048x2048 .bf16) (ix2 k l)
    = (m ((c : Thread nD τ).loc main_arg1) : FVec Ideal S4x512x2048 .bf16) (ix3 ⟨k.val / 512, by have := k.isLt; omega⟩ ⟨k.val % 512, by omega⟩ l) := by
  exact (congrFun (host_eq m c) _).trans (cast_apply _ k l)

theorem hN : cfg0.N = 12 := rfl

/-- The block indices at grid point `t`, and the places of the blocks' elements. -/
theorem idx0 : ∀ t : Fin cfg0.N, win0_0.index t (0 : Fin 2) = t.val ∧ win0_0.index t (1 : Fin 2) = 0 :=
  (by decide +kernel : ∀ t : Fin grid0.N, _)

/-- The place of an element of a block in its array. -/
theorem emb0 (t : Fin cfg0.N) (r : Fin 352) (l : Fin 2048) : ((cfg0.win 0).blk t).view.emb (ix2 r l)
    = ix2 ⟨t.val * 352 + r.val, by have := r.isLt; have := t.isLt; have := hN; omega⟩ l := by
  obtain ⟨e0, e1⟩ := idx0 t
  funext a; apply Fin.ext
  match a with
  | ⟨0, _⟩ => show win0_0.index t (0 : Fin 2) * 352 + 1 * r.val = t.val * 352 + r.val; omega
  | ⟨1, _⟩ => show win0_0.index t (1 : Fin 2) * 2048 + 1 * l.val = l.val; omega

theorem idx1 : ∀ t : Fin cfg0.N, win0_1.index t (0 : Fin 2) = 0 ∧ win0_1.index t (1 : Fin 2) = 0 :=
  (by decide +kernel : ∀ t : Fin grid0.N, _)

/-- The place of an element of a block in its array. -/
theorem emb1 (t : Fin cfg0.N) (k : Fin 2048) (l : Fin 2048) : ((cfg0.win 1).blk t).view.emb (ix2 k l)
    = ix2 k l := by
  obtain ⟨e0, e1⟩ := idx1 t
  funext a; apply Fin.ext
  match a with
  | ⟨0, _⟩ => show win0_1.index t (0 : Fin 2) * 2048 + 1 * k.val = k.val; omega
  | ⟨1, _⟩ => show win0_1.index t (1 : Fin 2) * 2048 + 1 * l.val = l.val; omega

theorem idx2 : ∀ t : Fin cfg0.N, win0_2.index t (0 : Fin 2) = t.val ∧ win0_2.index t (1 : Fin 2) = 0 :=
  (by decide +kernel : ∀ t : Fin grid0.N, _)

/-- The place of an element of a block in its array. -/
theorem emb2 (t : Fin cfg0.N) (r : Fin 352) (l : Fin 2048) : ((cfg0.win 2).blk t).view.emb (ix2 r l)
    = ix2 ⟨t.val * 352 + r.val, by have := r.isLt; have := t.isLt; have := hN; omega⟩ l := by
  obtain ⟨e0, e1⟩ := idx2 t
  funext a; apply Fin.ext
  match a with
  | ⟨0, _⟩ => show win0_2.index t (0 : Fin 2) * 352 + 1 * r.val = t.val * 352 + r.val; omega
  | ⟨1, _⟩ => show win0_2.index t (1 : Fin 2) * 2048 + 1 * l.val = l.val; omega

theorem idx3 : ∀ t : Fin cfg0.N, win0_3.index t (0 : Fin 2) = 0 ∧ win0_3.index t (1 : Fin 2) = 0 :=
  (by decide +kernel : ∀ t : Fin grid0.N, _)

/-- The place of an element of a block in its array. -/
theorem emb3 (t : Fin cfg0.N) (l : Fin 2048) : ((cfg0.win 3).blk t).view.emb (ix2 0 l)
    = ix2 0 l := by
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 2048 + 1 * l.val = l.val; omega

theorem idx5 : ∀ t : Fin cfg0.N, win0_5.index t (0 : Fin 2) = t.val ∧ win0_5.index t (1 : Fin 2) = 0 :=
  (by decide +kernel : ∀ t : Fin grid0.N, _)

/-- The place of an element of a block in its array. -/
theorem emb5 (t : Fin cfg0.N) (r : Fin 352) (l : Fin 2048) : ((cfg0.win 5).blk t).view.emb (ix2 r l)
    = ix2 ⟨t.val * 352 + r.val, by have := r.isLt; have := t.isLt; have := hN; omega⟩ l := by
  obtain ⟨e0, e1⟩ := idx5 t
  funext a; apply Fin.ext
  match a with
  | ⟨0, _⟩ => show win0_5.index t (0 : Fin 2) * 352 + 1 * r.val = t.val * 352 + r.val; omega
  | ⟨1, _⟩ => show win0_5.index t (1 : Fin 2) * 2048 + 1 * l.val = l.val; omega

theorem idx6 : ∀ t : Fin cfg0.N, win0_6.index t (0 : Fin 2) = t.val ∧ win0_6.index t (1 : Fin 2) = 0 :=
  (by decide +kernel : ∀ t : Fin grid0.N, _)

/-- The place of an element of a block in its array. -/
theorem emb6 (t : Fin cfg0.N) (r : Fin 352) (l : Fin 2048) : ((cfg0.win 6).blk t).view.emb (ix2 r l)
    = ix2 ⟨t.val * 352 + r.val, by have := r.isLt; have := t.isLt; have := hN; omega⟩ l := by
  obtain ⟨e0, e1⟩ := idx6 t
  funext a; apply Fin.ext
  match a with
  | ⟨0, _⟩ => show win0_6.index t (0 : Fin 2) * 352 + 1 * r.val = t.val * 352 + r.val; omega
  | ⟨1, _⟩ => show win0_6.index t (1 : Fin 2) * 2048 + 1 * l.val = l.val; omega

/-- A point's sum, in the arrays. -/
theorem res_apply (c : Dev nD) (t : Fin cfg0.N) (r : Fin 352) (l : Fin 2048) :
    res (iblk m c 0 t) (iblk m c 1 t) (iblk m c 2 t) r l
      = H (V m c main_arg0) (m ((c : Thread nD τ).loc main_arg1)) (V m c main_arg2) ⟨t.val * 352 + r.val, by have := r.isLt; have := t.isLt; have := hN; omega⟩ l := by
  unfold H res
  refine congrArg₂ (fun a b : EReal => a + b) ?_ (Finset.sum_congr rfl fun k _ => congrArg₂ (fun a b : EReal => a * b) ?_ ?_)
  · show V m c main_arg2 (((cfg0.win 2).blk t).view.emb (ix2 r l)) = _
    rw [emb2]
  · show V m c main_arg0 (((cfg0.win 0).blk t).view.emb (ix2 r k)) = _
    rw [emb0]
  · show V m c main_v0 (((cfg0.win 1).blk t).view.emb (ix2 k l)) = _
    rw [emb1]
    exact host_apply m c k l

/-- What a point writes back is its block of each whole result. -/
theorem flushed5_eq (c : Dev nD) (t : Fin cfg0.N) :
    (dats m 0 c).flushed 5 t = ((cfg0.win 5).blk t).view.read (Elt Ideal) (G5 (V m c main_arg0) (m ((c : Thread nD τ).loc main_arg1)) (V m c main_arg2)) := by
  rw [flushed5]
  funext j
  show out0_5 (iblk m c 0 t) (iblk m c 1 t) (iblk m c 2 t) (iblk m c 3 t) (iblk m c 4 t) j
    = G5 (V m c main_arg0) (m ((c : Thread nD τ).loc main_arg1)) (V m c main_arg2) (((cfg0.win 5).blk t).view.emb j)
  idx_vars j
  rw [emb5]
  exact (out5_eq _ _ _ _ _ j0 j1).trans (res_apply m c t j0 j1)

theorem flushed6_eq (c : Dev nD) (t : Fin cfg0.N) :
    (dats m 0 c).flushed 6 t = ((cfg0.win 6).blk t).view.read (Elt Ideal) (G6 (V m c main_arg0) (m ((c : Thread nD τ).loc main_arg1)) (V m c main_arg2) (V m c main_arg3)) := by
  rw [flushed6]
  funext j
  show out0_6 (iblk m c 0 t) (iblk m c 1 t) (iblk m c 2 t) (iblk m c 3 t) (iblk m c 4 t) j
    = G6 (V m c main_arg0) (m ((c : Thread nD τ).loc main_arg1)) (V m c main_arg2) (V m c main_arg3) (((cfg0.win 6).blk t).view.emb j)
  idx_vars j
  rw [emb6]
  refine (out6_eq _ _ _ _ _ j0 j1).trans ?_
  unfold G6
  rw [res_apply m c t j0 j1, show res (iblk m c 0 t) (iblk m c 1 t) (iblk m c 2 t) j0 = _ from funext fun l => res_apply m c t j0 l]
  refine congrArg (nrm _ _) ?_
  show V m c main_arg3 (((cfg0.win 3).blk t).view.emb (ix2 0 j1)) = _
  rw [emb3]
  rfl

theorem covered5 (i : S4224x2048.Idx) :
    ∃ t : Fin cfg0.N, (cfg0.win 5).flush t = true ∧ i ∈ ((cfg0.win 5).blk t).view.set := by
  idx_vars i
  have hi0 := i0.isLt
  have hN : i0.val / 352 < cfg0.N := by show _ < 12; omega
  refine ⟨⟨_, hN⟩, flush0_5 _, ?_⟩
  have h := ((cfg0.win 5).blk ⟨_, hN⟩).view.emb_mem_set (ix2 ⟨i0.val % 352, by omega⟩ i1)
  have e : ((cfg0.win 5).blk ⟨_, hN⟩).view.emb (ix2 ⟨i0.val % 352, by omega⟩ i1) = ix2 i0 i1 := by
    rw [emb5]
    funext a; apply Fin.ext
    match a with
    | ⟨0, _⟩ => show i0.val / 352 * 352 + i0.val % 352 = i0.val; omega
    | ⟨1, _⟩ => rfl
  rw [e] at h
  exact h

theorem covered6 (i : S4224x2048.Idx) :
    ∃ t : Fin cfg0.N, (cfg0.win 6).flush t = true ∧ i ∈ ((cfg0.win 6).blk t).view.set := by
  idx_vars i
  have hi0 := i0.isLt
  have hN : i0.val / 352 < cfg0.N := by show _ < 12; omega
  refine ⟨⟨_, hN⟩, flush0_6 _, ?_⟩
  have h := ((cfg0.win 6).blk ⟨_, hN⟩).view.emb_mem_set (ix2 ⟨i0.val % 352, by omega⟩ i1)
  have e : ((cfg0.win 6).blk ⟨_, hN⟩).view.emb (ix2 ⟨i0.val % 352, by omega⟩ i1) = ix2 i0 i1 := by
    rw [emb6]
    funext a; apply Fin.ext
    match a with
    | ⟨0, _⟩ => show i0.val / 352 * 352 + i0.val % 352 = i0.val; omega
    | ⟨1, _⟩ => rfl
  rw [e] at h
  exact h

/-- The result arrays after the run. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (m ((c : Thread nD τ).loc main_arg1)) (V m c main_arg2)) (fun t _ => flushed5_eq m c t) covered5).trans
    (by rw [V_main_arg0, V_main_arg2])

theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (m ((c : Thread nD τ).loc main_arg1)) (V m c main_arg2) (V m c main_arg3)) (fun t _ => flushed6_eq m c t) covered6).trans
    (by rw [V_main_arg0, V_main_arg2, V_main_arg3])

/-- The kernel and the reference end with equal results. -/
theorem algebraic : Cert.algebraic_Kernel15Ideal_Reference15Ideal := fun m g m' g' _ hm =>
  ⟨fun c => (dats m 0 c).arrAt 5 cfg0.N, fun c => (dats m 0 c).arrAt 6 cfg0.N, run_blocks m g,
    (θ_run Cert.Reference15Ideal.defs _ _).mono (fun r h c => by
      have t0 := (h c).1.trans ((ref5 _ _ _).trans ((by rw [(hm c).1, (hm c).2.1, (hm c).2.2.1] : _ = _).trans (final5 m c).symm))
      have t1 := (h c).2.1.trans ((ref6 _ _ _ _).trans ((by rw [(hm c).1, (hm c).2.1, (hm c).2.2.1, (hm c).2.2.2.1] : _ = _).trans (final6 m c).symm))
      exact ⟨t0, t1, (h c).2.2⟩) (Cert.Reference15Ideal.Value.run m' g')⟩

/-- The reference runs, its arguments unchanged, its counters at zero. -/
theorem frameR : Cert.quiescent_Reference15Ideal := fun m g _ =>
  (θ_run Cert.Reference15Ideal.defs _ _).mono (fun r h => ⟨fun c => (h c).2.2,
      Idealize.ShloMosaic.sem_eq_zero_of_no_sems (by decide) r.2⟩)
    (Cert.Reference15Ideal.Value.run (F := Ideal) m g)

end Cert.Proof.MixOutFwd

end
-- ==== Proof.WgradUp.lean ====
/- THE WEIGHT GRADIENT OF THE FIRST NETWORK'S UP PRODUCT, the call that takes a token, block by block: each grid point takes one quarter of the columns of the
   layer's input and one quarter of the columns of the product's gradient, and writes their product over all 4224 rows.
   Here: what a point writes at an index (`out_eq`, `part_apply`), the places of its blocks in the arrays (`emb0` to
   `emb3`), and so the whole result as the reference's transposed product (`final3`, `run`). -/
module

public import proofs.«01_k».proof.Defs
public import proofs.«01_k».proof.Proof.Gen.Kernel16Ideal.Value
public import proofs.«01_k».proof.Proof.Gen.Reference16Ideal.Run
public import Idealize.ShloMosaic.Lib.Pointwise

@[expose] public section

noncomputable section

namespace Cert.Proof.WgradUp

open Cert.Kernel16Ideal Cert.Kernel16Ideal.Gen Cert.Kernel16Ideal.Value Idealize.ShloMosaic Idealize.ShloMosaic.TcCoe Idealize.SL.Sem

theorem hz2 : (![0, 0] : Fin 2 → Nat) = fun _ => 0 := funext fun a => by fin_cases a <;> rfl
theorem hz4 : (![0, 0, 0, 0] : Fin 4 → Nat) = fun _ => 0 := funext fun a => by fin_cases a <;> rfl

/-- What a point leaves in the output's staging buffer: the product of its two blocks, in the output block's shape. -/
theorem out_eq (c : Dev nD) (i : grid0.Coords) (arg3 : Memref sig .tc .vmem S4224x512 .bf16) (h3 : arg3.IsWhole)
    (arg4 : Memref sig .tc .vmem S4224x1408 .bf16) (h4 : arg4.IsWhole)
    (arg5 : Memref sig .tc .vmem S8x128 .f32) (h5 : arg5.IsWhole)
    (arg6 : Memref sig .tc .vmem S1x1x512x1408 .f32) (h6 : arg6.IsWhole) (hc0 : cond0_0 i) (hc1 : ¬cond0_1 i)
    (x0 : Vec Ideal S4224x512 .bf16) (x1 : Vec Ideal S4224x1408 .bf16) (x2 : Vec Ideal S8x128 .f32) :
    out0_A_3 c i arg3 h3 arg4 h4 arg5 h5 arg6 h6 hc0 hc1 x0 x1 x2 = k0_pay2 x0 x1 := by
  unfold out0_A_3
  rw [View.read_writes_eq_canon _ _ _ (cover0_A_3 c i arg3 h3 arg4 h4 arg5 h5 arg6 h6 hc0 hc1 x0 x1 x2)]
  unfold kernelRun0_A
  dsimp only
  sl_unfold_words
  rw [View.canon_unit_zero hz4]
  simp only [View.readAt_eq_ld, h3.read_unread, h4.read_unread, View.ld_unit_zero (S := S4224x512) hz2,
    View.ld_unit_zero (S := S4224x1408) hz2]

/-- A result element of a point: the sum over the rows of the products of a column of each block. -/
theorem part_apply (x0 : Vec Ideal S4224x512 .bf16) (x1 : Vec Ideal S4224x1408 .bf16) (j : S1x1x512x1408.Idx) :
    k0_pay2 x0 x1 j = ∑ k : Fin 4224, (x0 (ix2 k (j 2)) * x1 (ix2 k (j 3)) : EReal) := by
  pointwise [k0_pay2, k0_pay1]

/-- The whole result: the transposed product of the layer's input and the product's gradient, its rows cut in two
    halves and its columns in four quarters. -/
def G (n : FVec Ideal S4224x2048 .bf16) (d : FVec Ideal S4224x5632 .bf16) : FVec Ideal S4x2x1024x1408 .f32 := fun i =>
  ∑ k : Fin 4224, (n (ix2 k ⟨(i 1).val * 1024 + (i 2).val, by have := (i 1).isLt; have := (i 2).isLt; simp at *; omega⟩)
    * d (ix2 k ⟨(i 0).val * 1408 + (i 3).val, by have := (i 0).isLt; have := (i 3).isLt; simp at *; omega⟩) : EReal)

theorem ref_eq (n : FVec Ideal S4224x2048 .bf16) (d : FVec Ideal S4224x5632 .bf16) :
    transpose Cert.Reference16Ideal.S4x2x1024x1408 [2, 0, 1, 3] (shapeCast _ (transpose Cert.Reference16Ideal.S2048x5632 [1, 0]
      (Host.dotGeneral Cert.Reference16Ideal.dot_S4224x5632_S4224x2048_S5632x2048_0_0_1_1_n_n none (extf .f32 d Cert.Reference16Ideal.Gen.facts.bitsLt_bf16_f32) (extf .f32 n Cert.Reference16Ideal.Gen.facts.bitsLt_bf16_f32))
      Cert.Reference16Ideal.Gen.facts.transposes_S5632x2048_S2048x5632_1_0) Cert.Reference16Ideal.Gen.facts.shapeCasts_S2048x5632_S2x1024x4x1408)
      Cert.Reference16Ideal.Gen.facts.transposes_S2x1024x4x1408_S4x2x1024x1408_2_0_1_3 = G n d := by
  funext i
  unfold G
  idx_vars i
  pointwise []
  exact Finset.sum_congr rfl fun k _ => mul_comm _ _

variable (m : (ℓ : Loc nD τ sig) → Buf (Elt Ideal) ℓ) (ρ : Dev nD → PrngReg)

/-- The block indices at grid point `t`: quarter `t % 4` of the input's columns, quarter `t / 4` of the gradient's. -/
theorem idx0 : ∀ t : Fin cfg0.N, win0_0.index t (0 : Fin 2) = 0 ∧ win0_0.index t (1 : Fin 2) = t.val % 4 :=
  (by decide +kernel : ∀ t : Fin grid0.N, _)
theorem idx1 : ∀ t : Fin cfg0.N, win0_1.index t (0 : Fin 2) = 0 ∧ win0_1.index t (1 : Fin 2) = t.val / 4 :=
  (by decide +kernel : ∀ t : Fin grid0.N, _)
theorem idx3 : ∀ t : Fin cfg0.N, win0_3.index t (0 : Fin 4) = t.val / 4 ∧ win0_3.index t (1 : Fin 4) = t.val % 4 / 2
    ∧ win0_3.index t (2 : Fin 4) = t.val % 2 ∧ win0_3.index t (3 : Fin 4) = 0 :=
  (by decide +kernel : ∀ t : Fin grid0.N, _)

/-- The place of an element of a block in its array. -/
theorem emb0 (t : Fin cfg0.N) (k : Fin 4224) (r : Fin 512) : ((cfg0.win 0).blk t).view.emb (ix2 k r)
    = ix2 k ⟨t.val % 4 * 512 + r.val, by have := r.isLt; omega⟩ := by
  obtain ⟨e0, e1⟩ := idx0 t
  funext a; apply Fin.ext
  match a with
  | ⟨0, _⟩ => show win0_0.index t (0 : Fin 2) * 4224 + 1 * k.val = k.val; omega
  | ⟨1, _⟩ => show win0_0.index t (1 : Fin 2) * 512 + 1 * r.val = t.val % 4 * 512 + r.val; omega

theorem emb1 (t : Fin cfg0.N) (k : Fin 4224) (l : Fin 1408) : ((cfg0.win 1).blk t).view.emb (ix2 k l)
    = ix2 k ⟨t.val / 4 * 1408 + l.val, by have := l.isLt; have := t.isLt; have : cfg0.N = 16 := rfl; omega⟩ := by
  obtain ⟨e0, e1⟩ := idx1 t
  funext a; apply Fin.ext
  match a with
  | ⟨0, _⟩ => show win0_1.index t (0 : Fin 2) * 4224 + 1 * k.val = k.val; omega
  | ⟨1, _⟩ => show win0_1.index t (1 : Fin 2) * 1408 + 1 * l.val = t.val / 4 * 1408 + l.val; omega

theorem emb3 (t : Fin cfg0.N) (r : Fin 512) (l : Fin 1408) : ((cfg0.win 3).blk t).view.emb (ix4 0 0 r l)
    = ix4 ⟨t.val / 4, by have := t.isLt; have : cfg0.N = 16 := rfl; omega⟩ ⟨t.val % 4 / 2, by omega⟩
        ⟨t.val % 2 * 512 + r.val, by have := r.isLt; omega⟩ l := by
  obtain ⟨e0, e1, e2, e3⟩ := idx3 t
  funext a; apply Fin.ext
  match a with
  | ⟨0, _⟩ => show win0_3.index t (0 : Fin 4) * 1 + 1 * 0 = t.val / 4; omega
  | ⟨1, _⟩ => show win0_3.index t (1 : Fin 4) * 1 + 1 * 0 = t.val % 4 / 2; omega
  | ⟨2, _⟩ => show win0_3.index t (2 : Fin 4) * 512 + 1 * r.val = t.val % 2 * 512 + r.val; omega
  | ⟨3, _⟩ => show win0_3.index t (3 : Fin 4) * 1408 + 1 * l.val = l.val; omega

/-- What a point writes back is its block of the whole result. -/
theorem flushed3_eq (c : Dev nD) (t : Fin cfg0.N) :
    (dats m 0 c).flushed 3 t = ((cfg0.win 3).blk t).view.read (Elt Ideal) (G (V m c main_arg0) (V m c main_arg1)) := by
  rw [flushed3_A, out_eq]
  funext j
  show k0_pay2 (iblk m c 0 t) (iblk m c 1 t) j = G (V m c main_arg0) (V m c main_arg1) (((cfg0.win 3).blk t).view.emb j)
  rw [part_apply]
  idx_vars j
  fin_cases j0; fin_cases j1
  rw [show (((cfg0.win 3).blk t).view.emb (ix4 (⟨0, by decide⟩ : Fin 1) (⟨0, by decide⟩ : Fin 1) j2 j3)) = _ from emb3 t j2 j3]
  unfold G
  refine Finset.sum_congr rfl fun k _ => ?_
  have e : t.val % 4 / 2 * 1024 + (t.val % 2 * 512 + j2.val) = t.val % 4 * 512 + j2.val := by omega
  refine congrArg₂ (fun a b : EReal => a * b) ?_ ?_
  · show V m c main_arg0 (((cfg0.win 0).blk t).view.emb (ix2 k j2)) = _
    rw [emb0]
    exact congrArg (V m c main_arg0) (congrArg (ix2 k) (Fin.ext e.symm))
  · show V m c main_arg1 (((cfg0.win 1).blk t).view.emb (ix2 k j3)) = _
    rw [emb1]
    rfl

/-- Every element of the result is in some point's block. -/
theorem covered3 (i : S4x2x1024x1408.Idx) :
    ∃ t : Fin cfg0.N, (cfg0.win 3).flush t = true ∧ i ∈ ((cfg0.win 3).blk t).view.set := by
  idx_vars i
  have hi0 := i0.isLt; have hi1 := i1.isLt; have hi2 := i2.isLt
  have hN : i0.val * 4 + i1.val * 2 + i2.val / 512 < cfg0.N := by show _ < 16; omega
  refine ⟨⟨_, hN⟩, flush0_3 _, ?_⟩
  have h := ((cfg0.win 3).blk ⟨_, hN⟩).view.emb_mem_set (ix4 0 0 ⟨i2.val % 512, by omega⟩ i3)
  have e : ((cfg0.win 3).blk ⟨_, hN⟩).view.emb (ix4 0 0 ⟨i2.val % 512, by omega⟩ i3) = ix4 i0 i1 i2 i3 := by
    rw [emb3]
    funext a; apply Fin.ext
    match a with
    | ⟨0, _⟩ => show (i0.val * 4 + i1.val * 2 + i2.val / 512) / 4 = i0.val; omega
    | ⟨1, _⟩ => show (i0.val * 4 + i1.val * 2 + i2.val / 512) % 4 / 2 = i1.val; omega
    | ⟨2, _⟩ => show (i0.val * 4 + i1.val * 2 + i2.val / 512) % 2 * 512 + i2.val % 512 = i2.val; omega
    | ⟨3, _⟩ => rfl
  rw [e] at h
  exact h

/-- The result array after the run. -/
theorem final3 (c : Dev nD) : (dats m 0 c).arrAt 3 cfg0.N
    = G (m ((c : Thread nD τ).loc main_arg0)) (m ((c : Thread nD τ).loc main_arg1)) :=
  ((dats m 0 c).arrAt_eq_of_cover 3 (G (V m c main_arg0) (V m c main_arg1)) (fun t _ => flushed3_eq m c t) covered3).trans
    (by rw [V_main_arg0, V_main_arg1])

/-- The kernel and the reference end with equal results. -/
theorem algebraic : Cert.algebraic_Kernel16Ideal_Reference16Ideal := fun m g m' g' _ hm =>
  ⟨fun c => G (m ((c : Thread nD τ).loc main_arg0)) (m ((c : Thread nD τ).loc main_arg1)),
    (θ_run defs _ _).mono (fun r h c => ⟨(h c).1.trans (final3 m c), (h c).2⟩) (run_blocks m g),
    (θ_run Cert.Reference16Ideal.defs _ _).mono (fun r h c => ⟨(h c).1.trans
      ((ref_eq _ _).trans (by rw [(hm c).1, (hm c).2.1])), (h c).2⟩) (Cert.Reference16Ideal.Value.run m' g')⟩

/-- The reference runs, its arguments unchanged, its counters at zero. -/
theorem frameR : Cert.quiescent_Reference16Ideal := fun m g _ =>
  (θ_run Cert.Reference16Ideal.defs _ _).mono (fun r h => ⟨fun c => (h c).2,
      Idealize.ShloMosaic.sem_eq_zero_of_no_sems (by decide) r.2⟩)
    (Cert.Reference16Ideal.Value.run (F := Ideal) m g)

end Cert.Proof.WgradUp

end
-- ==== Proof.FfnOwnTable.lean ====
/- THE TABLE OF THE OWN SHARD'S GATE AND UP CALL: the call's column panels are named by a table that the host fills.
   Here, for the program at floats and for the ideal one: the table's words (`word`), the blocks' places they give (`tr1` and
   on), and that every block lies inside its array (`ok`). -/
module

public import proofs.«01_k».proof.Proof.Gen.Kernel20.Frame
public import proofs.«01_k».proof.Proof.Gen.Kernel20Ideal.Frame

@[expose] public section

noncomputable section

namespace Cert.Proof.FfnOwnTable

open Idealize.ShloMosaic Idealize.ShloMosaic.TcCoe Idealize.SL.Sem

section Kernel20

open Cert.Kernel20 Cert.Kernel20.Gen

variable {F : FTy → Type} [FloatOps F] (m : (ℓ : Loc Cert.Kernel20.nD Cert.Kernel20.τ Cert.Kernel20.sig) → Buf (Elt F) ℓ)

namespace Kernel20

theorem coord (i : grid0.Coords) : (![(Scalar.indexCast (BitVec.ofNat 32 (i 0).val) : Index).toNat] : Fin 1 → Nat) 0 = (i 0).val := by
  have h0 : (i 0).val < 1 := (i 0).isLt
  simp [Scalar.indexCast, BitVec.toNat_ofNat]
  try omega

/-- The table's word at a grid point. -/
theorem word (i : grid0.Coords) (off : Fin 1 → Nat) (ho : off 0 = (i 0).val)
    (h : ∀ a, off a + S1.size a ≤ S1.size a) (h1 : S1.numel = 1) :
    ((tbl m).at 0 (Rect.unit (s := S1) off S1.size h) h1 : BitVec 32) = BitVec.ofNat 32 0 := by
  have h0 : (i 0).val < 1 := (i 0).isLt
  have e' : off = ![0] := funext fun a => by fin_cases a; exact (ho.trans (Nat.lt_one_iff.mp h0) : off 0 = 0)
  subst e'
  rfl

/-- The blocks' places that read it. -/
theorem tr1 (i : grid0.Coords) : cc0_transform_1 k0_off1_inb numel1_S1 (tbl m) i = ![0, 0, 0] := by
  refine (congrArg (fun b : BitVec 32 => (![b.toNat, 0, 0] : Fin 3 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr2 (i : grid0.Coords) : cc0_transform_2 k0_off1_inb numel1_S1 (tbl m) i = ![0, 0, 0] := by
  refine (congrArg (fun b : BitVec 32 => (![b.toNat, 0, 0] : Fin 3 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr4 (i : grid0.Coords) : cc0_transform_4 k0_off1_inb numel1_S1 (tbl m) i = ![(i 1).val, 0] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr5 (i : grid0.Coords) : cc0_transform_5 k0_off1_inb numel1_S1 (tbl m) i = ![(i 1).val, 0] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr6 (i : grid0.Coords) : cc0_transform_6 k0_off1_inb numel1_S1 (tbl m) i = ![(i 1).val, 0] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

/-- Every block lies inside its array. -/
theorem ok : Ok m := by
  have h0 : ∀ i : grid0.Coords, (i 0).val < 1 := fun i => (i 0).isLt
  have h1 : ∀ i : grid0.Coords, (i 1).val < 6 := fun i => (i 1).isLt
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  all_goals
    have := h0 i
    have := h1 i
    intro a
  · rw [tr1]; fin_cases a <;> simp [S1x2048x1408, S4x2048x1408] <;> omega
  · rw [tr2]; fin_cases a <;> simp [S1x2048x1408, S4x2048x1408] <;> omega
  · rw [tr4]; fin_cases a <;> simp [S704x1408, S4224x5632] <;> omega
  · rw [tr5]; fin_cases a <;> simp [S704x1408, S4224x5632] <;> omega
  · rw [tr6]; fin_cases a <;> simp [S704x1408, S4224x5632] <;> omega

end Kernel20

end Kernel20

section Kernel20Ideal

open Cert.Kernel20Ideal Cert.Kernel20Ideal.Gen

variable {F : FTy → Type} [FloatOps F] (m : (ℓ : Loc Cert.Kernel20Ideal.nD Cert.Kernel20Ideal.τ Cert.Kernel20Ideal.sig) → Buf (Elt F) ℓ)

namespace Kernel20Ideal

theorem coord (i : grid0.Coords) : (![(Scalar.indexCast (BitVec.ofNat 32 (i 0).val) : Index).toNat] : Fin 1 → Nat) 0 = (i 0).val := by
  have h0 : (i 0).val < 1 := (i 0).isLt
  simp [Scalar.indexCast, BitVec.toNat_ofNat]
  try omega

/-- The table's word at a grid point. -/
theorem word (i : grid0.Coords) (off : Fin 1 → Nat) (ho : off 0 = (i 0).val)
    (h : ∀ a, off a + S1.size a ≤ S1.size a) (h1 : S1.numel = 1) :
    ((tbl m).at 0 (Rect.unit (s := S1) off S1.size h) h1 : BitVec 32) = BitVec.ofNat 32 0 := by
  have h0 : (i 0).val < 1 := (i 0).isLt
  have e' : off = ![0] := funext fun a => by fin_cases a; exact (ho.trans (Nat.lt_one_iff.mp h0) : off 0 = 0)
  subst e'
  rfl

/-- The blocks' places that read it. -/
theorem tr1 (i : grid0.Coords) : cc0_transform_1 k0_off1_inb numel1_S1 (tbl m) i = ![0, 0, 0] := by
  refine (congrArg (fun b : BitVec 32 => (![b.toNat, 0, 0] : Fin 3 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr2 (i : grid0.Coords) : cc0_transform_2 k0_off1_inb numel1_S1 (tbl m) i = ![0, 0, 0] := by
  refine (congrArg (fun b : BitVec 32 => (![b.toNat, 0, 0] : Fin 3 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr4 (i : grid0.Coords) : cc0_transform_4 k0_off1_inb numel1_S1 (tbl m) i = ![(i 1).val, 0] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr5 (i : grid0.Coords) : cc0_transform_5 k0_off1_inb numel1_S1 (tbl m) i = ![(i 1).val, 0] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr6 (i : grid0.Coords) : cc0_transform_6 k0_off1_inb numel1_S1 (tbl m) i = ![(i 1).val, 0] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

/-- Every block lies inside its array. -/
theorem ok : Ok m := by
  have h0 : ∀ i : grid0.Coords, (i 0).val < 1 := fun i => (i 0).isLt
  have h1 : ∀ i : grid0.Coords, (i 1).val < 6 := fun i => (i 1).isLt
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  all_goals
    have := h0 i
    have := h1 i
    intro a
  · rw [tr1]; fin_cases a <;> simp [S1x2048x1408, S4x2048x1408] <;> omega
  · rw [tr2]; fin_cases a <;> simp [S1x2048x1408, S4x2048x1408] <;> omega
  · rw [tr4]; fin_cases a <;> simp [S704x1408, S4224x5632] <;> omega
  · rw [tr5]; fin_cases a <;> simp [S704x1408, S4224x5632] <;> omega
  · rw [tr6]; fin_cases a <;> simp [S704x1408, S4224x5632] <;> omega

end Kernel20Ideal

end Kernel20Ideal

end Cert.Proof.FfnOwnTable

end
-- ==== Proof.FfnOwnPoint.lean ====
/- THE OWN SHARD'S GATE AND UP PRODUCTS, A POINT'S BLOCKS: a grid point multiplies 704 rows of the layer's input by one column panel of each
   weight, in five chunks of 256 columns and one of 128; the last chunk's two products are one product of the two weights' columns
   side by side.  Here: the three blocks a point leaves, as one product each and as the gated unit of the two (`out4_eq`, `out5_eq`, `out6_eq`). -/
module

public import proofs.«01_k».proof.Proof.Gen.Kernel20Ideal.Frame
public import Idealize.ShloMosaic.Lib.Pointwise

@[expose] public section

noncomputable section

namespace Cert.Proof.FfnOwnPoint

open Cert.Kernel20Ideal Cert.Kernel20Ideal.Gen Idealize.ShloMosaic Idealize.ShloMosaic.TcCoe Idealize.SL.Sem

/-- The gated unit. -/
def swiglu (g u : EReal) : EReal := g * Ideal.logistic g * u

/-- An element of a block's product with a column panel. -/
def dot (x : Vec Ideal S704x2048 .bf16) (w : Vec Ideal S1x2048x1408 .bf16) (r : Fin 704) (l : Fin 1408) : EReal :=
  ∑ k : Fin 2048, (x (ix2 r k) * w (ix3 0 k l) : EReal)

def prodB (x : Vec Ideal S704x2048 .bf16) (w : Vec Ideal S1x2048x1408 .bf16) : Vec Ideal S704x1408 .bf16 := fun j => dot x w (j 0) (j 1)

def unitB (x : Vec Ideal S704x2048 .bf16) (w v : Vec Ideal S1x2048x1408 .bf16) : Vec Ideal S704x1408 .bf16 :=
  fun j => swiglu (dot x w (j 0) (j 1)) (dot x v (j 0) (j 1))

theorem hz2 : (![0, 0] : Fin 2 → Nat) = fun _ => 0 := funext fun a => by fin_cases a <;> rfl

/-- The place of a chunk's element in the block. -/
theorem emb_chunk (p n : Nat) (h : ∀ a, ![0, p] a + ![704, n] a ≤ S704x1408.size a) (a : Fin 704) (b : Fin n) :
    (Rect.unit (s := S704x1408) ![0, p] ![704, n] h).emb (ix2 a b) = ix2 a ⟨p + b.val, Nat.lt_of_lt_of_le (Nat.add_lt_add_left b.isLt p) (h 1)⟩ := by
  funext k; apply Fin.ext
  match k with
  | ⟨0, _⟩ => show 0 + 1 * a.val = a.val; omega
  | ⟨1, _⟩ => show p + 1 * b.val = p + b.val; omega

variable (c : Dev nD) (i : grid0.Coords) (arg3 : Memref sig .tc .vmem S704x2048 .bf16) (h3 : arg3.IsWhole) (arg4 : Memref sig .tc .vmem S1x2048x1408 .bf16) (h4 : arg4.IsWhole)
    (arg5 : Memref sig .tc .vmem S1x2048x1408 .bf16) (h5 : arg5.IsWhole) (arg6 : Memref sig .tc .vmem S8x128 .f32) (h6 : arg6.IsWhole)
    (arg7 : Memref sig .tc .vmem S704x1408 .bf16) (h7 : arg7.IsWhole) (arg8 : Memref sig .tc .vmem S704x1408 .bf16) (h8 : arg8.IsWhole)
    (arg9 : Memref sig .tc .vmem S704x1408 .bf16) (h9 : arg9.IsWhole)
    (x0 : Vec Ideal S704x2048 .bf16) (x1 x2 : Vec Ideal S1x2048x1408 .bf16) (x3 : Vec Ideal S8x128 .f32) (xt0 : TbBuf0 (F := Ideal) c tbM0_0)

/-- The gate product. -/
theorem out4_eq : out0_A_4 c i arg3 h3 arg4 h4 arg5 h5 arg6 h6 arg7 h7 arg8 h8 arg9 h9 x0 x1 x2 x3 xt0 = prodB x0 x1 := by
  unfold out0_A_4
  rw [View.read_writes_eq_canon _ _ _ (cover0_A_4 c i arg3 h3 arg4 h4 arg5 h5 arg6 h6 arg7 h7 arg8 h8 arg9 h9 x0 x1 x2 x3 xt0)]
  funext y
  refine View.canon_apply_of_pieces (prodB x0 x1) _ ?_ y (cover0_A_4 c i arg3 h3 arg4 h4 arg5 h5 arg6 h6 arg7 h7 arg8 h8 arg9 h9 x0 x1 x2 x3 xt0 y)
  intro p hp
  unfold kernelRun0_A at hp
  dsimp only at hp
  simp only [List.mem_cons, List.mem_nil_iff, or_false] at hp
  rcases hp with rfl | rfl | rfl | rfl | rfl | rfl
  all_goals
    intro w
    sl_unfold_words
    simp only [View.readAt_eq_ld, h3.read_unread, h4.read_unread, h5.read_unread, View.ld_unit_zero (S := S704x2048) hz2]
    idx_vars w
    refine Eq.trans ?_ (congrArg (prodB x0 x1) (emb_chunk _ _ _ w0 w1)).symm
    unfold prodB dot
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals simp only [Nat.zero_add]
  all_goals rfl

/-- The up product. -/
theorem out5_eq : out0_A_5 c i arg3 h3 arg4 h4 arg5 h5 arg6 h6 arg7 h7 arg8 h8 arg9 h9 x0 x1 x2 x3 xt0 = prodB x0 x2 := by
  unfold out0_A_5
  rw [View.read_writes_eq_canon _ _ _ (cover0_A_5 c i arg3 h3 arg4 h4 arg5 h5 arg6 h6 arg7 h7 arg8 h8 arg9 h9 x0 x1 x2 x3 xt0)]
  funext y
  refine View.canon_apply_of_pieces (prodB x0 x2) _ ?_ y (cover0_A_5 c i arg3 h3 arg4 h4 arg5 h5 arg6 h6 arg7 h7 arg8 h8 arg9 h9 x0 x1 x2 x3 xt0 y)
  intro p hp
  unfold kernelRun0_A at hp
  dsimp only at hp
  simp only [List.mem_cons, List.mem_nil_iff, or_false] at hp
  rcases hp with rfl | rfl | rfl | rfl | rfl | rfl
  all_goals
    intro w
    sl_unfold_words
    simp only [View.readAt_eq_ld, h3.read_unread, h4.read_unread, h5.read_unread, View.ld_unit_zero (S := S704x2048) hz2]
    idx_vars w
    refine Eq.trans ?_ (congrArg (prodB x0 x2) (emb_chunk _ _ _ w0 w1)).symm
    unfold prodB dot
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals simp only [Nat.zero_add]
  all_goals rfl

/-- The gated unit. -/
theorem out6_eq : out0_A_6 c i arg3 h3 arg4 h4 arg5 h5 arg6 h6 arg7 h7 arg8 h8 arg9 h9 x0 x1 x2 x3 xt0 = unitB x0 x1 x2 := by
  unfold out0_A_6
  rw [View.read_writes_eq_canon _ _ _ (cover0_A_6 c i arg3 h3 arg4 h4 arg5 h5 arg6 h6 arg7 h7 arg8 h8 arg9 h9 x0 x1 x2 x3 xt0)]
  funext y
  refine View.canon_apply_of_pieces (unitB x0 x1 x2) _ ?_ y (cover0_A_6 c i arg3 h3 arg4 h4 arg5 h5 arg6 h6 arg7 h7 arg8 h8 arg9 h9 x0 x1 x2 x3 xt0 y)
  intro p hp
  unfold kernelRun0_A at hp
  dsimp only at hp
  simp only [List.mem_cons, List.mem_nil_iff, or_false] at hp
  rcases hp with rfl | rfl | rfl | rfl | rfl | rfl
  all_goals
    intro w
    sl_unfold_words
    simp only [View.readAt_eq_ld, h3.read_unread, h4.read_unread, h5.read_unread, View.ld_unit_zero (S := S704x2048) hz2]
    idx_vars w
    refine Eq.trans ?_ (congrArg (unitB x0 x1 x2) (emb_chunk _ _ _ w0 w1)).symm
    unfold unitB swiglu dot
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals simp only [Nat.zero_add]
  all_goals rfl

end Cert.Proof.FfnOwnPoint

end
-- ==== Proof.FfnOwn.lean ====
/- THE OWN SHARD'S GATE AND UP PRODUCTS, the whole call: the grid walks the own shard's column panel, and in each the six blocks
   of 704 rows.  Here: the places of the blocks in the arrays (`emb0` to `emb6`), read from the table (FfnOwnTable); the three whole
   results (`final4` to `final6`); the run with them (`run_blocks`), and
   the comparison with the reference (`algebraic`). -/
module

public import proofs.«01_k».proof.Defs
public import proofs.«01_k».proof.Proof.FfnOwnTable
public import proofs.«01_k».proof.Proof.FfnOwnPoint
public import proofs.«01_k».proof.Proof.Gen.Reference20Ideal.Run
public import Idealize.ShloMosaic.Lib.Pointwise

@[expose] public section

noncomputable section

namespace Cert.Proof.FfnOwn

open Cert.Kernel20Ideal Cert.Kernel20Ideal.Gen Cert.Proof.FfnOwnPoint Cert.Proof.FfnOwnTable.Kernel20Ideal Idealize.ShloMosaic Idealize.ShloMosaic.TcCoe Idealize.SL.Sem

/-- The tables' side conditions of the two programs. -/
theorem okP (m : (ℓ : Loc Cert.Kernel20.nD Cert.Kernel20.τ Cert.Kernel20.sig) → Buf (Elt Bits) ℓ) : Cert.Kernel20.Gen.Ok m :=
  Cert.Proof.FfnOwnTable.Kernel20.ok m
theorem okI (m : (ℓ : Loc nD τ sig) → Buf (Elt Ideal) ℓ) : Ok m := ok m

/-- An element of the product with a whole weight, its four column panels side by side. -/
def wdot (n : FVec Ideal S4224x2048 .bf16) (w : FVec Ideal S4x2048x1408 .bf16) (r : Fin 4224) (l : Fin 5632) : EReal :=
  ∑ k : Fin 2048, (n (ix2 r k) * w (ix3 ⟨l.val / 1408, by have := l.isLt; omega⟩ k ⟨l.val % 1408, by omega⟩) : EReal)

/-- A product with a whole weight, and the gated unit of two. -/
def prodG (n : FVec Ideal S4224x2048 .bf16) (w : FVec Ideal S4x2048x1408 .bf16) : FVec Ideal S4224x5632 .bf16 := fun i => wdot n w (i 0) (i 1)
def unitG (n : FVec Ideal S4224x2048 .bf16) (w v : FVec Ideal S4x2048x1408 .bf16) : FVec Ideal S4224x5632 .bf16 :=
  fun i => swiglu (wdot n w (i 0) (i 1)) (wdot n v (i 0) (i 1))

/-- The first column panel. -/
def keep (x : FVec Ideal S4224x5632 .bf16) : FVec Ideal S4224x1408 .bf16 := fun i => x (ix2 (i 0) ⟨(i 1).val, lt_of_lt_of_le (i 1).isLt (by decide)⟩)

section Ref

variable (n : FVec Ideal S4224x2048 .bf16) (w v : FVec Ideal S4x2048x1408 .bf16)

/-- The reference's results. -/
theorem refProd (w : FVec Ideal S4x2048x1408 .bf16) : (truncf .bf16 (extractStridedSlice Cert.Reference20Ideal.S4224x1408 ![0, 0] (Host.dotGeneral Cert.Reference20Ideal.dot_S4224x2048_S2048x5632_S4224x5632_1_0_0_1_n_n none (extf .f32 n Cert.Reference20Ideal.Gen.facts.bitsLt_bf16_f32) (shapeCast Cert.Reference20Ideal.S2048x5632 (transpose Cert.Reference20Ideal.S2048x4x1408 [1, 0, 2] (extf .f32 w Cert.Reference20Ideal.Gen.facts.bitsLt_bf16_f32) Cert.Reference20Ideal.Gen.facts.transposes_S4x2048x1408_S2048x4x1408_1_0_2) Cert.Reference20Ideal.Gen.facts.shapeCasts_S2048x4x1408_S2048x5632)) Cert.Reference20Ideal.Gen.facts.slices_S4224x5632_S4224x1408_0_0) Cert.Reference20Ideal.Gen.facts.bitsLt_bf16_f32 : FVec Ideal S4224x1408 .bf16) = keep (prodG n w) := by
  funext i
  idx_vars i
  unfold keep prodG wdot
  pointwise []

theorem refUnit : (truncf .bf16 (extractStridedSlice Cert.Reference20Ideal.S4224x1408 ![0, 0] (mulf (mulf (Host.dotGeneral Cert.Reference20Ideal.dot_S4224x2048_S2048x5632_S4224x5632_1_0_0_1_n_n none (extf .f32 n Cert.Reference20Ideal.Gen.facts.bitsLt_bf16_f32) (shapeCast Cert.Reference20Ideal.S2048x5632 (transpose Cert.Reference20Ideal.S2048x4x1408 [1, 0, 2] (extf .f32 w Cert.Reference20Ideal.Gen.facts.bitsLt_bf16_f32) Cert.Reference20Ideal.Gen.facts.transposes_S4x2048x1408_S2048x4x1408_1_0_2) Cert.Reference20Ideal.Gen.facts.shapeCasts_S2048x4x1408_S2048x5632)) (Host.divf (broadcastInDim Cert.Reference20Ideal.S4224x5632 ![] Cert.Reference20Ideal.Gen.facts.bcast_S_S4224x5632 (constant Cert.Reference20Ideal.S_ .f32 0x3F800000#32)) (addf (broadcastInDim Cert.Reference20Ideal.S4224x5632 ![] Cert.Reference20Ideal.Gen.facts.bcast_S_S4224x5632 (constant Cert.Reference20Ideal.S_ .f32 0x3F800000#32)) (Host.exp (Host.negf (Host.dotGeneral Cert.Reference20Ideal.dot_S4224x2048_S2048x5632_S4224x5632_1_0_0_1_n_n none (extf .f32 n Cert.Reference20Ideal.Gen.facts.bitsLt_bf16_f32) (shapeCast Cert.Reference20Ideal.S2048x5632 (transpose Cert.Reference20Ideal.S2048x4x1408 [1, 0, 2] (extf .f32 w Cert.Reference20Ideal.Gen.facts.bitsLt_bf16_f32) Cert.Reference20Ideal.Gen.facts.transposes_S4x2048x1408_S2048x4x1408_1_0_2) Cert.Reference20Ideal.Gen.facts.shapeCasts_S2048x4x1408_S2048x5632))))))) (Host.dotGeneral Cert.Reference20Ideal.dot_S4224x2048_S2048x5632_S4224x5632_1_0_0_1_n_n none (extf .f32 n Cert.Reference20Ideal.Gen.facts.bitsLt_bf16_f32) (shapeCast Cert.Reference20Ideal.S2048x5632 (transpose Cert.Reference20Ideal.S2048x4x1408 [1, 0, 2] (extf .f32 v Cert.Reference20Ideal.Gen.facts.bitsLt_bf16_f32) Cert.Reference20Ideal.Gen.facts.transposes_S4x2048x1408_S2048x4x1408_1_0_2) Cert.Reference20Ideal.Gen.facts.shapeCasts_S2048x4x1408_S2048x5632))) Cert.Reference20Ideal.Gen.facts.slices_S4224x5632_S4224x1408_0_0) Cert.Reference20Ideal.Gen.facts.bitsLt_bf16_f32 : FVec Ideal S4224x1408 .bf16) = keep (unitG n w v) := by
  funext i
  idx_vars i
  unfold keep unitG wdot swiglu Ideal.logistic
  pointwise []

end Ref

variable (m : (ℓ : Loc nD τ sig) → Buf (Elt Ideal) ℓ) (ρ : Dev nD → PrngReg)

/-- The pipeline at the call's table. -/
abbrev cf : Pipeline.Cfg sig Λ₀ := cfgM m (okI m)

theorem hN : (cf m).N = 6 := rfl

/-- The grid's coordinates at point `t`: panel `t / 6`, rows' block `t % 6`. -/
theorem co : ∀ t : Fin grid0.N, ((grid0.coords t) 0).val = t.val / 6 ∧ ((grid0.coords t) 1).val = t.val % 6 := by decide +kernel

/-- The block indices at grid point `t`, and the places of the blocks' elements. -/
theorem idx0 (t : Fin (cf m).N) : ((cf m).win 0).index t (0 : Fin 2) = t.val % 6 ∧ ((cf m).win 0).index t (1 : Fin 2) = 0 :=
  (by decide +kernel : ∀ t : Fin grid0.N, cc0_transform_0 (grid0.coords t) (0 : Fin 2) = t.val % 6 ∧ cc0_transform_0 (grid0.coords t) (1 : Fin 2) = 0) t

theorem idx1 (t : Fin (cf m).N) : ((cf m).win 1).index t (0 : Fin 3) = 0 ∧ ((cf m).win 1).index t (1 : Fin 3) = 0 ∧ ((cf m).win 1).index t (2 : Fin 3) = 0 := by
  have e : ((cf m).win 1).index t = (![0, 0, 0] : Fin 3 → Nat) := tr1 m (grid0.coords t)
  rw [e]
  exact ⟨rfl, rfl, rfl⟩

theorem idx2 (t : Fin (cf m).N) : ((cf m).win 2).index t (0 : Fin 3) = 0 ∧ ((cf m).win 2).index t (1 : Fin 3) = 0 ∧ ((cf m).win 2).index t (2 : Fin 3) = 0 := by
  have e : ((cf m).win 2).index t = (![0, 0, 0] : Fin 3 → Nat) := tr2 m (grid0.coords t)
  rw [e]
  exact ⟨rfl, rfl, rfl⟩

theorem idx4 (t : Fin (cf m).N) : ((cf m).win 4).index t (0 : Fin 2) = t.val % 6 ∧ ((cf m).win 4).index t (1 : Fin 2) = 0 := by
  have e : ((cf m).win 4).index t = (![((grid0.coords t) 1).val, 0] : Fin 2 → Nat) := tr4 m (grid0.coords t)
  rw [e]
  exact ⟨(co t).2, rfl⟩

theorem idx5 (t : Fin (cf m).N) : ((cf m).win 5).index t (0 : Fin 2) = t.val % 6 ∧ ((cf m).win 5).index t (1 : Fin 2) = 0 := by
  have e : ((cf m).win 5).index t = (![((grid0.coords t) 1).val, 0] : Fin 2 → Nat) := tr5 m (grid0.coords t)
  rw [e]
  exact ⟨(co t).2, rfl⟩

theorem idx6 (t : Fin (cf m).N) : ((cf m).win 6).index t (0 : Fin 2) = t.val % 6 ∧ ((cf m).win 6).index t (1 : Fin 2) = 0 := by
  have e : ((cf m).win 6).index t = (![((grid0.coords t) 1).val, 0] : Fin 2 → Nat) := tr6 m (grid0.coords t)
  rw [e]
  exact ⟨(co t).2, rfl⟩

theorem emb0 (t : Fin (cf m).N) (r : Fin 704) (k : Fin 2048) : (((cf m).win 0).blk t).view.emb (ix2 r k)
    = ix2 ⟨t.val % 6 * 704 + r.val, by have := r.isLt; have := t.isLt; have := hN m; omega⟩ k := by
  obtain ⟨e0, e1⟩ := idx0 m t
  funext a; apply Fin.ext
  match a with
  | ⟨0, _⟩ => show ((cf m).win 0).index t (0 : Fin 2) * 704 + 1 * r.val = t.val % 6 * 704 + r.val; omega
  | ⟨1, _⟩ => show ((cf m).win 0).index t (1 : Fin 2) * 2048 + 1 * k.val = k.val; omega

theorem emb1 (t : Fin (cf m).N) (k : Fin 2048) (l : Fin 1408) : (((cf m).win 1).blk t).view.emb (ix3 0 k l)
    = ix3 ⟨0, by have := t.isLt; have := hN m; omega⟩ k l := by
  obtain ⟨e0, e1, e2⟩ := idx1 m t
  funext a; apply Fin.ext
  match a with
  | ⟨0, _⟩ => show ((cf m).win 1).index t (0 : Fin 3) * 1 + 1 * 0 = 0; omega
  | ⟨1, _⟩ => show ((cf m).win 1).index t (1 : Fin 3) * 2048 + 1 * k.val = k.val; omega
  | ⟨2, _⟩ => show ((cf m).win 1).index t (2 : Fin 3) * 1408 + 1 * l.val = l.val; omega

theorem emb2 (t : Fin (cf m).N) (k : Fin 2048) (l : Fin 1408) : (((cf m).win 2).blk t).view.emb (ix3 0 k l)
    = ix3 ⟨0, by have := t.isLt; have := hN m; omega⟩ k l := by
  obtain ⟨e0, e1, e2⟩ := idx2 m t
  funext a; apply Fin.ext
  match a with
  | ⟨0, _⟩ => show ((cf m).win 2).index t (0 : Fin 3) * 1 + 1 * 0 = 0; omega
  | ⟨1, _⟩ => show ((cf m).win 2).index t (1 : Fin 3) * 2048 + 1 * k.val = k.val; omega
  | ⟨2, _⟩ => show ((cf m).win 2).index t (2 : Fin 3) * 1408 + 1 * l.val = l.val; omega

theorem emb4 (t : Fin (cf m).N) (r : Fin 704) (l : Fin 1408) : (((cf m).win 4).blk t).view.emb (ix2 r l)
    = ix2 ⟨t.val % 6 * 704 + r.val, by have := r.isLt; have := t.isLt; have := hN m; omega⟩ ⟨0 * 1408 + l.val, by have := l.isLt; have := t.isLt; have := hN m; omega⟩ := by
  obtain ⟨e0, e1⟩ := idx4 m t
  funext a; apply Fin.ext
  match a with
  | ⟨0, _⟩ => show ((cf m).win 4).index t (0 : Fin 2) * 704 + 1 * r.val = t.val % 6 * 704 + r.val; omega
  | ⟨1, _⟩ => show ((cf m).win 4).index t (1 : Fin 2) * 1408 + 1 * l.val = 0 * 1408 + l.val; omega

theorem emb5 (t : Fin (cf m).N) (r : Fin 704) (l : Fin 1408) : (((cf m).win 5).blk t).view.emb (ix2 r l)
    = ix2 ⟨t.val % 6 * 704 + r.val, by have := r.isLt; have := t.isLt; have := hN m; omega⟩ ⟨0 * 1408 + l.val, by have := l.isLt; have := t.isLt; have := hN m; omega⟩ := by
  obtain ⟨e0, e1⟩ := idx5 m t
  funext a; apply Fin.ext
  match a with
  | ⟨0, _⟩ => show ((cf m).win 5).index t (0 : Fin 2) * 704 + 1 * r.val = t.val % 6 * 704 + r.val; omega
  | ⟨1, _⟩ => show ((cf m).win 5).index t (1 : Fin 2) * 1408 + 1 * l.val = 0 * 1408 + l.val; omega

theorem emb6 (t : Fin (cf m).N) (r : Fin 704) (l : Fin 1408) : (((cf m).win 6).blk t).view.emb (ix2 r l)
    = ix2 ⟨t.val % 6 * 704 + r.val, by have := r.isLt; have := t.isLt; have := hN m; omega⟩ ⟨0 * 1408 + l.val, by have := l.isLt; have := t.isLt; have := hN m; omega⟩ := by
  obtain ⟨e0, e1⟩ := idx6 m t
  funext a; apply Fin.ext
  match a with
  | ⟨0, _⟩ => show ((cf m).win 6).index t (0 : Fin 2) * 704 + 1 * r.val = t.val % 6 * 704 + r.val; omega
  | ⟨1, _⟩ => show ((cf m).win 6).index t (1 : Fin 2) * 1408 + 1 * l.val = 0 * 1408 + l.val; omega

theorem flush4 (t : Fin (cf m).N) : ((cf m).win 4).flush t = true := by
  by_cases h : t.val + 1 = 6
  · show (true && (decide (t.val + 1 = 6) || _)) = true
    simp [h]
  · have hN : t.val + 1 < 6 := by have := t.isLt; have := hN m; omega
    have hne : ((cf m).win 4).index (⟨t.val + 1, hN⟩ : Fin (cf m).N) ≠ ((cf m).win 4).index t := fun he => by
      have a := congrFun he (0 : Fin 2)
      rw [(idx4 m _).1, (idx4 m t).1] at a
      have a : (t.val + 1) % 6 = t.val % 6 := a
      omega
    show (true && (decide (t.val + 1 = 6) || decide (∃ h : t.val + 1 < grid0.N, ((cf m).win 4).index ⟨t.val + 1, h⟩ ≠ ((cf m).win 4).index t))) = true
    rw [decide_eq_true (⟨hN, hne⟩ : ∃ h : t.val + 1 < grid0.N, ((cf m).win 4).index ⟨t.val + 1, h⟩ ≠ ((cf m).win 4).index t)]
    simp

theorem covered4 (i0 : Fin 4224) (i1 : Fin 5632) (hp : i1.val < 1408) :
    ∃ t : Fin (cf m).N, ((cf m).win 4).flush t = true ∧ (ix2 i0 i1 : S4224x5632.Idx) ∈ (((cf m).win 4).blk t).view.set := by
  have hi0 := i0.isLt; have hi1 := i1.isLt
  have hN : 0 * 6 + i0.val / 704 < (cf m).N := by show _ < 6; omega
  refine ⟨⟨_, hN⟩, flush4 m _, ?_⟩
  have h := (((cf m).win 4).blk ⟨_, hN⟩).view.emb_mem_set (ix2 ⟨i0.val % 704, by omega⟩ ⟨i1.val % 1408, by omega⟩)
  have e : (((cf m).win 4).blk ⟨_, hN⟩).view.emb (ix2 ⟨i0.val % 704, by omega⟩ ⟨i1.val % 1408, by omega⟩) = ix2 i0 i1 := by
    rw [emb4]
    funext a; apply Fin.ext
    match a with
    | ⟨0, _⟩ => show (0 * 6 + i0.val / 704) % 6 * 704 + i0.val % 704 = i0.val; omega
    | ⟨1, _⟩ => show 0 * 1408 + i1.val % 1408 = i1.val; omega
  rw [e] at h
  exact h

theorem flush5 (t : Fin (cf m).N) : ((cf m).win 5).flush t = true := by
  by_cases h : t.val + 1 = 6
  · show (true && (decide (t.val + 1 = 6) || _)) = true
    simp [h]
  · have hN : t.val + 1 < 6 := by have := t.isLt; have := hN m; omega
    have hne : ((cf m).win 5).index (⟨t.val + 1, hN⟩ : Fin (cf m).N) ≠ ((cf m).win 5).index t := fun he => by
      have a := congrFun he (0 : Fin 2)
      rw [(idx5 m _).1, (idx5 m t).1] at a
      have a : (t.val + 1) % 6 = t.val % 6 := a
      omega
    show (true && (decide (t.val + 1 = 6) || decide (∃ h : t.val + 1 < grid0.N, ((cf m).win 5).index ⟨t.val + 1, h⟩ ≠ ((cf m).win 5).index t))) = true
    rw [decide_eq_true (⟨hN, hne⟩ : ∃ h : t.val + 1 < grid0.N, ((cf m).win 5).index ⟨t.val + 1, h⟩ ≠ ((cf m).win 5).index t)]
    simp

theorem covered5 (i0 : Fin 4224) (i1 : Fin 5632) (hp : i1.val < 1408) :
    ∃ t : Fin (cf m).N, ((cf m).win 5).flush t = true ∧ (ix2 i0 i1 : S4224x5632.Idx) ∈ (((cf m).win 5).blk t).view.set := by
  have hi0 := i0.isLt; have hi1 := i1.isLt
  have hN : 0 * 6 + i0.val / 704 < (cf m).N := by show _ < 6; omega
  refine ⟨⟨_, hN⟩, flush5 m _, ?_⟩
  have h := (((cf m).win 5).blk ⟨_, hN⟩).view.emb_mem_set (ix2 ⟨i0.val % 704, by omega⟩ ⟨i1.val % 1408, by omega⟩)
  have e : (((cf m).win 5).blk ⟨_, hN⟩).view.emb (ix2 ⟨i0.val % 704, by omega⟩ ⟨i1.val % 1408, by omega⟩) = ix2 i0 i1 := by
    rw [emb5]
    funext a; apply Fin.ext
    match a with
    | ⟨0, _⟩ => show (0 * 6 + i0.val / 704) % 6 * 704 + i0.val % 704 = i0.val; omega
    | ⟨1, _⟩ => show 0 * 1408 + i1.val % 1408 = i1.val; omega
  rw [e] at h
  exact h

theorem flush6 (t : Fin (cf m).N) : ((cf m).win 6).flush t = true := by
  by_cases h : t.val + 1 = 6
  · show (true && (decide (t.val + 1 = 6) || _)) = true
    simp [h]
  · have hN : t.val + 1 < 6 := by have := t.isLt; have := hN m; omega
    have hne : ((cf m).win 6).index (⟨t.val + 1, hN⟩ : Fin (cf m).N) ≠ ((cf m).win 6).index t := fun he => by
      have a := congrFun he (0 : Fin 2)
      rw [(idx6 m _).1, (idx6 m t).1] at a
      have a : (t.val + 1) % 6 = t.val % 6 := a
      omega
    show (true && (decide (t.val + 1 = 6) || decide (∃ h : t.val + 1 < grid0.N, ((cf m).win 6).index ⟨t.val + 1, h⟩ ≠ ((cf m).win 6).index t))) = true
    rw [decide_eq_true (⟨hN, hne⟩ : ∃ h : t.val + 1 < grid0.N, ((cf m).win 6).index ⟨t.val + 1, h⟩ ≠ ((cf m).win 6).index t)]
    simp

theorem covered6 (i0 : Fin 4224) (i1 : Fin 5632) (hp : i1.val < 1408) :
    ∃ t : Fin (cf m).N, ((cf m).win 6).flush t = true ∧ (ix2 i0 i1 : S4224x5632.Idx) ∈ (((cf m).win 6).blk t).view.set := by
  have hi0 := i0.isLt; have hi1 := i1.isLt
  have hN : 0 * 6 + i0.val / 704 < (cf m).N := by show _ < 6; omega
  refine ⟨⟨_, hN⟩, flush6 m _, ?_⟩
  have h := (((cf m).win 6).blk ⟨_, hN⟩).view.emb_mem_set (ix2 ⟨i0.val % 704, by omega⟩ ⟨i1.val % 1408, by omega⟩)
  have e : (((cf m).win 6).blk ⟨_, hN⟩).view.emb (ix2 ⟨i0.val % 704, by omega⟩ ⟨i1.val % 1408, by omega⟩) = ix2 i0 i1 := by
    rw [emb6]
    funext a; apply Fin.ext
    match a with
    | ⟨0, _⟩ => show (0 * 6 + i0.val / 704) % 6 * 704 + i0.val % 704 = i0.val; omega
    | ⟨1, _⟩ => show 0 * 1408 + i1.val % 1408 = i1.val; omega
  rw [e] at h
  exact h

/-- A block's product is the whole product at the block's place. -/
theorem dot1 (c : Dev nD) (t : Fin (cf m).N) (r : Fin 704) (l : Fin 1408) :
    dot (iblk m (okI m) c 0 t) (iblk m (okI m) c 1 t) r l = wdot (V m c main_arg0) (V m c main_arg1)
      ⟨t.val % 6 * 704 + r.val, by have := r.isLt; have := t.isLt; have := hN m; omega⟩ ⟨0 * 1408 + l.val, by have := l.isLt; have := t.isLt; have := hN m; omega⟩ := by
  unfold dot wdot
  refine Finset.sum_congr rfl fun k _ => congrArg₂ (fun a b : EReal => a * b) ?_ ?_
  · show V m c main_arg0 ((((cf m).win 0).blk t).view.emb (ix2 r k)) = _
    rw [emb0]
  · show V m c main_arg1 ((((cf m).win 1).blk t).view.emb (ix3 0 k l)) = _
    rw [emb1]
    have hl := l.isLt
    exact congrArg (V m c main_arg1) (congrArg₂ (fun a b => ix3 a k b) (Fin.ext (by show 0 = (0 * 1408 + l.val) / 1408; omega)) (Fin.ext (by show l.val = (0 * 1408 + l.val) % 1408; omega)))

theorem dot2 (c : Dev nD) (t : Fin (cf m).N) (r : Fin 704) (l : Fin 1408) :
    dot (iblk m (okI m) c 0 t) (iblk m (okI m) c 2 t) r l = wdot (V m c main_arg0) (V m c main_arg2)
      ⟨t.val % 6 * 704 + r.val, by have := r.isLt; have := t.isLt; have := hN m; omega⟩ ⟨0 * 1408 + l.val, by have := l.isLt; have := t.isLt; have := hN m; omega⟩ := by
  unfold dot wdot
  refine Finset.sum_congr rfl fun k _ => congrArg₂ (fun a b : EReal => a * b) ?_ ?_
  · show V m c main_arg0 ((((cf m).win 0).blk t).view.emb (ix2 r k)) = _
    rw [emb0]
  · show V m c main_arg2 ((((cf m).win 2).blk t).view.emb (ix3 0 k l)) = _
    rw [emb2]
    have hl := l.isLt
    exact congrArg (V m c main_arg2) (congrArg₂ (fun a b => ix3 a k b) (Fin.ext (by show 0 = (0 * 1408 + l.val) / 1408; omega)) (Fin.ext (by show l.val = (0 * 1408 + l.val) % 1408; omega)))

theorem flushed4_eq (c : Dev nD) (t : Fin (cf m).N) :
    (dats m (okI m) 0 c).flushed 4 t = (((cf m).win 4).blk t).view.read (Elt Ideal) (prodG (V m c main_arg0) (V m c main_arg1)) := by
  show ((cf m).win 4).cut (grid0.coords t) ((dats m (okI m) 0 c).after 4 t) = _
  rw [after0_4]
  unfold outsAt0
  dsimp only
  have e := out4_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (iblk m (okI m) c 0 t) (iblk m (okI m) c 1 t) (iblk m (okI m) c 2 t) (iblk m (okI m) c 3 t) (tbl m 0)
  refine (congrArg (((cf m).win 4).cut (grid0.coords t)) e).trans ?_
  refine funext fun (j : S704x1408.Idx) => ?_
  show (prodB (iblk m (okI m) c 0 t) (iblk m (okI m) c 1 t)) j = (prodG (V m c main_arg0) (V m c main_arg1)) ((((cf m).win 4).blk t).view.emb j)
  idx_vars j
  rw [emb4]
  exact dot1 m c t j0 j1

theorem flushed5_eq (c : Dev nD) (t : Fin (cf m).N) :
    (dats m (okI m) 0 c).flushed 5 t = (((cf m).win 5).blk t).view.read (Elt Ideal) (prodG (V m c main_arg0) (V m c main_arg2)) := by
  show ((cf m).win 5).cut (grid0.coords t) ((dats m (okI m) 0 c).after 5 t) = _
  rw [after0_5]
  unfold outsAt0
  dsimp only
  have e := out5_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (iblk m (okI m) c 0 t) (iblk m (okI m) c 1 t) (iblk m (okI m) c 2 t) (iblk m (okI m) c 3 t) (tbl m 0)
  refine (congrArg (((cf m).win 5).cut (grid0.coords t)) e).trans ?_
  refine funext fun (j : S704x1408.Idx) => ?_
  show (prodB (iblk m (okI m) c 0 t) (iblk m (okI m) c 2 t)) j = (prodG (V m c main_arg0) (V m c main_arg2)) ((((cf m).win 5).blk t).view.emb j)
  idx_vars j
  rw [emb5]
  exact dot2 m c t j0 j1

theorem flushed6_eq (c : Dev nD) (t : Fin (cf m).N) :
    (dats m (okI m) 0 c).flushed 6 t = (((cf m).win 6).blk t).view.read (Elt Ideal) (unitG (V m c main_arg0) (V m c main_arg1) (V m c main_arg2)) := by
  show ((cf m).win 6).cut (grid0.coords t) ((dats m (okI m) 0 c).after 6 t) = _
  rw [after0_6]
  unfold outsAt0
  dsimp only
  have e := out6_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (iblk m (okI m) c 0 t) (iblk m (okI m) c 1 t) (iblk m (okI m) c 2 t) (iblk m (okI m) c 3 t) (tbl m 0)
  refine (congrArg (((cf m).win 6).cut (grid0.coords t)) e).trans ?_
  refine funext fun (j : S704x1408.Idx) => ?_
  show (unitB (iblk m (okI m) c 0 t) (iblk m (okI m) c 1 t) (iblk m (okI m) c 2 t)) j = (unitG (V m c main_arg0) (V m c main_arg1) (V m c main_arg2)) ((((cf m).win 6).blk t).view.emb j)
  idx_vars j
  rw [emb6]
  exact congrArg₂ swiglu (dot1 m c t j0 j1) (dot2 m c t j0 j1)

/-- The first 1408 columns of an array, which is the shape of a result. -/
def cutG (A : FVec Ideal S4224x5632 .bf16) : FVec Ideal S4224x1408 .bf16 :=
  extractStridedSlice S4224x1408 ![0, 0] A slices_S4224x5632_S4224x1408_0_0

theorem cutG_at (A : FVec Ideal S4224x5632 .bf16) (i0 : Fin 4224) (i1 : Fin 1408) :
    cutG A (ix2 i0 i1) = A (ix2 i0 ⟨i1.val, lt_of_lt_of_le i1.isLt (by decide)⟩) := by
  unfold cutG
  pointwise []

theorem arrInj : Function.Injective (Pipeline.arrRef spec0) := by decide

/-- Result 0 of the call as the lines after it leave it. -/
theorem line4 (W : Valuation τ sig (Elt Ideal)) : StableHlo.after (List.flatten [hostOps1]) W (Proc.devRef .tc main_v2) = cutG (W (Proc.devRef .tc main_v1_0)) := by
  show StableHlo.after hostOps1 W (Proc.devRef .tc main_v2) = _
  unfold hostOps1
  after_results
  rfl

theorem tail4 (c : Dev nD) : Pipeline.afterTail pcfgs (fun _ => adm m (okI m)) (dats m (okI m)) 0 (V0 m) [hostOps1] c main_v2
    = cutG ((dats m (okI m) 0 c).arrAt 4 (cf m).N) :=
  (line4 _).trans (congrArg cutG (Pipeline.withArrays_arr spec0 arrInj c (V0 m c) (fun w => (dats m (okI m) 0 c).arrAt w (cf m).N) 4))

theorem kept4 (c : Dev nD) : cutG ((dats m (okI m) 0 c).arrAt 4 (cf m).N) = keep (prodG (m ((c : Thread nD τ).loc main_arg0)) (m ((c : Thread nD τ).loc main_arg1))) := by
  have key : ∀ (i0 : Fin 4224) (i1 : Fin 5632), i1.val < 1408 → (dats m (okI m) 0 c).arrAt 4 (cf m).N (ix2 i0 i1) = (prodG (V m c main_arg0) (V m c main_arg1)) (ix2 i0 i1) := fun i0 i1 hp => by
    obtain ⟨t, hf, ht⟩ := covered4 m i0 i1 hp
    exact (dats m (okI m) 0 c).arrAt_apply_of_mem 4 (prodG (V m c main_arg0) (V m c main_arg1)) (fun t _ => flushed4_eq m c t) (cf m).N t (ix2 i0 i1) t.isLt hf ht
  rw [← V_main_arg0 m c, ← V_main_arg1 m c]
  refine funext fun (i : S4224x1408.Idx) => ?_
  idx_vars i
  exact (cutG_at _ i0 i1).trans (key i0 ⟨i1.val, lt_of_lt_of_le i1.isLt (by decide)⟩ i1.isLt)

/-- Result 1 of the call as the lines after it leave it. -/
theorem line5 (W : Valuation τ sig (Elt Ideal)) : StableHlo.after (List.flatten [hostOps1]) W (Proc.devRef .tc main_v3) = cutG (W (Proc.devRef .tc main_v1_1)) := by
  show StableHlo.after hostOps1 W (Proc.devRef .tc main_v3) = _
  unfold hostOps1
  after_results
  rfl

theorem tail5 (c : Dev nD) : Pipeline.afterTail pcfgs (fun _ => adm m (okI m)) (dats m (okI m)) 0 (V0 m) [hostOps1] c main_v3
    = cutG ((dats m (okI m) 0 c).arrAt 5 (cf m).N) :=
  (line5 _).trans (congrArg cutG (Pipeline.withArrays_arr spec0 arrInj c (V0 m c) (fun w => (dats m (okI m) 0 c).arrAt w (cf m).N) 5))

theorem kept5 (c : Dev nD) : cutG ((dats m (okI m) 0 c).arrAt 5 (cf m).N) = keep (prodG (m ((c : Thread nD τ).loc main_arg0)) (m ((c : Thread nD τ).loc main_arg2))) := by
  have key : ∀ (i0 : Fin 4224) (i1 : Fin 5632), i1.val < 1408 → (dats m (okI m) 0 c).arrAt 5 (cf m).N (ix2 i0 i1) = (prodG (V m c main_arg0) (V m c main_arg2)) (ix2 i0 i1) := fun i0 i1 hp => by
    obtain ⟨t, hf, ht⟩ := covered5 m i0 i1 hp
    exact (dats m (okI m) 0 c).arrAt_apply_of_mem 5 (prodG (V m c main_arg0) (V m c main_arg2)) (fun t _ => flushed5_eq m c t) (cf m).N t (ix2 i0 i1) t.isLt hf ht
  rw [← V_main_arg0 m c, ← V_main_arg2 m c]
  refine funext fun (i : S4224x1408.Idx) => ?_
  idx_vars i
  exact (cutG_at _ i0 i1).trans (key i0 ⟨i1.val, lt_of_lt_of_le i1.isLt (by decide)⟩ i1.isLt)

/-- Result 2 of the call as the lines after it leave it. -/
theorem line6 (W : Valuation τ sig (Elt Ideal)) : StableHlo.after (List.flatten [hostOps1]) W (Proc.devRef .tc main_v4) = cutG (W (Proc.devRef .tc main_v1_2)) := by
  show StableHlo.after hostOps1 W (Proc.devRef .tc main_v4) = _
  unfold hostOps1
  after_results
  rfl

theorem tail6 (c : Dev nD) : Pipeline.afterTail pcfgs (fun _ => adm m (okI m)) (dats m (okI m)) 0 (V0 m) [hostOps1] c main_v4
    = cutG ((dats m (okI m) 0 c).arrAt 6 (cf m).N) :=
  (line6 _).trans (congrArg cutG (Pipeline.withArrays_arr spec0 arrInj c (V0 m c) (fun w => (dats m (okI m) 0 c).arrAt w (cf m).N) 6))

theorem kept6 (c : Dev nD) : cutG ((dats m (okI m) 0 c).arrAt 6 (cf m).N) = keep (unitG (m ((c : Thread nD τ).loc main_arg0)) (m ((c : Thread nD τ).loc main_arg1)) (m ((c : Thread nD τ).loc main_arg2))) := by
  have key : ∀ (i0 : Fin 4224) (i1 : Fin 5632), i1.val < 1408 → (dats m (okI m) 0 c).arrAt 6 (cf m).N (ix2 i0 i1) = (unitG (V m c main_arg0) (V m c main_arg1) (V m c main_arg2)) (ix2 i0 i1) := fun i0 i1 hp => by
    obtain ⟨t, hf, ht⟩ := covered6 m i0 i1 hp
    exact (dats m (okI m) 0 c).arrAt_apply_of_mem 6 (unitG (V m c main_arg0) (V m c main_arg1) (V m c main_arg2)) (fun t _ => flushed6_eq m c t) (cf m).N t (ix2 i0 i1) t.isLt hf ht
  rw [← V_main_arg0 m c, ← V_main_arg1 m c, ← V_main_arg2 m c]
  refine funext fun (i : S4224x1408.Idx) => ?_
  idx_vars i
  exact (cutG_at _ i0 i1).trans (key i0 ⟨i1.val, lt_of_lt_of_le i1.isLt (by decide)⟩ i1.isLt)

/-- The run: the three results, the arguments unchanged. -/
theorem run_blocks : θ_run defs (onTc (τ := τ) (main (F := Ideal))) ⟨m, fun _ => 0, ρ⟩ fun r => ∀ c : Dev nD,
      r.2.mem ((c.tc : Thread nD τ).loc main_v2) = keep (prodG (m ((c : Thread nD τ).loc main_arg0)) (m ((c : Thread nD τ).loc main_arg1)))
      ∧ r.2.mem ((c.tc : Thread nD τ).loc main_v3) = keep (prodG (m ((c : Thread nD τ).loc main_arg0)) (m ((c : Thread nD τ).loc main_arg2)))
      ∧ r.2.mem ((c.tc : Thread nD τ).loc main_v4) = keep (unitG (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).2 main_v2 (by decide : main_v2 ∈ Pipeline.restRefs sig spec0)).trans ((tail4 m c).trans (kept4 m c)), ((h.1 c).2 main_v3 (by decide : main_v3 ∈ Pipeline.restRefs sig spec0)).trans ((tail5 m c).trans (kept5 m c)), ((h.1 c).2 main_v4 (by decide : main_v4 ∈ Pipeline.restRefs sig spec0)).trans ((tail6 m c).trans (kept6 m c)), h.2 c⟩)
    (θ_run_and (run_main m ρ (okI m)) (unchanged m ρ (okI m)))

/-- The kernel and the reference end with equal results. -/
theorem algebraic : Cert.algebraic_Kernel20Ideal_Reference20Ideal := fun m g m' g' _ hm =>
  ⟨fun c => keep (prodG (m ((c : Thread nD τ).loc main_arg0)) (m ((c : Thread nD τ).loc main_arg1))), fun c => keep (prodG (m ((c : Thread nD τ).loc main_arg0)) (m ((c : Thread nD τ).loc main_arg2))), fun c => keep (unitG (m ((c : Thread nD τ).loc main_arg0)) (m ((c : Thread nD τ).loc main_arg1)) (m ((c : Thread nD τ).loc main_arg2))), run_blocks m g,
    (θ_run Cert.Reference20Ideal.defs _ _).mono (fun r h c => by
      have t0 := (h c).1.trans ((refProd _ _).trans (by rw [(hm c).1, (hm c).2.1] : _ = keep (prodG (m ((c : Thread nD τ).loc main_arg0)) (m ((c : Thread nD τ).loc main_arg1)))))
      have t1 := (h c).2.1.trans ((refProd _ _).trans (by rw [(hm c).1, (hm c).2.2.1] : _ = keep (prodG (m ((c : Thread nD τ).loc main_arg0)) (m ((c : Thread nD τ).loc main_arg2)))))
      have t2 := (h c).2.2.1.trans ((refUnit _ _ _).trans (by rw [(hm c).1, (hm c).2.1, (hm c).2.2.1] : _ = keep (unitG (m ((c : Thread nD τ).loc main_arg0)) (m ((c : Thread nD τ).loc main_arg1)) (m ((c : Thread nD τ).loc main_arg2)))))
      exact ⟨t0, t1, t2, (h c).2.2.2⟩) (Cert.Reference20Ideal.Value.run m' g')⟩

/-- The reference runs, its arguments unchanged, its counters at zero. -/
theorem frameR : Cert.quiescent_Reference20Ideal := fun m g _ =>
  (θ_run Cert.Reference20Ideal.defs _ _).mono (fun r h => ⟨fun c => (h c).2.2.2,
      Idealize.ShloMosaic.sem_eq_zero_of_no_sems (by decide) r.2⟩)
    (Cert.Reference20Ideal.Value.run (F := Ideal) m g)

end Cert.Proof.FfnOwn

end
-- ==== Proof.FfnNearTable.lean ====
/- THE TABLE OF THE NEAR SHARDS' GATE AND UP CALL: the call's column panels are named by a table that the host fills.
   Here, for the program at floats and for the ideal one: the table's words (`word`), the blocks' places they give (`tr1` and
   on), and that every block lies inside its array (`ok`). -/
module

public import proofs.«01_k».proof.Proof.Gen.Kernel21.Frame
public import proofs.«01_k».proof.Proof.Gen.Kernel21Ideal.Frame

@[expose] public section

noncomputable section

namespace Cert.Proof.FfnNearTable

open Idealize.ShloMosaic Idealize.ShloMosaic.TcCoe Idealize.SL.Sem

section Kernel21

open Cert.Kernel21 Cert.Kernel21.Gen

variable {F : FTy → Type} [FloatOps F] (m : (ℓ : Loc Cert.Kernel21.nD Cert.Kernel21.τ Cert.Kernel21.sig) → Buf (Elt F) ℓ)

namespace Kernel21

theorem coord (i : grid0.Coords) : (![(Scalar.indexCast (BitVec.ofNat 32 (i 0).val) : Index).toNat] : Fin 1 → Nat) 0 = (i 0).val := by
  have h0 : (i 0).val < 2 := (i 0).isLt
  simp [Scalar.indexCast, BitVec.toNat_ofNat]
  try omega

theorem tbl_eq : tbl m 0 = (concatenate S2 0 [⟨S1, broadcastInDim S1 ![] bcast_S_S1 (xori (constantI S_ 32 0#32) (constantI S_ 32 2#32) : IVec S_ 32)⟩,
    ⟨S1, broadcastInDim S1 ![] bcast_S_S1 (xori (constantI S_ 32 0#32) (constantI S_ 32 1#32) : IVec S_ 32)⟩] concatenates_S1_S1_S2_d0 : IVec S2 32) := rfl

/-- The table's word at a grid point. -/
theorem word (i : grid0.Coords) (off : Fin 1 → Nat) (ho : off 0 = (i 0).val)
    (h : ∀ a, off a + S1.size a ≤ S2.size a) (h1 : S1.numel = 1) :
    ((tbl m).at 0 (Rect.unit (s := S2) off S1.size h) h1 : BitVec 32) = BitVec.ofNat 32 (2 - (i 0).val) := by
  have h0 : (i 0).val < 2 := (i 0).isLt
  rcases (by omega : (i 0).val = 0 ∨ (i 0).val = 1) with e | e
  · have e' : off = ![0] := funext fun a => by fin_cases a; exact ho.trans e
    subst e'
    rw [e]
    refine (congrFun (tbl_eq m) _).trans ?_
    exact (by decide : (0#32 ^^^ 2#32 : BitVec 32) = BitVec.ofNat 32 (2 - 0))
  · have e' : off = ![1] := funext fun a => by fin_cases a; exact ho.trans e
    subst e'
    rw [e]
    refine (congrFun (tbl_eq m) _).trans ?_
    exact (by decide : (0#32 ^^^ 1#32 : BitVec 32) = BitVec.ofNat 32 (2 - 1))

/-- The blocks' places that read it. -/
theorem tr1 (i : grid0.Coords) : cc0_transform_1 k0_off1_inb numel1_S1 (tbl m) i = ![(2 - (i 0).val), 0, 0] := by
  refine (congrArg (fun b : BitVec 32 => (![b.toNat, 0, 0] : Fin 3 → Nat)) (word m i _ (coord i) (k0_off1_inb i) numel1_S1)).trans ?_
  funext a
  have h0 : (i 0).val < 2 := (i 0).isLt
  have h1 : (i 1).val < 6 := (i 1).isLt
  fin_cases a <;> simp [BitVec.toNat_ofNat] <;> omega

theorem tr2 (i : grid0.Coords) : cc0_transform_2 k0_off1_inb numel1_S1 (tbl m) i = ![(2 - (i 0).val), 0, 0] := by
  refine (congrArg (fun b : BitVec 32 => (![b.toNat, 0, 0] : Fin 3 → Nat)) (word m i _ (coord i) (k0_off1_inb i) numel1_S1)).trans ?_
  funext a
  have h0 : (i 0).val < 2 := (i 0).isLt
  have h1 : (i 1).val < 6 := (i 1).isLt
  fin_cases a <;> simp [BitVec.toNat_ofNat] <;> omega

theorem tr7 (i : grid0.Coords) : cc0_transform_7 k0_off1_inb numel1_S1 (tbl m) i = ![(i 1).val, (2 - (i 0).val)] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 2 := (i 0).isLt
  have h1 : (i 1).val < 6 := (i 1).isLt
  fin_cases a <;> simp [BitVec.toNat_ofNat] <;> omega

theorem tr8 (i : grid0.Coords) : cc0_transform_8 k0_off1_inb numel1_S1 (tbl m) i = ![(i 1).val, (2 - (i 0).val)] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 2 := (i 0).isLt
  have h1 : (i 1).val < 6 := (i 1).isLt
  fin_cases a <;> simp [BitVec.toNat_ofNat] <;> omega

theorem tr9 (i : grid0.Coords) : cc0_transform_9 k0_off1_inb numel1_S1 (tbl m) i = ![(i 1).val, (2 - (i 0).val)] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 2 := (i 0).isLt
  have h1 : (i 1).val < 6 := (i 1).isLt
  fin_cases a <;> simp [BitVec.toNat_ofNat] <;> omega

/-- Every block lies inside its array. -/
theorem ok : Ok m := by
  have h0 : ∀ i : grid0.Coords, (i 0).val < 2 := fun i => (i 0).isLt
  have h1 : ∀ i : grid0.Coords, (i 1).val < 6 := fun i => (i 1).isLt
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  all_goals
    have := h0 i
    have := h1 i
    intro a
  · rw [tr1]; fin_cases a <;> simp [S1x2048x1408, S4x2048x1408] <;> omega
  · rw [tr2]; fin_cases a <;> simp [S1x2048x1408, S4x2048x1408] <;> omega
  · rw [tr7]; fin_cases a <;> simp [S704x1408, S4224x5632] <;> omega
  · rw [tr8]; fin_cases a <;> simp [S704x1408, S4224x5632] <;> omega
  · rw [tr9]; fin_cases a <;> simp [S704x1408, S4224x5632] <;> omega

end Kernel21

end Kernel21

section Kernel21Ideal

open Cert.Kernel21Ideal Cert.Kernel21Ideal.Gen

variable {F : FTy → Type} [FloatOps F] (m : (ℓ : Loc Cert.Kernel21Ideal.nD Cert.Kernel21Ideal.τ Cert.Kernel21Ideal.sig) → Buf (Elt F) ℓ)

namespace Kernel21Ideal

theorem coord (i : grid0.Coords) : (![(Scalar.indexCast (BitVec.ofNat 32 (i 0).val) : Index).toNat] : Fin 1 → Nat) 0 = (i 0).val := by
  have h0 : (i 0).val < 2 := (i 0).isLt
  simp [Scalar.indexCast, BitVec.toNat_ofNat]
  try omega

theorem tbl_eq : tbl m 0 = (concatenate S2 0 [⟨S1, broadcastInDim S1 ![] bcast_S_S1 (xori (constantI S_ 32 0#32) (constantI S_ 32 2#32) : IVec S_ 32)⟩,
    ⟨S1, broadcastInDim S1 ![] bcast_S_S1 (xori (constantI S_ 32 0#32) (constantI S_ 32 1#32) : IVec S_ 32)⟩] concatenates_S1_S1_S2_d0 : IVec S2 32) := rfl

/-- The table's word at a grid point. -/
theorem word (i : grid0.Coords) (off : Fin 1 → Nat) (ho : off 0 = (i 0).val)
    (h : ∀ a, off a + S1.size a ≤ S2.size a) (h1 : S1.numel = 1) :
    ((tbl m).at 0 (Rect.unit (s := S2) off S1.size h) h1 : BitVec 32) = BitVec.ofNat 32 (2 - (i 0).val) := by
  have h0 : (i 0).val < 2 := (i 0).isLt
  rcases (by omega : (i 0).val = 0 ∨ (i 0).val = 1) with e | e
  · have e' : off = ![0] := funext fun a => by fin_cases a; exact ho.trans e
    subst e'
    rw [e]
    refine (congrFun (tbl_eq m) _).trans ?_
    exact (by decide : (0#32 ^^^ 2#32 : BitVec 32) = BitVec.ofNat 32 (2 - 0))
  · have e' : off = ![1] := funext fun a => by fin_cases a; exact ho.trans e
    subst e'
    rw [e]
    refine (congrFun (tbl_eq m) _).trans ?_
    exact (by decide : (0#32 ^^^ 1#32 : BitVec 32) = BitVec.ofNat 32 (2 - 1))

/-- The blocks' places that read it. -/
theorem tr1 (i : grid0.Coords) : cc0_transform_1 k0_off1_inb numel1_S1 (tbl m) i = ![(2 - (i 0).val), 0, 0] := by
  refine (congrArg (fun b : BitVec 32 => (![b.toNat, 0, 0] : Fin 3 → Nat)) (word m i _ (coord i) (k0_off1_inb i) numel1_S1)).trans ?_
  funext a
  have h0 : (i 0).val < 2 := (i 0).isLt
  have h1 : (i 1).val < 6 := (i 1).isLt
  fin_cases a <;> simp [BitVec.toNat_ofNat] <;> omega

theorem tr2 (i : grid0.Coords) : cc0_transform_2 k0_off1_inb numel1_S1 (tbl m) i = ![(2 - (i 0).val), 0, 0] := by
  refine (congrArg (fun b : BitVec 32 => (![b.toNat, 0, 0] : Fin 3 → Nat)) (word m i _ (coord i) (k0_off1_inb i) numel1_S1)).trans ?_
  funext a
  have h0 : (i 0).val < 2 := (i 0).isLt
  have h1 : (i 1).val < 6 := (i 1).isLt
  fin_cases a <;> simp [BitVec.toNat_ofNat] <;> omega

theorem tr7 (i : grid0.Coords) : cc0_transform_7 k0_off1_inb numel1_S1 (tbl m) i = ![(i 1).val, (2 - (i 0).val)] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 2 := (i 0).isLt
  have h1 : (i 1).val < 6 := (i 1).isLt
  fin_cases a <;> simp [BitVec.toNat_ofNat] <;> omega

theorem tr8 (i : grid0.Coords) : cc0_transform_8 k0_off1_inb numel1_S1 (tbl m) i = ![(i 1).val, (2 - (i 0).val)] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 2 := (i 0).isLt
  have h1 : (i 1).val < 6 := (i 1).isLt
  fin_cases a <;> simp [BitVec.toNat_ofNat] <;> omega

theorem tr9 (i : grid0.Coords) : cc0_transform_9 k0_off1_inb numel1_S1 (tbl m) i = ![(i 1).val, (2 - (i 0).val)] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 2 := (i 0).isLt
  have h1 : (i 1).val < 6 := (i 1).isLt
  fin_cases a <;> simp [BitVec.toNat_ofNat] <;> omega

/-- Every block lies inside its array. -/
theorem ok : Ok m := by
  have h0 : ∀ i : grid0.Coords, (i 0).val < 2 := fun i => (i 0).isLt
  have h1 : ∀ i : grid0.Coords, (i 1).val < 6 := fun i => (i 1).isLt
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  all_goals
    have := h0 i
    have := h1 i
    intro a
  · rw [tr1]; fin_cases a <;> simp [S1x2048x1408, S4x2048x1408] <;> omega
  · rw [tr2]; fin_cases a <;> simp [S1x2048x1408, S4x2048x1408] <;> omega
  · rw [tr7]; fin_cases a <;> simp [S704x1408, S4224x5632] <;> omega
  · rw [tr8]; fin_cases a <;> simp [S704x1408, S4224x5632] <;> omega
  · rw [tr9]; fin_cases a <;> simp [S704x1408, S4224x5632] <;> omega

end Kernel21Ideal

end Kernel21Ideal

end Cert.Proof.FfnNearTable

end
-- ==== Proof.FfnNearPoint.lean ====
/- THE NEAR SHARDS' GATE AND UP PRODUCTS, A POINT'S BLOCKS: a grid point multiplies 704 rows of the layer's input by one column panel of each
   weight, in five chunks of 256 columns and one of 128; the last chunk's two products are one product of the two weights' columns
   side by side.  Here: the three blocks a point leaves, as one product each and as the gated unit of the two (`out4_eq`, `out5_eq`, `out6_eq`). -/
module

public import proofs.«01_k».proof.Proof.Gen.Kernel21Ideal.Frame
public import Idealize.ShloMosaic.Lib.Pointwise

@[expose] public section

noncomputable section

namespace Cert.Proof.FfnNearPoint

open Cert.Kernel21Ideal Cert.Kernel21Ideal.Gen Idealize.ShloMosaic Idealize.ShloMosaic.TcCoe Idealize.SL.Sem

/-- The gated unit. -/
def swiglu (g u : EReal) : EReal := g * Ideal.logistic g * u

/-- An element of a block's product with a column panel. -/
def dot (x : Vec Ideal S704x2048 .bf16) (w : Vec Ideal S1x2048x1408 .bf16) (r : Fin 704) (l : Fin 1408) : EReal :=
  ∑ k : Fin 2048, (x (ix2 r k) * w (ix3 0 k l) : EReal)

def prodB (x : Vec Ideal S704x2048 .bf16) (w : Vec Ideal S1x2048x1408 .bf16) : Vec Ideal S704x1408 .bf16 := fun j => dot x w (j 0) (j 1)

def unitB (x : Vec Ideal S704x2048 .bf16) (w v : Vec Ideal S1x2048x1408 .bf16) : Vec Ideal S704x1408 .bf16 :=
  fun j => swiglu (dot x w (j 0) (j 1)) (dot x v (j 0) (j 1))

theorem hz2 : (![0, 0] : Fin 2 → Nat) = fun _ => 0 := funext fun a => by fin_cases a <;> rfl

/-- The place of a chunk's element in the block. -/
theorem emb_chunk (p n : Nat) (h : ∀ a, ![0, p] a + ![704, n] a ≤ S704x1408.size a) (a : Fin 704) (b : Fin n) :
    (Rect.unit (s := S704x1408) ![0, p] ![704, n] h).emb (ix2 a b) = ix2 a ⟨p + b.val, Nat.lt_of_lt_of_le (Nat.add_lt_add_left b.isLt p) (h 1)⟩ := by
  funext k; apply Fin.ext
  match k with
  | ⟨0, _⟩ => show 0 + 1 * a.val = a.val; omega
  | ⟨1, _⟩ => show p + 1 * b.val = p + b.val; omega

variable (c : Dev nD) (i : grid0.Coords) (arg3 : Memref sig .tc .vmem S704x2048 .bf16) (h3 : arg3.IsWhole) (arg4 : Memref sig .tc .vmem S1x2048x1408 .bf16) (h4 : arg4.IsWhole)
    (arg5 : Memref sig .tc .vmem S1x2048x1408 .bf16) (h5 : arg5.IsWhole) (arg6 : Memref sig .tc .vmem S8x128 .f32) (h6 : arg6.IsWhole)
    (arg10 : Memref sig .tc .vmem S704x1408 .bf16) (h10 : arg10.IsWhole) (arg11 : Memref sig .tc .vmem S704x1408 .bf16) (h11 : arg11.IsWhole)
    (arg12 : Memref sig .tc .vmem S704x1408 .bf16) (h12 : arg12.IsWhole)
    (x0 : Vec Ideal S704x2048 .bf16) (x1 x2 : Vec Ideal S1x2048x1408 .bf16) (x3 : Vec Ideal S8x128 .f32) (xt0 : TbBuf0 (F := Ideal) c tbM0_0)

/-- The gate product. -/
theorem out4_eq : out0_A_4 c i arg3 h3 arg4 h4 arg5 h5 arg6 h6 arg10 h10 arg11 h11 arg12 h12 x0 x1 x2 x3 xt0 = prodB x0 x1 := by
  unfold out0_A_4
  rw [View.read_writes_eq_canon _ _ _ (cover0_A_4 c i arg3 h3 arg4 h4 arg5 h5 arg6 h6 arg10 h10 arg11 h11 arg12 h12 x0 x1 x2 x3 xt0)]
  funext y
  refine View.canon_apply_of_pieces (prodB x0 x1) _ ?_ y (cover0_A_4 c i arg3 h3 arg4 h4 arg5 h5 arg6 h6 arg10 h10 arg11 h11 arg12 h12 x0 x1 x2 x3 xt0 y)
  intro p hp
  unfold kernelRun0_A at hp
  dsimp only at hp
  simp only [List.mem_cons, List.mem_nil_iff, or_false] at hp
  rcases hp with rfl | rfl | rfl | rfl | rfl | rfl
  all_goals
    intro w
    sl_unfold_words
    simp only [View.readAt_eq_ld, h3.read_unread, h4.read_unread, h5.read_unread, View.ld_unit_zero (S := S704x2048) hz2]
    idx_vars w
    refine Eq.trans ?_ (congrArg (prodB x0 x1) (emb_chunk _ _ _ w0 w1)).symm
    unfold prodB dot
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals simp only [Nat.zero_add]
  all_goals rfl

/-- The up product. -/
theorem out5_eq : out0_A_5 c i arg3 h3 arg4 h4 arg5 h5 arg6 h6 arg10 h10 arg11 h11 arg12 h12 x0 x1 x2 x3 xt0 = prodB x0 x2 := by
  unfold out0_A_5
  rw [View.read_writes_eq_canon _ _ _ (cover0_A_5 c i arg3 h3 arg4 h4 arg5 h5 arg6 h6 arg10 h10 arg11 h11 arg12 h12 x0 x1 x2 x3 xt0)]
  funext y
  refine View.canon_apply_of_pieces (prodB x0 x2) _ ?_ y (cover0_A_5 c i arg3 h3 arg4 h4 arg5 h5 arg6 h6 arg10 h10 arg11 h11 arg12 h12 x0 x1 x2 x3 xt0 y)
  intro p hp
  unfold kernelRun0_A at hp
  dsimp only at hp
  simp only [List.mem_cons, List.mem_nil_iff, or_false] at hp
  rcases hp with rfl | rfl | rfl | rfl | rfl | rfl
  all_goals
    intro w
    sl_unfold_words
    simp only [View.readAt_eq_ld, h3.read_unread, h4.read_unread, h5.read_unread, View.ld_unit_zero (S := S704x2048) hz2]
    idx_vars w
    refine Eq.trans ?_ (congrArg (prodB x0 x2) (emb_chunk _ _ _ w0 w1)).symm
    unfold prodB dot
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals simp only [Nat.zero_add]
  all_goals rfl

/-- The gated unit. -/
theorem out6_eq : out0_A_6 c i arg3 h3 arg4 h4 arg5 h5 arg6 h6 arg10 h10 arg11 h11 arg12 h12 x0 x1 x2 x3 xt0 = unitB x0 x1 x2 := by
  unfold out0_A_6
  rw [View.read_writes_eq_canon _ _ _ (cover0_A_6 c i arg3 h3 arg4 h4 arg5 h5 arg6 h6 arg10 h10 arg11 h11 arg12 h12 x0 x1 x2 x3 xt0)]
  funext y
  refine View.canon_apply_of_pieces (unitB x0 x1 x2) _ ?_ y (cover0_A_6 c i arg3 h3 arg4 h4 arg5 h5 arg6 h6 arg10 h10 arg11 h11 arg12 h12 x0 x1 x2 x3 xt0 y)
  intro p hp
  unfold kernelRun0_A at hp
  dsimp only at hp
  simp only [List.mem_cons, List.mem_nil_iff, or_false] at hp
  rcases hp with rfl | rfl | rfl | rfl | rfl | rfl
  all_goals
    intro w
    sl_unfold_words
    simp only [View.readAt_eq_ld, h3.read_unread, h4.read_unread, h5.read_unread, View.ld_unit_zero (S := S704x2048) hz2]
    idx_vars w
    refine Eq.trans ?_ (congrArg (unitB x0 x1 x2) (emb_chunk _ _ _ w0 w1)).symm
    unfold unitB swiglu dot
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals simp only [Nat.zero_add]
  all_goals rfl

end Cert.Proof.FfnNearPoint

end
-- ==== Proof.FfnNear.lean ====
/- THE NEAR SHARDS' GATE AND UP PRODUCTS, the whole call: the grid walks the near shards' column panels, and in each the six blocks
   of 704 rows.  Here: the places of the blocks in the arrays (`emb0` to `emb6`), read from the table (FfnNearTable); the three whole
   results (`final4` to `final6`), products on those columns and what was there before elsewhere; the run with them (`run_blocks`), and
   the comparison with the reference (`algebraic`). -/
module

public import proofs.«01_k».proof.Defs
public import proofs.«01_k».proof.Proof.FfnNearTable
public import proofs.«01_k».proof.Proof.FfnNearPoint
public import proofs.«01_k».proof.Proof.Gen.Reference21Ideal.Run
public import Idealize.ShloMosaic.Lib.Pointwise

@[expose] public section

noncomputable section

namespace Cert.Proof.FfnNear

open Cert.Kernel21Ideal Cert.Kernel21Ideal.Gen Cert.Proof.FfnNearPoint Cert.Proof.FfnNearTable.Kernel21Ideal Idealize.ShloMosaic Idealize.ShloMosaic.TcCoe Idealize.SL.Sem

/-- The tables' side conditions of the two programs. -/
theorem okP (m : (ℓ : Loc Cert.Kernel21.nD Cert.Kernel21.τ Cert.Kernel21.sig) → Buf (Elt Bits) ℓ) : Cert.Kernel21.Gen.Ok m :=
  Cert.Proof.FfnNearTable.Kernel21.ok m
theorem okI (m : (ℓ : Loc nD τ sig) → Buf (Elt Ideal) ℓ) : Ok m := ok m

/-- An element of the product with a whole weight, its four column panels side by side. -/
def wdot (n : FVec Ideal S4224x2048 .bf16) (w : FVec Ideal S4x2048x1408 .bf16) (r : Fin 4224) (l : Fin 5632) : EReal :=
  ∑ k : Fin 2048, (n (ix2 r k) * w (ix3 ⟨l.val / 1408, by have := l.isLt; omega⟩ k ⟨l.val % 1408, by omega⟩) : EReal)

/-- A product with a whole weight, and the gated unit of two. -/
def prodG (n : FVec Ideal S4224x2048 .bf16) (w : FVec Ideal S4x2048x1408 .bf16) : FVec Ideal S4224x5632 .bf16 := fun i => wdot n w (i 0) (i 1)
def unitG (n : FVec Ideal S4224x2048 .bf16) (w v : FVec Ideal S4x2048x1408 .bf16) : FVec Ideal S4224x5632 .bf16 :=
  fun i => swiglu (wdot n w (i 0) (i 1)) (wdot n v (i 0) (i 1))

/-- The call's columns from `x`, the others from `a`. -/
def keep (x a : FVec Ideal S4224x5632 .bf16) : FVec Ideal S4224x5632 .bf16 :=
  fun i => if 1408 ≤ (i 1).val ∧ (i 1).val < 4224 then x i else a i

/-- The reference's comparisons of a column's number. -/
theorem mask (l : Fin 5632) : ((BitVec.ofNat 32 l.val).slt 4224#32 = decide (l.val < 4224)) ∧ ((1408#32 : BitVec 32).sle (BitVec.ofNat 32 l.val) = decide (1408 ≤ l.val)) ∧
    ((4224#32 : BitVec 32).sle (BitVec.ofNat 32 l.val) = decide (4224 ≤ l.val)) := by
  have hl := l.isLt
  have e : (BitVec.ofNat 32 l.val).toInt = l.val := by
    rw [BitVec.toInt_eq_toNat_of_lt (by rw [BitVec.toNat_ofNat]; omega), BitVec.toNat_ofNat]; omega
  have e1 : (4224#32 : BitVec 32).toInt = 4224 := by decide
  have e2 : (1408#32 : BitVec 32).toInt = 1408 := by decide
  refine ⟨?_, ?_, ?_⟩ <;> simp only [BitVec.slt, BitVec.sle, e, e1, e2] <;> congr 1 <;> apply propext <;> omega

/-- The reference's choice by a column's number. -/
theorem sel (l : Fin 5632) (x y : EReal) : Scalar.select (IntOp.andi (IntOp.cmpi .sge (BitVec.ofNat 32 l.val) 1408#32) (IntOp.cmpi .slt (BitVec.ofNat 32 l.val) 4224#32)) x y = if 1408 ≤ l.val ∧ l.val < 4224 then x else y := by
  unfold Scalar.select IntOp.cmpi IntOp.andi
  dsimp only
  rw [(mask l).1, (mask l).2.1]
  by_cases h1 : 1408 ≤ l.val <;> by_cases h2 : l.val < 4224 <;> simp [h1, h2]

section Ref

variable (n : FVec Ideal S4224x2048 .bf16) (w v : FVec Ideal S4x2048x1408 .bf16) (a : FVec Ideal S4224x5632 .bf16)

/-- The reference's results. -/
theorem refProd (w : FVec Ideal S4x2048x1408 .bf16) : (select (andi (cmpi .sge (iotaInDim Cert.Reference21Ideal.S4224x5632 32 1) (broadcastInDim Cert.Reference21Ideal.S4224x5632 ![] Cert.Reference21Ideal.Gen.facts.bcast_S_S4224x5632 (constantI Cert.Reference21Ideal.S_ 32 1408#32))) (cmpi .slt (iotaInDim Cert.Reference21Ideal.S4224x5632 32 1) (broadcastInDim Cert.Reference21Ideal.S4224x5632 ![] Cert.Reference21Ideal.Gen.facts.bcast_S_S4224x5632 (constantI Cert.Reference21Ideal.S_ 32 4224#32)))) (truncf .bf16 (Host.dotGeneral Cert.Reference21Ideal.dot_S4224x2048_S2048x5632_S4224x5632_1_0_0_1_n_n none (extf .f32 n Cert.Reference21Ideal.Gen.facts.bitsLt_bf16_f32) (shapeCast Cert.Reference21Ideal.S2048x5632 (transpose Cert.Reference21Ideal.S2048x4x1408 [1, 0, 2] (extf .f32 w Cert.Reference21Ideal.Gen.facts.bitsLt_bf16_f32) Cert.Reference21Ideal.Gen.facts.transposes_S4x2048x1408_S2048x4x1408_1_0_2) Cert.Reference21Ideal.Gen.facts.shapeCasts_S2048x4x1408_S2048x5632)) Cert.Reference21Ideal.Gen.facts.bitsLt_bf16_f32) a : FVec Ideal S4224x5632 .bf16) = keep (prodG n w) a := by
  funext i
  idx_vars i
  unfold keep prodG wdot
  pointwise []
  exact sel i1 _ _

theorem refUnit : (select (andi (cmpi .sge (iotaInDim Cert.Reference21Ideal.S4224x5632 32 1) (broadcastInDim Cert.Reference21Ideal.S4224x5632 ![] Cert.Reference21Ideal.Gen.facts.bcast_S_S4224x5632 (constantI Cert.Reference21Ideal.S_ 32 1408#32))) (cmpi .slt (iotaInDim Cert.Reference21Ideal.S4224x5632 32 1) (broadcastInDim Cert.Reference21Ideal.S4224x5632 ![] Cert.Reference21Ideal.Gen.facts.bcast_S_S4224x5632 (constantI Cert.Reference21Ideal.S_ 32 4224#32)))) (truncf .bf16 (mulf (mulf (Host.dotGeneral Cert.Reference21Ideal.dot_S4224x2048_S2048x5632_S4224x5632_1_0_0_1_n_n none (extf .f32 n Cert.Reference21Ideal.Gen.facts.bitsLt_bf16_f32) (shapeCast Cert.Reference21Ideal.S2048x5632 (transpose Cert.Reference21Ideal.S2048x4x1408 [1, 0, 2] (extf .f32 w Cert.Reference21Ideal.Gen.facts.bitsLt_bf16_f32) Cert.Reference21Ideal.Gen.facts.transposes_S4x2048x1408_S2048x4x1408_1_0_2) Cert.Reference21Ideal.Gen.facts.shapeCasts_S2048x4x1408_S2048x5632)) (Host.divf (broadcastInDim Cert.Reference21Ideal.S4224x5632 ![] Cert.Reference21Ideal.Gen.facts.bcast_S_S4224x5632 (constant Cert.Reference21Ideal.S_ .f32 0x3F800000#32)) (addf (broadcastInDim Cert.Reference21Ideal.S4224x5632 ![] Cert.Reference21Ideal.Gen.facts.bcast_S_S4224x5632 (constant Cert.Reference21Ideal.S_ .f32 0x3F800000#32)) (Host.exp (Host.negf (Host.dotGeneral Cert.Reference21Ideal.dot_S4224x2048_S2048x5632_S4224x5632_1_0_0_1_n_n none (extf .f32 n Cert.Reference21Ideal.Gen.facts.bitsLt_bf16_f32) (shapeCast Cert.Reference21Ideal.S2048x5632 (transpose Cert.Reference21Ideal.S2048x4x1408 [1, 0, 2] (extf .f32 w Cert.Reference21Ideal.Gen.facts.bitsLt_bf16_f32) Cert.Reference21Ideal.Gen.facts.transposes_S4x2048x1408_S2048x4x1408_1_0_2) Cert.Reference21Ideal.Gen.facts.shapeCasts_S2048x4x1408_S2048x5632))))))) (Host.dotGeneral Cert.Reference21Ideal.dot_S4224x2048_S2048x5632_S4224x5632_1_0_0_1_n_n none (extf .f32 n Cert.Reference21Ideal.Gen.facts.bitsLt_bf16_f32) (shapeCast Cert.Reference21Ideal.S2048x5632 (transpose Cert.Reference21Ideal.S2048x4x1408 [1, 0, 2] (extf .f32 v Cert.Reference21Ideal.Gen.facts.bitsLt_bf16_f32) Cert.Reference21Ideal.Gen.facts.transposes_S4x2048x1408_S2048x4x1408_1_0_2) Cert.Reference21Ideal.Gen.facts.shapeCasts_S2048x4x1408_S2048x5632))) Cert.Reference21Ideal.Gen.facts.bitsLt_bf16_f32) a : FVec Ideal S4224x5632 .bf16) = keep (unitG n w v) a := by
  funext i
  idx_vars i
  unfold keep unitG wdot swiglu Ideal.logistic
  pointwise []
  exact sel i1 _ _

end Ref

variable (m : (ℓ : Loc nD τ sig) → Buf (Elt Ideal) ℓ) (ρ : Dev nD → PrngReg)

/-- The pipeline at the call's table. -/
abbrev cf : Pipeline.Cfg sig Λ₀ := cfgM m (okI m)

theorem hN : (cf m).N = 12 := rfl

/-- The grid's coordinates at point `t`: panel `t / 6`, rows' block `t % 6`. -/
theorem co : ∀ t : Fin grid0.N, ((grid0.coords t) 0).val = t.val / 6 ∧ ((grid0.coords t) 1).val = t.val % 6 := by decide +kernel

/-- The block indices at grid point `t`, and the places of the blocks' elements. -/
theorem idx0 (t : Fin (cf m).N) : ((cf m).win 0).index t (0 : Fin 2) = t.val % 6 ∧ ((cf m).win 0).index t (1 : Fin 2) = 0 :=
  (by decide +kernel : ∀ t : Fin grid0.N, cc0_transform_0 (grid0.coords t) (0 : Fin 2) = t.val % 6 ∧ cc0_transform_0 (grid0.coords t) (1 : Fin 2) = 0) t

theorem idx1 (t : Fin (cf m).N) : ((cf m).win 1).index t (0 : Fin 3) = (2 - t.val / 6) ∧ ((cf m).win 1).index t (1 : Fin 3) = 0 ∧ ((cf m).win 1).index t (2 : Fin 3) = 0 := by
  have e : ((cf m).win 1).index t = (![(2 - ((grid0.coords t) 0).val), 0, 0] : Fin 3 → Nat) := tr1 m (grid0.coords t)
  rw [e]
  exact ⟨by show 2 - ((grid0.coords t) 0).val = 2 - t.val / 6; rw [(co t).1], rfl, rfl⟩

theorem idx2 (t : Fin (cf m).N) : ((cf m).win 2).index t (0 : Fin 3) = (2 - t.val / 6) ∧ ((cf m).win 2).index t (1 : Fin 3) = 0 ∧ ((cf m).win 2).index t (2 : Fin 3) = 0 := by
  have e : ((cf m).win 2).index t = (![(2 - ((grid0.coords t) 0).val), 0, 0] : Fin 3 → Nat) := tr2 m (grid0.coords t)
  rw [e]
  exact ⟨by show 2 - ((grid0.coords t) 0).val = 2 - t.val / 6; rw [(co t).1], rfl, rfl⟩

theorem idx4 (t : Fin (cf m).N) : ((cf m).win 4).index t (0 : Fin 2) = t.val % 6 ∧ ((cf m).win 4).index t (1 : Fin 2) = (2 - t.val / 6) := by
  have e : ((cf m).win 4).index t = (![((grid0.coords t) 1).val, (2 - ((grid0.coords t) 0).val)] : Fin 2 → Nat) := tr7 m (grid0.coords t)
  rw [e]
  exact ⟨(co t).2, by show 2 - ((grid0.coords t) 0).val = 2 - t.val / 6; rw [(co t).1]⟩

theorem idx5 (t : Fin (cf m).N) : ((cf m).win 5).index t (0 : Fin 2) = t.val % 6 ∧ ((cf m).win 5).index t (1 : Fin 2) = (2 - t.val / 6) := by
  have e : ((cf m).win 5).index t = (![((grid0.coords t) 1).val, (2 - ((grid0.coords t) 0).val)] : Fin 2 → Nat) := tr8 m (grid0.coords t)
  rw [e]
  exact ⟨(co t).2, by show 2 - ((grid0.coords t) 0).val = 2 - t.val / 6; rw [(co t).1]⟩

theorem idx6 (t : Fin (cf m).N) : ((cf m).win 6).index t (0 : Fin 2) = t.val % 6 ∧ ((cf m).win 6).index t (1 : Fin 2) = (2 - t.val / 6) := by
  have e : ((cf m).win 6).index t = (![((grid0.coords t) 1).val, (2 - ((grid0.coords t) 0).val)] : Fin 2 → Nat) := tr9 m (grid0.coords t)
  rw [e]
  exact ⟨(co t).2, by show 2 - ((grid0.coords t) 0).val = 2 - t.val / 6; rw [(co t).1]⟩

theorem emb0 (t : Fin (cf m).N) (r : Fin 704) (k : Fin 2048) : (((cf m).win 0).blk t).view.emb (ix2 r k)
    = ix2 ⟨t.val % 6 * 704 + r.val, by have := r.isLt; have := t.isLt; have := hN m; omega⟩ k := by
  obtain ⟨e0, e1⟩ := idx0 m t
  funext a; apply Fin.ext
  match a with
  | ⟨0, _⟩ => show ((cf m).win 0).index t (0 : Fin 2) * 704 + 1 * r.val = t.val % 6 * 704 + r.val; omega
  | ⟨1, _⟩ => show ((cf m).win 0).index t (1 : Fin 2) * 2048 + 1 * k.val = k.val; omega

theorem emb1 (t : Fin (cf m).N) (k : Fin 2048) (l : Fin 1408) : (((cf m).win 1).blk t).view.emb (ix3 0 k l)
    = ix3 ⟨(2 - t.val / 6), by have := t.isLt; have := hN m; omega⟩ k l := by
  obtain ⟨e0, e1, e2⟩ := idx1 m t
  funext a; apply Fin.ext
  match a with
  | ⟨0, _⟩ => show ((cf m).win 1).index t (0 : Fin 3) * 1 + 1 * 0 = (2 - t.val / 6); omega
  | ⟨1, _⟩ => show ((cf m).win 1).index t (1 : Fin 3) * 2048 + 1 * k.val = k.val; omega
  | ⟨2, _⟩ => show ((cf m).win 1).index t (2 : Fin 3) * 1408 + 1 * l.val = l.val; omega

theorem emb2 (t : Fin (cf m).N) (k : Fin 2048) (l : Fin 1408) : (((cf m).win 2).blk t).view.emb (ix3 0 k l)
    = ix3 ⟨(2 - t.val / 6), by have := t.isLt; have := hN m; omega⟩ k l := by
  obtain ⟨e0, e1, e2⟩ := idx2 m t
  funext a; apply Fin.ext
  match a with
  | ⟨0, _⟩ => show ((cf m).win 2).index t (0 : Fin 3) * 1 + 1 * 0 = (2 - t.val / 6); omega
  | ⟨1, _⟩ => show ((cf m).win 2).index t (1 : Fin 3) * 2048 + 1 * k.val = k.val; omega
  | ⟨2, _⟩ => show ((cf m).win 2).index t (2 : Fin 3) * 1408 + 1 * l.val = l.val; omega

theorem emb4 (t : Fin (cf m).N) (r : Fin 704) (l : Fin 1408) : (((cf m).win 4).blk t).view.emb (ix2 r l)
    = ix2 ⟨t.val % 6 * 704 + r.val, by have := r.isLt; have := t.isLt; have := hN m; omega⟩ ⟨(2 - t.val / 6) * 1408 + l.val, by have := l.isLt; have := t.isLt; have := hN m; omega⟩ := by
  obtain ⟨e0, e1⟩ := idx4 m t
  funext a; apply Fin.ext
  match a with
  | ⟨0, _⟩ => show ((cf m).win 4).index t (0 : Fin 2) * 704 + 1 * r.val = t.val % 6 * 704 + r.val; omega
  | ⟨1, _⟩ => show ((cf m).win 4).index t (1 : Fin 2) * 1408 + 1 * l.val = (2 - t.val / 6) * 1408 + l.val; omega

theorem emb5 (t : Fin (cf m).N) (r : Fin 704) (l : Fin 1408) : (((cf m).win 5).blk t).view.emb (ix2 r l)
    = ix2 ⟨t.val % 6 * 704 + r.val, by have := r.isLt; have := t.isLt; have := hN m; omega⟩ ⟨(2 - t.val / 6) * 1408 + l.val, by have := l.isLt; have := t.isLt; have := hN m; omega⟩ := by
  obtain ⟨e0, e1⟩ := idx5 m t
  funext a; apply Fin.ext
  match a with
  | ⟨0, _⟩ => show ((cf m).win 5).index t (0 : Fin 2) * 704 + 1 * r.val = t.val % 6 * 704 + r.val; omega
  | ⟨1, _⟩ => show ((cf m).win 5).index t (1 : Fin 2) * 1408 + 1 * l.val = (2 - t.val / 6) * 1408 + l.val; omega

theorem emb6 (t : Fin (cf m).N) (r : Fin 704) (l : Fin 1408) : (((cf m).win 6).blk t).view.emb (ix2 r l)
    = ix2 ⟨t.val % 6 * 704 + r.val, by have := r.isLt; have := t.isLt; have := hN m; omega⟩ ⟨(2 - t.val / 6) * 1408 + l.val, by have := l.isLt; have := t.isLt; have := hN m; omega⟩ := by
  obtain ⟨e0, e1⟩ := idx6 m t
  funext a; apply Fin.ext
  match a with
  | ⟨0, _⟩ => show ((cf m).win 6).index t (0 : Fin 2) * 704 + 1 * r.val = t.val % 6 * 704 + r.val; omega
  | ⟨1, _⟩ => show ((cf m).win 6).index t (1 : Fin 2) * 1408 + 1 * l.val = (2 - t.val / 6) * 1408 + l.val; omega

theorem flush4 (t : Fin (cf m).N) : ((cf m).win 4).flush t = true := by
  by_cases h : t.val + 1 = 12
  · show (true && (decide (t.val + 1 = 12) || _)) = true
    simp [h]
  · have hN : t.val + 1 < 12 := by have := t.isLt; have := hN m; omega
    have hne : ((cf m).win 4).index (⟨t.val + 1, hN⟩ : Fin (cf m).N) ≠ ((cf m).win 4).index t := fun he => by
      have a := congrFun he (0 : Fin 2)
      rw [(idx4 m _).1, (idx4 m t).1] at a
      have a : (t.val + 1) % 6 = t.val % 6 := a
      omega
    show (true && (decide (t.val + 1 = 12) || decide (∃ h : t.val + 1 < grid0.N, ((cf m).win 4).index ⟨t.val + 1, h⟩ ≠ ((cf m).win 4).index t))) = true
    rw [decide_eq_true (⟨hN, hne⟩ : ∃ h : t.val + 1 < grid0.N, ((cf m).win 4).index ⟨t.val + 1, h⟩ ≠ ((cf m).win 4).index t)]
    simp

theorem covered4 (i0 : Fin 4224) (i1 : Fin 5632) (hp : 1408 ≤ i1.val ∧ i1.val < 4224) :
    ∃ t : Fin (cf m).N, ((cf m).win 4).flush t = true ∧ (ix2 i0 i1 : S4224x5632.Idx) ∈ (((cf m).win 4).blk t).view.set := by
  have hi0 := i0.isLt; have hi1 := i1.isLt
  have hN : (2 - i1.val / 1408) * 6 + i0.val / 704 < (cf m).N := by show _ < 12; omega
  refine ⟨⟨_, hN⟩, flush4 m _, ?_⟩
  have h := (((cf m).win 4).blk ⟨_, hN⟩).view.emb_mem_set (ix2 ⟨i0.val % 704, by omega⟩ ⟨i1.val % 1408, by omega⟩)
  have e : (((cf m).win 4).blk ⟨_, hN⟩).view.emb (ix2 ⟨i0.val % 704, by omega⟩ ⟨i1.val % 1408, by omega⟩) = ix2 i0 i1 := by
    rw [emb4]
    funext a; apply Fin.ext
    match a with
    | ⟨0, _⟩ => show ((2 - i1.val / 1408) * 6 + i0.val / 704) % 6 * 704 + i0.val % 704 = i0.val; omega
    | ⟨1, _⟩ => show (2 - ((2 - i1.val / 1408) * 6 + i0.val / 704) / 6) * 1408 + i1.val % 1408 = i1.val; omega
  rw [e] at h
  exact h

theorem only4 (i0 : Fin 4224) (i1 : Fin 5632) (t : Fin (cf m).N) (h : (ix2 i0 i1 : S4224x5632.Idx) ∈ (((cf m).win 4).blk t).view.set) : 1408 ≤ i1.val ∧ i1.val < 4224 := by
  obtain ⟨j, hj⟩ := View.exists_emb_of_mem_set _ h
  have hN := hN m; have ht := t.isLt
  have hj : (((cf m).win 4).blk t).view.emb (j : S704x1408.Idx) = ix2 i0 i1 := hj
  revert hj
  refine (fun (j : S704x1408.Idx) (hj : (((cf m).win 4).blk t).view.emb j = ix2 i0 i1) => ?_ : ∀ (j : S704x1408.Idx) (hj : (((cf m).win 4).blk t).view.emb j = ix2 i0 i1), _) j
  idx_vars j
  rw [emb4] at hj
  have e : (2 - t.val / 6) * 1408 + j1.val = i1.val := congrArg Fin.val (congrFun hj (1 : Fin 2))
  have hj1 := j1.isLt
  omega

theorem flush5 (t : Fin (cf m).N) : ((cf m).win 5).flush t = true := by
  by_cases h : t.val + 1 = 12
  · show (true && (decide (t.val + 1 = 12) || _)) = true
    simp [h]
  · have hN : t.val + 1 < 12 := by have := t.isLt; have := hN m; omega
    have hne : ((cf m).win 5).index (⟨t.val + 1, hN⟩ : Fin (cf m).N) ≠ ((cf m).win 5).index t := fun he => by
      have a := congrFun he (0 : Fin 2)
      rw [(idx5 m _).1, (idx5 m t).1] at a
      have a : (t.val + 1) % 6 = t.val % 6 := a
      omega
    show (true && (decide (t.val + 1 = 12) || decide (∃ h : t.val + 1 < grid0.N, ((cf m).win 5).index ⟨t.val + 1, h⟩ ≠ ((cf m).win 5).index t))) = true
    rw [decide_eq_true (⟨hN, hne⟩ : ∃ h : t.val + 1 < grid0.N, ((cf m).win 5).index ⟨t.val + 1, h⟩ ≠ ((cf m).win 5).index t)]
    simp

theorem covered5 (i0 : Fin 4224) (i1 : Fin 5632) (hp : 1408 ≤ i1.val ∧ i1.val < 4224) :
    ∃ t : Fin (cf m).N, ((cf m).win 5).flush t = true ∧ (ix2 i0 i1 : S4224x5632.Idx) ∈ (((cf m).win 5).blk t).view.set := by
  have hi0 := i0.isLt; have hi1 := i1.isLt
  have hN : (2 - i1.val / 1408) * 6 + i0.val / 704 < (cf m).N := by show _ < 12; omega
  refine ⟨⟨_, hN⟩, flush5 m _, ?_⟩
  have h := (((cf m).win 5).blk ⟨_, hN⟩).view.emb_mem_set (ix2 ⟨i0.val % 704, by omega⟩ ⟨i1.val % 1408, by omega⟩)
  have e : (((cf m).win 5).blk ⟨_, hN⟩).view.emb (ix2 ⟨i0.val % 704, by omega⟩ ⟨i1.val % 1408, by omega⟩) = ix2 i0 i1 := by
    rw [emb5]
    funext a; apply Fin.ext
    match a with
    | ⟨0, _⟩ => show ((2 - i1.val / 1408) * 6 + i0.val / 704) % 6 * 704 + i0.val % 704 = i0.val; omega
    | ⟨1, _⟩ => show (2 - ((2 - i1.val / 1408) * 6 + i0.val / 704) / 6) * 1408 + i1.val % 1408 = i1.val; omega
  rw [e] at h
  exact h

theorem only5 (i0 : Fin 4224) (i1 : Fin 5632) (t : Fin (cf m).N) (h : (ix2 i0 i1 : S4224x5632.Idx) ∈ (((cf m).win 5).blk t).view.set) : 1408 ≤ i1.val ∧ i1.val < 4224 := by
  obtain ⟨j, hj⟩ := View.exists_emb_of_mem_set _ h
  have hN := hN m; have ht := t.isLt
  have hj : (((cf m).win 5).blk t).view.emb (j : S704x1408.Idx) = ix2 i0 i1 := hj
  revert hj
  refine (fun (j : S704x1408.Idx) (hj : (((cf m).win 5).blk t).view.emb j = ix2 i0 i1) => ?_ : ∀ (j : S704x1408.Idx) (hj : (((cf m).win 5).blk t).view.emb j = ix2 i0 i1), _) j
  idx_vars j
  rw [emb5] at hj
  have e : (2 - t.val / 6) * 1408 + j1.val = i1.val := congrArg Fin.val (congrFun hj (1 : Fin 2))
  have hj1 := j1.isLt
  omega

theorem flush6 (t : Fin (cf m).N) : ((cf m).win 6).flush t = true := by
  by_cases h : t.val + 1 = 12
  · show (true && (decide (t.val + 1 = 12) || _)) = true
    simp [h]
  · have hN : t.val + 1 < 12 := by have := t.isLt; have := hN m; omega
    have hne : ((cf m).win 6).index (⟨t.val + 1, hN⟩ : Fin (cf m).N) ≠ ((cf m).win 6).index t := fun he => by
      have a := congrFun he (0 : Fin 2)
      rw [(idx6 m _).1, (idx6 m t).1] at a
      have a : (t.val + 1) % 6 = t.val % 6 := a
      omega
    show (true && (decide (t.val + 1 = 12) || decide (∃ h : t.val + 1 < grid0.N, ((cf m).win 6).index ⟨t.val + 1, h⟩ ≠ ((cf m).win 6).index t))) = true
    rw [decide_eq_true (⟨hN, hne⟩ : ∃ h : t.val + 1 < grid0.N, ((cf m).win 6).index ⟨t.val + 1, h⟩ ≠ ((cf m).win 6).index t)]
    simp

theorem covered6 (i0 : Fin 4224) (i1 : Fin 5632) (hp : 1408 ≤ i1.val ∧ i1.val < 4224) :
    ∃ t : Fin (cf m).N, ((cf m).win 6).flush t = true ∧ (ix2 i0 i1 : S4224x5632.Idx) ∈ (((cf m).win 6).blk t).view.set := by
  have hi0 := i0.isLt; have hi1 := i1.isLt
  have hN : (2 - i1.val / 1408) * 6 + i0.val / 704 < (cf m).N := by show _ < 12; omega
  refine ⟨⟨_, hN⟩, flush6 m _, ?_⟩
  have h := (((cf m).win 6).blk ⟨_, hN⟩).view.emb_mem_set (ix2 ⟨i0.val % 704, by omega⟩ ⟨i1.val % 1408, by omega⟩)
  have e : (((cf m).win 6).blk ⟨_, hN⟩).view.emb (ix2 ⟨i0.val % 704, by omega⟩ ⟨i1.val % 1408, by omega⟩) = ix2 i0 i1 := by
    rw [emb6]
    funext a; apply Fin.ext
    match a with
    | ⟨0, _⟩ => show ((2 - i1.val / 1408) * 6 + i0.val / 704) % 6 * 704 + i0.val % 704 = i0.val; omega
    | ⟨1, _⟩ => show (2 - ((2 - i1.val / 1408) * 6 + i0.val / 704) / 6) * 1408 + i1.val % 1408 = i1.val; omega
  rw [e] at h
  exact h

theorem only6 (i0 : Fin 4224) (i1 : Fin 5632) (t : Fin (cf m).N) (h : (ix2 i0 i1 : S4224x5632.Idx) ∈ (((cf m).win 6).blk t).view.set) : 1408 ≤ i1.val ∧ i1.val < 4224 := by
  obtain ⟨j, hj⟩ := View.exists_emb_of_mem_set _ h
  have hN := hN m; have ht := t.isLt
  have hj : (((cf m).win 6).blk t).view.emb (j : S704x1408.Idx) = ix2 i0 i1 := hj
  revert hj
  refine (fun (j : S704x1408.Idx) (hj : (((cf m).win 6).blk t).view.emb j = ix2 i0 i1) => ?_ : ∀ (j : S704x1408.Idx) (hj : (((cf m).win 6).blk t).view.emb j = ix2 i0 i1), _) j
  idx_vars j
  rw [emb6] at hj
  have e : (2 - t.val / 6) * 1408 + j1.val = i1.val := congrArg Fin.val (congrFun hj (1 : Fin 2))
  have hj1 := j1.isLt
  omega

/-- A block's product is the whole product at the block's place. -/
theorem dot1 (c : Dev nD) (t : Fin (cf m).N) (r : Fin 704) (l : Fin 1408) :
    dot (iblk m (okI m) c 0 t) (iblk m (okI m) c 1 t) r l = wdot (V m c main_arg0) (V m c main_arg1)
      ⟨t.val % 6 * 704 + r.val, by have := r.isLt; have := t.isLt; have := hN m; omega⟩ ⟨(2 - t.val / 6) * 1408 + l.val, by have := l.isLt; have := t.isLt; have := hN m; omega⟩ := by
  unfold dot wdot
  refine Finset.sum_congr rfl fun k _ => congrArg₂ (fun a b : EReal => a * b) ?_ ?_
  · show V m c main_arg0 ((((cf m).win 0).blk t).view.emb (ix2 r k)) = _
    rw [emb0]
  · show V m c main_arg1 ((((cf m).win 1).blk t).view.emb (ix3 0 k l)) = _
    rw [emb1]
    have hl := l.isLt
    exact congrArg (V m c main_arg1) (congrArg₂ (fun a b => ix3 a k b) (Fin.ext (by show (2 - t.val / 6) = ((2 - t.val / 6) * 1408 + l.val) / 1408; omega)) (Fin.ext (by show l.val = ((2 - t.val / 6) * 1408 + l.val) % 1408; omega)))

theorem dot2 (c : Dev nD) (t : Fin (cf m).N) (r : Fin 704) (l : Fin 1408) :
    dot (iblk m (okI m) c 0 t) (iblk m (okI m) c 2 t) r l = wdot (V m c main_arg0) (V m c main_arg2)
      ⟨t.val % 6 * 704 + r.val, by have := r.isLt; have := t.isLt; have := hN m; omega⟩ ⟨(2 - t.val / 6) * 1408 + l.val, by have := l.isLt; have := t.isLt; have := hN m; omega⟩ := by
  unfold dot wdot
  refine Finset.sum_congr rfl fun k _ => congrArg₂ (fun a b : EReal => a * b) ?_ ?_
  · show V m c main_arg0 ((((cf m).win 0).blk t).view.emb (ix2 r k)) = _
    rw [emb0]
  · show V m c main_arg2 ((((cf m).win 2).blk t).view.emb (ix3 0 k l)) = _
    rw [emb2]
    have hl := l.isLt
    exact congrArg (V m c main_arg2) (congrArg₂ (fun a b => ix3 a k b) (Fin.ext (by show (2 - t.val / 6) = ((2 - t.val / 6) * 1408 + l.val) / 1408; omega)) (Fin.ext (by show l.val = ((2 - t.val / 6) * 1408 + l.val) % 1408; omega)))

theorem flushed4_eq (c : Dev nD) (t : Fin (cf m).N) :
    (dats m (okI m) 0 c).flushed 4 t = (((cf m).win 4).blk t).view.read (Elt Ideal) (prodG (V m c main_arg0) (V m c main_arg1)) := by
  show ((cf m).win 4).cut (grid0.coords t) ((dats m (okI m) 0 c).after 4 t) = _
  rw [after0_4]
  unfold outsAt0
  dsimp only
  have e := out4_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (iblk m (okI m) c 0 t) (iblk m (okI m) c 1 t) (iblk m (okI m) c 2 t) (iblk m (okI m) c 3 t) (tbl m 0)
  refine (congrArg (((cf m).win 4).cut (grid0.coords t)) e).trans ?_
  refine funext fun (j : S704x1408.Idx) => ?_
  show (prodB (iblk m (okI m) c 0 t) (iblk m (okI m) c 1 t)) j = (prodG (V m c main_arg0) (V m c main_arg1)) ((((cf m).win 4).blk t).view.emb j)
  idx_vars j
  rw [emb4]
  exact dot1 m c t j0 j1

theorem flushed5_eq (c : Dev nD) (t : Fin (cf m).N) :
    (dats m (okI m) 0 c).flushed 5 t = (((cf m).win 5).blk t).view.read (Elt Ideal) (prodG (V m c main_arg0) (V m c main_arg2)) := by
  show ((cf m).win 5).cut (grid0.coords t) ((dats m (okI m) 0 c).after 5 t) = _
  rw [after0_5]
  unfold outsAt0
  dsimp only
  have e := out5_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (iblk m (okI m) c 0 t) (iblk m (okI m) c 1 t) (iblk m (okI m) c 2 t) (iblk m (okI m) c 3 t) (tbl m 0)
  refine (congrArg (((cf m).win 5).cut (grid0.coords t)) e).trans ?_
  refine funext fun (j : S704x1408.Idx) => ?_
  show (prodB (iblk m (okI m) c 0 t) (iblk m (okI m) c 2 t)) j = (prodG (V m c main_arg0) (V m c main_arg2)) ((((cf m).win 5).blk t).view.emb j)
  idx_vars j
  rw [emb5]
  exact dot2 m c t j0 j1

theorem flushed6_eq (c : Dev nD) (t : Fin (cf m).N) :
    (dats m (okI m) 0 c).flushed 6 t = (((cf m).win 6).blk t).view.read (Elt Ideal) (unitG (V m c main_arg0) (V m c main_arg1) (V m c main_arg2)) := by
  show ((cf m).win 6).cut (grid0.coords t) ((dats m (okI m) 0 c).after 6 t) = _
  rw [after0_6]
  unfold outsAt0
  dsimp only
  have e := out6_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (iblk m (okI m) c 0 t) (iblk m (okI m) c 1 t) (iblk m (okI m) c 2 t) (iblk m (okI m) c 3 t) (tbl m 0)
  refine (congrArg (((cf m).win 6).cut (grid0.coords t)) e).trans ?_
  refine funext fun (j : S704x1408.Idx) => ?_
  show (unitB (iblk m (okI m) c 0 t) (iblk m (okI m) c 1 t) (iblk m (okI m) c 2 t)) j = (unitG (V m c main_arg0) (V m c main_arg1) (V m c main_arg2)) ((((cf m).win 6).blk t).view.emb j)
  idx_vars j
  rw [emb6]
  exact congrArg₂ swiglu (dot1 m c t j0 j1) (dot2 m c t j0 j1)

theorem entry4 (c : Dev nD) : (dats m (okI m) 0 c).A 4 = m ((c : Thread nD τ).loc main_arg3) := (A_eq m (okI m) c 4).trans rfl

theorem final4 (c : Dev nD) : (dats m (okI m) 0 c).arrAt 4 (cf m).N = keep (prodG (m ((c : Thread nD τ).loc main_arg0)) (m ((c : Thread nD τ).loc main_arg1))) (m ((c : Thread nD τ).loc main_arg3)) := by
  rw [← V_main_arg0 m c, ← V_main_arg1 m c]
  refine funext fun (i : S4224x5632.Idx) => ?_
  idx_vars i
  by_cases hp : 1408 ≤ i1.val ∧ i1.val < 4224
  · obtain ⟨t, hf, ht⟩ := covered4 m i0 i1 hp
    exact ((dats m (okI m) 0 c).arrAt_apply_of_mem 4 (prodG (V m c main_arg0) (V m c main_arg1)) (fun t _ => flushed4_eq m c t) (cf m).N t (ix2 i0 i1) t.isLt hf ht).trans (if_pos hp).symm
  · exact ((dats m (okI m) 0 c).arrAt_apply_of_forall_not_mem 4 (cf m).N (ix2 i0 i1) (fun t _ _ h => hp (only4 m i0 i1 t h))).trans
      ((congrFun (entry4 m c) (ix2 i0 i1)).trans (if_neg hp).symm)

theorem entry5 (c : Dev nD) : (dats m (okI m) 0 c).A 5 = m ((c : Thread nD τ).loc main_arg4) := (A_eq m (okI m) c 5).trans rfl

theorem final5 (c : Dev nD) : (dats m (okI m) 0 c).arrAt 5 (cf m).N = keep (prodG (m ((c : Thread nD τ).loc main_arg0)) (m ((c : Thread nD τ).loc main_arg2))) (m ((c : Thread nD τ).loc main_arg4)) := by
  rw [← V_main_arg0 m c, ← V_main_arg2 m c]
  refine funext fun (i : S4224x5632.Idx) => ?_
  idx_vars i
  by_cases hp : 1408 ≤ i1.val ∧ i1.val < 4224
  · obtain ⟨t, hf, ht⟩ := covered5 m i0 i1 hp
    exact ((dats m (okI m) 0 c).arrAt_apply_of_mem 5 (prodG (V m c main_arg0) (V m c main_arg2)) (fun t _ => flushed5_eq m c t) (cf m).N t (ix2 i0 i1) t.isLt hf ht).trans (if_pos hp).symm
  · exact ((dats m (okI m) 0 c).arrAt_apply_of_forall_not_mem 5 (cf m).N (ix2 i0 i1) (fun t _ _ h => hp (only5 m i0 i1 t h))).trans
      ((congrFun (entry5 m c) (ix2 i0 i1)).trans (if_neg hp).symm)

theorem entry6 (c : Dev nD) : (dats m (okI m) 0 c).A 6 = m ((c : Thread nD τ).loc main_arg5) := (A_eq m (okI m) c 6).trans rfl

theorem final6 (c : Dev nD) : (dats m (okI m) 0 c).arrAt 6 (cf m).N = keep (unitG (m ((c : Thread nD τ).loc main_arg0)) (m ((c : Thread nD τ).loc main_arg1)) (m ((c : Thread nD τ).loc main_arg2))) (m ((c : Thread nD τ).loc main_arg5)) := by
  rw [← V_main_arg0 m c, ← V_main_arg1 m c, ← V_main_arg2 m c]
  refine funext fun (i : S4224x5632.Idx) => ?_
  idx_vars i
  by_cases hp : 1408 ≤ i1.val ∧ i1.val < 4224
  · obtain ⟨t, hf, ht⟩ := covered6 m i0 i1 hp
    exact ((dats m (okI m) 0 c).arrAt_apply_of_mem 6 (unitG (V m c main_arg0) (V m c main_arg1) (V m c main_arg2)) (fun t _ => flushed6_eq m c t) (cf m).N t (ix2 i0 i1) t.isLt hf ht).trans (if_pos hp).symm
  · exact ((dats m (okI m) 0 c).arrAt_apply_of_forall_not_mem 6 (cf m).N (ix2 i0 i1) (fun t _ _ h => hp (only6 m i0 i1 t h))).trans
      ((congrFun (entry6 m c) (ix2 i0 i1)).trans (if_neg hp).symm)

/-- The run: the three results, the arguments unchanged. -/
theorem run_blocks : θ_run defs (onTc (τ := τ) (main (F := Ideal))) ⟨m, fun _ => 0, ρ⟩ fun r => ∀ c : Dev nD,
      r.2.mem ((c.tc : Thread nD τ).loc main_v5_0) = keep (prodG (m ((c : Thread nD τ).loc main_arg0)) (m ((c : Thread nD τ).loc main_arg1))) (m ((c : Thread nD τ).loc main_arg3))
      ∧ r.2.mem ((c.tc : Thread nD τ).loc main_v5_1) = keep (prodG (m ((c : Thread nD τ).loc main_arg0)) (m ((c : Thread nD τ).loc main_arg2))) (m ((c : Thread nD τ).loc main_arg4))
      ∧ r.2.mem ((c.tc : Thread nD τ).loc main_v5_2) = keep (unitG (m ((c : Thread nD τ).loc main_arg0)) (m ((c : Thread nD τ).loc main_arg1)) (m ((c : Thread nD τ).loc main_arg2))) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 4).trans (final4 m c), ((h.1 c).1 5).trans (final5 m c), ((h.1 c).1 6).trans (final6 m c), h.2 c⟩)
    (θ_run_and (run_main m ρ (okI m)) (unchanged m ρ (okI m)))

/-- The kernel and the reference end with equal results. -/
theorem algebraic : Cert.algebraic_Kernel21Ideal_Reference21Ideal := fun m g m' g' _ hm =>
  ⟨fun c => keep (prodG (m ((c : Thread nD τ).loc main_arg0)) (m ((c : Thread nD τ).loc main_arg1))) (m ((c : Thread nD τ).loc main_arg3)), fun c => keep (prodG (m ((c : Thread nD τ).loc main_arg0)) (m ((c : Thread nD τ).loc main_arg2))) (m ((c : Thread nD τ).loc main_arg4)), fun c => keep (unitG (m ((c : Thread nD τ).loc main_arg0)) (m ((c : Thread nD τ).loc main_arg1)) (m ((c : Thread nD τ).loc main_arg2))) (m ((c : Thread nD τ).loc main_arg5)), run_blocks m g,
    (θ_run Cert.Reference21Ideal.defs _ _).mono (fun r h c => by
      have t0 := (h c).1.trans ((refProd _ _ _).trans (by rw [(hm c).1, (hm c).2.1, (hm c).2.2.2.1] : _ = keep (prodG (m ((c : Thread nD τ).loc main_arg0)) (m ((c : Thread nD τ).loc main_arg1))) (m ((c : Thread nD τ).loc main_arg3))))
      have t1 := (h c).2.1.trans ((refProd _ _ _).trans (by rw [(hm c).1, (hm c).2.2.1, (hm c).2.2.2.2.1] : _ = keep (prodG (m ((c : Thread nD τ).loc main_arg0)) (m ((c : Thread nD τ).loc main_arg2))) (m ((c : Thread nD τ).loc main_arg4))))
      have t2 := (h c).2.2.1.trans ((refUnit _ _ _ _).trans (by rw [(hm c).1, (hm c).2.1, (hm c).2.2.1, (hm c).2.2.2.2.2.1] : _ = keep (unitG (m ((c : Thread nD τ).loc main_arg0)) (m ((c : Thread nD τ).loc main_arg1)) (m ((c : Thread nD τ).loc main_arg2))) (m ((c : Thread nD τ).loc main_arg5))))
      exact ⟨t0, t1, t2, (h c).2.2.2⟩) (Cert.Reference21Ideal.Value.run m' g')⟩

/-- The reference runs, its arguments unchanged, its counters at zero. -/
theorem frameR : Cert.quiescent_Reference21Ideal := fun m g _ =>
  (θ_run Cert.Reference21Ideal.defs _ _).mono (fun r h => ⟨fun c => (h c).2.2.2,
      Idealize.ShloMosaic.sem_eq_zero_of_no_sems (by decide) r.2⟩)
    (Cert.Reference21Ideal.Value.run (F := Ideal) m g)

end Cert.Proof.FfnNear

end
-- ==== Proof.FfnFarTable.lean ====
/- THE TABLE OF THE FAR SHARD'S GATE AND UP CALL: the call's column panels are named by a table that the host fills.
   Here, for the program at floats and for the ideal one: the table's words (`word`), the blocks' places they give (`tr1` and
   on), and that every block lies inside its array (`ok`). -/
module

public import proofs.«01_k».proof.Proof.Gen.Kernel22.Frame
public import proofs.«01_k».proof.Proof.Gen.Kernel22Ideal.Frame

@[expose] public section

noncomputable section

namespace Cert.Proof.FfnFarTable

open Idealize.ShloMosaic Idealize.ShloMosaic.TcCoe Idealize.SL.Sem

section Kernel22

open Cert.Kernel22 Cert.Kernel22.Gen

variable {F : FTy → Type} [FloatOps F] (m : (ℓ : Loc Cert.Kernel22.nD Cert.Kernel22.τ Cert.Kernel22.sig) → Buf (Elt F) ℓ)

namespace Kernel22

theorem coord (i : grid0.Coords) : (![(Scalar.indexCast (BitVec.ofNat 32 (i 0).val) : Index).toNat] : Fin 1 → Nat) 0 = (i 0).val := by
  have h0 : (i 0).val < 1 := (i 0).isLt
  simp [Scalar.indexCast, BitVec.toNat_ofNat]
  try omega

theorem tbl_eq : tbl m 0 = (broadcastInDim S1 ![] bcast_S_S1 (xori (constantI S_ 32 0#32) (constantI S_ 32 3#32) : IVec S_ 32) : IVec S1 32) := rfl

/-- The table's word at a grid point. -/
theorem word (i : grid0.Coords) (off : Fin 1 → Nat) (ho : off 0 = (i 0).val)
    (h : ∀ a, off a + S1.size a ≤ S1.size a) (h1 : S1.numel = 1) :
    ((tbl m).at 0 (Rect.unit (s := S1) off S1.size h) h1 : BitVec 32) = BitVec.ofNat 32 3 := by
  have h0 : (i 0).val < 1 := (i 0).isLt
  have e' : off = ![0] := funext fun a => by fin_cases a; exact (ho.trans (Nat.lt_one_iff.mp h0) : off 0 = 0)
  subst e'
  refine (congrFun (tbl_eq m) _).trans ?_
  exact (by decide : (0#32 ^^^ 3#32 : BitVec 32) = 3#32)

/-- The blocks' places that read it. -/
theorem tr1 (i : grid0.Coords) : cc0_transform_1 k0_off1_inb numel1_S1 (tbl m) i = ![3, 0, 0] := by
  refine (congrArg (fun b : BitVec 32 => (![b.toNat, 0, 0] : Fin 3 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr2 (i : grid0.Coords) : cc0_transform_2 k0_off1_inb numel1_S1 (tbl m) i = ![3, 0, 0] := by
  refine (congrArg (fun b : BitVec 32 => (![b.toNat, 0, 0] : Fin 3 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr7 (i : grid0.Coords) : cc0_transform_7 k0_off1_inb numel1_S1 (tbl m) i = ![(i 1).val, 3] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr8 (i : grid0.Coords) : cc0_transform_8 k0_off1_inb numel1_S1 (tbl m) i = ![(i 1).val, 3] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr9 (i : grid0.Coords) : cc0_transform_9 k0_off1_inb numel1_S1 (tbl m) i = ![(i 1).val, 3] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

/-- Every block lies inside its array. -/
theorem ok : Ok m := by
  have h0 : ∀ i : grid0.Coords, (i 0).val < 1 := fun i => (i 0).isLt
  have h1 : ∀ i : grid0.Coords, (i 1).val < 6 := fun i => (i 1).isLt
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  all_goals
    have := h0 i
    have := h1 i
    intro a
  · rw [tr1]; fin_cases a <;> simp [S1x2048x1408, S4x2048x1408] <;> omega
  · rw [tr2]; fin_cases a <;> simp [S1x2048x1408, S4x2048x1408] <;> omega
  · rw [tr7]; fin_cases a <;> simp [S704x1408, S4224x5632] <;> omega
  · rw [tr8]; fin_cases a <;> simp [S704x1408, S4224x5632] <;> omega
  · rw [tr9]; fin_cases a <;> simp [S704x1408, S4224x5632] <;> omega

end Kernel22

end Kernel22

section Kernel22Ideal

open Cert.Kernel22Ideal Cert.Kernel22Ideal.Gen

variable {F : FTy → Type} [FloatOps F] (m : (ℓ : Loc Cert.Kernel22Ideal.nD Cert.Kernel22Ideal.τ Cert.Kernel22Ideal.sig) → Buf (Elt F) ℓ)

namespace Kernel22Ideal

theorem coord (i : grid0.Coords) : (![(Scalar.indexCast (BitVec.ofNat 32 (i 0).val) : Index).toNat] : Fin 1 → Nat) 0 = (i 0).val := by
  have h0 : (i 0).val < 1 := (i 0).isLt
  simp [Scalar.indexCast, BitVec.toNat_ofNat]
  try omega

theorem tbl_eq : tbl m 0 = (broadcastInDim S1 ![] bcast_S_S1 (xori (constantI S_ 32 0#32) (constantI S_ 32 3#32) : IVec S_ 32) : IVec S1 32) := rfl

/-- The table's word at a grid point. -/
theorem word (i : grid0.Coords) (off : Fin 1 → Nat) (ho : off 0 = (i 0).val)
    (h : ∀ a, off a + S1.size a ≤ S1.size a) (h1 : S1.numel = 1) :
    ((tbl m).at 0 (Rect.unit (s := S1) off S1.size h) h1 : BitVec 32) = BitVec.ofNat 32 3 := by
  have h0 : (i 0).val < 1 := (i 0).isLt
  have e' : off = ![0] := funext fun a => by fin_cases a; exact (ho.trans (Nat.lt_one_iff.mp h0) : off 0 = 0)
  subst e'
  refine (congrFun (tbl_eq m) _).trans ?_
  exact (by decide : (0#32 ^^^ 3#32 : BitVec 32) = 3#32)

/-- The blocks' places that read it. -/
theorem tr1 (i : grid0.Coords) : cc0_transform_1 k0_off1_inb numel1_S1 (tbl m) i = ![3, 0, 0] := by
  refine (congrArg (fun b : BitVec 32 => (![b.toNat, 0, 0] : Fin 3 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr2 (i : grid0.Coords) : cc0_transform_2 k0_off1_inb numel1_S1 (tbl m) i = ![3, 0, 0] := by
  refine (congrArg (fun b : BitVec 32 => (![b.toNat, 0, 0] : Fin 3 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr7 (i : grid0.Coords) : cc0_transform_7 k0_off1_inb numel1_S1 (tbl m) i = ![(i 1).val, 3] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr8 (i : grid0.Coords) : cc0_transform_8 k0_off1_inb numel1_S1 (tbl m) i = ![(i 1).val, 3] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

theorem tr9 (i : grid0.Coords) : cc0_transform_9 k0_off1_inb numel1_S1 (tbl m) i = ![(i 1).val, 3] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 6 := (i 1).isLt
  fin_cases a <;> simp [BitVec.toNat_ofNat] <;> omega

/-- Every block lies inside its array. -/
theorem ok : Ok m := by
  have h0 : ∀ i : grid0.Coords, (i 0).val < 1 := fun i => (i 0).isLt
  have h1 : ∀ i : grid0.Coords, (i 1).val < 6 := fun i => (i 1).isLt
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  all_goals
    have := h0 i
    have := h1 i
    intro a
  · rw [tr1]; fin_cases a <;> simp [S1x2048x1408, S4x2048x1408] <;> omega
  · rw [tr2]; fin_cases a <;> simp [S1x2048x1408, S4x2048x1408] <;> omega
  · rw [tr7]; fin_cases a <;> simp [S704x1408, S4224x5632] <;> omega
  · rw [tr8]; fin_cases a <;> simp [S704x1408, S4224x5632] <;> omega
  · rw [tr9]; fin_cases a <;> simp [S704x1408, S4224x5632] <;> omega

end Kernel22Ideal

end Kernel22Ideal

end Cert.Proof.FfnFarTable

end
-- ==== Proof.FfnFarPoint.lean ====
/- THE FAR SHARD'S GATE AND UP PRODUCTS, A POINT'S BLOCKS: a grid point multiplies 704 rows of the layer's input by one column panel of each
   weight, in five chunks of 256 columns and one of 128; the last chunk's two products are one product of the two weights' columns
   side by side.  Here: the three blocks a point leaves, as one product each and as the gated unit of the two (`out4_eq`, `out5_eq`, `out6_eq`). -/
module

public import proofs.«01_k».proof.Proof.Gen.Kernel22Ideal.Frame
public import Idealize.ShloMosaic.Lib.Pointwise

@[expose] public section

noncomputable section

namespace Cert.Proof.FfnFarPoint

open Cert.Kernel22Ideal Cert.Kernel22Ideal.Gen Idealize.ShloMosaic Idealize.ShloMosaic.TcCoe Idealize.SL.Sem

/-- The gated unit. -/
def swiglu (g u : EReal) : EReal := g * Ideal.logistic g * u

/-- An element of a block's product with a column panel. -/
def dot (x : Vec Ideal S704x2048 .bf16) (w : Vec Ideal S1x2048x1408 .bf16) (r : Fin 704) (l : Fin 1408) : EReal :=
  ∑ k : Fin 2048, (x (ix2 r k) * w (ix3 0 k l) : EReal)

def prodB (x : Vec Ideal S704x2048 .bf16) (w : Vec Ideal S1x2048x1408 .bf16) : Vec Ideal S704x1408 .bf16 := fun j => dot x w (j 0) (j 1)

def unitB (x : Vec Ideal S704x2048 .bf16) (w v : Vec Ideal S1x2048x1408 .bf16) : Vec Ideal S704x1408 .bf16 :=
  fun j => swiglu (dot x w (j 0) (j 1)) (dot x v (j 0) (j 1))

theorem hz2 : (![0, 0] : Fin 2 → Nat) = fun _ => 0 := funext fun a => by fin_cases a <;> rfl

/-- The place of a chunk's element in the block. -/
theorem emb_chunk (p n : Nat) (h : ∀ a, ![0, p] a + ![704, n] a ≤ S704x1408.size a) (a : Fin 704) (b : Fin n) :
    (Rect.unit (s := S704x1408) ![0, p] ![704, n] h).emb (ix2 a b) = ix2 a ⟨p + b.val, Nat.lt_of_lt_of_le (Nat.add_lt_add_left b.isLt p) (h 1)⟩ := by
  funext k; apply Fin.ext
  match k with
  | ⟨0, _⟩ => show 0 + 1 * a.val = a.val; omega
  | ⟨1, _⟩ => show p + 1 * b.val = p + b.val; omega

variable (c : Dev nD) (i : grid0.Coords) (arg3 : Memref sig .tc .vmem S704x2048 .bf16) (h3 : arg3.IsWhole) (arg4 : Memref sig .tc .vmem S1x2048x1408 .bf16) (h4 : arg4.IsWhole)
    (arg5 : Memref sig .tc .vmem S1x2048x1408 .bf16) (h5 : arg5.IsWhole) (arg6 : Memref sig .tc .vmem S8x128 .f32) (h6 : arg6.IsWhole)
    (arg10 : Memref sig .tc .vmem S704x1408 .bf16) (h10 : arg10.IsWhole) (arg11 : Memref sig .tc .vmem S704x1408 .bf16) (h11 : arg11.IsWhole)
    (arg12 : Memref sig .tc .vmem S704x1408 .bf16) (h12 : arg12.IsWhole)
    (x0 : Vec Ideal S704x2048 .bf16) (x1 x2 : Vec Ideal S1x2048x1408 .bf16) (x3 : Vec Ideal S8x128 .f32) (xt0 : TbBuf0 (F := Ideal) c tbM0_0)

/-- The gate product. -/
theorem out4_eq : out0_A_4 c i arg3 h3 arg4 h4 arg5 h5 arg6 h6 arg10 h10 arg11 h11 arg12 h12 x0 x1 x2 x3 xt0 = prodB x0 x1 := by
  unfold out0_A_4
  rw [View.read_writes_eq_canon _ _ _ (cover0_A_4 c i arg3 h3 arg4 h4 arg5 h5 arg6 h6 arg10 h10 arg11 h11 arg12 h12 x0 x1 x2 x3 xt0)]
  funext y
  refine View.canon_apply_of_pieces (prodB x0 x1) _ ?_ y (cover0_A_4 c i arg3 h3 arg4 h4 arg5 h5 arg6 h6 arg10 h10 arg11 h11 arg12 h12 x0 x1 x2 x3 xt0 y)
  intro p hp
  unfold kernelRun0_A at hp
  dsimp only at hp
  simp only [List.mem_cons, List.mem_nil_iff, or_false] at hp
  rcases hp with rfl | rfl | rfl | rfl | rfl | rfl
  all_goals
    intro w
    sl_unfold_words
    simp only [View.readAt_eq_ld, h3.read_unread, h4.read_unread, h5.read_unread, View.ld_unit_zero (S := S704x2048) hz2]
    idx_vars w
    refine Eq.trans ?_ (congrArg (prodB x0 x1) (emb_chunk _ _ _ w0 w1)).symm
    unfold prodB dot
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals simp only [Nat.zero_add]
  all_goals rfl

/-- The up product. -/
theorem out5_eq : out0_A_5 c i arg3 h3 arg4 h4 arg5 h5 arg6 h6 arg10 h10 arg11 h11 arg12 h12 x0 x1 x2 x3 xt0 = prodB x0 x2 := by
  unfold out0_A_5
  rw [View.read_writes_eq_canon _ _ _ (cover0_A_5 c i arg3 h3 arg4 h4 arg5 h5 arg6 h6 arg10 h10 arg11 h11 arg12 h12 x0 x1 x2 x3 xt0)]
  funext y
  refine View.canon_apply_of_pieces (prodB x0 x2) _ ?_ y (cover0_A_5 c i arg3 h3 arg4 h4 arg5 h5 arg6 h6 arg10 h10 arg11 h11 arg12 h12 x0 x1 x2 x3 xt0 y)
  intro p hp
  unfold kernelRun0_A at hp
  dsimp only at hp
  simp only [List.mem_cons, List.mem_nil_iff, or_false] at hp
  rcases hp with rfl | rfl | rfl | rfl | rfl | rfl
  all_goals
    intro w
    sl_unfold_words
    simp only [View.readAt_eq_ld, h3.read_unread, h4.read_unread, h5.read_unread, View.ld_unit_zero (S := S704x2048) hz2]
    idx_vars w
    refine Eq.trans ?_ (congrArg (prodB x0 x2) (emb_chunk _ _ _ w0 w1)).symm
    unfold prodB dot
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals simp only [Nat.zero_add]
  all_goals rfl

/-- The gated unit. -/
theorem out6_eq : out0_A_6 c i arg3 h3 arg4 h4 arg5 h5 arg6 h6 arg10 h10 arg11 h11 arg12 h12 x0 x1 x2 x3 xt0 = unitB x0 x1 x2 := by
  unfold out0_A_6
  rw [View.read_writes_eq_canon _ _ _ (cover0_A_6 c i arg3 h3 arg4 h4 arg5 h5 arg6 h6 arg10 h10 arg11 h11 arg12 h12 x0 x1 x2 x3 xt0)]
  funext y
  refine View.canon_apply_of_pieces (unitB x0 x1 x2) _ ?_ y (cover0_A_6 c i arg3 h3 arg4 h4 arg5 h5 arg6 h6 arg10 h10 arg11 h11 arg12 h12 x0 x1 x2 x3 xt0 y)
  intro p hp
  unfold kernelRun0_A at hp
  dsimp only at hp
  simp only [List.mem_cons, List.mem_nil_iff, or_false] at hp
  rcases hp with rfl | rfl | rfl | rfl | rfl | rfl
  all_goals
    intro w
    sl_unfold_words
    simp only [View.readAt_eq_ld, h3.read_unread, h4.read_unread, h5.read_unread, View.ld_unit_zero (S := S704x2048) hz2]
    idx_vars w
    refine Eq.trans ?_ (congrArg (unitB x0 x1 x2) (emb_chunk _ _ _ w0 w1)).symm
    unfold unitB swiglu dot
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals simp only [Nat.zero_add]
  all_goals rfl

end Cert.Proof.FfnFarPoint

end
-- ==== Proof.FfnFar.lean ====
/- THE FAR SHARD'S GATE AND UP PRODUCTS, the whole call: the grid walks the far shard's column panel, and in each the six blocks
   of 704 rows.  Here: the places of the blocks in the arrays (`emb0` to `emb6`), read from the table (FfnFarTable); the three whole
   results (`final4` to `final6`), products on those columns and what was there before elsewhere; the run with them (`run_blocks`), and
   the comparison with the reference (`algebraic`). -/
module

public import proofs.«01_k».proof.Defs
public import proofs.«01_k».proof.Proof.FfnFarTable
public import proofs.«01_k».proof.Proof.FfnFarPoint
public import proofs.«01_k».proof.Proof.Gen.Reference22Ideal.Run
public import Idealize.ShloMosaic.Lib.Pointwise

@[expose] public section

noncomputable section

namespace Cert.Proof.FfnFar

open Cert.Kernel22Ideal Cert.Kernel22Ideal.Gen Cert.Proof.FfnFarPoint Cert.Proof.FfnFarTable.Kernel22Ideal Idealize.ShloMosaic Idealize.ShloMosaic.TcCoe Idealize.SL.Sem

/-- The tables' side conditions of the two programs. -/
theorem okP (m : (ℓ : Loc Cert.Kernel22.nD Cert.Kernel22.τ Cert.Kernel22.sig) → Buf (Elt Bits) ℓ) : Cert.Kernel22.Gen.Ok m :=
  Cert.Proof.FfnFarTable.Kernel22.ok m
theorem okI (m : (ℓ : Loc nD τ sig) → Buf (Elt Ideal) ℓ) : Ok m := ok m

/-- An element of the product with a whole weight, its four column panels side by side. -/
def wdot (n : FVec Ideal S4224x2048 .bf16) (w : FVec Ideal S4x2048x1408 .bf16) (r : Fin 4224) (l : Fin 5632) : EReal :=
  ∑ k : Fin 2048, (n (ix2 r k) * w (ix3 ⟨l.val / 1408, by have := l.isLt; omega⟩ k ⟨l.val % 1408, by omega⟩) : EReal)

/-- A product with a whole weight, and the gated unit of two. -/
def prodG (n : FVec Ideal S4224x2048 .bf16) (w : FVec Ideal S4x2048x1408 .bf16) : FVec Ideal S4224x5632 .bf16 := fun i => wdot n w (i 0) (i 1)
def unitG (n : FVec Ideal S4224x2048 .bf16) (w v : FVec Ideal S4x2048x1408 .bf16) : FVec Ideal S4224x5632 .bf16 :=
  fun i => swiglu (wdot n w (i 0) (i 1)) (wdot n v (i 0) (i 1))

/-- The call's columns from `x`, the others from `a`. -/
def keep (x a : FVec Ideal S4224x5632 .bf16) : FVec Ideal S4224x5632 .bf16 :=
  fun i => if 4224 ≤ (i 1).val then x i else a i

/-- The reference's comparison of a column's number. -/
theorem mask (l : Fin 5632) : ((BitVec.ofNat 32 l.val).slt 4224#32 = decide (l.val < 4224)) ∧ ((1408#32 : BitVec 32).sle (BitVec.ofNat 32 l.val) = decide (1408 ≤ l.val)) ∧
    ((4224#32 : BitVec 32).sle (BitVec.ofNat 32 l.val) = decide (4224 ≤ l.val)) := by
  have hl := l.isLt
  have e : (BitVec.ofNat 32 l.val).toInt = l.val := by
    rw [BitVec.toInt_eq_toNat_of_lt (by rw [BitVec.toNat_ofNat]; omega), BitVec.toNat_ofNat]; omega
  have e1 : (4224#32 : BitVec 32).toInt = 4224 := by decide
  have e2 : (1408#32 : BitVec 32).toInt = 1408 := by decide
  refine ⟨?_, ?_, ?_⟩ <;> simp only [BitVec.slt, BitVec.sle, e, e1, e2] <;> congr 1 <;> apply propext <;> omega

/-- The reference's choice by a column's number. -/
theorem sel (l : Fin 5632) (x y : EReal) : Scalar.select (IntOp.cmpi .sge (BitVec.ofNat 32 l.val) 4224#32) x y = if 4224 ≤ l.val then x else y := by
  unfold Scalar.select IntOp.cmpi
  dsimp only
  rw [(mask l).2.2]
  by_cases h : 4224 ≤ l.val <;> simp [h]

section Ref

variable (n : FVec Ideal S4224x2048 .bf16) (w v : FVec Ideal S4x2048x1408 .bf16) (a : FVec Ideal S4224x5632 .bf16)

/-- The reference's results. -/
theorem refProd (w : FVec Ideal S4x2048x1408 .bf16) : (select (cmpi .sge (iotaInDim Cert.Reference22Ideal.S4224x5632 32 1) (broadcastInDim Cert.Reference22Ideal.S4224x5632 ![] Cert.Reference22Ideal.Gen.facts.bcast_S_S4224x5632 (constantI Cert.Reference22Ideal.S_ 32 4224#32))) (truncf .bf16 (Host.dotGeneral Cert.Reference22Ideal.dot_S4224x2048_S2048x5632_S4224x5632_1_0_0_1_n_n none (extf .f32 n Cert.Reference22Ideal.Gen.facts.bitsLt_bf16_f32) (shapeCast Cert.Reference22Ideal.S2048x5632 (transpose Cert.Reference22Ideal.S2048x4x1408 [1, 0, 2] (extf .f32 w Cert.Reference22Ideal.Gen.facts.bitsLt_bf16_f32) Cert.Reference22Ideal.Gen.facts.transposes_S4x2048x1408_S2048x4x1408_1_0_2) Cert.Reference22Ideal.Gen.facts.shapeCasts_S2048x4x1408_S2048x5632)) Cert.Reference22Ideal.Gen.facts.bitsLt_bf16_f32) a : FVec Ideal S4224x5632 .bf16) = keep (prodG n w) a := by
  funext i
  idx_vars i
  unfold keep prodG wdot
  pointwise []
  exact sel i1 _ _

theorem refUnit : (select (cmpi .sge (iotaInDim Cert.Reference22Ideal.S4224x5632 32 1) (broadcastInDim Cert.Reference22Ideal.S4224x5632 ![] Cert.Reference22Ideal.Gen.facts.bcast_S_S4224x5632 (constantI Cert.Reference22Ideal.S_ 32 4224#32))) (truncf .bf16 (mulf (mulf (Host.dotGeneral Cert.Reference22Ideal.dot_S4224x2048_S2048x5632_S4224x5632_1_0_0_1_n_n none (extf .f32 n Cert.Reference22Ideal.Gen.facts.bitsLt_bf16_f32) (shapeCast Cert.Reference22Ideal.S2048x5632 (transpose Cert.Reference22Ideal.S2048x4x1408 [1, 0, 2] (extf .f32 w Cert.Reference22Ideal.Gen.facts.bitsLt_bf16_f32) Cert.Reference22Ideal.Gen.facts.transposes_S4x2048x1408_S2048x4x1408_1_0_2) Cert.Reference22Ideal.Gen.facts.shapeCasts_S2048x4x1408_S2048x5632)) (Host.divf (broadcastInDim Cert.Reference22Ideal.S4224x5632 ![] Cert.Reference22Ideal.Gen.facts.bcast_S_S4224x5632 (constant Cert.Reference22Ideal.S_ .f32 0x3F800000#32)) (addf (broadcastInDim Cert.Reference22Ideal.S4224x5632 ![] Cert.Reference22Ideal.Gen.facts.bcast_S_S4224x5632 (constant Cert.Reference22Ideal.S_ .f32 0x3F800000#32)) (Host.exp (Host.negf (Host.dotGeneral Cert.Reference22Ideal.dot_S4224x2048_S2048x5632_S4224x5632_1_0_0_1_n_n none (extf .f32 n Cert.Reference22Ideal.Gen.facts.bitsLt_bf16_f32) (shapeCast Cert.Reference22Ideal.S2048x5632 (transpose Cert.Reference22Ideal.S2048x4x1408 [1, 0, 2] (extf .f32 w Cert.Reference22Ideal.Gen.facts.bitsLt_bf16_f32) Cert.Reference22Ideal.Gen.facts.transposes_S4x2048x1408_S2048x4x1408_1_0_2) Cert.Reference22Ideal.Gen.facts.shapeCasts_S2048x4x1408_S2048x5632))))))) (Host.dotGeneral Cert.Reference22Ideal.dot_S4224x2048_S2048x5632_S4224x5632_1_0_0_1_n_n none (extf .f32 n Cert.Reference22Ideal.Gen.facts.bitsLt_bf16_f32) (shapeCast Cert.Reference22Ideal.S2048x5632 (transpose Cert.Reference22Ideal.S2048x4x1408 [1, 0, 2] (extf .f32 v Cert.Reference22Ideal.Gen.facts.bitsLt_bf16_f32) Cert.Reference22Ideal.Gen.facts.transposes_S4x2048x1408_S2048x4x1408_1_0_2) Cert.Reference22Ideal.Gen.facts.shapeCasts_S2048x4x1408_S2048x5632))) Cert.Reference22Ideal.Gen.facts.bitsLt_bf16_f32) a : FVec Ideal S4224x5632 .bf16) = keep (unitG n w v) a := by
  funext i
  idx_vars i
  unfold keep unitG wdot swiglu Ideal.logistic
  pointwise []
  exact sel i1 _ _

end Ref

variable (m : (ℓ : Loc nD τ sig) → Buf (Elt Ideal) ℓ) (ρ : Dev nD → PrngReg)

/-- The pipeline at the call's table. -/
abbrev cf : Pipeline.Cfg sig Λ₀ := cfgM m (okI m)

theorem hN : (cf m).N = 6 := rfl

/-- The grid's coordinates at point `t`: panel `t / 6`, rows' block `t % 6`. -/
theorem co : ∀ t : Fin grid0.N, ((grid0.coords t) 0).val = t.val / 6 ∧ ((grid0.coords t) 1).val = t.val % 6 := by decide +kernel

/-- The block indices at grid point `t`, and the places of the blocks' elements. -/
theorem idx0 (t : Fin (cf m).N) : ((cf m).win 0).index t (0 : Fin 2) = t.val % 6 ∧ ((cf m).win 0).index t (1 : Fin 2) = 0 :=
  (by decide +kernel : ∀ t : Fin grid0.N, cc0_transform_0 (grid0.coords t) (0 : Fin 2) = t.val % 6 ∧ cc0_transform_0 (grid0.coords t) (1 : Fin 2) = 0) t

theorem idx1 (t : Fin (cf m).N) : ((cf m).win 1).index t (0 : Fin 3) = 3 ∧ ((cf m).win 1).index t (1 : Fin 3) = 0 ∧ ((cf m).win 1).index t (2 : Fin 3) = 0 := by
  have e : ((cf m).win 1).index t = (![3, 0, 0] : Fin 3 → Nat) := tr1 m (grid0.coords t)
  rw [e]
  exact ⟨rfl, rfl, rfl⟩

theorem idx2 (t : Fin (cf m).N) : ((cf m).win 2).index t (0 : Fin 3) = 3 ∧ ((cf m).win 2).index t (1 : Fin 3) = 0 ∧ ((cf m).win 2).index t (2 : Fin 3) = 0 := by
  have e : ((cf m).win 2).index t = (![3, 0, 0] : Fin 3 → Nat) := tr2 m (grid0.coords t)
  rw [e]
  exact ⟨rfl, rfl, rfl⟩

theorem idx4 (t : Fin (cf m).N) : ((cf m).win 4).index t (0 : Fin 2) = t.val % 6 ∧ ((cf m).win 4).index t (1 : Fin 2) = 3 := by
  have e : ((cf m).win 4).index t = (![((grid0.coords t) 1).val, 3] : Fin 2 → Nat) := tr7 m (grid0.coords t)
  rw [e]
  exact ⟨(co t).2, rfl⟩

theorem idx5 (t : Fin (cf m).N) : ((cf m).win 5).index t (0 : Fin 2) = t.val % 6 ∧ ((cf m).win 5).index t (1 : Fin 2) = 3 := by
  have e : ((cf m).win 5).index t = (![((grid0.coords t) 1).val, 3] : Fin 2 → Nat) := tr8 m (grid0.coords t)
  rw [e]
  exact ⟨(co t).2, rfl⟩

theorem idx6 (t : Fin (cf m).N) : ((cf m).win 6).index t (0 : Fin 2) = t.val % 6 ∧ ((cf m).win 6).index t (1 : Fin 2) = 3 := by
  have e : ((cf m).win 6).index t = (![((grid0.coords t) 1).val, 3] : Fin 2 → Nat) := tr9 m (grid0.coords t)
  rw [e]
  exact ⟨(co t).2, rfl⟩

theorem emb0 (t : Fin (cf m).N) (r : Fin 704) (k : Fin 2048) : (((cf m).win 0).blk t).view.emb (ix2 r k)
    = ix2 ⟨t.val % 6 * 704 + r.val, by have := r.isLt; have := t.isLt; have := hN m; omega⟩ k := by
  obtain ⟨e0, e1⟩ := idx0 m t
  funext a; apply Fin.ext
  match a with
  | ⟨0, _⟩ => show ((cf m).win 0).index t (0 : Fin 2) * 704 + 1 * r.val = t.val % 6 * 704 + r.val; omega
  | ⟨1, _⟩ => show ((cf m).win 0).index t (1 : Fin 2) * 2048 + 1 * k.val = k.val; omega

theorem emb1 (t : Fin (cf m).N) (k : Fin 2048) (l : Fin 1408) : (((cf m).win 1).blk t).view.emb (ix3 0 k l)
    = ix3 ⟨3, by have := t.isLt; have := hN m; omega⟩ k l := by
  obtain ⟨e0, e1, e2⟩ := idx1 m t
  funext a; apply Fin.ext
  match a with
  | ⟨0, _⟩ => show ((cf m).win 1).index t (0 : Fin 3) * 1 + 1 * 0 = 3; omega
  | ⟨1, _⟩ => show ((cf m).win 1).index t (1 : Fin 3) * 2048 + 1 * k.val = k.val; omega
  | ⟨2, _⟩ => show ((cf m).win 1).index t (2 : Fin 3) * 1408 + 1 * l.val = l.val; omega

theorem emb2 (t : Fin (cf m).N) (k : Fin 2048) (l : Fin 1408) : (((cf m).win 2).blk t).view.emb (ix3 0 k l)
    = ix3 ⟨3, by have := t.isLt; have := hN m; omega⟩ k l := by
  obtain ⟨e0, e1, e2⟩ := idx2 m t
  funext a; apply Fin.ext
  match a with
  | ⟨0, _⟩ => show ((cf m).win 2).index t (0 : Fin 3) * 1 + 1 * 0 = 3; omega
  | ⟨1, _⟩ => show ((cf m).win 2).index t (1 : Fin 3) * 2048 + 1 * k.val = k.val; omega
  | ⟨2, _⟩ => show ((cf m).win 2).index t (2 : Fin 3) * 1408 + 1 * l.val = l.val; omega

theorem emb4 (t : Fin (cf m).N) (r : Fin 704) (l : Fin 1408) : (((cf m).win 4).blk t).view.emb (ix2 r l)
    = ix2 ⟨t.val % 6 * 704 + r.val, by have := r.isLt; have := t.isLt; have := hN m; omega⟩ ⟨3 * 1408 + l.val, by have := l.isLt; have := t.isLt; have := hN m; omega⟩ := by
  obtain ⟨e0, e1⟩ := idx4 m t
  funext a; apply Fin.ext
  match a with
  | ⟨0, _⟩ => show ((cf m).win 4).index t (0 : Fin 2) * 704 + 1 * r.val = t.val % 6 * 704 + r.val; omega
  | ⟨1, _⟩ => show ((cf m).win 4).index t (1 : Fin 2) * 1408 + 1 * l.val = 3 * 1408 + l.val; omega

theorem emb5 (t : Fin (cf m).N) (r : Fin 704) (l : Fin 1408) : (((cf m).win 5).blk t).view.emb (ix2 r l)
    = ix2 ⟨t.val % 6 * 704 + r.val, by have := r.isLt; have := t.isLt; have := hN m; omega⟩ ⟨3 * 1408 + l.val, by have := l.isLt; have := t.isLt; have := hN m; omega⟩ := by
  obtain ⟨e0, e1⟩ := idx5 m t
  funext a; apply Fin.ext
  match a with
  | ⟨0, _⟩ => show ((cf m).win 5).index t (0 : Fin 2) * 704 + 1 * r.val = t.val % 6 * 704 + r.val; omega
  | ⟨1, _⟩ => show ((cf m).win 5).index t (1 : Fin 2) * 1408 + 1 * l.val = 3 * 1408 + l.val; omega

theorem emb6 (t : Fin (cf m).N) (r : Fin 704) (l : Fin 1408) : (((cf m).win 6).blk t).view.emb (ix2 r l)
    = ix2 ⟨t.val % 6 * 704 + r.val, by have := r.isLt; have := t.isLt; have := hN m; omega⟩ ⟨3 * 1408 + l.val, by have := l.isLt; have := t.isLt; have := hN m; omega⟩ := by
  obtain ⟨e0, e1⟩ := idx6 m t
  funext a; apply Fin.ext
  match a with
  | ⟨0, _⟩ => show ((cf m).win 6).index t (0 : Fin 2) * 704 + 1 * r.val = t.val % 6 * 704 + r.val; omega
  | ⟨1, _⟩ => show ((cf m).win 6).index t (1 : Fin 2) * 1408 + 1 * l.val = 3 * 1408 + l.val; omega

theorem flush4 (t : Fin (cf m).N) : ((cf m).win 4).flush t = true := by
  by_cases h : t.val + 1 = 6
  · show (true && (decide (t.val + 1 = 6) || _)) = true
    simp [h]
  · have hN : t.val + 1 < 6 := by have := t.isLt; have := hN m; omega
    have hne : ((cf m).win 4).index (⟨t.val + 1, hN⟩ : Fin (cf m).N) ≠ ((cf m).win 4).index t := fun he => by
      have a := congrFun he (0 : Fin 2)
      rw [(idx4 m _).1, (idx4 m t).1] at a
      have a : (t.val + 1) % 6 = t.val % 6 := a
      omega
    show (true && (decide (t.val + 1 = 6) || decide (∃ h : t.val + 1 < grid0.N, ((cf m).win 4).index ⟨t.val + 1, h⟩ ≠ ((cf m).win 4).index t))) = true
    rw [decide_eq_true (⟨hN, hne⟩ : ∃ h : t.val + 1 < grid0.N, ((cf m).win 4).index ⟨t.val + 1, h⟩ ≠ ((cf m).win 4).index t)]
    simp

theorem covered4 (i0 : Fin 4224) (i1 : Fin 5632) (hp : 4224 ≤ i1.val) :
    ∃ t : Fin (cf m).N, ((cf m).win 4).flush t = true ∧ (ix2 i0 i1 : S4224x5632.Idx) ∈ (((cf m).win 4).blk t).view.set := by
  have hi0 := i0.isLt; have hi1 := i1.isLt
  have hN : 0 * 6 + i0.val / 704 < (cf m).N := by show _ < 6; omega
  refine ⟨⟨_, hN⟩, flush4 m _, ?_⟩
  have h := (((cf m).win 4).blk ⟨_, hN⟩).view.emb_mem_set (ix2 ⟨i0.val % 704, by omega⟩ ⟨i1.val % 1408, by omega⟩)
  have e : (((cf m).win 4).blk ⟨_, hN⟩).view.emb (ix2 ⟨i0.val % 704, by omega⟩ ⟨i1.val % 1408, by omega⟩) = ix2 i0 i1 := by
    rw [emb4]
    funext a; apply Fin.ext
    match a with
    | ⟨0, _⟩ => show (0 * 6 + i0.val / 704) % 6 * 704 + i0.val % 704 = i0.val; omega
    | ⟨1, _⟩ => show 3 * 1408 + i1.val % 1408 = i1.val; omega
  rw [e] at h
  exact h

theorem only4 (i0 : Fin 4224) (i1 : Fin 5632) (t : Fin (cf m).N) (h : (ix2 i0 i1 : S4224x5632.Idx) ∈ (((cf m).win 4).blk t).view.set) : 4224 ≤ i1.val := by
  obtain ⟨j, hj⟩ := View.exists_emb_of_mem_set _ h
  have hN := hN m; have ht := t.isLt
  have hj : (((cf m).win 4).blk t).view.emb (j : S704x1408.Idx) = ix2 i0 i1 := hj
  revert hj
  refine (fun (j : S704x1408.Idx) (hj : (((cf m).win 4).blk t).view.emb j = ix2 i0 i1) => ?_ : ∀ (j : S704x1408.Idx) (hj : (((cf m).win 4).blk t).view.emb j = ix2 i0 i1), _) j
  idx_vars j
  rw [emb4] at hj
  have e : 3 * 1408 + j1.val = i1.val := congrArg Fin.val (congrFun hj (1 : Fin 2))
  have hj1 := j1.isLt
  omega

theorem flush5 (t : Fin (cf m).N) : ((cf m).win 5).flush t = true := by
  by_cases h : t.val + 1 = 6
  · show (true && (decide (t.val + 1 = 6) || _)) = true
    simp [h]
  · have hN : t.val + 1 < 6 := by have := t.isLt; have := hN m; omega
    have hne : ((cf m).win 5).index (⟨t.val + 1, hN⟩ : Fin (cf m).N) ≠ ((cf m).win 5).index t := fun he => by
      have a := congrFun he (0 : Fin 2)
      rw [(idx5 m _).1, (idx5 m t).1] at a
      have a : (t.val + 1) % 6 = t.val % 6 := a
      omega
    show (true && (decide (t.val + 1 = 6) || decide (∃ h : t.val + 1 < grid0.N, ((cf m).win 5).index ⟨t.val + 1, h⟩ ≠ ((cf m).win 5).index t))) = true
    rw [decide_eq_true (⟨hN, hne⟩ : ∃ h : t.val + 1 < grid0.N, ((cf m).win 5).index ⟨t.val + 1, h⟩ ≠ ((cf m).win 5).index t)]
    simp

theorem covered5 (i0 : Fin 4224) (i1 : Fin 5632) (hp : 4224 ≤ i1.val) :
    ∃ t : Fin (cf m).N, ((cf m).win 5).flush t = true ∧ (ix2 i0 i1 : S4224x5632.Idx) ∈ (((cf m).win 5).blk t).view.set := by
  have hi0 := i0.isLt; have hi1 := i1.isLt
  have hN : 0 * 6 + i0.val / 704 < (cf m).N := by show _ < 6; omega
  refine ⟨⟨_, hN⟩, flush5 m _, ?_⟩
  have h := (((cf m).win 5).blk ⟨_, hN⟩).view.emb_mem_set (ix2 ⟨i0.val % 704, by omega⟩ ⟨i1.val % 1408, by omega⟩)
  have e : (((cf m).win 5).blk ⟨_, hN⟩).view.emb (ix2 ⟨i0.val % 704, by omega⟩ ⟨i1.val % 1408, by omega⟩) = ix2 i0 i1 := by
    rw [emb5]
    funext a; apply Fin.ext
    match a with
    | ⟨0, _⟩ => show (0 * 6 + i0.val / 704) % 6 * 704 + i0.val % 704 = i0.val; omega
    | ⟨1, _⟩ => show 3 * 1408 + i1.val % 1408 = i1.val; omega
  rw [e] at h
  exact h

theorem only5 (i0 : Fin 4224) (i1 : Fin 5632) (t : Fin (cf m).N) (h : (ix2 i0 i1 : S4224x5632.Idx) ∈ (((cf m).win 5).blk t).view.set) : 4224 ≤ i1.val := by
  obtain ⟨j, hj⟩ := View.exists_emb_of_mem_set _ h
  have hN := hN m; have ht := t.isLt
  have hj : (((cf m).win 5).blk t).view.emb (j : S704x1408.Idx) = ix2 i0 i1 := hj
  revert hj
  refine (fun (j : S704x1408.Idx) (hj : (((cf m).win 5).blk t).view.emb j = ix2 i0 i1) => ?_ : ∀ (j : S704x1408.Idx) (hj : (((cf m).win 5).blk t).view.emb j = ix2 i0 i1), _) j
  idx_vars j
  rw [emb5] at hj
  have e : 3 * 1408 + j1.val = i1.val := congrArg Fin.val (congrFun hj (1 : Fin 2))
  have hj1 := j1.isLt
  omega

theorem flush6 (t : Fin (cf m).N) : ((cf m).win 6).flush t = true := by
  by_cases h : t.val + 1 = 6
  · show (true && (decide (t.val + 1 = 6) || _)) = true
    simp [h]
  · have hN : t.val + 1 < 6 := by have := t.isLt; have := hN m; omega
    have hne : ((cf m).win 6).index (⟨t.val + 1, hN⟩ : Fin (cf m).N) ≠ ((cf m).win 6).index t := fun he => by
      have a := congrFun he (0 : Fin 2)
      rw [(idx6 m _).1, (idx6 m t).1] at a
      have a : (t.val + 1) % 6 = t.val % 6 := a
      omega
    show (true && (decide (t.val + 1 = 6) || decide (∃ h : t.val + 1 < grid0.N, ((cf m).win 6).index ⟨t.val + 1, h⟩ ≠ ((cf m).win 6).index t))) = true
    rw [decide_eq_true (⟨hN, hne⟩ : ∃ h : t.val + 1 < grid0.N, ((cf m).win 6).index ⟨t.val + 1, h⟩ ≠ ((cf m).win 6).index t)]
    simp

theorem covered6 (i0 : Fin 4224) (i1 : Fin 5632) (hp : 4224 ≤ i1.val) :
    ∃ t : Fin (cf m).N, ((cf m).win 6).flush t = true ∧ (ix2 i0 i1 : S4224x5632.Idx) ∈ (((cf m).win 6).blk t).view.set := by
  have hi0 := i0.isLt; have hi1 := i1.isLt
  have hN : 0 * 6 + i0.val / 704 < (cf m).N := by show _ < 6; omega
  refine ⟨⟨_, hN⟩, flush6 m _, ?_⟩
  have h := (((cf m).win 6).blk ⟨_, hN⟩).view.emb_mem_set (ix2 ⟨i0.val % 704, by omega⟩ ⟨i1.val % 1408, by omega⟩)
  have e : (((cf m).win 6).blk ⟨_, hN⟩).view.emb (ix2 ⟨i0.val % 704, by omega⟩ ⟨i1.val % 1408, by omega⟩) = ix2 i0 i1 := by
    rw [emb6]
    funext a; apply Fin.ext
    match a with
    | ⟨0, _⟩ => show (0 * 6 + i0.val / 704) % 6 * 704 + i0.val % 704 = i0.val; omega
    | ⟨1, _⟩ => show 3 * 1408 + i1.val % 1408 = i1.val; omega
  rw [e] at h
  exact h

theorem only6 (i0 : Fin 4224) (i1 : Fin 5632) (t : Fin (cf m).N) (h : (ix2 i0 i1 : S4224x5632.Idx) ∈ (((cf m).win 6).blk t).view.set) : 4224 ≤ i1.val := by
  obtain ⟨j, hj⟩ := View.exists_emb_of_mem_set _ h
  have hN := hN m; have ht := t.isLt
  have hj : (((cf m).win 6).blk t).view.emb (j : S704x1408.Idx) = ix2 i0 i1 := hj
  revert hj
  refine (fun (j : S704x1408.Idx) (hj : (((cf m).win 6).blk t).view.emb j = ix2 i0 i1) => ?_ : ∀ (j : S704x1408.Idx) (hj : (((cf m).win 6).blk t).view.emb j = ix2 i0 i1), _) j
  idx_vars j
  rw [emb6] at hj
  have e : 3 * 1408 + j1.val = i1.val := congrArg Fin.val (congrFun hj (1 : Fin 2))
  have hj1 := j1.isLt
  omega

/-- A block's product is the whole product at the block's place. -/
theorem dot1 (c : Dev nD) (t : Fin (cf m).N) (r : Fin 704) (l : Fin 1408) :
    dot (iblk m (okI m) c 0 t) (iblk m (okI m) c 1 t) r l = wdot (V m c main_arg0) (V m c main_arg1)
      ⟨t.val % 6 * 704 + r.val, by have := r.isLt; have := t.isLt; have := hN m; omega⟩ ⟨3 * 1408 + l.val, by have := l.isLt; have := t.isLt; have := hN m; omega⟩ := by
  unfold dot wdot
  refine Finset.sum_congr rfl fun k _ => congrArg₂ (fun a b : EReal => a * b) ?_ ?_
  · show V m c main_arg0 ((((cf m).win 0).blk t).view.emb (ix2 r k)) = _
    rw [emb0]
  · show V m c main_arg1 ((((cf m).win 1).blk t).view.emb (ix3 0 k l)) = _
    rw [emb1]
    have hl := l.isLt
    exact congrArg (V m c main_arg1) (congrArg₂ (fun a b => ix3 a k b) (Fin.ext (by show 3 = (3 * 1408 + l.val) / 1408; omega)) (Fin.ext (by show l.val = (3 * 1408 + l.val) % 1408; omega)))

theorem dot2 (c : Dev nD) (t : Fin (cf m).N) (r : Fin 704) (l : Fin 1408) :
    dot (iblk m (okI m) c 0 t) (iblk m (okI m) c 2 t) r l = wdot (V m c main_arg0) (V m c main_arg2)
      ⟨t.val % 6 * 704 + r.val, by have := r.isLt; have := t.isLt; have := hN m; omega⟩ ⟨3 * 1408 + l.val, by have := l.isLt; have := t.isLt; have := hN m; omega⟩ := by
  unfold dot wdot
  refine Finset.sum_congr rfl fun k _ => congrArg₂ (fun a b : EReal => a * b) ?_ ?_
  · show V m c main_arg0 ((((cf m).win 0).blk t).view.emb (ix2 r k)) = _
    rw [emb0]
  · show V m c main_arg2 ((((cf m).win 2).blk t).view.emb (ix3 0 k l)) = _
    rw [emb2]
    have hl := l.isLt
    exact congrArg (V m c main_arg2) (congrArg₂ (fun a b => ix3 a k b) (Fin.ext (by show 3 = (3 * 1408 + l.val) / 1408; omega)) (Fin.ext (by show l.val = (3 * 1408 + l.val) % 1408; omega)))

theorem flushed4_eq (c : Dev nD) (t : Fin (cf m).N) :
    (dats m (okI m) 0 c).flushed 4 t = (((cf m).win 4).blk t).view.read (Elt Ideal) (prodG (V m c main_arg0) (V m c main_arg1)) := by
  show ((cf m).win 4).cut (grid0.coords t) ((dats m (okI m) 0 c).after 4 t) = _
  rw [after0_4]
  unfold outsAt0
  dsimp only
  have e := out4_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (iblk m (okI m) c 0 t) (iblk m (okI m) c 1 t) (iblk m (okI m) c 2 t) (iblk m (okI m) c 3 t) (tbl m 0)
  refine (congrArg (((cf m).win 4).cut (grid0.coords t)) e).trans ?_
  refine funext fun (j : S704x1408.Idx) => ?_
  show (prodB (iblk m (okI m) c 0 t) (iblk m (okI m) c 1 t)) j = (prodG (V m c main_arg0) (V m c main_arg1)) ((((cf m).win 4).blk t).view.emb j)
  idx_vars j
  rw [emb4]
  exact dot1 m c t j0 j1

theorem flushed5_eq (c : Dev nD) (t : Fin (cf m).N) :
    (dats m (okI m) 0 c).flushed 5 t = (((cf m).win 5).blk t).view.read (Elt Ideal) (prodG (V m c main_arg0) (V m c main_arg2)) := by
  show ((cf m).win 5).cut (grid0.coords t) ((dats m (okI m) 0 c).after 5 t) = _
  rw [after0_5]
  unfold outsAt0
  dsimp only
  have e := out5_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (iblk m (okI m) c 0 t) (iblk m (okI m) c 1 t) (iblk m (okI m) c 2 t) (iblk m (okI m) c 3 t) (tbl m 0)
  refine (congrArg (((cf m).win 5).cut (grid0.coords t)) e).trans ?_
  refine funext fun (j : S704x1408.Idx) => ?_
  show (prodB (iblk m (okI m) c 0 t) (iblk m (okI m) c 2 t)) j = (prodG (V m c main_arg0) (V m c main_arg2)) ((((cf m).win 5).blk t).view.emb j)
  idx_vars j
  rw [emb5]
  exact dot2 m c t j0 j1

theorem flushed6_eq (c : Dev nD) (t : Fin (cf m).N) :
    (dats m (okI m) 0 c).flushed 6 t = (((cf m).win 6).blk t).view.read (Elt Ideal) (unitG (V m c main_arg0) (V m c main_arg1) (V m c main_arg2)) := by
  show ((cf m).win 6).cut (grid0.coords t) ((dats m (okI m) 0 c).after 6 t) = _
  rw [after0_6]
  unfold outsAt0
  dsimp only
  have e := out6_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (iblk m (okI m) c 0 t) (iblk m (okI m) c 1 t) (iblk m (okI m) c 2 t) (iblk m (okI m) c 3 t) (tbl m 0)
  refine (congrArg (((cf m).win 6).cut (grid0.coords t)) e).trans ?_
  refine funext fun (j : S704x1408.Idx) => ?_
  show (unitB (iblk m (okI m) c 0 t) (iblk m (okI m) c 1 t) (iblk m (okI m) c 2 t)) j = (unitG (V m c main_arg0) (V m c main_arg1) (V m c main_arg2)) ((((cf m).win 6).blk t).view.emb j)
  idx_vars j
  rw [emb6]
  exact congrArg₂ swiglu (dot1 m c t j0 j1) (dot2 m c t j0 j1)

theorem entry4 (c : Dev nD) : (dats m (okI m) 0 c).A 4 = m ((c : Thread nD τ).loc main_arg3) := (A_eq m (okI m) c 4).trans rfl

theorem final4 (c : Dev nD) : (dats m (okI m) 0 c).arrAt 4 (cf m).N = keep (prodG (m ((c : Thread nD τ).loc main_arg0)) (m ((c : Thread nD τ).loc main_arg1))) (m ((c : Thread nD τ).loc main_arg3)) := by
  rw [← V_main_arg0 m c, ← V_main_arg1 m c]
  refine funext fun (i : S4224x5632.Idx) => ?_
  idx_vars i
  by_cases hp : 4224 ≤ i1.val
  · obtain ⟨t, hf, ht⟩ := covered4 m i0 i1 hp
    exact ((dats m (okI m) 0 c).arrAt_apply_of_mem 4 (prodG (V m c main_arg0) (V m c main_arg1)) (fun t _ => flushed4_eq m c t) (cf m).N t (ix2 i0 i1) t.isLt hf ht).trans (if_pos hp).symm
  · exact ((dats m (okI m) 0 c).arrAt_apply_of_forall_not_mem 4 (cf m).N (ix2 i0 i1) (fun t _ _ h => hp (only4 m i0 i1 t h))).trans
      ((congrFun (entry4 m c) (ix2 i0 i1)).trans (if_neg hp).symm)

theorem entry5 (c : Dev nD) : (dats m (okI m) 0 c).A 5 = m ((c : Thread nD τ).loc main_arg4) := (A_eq m (okI m) c 5).trans rfl

theorem final5 (c : Dev nD) : (dats m (okI m) 0 c).arrAt 5 (cf m).N = keep (prodG (m ((c : Thread nD τ).loc main_arg0)) (m ((c : Thread nD τ).loc main_arg2))) (m ((c : Thread nD τ).loc main_arg4)) := by
  rw [← V_main_arg0 m c, ← V_main_arg2 m c]
  refine funext fun (i : S4224x5632.Idx) => ?_
  idx_vars i
  by_cases hp : 4224 ≤ i1.val
  · obtain ⟨t, hf, ht⟩ := covered5 m i0 i1 hp
    exact ((dats m (okI m) 0 c).arrAt_apply_of_mem 5 (prodG (V m c main_arg0) (V m c main_arg2)) (fun t _ => flushed5_eq m c t) (cf m).N t (ix2 i0 i1) t.isLt hf ht).trans (if_pos hp).symm
  · exact ((dats m (okI m) 0 c).arrAt_apply_of_forall_not_mem 5 (cf m).N (ix2 i0 i1) (fun t _ _ h => hp (only5 m i0 i1 t h))).trans
      ((congrFun (entry5 m c) (ix2 i0 i1)).trans (if_neg hp).symm)

theorem entry6 (c : Dev nD) : (dats m (okI m) 0 c).A 6 = m ((c : Thread nD τ).loc main_arg5) := (A_eq m (okI m) c 6).trans rfl

theorem final6 (c : Dev nD) : (dats m (okI m) 0 c).arrAt 6 (cf m).N = keep (unitG (m ((c : Thread nD τ).loc main_arg0)) (m ((c : Thread nD τ).loc main_arg1)) (m ((c : Thread nD τ).loc main_arg2))) (m ((c : Thread nD τ).loc main_arg5)) := by
  rw [← V_main_arg0 m c, ← V_main_arg1 m c, ← V_main_arg2 m c]
  refine funext fun (i : S4224x5632.Idx) => ?_
  idx_vars i
  by_cases hp : 4224 ≤ i1.val
  · obtain ⟨t, hf, ht⟩ := covered6 m i0 i1 hp
    exact ((dats m (okI m) 0 c).arrAt_apply_of_mem 6 (unitG (V m c main_arg0) (V m c main_arg1) (V m c main_arg2)) (fun t _ => flushed6_eq m c t) (cf m).N t (ix2 i0 i1) t.isLt hf ht).trans (if_pos hp).symm
  · exact ((dats m (okI m) 0 c).arrAt_apply_of_forall_not_mem 6 (cf m).N (ix2 i0 i1) (fun t _ _ h => hp (only6 m i0 i1 t h))).trans
      ((congrFun (entry6 m c) (ix2 i0 i1)).trans (if_neg hp).symm)

/-- The run: the three results, the arguments unchanged. -/
theorem run_blocks : θ_run defs (onTc (τ := τ) (main (F := Ideal))) ⟨m, fun _ => 0, ρ⟩ fun r => ∀ c : Dev nD,
      r.2.mem ((c.tc : Thread nD τ).loc main_v2_0) = keep (prodG (m ((c : Thread nD τ).loc main_arg0)) (m ((c : Thread nD τ).loc main_arg1))) (m ((c : Thread nD τ).loc main_arg3))
      ∧ r.2.mem ((c.tc : Thread nD τ).loc main_v2_1) = keep (prodG (m ((c : Thread nD τ).loc main_arg0)) (m ((c : Thread nD τ).loc main_arg2))) (m ((c : Thread nD τ).loc main_arg4))
      ∧ r.2.mem ((c.tc : Thread nD τ).loc main_v2_2) = keep (unitG (m ((c : Thread nD τ).loc main_arg0)) (m ((c : Thread nD τ).loc main_arg1)) (m ((c : Thread nD τ).loc main_arg2))) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 4).trans (final4 m c), ((h.1 c).1 5).trans (final5 m c), ((h.1 c).1 6).trans (final6 m c), h.2 c⟩)
    (θ_run_and (run_main m ρ (okI m)) (unchanged m ρ (okI m)))

/-- The kernel and the reference end with equal results. -/
theorem algebraic : Cert.algebraic_Kernel22Ideal_Reference22Ideal := fun m g m' g' _ hm =>
  ⟨fun c => keep (prodG (m ((c : Thread nD τ).loc main_arg0)) (m ((c : Thread nD τ).loc main_arg1))) (m ((c : Thread nD τ).loc main_arg3)), fun c => keep (prodG (m ((c : Thread nD τ).loc main_arg0)) (m ((c : Thread nD τ).loc main_arg2))) (m ((c : Thread nD τ).loc main_arg4)), fun c => keep (unitG (m ((c : Thread nD τ).loc main_arg0)) (m ((c : Thread nD τ).loc main_arg1)) (m ((c : Thread nD τ).loc main_arg2))) (m ((c : Thread nD τ).loc main_arg5)), run_blocks m g,
    (θ_run Cert.Reference22Ideal.defs _ _).mono (fun r h c => by
      have t0 := (h c).1.trans ((refProd _ _ _).trans (by rw [(hm c).1, (hm c).2.1, (hm c).2.2.2.1] : _ = keep (prodG (m ((c : Thread nD τ).loc main_arg0)) (m ((c : Thread nD τ).loc main_arg1))) (m ((c : Thread nD τ).loc main_arg3))))
      have t1 := (h c).2.1.trans ((refProd _ _ _).trans (by rw [(hm c).1, (hm c).2.2.1, (hm c).2.2.2.2.1] : _ = keep (prodG (m ((c : Thread nD τ).loc main_arg0)) (m ((c : Thread nD τ).loc main_arg2))) (m ((c : Thread nD τ).loc main_arg4))))
      have t2 := (h c).2.2.1.trans ((refUnit _ _ _ _).trans (by rw [(hm c).1, (hm c).2.1, (hm c).2.2.1, (hm c).2.2.2.2.2.1] : _ = keep (unitG (m ((c : Thread nD τ).loc main_arg0)) (m ((c : Thread nD τ).loc main_arg1)) (m ((c : Thread nD τ).loc main_arg2))) (m ((c : Thread nD τ).loc main_arg5))))
      exact ⟨t0, t1, t2, (h c).2.2.2⟩) (Cert.Reference22Ideal.Value.run m' g')⟩

/-- The reference runs, its arguments unchanged, its counters at zero. -/
theorem frameR : Cert.quiescent_Reference22Ideal := fun m g _ =>
  (θ_run Cert.Reference22Ideal.defs _ _).mono (fun r h => ⟨fun c => (h c).2.2.2,
      Idealize.ShloMosaic.sem_eq_zero_of_no_sems (by decide) r.2⟩)
    (Cert.Reference22Ideal.Value.run (F := Ideal) m g)

end Cert.Proof.FfnFar

end
-- ==== Proof.DownOwnTable.lean ====
/- THE TABLE OF THE OWN SHARD'S DOWN CALL: the call's column panel of the hidden layer and the weight's row panel are
   named by a table that the host fills.  Here, for the program at floats and for the ideal one: the table's words (`word`), the
   blocks' places they give (`tr0`, `tr1`), and that every block lies inside its array (`ok`). -/
module

public import proofs.«01_k».proof.Proof.Gen.Kernel23.Frame
public import proofs.«01_k».proof.Proof.Gen.Kernel23Ideal.Frame

@[expose] public section

noncomputable section

namespace Cert.Proof.DownOwnTable

open Idealize.ShloMosaic Idealize.ShloMosaic.TcCoe Idealize.SL.Sem

section Kernel23

open Cert.Kernel23 Cert.Kernel23.Gen

variable {F : FTy → Type} [FloatOps F] (m : (ℓ : Loc Cert.Kernel23.nD Cert.Kernel23.τ Cert.Kernel23.sig) → Buf (Elt F) ℓ)

namespace Kernel23

theorem coord (i : grid0.Coords) : (![(Scalar.indexCast (BitVec.ofNat 32 (i 2).val) : Index).toNat] : Fin 1 → Nat) 0 = (i 2).val := by
  have h2 : (i 2).val < 1 := (i 2).isLt
  simp [Scalar.indexCast, BitVec.toNat_ofNat]
  try omega

/-- The table's word at a grid point. -/
theorem word (i : grid0.Coords) (off : Fin 1 → Nat) (ho : off 0 = (i 2).val)
    (h : ∀ a, off a + S1.size a ≤ S1.size a) (h1 : S1.numel = 1) :
    ((tbl m).at 0 (Rect.unit (s := S1) off S1.size h) h1 : BitVec 32) = BitVec.ofNat 32 (0) := by
  have h2 : (i 2).val < 1 := (i 2).isLt
  have e' : off = ![0] := funext fun a => by fin_cases a; exact (ho.trans (Nat.lt_one_iff.mp h2) : off 0 = 0)
  subst e'
  rfl

/-- The blocks' places that read it. -/
theorem tr0 (i : grid0.Coords) : cc0_transform_0 k0_off1_inb numel1_S1 (tbl m) i = ![(i 1).val, 0] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 2 := (i 0).isLt
  have h1 : (i 1).val < 6 := (i 1).isLt
  have h2 : (i 2).val < 1 := (i 2).isLt
  fin_cases a <;> simp [BitVec.toNat_ofNat] <;> omega

theorem tr1 (i : grid0.Coords) : cc0_transform_1 k0_off1_inb numel1_S1 (tbl m) i = ![0, 0, (i 0).val] := by
  refine (congrArg (fun b : BitVec 32 => (![b.toNat, 0, (BitVec.ofNat 32 (i 0).val).toNat] : Fin 3 → Nat)) (word m i _ (coord i) (k0_off1_inb i) numel1_S1)).trans ?_
  funext a
  have h0 : (i 0).val < 2 := (i 0).isLt
  have h1 : (i 1).val < 6 := (i 1).isLt
  have h2 : (i 2).val < 1 := (i 2).isLt
  fin_cases a <;> simp [BitVec.toNat_ofNat] <;> omega

/-- Every block lies inside its array. -/
theorem ok : Ok m := by
  have h0 : ∀ i : grid0.Coords, (i 0).val < 2 := fun i => (i 0).isLt
  have h1 : ∀ i : grid0.Coords, (i 1).val < 6 := fun i => (i 1).isLt
  refine ⟨fun i => ⟨?_, .inr (Affine.block_words_dvd (of_decide_eq_true rfl) (by decide))⟩, fun i => ⟨?_, .inr (Affine.block_words_dvd (of_decide_eq_true rfl) (by decide))⟩⟩
  all_goals
    have := h0 i
    have := h1 i
    intro a
  · rw [tr0]; fin_cases a <;> simp [S704x1408, S4224x5632] <;> omega
  · rw [tr1]; fin_cases a <;> simp [S1x1408x1024, S4x1408x2048] <;> omega

end Kernel23

end Kernel23

section Kernel23Ideal

open Cert.Kernel23Ideal Cert.Kernel23Ideal.Gen

variable {F : FTy → Type} [FloatOps F] (m : (ℓ : Loc Cert.Kernel23Ideal.nD Cert.Kernel23Ideal.τ Cert.Kernel23Ideal.sig) → Buf (Elt F) ℓ)

namespace Kernel23Ideal

theorem coord (i : grid0.Coords) : (![(Scalar.indexCast (BitVec.ofNat 32 (i 2).val) : Index).toNat] : Fin 1 → Nat) 0 = (i 2).val := by
  have h2 : (i 2).val < 1 := (i 2).isLt
  simp [Scalar.indexCast, BitVec.toNat_ofNat]
  try omega

/-- The table's word at a grid point. -/
theorem word (i : grid0.Coords) (off : Fin 1 → Nat) (ho : off 0 = (i 2).val)
    (h : ∀ a, off a + S1.size a ≤ S1.size a) (h1 : S1.numel = 1) :
    ((tbl m).at 0 (Rect.unit (s := S1) off S1.size h) h1 : BitVec 32) = BitVec.ofNat 32 (0) := by
  have h2 : (i 2).val < 1 := (i 2).isLt
  have e' : off = ![0] := funext fun a => by fin_cases a; exact (ho.trans (Nat.lt_one_iff.mp h2) : off 0 = 0)
  subst e'
  rfl

/-- The blocks' places that read it. -/
theorem tr0 (i : grid0.Coords) : cc0_transform_0 k0_off1_inb numel1_S1 (tbl m) i = ![(i 1).val, 0] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 2 := (i 0).isLt
  have h1 : (i 1).val < 6 := (i 1).isLt
  have h2 : (i 2).val < 1 := (i 2).isLt
  fin_cases a <;> simp [BitVec.toNat_ofNat] <;> omega

theorem tr1 (i : grid0.Coords) : cc0_transform_1 k0_off1_inb numel1_S1 (tbl m) i = ![0, 0, (i 0).val] := by
  refine (congrArg (fun b : BitVec 32 => (![b.toNat, 0, (BitVec.ofNat 32 (i 0).val).toNat] : Fin 3 → Nat)) (word m i _ (coord i) (k0_off1_inb i) numel1_S1)).trans ?_
  funext a
  have h0 : (i 0).val < 2 := (i 0).isLt
  have h1 : (i 1).val < 6 := (i 1).isLt
  have h2 : (i 2).val < 1 := (i 2).isLt
  fin_cases a <;> simp [BitVec.toNat_ofNat] <;> omega

/-- Every block lies inside its array. -/
theorem ok : Ok m := by
  have h0 : ∀ i : grid0.Coords, (i 0).val < 2 := fun i => (i 0).isLt
  have h1 : ∀ i : grid0.Coords, (i 1).val < 6 := fun i => (i 1).isLt
  refine ⟨fun i => ⟨?_, .inr (Affine.block_words_dvd (of_decide_eq_true rfl) (by decide))⟩, fun i => ⟨?_, .inr (Affine.block_words_dvd (of_decide_eq_true rfl) (by decide))⟩⟩
  all_goals
    have := h0 i
    have := h1 i
    intro a
  · rw [tr0]; fin_cases a <;> simp [S704x1408, S4224x5632] <;> omega
  · rw [tr1]; fin_cases a <;> simp [S1x1408x1024, S4x1408x2048] <;> omega

end Kernel23Ideal

end Kernel23Ideal

end Cert.Proof.DownOwnTable

end
-- ==== Proof.DownOwn.lean ====
/- THE OWN SHARD'S DOWN PRODUCT, HALVED AND ADDED TO THE RESIDUAL STREAM: each grid point takes 704 rows of the hidden
   layer's panel and half the columns of the weight's panel, which a table names (DownOwnTable).  Here: a point's block at an index
   (`out3_eq`), the places of the blocks (`emb0` and on), the whole result (`final3`), and the comparison with
   the reference (`algebraic`). -/
module

public import proofs.«01_k».proof.Defs
public import proofs.«01_k».proof.Proof.DownOwnTable
public import proofs.«01_k».proof.Proof.Gen.Reference23Ideal.Run
public import Idealize.ShloMosaic.Lib.Pointwise

@[expose] public section

noncomputable section

namespace Cert.Proof.DownOwn

open Cert.Kernel23Ideal Cert.Kernel23Ideal.Gen Cert.Proof.DownOwnTable.Kernel23Ideal Idealize.ShloMosaic Idealize.ShloMosaic.TcCoe Idealize.SL.Sem

/-- The tables' side conditions of the two programs. -/
theorem okP (m : (ℓ : Loc Cert.Kernel23.nD Cert.Kernel23.τ Cert.Kernel23.sig) → Buf (Elt Bits) ℓ) : Cert.Kernel23.Gen.Ok m :=
  Cert.Proof.DownOwnTable.Kernel23.ok m
theorem okI (m : (ℓ : Loc nD τ sig) → Buf (Elt Ideal) ℓ) : Ok m := ok m

theorem hz2 : (![0, 0] : Fin 2 → Nat) = fun _ => 0 := funext fun a => by fin_cases a <;> rfl
theorem hz3 : (![0, 0, 0] : Fin 3 → Nat) = fun _ => 0 := funext fun a => by fin_cases a <;> rfl

/-- The factor of the residual branch. -/
def half : EReal := Scalar.ofBits (F := Ideal) .f32 0x3F000000#32

/-- An element of a point's sum. -/
def res (x0 : Vec Ideal S704x1408 .bf16) (x1 : Vec Ideal S1x1408x1024 .bf16) (x2 : Vec Ideal S704x1024 .f32) (r : Fin 704) (l : Fin 1024) : EReal :=
  x2 (ix2 r l) + half * ∑ k : Fin 1408, (x0 (ix2 r k) * x1 (ix3 0 k l) : EReal)

def resB (x0 : Vec Ideal S704x1408 .bf16) (x1 : Vec Ideal S1x1408x1024 .bf16) (x2 : Vec Ideal S704x1024 .f32) : Vec Ideal S704x1024 .f32 := fun j => res x0 x1 x2 (j 0) (j 1)

section Point

variable (c : Dev nD) (i : grid0.Coords) (arg4 : Memref sig .tc .vmem S704x1408 .bf16) (h4 : arg4.IsWhole) (arg5 : Memref sig .tc .vmem S1x1408x1024 .bf16) (h5 : arg5.IsWhole) (arg6 : Memref sig .tc .vmem S704x1024 .f32) (h6 : arg6.IsWhole) (arg7 : Memref sig .tc .vmem S704x1024 .f32) (h7 : arg7.IsWhole) (hc0 : cond0_0 i) (hc1 : ¬cond0_1 i)
    (x0 : Vec Ideal S704x1408 .bf16) (x1 : Vec Ideal S1x1408x1024 .bf16) (x2 : Vec Ideal S704x1024 .f32) (xt0 : TbBuf0 (F := Ideal) c tbM0_0)

/-- What a point leaves in an output's staging buffer. -/
theorem out3_eq : out0_A_3 c i arg4 h4 arg5 h5 arg6 h6 arg7 h7 hc0 hc1 x0 x1 x2 xt0 = resB x0 x1 x2 := by
  unfold out0_A_3
  rw [View.read_writes_eq_canon _ _ _ (cover0_A_3 c i arg4 h4 arg5 h5 arg6 h6 arg7 h7 hc0 hc1 x0 x1 x2 xt0)]
  unfold kernelRun0_A
  dsimp only
  sl_unfold_words
  rw [View.canon_unit_zero hz2]
  simp only [View.readAt_eq_ld, h4.read_unread, h5.read_unread, h6.read_unread, View.ld_unit_zero (S := S704x1408) hz2, View.ld_unit_zero (S := S1x1408x1024) hz3, View.ld_unit_zero (S := S704x1024) hz2]
  funext j
  idx_vars j
  unfold resB res half
  pointwise [k0_pay1, k0_pay2]

end Point

/-- The whole result, from the hidden layer, the weight in four row panels and the residual stream: panel 0 is taken. -/
def H (a : FVec Ideal S4224x5632 .bf16) (w : FVec Ideal S4x1408x2048 .bf16) (h : FVec Ideal S4224x2048 .f32) (r : Fin 4224) (l : Fin 2048) : EReal :=
  h (ix2 r l) + half * ∑ k : Fin 1408, (a (ix2 r ⟨k.val, by have := k.isLt; omega⟩) * w (ix3 0 k l) : EReal)

def G3 (a : FVec Ideal S4224x5632 .bf16) (w : FVec Ideal S4x1408x2048 .bf16) (h : FVec Ideal S4224x2048 .f32) : FVec Ideal S4224x2048 .f32 := fun i => H a w h (i 0) (i 1)

section Ref

variable (a : FVec Ideal S4224x5632 .bf16) (w : FVec Ideal S4x1408x2048 .bf16) (h : FVec Ideal S4224x2048 .f32)

/-- The reference's result. -/
theorem ref3 : (addf h (mulf (broadcastInDim Cert.Reference23Ideal.S4224x2048 ![] Cert.Reference23Ideal.Gen.facts.bcast_S_S4224x2048 (constant Cert.Reference23Ideal.S_ .f32 0x3F000000#32)) (Host.dotGeneral Cert.Reference23Ideal.dot_S4224x1408_S1408x2048_S4224x2048_1_0_0_1_n_n none (extractStridedSlice Cert.Reference23Ideal.S4224x1408 ![0, 0] (extf .f32 a Cert.Reference23Ideal.Gen.facts.bitsLt_bf16_f32) Cert.Reference23Ideal.Gen.facts.slices_S4224x5632_S4224x1408_0_0) (shapeCast Cert.Reference23Ideal.S1408x2048 (extractStridedSlice Cert.Reference23Ideal.S1x1408x2048 ![0, 0, 0] (extf .f32 w Cert.Reference23Ideal.Gen.facts.bitsLt_bf16_f32) Cert.Reference23Ideal.Gen.facts.slices_S4x1408x2048_S1x1408x2048_0_0_0) Cert.Reference23Ideal.Gen.facts.shapeCasts_S1x1408x2048_S1408x2048))) : FVec Ideal S4224x2048 .f32) = G3 a w h := by
  funext i
  idx_vars i
  unfold G3 H half
  pointwise []

end Ref

variable (m : (ℓ : Loc nD τ sig) → Buf (Elt Ideal) ℓ) (ρ : Dev nD → PrngReg)

/-- The pipeline at the call's table. -/
abbrev cf : Pipeline.Cfg sig Λ₀ := cfgM m (okI m)

theorem hN : (cf m).N = 12 := rfl

/-- The grid's coordinates at point `t`: columns' block `t / 6`, rows' block `t % 6`. -/
theorem co : ∀ t : Fin grid0.N, ((grid0.coords t) 0).val = t.val / 6 ∧ ((grid0.coords t) 1).val = t.val % 6 := by decide +kernel

/-- The block indices at grid point `t`, and the places of the blocks' elements. -/
theorem idx0 (t : Fin (cf m).N) : ((cf m).win 0).index t (0 : Fin 2) = t.val % 6 ∧ ((cf m).win 0).index t (1 : Fin 2) = 0 := by
  have e : ((cf m).win 0).index t = (![((grid0.coords t) 1).val, 0] : Fin 2 → Nat) := tr0 m (grid0.coords t)
  rw [e]
  exact ⟨(co t).2, rfl⟩

theorem idx1 (t : Fin (cf m).N) : ((cf m).win 1).index t (0 : Fin 3) = 0 ∧ ((cf m).win 1).index t (1 : Fin 3) = 0 ∧ ((cf m).win 1).index t (2 : Fin 3) = t.val / 6 := by
  have e : ((cf m).win 1).index t = (![0, 0, ((grid0.coords t) 0).val] : Fin 3 → Nat) := tr1 m (grid0.coords t)
  rw [e]
  exact ⟨rfl, rfl, (co t).1⟩

theorem idx2 (t : Fin (cf m).N) : ((cf m).win 2).index t (0 : Fin 2) = t.val % 6 ∧ ((cf m).win 2).index t (1 : Fin 2) = t.val / 6 :=
  (by decide +kernel : ∀ t : Fin grid0.N, cc0_transform_2 (grid0.coords t) (0 : Fin 2) = t.val % 6 ∧ cc0_transform_2 (grid0.coords t) (1 : Fin 2) = t.val / 6) t

theorem idx3 (t : Fin (cf m).N) : ((cf m).win 3).index t (0 : Fin 2) = t.val % 6 ∧ ((cf m).win 3).index t (1 : Fin 2) = t.val / 6 :=
  (by decide +kernel : ∀ t : Fin grid0.N, cc0_transform_3 (grid0.coords t) (0 : Fin 2) = t.val % 6 ∧ cc0_transform_3 (grid0.coords t) (1 : Fin 2) = t.val / 6) t

theorem emb0 (t : Fin (cf m).N) (r : Fin 704) (k : Fin 1408) : (((cf m).win 0).blk t).view.emb (ix2 r k)
    = ix2 ⟨t.val % 6 * 704 + r.val, by have := r.isLt; have := t.isLt; have := hN m; omega⟩ ⟨k.val, by have := k.isLt; omega⟩ := by
  obtain ⟨e0, e1⟩ := idx0 m t
  funext a; apply Fin.ext
  match a with
  | ⟨0, _⟩ => show ((cf m).win 0).index t (0 : Fin 2) * 704 + 1 * r.val = t.val % 6 * 704 + r.val; omega
  | ⟨1, _⟩ => show ((cf m).win 0).index t (1 : Fin 2) * 1408 + 1 * k.val = k.val; omega

theorem emb1 (t : Fin (cf m).N) (k : Fin 1408) (l : Fin 1024) : (((cf m).win 1).blk t).view.emb (ix3 0 k l)
    = ix3 0 k ⟨t.val / 6 * 1024 + l.val, by have := l.isLt; have := t.isLt; have := hN m; omega⟩ := by
  obtain ⟨e0, e1, e2⟩ := idx1 m t
  funext a; apply Fin.ext
  match a with
  | ⟨0, _⟩ => show ((cf m).win 1).index t (0 : Fin 3) * 1 + 1 * 0 = 0; omega
  | ⟨1, _⟩ => show ((cf m).win 1).index t (1 : Fin 3) * 1408 + 1 * k.val = k.val; omega
  | ⟨2, _⟩ => show ((cf m).win 1).index t (2 : Fin 3) * 1024 + 1 * l.val = t.val / 6 * 1024 + l.val; omega

theorem emb2 (t : Fin (cf m).N) (r : Fin 704) (l : Fin 1024) : (((cf m).win 2).blk t).view.emb (ix2 r l)
    = ix2 ⟨t.val % 6 * 704 + r.val, by have := r.isLt; have := t.isLt; have := hN m; omega⟩ ⟨t.val / 6 * 1024 + l.val, by have := l.isLt; have := t.isLt; have := hN m; omega⟩ := by
  obtain ⟨e0, e1⟩ := idx2 m t
  funext a; apply Fin.ext
  match a with
  | ⟨0, _⟩ => show ((cf m).win 2).index t (0 : Fin 2) * 704 + 1 * r.val = t.val % 6 * 704 + r.val; omega
  | ⟨1, _⟩ => show ((cf m).win 2).index t (1 : Fin 2) * 1024 + 1 * l.val = t.val / 6 * 1024 + l.val; omega

theorem emb3 (t : Fin (cf m).N) (r : Fin 704) (l : Fin 1024) : (((cf m).win 3).blk t).view.emb (ix2 r l)
    = ix2 ⟨t.val % 6 * 704 + r.val, by have := r.isLt; have := t.isLt; have := hN m; omega⟩ ⟨t.val / 6 * 1024 + l.val, by have := l.isLt; have := t.isLt; have := hN m; omega⟩ := by
  obtain ⟨e0, e1⟩ := idx3 m t
  funext a; apply Fin.ext
  match a with
  | ⟨0, _⟩ => show ((cf m).win 3).index t (0 : Fin 2) * 704 + 1 * r.val = t.val % 6 * 704 + r.val; omega
  | ⟨1, _⟩ => show ((cf m).win 3).index t (1 : Fin 2) * 1024 + 1 * l.val = t.val / 6 * 1024 + l.val; omega

/-- A point's sum, in the arrays. -/
theorem res_apply (c : Dev nD) (t : Fin (cf m).N) (r : Fin 704) (l : Fin 1024) :
    res (iblk m (okI m) c 0 t) (iblk m (okI m) c 1 t) (iblk m (okI m) c 2 t) r l
      = H (V m c main_arg0) (V m c main_arg1) (V m c main_arg2) ⟨t.val % 6 * 704 + r.val, by have := r.isLt; have := t.isLt; have := hN m; omega⟩ ⟨t.val / 6 * 1024 + l.val, by have := l.isLt; have := t.isLt; have := hN m; omega⟩ := by
  unfold H res
  refine congrArg₂ (fun a b : EReal => a + half * b) ?_ (Finset.sum_congr rfl fun k _ => congrArg₂ (fun a b : EReal => a * b) ?_ ?_)
  · show V m c main_arg2 ((((cf m).win 2).blk t).view.emb (ix2 r l)) = _
    rw [emb2]
  · show V m c main_arg0 ((((cf m).win 0).blk t).view.emb (ix2 r k)) = _
    rw [emb0]
  · show V m c main_arg1 ((((cf m).win 1).blk t).view.emb (ix3 0 k l)) = _
    rw [emb1]

/-- What a point writes back is its block of the whole result. -/
theorem flushed3_eq (c : Dev nD) (t : Fin (cf m).N) :
    (dats m (okI m) 0 c).flushed 3 t = (((cf m).win 3).blk t).view.read (Elt Ideal) (G3 (V m c main_arg0) (V m c main_arg1) (V m c main_arg2)) := by
  show ((cf m).win 3).cut (grid0.coords t) ((dats m (okI m) 0 c).after 3 t) = _
  rw [after0_3]
  unfold outsAt0
  dsimp only
  have e := out3_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (hcond0_0 t) (hcond0_1 t) (iblk m (okI m) c 0 t) (iblk m (okI m) c 1 t) (iblk m (okI m) c 2 t) (tbl m 0)
  refine (congrArg (((cf m).win 3).cut (grid0.coords t)) e).trans ?_
  refine funext fun (j : S704x1024.Idx) => ?_
  show (resB (iblk m (okI m) c 0 t) (iblk m (okI m) c 1 t) (iblk m (okI m) c 2 t)) j = (G3 (V m c main_arg0) (V m c main_arg1) (V m c main_arg2)) ((((cf m).win 3).blk t).view.emb j)
  idx_vars j
  rw [emb3]
  exact res_apply m c t j0 j1

/-- Every element of the result is in some point's block. -/
theorem covered3 (i : S4224x2048.Idx) :
    ∃ t : Fin (cf m).N, ((cf m).win 3).flush t = true ∧ i ∈ (((cf m).win 3).blk t).view.set := by
  idx_vars i
  have hi0 := i0.isLt; have hi1 := i1.isLt
  have hN : i1.val / 1024 * 6 + i0.val / 704 < (cf m).N := by show _ < 12; omega
  refine ⟨⟨_, hN⟩, flush0_3 _ _, ?_⟩
  have h := (((cf m).win 3).blk ⟨_, hN⟩).view.emb_mem_set (ix2 ⟨i0.val % 704, by omega⟩ ⟨i1.val % 1024, by omega⟩)
  have e : (((cf m).win 3).blk ⟨_, hN⟩).view.emb (ix2 ⟨i0.val % 704, by omega⟩ ⟨i1.val % 1024, by omega⟩) = ix2 i0 i1 := by
    rw [emb3]
    funext a; apply Fin.ext
    match a with
    | ⟨0, _⟩ => show (i1.val / 1024 * 6 + i0.val / 704) % 6 * 704 + i0.val % 704 = i0.val; omega
    | ⟨1, _⟩ => show (i1.val / 1024 * 6 + i0.val / 704) / 6 * 1024 + i1.val % 1024 = i1.val; omega
  rw [e] at h
  exact h

/-- The result array after the run. -/
theorem final3 (c : Dev nD) : (dats m (okI m) 0 c).arrAt 3 (cf m).N = G3 (m ((c : Thread nD τ).loc main_arg0)) (m ((c : Thread nD τ).loc main_arg1)) (m ((c : Thread nD τ).loc main_arg2)) :=
  ((dats m (okI m) 0 c).arrAt_eq_of_cover 3 (G3 (V m c main_arg0) (V m c main_arg1) (V m c main_arg2)) (fun t _ => flushed3_eq m c t) (covered3 m)).trans
    (by rw [V_main_arg0, V_main_arg1, V_main_arg2])

/-- The run: the result, the arguments unchanged. -/
theorem run_blocks : θ_run defs (onTc (τ := τ) (main (F := Ideal))) ⟨m, fun _ => 0, ρ⟩ fun r => ∀ c : Dev nD,
      r.2.mem ((c.tc : Thread nD τ).loc main_v1) = G3 (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (final3 m c), h.2 c⟩)
    (θ_run_and (run_main m ρ (okI m)) (unchanged m ρ (okI m)))

/-- The kernel and the reference end with equal results. -/
theorem algebraic : Cert.algebraic_Kernel23Ideal_Reference23Ideal := fun m g m' g' _ hm =>
  ⟨fun c => G3 (m ((c : Thread nD τ).loc main_arg0)) (m ((c : Thread nD τ).loc main_arg1)) (m ((c : Thread nD τ).loc main_arg2)), run_blocks m g,
    (θ_run Cert.Reference23Ideal.defs _ _).mono (fun r h c => by
      have t0 := (h c).1.trans ((ref3 _ _ _).trans (by rw [(hm c).1, (hm c).2.1, (hm c).2.2] : _ = G3 (m ((c : Thread nD τ).loc main_arg0)) (m ((c : Thread nD τ).loc main_arg1)) (m ((c : Thread nD τ).loc main_arg2))))
      exact ⟨t0, (h c).2⟩) (Cert.Reference23Ideal.Value.run m' g')⟩

/-- The reference runs, its arguments unchanged, its counters at zero. -/
theorem frameR : Cert.quiescent_Reference23Ideal := fun m g _ =>
  (θ_run Cert.Reference23Ideal.defs _ _).mono (fun r h => ⟨fun c => (h c).2,
      Idealize.ShloMosaic.sem_eq_zero_of_no_sems (by decide) r.2⟩)
    (Cert.Reference23Ideal.Value.run (F := Ideal) m g)

end Cert.Proof.DownOwn

end
-- ==== Proof.DownFarTable.lean ====
/- THE TABLE OF THE FAR SHARD'S DOWN CALL: the call's column panel of the hidden layer and the weight's row panel are
   named by a table that the host fills.  Here, for the program at floats and for the ideal one: the table's words (`word`), the
   blocks' places they give (`tr0`, `tr1`), and that every block lies inside its array (`ok`). -/
module

public import proofs.«01_k».proof.Proof.Gen.Kernel25.Frame
public import proofs.«01_k».proof.Proof.Gen.Kernel25Ideal.Frame

@[expose] public section

noncomputable section

namespace Cert.Proof.DownFarTable

open Idealize.ShloMosaic Idealize.ShloMosaic.TcCoe Idealize.SL.Sem

section Kernel25

open Cert.Kernel25 Cert.Kernel25.Gen

variable {F : FTy → Type} [FloatOps F] (m : (ℓ : Loc Cert.Kernel25.nD Cert.Kernel25.τ Cert.Kernel25.sig) → Buf (Elt F) ℓ)

namespace Kernel25

theorem coord (i : grid0.Coords) : (![(Scalar.indexCast (BitVec.ofNat 32 (i 2).val) : Index).toNat] : Fin 1 → Nat) 0 = (i 2).val := by
  have h2 : (i 2).val < 1 := (i 2).isLt
  simp [Scalar.indexCast, BitVec.toNat_ofNat]
  try omega

theorem tbl_eq : tbl m 0 = (broadcastInDim S1 ![] bcast_S_S1 (xori (constantI S_ 32 0#32) (constantI S_ 32 3#32) : IVec S_ 32) : IVec S1 32) := rfl

/-- The table's word at a grid point. -/
theorem word (i : grid0.Coords) (off : Fin 1 → Nat) (ho : off 0 = (i 2).val)
    (h : ∀ a, off a + S1.size a ≤ S1.size a) (h1 : S1.numel = 1) :
    ((tbl m).at 0 (Rect.unit (s := S1) off S1.size h) h1 : BitVec 32) = BitVec.ofNat 32 (3) := by
  have h2 : (i 2).val < 1 := (i 2).isLt
  have e' : off = ![0] := funext fun a => by fin_cases a; exact (ho.trans (Nat.lt_one_iff.mp h2) : off 0 = 0)
  subst e'
  refine (congrFun (tbl_eq m) _).trans ?_
  exact (by decide : (0#32 ^^^ 3#32 : BitVec 32) = 3#32)

/-- The blocks' places that read it. -/
theorem tr0 (i : grid0.Coords) : cc0_transform_0 k0_off1_inb numel1_S1 (tbl m) i = ![(i 1).val, 3] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 12 := (i 1).isLt
  have h2 : (i 2).val < 1 := (i 2).isLt
  fin_cases a <;> simp [BitVec.toNat_ofNat] <;> omega

theorem tr1 (i : grid0.Coords) : cc0_transform_1 k0_off1_inb numel1_S1 (tbl m) i = ![3, 0, (i 0).val] := by
  refine (congrArg (fun b : BitVec 32 => (![b.toNat, 0, (BitVec.ofNat 32 (i 0).val).toNat] : Fin 3 → Nat)) (word m i _ (coord i) (k0_off1_inb i) numel1_S1)).trans ?_
  funext a
  have h0 : (i 0).val < 1 := (i 0).isLt
  have h1 : (i 1).val < 12 := (i 1).isLt
  have h2 : (i 2).val < 1 := (i 2).isLt
  fin_cases a <;> simp [BitVec.toNat_ofNat] <;> omega

/-- Every block lies inside its array. -/
theorem ok : Ok m := by
  have h0 : ∀ i : grid0.Coords, (i 0).val < 1 := fun i => (i 0).isLt
  have h1 : ∀ i : grid0.Coords, (i 1).val < 12 := fun i => (i 1).isLt
  refine ⟨fun i => ⟨?_, .inr (Affine.block_words_dvd (of_decide_eq_true rfl) (by decide))⟩, fun i => ⟨?_, .inr (Affine.block_words_dvd (of_decide_eq_true rfl) (by decide))⟩⟩
  all_goals
    have := h0 i
    have := h1 i
    intro a
  · rw [tr0]; fin_cases a <;> simp [S352x1408, S4224x5632] <;> omega
  · rw [tr1]; fin_cases a <;> simp [S1x1408x2048, S4x1408x2048] <;> omega

end Kernel25

end Kernel25

section Kernel25Ideal

open Cert.Kernel25Ideal Cert.Kernel25Ideal.Gen

variable {F : FTy → Type} [FloatOps F] (m : (ℓ : Loc Cert.Kernel25Ideal.nD Cert.Kernel25Ideal.τ Cert.Kernel25Ideal.sig) → Buf (Elt F) ℓ)

namespace Kernel25Ideal

theorem coord (i : grid0.Coords) : (![(Scalar.indexCast (BitVec.ofNat 32 (i 2).val) : Index).toNat] : Fin 1 → Nat) 0 = (i 2).val := by
  have h2 : (i 2).val < 1 := (i 2).isLt
  simp [Scalar.indexCast, BitVec.toNat_ofNat]
  try omega

theorem tbl_eq : tbl m 0 = (broadcastInDim S1 ![] bcast_S_S1 (xori (constantI S_ 32 0#32) (constantI S_ 32 3#32) : IVec S_ 32) : IVec S1 32) := rfl

/-- The table's word at a grid point. -/
theorem word (i : grid0.Coords) (off : Fin 1 → Nat) (ho : off 0 = (i 2).val)
    (h : ∀ a, off a + S1.size a ≤ S1.size a) (h1 : S1.numel = 1) :
    ((tbl m).at 0 (Rect.unit (s := S1) off S1.size h) h1 : BitVec 32) = BitVec.ofNat 32 (3) := by
  have h2 : (i 2).val < 1 := (i 2).isLt
  have e' : off = ![0] := funext fun a => by fin_cases a; exact (ho.trans (Nat.lt_one_iff.mp h2) : off 0 = 0)
  subst e'
  refine (congrFun (tbl_eq m) _).trans ?_
  exact (by decide : (0#32 ^^^ 3#32 : BitVec 32) = 3#32)

/-- The blocks' places that read it. -/
theorem tr0 (i : grid0.Coords) : cc0_transform_0 k0_off1_inb numel1_S1 (tbl m) i = ![(i 1).val, 3] := by
  refine (congrArg (fun b : BitVec 32 => (![(BitVec.ofNat 32 (i 1).val).toNat, b.toNat] : Fin 2 → Nat)) (word m i _ (coord i) (k0_off1_inb i) numel1_S1)).trans ?_
  funext a
  have h0 : (i 0).val < 1 := (i 0).isLt
  have h1 : (i 1).val < 12 := (i 1).isLt
  have h2 : (i 2).val < 1 := (i 2).isLt
  fin_cases a <;> simp [BitVec.toNat_ofNat] <;> omega

theorem tr1 (i : grid0.Coords) : cc0_transform_1 k0_off1_inb numel1_S1 (tbl m) i = ![3, 0, (i 0).val] := by
  refine (congrArg (fun b : BitVec 32 => (![b.toNat, 0, (BitVec.ofNat 32 (i 0).val).toNat] : Fin 3 → Nat)) (word m i _ (coord i) (k0_off1_inb i) numel1_S1)).trans ?_
  funext a
  have h0 : (i 0).val < 1 := (i 0).isLt
  have h1 : (i 1).val < 12 := (i 1).isLt
  have h2 : (i 2).val < 1 := (i 2).isLt
  fin_cases a <;> simp [BitVec.toNat_ofNat] <;> omega

/-- Every block lies inside its array. -/
theorem ok : Ok m := by
  have h0 : ∀ i : grid0.Coords, (i 0).val < 1 := fun i => (i 0).isLt
  have h1 : ∀ i : grid0.Coords, (i 1).val < 12 := fun i => (i 1).isLt
  refine ⟨fun i => ⟨?_, .inr (Affine.block_words_dvd (of_decide_eq_true rfl) (by decide))⟩, fun i => ⟨?_, .inr (Affine.block_words_dvd (of_decide_eq_true rfl) (by decide))⟩⟩
  all_goals
    have := h0 i
    have := h1 i
    intro a
  · rw [tr0]; fin_cases a <;> simp [S352x1408, S4224x5632] <;> omega
  · rw [tr1]; fin_cases a <;> simp [S1x1408x2048, S4x1408x2048] <;> omega

end Kernel25Ideal

end Kernel25Ideal

end Cert.Proof.DownFarTable

end
-- ==== Proof.DownFar.lean ====
/- THE FAR SHARD'S DOWN PRODUCT, HALVED AND ADDED TO THE RESIDUAL STREAM, AND THE SUM'S RMS NORM: each grid point takes 352 rows of the hidden
   layer's panel and the whole of the weight's panel, which a table names (DownFarTable).  Here: a point's blocks at an index
   (`out5_eq`, `out6_eq`), the places of the blocks (`emb0` and on), the whole results (`final5`, `final6`), and the comparison with
   the reference (`algebraic`). -/
module

public import proofs.«01_k».proof.Defs
public import proofs.«01_k».proof.Proof.DownFarTable
public import proofs.«01_k».proof.Proof.Gen.Reference25Ideal.Run
public import Idealize.ShloMosaic.Lib.Pointwise

@[expose] public section

noncomputable section

namespace Cert.Proof.DownFar

open Cert.Kernel25Ideal Cert.Kernel25Ideal.Gen Cert.Proof.DownFarTable.Kernel25Ideal Idealize.ShloMosaic Idealize.ShloMosaic.TcCoe Idealize.SL.Sem

/-- The tables' side conditions of the two programs. -/
theorem okP (m : (ℓ : Loc Cert.Kernel25.nD Cert.Kernel25.τ Cert.Kernel25.sig) → Buf (Elt Bits) ℓ) : Cert.Kernel25.Gen.Ok m :=
  Cert.Proof.DownFarTable.Kernel25.ok m
theorem okI (m : (ℓ : Loc nD τ sig) → Buf (Elt Ideal) ℓ) : Ok m := ok m

theorem hz2 : (![0, 0] : Fin 2 → Nat) = fun _ => 0 := funext fun a => by fin_cases a <;> rfl
theorem hz3 : (![0, 0, 0] : Fin 3 → Nat) = fun _ => 0 := funext fun a => by fin_cases a <;> rfl

/-- The factor of the residual branch. -/
def half : EReal := Scalar.ofBits (F := Ideal) .f32 0x3F000000#32

/-- The norm's divisor (the row's length) and its small constant. -/
def len : EReal := Scalar.ofBits (F := Ideal) .f32 0x45000000#32
def eps : EReal := Scalar.ofBits (F := Ideal) .f32 0x358637BD#32

/-- A row's element divided by the row's root mean square, times its gain. -/
def nrm (row : Fin 2048 → EReal) (x g : EReal) : EReal :=
  x * Ideal.rsqrt (Ideal.div (∑ k : Fin 2048, row k * row k) len + eps) * g

/-- An element of a point's sum. -/
def res (x0 : Vec Ideal S352x1408 .bf16) (x1 : Vec Ideal S1x1408x2048 .bf16) (x2 : Vec Ideal S352x2048 .f32) (r : Fin 352) (l : Fin 2048) : EReal :=
  x2 (ix2 r l) + half * ∑ k : Fin 1408, (x0 (ix2 r k) * x1 (ix3 0 k l) : EReal)

def resB (x0 : Vec Ideal S352x1408 .bf16) (x1 : Vec Ideal S1x1408x2048 .bf16) (x2 : Vec Ideal S352x2048 .f32) : Vec Ideal S352x2048 .f32 := fun j => res x0 x1 x2 (j 0) (j 1)

def nrmB (x0 : Vec Ideal S352x1408 .bf16) (x1 : Vec Ideal S1x1408x2048 .bf16) (x2 : Vec Ideal S352x2048 .f32) (g : Vec Ideal S1x2048 .f32) : Vec Ideal S352x2048 .bf16 :=
  fun j => nrm (res x0 x1 x2 (j 0)) (res x0 x1 x2 (j 0) (j 1)) (g (ix2 0 (j 1)))

section Point

variable (c : Dev nD) (i : grid0.Coords) (arg4 : Memref sig .tc .vmem S352x1408 .bf16) (h4 : arg4.IsWhole) (arg5 : Memref sig .tc .vmem S1x1408x2048 .bf16) (h5 : arg5.IsWhole) (arg6 : Memref sig .tc .vmem S352x2048 .f32) (h6 : arg6.IsWhole) (arg7 : Memref sig .tc .vmem S8x128 .f32) (h7 : arg7.IsWhole) (arg8 : Memref sig .tc .vmem S1x2048 .f32) (h8 : arg8.IsWhole) (arg9 : Memref sig .tc .vmem S352x2048 .f32) (h9 : arg9.IsWhole) (arg10 : Memref sig .tc .vmem S352x2048 .bf16) (h10 : arg10.IsWhole) (hc0 : cond0_0 i) (hc1 : ¬cond0_1 i) (hc2 : cond0_2 i)
    (x0 : Vec Ideal S352x1408 .bf16) (x1 : Vec Ideal S1x1408x2048 .bf16) (x2 : Vec Ideal S352x2048 .f32) (x3 : Vec Ideal S8x128 .f32) (x4 : Vec Ideal S1x2048 .f32) (xt0 : TbBuf0 (F := Ideal) c tbM0_0)

/-- What a point leaves in an output's staging buffer. -/
theorem out5_eq : out0_A_5 c i arg4 h4 arg5 h5 arg6 h6 arg7 h7 arg8 h8 arg9 h9 arg10 h10 hc0 hc1 hc2 x0 x1 x2 x3 x4 xt0 = resB x0 x1 x2 := by
  unfold out0_A_5
  rw [View.read_writes_eq_canon _ _ _ (cover0_A_5 c i arg4 h4 arg5 h5 arg6 h6 arg7 h7 arg8 h8 arg9 h9 arg10 h10 hc0 hc1 hc2 x0 x1 x2 x3 x4 xt0)]
  unfold kernelRun0_A
  dsimp only
  sl_unfold_words
  rw [View.canon_unit_zero hz2]
  simp only [View.readAt_eq_ld, h4.read_unread, h5.read_unread, h6.read_unread, View.ld_unit_zero (S := S352x1408) hz2, View.ld_unit_zero (S := S1x1408x2048) hz3, View.ld_unit_zero (S := S352x2048) hz2]
  funext j
  idx_vars j
  unfold resB res half
  pointwise [k0_pay1, k0_pay2]

theorem out6_eq : out0_A_6 c i arg4 h4 arg5 h5 arg6 h6 arg7 h7 arg8 h8 arg9 h9 arg10 h10 hc0 hc1 hc2 x0 x1 x2 x3 x4 xt0 = nrmB x0 x1 x2 x4 := by
  unfold out0_A_6
  rw [View.read_writes_eq_canon _ _ _ (cover0_A_6 c i arg4 h4 arg5 h5 arg6 h6 arg7 h7 arg8 h8 arg9 h9 arg10 h10 hc0 hc1 hc2 x0 x1 x2 x3 x4 xt0)]
  unfold kernelRun0_A
  dsimp only
  rw [View.canon_unit_zero hz2]
  sl_unfold_words
  simp only [View.readAt_eq_ld, h4.read_unread, h5.read_unread, h6.read_unread, h8.read_unread, View.ld_unit_zero (S := S352x1408) hz2, View.ld_unit_zero (S := S1x1408x2048) hz3, View.ld_unit_zero (S := S352x2048) hz2, View.ld_unit_zero (S := S1x2048) hz2, View.readCov_unit_zero (S := S352x2048) _ hz2]
  funext j
  idx_vars j
  unfold nrmB nrm len eps res half
  pointwise [k0_pay1, k0_pay2, k0_pay4]

end Point

/-- The whole result, from the hidden layer, the weight in four row panels and the residual stream: panel 3 is taken. -/
def H (a : FVec Ideal S4224x5632 .bf16) (w : FVec Ideal S4x1408x2048 .bf16) (h : FVec Ideal S4224x2048 .f32) (r : Fin 4224) (l : Fin 2048) : EReal :=
  h (ix2 r l) + half * ∑ k : Fin 1408, (a (ix2 r ⟨4224 + k.val, by have := k.isLt; omega⟩) * w (ix3 3 k l) : EReal)

def G5 (a : FVec Ideal S4224x5632 .bf16) (w : FVec Ideal S4x1408x2048 .bf16) (h : FVec Ideal S4224x2048 .f32) : FVec Ideal S4224x2048 .f32 := fun i => H a w h (i 0) (i 1)

/-- The second result: its rows' norms. -/
def G6 (a : FVec Ideal S4224x5632 .bf16) (w : FVec Ideal S4x1408x2048 .bf16) (h : FVec Ideal S4224x2048 .f32) (g : FVec Ideal S1x2048 .f32) : FVec Ideal S4224x2048 .bf16 :=
  fun i => nrm (H a w h (i 0)) (H a w h (i 0) (i 1)) (g (ix2 0 (i 1)))

section Ref

variable (a : FVec Ideal S4224x5632 .bf16) (w : FVec Ideal S4x1408x2048 .bf16) (h : FVec Ideal S4224x2048 .f32) (g : FVec Ideal S1x2048 .f32)

/-- The reference's results. -/
theorem ref5 : (addf h (mulf (broadcastInDim Cert.Reference25Ideal.S4224x2048 ![] Cert.Reference25Ideal.Gen.facts.bcast_S_S4224x2048 (constant Cert.Reference25Ideal.S_ .f32 0x3F000000#32)) (Host.dotGeneral Cert.Reference25Ideal.dot_S4224x1408_S1408x2048_S4224x2048_1_0_0_1_n_n none (extractStridedSlice Cert.Reference25Ideal.S4224x1408 ![0, 4224] (extf .f32 a Cert.Reference25Ideal.Gen.facts.bitsLt_bf16_f32) Cert.Reference25Ideal.Gen.facts.slices_S4224x5632_S4224x1408_0_4224) (shapeCast Cert.Reference25Ideal.S1408x2048 (extractStridedSlice Cert.Reference25Ideal.S1x1408x2048 ![3, 0, 0] (extf .f32 w Cert.Reference25Ideal.Gen.facts.bitsLt_bf16_f32) Cert.Reference25Ideal.Gen.facts.slices_S4x1408x2048_S1x1408x2048_3_0_0) Cert.Reference25Ideal.Gen.facts.shapeCasts_S1x1408x2048_S1408x2048))) : FVec Ideal S4224x2048 .f32) = G5 a w h := by
  funext i
  idx_vars i
  unfold G5 H half
  pointwise []

theorem ref6 : (truncf .bf16 (mulf (mulf (addf h (mulf (broadcastInDim Cert.Reference25Ideal.S4224x2048 ![] Cert.Reference25Ideal.Gen.facts.bcast_S_S4224x2048 (constant Cert.Reference25Ideal.S_ .f32 0x3F000000#32)) (Host.dotGeneral Cert.Reference25Ideal.dot_S4224x1408_S1408x2048_S4224x2048_1_0_0_1_n_n none (extractStridedSlice Cert.Reference25Ideal.S4224x1408 ![0, 4224] (extf .f32 a Cert.Reference25Ideal.Gen.facts.bitsLt_bf16_f32) Cert.Reference25Ideal.Gen.facts.slices_S4224x5632_S4224x1408_0_4224) (shapeCast Cert.Reference25Ideal.S1408x2048 (extractStridedSlice Cert.Reference25Ideal.S1x1408x2048 ![3, 0, 0] (extf .f32 w Cert.Reference25Ideal.Gen.facts.bitsLt_bf16_f32) Cert.Reference25Ideal.Gen.facts.slices_S4x1408x2048_S1x1408x2048_3_0_0) Cert.Reference25Ideal.Gen.facts.shapeCasts_S1x1408x2048_S1408x2048)))) (broadcastInDim Cert.Reference25Ideal.S4224x2048 ![0, 1] Cert.Reference25Ideal.Gen.facts.bcast_S4224x1_S4224x2048_0_1 (Host.rsqrt (addf (Host.divf (broadcastInDim Cert.Reference25Ideal.S4224x1 ![0] Cert.Reference25Ideal.Gen.facts.bcast_S4224_S4224x1_0 (Host.reduceAdd (mulf (addf h (mulf (broadcastInDim Cert.Reference25Ideal.S4224x2048 ![] Cert.Reference25Ideal.Gen.facts.bcast_S_S4224x2048 (constant Cert.Reference25Ideal.S_ .f32 0x3F000000#32)) (Host.dotGeneral Cert.Reference25Ideal.dot_S4224x1408_S1408x2048_S4224x2048_1_0_0_1_n_n none (extractStridedSlice Cert.Reference25Ideal.S4224x1408 ![0, 4224] (extf .f32 a Cert.Reference25Ideal.Gen.facts.bitsLt_bf16_f32) Cert.Reference25Ideal.Gen.facts.slices_S4224x5632_S4224x1408_0_4224) (shapeCast Cert.Reference25Ideal.S1408x2048 (extractStridedSlice Cert.Reference25Ideal.S1x1408x2048 ![3, 0, 0] (extf .f32 w Cert.Reference25Ideal.Gen.facts.bitsLt_bf16_f32) Cert.Reference25Ideal.Gen.facts.slices_S4x1408x2048_S1x1408x2048_3_0_0) Cert.Reference25Ideal.Gen.facts.shapeCasts_S1x1408x2048_S1408x2048)))) (addf h (mulf (broadcastInDim Cert.Reference25Ideal.S4224x2048 ![] Cert.Reference25Ideal.Gen.facts.bcast_S_S4224x2048 (constant Cert.Reference25Ideal.S_ .f32 0x3F000000#32)) (Host.dotGeneral Cert.Reference25Ideal.dot_S4224x1408_S1408x2048_S4224x2048_1_0_0_1_n_n none (extractStridedSlice Cert.Reference25Ideal.S4224x1408 ![0, 4224] (extf .f32 a Cert.Reference25Ideal.Gen.facts.bitsLt_bf16_f32) Cert.Reference25Ideal.Gen.facts.slices_S4224x5632_S4224x1408_0_4224) (shapeCast Cert.Reference25Ideal.S1408x2048 (extractStridedSlice Cert.Reference25Ideal.S1x1408x2048 ![3, 0, 0] (extf .f32 w Cert.Reference25Ideal.Gen.facts.bitsLt_bf16_f32) Cert.Reference25Ideal.Gen.facts.slices_S4x1408x2048_S1x1408x2048_3_0_0) Cert.Reference25Ideal.Gen.facts.shapeCasts_S1x1408x2048_S1408x2048))))) (constant Cert.Reference25Ideal.S_ .f32 0x00000000#32) Cert.Reference25Ideal.Gen.facts.reducesTo_S4224x2048_S4224_d1 Cert.Reference25Ideal.Gen.facts.h_S_)) (broadcastInDim Cert.Reference25Ideal.S4224x1 ![] Cert.Reference25Ideal.Gen.facts.bcast_S_S4224x1 (constant Cert.Reference25Ideal.S_ .f32 0x45000000#32))) (broadcastInDim Cert.Reference25Ideal.S4224x1 ![] Cert.Reference25Ideal.Gen.facts.bcast_S_S4224x1 (constant Cert.Reference25Ideal.S_ .f32 0x358637BD#32)))))) (broadcastInDim Cert.Reference25Ideal.S4224x2048 ![0, 1] Cert.Reference25Ideal.Gen.facts.bcast_S1x2048_S4224x2048_0_1 g)) Cert.Reference25Ideal.Gen.facts.bitsLt_bf16_f32 : FVec Ideal S4224x2048 .bf16) = G6 a w h g := by
  funext i
  idx_vars i
  unfold G6 nrm len eps H half
  pointwise []

end Ref

variable (m : (ℓ : Loc nD τ sig) → Buf (Elt Ideal) ℓ) (ρ : Dev nD → PrngReg)

/-- The pipeline at the call's table. -/
abbrev cf : Pipeline.Cfg sig Λ₀ := cfgM m (okI m)

theorem hN : (cf m).N = 12 := rfl

/-- The grid's coordinates at point `t`: rows' block `t`. -/
theorem co : ∀ t : Fin grid0.N, ((grid0.coords t) 0).val = 0 ∧ ((grid0.coords t) 1).val = t.val := by decide +kernel

/-- The block indices at grid point `t`, and the places of the blocks' elements. -/
theorem idx0 (t : Fin (cf m).N) : ((cf m).win 0).index t (0 : Fin 2) = t.val ∧ ((cf m).win 0).index t (1 : Fin 2) = 3 := by
  have e : ((cf m).win 0).index t = (![((grid0.coords t) 1).val, 3] : Fin 2 → Nat) := tr0 m (grid0.coords t)
  rw [e]
  exact ⟨(co t).2, rfl⟩

theorem idx1 (t : Fin (cf m).N) : ((cf m).win 1).index t (0 : Fin 3) = 3 ∧ ((cf m).win 1).index t (1 : Fin 3) = 0 ∧ ((cf m).win 1).index t (2 : Fin 3) = 0 := by
  have e : ((cf m).win 1).index t = (![3, 0, ((grid0.coords t) 0).val] : Fin 3 → Nat) := tr1 m (grid0.coords t)
  rw [e]
  exact ⟨rfl, rfl, (co t).1⟩

theorem idx2 (t : Fin (cf m).N) : ((cf m).win 2).index t (0 : Fin 2) = t.val ∧ ((cf m).win 2).index t (1 : Fin 2) = 0 :=
  (by decide +kernel : ∀ t : Fin grid0.N, cc0_transform_2 (grid0.coords t) (0 : Fin 2) = t.val ∧ cc0_transform_2 (grid0.coords t) (1 : Fin 2) = 0) t

theorem idx5 (t : Fin (cf m).N) : ((cf m).win 5).index t (0 : Fin 2) = t.val ∧ ((cf m).win 5).index t (1 : Fin 2) = 0 :=
  (by decide +kernel : ∀ t : Fin grid0.N, cc0_transform_5 (grid0.coords t) (0 : Fin 2) = t.val ∧ cc0_transform_5 (grid0.coords t) (1 : Fin 2) = 0) t

theorem idx6 (t : Fin (cf m).N) : ((cf m).win 6).index t (0 : Fin 2) = t.val ∧ ((cf m).win 6).index t (1 : Fin 2) = 0 :=
  (by decide +kernel : ∀ t : Fin grid0.N, cc0_transform_6 (grid0.coords t) (0 : Fin 2) = t.val ∧ cc0_transform_6 (grid0.coords t) (1 : Fin 2) = 0) t

theorem idx4 (t : Fin (cf m).N) : ((cf m).win 4).index t (0 : Fin 2) = 0 ∧ ((cf m).win 4).index t (1 : Fin 2) = 0 :=
  (by decide +kernel : ∀ t : Fin grid0.N, cc0_transform_4 (grid0.coords t) (0 : Fin 2) = 0 ∧ cc0_transform_4 (grid0.coords t) (1 : Fin 2) = 0) t

theorem emb0 (t : Fin (cf m).N) (r : Fin 352) (k : Fin 1408) : (((cf m).win 0).blk t).view.emb (ix2 r k)
    = ix2 ⟨t.val * 352 + r.val, by have := r.isLt; have := t.isLt; have := hN m; omega⟩ ⟨4224 + k.val, by have := k.isLt; omega⟩ := by
  obtain ⟨e0, e1⟩ := idx0 m t
  funext a; apply Fin.ext
  match a with
  | ⟨0, _⟩ => show ((cf m).win 0).index t (0 : Fin 2) * 352 + 1 * r.val = t.val * 352 + r.val; omega
  | ⟨1, _⟩ => show ((cf m).win 0).index t (1 : Fin 2) * 1408 + 1 * k.val = 4224 + k.val; omega

theorem emb1 (t : Fin (cf m).N) (k : Fin 1408) (l : Fin 2048) : (((cf m).win 1).blk t).view.emb (ix3 0 k l)
    = ix3 3 k l := by
  obtain ⟨e0, e1, e2⟩ := idx1 m t
  funext a; apply Fin.ext
  match a with
  | ⟨0, _⟩ => show ((cf m).win 1).index t (0 : Fin 3) * 1 + 1 * 0 = 3; omega
  | ⟨1, _⟩ => show ((cf m).win 1).index t (1 : Fin 3) * 1408 + 1 * k.val = k.val; omega
  | ⟨2, _⟩ => show ((cf m).win 1).index t (2 : Fin 3) * 2048 + 1 * l.val = l.val; omega

theorem emb2 (t : Fin (cf m).N) (r : Fin 352) (l : Fin 2048) : (((cf m).win 2).blk t).view.emb (ix2 r l)
    = ix2 ⟨t.val * 352 + r.val, by have := r.isLt; have := t.isLt; have := hN m; omega⟩ l := by
  obtain ⟨e0, e1⟩ := idx2 m t
  funext a; apply Fin.ext
  match a with
  | ⟨0, _⟩ => show ((cf m).win 2).index t (0 : Fin 2) * 352 + 1 * r.val = t.val * 352 + r.val; omega
  | ⟨1, _⟩ => show ((cf m).win 2).index t (1 : Fin 2) * 2048 + 1 * l.val = l.val; omega

theorem emb5 (t : Fin (cf m).N) (r : Fin 352) (l : Fin 2048) : (((cf m).win 5).blk t).view.emb (ix2 r l)
    = ix2 ⟨t.val * 352 + r.val, by have := r.isLt; have := t.isLt; have := hN m; omega⟩ l := by
  obtain ⟨e0, e1⟩ := idx5 m t
  funext a; apply Fin.ext
  match a with
  | ⟨0, _⟩ => show ((cf m).win 5).index t (0 : Fin 2) * 352 + 1 * r.val = t.val * 352 + r.val; omega
  | ⟨1, _⟩ => show ((cf m).win 5).index t (1 : Fin 2) * 2048 + 1 * l.val = l.val; omega

theorem emb6 (t : Fin (cf m).N) (r : Fin 352) (l : Fin 2048) : (((cf m).win 6).blk t).view.emb (ix2 r l)
    = ix2 ⟨t.val * 352 + r.val, by have := r.isLt; have := t.isLt; have := hN m; omega⟩ l := by
  obtain ⟨e0, e1⟩ := idx6 m t
  funext a; apply Fin.ext
  match a with
  | ⟨0, _⟩ => show ((cf m).win 6).index t (0 : Fin 2) * 352 + 1 * r.val = t.val * 352 + r.val; omega
  | ⟨1, _⟩ => show ((cf m).win 6).index t (1 : Fin 2) * 2048 + 1 * l.val = l.val; omega

theorem emb4 (t : Fin (cf m).N) (l : Fin 2048) : (((cf m).win 4).blk t).view.emb (ix2 0 l) = ix2 0 l := by
  obtain ⟨e0, e1⟩ := idx4 m t
  funext a; apply Fin.ext
  match a with
  | ⟨0, _⟩ => show ((cf m).win 4).index t (0 : Fin 2) * 1 + 1 * 0 = 0; omega
  | ⟨1, _⟩ => show ((cf m).win 4).index t (1 : Fin 2) * 2048 + 1 * l.val = l.val; omega

/-- A point's sum, in the arrays. -/
theorem res_apply (c : Dev nD) (t : Fin (cf m).N) (r : Fin 352) (l : Fin 2048) :
    res (iblk m (okI m) c 0 t) (iblk m (okI m) c 1 t) (iblk m (okI m) c 2 t) r l
      = H (V m c main_arg0) (V m c main_arg1) (V m c main_arg2) ⟨t.val * 352 + r.val, by have := r.isLt; have := t.isLt; have := hN m; omega⟩ l := by
  unfold H res
  refine congrArg₂ (fun a b : EReal => a + half * b) ?_ (Finset.sum_congr rfl fun k _ => congrArg₂ (fun a b : EReal => a * b) ?_ ?_)
  · show V m c main_arg2 ((((cf m).win 2).blk t).view.emb (ix2 r l)) = _
    rw [emb2]
  · show V m c main_arg0 ((((cf m).win 0).blk t).view.emb (ix2 r k)) = _
    rw [emb0]
  · show V m c main_arg1 ((((cf m).win 1).blk t).view.emb (ix3 0 k l)) = _
    rw [emb1]

/-- What a point writes back is its block of the whole result. -/
theorem flushed5_eq (c : Dev nD) (t : Fin (cf m).N) :
    (dats m (okI m) 0 c).flushed 5 t = (((cf m).win 5).blk t).view.read (Elt Ideal) (G5 (V m c main_arg0) (V m c main_arg1) (V m c main_arg2)) := by
  show ((cf m).win 5).cut (grid0.coords t) ((dats m (okI m) 0 c).after 5 t) = _
  rw [after0_5]
  unfold outsAt0
  dsimp only
  have e := out5_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (hcond0_0 t) (hcond0_1 t) (hcond0_2 t) (iblk m (okI m) c 0 t) (iblk m (okI m) c 1 t) (iblk m (okI m) c 2 t) (iblk m (okI m) c 3 t) (iblk m (okI m) c 4 t) (tbl m 0)
  refine (congrArg (((cf m).win 5).cut (grid0.coords t)) e).trans ?_
  refine funext fun (j : S352x2048.Idx) => ?_
  show (resB (iblk m (okI m) c 0 t) (iblk m (okI m) c 1 t) (iblk m (okI m) c 2 t)) j = (G5 (V m c main_arg0) (V m c main_arg1) (V m c main_arg2)) ((((cf m).win 5).blk t).view.emb j)
  idx_vars j
  rw [emb5]
  exact res_apply m c t j0 j1

/-- What a point writes back is its block of the whole result. -/
theorem flushed6_eq (c : Dev nD) (t : Fin (cf m).N) :
    (dats m (okI m) 0 c).flushed 6 t = (((cf m).win 6).blk t).view.read (Elt Ideal) (G6 (V m c main_arg0) (V m c main_arg1) (V m c main_arg2) (V m c main_arg4)) := by
  show ((cf m).win 6).cut (grid0.coords t) ((dats m (okI m) 0 c).after 6 t) = _
  rw [after0_6]
  unfold outsAt0
  dsimp only
  have e := out6_eq c (grid0.coords t) (ms0_0 m (okI m) t) (hs0_0 m (okI m) t) (ms0_1 m (okI m) t) (hs0_1 m (okI m) t) (ms0_2 m (okI m) t) (hs0_2 m (okI m) t) (ms0_3 m (okI m) t) (hs0_3 m (okI m) t) (ms0_4 m (okI m) t) (hs0_4 m (okI m) t) (ms0_5 m (okI m) t) (hs0_5 m (okI m) t) (ms0_6 m (okI m) t) (hs0_6 m (okI m) t) (hcond0_0 t) (hcond0_1 t) (hcond0_2 t) (iblk m (okI m) c 0 t) (iblk m (okI m) c 1 t) (iblk m (okI m) c 2 t) (iblk m (okI m) c 3 t) (iblk m (okI m) c 4 t) (tbl m 0)
  refine (congrArg (((cf m).win 6).cut (grid0.coords t)) e).trans ?_
  refine funext fun (j : S352x2048.Idx) => ?_
  show (nrmB (iblk m (okI m) c 0 t) (iblk m (okI m) c 1 t) (iblk m (okI m) c 2 t) (iblk m (okI m) c 4 t)) j = (G6 (V m c main_arg0) (V m c main_arg1) (V m c main_arg2) (V m c main_arg4)) ((((cf m).win 6).blk t).view.emb j)
  idx_vars j
  rw [emb6]
  show nrm (res (iblk m (okI m) c 0 t) (iblk m (okI m) c 1 t) (iblk m (okI m) c 2 t) j0) (res (iblk m (okI m) c 0 t) (iblk m (okI m) c 1 t) (iblk m (okI m) c 2 t) j0 j1) (iblk m (okI m) c 4 t (ix2 0 j1)) = nrm (H (V m c main_arg0) (V m c main_arg1) (V m c main_arg2) _) (H (V m c main_arg0) (V m c main_arg1) (V m c main_arg2) _ j1) (V m c main_arg4 (ix2 0 j1))
  rw [res_apply m c t j0 j1, show res (iblk m (okI m) c 0 t) (iblk m (okI m) c 1 t) (iblk m (okI m) c 2 t) j0 = _ from funext fun l => res_apply m c t j0 l]
  refine congrArg (nrm _ _) ?_
  show V m c main_arg4 ((((cf m).win 4).blk t).view.emb (ix2 0 j1)) = _
  rw [emb4]

/-- Every element of the result is in some point's block. -/
theorem covered5 (i : S4224x2048.Idx) :
    ∃ t : Fin (cf m).N, ((cf m).win 5).flush t = true ∧ i ∈ (((cf m).win 5).blk t).view.set := by
  idx_vars i
  have hi0 := i0.isLt; have hi1 := i1.isLt
  have hN : i0.val / 352 < (cf m).N := by show _ < 12; omega
  refine ⟨⟨_, hN⟩, flush0_5 _ _, ?_⟩
  have h := (((cf m).win 5).blk ⟨_, hN⟩).view.emb_mem_set (ix2 ⟨i0.val % 352, by omega⟩ i1)
  have e : (((cf m).win 5).blk ⟨_, hN⟩).view.emb (ix2 ⟨i0.val % 352, by omega⟩ i1) = ix2 i0 i1 := by
    rw [emb5]
    funext a; apply Fin.ext
    match a with
    | ⟨0, _⟩ => show i0.val / 352 * 352 + i0.val % 352 = i0.val; omega
    | ⟨1, _⟩ => rfl
  rw [e] at h
  exact h

/-- Every element of the result is in some point's block. -/
theorem covered6 (i : S4224x2048.Idx) :
    ∃ t : Fin (cf m).N, ((cf m).win 6).flush t = true ∧ i ∈ (((cf m).win 6).blk t).view.set := by
  idx_vars i
  have hi0 := i0.isLt; have hi1 := i1.isLt
  have hN : i0.val / 352 < (cf m).N := by show _ < 12; omega
  refine ⟨⟨_, hN⟩, flush0_6 _ _, ?_⟩
  have h := (((cf m).win 6).blk ⟨_, hN⟩).view.emb_mem_set (ix2 ⟨i0.val % 352, by omega⟩ i1)
  have e : (((cf m).win 6).blk ⟨_, hN⟩).view.emb (ix2 ⟨i0.val % 352, by omega⟩ i1) = ix2 i0 i1 := by
    rw [emb6]
    funext a; apply Fin.ext
    match a with
    | ⟨0, _⟩ => show i0.val / 352 * 352 + i0.val % 352 = i0.val; omega
    | ⟨1, _⟩ => rfl
  rw [e] at h
  exact h

/-- The result array after the run. -/
theorem final5 (c : Dev nD) : (dats m (okI m) 0 c).arrAt 5 (cf m).N = G5 (m ((c : Thread nD τ).loc main_arg0)) (m ((c : Thread nD τ).loc main_arg1)) (m ((c : Thread nD τ).loc main_arg2)) :=
  ((dats m (okI m) 0 c).arrAt_eq_of_cover 5 (G5 (V m c main_arg0) (V m c main_arg1) (V m c main_arg2)) (fun t _ => flushed5_eq m c t) (covered5 m)).trans
    (by rw [V_main_arg0, V_main_arg1, V_main_arg2])

/-- The result array after the run. -/
theorem final6 (c : Dev nD) : (dats m (okI m) 0 c).arrAt 6 (cf m).N = G6 (m ((c : Thread nD τ).loc main_arg0)) (m ((c : Thread nD τ).loc main_arg1)) (m ((c : Thread nD τ).loc main_arg2)) (m ((c : Thread nD τ).loc main_arg4)) :=
  ((dats m (okI m) 0 c).arrAt_eq_of_cover 6 (G6 (V m c main_arg0) (V m c main_arg1) (V m c main_arg2) (V m c main_arg4)) (fun t _ => flushed6_eq m c t) (covered6 m)).trans
    (by rw [V_main_arg0, V_main_arg1, V_main_arg2, V_main_arg4])

/-- The run: the results, the arguments unchanged. -/
theorem run_blocks : θ_run defs (onTc (τ := τ) (main (F := Ideal))) ⟨m, fun _ => 0, ρ⟩ fun r => ∀ c : Dev nD,
      r.2.mem ((c.tc : Thread nD τ).loc main_v2_0) = G5 (m ((c : Thread nD τ).loc main_arg0)) (m ((c : Thread nD τ).loc main_arg1)) (m ((c : Thread nD τ).loc main_arg2))
      ∧ r.2.mem ((c.tc : Thread nD τ).loc main_v2_1) = G6 (m ((c : Thread nD τ).loc main_arg0)) (m ((c : Thread nD τ).loc main_arg1)) (m ((c : Thread nD τ).loc main_arg2)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans (final5 m c), ((h.1 c).1 6).trans (final6 m c), h.2 c⟩)
    (θ_run_and (run_main m ρ (okI m)) (unchanged m ρ (okI m)))

/-- The kernel and the reference end with equal results. -/
theorem algebraic : Cert.algebraic_Kernel25Ideal_Reference25Ideal := fun m g m' g' _ hm =>
  ⟨fun c => G5 (m ((c : Thread nD τ).loc main_arg0)) (m ((c : Thread nD τ).loc main_arg1)) (m ((c : Thread nD τ).loc main_arg2)), fun c => G6 (m ((c : Thread nD τ).loc main_arg0)) (m ((c : Thread nD τ).loc main_arg1)) (m ((c : Thread nD τ).loc main_arg2)) (m ((c : Thread nD τ).loc main_arg4)), run_blocks m g,
    (θ_run Cert.Reference25Ideal.defs _ _).mono (fun r h c => by
      have t0 := (h c).1.trans ((ref5 _ _ _).trans (by rw [(hm c).1, (hm c).2.1, (hm c).2.2.1] : _ = G5 (m ((c : Thread nD τ).loc main_arg0)) (m ((c : Thread nD τ).loc main_arg1)) (m ((c : Thread nD τ).loc main_arg2))))
      have t1 := (h c).2.1.trans ((ref6 _ _ _ _).trans (by rw [(hm c).1, (hm c).2.1, (hm c).2.2.1, (hm c).2.2.2.2] : _ = G6 (m ((c : Thread nD τ).loc main_arg0)) (m ((c : Thread nD τ).loc main_arg1)) (m ((c : Thread nD τ).loc main_arg2)) (m ((c : Thread nD τ).loc main_arg4))))
      exact ⟨t0, t1, (h c).2.2⟩) (Cert.Reference25Ideal.Value.run m' g')⟩

/-- The reference runs, its arguments unchanged, its counters at zero. -/
theorem frameR : Cert.quiescent_Reference25Ideal := fun m g _ =>
  (θ_run Cert.Reference25Ideal.defs _ _).mono (fun r h => ⟨fun c => (h c).2.2,
      Idealize.ShloMosaic.sem_eq_zero_of_no_sems (by decide) r.2⟩)
    (Cert.Reference25Ideal.Value.run (F := Ideal) m g)

end Cert.Proof.DownFar

end
-- ==== Proof.WgradFfn.lean ====
/- THE WEIGHT GRADIENT OF A GATE OR UP PRODUCT, block by block: each grid point takes one quarter of the columns of the
   layer's input and one quarter of the columns of the product's gradient, and writes their product over all 4224 rows.
   Here: what a point writes at an index (`out_eq`, `part_apply`), the places of its blocks in the arrays (`emb0` to
   `emb2`), and so the whole result as the reference's transposed product (`final2`, `run`). -/
module

public import proofs.«01_k».proof.Defs
public import proofs.«01_k».proof.Proof.Gen.Kernel3Ideal.Value
public import proofs.«01_k».proof.Proof.Gen.Reference3Ideal.Run
public import Idealize.ShloMosaic.Lib.Pointwise

@[expose] public section

noncomputable section

namespace Cert.Proof.WgradFfn

open Cert.Kernel3Ideal Cert.Kernel3Ideal.Gen Cert.Kernel3Ideal.Value Idealize.ShloMosaic Idealize.ShloMosaic.TcCoe Idealize.SL.Sem

theorem hz2 : (![0, 0] : Fin 2 → Nat) = fun _ => 0 := funext fun a => by fin_cases a <;> rfl
theorem hz4 : (![0, 0, 0, 0] : Fin 4 → Nat) = fun _ => 0 := funext fun a => by fin_cases a <;> rfl

/-- What a point leaves in the output's staging buffer: the product of its two blocks, in the output block's shape. -/
theorem out_eq (c : Dev nD) (i : grid0.Coords) (arg3 : Memref sig .tc .vmem S4224x512 .bf16) (h3 : arg3.IsWhole)
    (arg4 : Memref sig .tc .vmem S4224x1408 .bf16) (h4 : arg4.IsWhole)
    (arg5 : Memref sig .tc .vmem S1x1x512x1408 .f32) (h5 : arg5.IsWhole) (hc0 : cond0_0 i) (hc1 : ¬cond0_1 i)
    (x0 : Vec Ideal S4224x512 .bf16) (x1 : Vec Ideal S4224x1408 .bf16) :
    out0_A_2 c i arg3 h3 arg4 h4 arg5 h5 hc0 hc1 x0 x1 = k0_pay2 x0 x1 := by
  unfold out0_A_2
  rw [View.read_writes_eq_canon _ _ _ (cover0_A_2 c i arg3 h3 arg4 h4 arg5 h5 hc0 hc1 x0 x1)]
  unfold kernelRun0_A
  dsimp only
  sl_unfold_words
  rw [View.canon_unit_zero hz4]
  simp only [View.readAt_eq_ld, h3.read_unread, h4.read_unread, View.ld_unit_zero (S := S4224x512) hz2,
    View.ld_unit_zero (S := S4224x1408) hz2]

/-- A result element of a point: the sum over the rows of the products of a column of each block. -/
theorem part_apply (x0 : Vec Ideal S4224x512 .bf16) (x1 : Vec Ideal S4224x1408 .bf16) (j : S1x1x512x1408.Idx) :
    k0_pay2 x0 x1 j = ∑ k : Fin 4224, (x0 (ix2 k (j 2)) * x1 (ix2 k (j 3)) : EReal) := by
  pointwise [k0_pay2, k0_pay1]

/-- The whole result: the transposed product of the layer's input and the product's gradient, its rows cut in two
    halves and its columns in four quarters. -/
def G (n : FVec Ideal S4224x2048 .bf16) (d : FVec Ideal S4224x5632 .bf16) : FVec Ideal S4x2x1024x1408 .f32 := fun i =>
  ∑ k : Fin 4224, (n (ix2 k ⟨(i 1).val * 1024 + (i 2).val, by have := (i 1).isLt; have := (i 2).isLt; simp at *; omega⟩)
    * d (ix2 k ⟨(i 0).val * 1408 + (i 3).val, by have := (i 0).isLt; have := (i 3).isLt; simp at *; omega⟩) : EReal)

theorem ref_eq (n : FVec Ideal S4224x2048 .bf16) (d : FVec Ideal S4224x5632 .bf16) :
    transpose Cert.Reference3Ideal.S4x2x1024x1408 [2, 0, 1, 3] (shapeCast _ (transpose Cert.Reference3Ideal.S2048x5632 [1, 0]
      (Host.dotGeneral Cert.Reference3Ideal.dot_S4224x5632_S4224x2048_S5632x2048_0_0_1_1_n_n none (extf .f32 d Cert.Reference3Ideal.Gen.facts.bitsLt_bf16_f32) (extf .f32 n Cert.Reference3Ideal.Gen.facts.bitsLt_bf16_f32))
      Cert.Reference3Ideal.Gen.facts.transposes_S5632x2048_S2048x5632_1_0) Cert.Reference3Ideal.Gen.facts.shapeCasts_S2048x5632_S2x1024x4x1408)
      Cert.Reference3Ideal.Gen.facts.transposes_S2x1024x4x1408_S4x2x1024x1408_2_0_1_3 = G n d := by
  funext i
  unfold G
  idx_vars i
  pointwise []
  exact Finset.sum_congr rfl fun k _ => mul_comm _ _

variable (m : (ℓ : Loc nD τ sig) → Buf (Elt Ideal) ℓ) (ρ : Dev nD → PrngReg)

/-- The block indices at grid point `t`: quarter `t % 4` of the input's columns, quarter `t / 4` of the gradient's. -/
theorem idx0 : ∀ t : Fin cfg0.N, win0_0.index t (0 : Fin 2) = 0 ∧ win0_0.index t (1 : Fin 2) = t.val % 4 :=
  (by decide +kernel : ∀ t : Fin grid0.N, _)
theorem idx1 : ∀ t : Fin cfg0.N, win0_1.index t (0 : Fin 2) = 0 ∧ win0_1.index t (1 : Fin 2) = t.val / 4 :=
  (by decide +kernel : ∀ t : Fin grid0.N, _)
theorem idx2 : ∀ t : Fin cfg0.N, win0_2.index t (0 : Fin 4) = t.val / 4 ∧ win0_2.index t (1 : Fin 4) = t.val % 4 / 2
    ∧ win0_2.index t (2 : Fin 4) = t.val % 2 ∧ win0_2.index t (3 : Fin 4) = 0 :=
  (by decide +kernel : ∀ t : Fin grid0.N, _)

/-- The place of an element of a block in its array. -/
theorem emb0 (t : Fin cfg0.N) (k : Fin 4224) (r : Fin 512) : ((cfg0.win 0).blk t).view.emb (ix2 k r)
    = ix2 k ⟨t.val % 4 * 512 + r.val, by have := r.isLt; omega⟩ := by
  obtain ⟨e0, e1⟩ := idx0 t
  funext a; apply Fin.ext
  match a with
  | ⟨0, _⟩ => show win0_0.index t (0 : Fin 2) * 4224 + 1 * k.val = k.val; omega
  | ⟨1, _⟩ => show win0_0.index t (1 : Fin 2) * 512 + 1 * r.val = t.val % 4 * 512 + r.val; omega

theorem emb1 (t : Fin cfg0.N) (k : Fin 4224) (l : Fin 1408) : ((cfg0.win 1).blk t).view.emb (ix2 k l)
    = ix2 k ⟨t.val / 4 * 1408 + l.val, by have := l.isLt; have := t.isLt; have : cfg0.N = 16 := rfl; omega⟩ := by
  obtain ⟨e0, e1⟩ := idx1 t
  funext a; apply Fin.ext
  match a with
  | ⟨0, _⟩ => show win0_1.index t (0 : Fin 2) * 4224 + 1 * k.val = k.val; omega
  | ⟨1, _⟩ => show win0_1.index t (1 : Fin 2) * 1408 + 1 * l.val = t.val / 4 * 1408 + l.val; omega

theorem emb2 (t : Fin cfg0.N) (r : Fin 512) (l : Fin 1408) : ((cfg0.win 2).blk t).view.emb (ix4 0 0 r l)
    = ix4 ⟨t.val / 4, by have := t.isLt; have : cfg0.N = 16 := rfl; omega⟩ ⟨t.val % 4 / 2, by omega⟩
        ⟨t.val % 2 * 512 + r.val, by have := r.isLt; omega⟩ l := by
  obtain ⟨e0, e1, e2, e3⟩ := idx2 t
  funext a; apply Fin.ext
  match a with
  | ⟨0, _⟩ => show win0_2.index t (0 : Fin 4) * 1 + 1 * 0 = t.val / 4; omega
  | ⟨1, _⟩ => show win0_2.index t (1 : Fin 4) * 1 + 1 * 0 = t.val % 4 / 2; omega
  | ⟨2, _⟩ => show win0_2.index t (2 : Fin 4) * 512 + 1 * r.val = t.val % 2 * 512 + r.val; omega
  | ⟨3, _⟩ => show win0_2.index t (3 : Fin 4) * 1408 + 1 * l.val = l.val; omega

/-- What a point writes back is its block of the whole result. -/
theorem flushed2_eq (c : Dev nD) (t : Fin cfg0.N) :
    (dats m 0 c).flushed 2 t = ((cfg0.win 2).blk t).view.read (Elt Ideal) (G (V m c main_arg0) (V m c main_arg1)) := by
  rw [flushed2_A, out_eq]
  funext j
  show k0_pay2 (iblk m c 0 t) (iblk m c 1 t) j = G (V m c main_arg0) (V m c main_arg1) (((cfg0.win 2).blk t).view.emb j)
  rw [part_apply]
  idx_vars j
  fin_cases j0; fin_cases j1
  rw [show (((cfg0.win 2).blk t).view.emb (ix4 (⟨0, by decide⟩ : Fin 1) (⟨0, by decide⟩ : Fin 1) j2 j3)) = _ from emb2 t j2 j3]
  unfold G
  refine Finset.sum_congr rfl fun k _ => ?_
  have e : t.val % 4 / 2 * 1024 + (t.val % 2 * 512 + j2.val) = t.val % 4 * 512 + j2.val := by omega
  refine congrArg₂ (fun a b : EReal => a * b) ?_ ?_
  · show V m c main_arg0 (((cfg0.win 0).blk t).view.emb (ix2 k j2)) = _
    rw [emb0]
    exact congrArg (V m c main_arg0) (congrArg (ix2 k) (Fin.ext e.symm))
  · show V m c main_arg1 (((cfg0.win 1).blk t).view.emb (ix2 k j3)) = _
    rw [emb1]
    rfl

/-- Every element of the result is in some point's block. -/
theorem covered2 (i : S4x2x1024x1408.Idx) :
    ∃ t : Fin cfg0.N, (cfg0.win 2).flush t = true ∧ i ∈ ((cfg0.win 2).blk t).view.set := by
  idx_vars i
  have hi0 := i0.isLt; have hi1 := i1.isLt; have hi2 := i2.isLt
  have hN : i0.val * 4 + i1.val * 2 + i2.val / 512 < cfg0.N := by show _ < 16; omega
  refine ⟨⟨_, hN⟩, flush0_2 _, ?_⟩
  have h := ((cfg0.win 2).blk ⟨_, hN⟩).view.emb_mem_set (ix4 0 0 ⟨i2.val % 512, by omega⟩ i3)
  have e : ((cfg0.win 2).blk ⟨_, hN⟩).view.emb (ix4 0 0 ⟨i2.val % 512, by omega⟩ i3) = ix4 i0 i1 i2 i3 := by
    rw [emb2]
    funext a; apply Fin.ext
    match a with
    | ⟨0, _⟩ => show (i0.val * 4 + i1.val * 2 + i2.val / 512) / 4 = i0.val; omega
    | ⟨1, _⟩ => show (i0.val * 4 + i1.val * 2 + i2.val / 512) % 4 / 2 = i1.val; omega
    | ⟨2, _⟩ => show (i0.val * 4 + i1.val * 2 + i2.val / 512) % 2 * 512 + i2.val % 512 = i2.val; omega
    | ⟨3, _⟩ => rfl
  rw [e] at h
  exact h

/-- The result array after the run. -/
theorem final2 (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed2_eq m c t) covered2).trans
    (by rw [V_main_arg0, V_main_arg1])

/-- The kernel and the reference end with equal results. -/
theorem algebraic : Cert.algebraic_Kernel3Ideal_Reference3Ideal := fun m g m' g' _ hm =>
  ⟨fun c => G (m ((c : Thread nD τ).loc main_arg0)) (m ((c : Thread nD τ).loc main_arg1)),
    (θ_run defs _ _).mono (fun r h c => ⟨(h c).1.trans (final2 m c), (h c).2⟩) (run_blocks m g),
    (θ_run Cert.Reference3Ideal.defs _ _).mono (fun r h c => ⟨(h c).1.trans
      ((ref_eq _ _).trans (by rw [(hm c).1, (hm c).2])), (h c).2⟩) (Cert.Reference3Ideal.Value.run m' g')⟩

/-- The reference runs, its arguments unchanged, its counters at zero. -/
theorem frameR : Cert.quiescent_Reference3Ideal := fun m g _ =>
  (θ_run Cert.Reference3Ideal.defs _ _).mono (fun r h => ⟨fun c => (h c).2,
      Idealize.ShloMosaic.sem_eq_zero_of_no_sems (by decide) r.2⟩)
    (Cert.Reference3Ideal.Value.run (F := Ideal) m g)

end Cert.Proof.WgradFfn

end
-- ==== Proof.PanelFfn.lean ====
/- THE INPUT GRADIENT OF A GATED MLP'S TWO UP PRODUCTS, block by block: the grid walks the output's blocks, and at each
   the four column panels of the gradients; a panel's part is added to what the panels before left.  A panel's part is
   three products: the first 1280 columns of each gradient against its weights, and the two remainders of 128 columns
   laid side by side.  Here: a point's part at an index (`part_apply`), what the four points of an output block leave
   together (`acc_eq`), the places of the blocks (`emb0` to `emb5`), and the whole result as the reference's sum of two
   products (`final5`, `algebraic`). -/
module

public import proofs.«01_k».proof.Defs
public import proofs.«01_k».proof.Proof.Gen.Kernel4Ideal.Value
public import proofs.«01_k».proof.Proof.Gen.Reference4Ideal.Run
public import Idealize.ShloMosaic.Lib.Pointwise

@[expose] public section

noncomputable section

namespace Cert.Proof.PanelFfn

open Cert.Kernel4Ideal Cert.Kernel4Ideal.Gen Cert.Kernel4Ideal.Value Idealize.ShloMosaic Idealize.ShloMosaic.TcCoe Idealize.SL.Sem

theorem hz2 : (![0, 0] : Fin 2 → Nat) = fun _ => 0 := funext fun a => by fin_cases a <;> rfl

/-- A point's part of its output block, from its four input blocks. -/
def part (x0 x1 : Vec Ideal S1408x1408 .bf16) (x2 x3 : Vec Ideal S1x1024x1408 .bf16) : FVec Ideal S1408x1024 .f32 := fun j =>
  (∑ k : Fin 1408, (x0 (ix2 (j 0) k) * x2 (ix3 0 (j 1) k) : EReal)) + ∑ k : Fin 1408, (x1 (ix2 (j 0) k) * x3 (ix3 0 (j 1) k) : EReal)

section Case

variable (c : Dev nD) (i : grid0.Coords) (arg3 : Memref sig .tc .vmem S1408x1408 .bf16) (h3 : arg3.IsWhole)
    (arg4 : Memref sig .tc .vmem S1408x1408 .bf16) (h4 : arg4.IsWhole)
    (arg5 : Memref sig .tc .vmem S1x1024x1408 .bf16) (h5 : arg5.IsWhole)
    (arg6 : Memref sig .tc .vmem S1x1024x1408 .bf16) (h6 : arg6.IsWhole)
    (arg7 : Memref sig .tc .vmem S8x128 .f32) (h7 : arg7.IsWhole)
    (arg8 : Memref sig .tc .vmem S1408x1024 .f32) (h8 : arg8.IsWhole)
    (x0 x1 : Vec Ideal S1408x1408 .bf16) (x2 x3 : Vec Ideal S1x1024x1408 .bf16) (x4 : Vec Ideal S8x128 .f32)
    (xo : Vec Ideal S1408x1024 .f32)

/-- The first of a block's four points leaves its part. -/
theorem first_eq (hc0 : cond0_0 i) (hc1 : ¬cond0_1 i) :
    out0_A_5 c i arg3 h3 arg4 h4 arg5 h5 arg6 h6 arg7 h7 arg8 h8 hc0 hc1 x0 x1 x2 x3 x4 = part x0 x1 x2 x3 := by
  unfold out0_A_5
  rw [View.read_writes_eq_canon _ _ _ (cover0_A_5 c i arg3 h3 arg4 h4 arg5 h5 arg6 h6 arg7 h7 arg8 h8 hc0 hc1 x0 x1 x2 x3 x4)]
  unfold kernelRun0_A
  dsimp only
  sl_unfold_words
  rw [View.canon_unit_zero hz2]
  simp only [View.readAt_eq_ld, h3.read_unread, h4.read_unread, h5.read_unread, h6.read_unread]
  funext j
  idx_vars j
  unfold part
  pointwise [k0_pay2, k0_pay1]
  rw [Fin.sum_univ_two_halves 1280 128 rfl fun k : Fin 1408 => (x0 (ix2 j0 k) * x2 (ix3 0 j1 k) : EReal),
    Fin.sum_univ_two_halves 1280 128 rfl fun k : Fin 1408 => (x1 (ix2 j0 k) * x3 (ix3 0 j1 k) : EReal)]
  exact add_add_add_comm (G := EReal) _ _ _ _

/-- Each later point adds its part to what the points before left. -/
theorem later_eq (hc0 : ¬cond0_0 i) (hc1 : cond0_1 i) :
    out0_B_5 c i arg3 h3 arg4 h4 arg5 h5 arg6 h6 arg7 h7 arg8 h8 hc0 hc1 x0 x1 x2 x3 x4 xo
      = fun j => (xo j + part x0 x1 x2 x3 j : EReal) := by
  unfold out0_B_5
  rw [View.read_writes_eq_canon _ _ _ (cover0_B_5 c i arg3 h3 arg4 h4 arg5 h5 arg6 h6 arg7 h7 arg8 h8 hc0 hc1 x0 x1 x2 x3 x4 xo)]
  unfold kernelRun0_B
  dsimp only
  sl_unfold_words
  rw [View.canon_unit_zero hz2]
  simp only [View.readAt_eq_ld, h3.read_unread, h4.read_unread, h5.read_unread, h6.read_unread, h8.read_unread,
    View.ld_unit_zero (S := S1408x1024) hz2]
  funext j
  idx_vars j
  unfold part
  pointwise [k0_pay3, k0_pay1]
  rw [Fin.sum_univ_two_halves 1280 128 rfl fun k : Fin 1408 => (x0 (ix2 j0 k) * x2 (ix3 0 j1 k) : EReal),
    Fin.sum_univ_two_halves 1280 128 rfl fun k : Fin 1408 => (x1 (ix2 j0 k) * x3 (ix3 0 j1 k) : EReal)]
  exact congrArg (fun y : EReal => (xo (ix2 j0 j1) : EReal) + y) (add_add_add_comm (G := EReal) _ _ _ _)

end Case

variable (m : (ℓ : Loc nD τ sig) → Buf (Elt Ideal) ℓ) (ρ : Dev nD → PrngReg)

/-- The part of grid point `t`. -/
def P (c : Dev nD) (t : Fin cfg0.N) : FVec Ideal S1408x1024 .f32 := part (iblk m c 0 t) (iblk m c 1 t) (iblk m c 2 t) (iblk m c 3 t)

theorem step_first (c : Dev nD) (t : Fin cfg0.N) (h0 : t.val % 4 = 0) : outsAt0 m c t.val t.isLt = P m c t :=
  (outsAt0_A m c t h0 (by omega)).trans (first_eq ..)

theorem step_later (c : Dev nD) (n : Nat) (hn : n + 1 < cfg0.N) (h0 : (n + 1) % 4 ≠ 0) :
    outsAt0 m c (n + 1) hn = fun j => (outsAt0 m c n (by omega) j + P m c ⟨n + 1, hn⟩ j : EReal) :=
  (outsAt0_B m c ⟨n + 1, hn⟩ h0 (by show 1 ≤ (n + 1) % 4; omega)).trans (later_eq ..)

/-- After the four points of an output block: the four parts. -/
theorem acc_eq (c : Dev nD) (n : Nat) (hn : n + 3 < cfg0.N) (h0 : n % 4 = 0) (j : S1408x1024.Idx) :
    outsAt0 m c (n + 3) hn j = ∑ J : Fin 4, (P m c ⟨n + J.val, by have := J.isLt; omega⟩ j : EReal) := by
  rw [step_later m c (n + 2) hn (by omega), step_later m c (n + 1) (by omega) (by omega), step_later m c n (by omega) (by omega),
    step_first m c ⟨n, by omega⟩ h0, Fin.sum_univ_four]
  rfl

/-- Column panel `J`'s part of a product's element. -/
def panel (d : FVec Ideal S4224x5632 .bf16) (w : FVec Ideal S4x2048x1408 .bf16) (R : Fin 4224) (L : Fin 2048) (J : Fin 4) : EReal :=
  ∑ k : Fin 1408, (d (ix2 R ⟨J.val * 1408 + k.val, by have := J.isLt; have := k.isLt; omega⟩) * w (ix3 J L k) : EReal)

/-- The whole result: the sum of the two products over all 5632 columns. -/
def G (dg du : FVec Ideal S4224x5632 .bf16) (wg wu : FVec Ideal S4x2048x1408 .bf16) : FVec Ideal S4224x2048 .f32 := fun i =>
  (∑ J : Fin 4, panel dg wg (i 0) (i 1) J) + ∑ J : Fin 4, panel du wu (i 0) (i 1) J

theorem half_eq (d : FVec Ideal S4224x5632 .bf16) (w : FVec Ideal S4x2048x1408 .bf16) (R : Fin 4224) (l : Fin 2048) :
    (Host.dotGeneral Cert.Reference4Ideal.dot_S4224x5632_S2048x5632_S4224x2048_1_1_0_0_n_n none
      (extf .f32 d Cert.Reference4Ideal.Gen.facts.bitsLt_bf16_f32)
      (shapeCast Cert.Reference4Ideal.S2048x5632 (transpose Cert.Reference4Ideal.S2048x4x1408 [1, 0, 2] (extf .f32 w Cert.Reference4Ideal.Gen.facts.bitsLt_bf16_f32)
        Cert.Reference4Ideal.Gen.facts.transposes_S4x2048x1408_S2048x4x1408_1_0_2) Cert.Reference4Ideal.Gen.facts.shapeCasts_S2048x4x1408_S2048x5632) : FVec Ideal S4224x2048 .f32) (ix2 R l)
    = ∑ J : Fin 4, panel d w R l J := by
  unfold panel
  pointwise []
  rw [Fin.sum_univ_tiles 4 1408 rfl]
  refine Finset.sum_congr rfl fun J _ => Finset.sum_congr rfl fun k _ => ?_
  have e1 : (J.val * 1408 + k.val) / 1408 = J.val := by have := k.isLt; omega
  have e2 : (J.val * 1408 + k.val) % 1408 = k.val := by have := k.isLt; omega
  exact congrArg (fun i => (d _ * w i : EReal)) (congrArg₂ (fun a b => ix3 a l b) (Fin.ext e1) (Fin.ext e2))

/-- The reference's result is `G`. -/
theorem ref_eq (dg du : FVec Ideal S4224x5632 .bf16) (wg wu : FVec Ideal S4x2048x1408 .bf16) :
    addf (Host.dotGeneral Cert.Reference4Ideal.dot_S4224x5632_S2048x5632_S4224x2048_1_1_0_0_n_n none
      (extf .f32 du Cert.Reference4Ideal.Gen.facts.bitsLt_bf16_f32)
      (shapeCast Cert.Reference4Ideal.S2048x5632 (transpose Cert.Reference4Ideal.S2048x4x1408 [1, 0, 2] (extf .f32 wu Cert.Reference4Ideal.Gen.facts.bitsLt_bf16_f32)
        Cert.Reference4Ideal.Gen.facts.transposes_S4x2048x1408_S2048x4x1408_1_0_2) Cert.Reference4Ideal.Gen.facts.shapeCasts_S2048x4x1408_S2048x5632))
      (Host.dotGeneral Cert.Reference4Ideal.dot_S4224x5632_S2048x5632_S4224x2048_1_1_0_0_n_n none
      (extf .f32 dg Cert.Reference4Ideal.Gen.facts.bitsLt_bf16_f32)
      (shapeCast Cert.Reference4Ideal.S2048x5632 (transpose Cert.Reference4Ideal.S2048x4x1408 [1, 0, 2] (extf .f32 wg Cert.Reference4Ideal.Gen.facts.bitsLt_bf16_f32)
        Cert.Reference4Ideal.Gen.facts.transposes_S4x2048x1408_S2048x4x1408_1_0_2) Cert.Reference4Ideal.Gen.facts.shapeCasts_S2048x4x1408_S2048x5632)) = G dg du wg wu := by
  funext i
  idx_vars i
  exact (congrArg₂ (fun a b : EReal => a + b) (half_eq du wu i0 i1) (half_eq dg wg i0 i1)).trans (add_comm (G := EReal) _ _)

/-- The block indices at grid point `t`. -/
theorem idx0 : ∀ t : Fin cfg0.N, win0_0.index t (0 : Fin 2) = t.val / 4 % 3 ∧ win0_0.index t (1 : Fin 2) = t.val % 4 :=
  (by decide +kernel : ∀ t : Fin grid0.N, _)
theorem idx1 : ∀ t : Fin cfg0.N, win0_1.index t (0 : Fin 2) = t.val / 4 % 3 ∧ win0_1.index t (1 : Fin 2) = t.val % 4 :=
  (by decide +kernel : ∀ t : Fin grid0.N, _)
theorem idx2 : ∀ t : Fin cfg0.N, win0_2.index t (0 : Fin 3) = t.val % 4 ∧ win0_2.index t (1 : Fin 3) = t.val / 12 ∧ win0_2.index t (2 : Fin 3) = 0 :=
  (by decide +kernel : ∀ t : Fin grid0.N, _)
theorem idx3 : ∀ t : Fin cfg0.N, win0_3.index t (0 : Fin 3) = t.val % 4 ∧ win0_3.index t (1 : Fin 3) = t.val / 12 ∧ win0_3.index t (2 : Fin 3) = 0 :=
  (by decide +kernel : ∀ t : Fin grid0.N, _)
theorem idx5 : ∀ t : Fin cfg0.N, win0_5.index t (0 : Fin 2) = t.val / 4 % 3 ∧ win0_5.index t (1 : Fin 2) = t.val / 12 :=
  (by decide +kernel : ∀ t : Fin grid0.N, _)

theorem hN : cfg0.N = 24 := rfl

/-- The place of an element of a block in its array. -/
theorem emb0 (t : Fin cfg0.N) (r k : Fin 1408) : ((cfg0.win 0).blk t).view.emb (ix2 r k)
    = ix2 ⟨t.val / 4 % 3 * 1408 + r.val, by have := r.isLt; omega⟩ ⟨t.val % 4 * 1408 + k.val, by have := k.isLt; omega⟩ := by
  obtain ⟨e0, e1⟩ := idx0 t
  funext a; apply Fin.ext
  match a with
  | ⟨0, _⟩ => show win0_0.index t (0 : Fin 2) * 1408 + 1 * r.val = t.val / 4 % 3 * 1408 + r.val; omega
  | ⟨1, _⟩ => show win0_0.index t (1 : Fin 2) * 1408 + 1 * k.val = t.val % 4 * 1408 + k.val; omega

theorem emb1 (t : Fin cfg0.N) (r k : Fin 1408) : ((cfg0.win 1).blk t).view.emb (ix2 r k)
    = ix2 ⟨t.val / 4 % 3 * 1408 + r.val, by have := r.isLt; omega⟩ ⟨t.val % 4 * 1408 + k.val, by have := k.isLt; omega⟩ := by
  obtain ⟨e0, e1⟩ := idx1 t
  funext a; apply Fin.ext
  match a with
  | ⟨0, _⟩ => show win0_1.index t (0 : Fin 2) * 1408 + 1 * r.val = t.val / 4 % 3 * 1408 + r.val; omega
  | ⟨1, _⟩ => show win0_1.index t (1 : Fin 2) * 1408 + 1 * k.val = t.val % 4 * 1408 + k.val; omega

theorem emb2 (t : Fin cfg0.N) (l : Fin 1024) (k : Fin 1408) : ((cfg0.win 2).blk t).view.emb (ix3 0 l k)
    = ix3 ⟨t.val % 4, by omega⟩ ⟨t.val / 12 * 1024 + l.val, by have := l.isLt; have := t.isLt; have := hN; omega⟩ k := by
  obtain ⟨e0, e1, e2⟩ := idx2 t
  funext a; apply Fin.ext
  match a with
  | ⟨0, _⟩ => show win0_2.index t (0 : Fin 3) * 1 + 1 * 0 = t.val % 4; omega
  | ⟨1, _⟩ => show win0_2.index t (1 : Fin 3) * 1024 + 1 * l.val = t.val / 12 * 1024 + l.val; omega
  | ⟨2, _⟩ => show win0_2.index t (2 : Fin 3) * 1408 + 1 * k.val = k.val; omega

theorem emb3 (t : Fin cfg0.N) (l : Fin 1024) (k : Fin 1408) : ((cfg0.win 3).blk t).view.emb (ix3 0 l k)
    = ix3 ⟨t.val % 4, by omega⟩ ⟨t.val / 12 * 1024 + l.val, by have := l.isLt; have := t.isLt; have := hN; omega⟩ k := by
  obtain ⟨e0, e1, e2⟩ := idx3 t
  funext a; apply Fin.ext
  match a with
  | ⟨0, _⟩ => show win0_3.index t (0 : Fin 3) * 1 + 1 * 0 = t.val % 4; omega
  | ⟨1, _⟩ => show win0_3.index t (1 : Fin 3) * 1024 + 1 * l.val = t.val / 12 * 1024 + l.val; omega
  | ⟨2, _⟩ => show win0_3.index t (2 : Fin 3) * 1408 + 1 * k.val = k.val; omega

theorem emb5 (t : Fin cfg0.N) (r : Fin 1408) (l : Fin 1024) : ((cfg0.win 5).blk t).view.emb (ix2 r l)
    = ix2 ⟨t.val / 4 % 3 * 1408 + r.val, by have := r.isLt; omega⟩ ⟨t.val / 12 * 1024 + l.val, by have := l.isLt; have := t.isLt; have := hN; omega⟩ := by
  obtain ⟨e0, e1⟩ := idx5 t
  funext a; apply Fin.ext
  match a with
  | ⟨0, _⟩ => show win0_5.index t (0 : Fin 2) * 1408 + 1 * r.val = t.val / 4 % 3 * 1408 + r.val; omega
  | ⟨1, _⟩ => show win0_5.index t (1 : Fin 2) * 1024 + 1 * l.val = t.val / 12 * 1024 + l.val; omega

/-- The part of the point that takes column panel `J`, in the arrays. -/
theorem P_apply (c : Dev nD) (t : Fin cfg0.N) (J : Fin 4) (hJ : t.val % 4 = J.val) (r : Fin 1408) (l : Fin 1024) (R : Fin 4224) (L : Fin 2048)
    (hR : R.val = t.val / 4 % 3 * 1408 + r.val) (hL : L.val = t.val / 12 * 1024 + l.val) :
    (P m c t (ix2 r l) : EReal)
      = panel (V m c main_arg0) (V m c main_arg2) R L J + panel (V m c main_arg1) (V m c main_arg3) R L J := by
  unfold panel
  unfold P part
  refine congrArg₂ (fun a b : EReal => a + b) (Finset.sum_congr rfl fun k _ => ?_) (Finset.sum_congr rfl fun k _ => ?_)
  · refine congrArg₂ (fun a b : EReal => a * b) ?_ ?_
    · show V m c main_arg0 (((cfg0.win 0).blk t).view.emb (ix2 r k)) = _
      rw [emb0]
      exact congrArg (V m c main_arg0) (congrArg₂ ix2 (Fin.ext hR.symm) (Fin.ext (by show t.val % 4 * 1408 + k.val = J.val * 1408 + k.val; rw [hJ])))
    · show V m c main_arg2 (((cfg0.win 2).blk t).view.emb (ix3 0 l k)) = _
      rw [emb2]
      exact congrArg (V m c main_arg2) (congrArg₂ (fun a b => ix3 a b k) (Fin.ext hJ) (Fin.ext hL.symm))
  · refine congrArg₂ (fun a b : EReal => a * b) ?_ ?_
    · show V m c main_arg1 (((cfg0.win 1).blk t).view.emb (ix2 r k)) = _
      rw [emb1]
      exact congrArg (V m c main_arg1) (congrArg₂ ix2 (Fin.ext hR.symm) (Fin.ext (by show t.val % 4 * 1408 + k.val = J.val * 1408 + k.val; rw [hJ])))
    · show V m c main_arg3 (((cfg0.win 3).blk t).view.emb (ix3 0 l k)) = _
      rw [emb3]
      exact congrArg (V m c main_arg3) (congrArg₂ (fun a b => ix3 a b k) (Fin.ext hJ) (Fin.ext hL.symm))

/-- What is written back is a block of the whole result. -/
theorem flushed5_eq (c : Dev nD) (t : Fin cfg0.N) (ht : (cfg0.win 5).flush t = true) :
    (dats m 0 c).flushed 5 t = ((cfg0.win 5).blk t).view.read (Elt Ideal) (G (V m c main_arg0) (V m c main_arg1) (V m c main_arg2) (V m c main_arg3)) := by
  have h3 := (flush0_5 t).1 ht
  rw [flushed5]
  funext j
  show outsAt0 m c t.val t.isLt j = G (V m c main_arg0) (V m c main_arg1) (V m c main_arg2) (V m c main_arg3) (((cfg0.win 5).blk t).view.emb j)
  obtain ⟨n, hn⟩ : ∃ n, t.val = n + 3 := ⟨t.val - 3, by omega⟩
  obtain ⟨tv, htv⟩ := t
  subst hn
  refine (acc_eq m c n htv (by show n % 4 = 0; simp only at h3; omega) j).trans ?_
  idx_vars j
  rw [emb5]
  unfold G
  rw [← Finset.sum_add_distrib]
  refine Finset.sum_congr rfl fun J _ => ?_
  simp only at h3
  have hJ := J.isLt
  exact P_apply m c ⟨n + J.val, by omega⟩ J (by show (n + J.val) % 4 = J.val; omega) j0 j1
    ⟨(n + 3) / 4 % 3 * 1408 + j0.val, by have := j0.isLt; omega⟩ ⟨(n + 3) / 12 * 1024 + j1.val, by have := j1.isLt; have := hN; omega⟩
    (by show (n + 3) / 4 % 3 * 1408 + j0.val = (n + J.val) / 4 % 3 * 1408 + j0.val; omega)
    (by show (n + 3) / 12 * 1024 + j1.val = (n + J.val) / 12 * 1024 + j1.val; omega)

/-- Every element of the result is in the block of some point that writes back. -/
theorem covered5 (i : S4224x2048.Idx) :
    ∃ t : Fin cfg0.N, (cfg0.win 5).flush t = true ∧ i ∈ ((cfg0.win 5).blk t).view.set := by
  idx_vars i
  have hi0 := i0.isLt; have hi1 := i1.isLt
  have hN : i1.val / 1024 * 12 + i0.val / 1408 * 4 + 3 < cfg0.N := by show _ < 24; omega
  refine ⟨⟨_, hN⟩, (flush0_5 _).2 (by show (i1.val / 1024 * 12 + i0.val / 1408 * 4 + 3) % 4 = 3; omega), ?_⟩
  have h := ((cfg0.win 5).blk ⟨_, hN⟩).view.emb_mem_set (ix2 ⟨i0.val % 1408, by omega⟩ ⟨i1.val % 1024, by omega⟩)
  have e : ((cfg0.win 5).blk ⟨_, hN⟩).view.emb (ix2 ⟨i0.val % 1408, by omega⟩ ⟨i1.val % 1024, by omega⟩) = ix2 i0 i1 := by
    rw [emb5]
    funext a; apply Fin.ext
    match a with
    | ⟨0, _⟩ => show (i1.val / 1024 * 12 + i0.val / 1408 * 4 + 3) / 4 % 3 * 1408 + i0.val % 1408 = i0.val; omega
    | ⟨1, _⟩ => show (i1.val / 1024 * 12 + i0.val / 1408 * 4 + 3) / 12 * 1024 + i1.val % 1024 = i1.val; omega
  rw [e] at h
  exact h

/-- The result array after the run. -/
theorem final5 (c : Dev nD) : (dats m 0 c).arrAt 5 cfg0.N
    = G (m ((c : Thread nD τ).loc main_arg0)) (m ((c : Thread nD τ).loc main_arg1)) (m ((c : Thread nD τ).loc main_arg2)) (m ((c : Thread nD τ).loc main_arg3)) :=
  ((dats m 0 c).arrAt_eq_of_cover 5 (G (V m c main_arg0) (V m c main_arg1) (V m c main_arg2) (V m c main_arg3)) (fun t ht => flushed5_eq m c t ht) covered5).trans
    (by rw [V_main_arg0, V_main_arg1, V_main_arg2, V_main_arg3])

/-- The kernel and the reference end with equal results. -/
theorem algebraic : Cert.algebraic_Kernel4Ideal_Reference4Ideal := fun m g m' g' _ hm =>
  ⟨fun c => G (m ((c : Thread nD τ).loc main_arg0)) (m ((c : Thread nD τ).loc main_arg1)) (m ((c : Thread nD τ).loc main_arg2)) (m ((c : Thread nD τ).loc main_arg3)),
    (θ_run defs _ _).mono (fun r h c => ⟨(h c).1.trans (final5 m c), (h c).2⟩) (run_blocks m g),
    (θ_run Cert.Reference4Ideal.defs _ _).mono (fun r h c => ⟨(h c).1.trans
      ((ref_eq _ _ _ _).trans (by rw [(hm c).1, (hm c).2.1, (hm c).2.2.1, (hm c).2.2.2.1])), (h c).2⟩) (Cert.Reference4Ideal.Value.run m' g')⟩

/-- The reference runs, its arguments unchanged, its counters at zero. -/
theorem frameR : Cert.quiescent_Reference4Ideal := fun m g _ =>
  (θ_run Cert.Reference4Ideal.defs _ _).mono (fun r h => ⟨fun c => (h c).2,
      Idealize.ShloMosaic.sem_eq_zero_of_no_sems (by decide) r.2⟩)
    (Cert.Reference4Ideal.Value.run (F := Ideal) m g)

end Cert.Proof.PanelFfn

end
-- ==== Proof.ActFfn.lean ====
/- THE GRADIENTS AT THE TWO INPUTS OF THE SWIGLU HIDDEN LAYER, block by block: a grid point multiplies a block of rows of
   the incoming gradient with a block of rows of the down projection, and multiplies the product by the derivatives of
   the gated unit.  It writes each result in eight tiles. -/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.ReduceAll

@[expose] public section

noncomputable section

namespace Cert.Proof.ActFfn

open Cert.Kernel5Ideal Cert.Kernel5Ideal.Gen Cert.Kernel5Ideal.Value Idealize.ShloMosaic Idealize.ShloMosaic.TcCoe Idealize.SL.Sem

/-- The logistic function. -/
def sg (x : EReal) : EReal := Ideal.logistic x

/-- A product's element, and the two gradients of the gated unit as the kernel computes them. -/
def dU (da g : EReal) : EReal := da * (g * sg g)
def dG (da g u : EReal) : EReal := da * u * (sg g * (1 + g * (1 - sg g)))

def dot (x0 : Vec Ideal S1408x2048 .bf16) (x1 : Vec Ideal S512x2048 .bf16) (r : Fin 1408) (k : Fin 512) : EReal :=
  ∑ d : Fin 2048, (x0 (ix2 r d) * x1 (ix2 k d) : EReal)

def gateB (x0 : Vec Ideal S1408x2048 .bf16) (x1 : Vec Ideal S512x2048 .bf16) (x2 x3 : Vec Ideal S1408x512 .bf16) : Vec Ideal S1408x512 .bf16 :=
  fun j => dG (dot x0 x1 (j 0) (j 1)) (x2 (ix2 (j 0) (j 1))) (x3 (ix2 (j 0) (j 1)))

def upB (x0 : Vec Ideal S1408x2048 .bf16) (x1 : Vec Ideal S512x2048 .bf16) (x2 : Vec Ideal S1408x512 .bf16) : Vec Ideal S1408x512 .bf16 :=
  fun j => dU (dot x0 x1 (j 0) (j 1)) (x2 (ix2 (j 0) (j 1)))

variable (x0 : Vec Ideal S1408x2048 .bf16) (x1 : Vec Ideal S512x2048 .bf16) (x2 x3 : Vec Ideal S1408x512 .bf16) (x4 : Vec Ideal S8x128 .f32)

/-- The place of a tile's element in the block. -/
theorem emb_tile (o p : Nat) (h : ∀ a, ![o, p] a + S352x256.size a ≤ S1408x512.size a) (a : Fin 352) (b : Fin 256) :
    (Rect.unit (s := S1408x512) ![o, p] S352x256.size h).emb (ix2 a b)
      = ix2 ⟨o + a.val, Nat.lt_of_lt_of_le (Nat.add_lt_add_left a.isLt o) (h 0)⟩ ⟨p + b.val, Nat.lt_of_lt_of_le (Nat.add_lt_add_left b.isLt p) (h 1)⟩ := by
  funext k; apply Fin.ext
  match k with
  | ⟨0, _⟩ => show o + 1 * a.val = o + a.val; omega
  | ⟨1, _⟩ => show p + 1 * b.val = p + b.val; omega

/-- The eight tiles of the gate's gradient. -/
theorem out5_eq : out0_5 x0 x1 x2 x3 x4 = gateB x0 x1 x2 x3 := by
  unfold_out out0_5
  funext y
  refine View.canon_apply_of_pieces (gateB x0 x1 x2 x3) _ ?_ y (cover0_5 _ _ _ _ _ _ _ _ y)
  intro p hp w
  simp only [List.mem_cons, List.mem_nil_iff, or_false] at hp
  rcases hp with rfl | rfl | rfl | rfl | rfl | rfl | rfl | rfl
  all_goals
    idx_vars w
    refine Eq.trans ?_ (congrArg (gateB x0 x1 x2 x3) (emb_tile _ _ _ w0 w1)).symm
    unfold gateB dG dot sg
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  all_goals simp only [Nat.zero_add]
  all_goals rfl

/-- The eight tiles of the up projection's gradient. -/
theorem out6_eq : out0_6 x0 x1 x2 x3 x4 = upB x0 x1 x2 := by
  unfold_out out0_6
  funext y
  refine View.canon_apply_of_pieces (upB x0 x1 x2) _ ?_ y (cover0_6 _ _ _ _ _ _ _ _ y)
  intro p hp w
  simp only [List.mem_cons, List.mem_nil_iff, or_false] at hp
  rcases hp with rfl | rfl | rfl | rfl | rfl | rfl | rfl | rfl
  all_goals
    idx_vars w
    refine Eq.trans ?_ (congrArg (upB x0 x1 x2) (emb_tile _ _ _ w0 w1)).symm
    unfold upB dU dot sg
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  all_goals simp only [Nat.zero_add]
  all_goals rfl

/-! ## The blocks in the arrays -/

theorem hN : cfg0.N = 33 := rfl

/-- The block indices at grid point `t`, and the place of an element of a block in its array. -/
theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = t.val % 11 ∧ win0_1.index t (1 : Fin 2) = 0 :=
  (by decide +kernel : ∀ t : Fin grid0.N, _)
theorem idx2 : ∀ t : Fin cfg0.N, win0_2.index t (0 : Fin 2) = t.val / 11 ∧ win0_2.index t (1 : Fin 2) = t.val % 11 :=
  (by decide +kernel : ∀ t : Fin grid0.N, _)
theorem idx3 : ∀ t : Fin cfg0.N, win0_3.index t (0 : Fin 2) = t.val / 11 ∧ win0_3.index t (1 : Fin 2) = t.val % 11 :=
  (by decide +kernel : ∀ t : Fin grid0.N, _)
theorem idx5 : ∀ t : Fin cfg0.N, win0_5.index t (0 : Fin 2) = t.val / 11 ∧ win0_5.index t (1 : Fin 2) = t.val % 11 :=
  (by decide +kernel : ∀ t : Fin grid0.N, _)
theorem idx6 : ∀ t : Fin cfg0.N, win0_6.index t (0 : Fin 2) = t.val / 11 ∧ win0_6.index t (1 : Fin 2) = t.val % 11 :=
  (by decide +kernel : ∀ t : Fin grid0.N, _)

theorem emb0 (t : Fin cfg0.N) (r : Fin 1408) (k : Fin 2048) : ((cfg0.win 0).blk t).view.emb (ix2 r k) = ix2 ⟨t.val / 11 * 1408 + r.val, by have := r.isLt; have := t.isLt; have := hN; omega⟩ k := by
  obtain ⟨e0, e1⟩ := idx0 t
  funext a; apply Fin.ext
  match a with
  | ⟨0, _⟩ => show win0_0.index t (0 : Fin 2) * 1408 + 1 * r.val = t.val / 11 * 1408 + r.val; omega
  | ⟨1, _⟩ => show win0_0.index t (1 : Fin 2) * 2048 + 1 * k.val = k.val; omega

theorem emb1 (t : Fin cfg0.N) (r : Fin 512) (k : Fin 2048) : ((cfg0.win 1).blk t).view.emb (ix2 r k) = ix2 ⟨t.val % 11 * 512 + r.val, by have := r.isLt; have := t.isLt; have := hN; omega⟩ k := by
  obtain ⟨e0, e1⟩ := idx1 t
  funext a; apply Fin.ext
  match a with
  | ⟨0, _⟩ => show win0_1.index t (0 : Fin 2) * 512 + 1 * r.val = t.val % 11 * 512 + r.val; omega
  | ⟨1, _⟩ => show win0_1.index t (1 : Fin 2) * 2048 + 1 * k.val = k.val; omega

theorem emb2 (t : Fin cfg0.N) (r : Fin 1408) (k : Fin 512) : ((cfg0.win 2).blk t).view.emb (ix2 r k) = ix2 ⟨t.val / 11 * 1408 + r.val, by have := r.isLt; have := t.isLt; have := hN; omega⟩ ⟨t.val % 11 * 512 + k.val, by have := k.isLt; omega⟩ := by
  obtain ⟨e0, e1⟩ := idx2 t
  funext a; apply Fin.ext
  match a with
  | ⟨0, _⟩ => show win0_2.index t (0 : Fin 2) * 1408 + 1 * r.val = t.val / 11 * 1408 + r.val; omega
  | ⟨1, _⟩ => show win0_2.index t (1 : Fin 2) * 512 + 1 * k.val = t.val % 11 * 512 + k.val; omega

theorem emb3 (t : Fin cfg0.N) (r : Fin 1408) (k : Fin 512) : ((cfg0.win 3).blk t).view.emb (ix2 r k) = ix2 ⟨t.val / 11 * 1408 + r.val, by have := r.isLt; have := t.isLt; have := hN; omega⟩ ⟨t.val % 11 * 512 + k.val, by have := k.isLt; omega⟩ := by
  obtain ⟨e0, e1⟩ := idx3 t
  funext a; apply Fin.ext
  match a with
  | ⟨0, _⟩ => show win0_3.index t (0 : Fin 2) * 1408 + 1 * r.val = t.val / 11 * 1408 + r.val; omega
  | ⟨1, _⟩ => show win0_3.index t (1 : Fin 2) * 512 + 1 * k.val = t.val % 11 * 512 + k.val; omega

theorem emb5 (t : Fin cfg0.N) (r : Fin 1408) (k : Fin 512) : ((cfg0.win 5).blk t).view.emb (ix2 r k) = ix2 ⟨t.val / 11 * 1408 + r.val, by have := r.isLt; have := t.isLt; have := hN; omega⟩ ⟨t.val % 11 * 512 + k.val, by have := k.isLt; omega⟩ := by
  obtain ⟨e0, e1⟩ := idx5 t
  funext a; apply Fin.ext
  match a with
  | ⟨0, _⟩ => show win0_5.index t (0 : Fin 2) * 1408 + 1 * r.val = t.val / 11 * 1408 + r.val; omega
  | ⟨1, _⟩ => show win0_5.index t (1 : Fin 2) * 512 + 1 * k.val = t.val % 11 * 512 + k.val; omega

theorem emb6 (t : Fin cfg0.N) (r : Fin 1408) (k : Fin 512) : ((cfg0.win 6).blk t).view.emb (ix2 r k) = ix2 ⟨t.val / 11 * 1408 + r.val, by have := r.isLt; have := t.isLt; have := hN; omega⟩ ⟨t.val % 11 * 512 + k.val, by have := k.isLt; omega⟩ := by
  obtain ⟨e0, e1⟩ := idx6 t
  funext a; apply Fin.ext
  match a with
  | ⟨0, _⟩ => show win0_6.index t (0 : Fin 2) * 1408 + 1 * r.val = t.val / 11 * 1408 + r.val; omega
  | ⟨1, _⟩ => show win0_6.index t (1 : Fin 2) * 512 + 1 * k.val = t.val % 11 * 512 + k.val; omega

/-- The product with the transposed down projection, and the two whole results. -/
def da (d : FVec Ideal S4224x2048 .bf16) (w : FVec Ideal S5632x2048 .bf16) (R : Fin 4224) (K : Fin 5632) : EReal :=
  ∑ e : Fin 2048, (d (ix2 R e) * w (ix2 K e) : EReal)

def gateG (d : FVec Ideal S4224x2048 .bf16) (w : FVec Ideal S5632x2048 .bf16) (g u : FVec Ideal S4224x5632 .bf16) : FVec Ideal S4224x5632 .bf16 :=
  fun i => dG (da d w (i 0) (i 1)) (g (ix2 (i 0) (i 1))) (u (ix2 (i 0) (i 1)))

def upG (d : FVec Ideal S4224x2048 .bf16) (w : FVec Ideal S5632x2048 .bf16) (g : FVec Ideal S4224x5632 .bf16) : FVec Ideal S4224x5632 .bf16 :=
  fun i => dU (da d w (i 0) (i 1)) (g (ix2 (i 0) (i 1)))

variable (m : (ℓ : Loc nD τ sig) → Buf (Elt Ideal) ℓ)

theorem dot_blk (c : Dev nD) (t : Fin cfg0.N) (r : Fin 1408) (k : Fin 512) :
    dot (iblk m c 0 t) (iblk m c 1 t) r k = da (V m c main_arg0) (V m c main_arg1)
      ⟨t.val / 11 * 1408 + r.val, by have := r.isLt; have := t.isLt; have := hN; omega⟩ ⟨t.val % 11 * 512 + k.val, by have := k.isLt; omega⟩ := by
  unfold dot da
  refine Finset.sum_congr rfl fun e _ => congrArg₂ (fun a b : EReal => a * b) ?_ ?_
  · show V m c main_arg0 (((cfg0.win 0).blk t).view.emb (ix2 r e)) = _
    rw [emb0]
  · show V m c main_arg1 (((cfg0.win 1).blk t).view.emb (ix2 k e)) = _
    rw [emb1]

theorem g_blk (c : Dev nD) (t : Fin cfg0.N) (r : Fin 1408) (k : Fin 512) :
    (iblk m c 2 t (ix2 r k) : EReal) = V m c main_arg2
      (ix2 ⟨t.val / 11 * 1408 + r.val, by have := r.isLt; have := t.isLt; have := hN; omega⟩ ⟨t.val % 11 * 512 + k.val, by have := k.isLt; omega⟩) := by
  show V m c main_arg2 (((cfg0.win 2).blk t).view.emb (ix2 r k)) = _
  rw [emb2]

theorem u_blk (c : Dev nD) (t : Fin cfg0.N) (r : Fin 1408) (k : Fin 512) :
    (iblk m c 3 t (ix2 r k) : EReal) = V m c main_arg3
      (ix2 ⟨t.val / 11 * 1408 + r.val, by have := r.isLt; have := t.isLt; have := hN; omega⟩ ⟨t.val % 11 * 512 + k.val, by have := k.isLt; omega⟩) := by
  show V m c main_arg3 (((cfg0.win 3).blk t).view.emb (ix2 r k)) = _
  rw [emb3]

/-- What a point writes back is its block of each whole result. -/
theorem flushed5_eq (c : Dev nD) (t : Fin cfg0.N) : (dats m 0 c).flushed 5 t
    = ((cfg0.win 5).blk t).view.read (Elt Ideal) (gateG (V m c main_arg0) (V m c main_arg1) (V m c main_arg2) (V m c main_arg3)) := by
  rw [flushed5, out5_eq]
  funext j
  show gateB (iblk m c 0 t) (iblk m c 1 t) (iblk m c 2 t) (iblk m c 3 t) j
    = gateG (V m c main_arg0) (V m c main_arg1) (V m c main_arg2) (V m c main_arg3) (((cfg0.win 5).blk t).view.emb j)
  idx_vars j
  rw [emb5]
  unfold gateB gateG
  exact congrArg₂ (fun (a : EReal) (b : EReal × EReal) => dG a b.1 b.2) (dot_blk m c t j0 j1) (congrArg₂ Prod.mk (g_blk m c t j0 j1) (u_blk m c t j0 j1))

theorem flushed6_eq (c : Dev nD) (t : Fin cfg0.N) : (dats m 0 c).flushed 6 t
    = ((cfg0.win 6).blk t).view.read (Elt Ideal) (upG (V m c main_arg0) (V m c main_arg1) (V m c main_arg2)) := by
  rw [flushed6, out6_eq]
  funext j
  show upB (iblk m c 0 t) (iblk m c 1 t) (iblk m c 2 t) j
    = upG (V m c main_arg0) (V m c main_arg1) (V m c main_arg2) (((cfg0.win 6).blk t).view.emb j)
  idx_vars j
  rw [emb6]
  unfold upB upG
  exact congrArg₂ (fun (a b : EReal) => dU a b) (dot_blk m c t j0 j1) (g_blk m c t j0 j1)

/-- Every element of the result is in some point's block. -/
theorem covered5 (i : S4224x5632.Idx) : ∃ t : Fin cfg0.N, (cfg0.win 5).flush t = true ∧ i ∈ ((cfg0.win 5).blk t).view.set := by
  idx_vars i
  have hi0 := i0.isLt; have hi1 := i1.isLt
  have hN : i0.val / 1408 * 11 + i1.val / 512 < cfg0.N := by show _ < 33; omega
  refine ⟨⟨_, hN⟩, flush0_5 _, ?_⟩
  have h := ((cfg0.win 5).blk ⟨_, hN⟩).view.emb_mem_set (ix2 ⟨i0.val % 1408, by omega⟩ ⟨i1.val % 512, by omega⟩)
  have e : ((cfg0.win 5).blk ⟨_, hN⟩).view.emb (ix2 ⟨i0.val % 1408, by omega⟩ ⟨i1.val % 512, by omega⟩) = ix2 i0 i1 := by
    rw [emb5]
    funext a; apply Fin.ext
    match a with
    | ⟨0, _⟩ => show (i0.val / 1408 * 11 + i1.val / 512) / 11 * 1408 + i0.val % 1408 = i0.val; omega
    | ⟨1, _⟩ => show (i0.val / 1408 * 11 + i1.val / 512) % 11 * 512 + i1.val % 512 = i1.val; omega
  rw [e] at h
  exact h

/-- The result array after the run. -/
theorem final5 (c : Dev nD) : (dats m 0 c).arrAt 5 cfg0.N = gateG (m ((c : Thread nD τ).loc main_arg0)) (m ((c : Thread nD τ).loc main_arg1)) (m ((c : Thread nD τ).loc main_arg2)) (m ((c : Thread nD τ).loc main_arg3)) :=
  ((dats m 0 c).arrAt_eq_of_cover 5 (gateG (V m c main_arg0) (V m c main_arg1) (V m c main_arg2) (V m c main_arg3)) (fun t _ => flushed5_eq m c t) covered5).trans
    (by rw [V_main_arg0, V_main_arg1, V_main_arg2, V_main_arg3])

/-- Every element of the result is in some point's block. -/
theorem covered6 (i : S4224x5632.Idx) : ∃ t : Fin cfg0.N, (cfg0.win 6).flush t = true ∧ i ∈ ((cfg0.win 6).blk t).view.set := by
  idx_vars i
  have hi0 := i0.isLt; have hi1 := i1.isLt
  have hN : i0.val / 1408 * 11 + i1.val / 512 < cfg0.N := by show _ < 33; omega
  refine ⟨⟨_, hN⟩, flush0_6 _, ?_⟩
  have h := ((cfg0.win 6).blk ⟨_, hN⟩).view.emb_mem_set (ix2 ⟨i0.val % 1408, by omega⟩ ⟨i1.val % 512, by omega⟩)
  have e : ((cfg0.win 6).blk ⟨_, hN⟩).view.emb (ix2 ⟨i0.val % 1408, by omega⟩ ⟨i1.val % 512, by omega⟩) = ix2 i0 i1 := by
    rw [emb6]
    funext a; apply Fin.ext
    match a with
    | ⟨0, _⟩ => show (i0.val / 1408 * 11 + i1.val / 512) / 11 * 1408 + i0.val % 1408 = i0.val; omega
    | ⟨1, _⟩ => show (i0.val / 1408 * 11 + i1.val / 512) % 11 * 512 + i1.val % 512 = i1.val; omega
  rw [e] at h
  exact h

/-- The result array after the run. -/
theorem final6 (c : Dev nD) : (dats m 0 c).arrAt 6 cfg0.N = upG (m ((c : Thread nD τ).loc main_arg0)) (m ((c : Thread nD τ).loc main_arg1)) (m ((c : Thread nD τ).loc main_arg2)) :=
  ((dats m 0 c).arrAt_eq_of_cover 6 (upG (V m c main_arg0) (V m c main_arg1) (V m c main_arg2)) (fun t _ => flushed6_eq m c t) covered6).trans
    (by rw [V_main_arg0, V_main_arg1, V_main_arg2])

/-! ## The reference, over finite numbers -/

/-- A real number. -/
def Re (x : EReal) : Prop := ∃ r : ℝ, x = (r : EReal)

theorem Re.sum {n : Nat} {f : Fin n → EReal} (h : ∀ i, Re (f i)) : Re (∑ i, f i) := by
  choose g hg using h
  refine ⟨∑ i, g i, ?_⟩
  rw [Finset.sum_congr rfl fun i _ => hg i]
  exact (map_sum (⟨⟨Real.toEReal, EReal.coe_zero⟩, EReal.coe_add⟩ : ℝ →+ EReal) g Finset.univ).symm

theorem Re.mul {x y : EReal} : Re x → Re y → Re (x * y) := fun ⟨r, hr⟩ ⟨s, hs⟩ => ⟨r * s, by rw [hr, hs, EReal.coe_mul]⟩

/-- A number whose absolute value is below infinity is real. -/
theorem real_of_lt (x : EReal) (h : Ideal.cmp .olt (max x (-x)) (Ideal.ofBits .f32 0x7F800000#32) = 1#1) : Re x := by
  have ht : Ideal.ofBits .f32 0x7F800000#32 = (⊤ : EReal) := by simp [Ideal.ofBits, Ideal.ieee]
  rw [ht] at h
  have h' : max x (-x) < ⊤ := by
    by_contra hn
    simp [Ideal.cmp, hn] at h
  induction x with
  | bot => simp at h'
  | top => simp at h'
  | coe r => exact ⟨r, rfl⟩

/-- The derivative of the gate, in the reference's terms: `σ + g σ (1 - σ)` is `σ (1 + g (1 - σ))`. -/
theorem dG_eq {a g u : EReal} (ha : Re a) (hg : Re g) (hu : Re u) :
    a * u * sg g + g * (a * u) * (sg g * (1 - sg g)) = dG a g u := by
  obtain ⟨a, rfl⟩ := ha; obtain ⟨g, rfl⟩ := hg; obtain ⟨u, rfl⟩ := hu
  unfold dG sg
  rw [Ideal.logistic_coe, show (1 : EReal) = ((1 : ℝ) : EReal) from rfl]
  simp only [← EReal.coe_mul, ← EReal.coe_add, ← EReal.coe_sub]
  congr 1
  ring

section Ref

variable (d : FVec Ideal S4224x2048 .bf16) (w : FVec Ideal S5632x2048 .bf16) (g u : FVec Ideal S4224x5632 .bf16)

/-- The reference's gradient at the up projection's output. -/
theorem ref_up : truncf .bf16 (mulf (mulf (extf .f32 g Cert.Reference5Ideal.Gen.facts.bitsLt_bf16_f32) (Host.divf (broadcastInDim Cert.Reference5Ideal.S4224x5632 ![] Cert.Reference5Ideal.Gen.facts.bcast_S_S4224x5632 (constant Cert.Reference5Ideal.S_ .f32 0x3F800000#32)) (addf (broadcastInDim Cert.Reference5Ideal.S4224x5632 ![] Cert.Reference5Ideal.Gen.facts.bcast_S_S4224x5632 (constant Cert.Reference5Ideal.S_ .f32 0x3F800000#32)) (Host.exp (Host.negf (extf .f32 g Cert.Reference5Ideal.Gen.facts.bitsLt_bf16_f32)))))) (Host.dotGeneral Cert.Reference5Ideal.dot_S4224x2048_S5632x2048_S4224x5632_1_1_0_0_n_n none (extf .f32 d Cert.Reference5Ideal.Gen.facts.bitsLt_bf16_f32) (extf .f32 w Cert.Reference5Ideal.Gen.facts.bitsLt_bf16_f32))) Cert.Reference5Ideal.Gen.facts.bitsLt_bf16_f32 = upG d w g := by
  funext i
  idx_vars i
  unfold upG dU da sg Ideal.logistic
  pointwise []
  exact mul_comm _ _

/-- The reference's gradient at the gate's output, over finite numbers. -/
theorem ref_gate (hd : ∀ i, Re (d i)) (hw : ∀ i, Re (w i)) (hg : ∀ i, Re (g i)) (hu : ∀ i, Re (u i)) :
    truncf .bf16 (addf (mulf (mulf (Host.dotGeneral Cert.Reference5Ideal.dot_S4224x2048_S5632x2048_S4224x5632_1_1_0_0_n_n none (extf .f32 d Cert.Reference5Ideal.Gen.facts.bitsLt_bf16_f32) (extf .f32 w Cert.Reference5Ideal.Gen.facts.bitsLt_bf16_f32)) (extf .f32 u Cert.Reference5Ideal.Gen.facts.bitsLt_bf16_f32)) (Host.divf (broadcastInDim Cert.Reference5Ideal.S4224x5632 ![] Cert.Reference5Ideal.Gen.facts.bcast_S_S4224x5632 (constant Cert.Reference5Ideal.S_ .f32 0x3F800000#32)) (addf (broadcastInDim Cert.Reference5Ideal.S4224x5632 ![] Cert.Reference5Ideal.Gen.facts.bcast_S_S4224x5632 (constant Cert.Reference5Ideal.S_ .f32 0x3F800000#32)) (Host.exp (Host.negf (extf .f32 g Cert.Reference5Ideal.Gen.facts.bitsLt_bf16_f32)))))) (mulf (mulf (extf .f32 g Cert.Reference5Ideal.Gen.facts.bitsLt_bf16_f32) (mulf (Host.dotGeneral Cert.Reference5Ideal.dot_S4224x2048_S5632x2048_S4224x5632_1_1_0_0_n_n none (extf .f32 d Cert.Reference5Ideal.Gen.facts.bitsLt_bf16_f32) (extf .f32 w Cert.Reference5Ideal.Gen.facts.bitsLt_bf16_f32)) (extf .f32 u Cert.Reference5Ideal.Gen.facts.bitsLt_bf16_f32))) (mulf (Host.divf (broadcastInDim Cert.Reference5Ideal.S4224x5632 ![] Cert.Reference5Ideal.Gen.facts.bcast_S_S4224x5632 (constant Cert.Reference5Ideal.S_ .f32 0x3F800000#32)) (addf (broadcastInDim Cert.Reference5Ideal.S4224x5632 ![] Cert.Reference5Ideal.Gen.facts.bcast_S_S4224x5632 (constant Cert.Reference5Ideal.S_ .f32 0x3F800000#32)) (Host.exp (Host.negf (extf .f32 g Cert.Reference5Ideal.Gen.facts.bitsLt_bf16_f32))))) (subf (broadcastInDim Cert.Reference5Ideal.S4224x5632 ![] Cert.Reference5Ideal.Gen.facts.bcast_S_S4224x5632 (constant Cert.Reference5Ideal.S_ .f32 0x3F800000#32)) (Host.divf (broadcastInDim Cert.Reference5Ideal.S4224x5632 ![] Cert.Reference5Ideal.Gen.facts.bcast_S_S4224x5632 (constant Cert.Reference5Ideal.S_ .f32 0x3F800000#32)) (addf (broadcastInDim Cert.Reference5Ideal.S4224x5632 ![] Cert.Reference5Ideal.Gen.facts.bcast_S_S4224x5632 (constant Cert.Reference5Ideal.S_ .f32 0x3F800000#32)) (Host.exp (Host.negf (extf .f32 g Cert.Reference5Ideal.Gen.facts.bitsLt_bf16_f32))))))))) Cert.Reference5Ideal.Gen.facts.bitsLt_bf16_f32 = gateG d w g u := by
  funext i
  idx_vars i
  have ha : Re (da d w i0 i1) := Re.sum fun e => (hd _).mul (hw _)
  refine Eq.trans ?_ (dG_eq ha (hg (ix2 i0 i1)) (hu (ix2 i0 i1)))
  unfold da sg Ideal.logistic
  pointwise []

end Ref

/-! ## The claim -/

/-- The side conditions the precondition states. -/
theorem preFacts : Cert.Pre_finite5.Facts :=
  ⟨by decide, by decide, by decide, by decide, by decide, by decide, by decide, by decide⟩

instance : Cert.Pre_finite5.Facts := preFacts

instance : Subsingleton Cert.Pre_finite5.S_.Idx := ⟨fun a b => funext fun k => k.elim0⟩

theorem and_split {a b : IVec Cert.Pre_finite5.S_ 1} (h : ∀ i, andi a b i = 1#1) : (∀ i, a i = 1#1) ∧ ∀ i, b i = 1#1 := by
  have key : ∀ x y : BitVec 1, IntOp.andi x y = 1#1 → x = 1#1 ∧ y = 1#1 := by decide
  exact ⟨fun i => (key _ _ (h i)).1, fun i => (key _ _ (h i)).2⟩

/-- The precondition makes every element of the four arrays real. -/
theorem reals (d : FVec Ideal S4224x2048 .bf16) (w : FVec Ideal S5632x2048 .bf16) (g u : FVec Ideal S4224x5632 .bf16) (e : FVec Ideal S8x128 .f32)
    (h : Cert.Pre_finite5.fn (F := Ideal) d w g u e = fun _ => 1#1) :
    (∀ i, Re (d i)) ∧ (∀ i, Re (w i)) ∧ (∀ i, Re (g i)) ∧ ∀ i, Re (u i) := by
  have h := congrFun h
  dsimp only [Cert.Pre_finite5.fn, Cert.Pre_finite5.fn_part1] at h
  obtain ⟨h, h3⟩ := and_split h
  obtain ⟨h, h2⟩ := and_split h
  obtain ⟨h0, h1⟩ := and_split h
  let o : Cert.Pre_finite5.S_.Idx := fun k => k.elim0
  exact ⟨fun i => real_of_lt _ (Host.reduce_andi_all _ _ _ _ o (h0 o) i), fun i => real_of_lt _ (Host.reduce_andi_all _ _ _ _ o (h1 o) i),
    fun i => real_of_lt _ (Host.reduce_andi_all _ _ _ _ o (h2 o) i), fun i => real_of_lt _ (Host.reduce_andi_all _ _ _ _ o (h3 o) i)⟩

/-- The kernel and the reference end with equal results. -/
theorem algebraic : Cert.algebraic_Kernel5Ideal_Reference5Ideal_pre_finite5 := fun m g m' g' hp hm =>
  ⟨fun c => (dats m 0 c).arrAt 5 cfg0.N, fun c => (dats m 0 c).arrAt 6 cfg0.N, run_blocks m g,
    (θ_run Cert.Reference5Ideal.defs _ _).mono (fun r h c => by
      obtain ⟨r0, r1, r2, r3⟩ := reals _ _ _ _ _ (hp c)
      have t0 := (h c).1.trans ((ref_gate _ _ _ _ (by rw [(hm c).1]; exact r0) (by rw [(hm c).2.1]; exact r1) (by rw [(hm c).2.2.1]; exact r2) (by rw [(hm c).2.2.2.1]; exact r3)).trans
        ((by rw [(hm c).1, (hm c).2.1, (hm c).2.2.1, (hm c).2.2.2.1] : _ = _).trans (final5 m c).symm))
      have t1 := (h c).2.1.trans ((ref_up _ _ _).trans ((by rw [(hm c).1, (hm c).2.1, (hm c).2.2.1] : _ = _).trans (final6 m c).symm))
      exact ⟨t0, t1, (h c).2.2⟩) (Cert.Reference5Ideal.Value.run m' g')⟩

/-- The reference runs, its arguments unchanged, its counters at zero. -/
theorem frameR : Cert.quiescent_Reference5Ideal := fun m g _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m g)

end Cert.Proof.ActFfn

end
-- ==== Proof.WgradDown.lean ====
/- THE WEIGHT GRADIENT OF A DOWN PRODUCT, block by block: each grid point takes one run of 1408 columns of the
   left matrix and one run of 512 columns of the gradient, and writes their product over all 4224 rows.  Here: what a
   point writes at an index (`out_eq`, `part_apply`), the places of its blocks in the arrays (`emb0` to `emb2`), and so
   the whole result as the reference's transposed product (`final2`, `algebraic`). -/
module

public import proofs.«01_k».proof.Defs
public import proofs.«01_k».proof.Proof.Gen.Kernel6Ideal.Value
public import proofs.«01_k».proof.Proof.Gen.Reference6Ideal.Run
public import Idealize.ShloMosaic.Lib.Pointwise

@[expose] public section

noncomputable section

namespace Cert.Proof.WgradDown

open Cert.Kernel6Ideal Cert.Kernel6Ideal.Gen Cert.Kernel6Ideal.Value Idealize.ShloMosaic Idealize.ShloMosaic.TcCoe Idealize.SL.Sem

theorem hz2 : (![0, 0] : Fin 2 → Nat) = fun _ => 0 := funext fun a => by fin_cases a <;> rfl
theorem hz4 : (![0, 0, 0, 0] : Fin 4 → Nat) = fun _ => 0 := funext fun a => by fin_cases a <;> rfl

/-- What a point leaves in the output's staging buffer: the product of its two blocks, in the output block's shape. -/
theorem out_eq (c : Dev nD) (i : grid0.Coords) (arg3 : Memref sig .tc .vmem S4224x1408 .bf16) (h3 : arg3.IsWhole)
    (arg4 : Memref sig .tc .vmem S4224x512 .bf16) (h4 : arg4.IsWhole)
    (arg5 : Memref sig .tc .vmem S1x2x704x512 .f32) (h5 : arg5.IsWhole) (hc0 : cond0_0 i) (hc1 : ¬cond0_1 i)
    (x0 : Vec Ideal S4224x1408 .bf16) (x1 : Vec Ideal S4224x512 .bf16) :
    out0_A_2 c i arg3 h3 arg4 h4 arg5 h5 hc0 hc1 x0 x1 = k0_pay2 x0 x1 := by
  unfold out0_A_2
  rw [View.read_writes_eq_canon _ _ _ (cover0_A_2 c i arg3 h3 arg4 h4 arg5 h5 hc0 hc1 x0 x1)]
  unfold kernelRun0_A
  dsimp only
  sl_unfold_words
  rw [View.canon_unit_zero hz4]
  simp only [View.readAt_eq_ld, h3.read_unread, h4.read_unread, View.ld_unit_zero (S := S4224x1408) hz2,
    View.ld_unit_zero (S := S4224x512) hz2]

/-- A result element of a point: the sum over the rows of the products of a column of each block. -/
theorem part_apply (x0 : Vec Ideal S4224x1408 .bf16) (x1 : Vec Ideal S4224x512 .bf16) (j0 : Fin 1) (j1 : Fin 2) (j2 : Fin 704) (j3 : Fin 512) :
    k0_pay2 x0 x1 (ix4 j0 j1 j2 j3) = ∑ k : Fin 4224, (x0 (ix2 k ⟨j1.val * 704 + j2.val, by have := j0.isLt; have := j1.isLt; have := j2.isLt; omega⟩) * x1 (ix2 k j3) : EReal) := by
  pointwise [k0_pay2, k0_pay1]

/-- The whole result: the transposed product, its rows cut in eight runs of 704. -/
def G (n : FVec Ideal S4224x5632 .bf16) (d : FVec Ideal S4224x2048 .bf16) : FVec Ideal S4x2x704x2048 .f32 := fun i =>
  ∑ k : Fin 4224, (n (ix2 k ⟨(i 0).val * 1408 + (i 1).val * 704 + (i 2).val, by have := (i 0).isLt; have := (i 1).isLt; have := (i 2).isLt; simp at *; omega⟩)
    * d (ix2 k (i 3)) : EReal)

theorem ref_eq (n : FVec Ideal S4224x5632 .bf16) (d : FVec Ideal S4224x2048 .bf16) :
    shapeCast Cert.Reference6Ideal.S4x2x704x2048 (transpose Cert.Reference6Ideal.S5632x2048 [1, 0]
      (Host.dotGeneral Cert.Reference6Ideal.dot_S4224x2048_S4224x5632_S2048x5632_0_0_1_1_n_n none (extf .f32 d Cert.Reference6Ideal.Gen.facts.bitsLt_bf16_f32) (extf .f32 n Cert.Reference6Ideal.Gen.facts.bitsLt_bf16_f32))
      Cert.Reference6Ideal.Gen.facts.transposes_S2048x5632_S5632x2048_1_0) Cert.Reference6Ideal.Gen.facts.shapeCasts_S5632x2048_S4x2x704x2048 = G n d := by
  funext i
  unfold G
  idx_vars i
  pointwise []
  exact Finset.sum_congr rfl fun k _ => mul_comm (G := EReal) _ _

variable (m : (ℓ : Loc nD τ sig) → Buf (Elt Ideal) ℓ) (ρ : Dev nD → PrngReg)

/-- The block indices at grid point `t`: the left matrix's run of columns is `t / 4`, the gradient's `t % 4`. -/
theorem idx0 : ∀ t : Fin cfg0.N, win0_0.index t (0 : Fin 2) = 0 ∧ win0_0.index t (1 : Fin 2) = t.val / 4 :=
  (by decide +kernel : ∀ t : Fin grid0.N, _)
theorem idx1 : ∀ t : Fin cfg0.N, win0_1.index t (0 : Fin 2) = 0 ∧ win0_1.index t (1 : Fin 2) = t.val % 4 :=
  (by decide +kernel : ∀ t : Fin grid0.N, _)
theorem idx2 : ∀ t : Fin cfg0.N, win0_2.index t (0 : Fin 4) = t.val / 4 ∧ win0_2.index t (1 : Fin 4) = 0
    ∧ win0_2.index t (2 : Fin 4) = 0 ∧ win0_2.index t (3 : Fin 4) = t.val % 4 :=
  (by decide +kernel : ∀ t : Fin grid0.N, _)

theorem hN : cfg0.N = 16 := rfl

/-- The place of an element of a block in its array. -/
theorem emb0 (t : Fin cfg0.N) (k : Fin 4224) (r : Fin 1408) : ((cfg0.win 0).blk t).view.emb (ix2 k r)
    = ix2 k ⟨t.val / 4 * 1408 + r.val, by have := r.isLt; have := t.isLt; have := hN; omega⟩ := by
  obtain ⟨e0, e1⟩ := idx0 t
  funext a; apply Fin.ext
  match a with
  | ⟨0, _⟩ => show win0_0.index t (0 : Fin 2) * 4224 + 1 * k.val = k.val; omega
  | ⟨1, _⟩ => show win0_0.index t (1 : Fin 2) * 1408 + 1 * r.val = t.val / 4 * 1408 + r.val; omega

theorem emb1 (t : Fin cfg0.N) (k : Fin 4224) (l : Fin 512) : ((cfg0.win 1).blk t).view.emb (ix2 k l)
    = ix2 k ⟨t.val % 4 * 512 + l.val, by have := l.isLt; omega⟩ := by
  obtain ⟨e0, e1⟩ := idx1 t
  funext a; apply Fin.ext
  match a with
  | ⟨0, _⟩ => show win0_1.index t (0 : Fin 2) * 4224 + 1 * k.val = k.val; omega
  | ⟨1, _⟩ => show win0_1.index t (1 : Fin 2) * 512 + 1 * l.val = t.val % 4 * 512 + l.val; omega

theorem emb2 (t : Fin cfg0.N) (p : Fin 1) (q : Fin 2) (r : Fin 704) (l : Fin 512) : ((cfg0.win 2).blk t).view.emb (ix4 p q r l)
    = ix4 ⟨t.val / 4 * 1 + p.val, by have := p.isLt; have := t.isLt; have := hN; omega⟩ q r ⟨t.val % 4 * 512 + l.val, by have := l.isLt; omega⟩ := by
  obtain ⟨e0, e1, e2, e3⟩ := idx2 t
  funext a; apply Fin.ext
  match a with
  | ⟨0, _⟩ => show win0_2.index t (0 : Fin 4) * 1 + 1 * p.val = t.val / 4 * 1 + p.val; omega
  | ⟨1, _⟩ => show win0_2.index t (1 : Fin 4) * 2 + 1 * q.val = q.val; omega
  | ⟨2, _⟩ => show win0_2.index t (2 : Fin 4) * 704 + 1 * r.val = r.val; omega
  | ⟨3, _⟩ => show win0_2.index t (3 : Fin 4) * 512 + 1 * l.val = t.val % 4 * 512 + l.val; omega

/-- What a point writes back is its block of the whole result. -/
theorem flushed2_eq (c : Dev nD) (t : Fin cfg0.N) :
    (dats m 0 c).flushed 2 t = ((cfg0.win 2).blk t).view.read (Elt Ideal) (G (V m c main_arg0) (V m c main_arg1)) := by
  rw [flushed2_A, out_eq]
  funext j
  show k0_pay2 (iblk m c 0 t) (iblk m c 1 t) j = G (V m c main_arg0) (V m c main_arg1) (((cfg0.win 2).blk t).view.emb j)
  idx_vars j
  have h0 := j0.isLt
  rw [emb2]
  refine (part_apply _ _ j0 j1 j2 j3).trans ?_
  unfold G
  refine Finset.sum_congr rfl fun k _ => ?_
  refine congrArg₂ (fun a b : EReal => a * b) ?_ ?_
  · show V m c main_arg0 (((cfg0.win 0).blk t).view.emb (ix2 k _)) = _
    rw [emb0]
    exact congrArg (V m c main_arg0) (congrArg (ix2 k) (Fin.ext (by
      show t.val / 4 * 1408 + (j1.val * 704 + j2.val) = (t.val / 4 * 1 + j0.val) * 1408 + j1.val * 704 + j2.val
      omega)))
  · show V m c main_arg1 (((cfg0.win 1).blk t).view.emb (ix2 k j3)) = _
    rw [emb1]
    rfl

/-- Every element of the result is in some point's block. -/
theorem covered2 (i : S4x2x704x2048.Idx) :
    ∃ t : Fin cfg0.N, (cfg0.win 2).flush t = true ∧ i ∈ ((cfg0.win 2).blk t).view.set := by
  idx_vars i
  have hi0 := i0.isLt; have hi3 := i3.isLt
  have hN : i0.val / 1 * 4 + i3.val / 512 < cfg0.N := by show _ < 16; omega
  refine ⟨⟨_, hN⟩, flush0_2 _, ?_⟩
  have h := ((cfg0.win 2).blk ⟨_, hN⟩).view.emb_mem_set (ix4 ⟨i0.val % 1, by omega⟩ i1 i2 ⟨i3.val % 512, by omega⟩)
  have e : ((cfg0.win 2).blk ⟨_, hN⟩).view.emb (ix4 ⟨i0.val % 1, by omega⟩ i1 i2 ⟨i3.val % 512, by omega⟩) = ix4 i0 i1 i2 i3 := by
    rw [emb2]
    funext a; apply Fin.ext
    match a with
    | ⟨0, _⟩ => show (i0.val / 1 * 4 + i3.val / 512) / 4 * 1 + i0.val % 1 = i0.val; omega
    | ⟨1, _⟩ => rfl
    | ⟨2, _⟩ => rfl
    | ⟨3, _⟩ => show (i0.val / 1 * 4 + i3.val / 512) % 4 * 512 + i3.val % 512 = i3.val; omega
  rw [e] at h
  exact h

/-- The result array after the run. -/
theorem final2 (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed2_eq m c t) covered2).trans
    (by rw [V_main_arg0, V_main_arg1])

/-- The kernel and the reference end with equal results. -/
theorem algebraic : Cert.algebraic_Kernel6Ideal_Reference6Ideal := fun m g m' g' _ hm =>
  ⟨fun c => G (m ((c : Thread nD τ).loc main_arg0)) (m ((c : Thread nD τ).loc main_arg1)),
    (θ_run defs _ _).mono (fun r h c => ⟨(h c).1.trans (final2 m c), (h c).2⟩) (run_blocks m g),
    (θ_run Cert.Reference6Ideal.defs _ _).mono (fun r h c => ⟨(h c).1.trans
      ((ref_eq _ _).trans (by rw [(hm c).1, (hm c).2])), (h c).2⟩) (Cert.Reference6Ideal.Value.run m' g')⟩

/-- The reference runs, its arguments unchanged, its counters at zero. -/
theorem frameR : Cert.quiescent_Reference6Ideal := fun m g _ =>
  (θ_run Cert.Reference6Ideal.defs _ _).mono (fun r h => ⟨fun c => (h c).2,
      Idealize.ShloMosaic.sem_eq_zero_of_no_sems (by decide) r.2⟩)
    (Cert.Reference6Ideal.Value.run (F := Ideal) m g)

end Cert.Proof.WgradDown

end
-- ==== Proof.MixFwdOut.lean ====
/- WHAT ONE GRID POINT OF THE MIXER'S FORWARD CALL LEAVES in the first 1024 columns of its first result's buffer: the gate
   times the short convolution, which reads a scratch buffer that holds 32 rows of the block before and the block's own
   128 rows (`padB`). -/
module

public import proofs.«01_k».proof.Proof.Gen.Kernel7Ideal.Frame
public import Idealize.ShloMosaic.Lib.Pointwise

@[expose] public section

noncomputable section

namespace Cert.Proof.MixFwd

open Cert.Kernel7Ideal Cert.Kernel7Ideal.Gen Idealize.ShloMosaic Idealize.ShloMosaic.TcCoe Idealize.SL.Sem

theorem hz : (![0, 0] : Fin 2 → Nat) = fun _ => 0 := funext fun a => by fin_cases a <;> rfl

/-- The scratch buffer: 32 rows of the block before, then the block's 128 rows. -/
def padB (i : grid0.Coords) (x0 : Vec Ideal S128x5120 .f32) (x1 : Vec Ideal S32x5120 .f32) : Vec Ideal S160x1024 .f32 :=
  fun y => if h : (y 0).val < 32 then k0_pay10 i x1 (ix2 ⟨(y 0).val, h⟩ (y 1))
    else k0_pay12 (k0_pay11 i x0) (ix2 ⟨(y 0).val - 32, by have := (y 0).isLt; simp at this; omega⟩ (y 1))

/-- The short convolution of the block: three taps over the scratch buffer's rows. -/
def convB (i : grid0.Coords) (x0 : Vec Ideal S128x5120 .f32) (x1 : Vec Ideal S32x5120 .f32) (w : Vec Ideal S3x1024 .f32) :
    FVec Ideal S128x1024 .f32 := fun j =>
  (w (ix2 0 (j 1)) * padB i x0 x1 (ix2 ⟨30 + (j 0).val, by have := (j 0).isLt; simp at this; omega⟩ (j 1))
    + w (ix2 1 (j 1)) * padB i x0 x1 (ix2 ⟨31 + (j 0).val, by have := (j 0).isLt; simp at this; omega⟩ (j 1))
    + w (ix2 2 (j 1)) * padB i x0 x1 (ix2 ⟨32 + (j 0).val, by have := (j 0).isLt; simp at this; omega⟩ (j 1)) : EReal)

/-- The two stores into the scratch buffer leave `padB`. -/
theorem pad_canon (i : grid0.Coords) (x0 : Vec Ideal S128x5120 .f32) (x1 : Vec Ideal S32x5120 .f32)
    (h0 : ∀ a, (![32, 0] : Fin 2 → Nat) a + S128x1024.size a ≤ S160x1024.size a)
    (h1 : ∀ a, (![0, 0] : Fin 2 → Nat) a + S32x1024.size a ≤ S160x1024.size a) :
    View.canon ([⟨Rect.unit ![32, 0] S128x1024.size h0, k0_pay12 (k0_pay11 i x0)⟩, ⟨Rect.unit ![0, 0] S32x1024.size h1, k0_pay10 i x1⟩] :
      List (View.Piece (Elt Ideal) S160x1024 .f32)) = padB i x0 x1 := by
  funext y
  idx_vars y
  by_cases h : y0.val < 32
  · have e : (ix2 y0 y1 : S160x1024.Idx) = (Rect.unit (s := S160x1024) ![0, 0] S32x1024.size h1).emb (ix2 ⟨y0.val, h⟩ y1) := by
      funext a; apply Fin.ext
      match a with
      | ⟨0, _⟩ => show y0.val = 0 + 1 * y0.val; omega
      | ⟨1, _⟩ => show y1.val = 0 + 1 * y1.val; omega
    rw [View.canon_cons_of_not_mem, e, View.canon_cons_emb, ← e]
    · unfold padB
      rw [dif_pos (show ((ix2 y0 y1 : S160x1024.Idx) 0).val < 32 from h)]
      rfl
    · rw [Rect.mem_set_unit]
      intro hc
      have : 32 ≤ y0.val := (hc 0).1
      omega
  · have e : (ix2 y0 y1 : S160x1024.Idx) = (Rect.unit (s := S160x1024) ![32, 0] S128x1024.size h0).emb (ix2 ⟨y0.val - 32, by omega⟩ y1) := by
      funext a; apply Fin.ext
      match a with
      | ⟨0, _⟩ => show y0.val = 32 + 1 * (y0.val - 32); omega
      | ⟨1, _⟩ => show y1.val = 0 + 1 * y1.val; omega
    rw [e, View.canon_cons_emb, ← e]
    unfold padB
    rw [dif_neg (show ¬((ix2 y0 y1 : S160x1024.Idx) 0).val < 32 from h)]
    rfl

/-- The block's first 1024 columns: the gate times the short convolution, zero on the masked rows. -/
def yB (i : grid0.Coords) (x0 : Vec Ideal S128x5120 .f32) (x1 : Vec Ideal S32x5120 .f32) (w : Vec Ideal S3x1024 .f32) : FVec Ideal S128x1024 .bf16 :=
  k0_pay1 (k0_pay105 (k0_pay5 x0) (convB i x0 x1 w)) (Scalar.ofBits .f32 0x00000000#32) (k0_pay106 (k0_pay3 i))

set_option maxHeartbeats 1600000 in
theorem out0_A_7_left (c : Dev nD) (i : grid0.Coords) (arg1 : Memref sig .tc .vmem S128x5120 .f32) (harg1 : arg1.IsWhole) (arg2 : Memref sig .tc .vmem S32x5120 .f32) (harg2 : arg2.IsWhole) (arg3 : Memref sig .tc .vmem S3x1024 .f32) (harg3 : arg3.IsWhole) (arg4 : Memref sig .tc .vmem S31x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x2048 .bf16) (harg8 : arg8.IsWhole) (arg9 : Memref sig .tc .vmem S128x1024 .f32) (harg9 : arg9.IsWhole) (arg10 : Memref sig .tc .vmem S160x1024 .f32) (harg10 : arg10.IsWhole) (arg11 : Memref sig .tc .vmem S160x1024 .f32) (harg11 : arg11.IsWhole) (arg12 : Memref sig .tc .vmem S7x152x1024 .f32) (harg12 : arg12.IsWhole)
    (x0 : Vec Ideal S128x5120 .f32) (x1 : Vec Ideal S32x5120 .f32) (x2 : Vec Ideal S3x1024 .f32) (x3 : Vec Ideal S31x1024 .f32) (x4 : Vec Ideal S1x1024 .f32) (x5 : Vec Ideal S1x1024 .f32) (x6 : Vec Ideal S1x1024 .f32) (r : Fin 128) (l : Fin 1024) :
    out0_A_7 c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r ⟨l.val, lt_of_lt_of_le l.isLt (by decide)⟩) = yB i x0 x1 x2 (ix2 r l) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  sl_unfold_words
  have e : (ix2 r ⟨l.val, lt_of_lt_of_le l.isLt (by decide)⟩ : S128x2048.Idx) = (Rect.unit (s := S128x2048) ![0, 0] S128x1024.size inb_S128x2048_S128x1024_0_0).emb (ix2 r l) := by
    funext a; apply Fin.ext
    match a with
    | ⟨0, _⟩ => show r.val = 0 + 1 * r.val; omega
    | ⟨1, _⟩ => show l.val = 0 + 1 * l.val; omega
  rw [View.canon_cons_of_not_mem, e, View.canon_cons_emb]
  swap
  · rw [Rect.mem_set_unit]
    intro hc
    have : 1024 ≤ l.val := (hc 1).1
    have := l.isLt
    omega
  simp only [View.readAt_eq_ld, harg1.read_unread, harg2.read_unread, harg3.read_unread, harg11.read_unread, View.ld_unit_zero (S := S128x5120) hz, View.ld_unit_zero (S := S32x5120) hz]
  simp only [View.readCov_eq_canon']
  rw [pad_canon]
  refine congrArg (fun v => k0_pay1 (k0_pay105 (k0_pay5 x0) v) (Scalar.ofBits .f32 0x00000000#32) (k0_pay106 (k0_pay3 i)) (ix2 r l)) ?_
  funext j
  idx_vars j
  unfold convB
  pointwise [k0_pay32, k0_pay31, k0_pay30, k0_pay29, k0_pay28, k0_pay27, k0_pay26, k0_pay25, k0_pay24, k0_pay23, k0_pay22]
  split_ifs <;> first
    | rfl
    | exact congrArg (fun q : Fin 1024 => (x2 (ix2 0 q) * padB i x0 x1 (ix2 ⟨30 + j0.val, by omega⟩ q)
        + x2 (ix2 1 q) * padB i x0 x1 (ix2 ⟨31 + j0.val, by omega⟩ q)
        + x2 (ix2 2 q) * padB i x0 x1 (ix2 ⟨32 + j0.val, by omega⟩ q) : EReal)) (Fin.ext (by simp only; omega))

end Cert.Proof.MixFwd

end
-- ==== Proof.MixFwd.lean ====
/- THE SHORT CONVOLUTION'S HALF OF THE MIXER'S FORWARD CALL: the gate times the convolution, each block of 128 rows (`MixFwdOut`)
   read at its rows of the array; the columns kept after the call; the comparison with the reference (`algebraic`). -/
module

public import proofs.«01_k».proof.Defs
public import proofs.«01_k».proof.Proof.MixFwdOut
public import proofs.«01_k».proof.Proof.Gen.Reference7Ideal.Run

@[expose] public section

noncomputable section

namespace Cert.Proof.MixFwd

open Cert.Kernel7Ideal Cert.Kernel7Ideal.Gen Idealize.ShloMosaic Idealize.ShloMosaic.TcCoe Idealize.SL.Sem

/-! ## A block at a row and a channel -/

/-- The row of the array a block's row is. -/
def rowOf (i : grid0.Coords) (r : Nat) : Nat := (i 0).val * 128 + r

theorem mask_dec : ∀ a : Fin 33, ∀ r : Fin 128,
    IntOp.cmpi .sge (IntOp.addi (Scalar.muli (BitVec.ofNat 32 a.val) 128#32) (BitVec.ofNat 32 r.val)) 112#32
      = if 112 ≤ a.val * 128 + r.val then 1#1 else 0#1 := by decide +kernel

theorem mask_eq (i : grid0.Coords) (r : Fin 128) :
    IntOp.cmpi .sge (IntOp.addi (Scalar.muli (BitVec.ofNat 32 (i 0).val) 128#32) (BitVec.ofNat 32 r.val)) 112#32
      = if 112 ≤ rowOf i r.val then 1#1 else 0#1 := mask_dec (i 0) r

theorem select_ite {α : Type} (p : Prop) [Decidable p] (a b : α) :
    Scalar.select (if p then 1#1 else 0#1) a b = if p then a else b := by
  by_cases h : p <;> simp [Scalar.select, h]

/-- The mask of the 32 rows before a block: not below row 112, and none at the first point. -/
theorem halo_dec : ∀ a : Fin 33, ∀ r : Fin 32,
    IntOp.andi (IntOp.cmpi .sge (IntOp.addi (Scalar.subi (Scalar.muli (BitVec.ofNat 32 a.val) 128#32) 32#32)
        (BitVec.ofNat 32 r.val)) 112#32) (Scalar.cmpi .sgt (BitVec.ofNat 32 a.val) 0#32)
      = if 112 + 32 ≤ a.val * 128 + r.val then 1#1 else 0#1 := by decide +kernel

section Block

variable (i : grid0.Coords) (x0 : Vec Ideal S128x5120 .f32) (x1 : Vec Ideal S32x5120 .f32) (w : Vec Ideal S3x1024 .f32) (r : Fin 128) (l : Fin 1024)

theorem own_apply : k0_pay12 (k0_pay11 i x0) (ix2 r l)
    = if 112 ≤ rowOf i r.val then
        (x0 (ix2 r ⟨1024 + l.val, by omega⟩) * x0 (ix2 r ⟨2048 + l.val, by omega⟩) : EReal) else 0 := by
  pointwise [k0_pay12, k0_pay11, k0_pay3]
  rw [mask_eq, select_ite]

theorem halo_apply (r : Fin 32) : k0_pay10 i x1 (ix2 r l)
    = if 112 + 32 ≤ rowOf i r.val then
        (x1 (ix2 r ⟨1024 + l.val, by omega⟩) * x1 (ix2 r ⟨2048 + l.val, by omega⟩) : EReal) else 0 := by
  pointwise [k0_pay10, k0_pay4]
  rw [show _ = _ from halo_dec (i 0) r, select_ite]
  rfl

theorem y_apply : yB i x0 x1 w (ix2 r l)
    = if 112 ≤ rowOf i r.val then (x0 (ix2 r ⟨l.val, by omega⟩) * convB i x0 x1 w (ix2 r l) : EReal) else 0 := by
  unfold yB
  pointwise [k0_pay1, k0_pay105, k0_pay106, k0_pay5, k0_pay3]
  rw [mask_eq, select_ite]

end Block

/-! ## The result, at a row and a channel -/

section Result

variable (U : Vec Ideal S4224x5120 .f32) (W : Vec Ideal S3x1024 .f32) (R : Fin 4224) (l : Fin 1024)

/-- The product the short convolution runs over, two rows late, zero before row 112. -/
def gated (n : Nat) : EReal := if h : 114 ≤ n ∧ n < 4226 then
  (U (ix2 ⟨n - 2, by omega⟩ ⟨1024 + l.val, by omega⟩) * U (ix2 ⟨n - 2, by omega⟩ ⟨2048 + l.val, by omega⟩) : EReal) else 0
/-- The short convolution. -/
def convA : EReal :=
  (W (ix2 0 l) * gated U l R.val + W (ix2 1 l) * gated U l (R.val + 1) + W (ix2 2 l) * gated U l (R.val + 2) : EReal)
/-- The gate times it, zero before row 112. -/
def yA : EReal := if 112 ≤ R.val then (U (ix2 R ⟨l.val, by omega⟩) * convA U W R l : EReal) else 0
/-- The whole result. -/
def yG : FVec Ideal S4224x1024 .bf16 := fun j => yA U W (j 0) (j 1)

end Result

/-! ## The blocks' places -/

theorem coord0 : ∀ t : Fin cfg0.N, (grid0.coords t 0).val = t.val := (by decide +kernel : ∀ t : Fin grid0.N, _)

theorem rowOf_eq (t : Fin cfg0.N) (r : Nat) : rowOf (grid0.coords t) r = t.val * 128 + r := by
  unfold rowOf; rw [coord0]

theorem lt_rows (t : Fin cfg0.N) (r : Fin 128) : t.val * 128 + r.val < 4224 := by
  have := t.isLt; have : cfg0.N = 33 := rfl; have := r.isLt; omega

/-- The array's row that is row `r` of block `t`. -/
def row (t : Fin cfg0.N) (r : Fin 128) : Fin 4224 := ⟨t.val * 128 + r.val, lt_rows t r⟩

theorem idx0 : ∀ t : Fin cfg0.N, win0_0.index t (0 : Fin 2) = t.val ∧ win0_0.index t (1 : Fin 2) = 0 :=
  (by decide +kernel : ∀ t : Fin grid0.N, _)
theorem emb0 (t : Fin cfg0.N) (r : Fin 128) (k : Fin 5120) : ((cfg0.win 0).blk t).view.emb (ix2 r k) = ix2 (row t r) k := by
  obtain ⟨e0, e1⟩ := idx0 t
  funext a; apply Fin.ext
  match a with
  | ⟨0, _⟩ => show win0_0.index t (0 : Fin 2) * 128 + 1 * r.val = t.val * 128 + r.val; omega
  | ⟨1, _⟩ => show win0_0.index t (1 : Fin 2) * 5120 + 1 * k.val = k.val; omega

theorem idx1 : ∀ t : Fin cfg0.N, win0_1.index t (0 : Fin 2) = t.val * 4 - 1 ∧ win0_1.index t (1 : Fin 2) = 0 :=
  (by decide +kernel : ∀ t : Fin grid0.N, _)
theorem emb1 (t : Fin cfg0.N) (r : Fin 32) (k : Fin 5120) : ((cfg0.win 1).blk t).view.emb (ix2 r k) = ix2 ⟨(t.val * 4 - 1) * 32 + r.val, by have := t.isLt; have : cfg0.N = 33 := rfl; have := r.isLt; omega⟩ k := by
  obtain ⟨e0, e1⟩ := idx1 t
  funext a; apply Fin.ext
  match a with
  | ⟨0, _⟩ => show win0_1.index t (0 : Fin 2) * 32 + 1 * r.val = (t.val * 4 - 1) * 32 + r.val; omega
  | ⟨1, _⟩ => show win0_1.index t (1 : Fin 2) * 5120 + 1 * k.val = k.val; omega

theorem idx2 : ∀ t : Fin cfg0.N, win0_2.index t (0 : Fin 2) = 0 ∧ win0_2.index t (1 : Fin 2) = 0 :=
  (by decide +kernel : ∀ t : Fin grid0.N, _)
theorem emb2 (t : Fin cfg0.N) (r : Fin 3) (k : Fin 1024) : ((cfg0.win 2).blk t).view.emb (ix2 r k) = ix2 r k := by
  obtain ⟨e0, e1⟩ := idx2 t
  funext a; apply Fin.ext
  match a with
  | ⟨0, _⟩ => show win0_2.index t (0 : Fin 2) * 3 + 1 * r.val = r.val; omega
  | ⟨1, _⟩ => show win0_2.index t (1 : Fin 2) * 1024 + 1 * k.val = k.val; omega

theorem idx7 : ∀ t : Fin cfg0.N, win0_7.index t (0 : Fin 2) = t.val ∧ win0_7.index t (1 : Fin 2) = 0 :=
  (by decide +kernel : ∀ t : Fin grid0.N, _)
theorem emb7 (t : Fin cfg0.N) (r : Fin 128) (k : Fin 2048) : ((cfg0.win 7).blk t).view.emb (ix2 r k) = ix2 (row t r) k := by
  obtain ⟨e0, e1⟩ := idx7 t
  funext a; apply Fin.ext
  match a with
  | ⟨0, _⟩ => show win0_7.index t (0 : Fin 2) * 128 + 1 * r.val = t.val * 128 + r.val; omega
  | ⟨1, _⟩ => show win0_7.index t (1 : Fin 2) * 2048 + 1 * k.val = k.val; omega

variable (m : (ℓ : Loc nD τ sig) → Buf (Elt Ideal) ℓ) (ρ : Dev nD → PrngReg) (c : Dev nD) (t : Fin cfg0.N)

theorem blk0 (r : Fin 128) (k : Fin 5120) : (iblk m c 0 t : Vec Ideal S128x5120 .f32) (ix2 r k) = V m c main_arg0 (ix2 (row t r) k) := by
  show V m c main_arg0 (((cfg0.win 0).blk t).view.emb (ix2 r k)) = _
  rw [emb0]
theorem blk1 (r : Fin 32) (k : Fin 5120) : (iblk m c 1 t : Vec Ideal S32x5120 .f32) (ix2 r k) = V m c main_arg0
    (ix2 ⟨(t.val * 4 - 1) * 32 + r.val, by have := t.isLt; have : cfg0.N = 33 := rfl; have := r.isLt; omega⟩ k) := by
  show V m c main_arg0 (((cfg0.win 1).blk t).view.emb (ix2 r k)) = _
  rw [emb1]
theorem blk2 (r : Fin 3) (k : Fin 1024) : (iblk m c 2 t : Vec Ideal S3x1024 .f32) (ix2 r k) = V m c main_arg1 (ix2 r k) := by
  show V m c main_arg1 (((cfg0.win 2).blk t).view.emb (ix2 r k)) = _
  rw [emb2]
/-- The scratch buffer's row `q`, from row 30 on, is the product two rows late. -/
theorem pad_blk (q : Fin 160) (l : Fin 1024) (n : Nat) (hn : n + 30 = t.val * 128 + q.val) :
    padB (grid0.coords t) (iblk m c 0 t) (iblk m c 1 t) (ix2 q l) = gated (V m c main_arg0) l n := by
  have ht := t.isLt; have hN : cfg0.N = 33 := rfl; have hq := q.isLt
  unfold padB gated
  by_cases h : q.val < 32
  · rw [dif_pos (show ((ix2 q l : S160x1024.Idx) 0).val < 32 from h)]
    refine (halo_apply (grid0.coords t) (iblk m c 1 t) l ⟨q.val, h⟩).trans ?_
    rw [blk1, blk1]
    simp only [rowOf_eq]
    by_cases h2 : 112 + 32 ≤ t.val * 128 + q.val
    · rw [if_pos h2, dif_pos (by omega)]
      have e : (t.val * 4 - 1) * 32 + q.val = n - 2 := by omega
      simp only [e]
    · rw [if_neg h2, dif_neg (by omega)]
  · rw [dif_neg (show ¬((ix2 q l : S160x1024.Idx) 0).val < 32 from h)]
    refine (own_apply (grid0.coords t) (iblk m c 0 t) ⟨q.val - 32, by omega⟩ l).trans ?_
    rw [blk0, blk0]
    simp only [rowOf_eq]
    have e : row t ⟨q.val - 32, by omega⟩ = ⟨n - 2, by omega⟩ := Fin.ext (by show t.val * 128 + (q.val - 32) = n - 2; omega)
    by_cases h2 : 112 ≤ t.val * 128 + (q.val - 32)
    · rw [if_pos h2, dif_pos (by omega), e]
    · rw [if_neg h2, dif_neg (by omega)]

theorem y_blk (r : Fin 128) (l : Fin 1024) :
    yB (grid0.coords t) (iblk m c 0 t) (iblk m c 1 t) (iblk m c 2 t) (ix2 r l)
      = yG (V m c main_arg0) (V m c main_arg1) (ix2 (row t r) l) := by
  rw [y_apply, blk0]
  show _ = yA (V m c main_arg0) (V m c main_arg1) (row t r) l
  unfold yA
  have e : convB (grid0.coords t) (iblk m c 0 t) (iblk m c 1 t) (iblk m c 2 t) (ix2 r l)
      = convA (V m c main_arg0) (V m c main_arg1) (row t r) l := by
    have hr : (row t r).val = t.val * 128 + r.val := rfl
    have h0 := pad_blk m c t ⟨30 + r.val, by omega⟩ l (row t r).val (by show _ = t.val * 128 + (30 + r.val); omega)
    have h1 := pad_blk m c t ⟨31 + r.val, by omega⟩ l ((row t r).val + 1) (by show _ = t.val * 128 + (31 + r.val); omega)
    have h2 := pad_blk m c t ⟨32 + r.val, by omega⟩ l ((row t r).val + 2) (by show _ = t.val * 128 + (32 + r.val); omega)
    unfold convA
    rw [← h0, ← h1, ← h2, ← blk2 m c t, ← blk2 m c t, ← blk2 m c t]
    rfl
  rw [e, rowOf_eq]
  rfl

/-! ## The whole result -/

theorem lt_pts (j : Fin 4224) : j.val / 128 < cfg0.N := by show _ < 33; omega

/-- The array after the run: at each element what its block's point leaves. -/
def outG : FVec Ideal S4224x2048 .bf16 := fun j => (outsAt0 m c ⟨(j 0).val / 128, lt_pts (j 0)⟩).1 (ix2 ⟨(j 0).val % 128, by omega⟩ (j 1))

theorem flushed7_eq : (dats m 0 c).flushed 7 t = ((cfg0.win 7).blk t).view.read (Elt Ideal) (outG m c) := by
  show (cfg0.win 7).cut (grid0.coords t) ((dats m 0 c).after 7 t) = _
  rw [after0_7]
  refine funext fun (j : S128x2048.Idx) => ?_
  show (outsAt0 m c t).1 j = outG m c (((cfg0.win 7).blk t).view.emb j)
  idx_vars j
  rw [emb7]
  exact (congrArg₂ (fun a b => (outsAt0 m c a).1 (ix2 b j1)) (Fin.ext (by show (t.val * 128 + j0.val) / 128 = t.val; omega) : (⟨(row t j0).val / 128, lt_pts _⟩ : Fin cfg0.N) = t)
    (Fin.ext (by show (t.val * 128 + j0.val) % 128 = j0.val; omega) : (⟨(row t j0).val % 128, by omega⟩ : Fin 128) = j0)).symm

theorem row_eq (i0 : Fin 4224) : row ⟨_, lt_pts i0⟩ ⟨i0.val % 128, by omega⟩ = i0 :=
  Fin.ext (by show i0.val / 128 * 128 + i0.val % 128 = i0.val; omega)

theorem covered7 (i : S4224x2048.Idx) :
    ∃ t : Fin cfg0.N, (cfg0.win 7).flush t = true ∧ i ∈ ((cfg0.win 7).blk t).view.set := by
  idx_vars i
  refine ⟨⟨_, lt_pts i0⟩, flush0_7 _, ?_⟩
  have h := ((cfg0.win 7).blk ⟨_, lt_pts i0⟩).view.emb_mem_set (ix2 ⟨i0.val % 128, by omega⟩ i1)
  have e : ((cfg0.win 7).blk ⟨_, lt_pts i0⟩).view.emb (ix2 ⟨i0.val % 128, by omega⟩ i1) = ix2 i0 i1 := by
    rw [emb7, row_eq]
  rw [e] at h
  exact h

theorem final7 : (dats m 0 c).arrAt 7 cfg0.N = outG m c :=
  (dats m 0 c).arrAt_eq_of_cover 7 (outG m c) (fun t _ => flushed7_eq m c t) covered7

/-- The first 1024 columns of an array, which is the shape of the result. -/
def cutY (A : FVec Ideal S4224x2048 .bf16) : FVec Ideal S4224x1024 .bf16 :=
  extractStridedSlice S4224x1024 ![0, 0] A slices_S4224x2048_S4224x1024_0_0

theorem cutY_at (A : FVec Ideal S4224x2048 .bf16) (i0 : Fin 4224) (i1 : Fin 1024) :
    cutY A (ix2 i0 i1) = A (ix2 i0 ⟨i1.val, lt_of_lt_of_le i1.isLt (by decide)⟩) := by
  unfold cutY
  pointwise []

theorem outs_left (r : Fin 128) (l : Fin 1024) : (outsAt0 m c t).1 (ix2 r ⟨l.val, lt_of_lt_of_le l.isLt (by decide)⟩)
    = yB (grid0.coords t) (iblk m c 0 t) (iblk m c 1 t) (iblk m c 2 t) (ix2 r l) := by
  unfold outsAt0
  dsimp only
  exact out0_A_7_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) r l

/-- The columns kept after the call. -/
theorem kept7 : cutY (outG m c) = yG (m ((c : Thread nD τ).loc main_arg0)) (m ((c : Thread nD τ).loc main_arg1)) := by
  rw [← V_main_arg0 m c, ← V_main_arg1 m c]
  refine funext fun (i : S4224x1024.Idx) => ?_
  idx_vars i
  refine (cutY_at _ i0 i1).trans ?_
  have h := y_blk m c ⟨_, lt_pts i0⟩ ⟨i0.val % 128, by omega⟩ i1
  rw [row_eq] at h
  refine Eq.trans ?_ h
  exact outs_left m c ⟨_, lt_pts i0⟩ ⟨i0.val % 128, by omega⟩ i1

/-- The result as the line after the call leaves it. -/
theorem line7 (W : Valuation τ sig (Elt Ideal)) : StableHlo.after (List.flatten [hostOps1]) W (Proc.devRef .tc main_v1) = cutY (W (Proc.devRef .tc main_v0_0)) := by
  show StableHlo.after hostOps1 W (Proc.devRef .tc main_v1) = _
  unfold hostOps1
  after_results
  rfl

theorem tail7 : Pipeline.afterTail₀ cfgs (dats m) 0 (V0 m) [hostOps1] c main_v1 = cutY ((dats m 0 c).arrAt 7 cfg0.N) :=
  (line7 _).trans (congrArg cutY ((dats m 0 c).withArrays_arrAt sharedIn0 (V0 m c) (A_eq m c) 7))

/-- The run: the result, the arguments unchanged. -/
theorem run_blocks : θ_run defs (onTc (τ := τ) (main (F := Ideal))) ⟨m, fun _ => 0, ρ⟩ fun r => ∀ c : Dev nD,
      r.2.mem ((c.tc : Thread nD τ).loc main_v1) = yG (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).2 main_v1 (by decide : main_v1 ∈ Pipeline.restRefs sig spec0)).trans
      ((tail7 m c).trans ((congrArg cutY (final7 m c)).trans (kept7 m c))), h.2 c⟩)
    (θ_run_and (run_main m ρ) (unchanged m ρ))

/-! ## The reference -/

theorem sitofp_zero : (FloatOps.sitofp (F := Ideal) .f32 (0#32 : BitVec 32) : EReal) = 0 := by
  show (((0#32 : BitVec 32).toInt : ℝ) : EReal) = 0
  simp

theorem pad_apply (l : Fin 1024) (x : FVec Ideal Cert.Reference7Ideal.S4112x1024 .f32) (h : Cert.Reference7Ideal.S4112x1024.Pads ![112, 0] ![0, 0] ![0, 0] S4224x1024)
    (h0 : 0 < Cert.Reference7Ideal.S_.numel) (R : Fin 4224) :
    (pad S4224x1024 ![112, 0] ![0, 0] ![0, 0] x (sitofp .f32 (constantI Cert.Reference7Ideal.S_ 32 0#32)) h h0 : FVec Ideal S4224x1024 .f32) (ix2 R l)
      = if h : 112 ≤ R.val then (x (ix2 ⟨R.val - 112, by omega⟩ l) : EReal) else 0 := by
  pointwise []
  rw [sitofp_zero]
  by_cases hR : 112 ≤ R.val
  · rw [dif_pos hR, dif_pos (by omega)]
  · rw [dif_neg hR, dif_neg (by omega)]

theorem gated_dite (U : FVec Ideal S4224x5120 .f32) (l : Fin 1024) (n : Nat) (p : Prop) [Decidable p]
    (hp : p ↔ 114 ≤ n ∧ n < 4226) (a : p → Fin 4224) (ha : ∀ h, (a h).val = n - 2) :
    (if h : p then (U (ix2 (a h) ⟨1024 + l.val, by omega⟩) * U (ix2 (a h) ⟨2048 + l.val, by omega⟩) : EReal)
      else FloatOps.sitofp (F := Ideal) .f32 (0#32 : BitVec 32)) = gated U l n := by
  unfold gated
  by_cases h : p
  · have e : a h = ⟨n - 2, by have := hp.mp h; omega⟩ := Fin.ext (ha h)
    rw [dif_pos h, dif_pos (hp.mp h), e]
  · rw [dif_neg h, dif_neg (fun hn => h (hp.mpr hn)), sitofp_zero]

theorem ref_run (m' : (ℓ : Loc Cert.Reference7Ideal.nD Cert.Reference7Ideal.τ Cert.Reference7Ideal.sig) → Buf (Elt Ideal) ℓ) (g' : Dev Cert.Reference7Ideal.nD → PrngReg) :
    θ_run Cert.Reference7Ideal.defs (onTc (τ := Cert.Reference7Ideal.τ) (Cert.Reference7Ideal.main (F := Ideal))) ⟨m', fun _ => 0, g'⟩ fun r => ∀ c : Dev Cert.Reference7Ideal.nD,
      r.2.mem ((c.tc : Thread Cert.Reference7Ideal.nD Cert.Reference7Ideal.τ).loc Cert.Reference7Ideal.main_v22)
        = yG (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
      ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5) := by
  refine (θ_run Cert.Reference7Ideal.defs _ _).mono (fun r h c => ⟨(h c).1.trans ?_, (h c).2⟩) (Cert.Reference7Ideal.Value.run m' g')
  generalize (m' ((c.tc : Thread Cert.Reference7Ideal.nD Cert.Reference7Ideal.τ).loc Cert.Reference7Ideal.main_arg0) : FVec Ideal S4224x5120 .f32) = U
  generalize (m' ((c.tc : Thread Cert.Reference7Ideal.nD Cert.Reference7Ideal.τ).loc Cert.Reference7Ideal.main_arg1) : FVec Ideal S3x1024 .f32) = W
  refine funext fun (j : S4224x1024.Idx) => ?_
  idx_vars j
  refine Eq.trans (α := EReal) (pad_apply j1 _ Cert.Reference7Ideal.Gen.pads_S4112x1024_S4224x1024_11200_000 Cert.Reference7Ideal.Gen.h_S_ j0) ?_
  show _ = yA U W j0 j1
  unfold yA
  by_cases h : 112 ≤ j0.val
  · rw [dif_pos h, if_pos h]
    pointwise []
    have e : ∀ hk, (⟨112 + (j0.val - 112), hk⟩ : Fin 4224) = j0 := fun hk => Fin.ext (by show 112 + (j0.val - 112) = j0.val; omega)
    unfold convA
    refine congrArg₂ (fun x y : EReal => x * y) (by rw [e]) ?_
    refine congrArg₂ (fun x y : EReal => x + y) (congrArg₂ (fun x y : EReal => x + y) ?_ ?_) ?_
    · exact congrArg₂ (fun x y : EReal => x * y) rfl
        (gated_dite (U) j1 j0.val _ (by omega) (fun hh => ⟨112 + (j0.val - 112 - 2), by omega⟩) (fun hh => by show 112 + (j0.val - 112 - 2) = _; omega))
    · exact congrArg₂ (fun x y : EReal => x * y) rfl
        (gated_dite (U) j1 (j0.val + 1) _ (by omega) (fun hh => ⟨112 + (1 + (j0.val - 112) - 2), by omega⟩) (fun hh => by show 112 + (1 + (j0.val - 112) - 2) = _; omega))
    · exact congrArg₂ (fun x y : EReal => x * y) rfl
        (gated_dite (U) j1 (j0.val + 2) _ (by omega) (fun hh => ⟨112 + (j0.val - 112), by omega⟩) (fun hh => by show 112 + (j0.val - 112) = _; omega))
  · rw [dif_neg h, if_neg h]

/-- The kernel and the reference end with equal results. -/
theorem algebraic : Cert.algebraic_Kernel7Ideal_Reference7Ideal := fun m g m' g' _ hm =>
  ⟨fun c => yG (m ((c : Thread nD τ).loc main_arg0)) (m ((c : Thread nD τ).loc main_arg1)), run_blocks m g,
    (θ_run Cert.Reference7Ideal.defs _ _).mono (fun r h c => ⟨(h c).1.trans (by rw [(hm c).1, (hm c).2.1]), (h c).2⟩) (ref_run m' g')⟩

/-- The reference runs, its arguments unchanged, its counters at zero. -/
theorem frameR : Cert.quiescent_Reference7Ideal := fun m g _ =>
  (θ_run Cert.Reference7Ideal.defs _ _).mono (fun r h => ⟨fun c => (h c).2,
      Idealize.ShloMosaic.sem_eq_zero_of_no_sems (by decide) r.2⟩)
    (Cert.Reference7Ideal.Value.run (F := Ideal) m g)

end Cert.Proof.MixFwd

end
-- ==== Proof.WgradOut.lean ====
/- THE WEIGHT GRADIENT OF THE MIXER'S OUTPUT PROJECTION, block by block: each grid point takes one run of 1024 columns of the
   left matrix and one run of 1024 columns of the gradient, and writes their product over all 4224 rows.  Here: what a
   point writes at an index (`out_eq`, `part_apply`), the places of its blocks in the arrays (`emb0` to `emb2`), and so
   the whole result as the reference's transposed product (`final2`, `algebraic`). -/
module

public import proofs.«01_k».proof.Defs
public import proofs.«01_k».proof.Proof.Gen.Kernel8Ideal.Value
public import proofs.«01_k».proof.Proof.Gen.Reference8Ideal.Run
public import Idealize.ShloMosaic.Lib.Pointwise

@[expose] public section

noncomputable section

namespace Cert.Proof.WgradOut

open Cert.Kernel8Ideal Cert.Kernel8Ideal.Gen Cert.Kernel8Ideal.Value Idealize.ShloMosaic Idealize.ShloMosaic.TcCoe Idealize.SL.Sem

theorem hz2 : (![0, 0] : Fin 2 → Nat) = fun _ => 0 := funext fun a => by fin_cases a <;> rfl
theorem hz4 : (![0, 0, 0, 0] : Fin 4 → Nat) = fun _ => 0 := funext fun a => by fin_cases a <;> rfl

/-- What a point leaves in the output's staging buffer: the product of its two blocks, in the output block's shape. -/
theorem out_eq (c : Dev nD) (i : grid0.Coords) (arg3 : Memref sig .tc .vmem S4224x1024 .bf16) (h3 : arg3.IsWhole)
    (arg4 : Memref sig .tc .vmem S4224x1024 .bf16) (h4 : arg4.IsWhole)
    (arg5 : Memref sig .tc .vmem S2x2x256x1024 .f32) (h5 : arg5.IsWhole) (hc0 : cond0_0 i) (hc1 : ¬cond0_1 i)
    (x0 : Vec Ideal S4224x1024 .bf16) (x1 : Vec Ideal S4224x1024 .bf16) :
    out0_A_2 c i arg3 h3 arg4 h4 arg5 h5 hc0 hc1 x0 x1 = k0_pay2 x0 x1 := by
  unfold out0_A_2
  rw [View.read_writes_eq_canon _ _ _ (cover0_A_2 c i arg3 h3 arg4 h4 arg5 h5 hc0 hc1 x0 x1)]
  unfold kernelRun0_A
  dsimp only
  sl_unfold_words
  rw [View.canon_unit_zero hz4]
  simp only [View.readAt_eq_ld, h3.read_unread, h4.read_unread, View.ld_unit_zero (S := S4224x1024) hz2,
    View.ld_unit_zero (S := S4224x1024) hz2]

/-- A result element of a point: the sum over the rows of the products of a column of each block. -/
theorem part_apply (x0 : Vec Ideal S4224x1024 .bf16) (x1 : Vec Ideal S4224x1024 .bf16) (j0 : Fin 2) (j1 : Fin 2) (j2 : Fin 256) (j3 : Fin 1024) :
    k0_pay2 x0 x1 (ix4 j0 j1 j2 j3) = ∑ k : Fin 4224, (x0 (ix2 k ⟨j0.val * 512 + j1.val * 256 + j2.val, by have := j0.isLt; have := j1.isLt; have := j2.isLt; omega⟩) * x1 (ix2 k j3) : EReal) := by
  pointwise [k0_pay2, k0_pay1]

/-- The whole result: the transposed product, its rows cut in eight runs of 256. -/
def G (n : FVec Ideal S4224x2048 .bf16) (d : FVec Ideal S4224x2048 .bf16) : FVec Ideal S4x2x256x2048 .f32 := fun i =>
  ∑ k : Fin 4224, (n (ix2 k ⟨(i 0).val * 512 + (i 1).val * 256 + (i 2).val, by have := (i 0).isLt; have := (i 1).isLt; have := (i 2).isLt; simp at *; omega⟩)
    * d (ix2 k (i 3)) : EReal)

theorem ref_eq (n : FVec Ideal S4224x2048 .bf16) (d : FVec Ideal S4224x2048 .bf16) :
    shapeCast Cert.Reference8Ideal.S4x2x256x2048 (transpose Cert.Reference8Ideal.S2048x2048 [1, 0]
      (Host.dotGeneral Cert.Reference8Ideal.dot_S4224x2048_S4224x2048_S2048x2048_0_0_1_1_n_n none (extf .f32 d Cert.Reference8Ideal.Gen.facts.bitsLt_bf16_f32) (extf .f32 n Cert.Reference8Ideal.Gen.facts.bitsLt_bf16_f32))
      Cert.Reference8Ideal.Gen.facts.transposes_S2048x2048_S2048x2048_1_0) Cert.Reference8Ideal.Gen.facts.shapeCasts_S2048x2048_S4x2x256x2048 = G n d := by
  funext i
  unfold G
  idx_vars i
  pointwise []
  exact Finset.sum_congr rfl fun k _ => mul_comm (G := EReal) _ _

variable (m : (ℓ : Loc nD τ sig) → Buf (Elt Ideal) ℓ) (ρ : Dev nD → PrngReg)

/-- The block indices at grid point `t`: the left matrix's run of columns is `t / 2`, the gradient's `t % 2`. -/
theorem idx0 : ∀ t : Fin cfg0.N, win0_0.index t (0 : Fin 2) = 0 ∧ win0_0.index t (1 : Fin 2) = t.val / 2 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)
theorem idx2 : ∀ t : Fin cfg0.N, win0_2.index t (0 : Fin 4) = t.val / 2 ∧ win0_2.index t (1 : Fin 4) = 0
    ∧ win0_2.index t (2 : Fin 4) = 0 ∧ win0_2.index t (3 : Fin 4) = t.val % 2 :=
  (by decide +kernel : ∀ t : Fin grid0.N, _)

theorem hN : cfg0.N = 4 := rfl

/-- The place of an element of a block in its array. -/
theorem emb0 (t : Fin cfg0.N) (k : Fin 4224) (r : Fin 1024) : ((cfg0.win 0).blk t).view.emb (ix2 k r)
    = ix2 k ⟨t.val / 2 * 1024 + r.val, by have := r.isLt; have := t.isLt; have := hN; omega⟩ := by
  obtain ⟨e0, e1⟩ := idx0 t
  funext a; apply Fin.ext
  match a with
  | ⟨0, _⟩ => show win0_0.index t (0 : Fin 2) * 4224 + 1 * k.val = k.val; omega
  | ⟨1, _⟩ => show win0_0.index t (1 : Fin 2) * 1024 + 1 * r.val = t.val / 2 * 1024 + r.val; omega

theorem emb1 (t : Fin cfg0.N) (k : Fin 4224) (l : Fin 1024) : ((cfg0.win 1).blk t).view.emb (ix2 k l)
    = ix2 k ⟨t.val % 2 * 1024 + l.val, by have := l.isLt; omega⟩ := by
  obtain ⟨e0, e1⟩ := idx1 t
  funext a; apply Fin.ext
  match a with
  | ⟨0, _⟩ => show win0_1.index t (0 : Fin 2) * 4224 + 1 * k.val = k.val; omega
  | ⟨1, _⟩ => show win0_1.index t (1 : Fin 2) * 1024 + 1 * l.val = t.val % 2 * 1024 + l.val; omega

theorem emb2 (t : Fin cfg0.N) (p : Fin 2) (q : Fin 2) (r : Fin 256) (l : Fin 1024) : ((cfg0.win 2).blk t).view.emb (ix4 p q r l)
    = ix4 ⟨t.val / 2 * 2 + p.val, by have := p.isLt; have := t.isLt; have := hN; omega⟩ q r ⟨t.val % 2 * 1024 + l.val, by have := l.isLt; omega⟩ := by
  obtain ⟨e0, e1, e2, e3⟩ := idx2 t
  funext a; apply Fin.ext
  match a with
  | ⟨0, _⟩ => show win0_2.index t (0 : Fin 4) * 2 + 1 * p.val = t.val / 2 * 2 + p.val; omega
  | ⟨1, _⟩ => show win0_2.index t (1 : Fin 4) * 2 + 1 * q.val = q.val; omega
  | ⟨2, _⟩ => show win0_2.index t (2 : Fin 4) * 256 + 1 * r.val = r.val; omega
  | ⟨3, _⟩ => show win0_2.index t (3 : Fin 4) * 1024 + 1 * l.val = t.val % 2 * 1024 + l.val; omega

/-- What a point writes back is its block of the whole result. -/
theorem flushed2_eq (c : Dev nD) (t : Fin cfg0.N) :
    (dats m 0 c).flushed 2 t = ((cfg0.win 2).blk t).view.read (Elt Ideal) (G (V m c main_arg0) (V m c main_arg1)) := by
  rw [flushed2_A, out_eq]
  funext j
  show k0_pay2 (iblk m c 0 t) (iblk m c 1 t) j = G (V m c main_arg0) (V m c main_arg1) (((cfg0.win 2).blk t).view.emb j)
  idx_vars j
  have h0 := j0.isLt
  rw [emb2]
  refine (part_apply _ _ j0 j1 j2 j3).trans ?_
  unfold G
  refine Finset.sum_congr rfl fun k _ => ?_
  refine congrArg₂ (fun a b : EReal => a * b) ?_ ?_
  · show V m c main_arg0 (((cfg0.win 0).blk t).view.emb (ix2 k _)) = _
    rw [emb0]
    exact congrArg (V m c main_arg0) (congrArg (ix2 k) (Fin.ext (by
      show t.val / 2 * 1024 + (j0.val * 512 + j1.val * 256 + j2.val) = (t.val / 2 * 2 + j0.val) * 512 + j1.val * 256 + j2.val
      omega)))
  · show V m c main_arg1 (((cfg0.win 1).blk t).view.emb (ix2 k j3)) = _
    rw [emb1]
    rfl

/-- Every element of the result is in some point's block. -/
theorem covered2 (i : S4x2x256x2048.Idx) :
    ∃ t : Fin cfg0.N, (cfg0.win 2).flush t = true ∧ i ∈ ((cfg0.win 2).blk t).view.set := by
  idx_vars i
  have hi0 := i0.isLt; have hi3 := i3.isLt
  have hN : i0.val / 2 * 2 + i3.val / 1024 < cfg0.N := by show _ < 4; omega
  refine ⟨⟨_, hN⟩, flush0_2 _, ?_⟩
  have h := ((cfg0.win 2).blk ⟨_, hN⟩).view.emb_mem_set (ix4 ⟨i0.val % 2, by omega⟩ i1 i2 ⟨i3.val % 1024, by omega⟩)
  have e : ((cfg0.win 2).blk ⟨_, hN⟩).view.emb (ix4 ⟨i0.val % 2, by omega⟩ i1 i2 ⟨i3.val % 1024, by omega⟩) = ix4 i0 i1 i2 i3 := by
    rw [emb2]
    funext a; apply Fin.ext
    match a with
    | ⟨0, _⟩ => show (i0.val / 2 * 2 + i3.val / 1024) / 2 * 2 + i0.val % 2 = i0.val; omega
    | ⟨1, _⟩ => rfl
    | ⟨2, _⟩ => rfl
    | ⟨3, _⟩ => show (i0.val / 2 * 2 + i3.val / 1024) % 2 * 1024 + i3.val % 1024 = i3.val; omega
  rw [e] at h
  exact h

/-- The result array after the run. -/
theorem final2 (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed2_eq m c t) covered2).trans
    (by rw [V_main_arg0, V_main_arg1])

/-- The kernel and the reference end with equal results. -/
theorem algebraic : Cert.algebraic_Kernel8Ideal_Reference8Ideal := fun m g m' g' _ hm =>
  ⟨fun c => G (m ((c : Thread nD τ).loc main_arg0)) (m ((c : Thread nD τ).loc main_arg1)),
    (θ_run defs _ _).mono (fun r h c => ⟨(h c).1.trans (final2 m c), (h c).2⟩) (run_blocks m g),
    (θ_run Cert.Reference8Ideal.defs _ _).mono (fun r h c => ⟨(h c).1.trans
      ((ref_eq _ _).trans (by rw [(hm c).1, (hm c).2])), (h c).2⟩) (Cert.Reference8Ideal.Value.run m' g')⟩

/-- The reference runs, its arguments unchanged, its counters at zero. -/
theorem frameR : Cert.quiescent_Reference8Ideal := fun m g _ =>
  (θ_run Cert.Reference8Ideal.defs _ _).mono (fun r h => ⟨fun c => (h c).2,
      Idealize.ShloMosaic.sem_eq_zero_of_no_sems (by decide) r.2⟩)
    (Cert.Reference8Ideal.Value.run (F := Ideal) m g)

end Cert.Proof.WgradOut

end
-- ==== Proof.MixIn.lean ====
/- THE MIXER'S INPUT PROJECTION, block by block: each grid point takes 704 rows of the input and one column panel of the
   weights, and writes their product plus the panel's bias.  Here: a point's block at an index (`out_eq`), the places of
   the blocks (`emb0` to `emb3`), and the whole result as the reference's product (`final3`, `algebraic`). -/
module

public import proofs.«01_k».proof.Defs
public import proofs.«01_k».proof.Proof.Gen.Kernel9Ideal.Value
public import proofs.«01_k».proof.Proof.Gen.Reference9Ideal.Run
public import Idealize.ShloMosaic.Lib.Pointwise

@[expose] public section

noncomputable section

namespace Cert.Proof.MixIn

open Cert.Kernel9Ideal Cert.Kernel9Ideal.Gen Cert.Kernel9Ideal.Value Idealize.ShloMosaic Idealize.ShloMosaic.TcCoe Idealize.SL.Sem

theorem hz2 : (![0, 0] : Fin 2 → Nat) = fun _ => 0 := funext fun a => by fin_cases a <;> rfl

/-- What a point leaves in the output's staging buffer, at an index. -/
theorem out_eq (x0 : Vec Ideal S704x2048 .bf16) (x1 : Vec Ideal S1x2048x1280 .bf16) (x2 : Vec Ideal S1x1280 .f32) (r : Fin 704) (l : Fin 1280) :
    out0_3 x0 x1 x2 (ix2 r l) = ((∑ k : Fin 2048, (x0 (ix2 r k) * x1 (ix3 0 k l) : EReal)) + x2 (ix2 0 l) : EReal) := by
  unfold out0_3
  rw [View.canon_unit_zero hz2]
  pointwise [k0_pay1]

/-- The whole result: the product with the four column panels, and the bias. -/
def G (n : FVec Ideal S4224x2048 .bf16) (w : FVec Ideal S4x2048x1280 .bf16) (b : FVec Ideal S1x5120 .f32) : FVec Ideal S4224x5120 .f32 := fun i =>
  ((∑ k : Fin 2048, (n (ix2 (i 0) k) * w (ix3 ⟨(i 1).val / 1280, by have := (i 1).isLt; simp at *; omega⟩ k ⟨(i 1).val % 1280, by omega⟩) : EReal)) + b (ix2 0 (i 1)) : EReal)

/-- The reference's result is `G`. -/
theorem ref_eq (n : FVec Ideal S4224x2048 .bf16) (w : FVec Ideal S4x2048x1280 .bf16) (b : FVec Ideal S1x5120 .f32) :
    (addf (Host.dotGeneral Cert.Reference9Ideal.dot_S4224x2048_S2048x5120_S4224x5120_1_0_0_1_n_n none
      (extf .f32 n Cert.Reference9Ideal.Gen.facts.bitsLt_bf16_f32)
      (shapeCast Cert.Reference9Ideal.S2048x5120 (transpose Cert.Reference9Ideal.S2048x4x1280 [1, 0, 2] (extf .f32 w Cert.Reference9Ideal.Gen.facts.bitsLt_bf16_f32)
        Cert.Reference9Ideal.Gen.facts.transposes_S4x2048x1280_S2048x4x1280_1_0_2) Cert.Reference9Ideal.Gen.facts.shapeCasts_S2048x4x1280_S2048x5120))
      (broadcastInDim Cert.Reference9Ideal.S4224x5120 ![0, 1] Cert.Reference9Ideal.Gen.facts.bcast_S1x5120_S4224x5120_0_1 b) : FVec Ideal S4224x5120 .f32) = G n w b := by
  funext i
  idx_vars i
  unfold G
  pointwise []

variable (m : (ℓ : Loc nD τ sig) → Buf (Elt Ideal) ℓ) (ρ : Dev nD → PrngReg)

theorem hN : cfg0.N = 24 := rfl

/-- The block indices at grid point `t`, and the places of the blocks' elements. -/
theorem idx0 : ∀ t : Fin cfg0.N, win0_0.index t (0 : Fin 2) = t.val % 6 ∧ win0_0.index t (1 : Fin 2) = 0 :=
  (by decide +kernel : ∀ t : Fin grid0.N, _)

/-- The place of an element of a block in its array. -/
theorem emb0 (t : Fin cfg0.N) (r : Fin 704) (k : Fin 2048) : ((cfg0.win 0).blk t).view.emb (ix2 r k)
    = ix2 ⟨t.val % 6 * 704 + r.val, by have := r.isLt; have := t.isLt; have := hN; omega⟩ k := by
  obtain ⟨e0, e1⟩ := idx0 t
  funext a; apply Fin.ext
  match a with
  | ⟨0, _⟩ => show win0_0.index t (0 : Fin 2) * 704 + 1 * r.val = t.val % 6 * 704 + r.val; omega
  | ⟨1, _⟩ => show win0_0.index t (1 : Fin 2) * 2048 + 1 * k.val = k.val; omega

theorem idx1 : ∀ t : Fin cfg0.N, win0_1.index t (0 : Fin 3) = t.val / 6 ∧ win0_1.index t (1 : Fin 3) = 0 ∧ win0_1.index t (2 : Fin 3) = 0 :=
  (by decide +kernel : ∀ t : Fin grid0.N, _)

/-- The place of an element of a block in its array. -/
theorem emb1 (t : Fin cfg0.N) (k : Fin 2048) (l : Fin 1280) : ((cfg0.win 1).blk t).view.emb (ix3 0 k l)
    = ix3 ⟨t.val / 6, by have := t.isLt; have := hN; omega⟩ k l := by
  obtain ⟨e0, e1, e2⟩ := idx1 t
  funext a; apply Fin.ext
  match a with
  | ⟨0, _⟩ => show win0_1.index t (0 : Fin 3) * 1 + 1 * 0 = t.val / 6; omega
  | ⟨1, _⟩ => show win0_1.index t (1 : Fin 3) * 2048 + 1 * k.val = k.val; omega
  | ⟨2, _⟩ => show win0_1.index t (2 : Fin 3) * 1280 + 1 * l.val = l.val; omega

theorem idx2 : ∀ t : Fin cfg0.N, win0_2.index t (0 : Fin 2) = 0 ∧ win0_2.index t (1 : Fin 2) = t.val / 6 :=
  (by decide +kernel : ∀ t : Fin grid0.N, _)

/-- The place of an element of a block in its array. -/
theorem emb2 (t : Fin cfg0.N) (l : Fin 1280) : ((cfg0.win 2).blk t).view.emb (ix2 0 l)
    = ix2 0 ⟨t.val / 6 * 1280 + l.val, by have := l.isLt; have := t.isLt; have := hN; omega⟩ := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 1280 + 1 * l.val = t.val / 6 * 1280 + l.val; omega

theorem idx3 : ∀ t : Fin cfg0.N, win0_3.index t (0 : Fin 2) = t.val % 6 ∧ win0_3.index t (1 : Fin 2) = t.val / 6 :=
  (by decide +kernel : ∀ t : Fin grid0.N, _)

/-- The place of an element of a block in its array. -/
theorem emb3 (t : Fin cfg0.N) (r : Fin 704) (l : Fin 1280) : ((cfg0.win 3).blk t).view.emb (ix2 r l)
    = ix2 ⟨t.val % 6 * 704 + r.val, by have := r.isLt; have := t.isLt; have := hN; omega⟩ ⟨t.val / 6 * 1280 + l.val, by have := l.isLt; have := t.isLt; have := hN; omega⟩ := by
  obtain ⟨e0, e1⟩ := idx3 t
  funext a; apply Fin.ext
  match a with
  | ⟨0, _⟩ => show win0_3.index t (0 : Fin 2) * 704 + 1 * r.val = t.val % 6 * 704 + r.val; omega
  | ⟨1, _⟩ => show win0_3.index t (1 : Fin 2) * 1280 + 1 * l.val = t.val / 6 * 1280 + l.val; omega

/-- What a point writes back is its block of the whole result. -/
theorem flushed3_eq (c : Dev nD) (t : Fin cfg0.N) :
    (dats m 0 c).flushed 3 t = ((cfg0.win 3).blk t).view.read (Elt Ideal) (G (V m c main_arg0) (V m c main_arg1) (V m c main_arg2)) := by
  rw [flushed3]
  funext j
  show out0_3 (iblk m c 0 t) (iblk m c 1 t) (iblk m c 2 t) j
    = G (V m c main_arg0) (V m c main_arg1) (V m c main_arg2) (((cfg0.win 3).blk t).view.emb j)
  idx_vars j
  have h1 := j1.isLt
  rw [emb3]
  refine (out_eq _ _ _ j0 j1).trans ?_
  unfold G
  refine congrArg₂ (fun a b : EReal => a + b) (Finset.sum_congr rfl fun k _ => congrArg₂ (fun a b : EReal => a * b) ?_ ?_) ?_
  · show V m c main_arg0 (((cfg0.win 0).blk t).view.emb (ix2 j0 k)) = _
    rw [emb0]
    rfl
  · show V m c main_arg1 (((cfg0.win 1).blk t).view.emb (ix3 0 k j1)) = _
    rw [emb1]
    exact congrArg (V m c main_arg1) (congrArg₂ (fun a b => ix3 a k b)
      (Fin.ext (by show t.val / 6 = (t.val / 6 * 1280 + j1.val) / 1280; omega))
      (Fin.ext (by show j1.val = (t.val / 6 * 1280 + j1.val) % 1280; omega)))
  · show V m c main_arg2 (((cfg0.win 2).blk t).view.emb (ix2 0 j1)) = _
    rw [emb2]
    rfl

/-- Every element of the result is in some point's block. -/
theorem covered3 (i : S4224x5120.Idx) :
    ∃ t : Fin cfg0.N, (cfg0.win 3).flush t = true ∧ i ∈ ((cfg0.win 3).blk t).view.set := by
  idx_vars i
  have hi0 := i0.isLt; have hi1 := i1.isLt
  have hN : i1.val / 1280 * 6 + i0.val / 704 < cfg0.N := by show _ < 24; omega
  refine ⟨⟨_, hN⟩, flush0_3 _, ?_⟩
  have h := ((cfg0.win 3).blk ⟨_, hN⟩).view.emb_mem_set (ix2 ⟨i0.val % 704, by omega⟩ ⟨i1.val % 1280, by omega⟩)
  have e : ((cfg0.win 3).blk ⟨_, hN⟩).view.emb (ix2 ⟨i0.val % 704, by omega⟩ ⟨i1.val % 1280, by omega⟩) = ix2 i0 i1 := by
    rw [emb3]
    funext a; apply Fin.ext
    match a with
    | ⟨0, _⟩ => show (i1.val / 1280 * 6 + i0.val / 704) % 6 * 704 + i0.val % 704 = i0.val; omega
    | ⟨1, _⟩ => show (i1.val / 1280 * 6 + i0.val / 704) / 6 * 1280 + i1.val % 1280 = i1.val; omega
  rw [e] at h
  exact h

/-- The result array after the run. -/
theorem final3 (c : Dev nD) : (dats m 0 c).arrAt 3 cfg0.N
    = G (m ((c : Thread nD τ).loc main_arg0)) (m ((c : Thread nD τ).loc main_arg1)) (m ((c : Thread nD τ).loc main_arg2)) :=
  ((dats m 0 c).arrAt_eq_of_cover 3 (G (V m c main_arg0) (V m c main_arg1) (V m c main_arg2)) (fun t _ => flushed3_eq m c t) covered3).trans
    (by rw [V_main_arg0, V_main_arg1, V_main_arg2])

/-- The kernel and the reference end with equal results. -/
theorem algebraic : Cert.algebraic_Kernel9Ideal_Reference9Ideal := fun m g m' g' _ hm =>
  ⟨fun c => G (m ((c : Thread nD τ).loc main_arg0)) (m ((c : Thread nD τ).loc main_arg1)) (m ((c : Thread nD τ).loc main_arg2)),
    (θ_run defs _ _).mono (fun r h c => ⟨(h c).1.trans (final3 m c), (h c).2⟩) (run_blocks m g),
    (θ_run Cert.Reference9Ideal.defs _ _).mono (fun r h c => ⟨(h c).1.trans
      ((ref_eq _ _ _).trans (by rw [(hm c).1, (hm c).2.1, (hm c).2.2])), (h c).2⟩) (Cert.Reference9Ideal.Value.run m' g')⟩

/-- The reference runs, its arguments unchanged, its counters at zero. -/
theorem frameR : Cert.quiescent_Reference9Ideal := fun m g _ =>
  (θ_run Cert.Reference9Ideal.defs _ _).mono (fun r h => ⟨fun c => (h c).2,
      Idealize.ShloMosaic.sem_eq_zero_of_no_sems (by decide) r.2⟩)
    (Cert.Reference9Ideal.Value.run (F := Ideal) m g)

end Cert.Proof.MixIn

end
-- ==== Proof.lean ====
/- THE CERTIFICATE: every claim of the statement, from the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.MixClaim
public import proofs.«01_k».proof.Proof.PanelOut
public import proofs.«01_k».proof.Proof.PanelIn
public import proofs.«01_k».proof.Proof.WgradIn
public import proofs.«01_k».proof.Proof.FfnUp
public import proofs.«01_k».proof.Proof.FfnDown
public import proofs.«01_k».proof.Proof.MixOutFwd
public import proofs.«01_k».proof.Proof.WgradUp
public import proofs.«01_k».proof.Proof.FfnOwn
public import proofs.«01_k».proof.Proof.FfnNear
public import proofs.«01_k».proof.Proof.FfnFar
public import proofs.«01_k».proof.Proof.DownOwn
public import proofs.«01_k».proof.Proof.DownFar
public import proofs.«01_k».proof.Proof.WgradFfn
public import proofs.«01_k».proof.Proof.PanelFfn
public import proofs.«01_k».proof.Proof.ActFfn
public import proofs.«01_k».proof.Proof.WgradDown
public import proofs.«01_k».proof.Proof.MixFwd
public import proofs.«01_k».proof.Proof.WgradOut
public import proofs.«01_k».proof.Proof.MixIn
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel13.Gen.facts,
    Cert.Kernel13Ideal.Gen.facts,
    Cert.Reference13Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel25.Gen.facts,
    Cert.Kernel25Ideal.Gen.facts,
    Cert.Reference25Ideal.Gen.facts,
    Cert.Kernel7.Gen.facts,
    Cert.Kernel7Ideal.Gen.facts,
    Cert.Reference7Ideal.Gen.facts,
    MixClaim.preFacts,
    ActFfn.preFacts,
  -- the frames, then the values
    fun m ρ _ => Cert.Kernel.Gen.frame m ρ,
    fun m ρ _ => Cert.KernelIdeal.Gen.frame m ρ,
    fun m ρ _ => Cert.KernelIdeal.Gen.frame m ρ,
    MixClaim.frameR,
    fun m ρ _ => MixClaim.frameR m ρ trivial,
    fun m ρ _ => Cert.Kernel2.Gen.frame m ρ,
    fun m ρ _ => Cert.Kernel2Ideal.Gen.frame m ρ,
    fun m ρ _ => Cert.Kernel3.Gen.frame m ρ,
    fun m ρ _ => Cert.Kernel3Ideal.Gen.frame m ρ,
    WgradFfn.frameR,
    fun m ρ _ => Cert.Kernel4.Gen.frame m ρ,
    fun m ρ _ => Cert.Kernel4Ideal.Gen.frame m ρ,
    PanelFfn.frameR,
    fun m ρ _ => Cert.Kernel5.Gen.frame m ρ,
    fun m ρ _ => Cert.Kernel5Ideal.Gen.frame m ρ,
    fun m ρ _ => Cert.Kernel5Ideal.Gen.frame m ρ,
    ActFfn.frameR,
    fun m ρ _ => ActFfn.frameR m ρ trivial,
    fun m ρ _ => Cert.Kernel6.Gen.frame m ρ,
    fun m ρ _ => Cert.Kernel6Ideal.Gen.frame m ρ,
    WgradDown.frameR,
    fun m ρ _ => Cert.Kernel8.Gen.frame m ρ,
    fun m ρ _ => Cert.Kernel8Ideal.Gen.frame m ρ,
    WgradOut.frameR,
    fun m ρ _ => Cert.Kernel9.Gen.frame m ρ,
    fun m ρ _ => Cert.Kernel9Ideal.Gen.frame m ρ,
    MixIn.frameR,
    fun m ρ _ => Cert.Kernel10.Gen.frame m ρ,
    fun m ρ _ => Cert.Kernel10Ideal.Gen.frame m ρ,
    PanelOut.frameR,
    fun m ρ _ => Cert.Kernel11.Gen.frame m ρ,
    fun m ρ _ => Cert.Kernel11Ideal.Gen.frame m ρ,
    PanelIn.frameR,
    fun m ρ _ => Cert.Kernel12.Gen.frame m ρ,
    fun m ρ _ => Cert.Kernel12Ideal.Gen.frame m ρ,
    WgradIn.frameR,
    fun m ρ _ => Cert.Kernel14.Gen.frame m ρ,
    fun m ρ _ => Cert.Kernel14Ideal.Gen.frame m ρ,
    FfnDown.frameR,
    fun m ρ _ => Cert.Kernel15.Gen.frame m ρ,
    fun m ρ _ => Cert.Kernel15Ideal.Gen.frame m ρ,
    MixOutFwd.frameR,
    fun m ρ _ => Cert.Kernel16.Gen.frame m ρ,
    fun m ρ _ => Cert.Kernel16Ideal.Gen.frame m ρ,
    WgradUp.frameR,
    fun m ρ _ => Cert.Kernel13.Gen.frame m ρ (FfnUp.okP m),
    fun m ρ _ => Cert.Kernel13Ideal.Gen.frame m ρ (FfnUp.okI m),
    FfnUp.frameR,
    fun m ρ _ => Cert.Kernel20.Gen.frame m ρ (FfnOwn.okP m),
    fun m ρ _ => Cert.Kernel20Ideal.Gen.frame m ρ (FfnOwn.okI m),
    FfnOwn.frameR,
    fun m ρ _ => Cert.Kernel21.Gen.frame m ρ (FfnNear.okP m),
    fun m ρ _ => Cert.Kernel21Ideal.Gen.frame m ρ (FfnNear.okI m),
    FfnNear.frameR,
    fun m ρ _ => Cert.Kernel22.Gen.frame m ρ (FfnFar.okP m),
    fun m ρ _ => Cert.Kernel22Ideal.Gen.frame m ρ (FfnFar.okI m),
    FfnFar.frameR,
    fun m ρ _ => Cert.Kernel23.Gen.frame m ρ (DownOwn.okP m),
    fun m ρ _ => Cert.Kernel23Ideal.Gen.frame m ρ (DownOwn.okI m),
    DownOwn.frameR,
    fun m ρ _ => Cert.Kernel25.Gen.frame m ρ (DownFar.okP m),
    fun m ρ _ => Cert.Kernel25Ideal.Gen.frame m ρ (DownFar.okI m),
    DownFar.frameR,
    fun m ρ _ => Cert.Kernel7.Gen.frame m ρ,
    fun m ρ _ => Cert.Kernel7Ideal.Gen.frame m ρ,
    MixFwd.frameR,
    trivial,
    MixClaim.algebraic,
    trivial,
    trivial,
    WgradFfn.algebraic,
    trivial,
    PanelFfn.algebraic,
    trivial,
    ActFfn.algebraic,
    trivial,
    WgradDown.algebraic,
    trivial,
    WgradOut.algebraic,
    trivial,
    MixIn.algebraic,
    trivial,
    PanelOut.algebraic,
    trivial,
    PanelIn.algebraic,
    trivial,
    WgradIn.algebraic,
    trivial,
    FfnDown.algebraic,
    trivial,
    MixOutFwd.algebraic,
    trivial,
    WgradUp.algebraic,
    trivial,
    FfnUp.algebraic,
    trivial,
    FfnOwn.algebraic,
    trivial,
    FfnNear.algebraic,
    trivial,
    FfnFar.algebraic,
    trivial,
    DownOwn.algebraic,
    trivial,
    DownFar.algebraic,
    trivial,
    MixFwd.algebraic⟩

end Cert.Proof

end
